-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gate_finite [hPre_gate_finite : Cert.Pre_gate_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gate_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_gate_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_gate_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_gate_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_gate_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gate_finite [hPre_gate_finite : Cert.Pre_gate_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gate_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_gate_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_gate_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_gate_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_gate_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_ffn_norm_finite [hPre_ffn_norm_finite : Cert.Pre_ffn_norm_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_ffn_norm_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).1 = (fun _ => 1#1)
    ∧ (Cert.Pre_ffn_norm_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.1 = (fun _ => 1#1)
    ∧ (Cert.Pre_ffn_norm_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.1 = (fun _ => 1#1)
    ∧ (Cert.Pre_ffn_norm_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.1 = (fun _ => 1#1)
    ∧ (Cert.Pre_ffn_norm_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.1 = (fun _ => 1#1)
    ∧ (Cert.Pre_ffn_norm_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.2.1 = (fun _ => 1#1)
    ∧ (Cert.Pre_ffn_norm_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_ffn_norm_finite [hPre_ffn_norm_finite : Cert.Pre_ffn_norm_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_ffn_norm_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).1 = (fun _ => 1#1)
    ∧ (Cert.Pre_ffn_norm_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.1 = (fun _ => 1#1)
    ∧ (Cert.Pre_ffn_norm_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.1 = (fun _ => 1#1)
    ∧ (Cert.Pre_ffn_norm_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.1 = (fun _ => 1#1)
    ∧ (Cert.Pre_ffn_norm_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.1 = (fun _ => 1#1)
    ∧ (Cert.Pre_ffn_norm_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.2.1 = (fun _ => 1#1)
    ∧ (Cert.Pre_ffn_norm_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_mix_norm_finite [hPre_mix_norm_finite : Cert.Pre_mix_norm_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_mix_norm_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).1 = (fun _ => 1#1)
    ∧ (Cert.Pre_mix_norm_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.1 = (fun _ => 1#1)
    ∧ (Cert.Pre_mix_norm_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.1 = (fun _ => 1#1)
    ∧ (Cert.Pre_mix_norm_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2.1 = (fun _ => 1#1)
    ∧ (Cert.Pre_mix_norm_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_mix_norm_finite [hPre_mix_norm_finite : Cert.Pre_mix_norm_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_mix_norm_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).1 = (fun _ => 1#1)
    ∧ (Cert.Pre_mix_norm_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.1 = (fun _ => 1#1)
    ∧ (Cert.Pre_mix_norm_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.1 = (fun _ => 1#1)
    ∧ (Cert.Pre_mix_norm_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2.1 = (fun _ => 1#1)
    ∧ (Cert.Pre_mix_norm_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_loss_finite [hPre_loss_finite : Cert.Pre_loss_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_loss_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).1 = (fun _ => 1#1)
    ∧ (Cert.Pre_loss_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.1 = (fun _ => 1#1)
    ∧ (Cert.Pre_loss_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.1 = (fun _ => 1#1)
    ∧ (Cert.Pre_loss_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2.1 = (fun _ => 1#1)
    ∧ (Cert.Pre_loss_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_loss_finite [hPre_loss_finite : Cert.Pre_loss_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_loss_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).1 = (fun _ => 1#1)
    ∧ (Cert.Pre_loss_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.1 = (fun _ => 1#1)
    ∧ (Cert.Pre_loss_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.1 = (fun _ => 1#1)
    ∧ (Cert.Pre_loss_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2.1 = (fun _ => 1#1)
    ∧ (Cert.Pre_loss_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_module_finite [hPre_module_finite : Cert.Pre_module_finite.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_module_finite.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5))).1 = (fun _ => 1#1)
    ∧ (Cert.Pre_module_finite.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5))).2.1 = (fun _ => 1#1)
    ∧ (Cert.Pre_module_finite.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5))).2.2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_module_finite [hPre_module_finite : Cert.Pre_module_finite.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_module_finite.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5))).1 = (fun _ => 1#1)
    ∧ (Cert.Pre_module_finite.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5))).2.1 = (fun _ => 1#1)
    ∧ (Cert.Pre_module_finite.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5))).2.2 = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_conv_finite [hPre_conv_finite : Cert.Pre_conv_finite.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_conv_finite.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6))).1 = (fun _ => 1#1)
    ∧ (Cert.Pre_conv_finite.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6))).2.1 = (fun _ => 1#1)
    ∧ (Cert.Pre_conv_finite.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6))).2.2.1 = (fun _ => 1#1)
    ∧ (Cert.Pre_conv_finite.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6))).2.2.2.1 = (fun _ => 1#1)
    ∧ (Cert.Pre_conv_finite.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6))).2.2.2.2.1 = (fun _ => 1#1)
    ∧ (Cert.Pre_conv_finite.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6))).2.2.2.2.2 = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_conv_finite [hPre_conv_finite : Cert.Pre_conv_finite.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_conv_finite.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6))).1 = (fun _ => 1#1)
    ∧ (Cert.Pre_conv_finite.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6))).2.1 = (fun _ => 1#1)
    ∧ (Cert.Pre_conv_finite.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6))).2.2.1 = (fun _ => 1#1)
    ∧ (Cert.Pre_conv_finite.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6))).2.2.2.1 = (fun _ => 1#1)
    ∧ (Cert.Pre_conv_finite.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6))).2.2.2.2.1 = (fun _ => 1#1)
    ∧ (Cert.Pre_conv_finite.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6))).2.2.2.2.2 = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_params_finite [hPre_params_finite : Cert.Pre_params_finite.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_params_finite.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_params_finite [hPre_params_finite : Cert.Pre_params_finite.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_params_finite.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7)) (m ((c.tc : Thread Cert.Reference11Ideal.nD Cert.Reference11Ideal.τ).loc Cert.Reference11Ideal.main_arg8))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_gate_finite [hKernelIdeal : Cert.KernelIdeal.Facts] [hPre_gate_finite : Cert.Pre_gate_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gate_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_gate_finite [hReferenceIdeal : Cert.ReferenceIdeal.Facts] [hPre_gate_finite : Cert.Pre_gate_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gate_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_ffn_norm_finite [hKernel2Ideal : Cert.Kernel2Ideal.Facts] [hPre_ffn_norm_finite : Cert.Pre_ffn_norm_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_ffn_norm_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_ffn_norm_finite [hReference2Ideal : Cert.Reference2Ideal.Facts] [hPre_ffn_norm_finite : Cert.Pre_ffn_norm_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_ffn_norm_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_mix_norm_finite [hKernel3Ideal : Cert.Kernel3Ideal.Facts] [hPre_mix_norm_finite : Cert.Pre_mix_norm_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_mix_norm_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_mix_norm_finite [hReference3Ideal : Cert.Reference3Ideal.Facts] [hPre_mix_norm_finite : Cert.Pre_mix_norm_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_mix_norm_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_loss_finite [hKernel4Ideal : Cert.Kernel4Ideal.Facts] [hPre_loss_finite : Cert.Pre_loss_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_loss_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_loss_finite [hReference4Ideal : Cert.Reference4Ideal.Facts] [hPre_loss_finite : Cert.Pre_loss_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_loss_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Kernel9Ideal_pre_module_finite [hKernel9Ideal : Cert.Kernel9Ideal.Facts] [hPre_module_finite : Cert.Pre_module_finite.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_module_finite m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Reference9Ideal_pre_module_finite [hReference9Ideal : Cert.Reference9Ideal.Facts] [hPre_module_finite : Cert.Pre_module_finite.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_module_finite m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Kernel10Ideal_pre_conv_finite [hKernel10Ideal : Cert.Kernel10Ideal.Facts] [hPre_conv_finite : Cert.Pre_conv_finite.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_conv_finite m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Reference10Ideal_pre_conv_finite [hReference10Ideal : Cert.Reference10Ideal.Facts] [hPre_conv_finite : Cert.Pre_conv_finite.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_conv_finite m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8))
      ∧ r.2.sem = fun _ => 0)

def quiescent_Kernel11Ideal_pre_params_finite [hKernel11Ideal : Cert.Kernel11Ideal.Facts] [hPre_params_finite : Cert.Pre_params_finite.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_params_finite m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8))
      ∧ r.2.sem = fun _ => 0)

def quiescent_Reference11Ideal_pre_params_finite [hReference11Ideal : Cert.Reference11Ideal.Facts] [hPre_params_finite : Cert.Pre_params_finite.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_params_finite m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def preserves_Kernel_KernelIdeal : Prop :=
  True

def algebraic_KernelIdeal_ReferenceIdeal_pre_gate_finite [hKernelIdeal : Cert.KernelIdeal.Facts] [hReferenceIdeal : Cert.ReferenceIdeal.Facts] [hPre_gate_finite : Cert.Pre_gate_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gate_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_ffn_norm_finite [hKernel2Ideal : Cert.Kernel2Ideal.Facts] [hReference2Ideal : Cert.Reference2Ideal.Facts] [hPre_ffn_norm_finite : Cert.Pre_ffn_norm_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_ffn_norm_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v13_0)) (v1 : (c : Dev Cert.Kernel2Ideal.nD) → Buf (Elt Ideal) ((c.tc : Thread Cert.Kernel2Ideal.nD Cert.Kernel2Ideal.τ).loc Cert.Kernel2Ideal.main_v13_1)) (v2 : (c : Dev Cert.Kernel2Ideal.nD) → Buf (Elt Ideal) ((c.tc : Thread Cert.Kernel2Ideal.nD Cert.Kernel2Ideal.τ).loc Cert.Kernel2Ideal.main_v13_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13_0) = v0 c
          ∧ r.2.mem ((c.tc : Thread Cert.Kernel2Ideal.nD Cert.Kernel2Ideal.τ).loc Cert.Kernel2Ideal.main_v13_1) = v1 c
          ∧ r.2.mem ((c.tc : Thread Cert.Kernel2Ideal.nD Cert.Kernel2Ideal.τ).loc Cert.Kernel2Ideal.main_v13_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_v42) = v1 c
          ∧ r.2.mem ((c.tc : Thread Cert.Reference2Ideal.nD Cert.Reference2Ideal.τ).loc Cert.Reference2Ideal.main_v43) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal_pre_mix_norm_finite [hKernel3Ideal : Cert.Kernel3Ideal.Facts] [hReference3Ideal : Cert.Reference3Ideal.Facts] [hPre_mix_norm_finite : Cert.Pre_mix_norm_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_mix_norm_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)) (v2 : (c : Dev Cert.Kernel3Ideal.nD) → Buf (Elt Ideal) ((c.tc : Thread Cert.Kernel3Ideal.nD Cert.Kernel3Ideal.τ).loc Cert.Kernel3Ideal.main_v5_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_v5_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_v39) = v1 c
          ∧ r.2.mem ((c.tc : Thread Cert.Reference3Ideal.nD Cert.Reference3Ideal.τ).loc Cert.Reference3Ideal.main_v40) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_loss_finite [hKernel4Ideal : Cert.Kernel4Ideal.Facts] [hReference4Ideal : Cert.Reference4Ideal.Facts] [hPre_loss_finite : Cert.Pre_loss_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_loss_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_1)) (v2 : (c : Dev Cert.Kernel4Ideal.nD) → Buf (Elt Ideal) ((c.tc : Thread Cert.Kernel4Ideal.nD Cert.Kernel4Ideal.τ).loc Cert.Kernel4Ideal.main_v6_2)) (v3 : (c : Dev Cert.Kernel4Ideal.nD) → Buf (Elt Ideal) ((c.tc : Thread Cert.Kernel4Ideal.nD Cert.Kernel4Ideal.τ).loc Cert.Kernel4Ideal.main_v6_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_v6_2) = v2 c
          ∧ r.2.mem ((c.tc : Thread Cert.Kernel4Ideal.nD Cert.Kernel4Ideal.τ).loc Cert.Kernel4Ideal.main_v6_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v54) = v0 c
          ∧ r.2.mem ((c.tc : Thread Cert.Reference4Ideal.nD Cert.Reference4Ideal.τ).loc Cert.Reference4Ideal.main_v55) = v1 c
          ∧ r.2.mem ((c.tc : Thread Cert.Reference4Ideal.nD Cert.Reference4Ideal.τ).loc Cert.Reference4Ideal.main_v56) = v2 c
          ∧ r.2.mem ((c.tc : Thread Cert.Reference4Ideal.nD Cert.Reference4Ideal.τ).loc Cert.Reference4Ideal.main_v57) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v7_0)) (v1 : (c : Dev Cert.Kernel6Ideal.nD) → Buf (Elt Ideal) ((c.tc : Thread Cert.Kernel6Ideal.nD Cert.Kernel6Ideal.τ).loc Cert.Kernel6Ideal.main_v7_1)) (v2 : (c : Dev Cert.Kernel6Ideal.nD) → Buf (Elt Ideal) ((c.tc : Thread Cert.Kernel6Ideal.nD Cert.Kernel6Ideal.τ).loc Cert.Kernel6Ideal.main_v7_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7_0) = v0 c
          ∧ r.2.mem ((c.tc : Thread Cert.Kernel6Ideal.nD Cert.Kernel6Ideal.τ).loc Cert.Kernel6Ideal.main_v7_1) = v1 c
          ∧ r.2.mem ((c.tc : Thread Cert.Kernel6Ideal.nD Cert.Kernel6Ideal.τ).loc Cert.Kernel6Ideal.main_v7_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_v7) = v1 c
          ∧ r.2.mem ((c.tc : Thread Cert.Reference6Ideal.nD Cert.Reference6Ideal.τ).loc Cert.Reference6Ideal.main_v12) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v6_0)) (v1 : (c : Dev Cert.Kernel7Ideal.nD) → Buf (Elt Ideal) ((c.tc : Thread Cert.Kernel7Ideal.nD Cert.Kernel7Ideal.τ).loc Cert.Kernel7Ideal.main_v6_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6_0) = v0 c
          ∧ r.2.mem ((c.tc : Thread Cert.Kernel7Ideal.nD Cert.Kernel7Ideal.τ).loc Cert.Kernel7Ideal.main_v6_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_v17) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v4_0)) (v1 : (c : Dev Cert.Kernel8Ideal.nD) → Buf (Elt Ideal) ((c.tc : Thread Cert.Kernel8Ideal.nD Cert.Kernel8Ideal.τ).loc Cert.Kernel8Ideal.main_v4_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4_0) = v0 c
          ∧ r.2.mem ((c.tc : Thread Cert.Kernel8Ideal.nD Cert.Kernel8Ideal.τ).loc Cert.Kernel8Ideal.main_v4_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_v16) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal_pre_module_finite [hKernel9Ideal : Cert.Kernel9Ideal.Facts] [hReference9Ideal : Cert.Reference9Ideal.Facts] [hPre_module_finite : Cert.Pre_module_finite.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_module_finite m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v13_0)) (v1 : (c : Dev Cert.Kernel9Ideal.nD) → Buf (Elt Ideal) ((c.tc : Thread Cert.Kernel9Ideal.nD Cert.Kernel9Ideal.τ).loc Cert.Kernel9Ideal.main_v13_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v13_0) = v0 c
          ∧ r.2.mem ((c.tc : Thread Cert.Kernel9Ideal.nD Cert.Kernel9Ideal.τ).loc Cert.Kernel9Ideal.main_v13_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v83) = v0 c
          ∧ r.2.mem ((c.tc : Thread Cert.Reference9Ideal.nD Cert.Reference9Ideal.τ).loc Cert.Reference9Ideal.main_v112) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal_pre_conv_finite [hKernel10Ideal : Cert.Kernel10Ideal.Facts] [hReference10Ideal : Cert.Reference10Ideal.Facts] [hPre_conv_finite : Cert.Pre_conv_finite.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_conv_finite m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v97_0)) (v1 : (c : Dev Cert.Kernel10Ideal.nD) → Buf (Elt Ideal) ((c.tc : Thread Cert.Kernel10Ideal.nD Cert.Kernel10Ideal.τ).loc Cert.Kernel10Ideal.main_v100)) (v2 : (c : Dev Cert.Kernel10Ideal.nD) → Buf (Elt Ideal) ((c.tc : Thread Cert.Kernel10Ideal.nD Cert.Kernel10Ideal.τ).loc Cert.Kernel10Ideal.main_v97_2)) (v3 : (c : Dev Cert.Kernel10Ideal.nD) → Buf (Elt Ideal) ((c.tc : Thread Cert.Kernel10Ideal.nD Cert.Kernel10Ideal.τ).loc Cert.Kernel10Ideal.main_v97_3)) (v4 : (c : Dev Cert.Kernel10Ideal.nD) → Buf (Elt Ideal) ((c.tc : Thread Cert.Kernel10Ideal.nD Cert.Kernel10Ideal.τ).loc Cert.Kernel10Ideal.main_v97_4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v97_0) = v0 c
          ∧ r.2.mem ((c.tc : Thread Cert.Kernel10Ideal.nD Cert.Kernel10Ideal.τ).loc Cert.Kernel10Ideal.main_v100) = v1 c
          ∧ r.2.mem ((c.tc : Thread Cert.Kernel10Ideal.nD Cert.Kernel10Ideal.τ).loc Cert.Kernel10Ideal.main_v97_2) = v2 c
          ∧ r.2.mem ((c.tc : Thread Cert.Kernel10Ideal.nD Cert.Kernel10Ideal.τ).loc Cert.Kernel10Ideal.main_v97_3) = v3 c
          ∧ r.2.mem ((c.tc : Thread Cert.Kernel10Ideal.nD Cert.Kernel10Ideal.τ).loc Cert.Kernel10Ideal.main_v97_4) = v4 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v299) = v0 c
          ∧ r.2.mem ((c.tc : Thread Cert.Reference10Ideal.nD Cert.Reference10Ideal.τ).loc Cert.Reference10Ideal.main_v166) = v1 c
          ∧ r.2.mem ((c.tc : Thread Cert.Reference10Ideal.nD Cert.Reference10Ideal.τ).loc Cert.Reference10Ideal.main_v300) = v2 c
          ∧ r.2.mem ((c.tc : Thread Cert.Reference10Ideal.nD Cert.Reference10Ideal.τ).loc Cert.Reference10Ideal.main_v301) = v3 c
          ∧ r.2.mem ((c.tc : Thread Cert.Reference10Ideal.nD Cert.Reference10Ideal.τ).loc Cert.Reference10Ideal.main_v302) = v4 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal_pre_params_finite [hKernel11Ideal : Cert.Kernel11Ideal.Facts] [hReference11Ideal : Cert.Reference11Ideal.Facts] [hPre_params_finite : Cert.Pre_params_finite.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_params_finite m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)) →
    ∃ (v0 : (c : Dev Cert.Kernel11Ideal.nD) → Buf (Elt Ideal) ((c.tc : Thread Cert.Kernel11Ideal.nD Cert.Kernel11Ideal.τ).loc Cert.Kernel11Ideal.main_v39_0)) (v1 : (c : Dev Cert.Kernel11Ideal.nD) → Buf (Elt Ideal) ((c.tc : Thread Cert.Kernel11Ideal.nD Cert.Kernel11Ideal.τ).loc Cert.Kernel11Ideal.main_v39_1)) (v2 : (c : Dev Cert.Kernel11Ideal.nD) → Buf (Elt Ideal) ((c.tc : Thread Cert.Kernel11Ideal.nD Cert.Kernel11Ideal.τ).loc Cert.Kernel11Ideal.main_v41)) (v3 : (c : Dev Cert.Kernel11Ideal.nD) → Buf (Elt Ideal) ((c.tc : Thread Cert.Kernel11Ideal.nD Cert.Kernel11Ideal.τ).loc Cert.Kernel11Ideal.main_v51)) (v4 : (c : Dev Cert.Kernel11Ideal.nD) → Buf (Elt Ideal) ((c.tc : Thread Cert.Kernel11Ideal.nD Cert.Kernel11Ideal.τ).loc Cert.Kernel11Ideal.main_v61)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v39_0) = v0 c
          ∧ r.2.mem ((c.tc : Thread Cert.Kernel11Ideal.nD Cert.Kernel11Ideal.τ).loc Cert.Kernel11Ideal.main_v39_1) = v1 c
          ∧ r.2.mem ((c.tc : Thread Cert.Kernel11Ideal.nD Cert.Kernel11Ideal.τ).loc Cert.Kernel11Ideal.main_v41) = v2 c
          ∧ r.2.mem ((c.tc : Thread Cert.Kernel11Ideal.nD Cert.Kernel11Ideal.τ).loc Cert.Kernel11Ideal.main_v51) = v3 c
          ∧ r.2.mem ((c.tc : Thread Cert.Kernel11Ideal.nD Cert.Kernel11Ideal.τ).loc Cert.Kernel11Ideal.main_v61) = v4 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v139) = v0 c
          ∧ r.2.mem ((c.tc : Thread Cert.Reference11Ideal.nD Cert.Reference11Ideal.τ).loc Cert.Reference11Ideal.main_v140) = v1 c
          ∧ r.2.mem ((c.tc : Thread Cert.Reference11Ideal.nD Cert.Reference11Ideal.τ).loc Cert.Reference11Ideal.main_v138) = v2 c
          ∧ r.2.mem ((c.tc : Thread Cert.Reference11Ideal.nD Cert.Reference11Ideal.τ).loc Cert.Reference11Ideal.main_v69) = v3 c
          ∧ r.2.mem ((c.tc : Thread Cert.Reference11Ideal.nD Cert.Reference11Ideal.τ).loc Cert.Reference11Ideal.main_v62) = v4 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)) →
    ∃ (v0 : (c : Dev Cert.Kernel12Ideal.nD) → Buf (Elt Ideal) ((c.tc : Thread Cert.Kernel12Ideal.nD Cert.Kernel12Ideal.τ).loc Cert.Kernel12Ideal.main_v41_0)) (v1 : (c : Dev Cert.Kernel12Ideal.nD) → Buf (Elt Ideal) ((c.tc : Thread Cert.Kernel12Ideal.nD Cert.Kernel12Ideal.τ).loc Cert.Kernel12Ideal.main_v41_1)) (v2 : (c : Dev Cert.Kernel12Ideal.nD) → Buf (Elt Ideal) ((c.tc : Thread Cert.Kernel12Ideal.nD Cert.Kernel12Ideal.τ).loc Cert.Kernel12Ideal.main_v41_2)) (v3 : (c : Dev Cert.Kernel12Ideal.nD) → Buf (Elt Ideal) ((c.tc : Thread Cert.Kernel12Ideal.nD Cert.Kernel12Ideal.τ).loc Cert.Kernel12Ideal.main_v41_3)) (v4 : (c : Dev Cert.Kernel12Ideal.nD) → Buf (Elt Ideal) ((c.tc : Thread Cert.Kernel12Ideal.nD Cert.Kernel12Ideal.τ).loc Cert.Kernel12Ideal.main_v41_4)) (v5 : (c : Dev Cert.Kernel12Ideal.nD) → Buf (Elt Ideal) ((c.tc : Thread Cert.Kernel12Ideal.nD Cert.Kernel12Ideal.τ).loc Cert.Kernel12Ideal.main_v41_5)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v41_0) = v0 c
          ∧ r.2.mem ((c.tc : Thread Cert.Kernel12Ideal.nD Cert.Kernel12Ideal.τ).loc Cert.Kernel12Ideal.main_v41_1) = v1 c
          ∧ r.2.mem ((c.tc : Thread Cert.Kernel12Ideal.nD Cert.Kernel12Ideal.τ).loc Cert.Kernel12Ideal.main_v41_2) = v2 c
          ∧ r.2.mem ((c.tc : Thread Cert.Kernel12Ideal.nD Cert.Kernel12Ideal.τ).loc Cert.Kernel12Ideal.main_v41_3) = v3 c
          ∧ r.2.mem ((c.tc : Thread Cert.Kernel12Ideal.nD Cert.Kernel12Ideal.τ).loc Cert.Kernel12Ideal.main_v41_4) = v4 c
          ∧ r.2.mem ((c.tc : Thread Cert.Kernel12Ideal.nD Cert.Kernel12Ideal.τ).loc Cert.Kernel12Ideal.main_v41_5) = v5 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v38) = v0 c
          ∧ r.2.mem ((c.tc : Thread Cert.Reference12Ideal.nD Cert.Reference12Ideal.τ).loc Cert.Reference12Ideal.main_v39) = v1 c
          ∧ r.2.mem ((c.tc : Thread Cert.Reference12Ideal.nD Cert.Reference12Ideal.τ).loc Cert.Reference12Ideal.main_v49) = v2 c
          ∧ r.2.mem ((c.tc : Thread Cert.Reference12Ideal.nD Cert.Reference12Ideal.τ).loc Cert.Reference12Ideal.main_v59) = v3 c
          ∧ r.2.mem ((c.tc : Thread Cert.Reference12Ideal.nD Cert.Reference12Ideal.τ).loc Cert.Reference12Ideal.main_v71) = v4 c
          ∧ r.2.mem ((c.tc : Thread Cert.Reference12Ideal.nD Cert.Reference12Ideal.τ).loc Cert.Reference12Ideal.main_v83) = v5 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v4)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_arg1) = v0 c
          ∧ r.2.mem ((c.tc : Thread Cert.Reference15Ideal.nD Cert.Reference15Ideal.τ).loc Cert.Reference15Ideal.main_v23) = v1 c
          ∧ r.2.mem ((c.tc : Thread Cert.Reference15Ideal.nD Cert.Reference15Ideal.τ).loc Cert.Reference15Ideal.main_v4) = v2 c
          ∧ r.2.mem ((c.tc : Thread Cert.Reference15Ideal.nD Cert.Reference15Ideal.τ).loc Cert.Reference15Ideal.main_v10) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_gate_finite : Cert.Pre_gate_finite.Facts) (hPre_ffn_norm_finite : Cert.Pre_ffn_norm_finite.Facts) (hPre_mix_norm_finite : Cert.Pre_mix_norm_finite.Facts) (hPre_loss_finite : Cert.Pre_loss_finite.Facts) (hPre_module_finite : Cert.Pre_module_finite.Facts) (hPre_conv_finite : Cert.Pre_conv_finite.Facts) (hPre_params_finite : Cert.Pre_params_finite.Facts),
    quiescent_Kernel (hKernel := hKernel)
    ∧ quiescent_KernelIdeal (hKernelIdeal := hKernelIdeal)
    ∧ quiescent_KernelIdeal_pre_gate_finite (hKernelIdeal := hKernelIdeal) (hPre_gate_finite := hPre_gate_finite)
    ∧ quiescent_ReferenceIdeal (hReferenceIdeal := hReferenceIdeal)
    ∧ quiescent_ReferenceIdeal_pre_gate_finite (hReferenceIdeal := hReferenceIdeal) (hPre_gate_finite := hPre_gate_finite)
    ∧ quiescent_Kernel2 (hKernel2 := hKernel2)
    ∧ quiescent_Kernel2Ideal (hKernel2Ideal := hKernel2Ideal)
    ∧ quiescent_Kernel2Ideal_pre_ffn_norm_finite (hKernel2Ideal := hKernel2Ideal) (hPre_ffn_norm_finite := hPre_ffn_norm_finite)
    ∧ quiescent_Reference2Ideal (hReference2Ideal := hReference2Ideal)
    ∧ quiescent_Reference2Ideal_pre_ffn_norm_finite (hReference2Ideal := hReference2Ideal) (hPre_ffn_norm_finite := hPre_ffn_norm_finite)
    ∧ quiescent_Kernel3 (hKernel3 := hKernel3)
    ∧ quiescent_Kernel3Ideal (hKernel3Ideal := hKernel3Ideal)
    ∧ quiescent_Kernel3Ideal_pre_mix_norm_finite (hKernel3Ideal := hKernel3Ideal) (hPre_mix_norm_finite := hPre_mix_norm_finite)
    ∧ quiescent_Reference3Ideal (hReference3Ideal := hReference3Ideal)
    ∧ quiescent_Reference3Ideal_pre_mix_norm_finite (hReference3Ideal := hReference3Ideal) (hPre_mix_norm_finite := hPre_mix_norm_finite)
    ∧ quiescent_Kernel4 (hKernel4 := hKernel4)
    ∧ quiescent_Kernel4Ideal (hKernel4Ideal := hKernel4Ideal)
    ∧ quiescent_Kernel4Ideal_pre_loss_finite (hKernel4Ideal := hKernel4Ideal) (hPre_loss_finite := hPre_loss_finite)
    ∧ quiescent_Reference4Ideal (hReference4Ideal := hReference4Ideal)
    ∧ quiescent_Reference4Ideal_pre_loss_finite (hReference4Ideal := hReference4Ideal) (hPre_loss_finite := hPre_loss_finite)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_module_finite (hKernel9Ideal := hKernel9Ideal) (hPre_module_finite := hPre_module_finite)
    ∧ quiescent_Reference9Ideal (hReference9Ideal := hReference9Ideal)
    ∧ quiescent_Reference9Ideal_pre_module_finite (hReference9Ideal := hReference9Ideal) (hPre_module_finite := hPre_module_finite)
    ∧ quiescent_Kernel10 (hKernel10 := hKernel10)
    ∧ quiescent_Kernel10Ideal (hKernel10Ideal := hKernel10Ideal)
    ∧ quiescent_Kernel10Ideal_pre_conv_finite (hKernel10Ideal := hKernel10Ideal) (hPre_conv_finite := hPre_conv_finite)
    ∧ quiescent_Reference10Ideal (hReference10Ideal := hReference10Ideal)
    ∧ quiescent_Reference10Ideal_pre_conv_finite (hReference10Ideal := hReference10Ideal) (hPre_conv_finite := hPre_conv_finite)
    ∧ quiescent_Kernel11 (hKernel11 := hKernel11)
    ∧ quiescent_Kernel11Ideal (hKernel11Ideal := hKernel11Ideal)
    ∧ quiescent_Kernel11Ideal_pre_params_finite (hKernel11Ideal := hKernel11Ideal) (hPre_params_finite := hPre_params_finite)
    ∧ quiescent_Reference11Ideal (hReference11Ideal := hReference11Ideal)
    ∧ quiescent_Reference11Ideal_pre_params_finite (hReference11Ideal := hReference11Ideal) (hPre_params_finite := hPre_params_finite)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_gate_finite (hKernelIdeal := hKernelIdeal) (hReferenceIdeal := hReferenceIdeal) (hPre_gate_finite := hPre_gate_finite)
    ∧ preserves_Kernel2_Kernel2Ideal
    ∧ algebraic_Kernel2Ideal_Reference2Ideal_pre_ffn_norm_finite (hKernel2Ideal := hKernel2Ideal) (hReference2Ideal := hReference2Ideal) (hPre_ffn_norm_finite := hPre_ffn_norm_finite)
    ∧ preserves_Kernel3_Kernel3Ideal
    ∧ algebraic_Kernel3Ideal_Reference3Ideal_pre_mix_norm_finite (hKernel3Ideal := hKernel3Ideal) (hReference3Ideal := hReference3Ideal) (hPre_mix_norm_finite := hPre_mix_norm_finite)
    ∧ preserves_Kernel4_Kernel4Ideal
    ∧ algebraic_Kernel4Ideal_Reference4Ideal_pre_loss_finite (hKernel4Ideal := hKernel4Ideal) (hReference4Ideal := hReference4Ideal) (hPre_loss_finite := hPre_loss_finite)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_module_finite (hKernel9Ideal := hKernel9Ideal) (hReference9Ideal := hReference9Ideal) (hPre_module_finite := hPre_module_finite)
    ∧ preserves_Kernel10_Kernel10Ideal
    ∧ algebraic_Kernel10Ideal_Reference10Ideal_pre_conv_finite (hKernel10Ideal := hKernel10Ideal) (hReference10Ideal := hReference10Ideal) (hPre_conv_finite := hPre_conv_finite)
    ∧ preserves_Kernel11_Kernel11Ideal
    ∧ algebraic_Kernel11Ideal_Reference11Ideal_pre_params_finite (hKernel11Ideal := hKernel11Ideal) (hReference11Ideal := hReference11Ideal) (hPre_params_finite := hPre_params_finite)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_conv_finite.lean ====
abbrev S4096x1536 : Shape := ⟨2, ![4096, 1536]⟩
abbrev S31x512 : Shape := ⟨2, ![31, 512]⟩
abbrev S512 : Shape := ⟨1, ![512]⟩
abbrev S4096x512 : Shape := ⟨2, ![4096, 512]⟩
abbrev S4096x1024 : Shape := ⟨2, ![4096, 1024]⟩
abbrev S_ : Shape := ⟨0, ![]⟩

class Facts : Prop where
  bcast_S_S4096x1536 : S_.BroadcastsInDim S4096x1536 (![] : Fin 0 → Fin S4096x1536.rank)
  bcast_S_S31x512 : S_.BroadcastsInDim S31x512 (![] : Fin 0 → Fin S31x512.rank)
  bcast_S_S512 : S_.BroadcastsInDim S512 (![] : Fin 0 → Fin S512.rank)
  bcast_S_S4096x1024 : S_.BroadcastsInDim S4096x1024 (![] : Fin 0 → Fin S4096x1024.rank)

variable [Facts]

def fn {F : FTy → Type} [FloatOps F] (main_arg0 : FVec F S4096x1536 .f32) (main_arg1 : FVec F S31x512 .f32) (main_arg2 : FVec F S512 .f32) (main_arg3 : FVec F S512 .f32) (main_arg4 : FVec F S512 .f32) (main_arg5 : FVec F S4096x512 .f32) (main_arg6 : FVec F S4096x1024 .f32) : IVec S4096x1536 1 × IVec S31x512 1 × IVec S512 1 × IVec S512 1 × IVec S512 1 × IVec S4096x1024 1 :=
  let main_v0 : FVec F S4096x1536 .f32 := Host.absf main_arg0
  let main_cst : FVec F S_ .f32 := constant S_ .f32 0x7F800000#32
  let main_v1 : FVec F S4096x1536 .f32 := broadcastInDim S4096x1536 ![] bcast_S_S4096x1536 main_cst
  let main_v2 : IVec S4096x1536 1 := cmpf .olt main_v0 main_v1
  let main_v3 : FVec F S31x512 .f32 := Host.absf main_arg1
  let main_cst_0 : FVec F S_ .f32 := constant S_ .f32 0x7F800000#32
  let main_v4 : FVec F S31x512 .f32 := broadcastInDim S31x512 ![] bcast_S_S31x512 main_cst_0
  let main_v5 : IVec S31x512 1 := cmpf .olt main_v3 main_v4
  let main_v6 : FVec F S512 .f32 := Host.absf main_arg2
  let main_cst_1 : FVec F S_ .f32 := constant S_ .f32 0x7F800000#32
  let main_v7 : FVec F S512 .f32 := broadcastInDim S512 ![] bcast_S_S512 main_cst_1
  let main_v8 : IVec S512 1 := cmpf .olt main_v6 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_v12 : FVec F S512 .f32 := Host.absf main_arg4
  let main_cst_3 : FVec F S_ .f32 := constant S_ .f32 0x7F800000#32
  let main_v13 : FVec F S512 .f32 := broadcastInDim S512 ![] bcast_S_S512 main_cst_3
  let main_v14 : IVec S512 1 := cmpf .olt main_v12 main_v13
  let main_v15 : FVec F S4096x1024 .f32 := Host.absf main_arg6
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  (main_v2, main_v5, main_v8, main_v11, main_v14, main_v17)
-- ==== Pre_ffn_norm_finite.lean ====
abbrev S4096x1024 : Shape := ⟨2, ![4096, 1024]⟩
abbrev S1024 : Shape := ⟨1, ![1024]⟩
abbrev S1024x2816 : Shape := ⟨2, ![1024, 2816]⟩
abbrev S4096x2816 : Shape := ⟨2, ![4096, 2816]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x2816 : S_.BroadcastsInDim S1024x2816 (![] : Fin 0 → Fin S1024x2816.rank)
  bcast_S_S4096x2816 : S_.BroadcastsInDim S4096x2816 (![] : Fin 0 → Fin S4096x2816.rank)

variable [Facts]

def fn_part1 {F : FTy → Type} [FloatOps F] (main_arg6 : FVec F S4096x2816 .f32) (main_v2 : IVec S4096x1024 1) (main_v5 : IVec S1024 1) (main_v8 : IVec S1024x2816 1) (main_v11 : IVec S1024x2816 1) (main_v14 : IVec S4096x1024 1) (main_v17 : IVec S4096x2816 1) : IVec S4096x1024 1 × IVec S1024 1 × IVec S1024x2816 1 × IVec S1024x2816 1 × IVec S4096x1024 1 × IVec S4096x2816 1 × IVec S4096x2816 1 :=
  let main_v18 : FVec F S4096x2816 .f32 := Host.absf main_arg6
  let main_cst_5 : FVec F S_ .f32 := constant S_ .f32 0x7F800000#32
  let main_v19 : FVec F S4096x2816 .f32 := broadcastInDim S4096x2816 ![] bcast_S_S4096x2816 main_cst_5
  let main_v20 : IVec S4096x2816 1 := cmpf .olt main_v18 main_v19
  (main_v2, main_v5, main_v8, main_v11, main_v14, main_v17, main_v20)

def fn {F : FTy → Type} [FloatOps F] (main_arg0 : FVec F S4096x1024 .f32) (main_arg1 : FVec F S1024 .f32) (main_arg2 : FVec F S1024x2816 .f32) (main_arg3 : FVec F S1024x2816 .f32) (main_arg4 : FVec F S4096x1024 .f32) (main_arg5 : FVec F S4096x2816 .f32) (main_arg6 : FVec F S4096x2816 .f32) : IVec S4096x1024 1 × IVec S1024 1 × IVec S1024x2816 1 × IVec S1024x2816 1 × IVec S4096x1024 1 × IVec S4096x2816 1 × IVec S4096x2816 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  let main_v15 : FVec F S4096x2816 .f32 := Host.absf main_arg5
  let main_cst_4 : FVec F S_ .f32 := constant S_ .f32 0x7F800000#32
  let main_v16 : FVec F S4096x2816 .f32 := broadcastInDim S4096x2816 ![] bcast_S_S4096x2816 main_cst_4
  let main_v17 : IVec S4096x2816 1 := cmpf .olt main_v15 main_v16
  fn_part1 (F := F) main_arg6 main_v2 main_v5 main_v8 main_v11 main_v14 main_v17
-- ==== Pre_gate_finite.lean ====
abbrev S4096x1024 : Shape := ⟨2, ![4096, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S1024x2816 .f32) (main_arg2 : FVec F S1024x2816 .f32) (main_arg3 : FVec F S2816x1024 .f32) (main_arg4 : FVec F S4096x1024 .f32) : IVec S4096x1024 1 × IVec S1024x2816 1 × IVec S1024x2816 1 × IVec S2816x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024x2816 .f32 := Host.absf main_arg1
  let main_cst_0 : FVec F S_ .f32 := constant S_ .f32 0x7F800000#32
  let main_v4 : FVec F S1024x2816 .f32 := broadcastInDim S1024x2816 ![] bcast_S_S1024x2816 main_cst_0
  let main_v5 : IVec S1024x2816 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Pre_loss_finite.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩

class Facts : Prop where
  bcast_S_S4096x2816 : S_.BroadcastsInDim S4096x2816 (![] : Fin 0 → Fin S4096x2816.rank)
  bcast_S_S2816x1024 : S_.BroadcastsInDim S2816x1024 (![] : Fin 0 → Fin S2816x1024.rank)
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S4096x2816 .f32) (main_arg1 : FVec F S2816x1024 .f32) (main_arg2 : FVec F S4096x1024 .f32) (main_arg3 : FVec F S1024 .f32) (main_arg4 : FVec F S4096x1024 .f32) : IVec S4096x2816 1 × IVec S2816x1024 1 × IVec S4096x1024 1 × IVec S1024 1 × IVec S4096x1024 1 :=
  let main_v0 : FVec F S4096x2816 .f32 := Host.absf main_arg0
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_v3 : FVec F S2816x1024 .f32 := Host.absf main_arg1
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Pre_mix_norm_finite.lean ====
abbrev S4096x1024 : Shape := ⟨2, ![4096, 1024]⟩
abbrev S1024 : Shape := ⟨1, ![1024]⟩
abbrev S1024x1536 : Shape := ⟨2, ![1024, 1536]⟩
abbrev S4096x1536 : Shape := ⟨2, ![4096, 1536]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x1536 : S_.BroadcastsInDim S1024x1536 (![] : Fin 0 → Fin S1024x1536.rank)
  bcast_S_S4096x1536 : S_.BroadcastsInDim S4096x1536 (![] : Fin 0 → Fin S4096x1536.rank)

variable [Facts]

def fn {F : FTy → Type} [FloatOps F] (main_arg0 : FVec F S4096x1024 .f32) (main_arg1 : FVec F S1024 .f32) (main_arg2 : FVec F S1024x1536 .f32) (main_arg3 : FVec F S4096x1024 .f32) (main_arg4 : FVec F S4096x1536 .f32) : IVec S4096x1024 1 × IVec S1024 1 × IVec S1024x1536 1 × IVec S4096x1024 1 × IVec S4096x1536 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x1536 .f32 := Host.absf main_arg2
  let main_cst_1 : FVec F S_ .f32 := constant S_ .f32 0x7F800000#32
  let main_v7 : FVec F S1024x1536 .f32 := broadcastInDim S1024x1536 ![] bcast_S_S1024x1536 main_cst_1
  let main_v8 : IVec S1024x1536 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S4096x1536 .f32 := Host.absf main_arg4
  let main_cst_3 : FVec F S_ .f32 := constant S_ .f32 0x7F800000#32
  let main_v13 : FVec F S4096x1536 .f32 := broadcastInDim S4096x1536 ![] bcast_S_S4096x1536 main_cst_3
  let main_v14 : IVec S4096x1536 1 := cmpf .olt main_v12 main_v13
  (main_v2, main_v5, main_v8, main_v11, main_v14)
-- ==== Pre_module_finite.lean ====
abbrev S4096x1536 : Shape := ⟨2, ![4096, 1536]⟩
abbrev S4096x512 : Shape := ⟨2, ![4096, 512]⟩
abbrev S31x512 : Shape := ⟨2, ![31, 512]⟩
abbrev S512 : Shape := ⟨1, ![512]⟩
abbrev S_ : Shape := ⟨0, ![]⟩

class Facts : Prop where
  bcast_S_S4096x1536 : S_.BroadcastsInDim S4096x1536 (![] : Fin 0 → Fin S4096x1536.rank)
  bcast_S_S31x512 : S_.BroadcastsInDim S31x512 (![] : Fin 0 → Fin S31x512.rank)
  bcast_S_S512 : S_.BroadcastsInDim S512 (![] : Fin 0 → Fin S512.rank)

variable [Facts]

def fn {F : FTy → Type} [FloatOps F] (main_arg0 : FVec F S4096x1536 .f32) (main_arg1 : FVec F S4096x512 .f32) (main_arg2 : FVec F S31x512 .f32) (main_arg3 : FVec F S512 .f32) (main_arg4 : FVec F S512 .f32) (main_arg5 : FVec F S512 .f32) : IVec S4096x1536 1 × IVec S31x512 1 × IVec S512 1 :=
  let main_v0 : FVec F S4096x1536 .f32 := Host.absf main_arg0
  let main_cst : FVec F S_ .f32 := constant S_ .f32 0x7F800000#32
  let main_v1 : FVec F S4096x1536 .f32 := broadcastInDim S4096x1536 ![] bcast_S_S4096x1536 main_cst
  let main_v2 : IVec S4096x1536 1 := cmpf .olt main_v0 main_v1
  let main_v3 : FVec F S31x512 .f32 := Host.absf main_arg2
  let main_cst_0 : FVec F S_ .f32 := constant S_ .f32 0x7F800000#32
  let main_v4 : FVec F S31x512 .f32 := broadcastInDim S31x512 ![] bcast_S_S31x512 main_cst_0
  let main_v5 : IVec S31x512 1 := cmpf .olt main_v3 main_v4
  let main_v6 : FVec F S512 .f32 := Host.absf main_arg3
  let main_cst_1 : FVec F S_ .f32 := constant S_ .f32 0x7F800000#32
  let main_v7 : FVec F S512 .f32 := broadcastInDim S512 ![] bcast_S_S512 main_cst_1
  let main_v8 : IVec S512 1 := cmpf .olt main_v6 main_v7
  (main_v2, main_v5, main_v8)
-- ==== Pre_params_finite.lean ====
abbrev S32x64 : Shape := ⟨2, ![32, 64]⟩
abbrev S32 : Shape := ⟨1, ![32]⟩
abbrev S32x64x16 : Shape := ⟨3, ![32, 64, 16]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x64 .f32) (main_arg1 : FVec F S32x64 .f32) (main_arg2 : FVec F S32 .f32) (main_arg3 : FVec F S32x64x16 .f32) (main_arg4 : FVec F S32x64x16 .f32) (main_arg5 : FVec F S32x64 .f32) (main_arg6 : FVec F S32x64 .f32) (main_arg7 : FVec F S32x64x16 .f32) (main_arg8 : FVec F S32x64x16 .f32) : IVec S32 1 :=
  let main_v0 : FVec F S32 .f32 := Host.absf main_arg2
  let main_cst : FVec F S_ .f32 := constant S_ .f32 0x7F800000#32
  let main_v1 : FVec F S32 .f32 := broadcastInDim S32 ![] bcast_S_S32 main_cst
  let main_v2 : IVec S32 1 := cmpf .olt main_v0 main_v1
  main_v2
-- ==== Kernel.lean ====
abbrev S4096x1024 : Shape := ⟨2, ![4096, 1024]⟩
abbrev S1024x2816 : Shape := ⟨2, ![1024, 2816]⟩
abbrev S2816x1024 : Shape := ⟨2, ![2816, 1024]⟩
abbrev S4x704x1024 : Shape := ⟨3, ![4, 704, 1024]⟩
abbrev S4096x2816 : Shape := ⟨2, ![4096, 2816]⟩
abbrev S4096x4x704 : Shape := ⟨3, ![4096, 4, 704]⟩
abbrev S4x4096x704 : Shape := ⟨3, ![4, 4096, 704]⟩
abbrev S1024x1024 : Shape := ⟨2, ![1024, 1024]⟩
abbrev S1x1024x704 : Shape := ⟨3, ![1, 1024, 704]⟩
abbrev S1x704x1024 : Shape := ⟨3, ![1, 704, 1024]⟩
abbrev S704x1024 : Shape := ⟨2, ![704, 1024]⟩
abbrev S1024x704 : Shape := ⟨2, ![1024, 704]⟩

abbrev nBuf : Space → Nat
  | .hbm => 18
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S2816x1024, .bf16⟩
  | .hbm, ⟨6, _⟩ => ⟨S4x704x1024, .bf16⟩
  | .hbm, ⟨7, _⟩ => ⟨S4096x1024, .bf16⟩
  | .hbm, ⟨8, _⟩ => ⟨S4096x2816, .f32⟩
  | .hbm, ⟨9, _⟩ => ⟨S4096x4x704, .f32⟩
  | .hbm, ⟨10, _⟩ => ⟨S4x4096x704, .f32⟩
  | .hbm, ⟨11, _⟩ => ⟨S4x4096x704, .bf16⟩
  | .hbm, ⟨12, _⟩ => ⟨S4096x2816, .f32⟩
  | .hbm, ⟨13, _⟩ => ⟨S4096x4x704, .f32⟩
  | .hbm, ⟨14, _⟩ => ⟨S4x4096x704, .f32⟩
  | .hbm, ⟨15, _⟩ => ⟨S4x4096x704, .bf16⟩
  | .hbm, ⟨16, _⟩ => ⟨S4x4096x704, .bf16⟩
  | .hbm, ⟨17, _⟩ => ⟨S4x4096x704, .bf16⟩
  | .local _ .vmem, ⟨0, _⟩ => ⟨S1024x1024, .bf16⟩
  | .local _ .vmem, ⟨1, _⟩ => ⟨S1024x1024, .bf16⟩
  | .local _ .vmem, ⟨2, _⟩ => ⟨S4x704x1024, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 4], ![false, false]⟩

def k0_off1 (i : grid0.Coords) : Fin 3 → Nat :=
  let arg1 : BitVec 32 := BitVec.ofNat 32 (i 1).val
  let v2 : Index := Scalar.indexCast arg1
  let c0_1 : Index := 0#32
  let c0_2 : Index := 0#32
  ![v2.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S_ : Shape := ⟨0, ![]⟩
abbrev S4096x4x704 : Shape := ⟨3, ![4096, 4, 704]⟩
abbrev S4x4096x704 : Shape := ⟨3, ![4, 4096, 704]⟩

abbrev nBuf : Space → Nat
  | .hbm => 41
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x4x704, .f32⟩
  | .hbm, ⟨36, _⟩ => ⟨S4x4096x704, .f32⟩
  | .hbm, ⟨37, _⟩ => ⟨S4x4096x704, .bf16⟩
  | .hbm, ⟨38, _⟩ => ⟨S4096x4x704, .f32⟩
  | .hbm, ⟨39, _⟩ => ⟨S4x4096x704, .f32⟩
  | .hbm, ⟨40, _⟩ => ⟨S4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩

abbrev nD : Nat := 1
abbrev τ : Topo := Topo.v7x

variable {F : FTy → Type} [FloatOps F]
-- ==== Kernel2.lean ====
abbrev S4096x1024 : Shape := ⟨2, ![4096, 1024]⟩
abbrev S1024 : Shape := ⟨1, ![1024]⟩
abbrev S1024x2816 : Shape := ⟨2, ![1024, 2816]⟩
abbrev S4096x2816 : Shape := ⟨2, ![4096, 2816]⟩
abbrev S4096x4x704 : Shape := ⟨3, ![4096, 4, 704]⟩
abbrev S4x4096x704 : Shape := ⟨3, ![4, 4096, 704]⟩
abbrev S2816x1024 : Shape := ⟨2, ![2816, 1024]⟩
abbrev S4x704x1024 : Shape := ⟨3, ![4, 704, 1024]⟩
abbrev S1x1024 : Shape := ⟨2, ![1, 1024]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩
abbrev S512x1 : Shape := ⟨2, ![512, 1]⟩

abbrev nBuf : Space → Nat
  | .hbm => 23
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S4096x4x704, .f32⟩
  | .hbm, ⟨8, _⟩ => ⟨S4x4096x704, .f32⟩
  | .hbm, ⟨9, _⟩ => ⟨S4x4096x704, .bf16⟩
  | .hbm, ⟨10, _⟩ => ⟨S4096x4x704, .f32⟩
  | .hbm, ⟨11, _⟩ => ⟨S4x4096x704, .f32⟩
  | .hbm, ⟨12, _⟩ => ⟨S4x4096x704, .bf16⟩
  | .hbm, ⟨13, _⟩ => ⟨S2816x1024, .f32⟩
  | .hbm, ⟨14, _⟩ => ⟨S4x704x1024, .f32⟩
  | .hbm, ⟨15, _⟩ => ⟨S4x704x1024, .bf16⟩
  | .hbm, ⟨16, _⟩ => ⟨S2816x1024, .f32⟩
  | .hbm, ⟨17, _⟩ => ⟨S4x704x1024, .f32⟩
  | .hbm, ⟨18, _⟩ => ⟨S4x704x1024, .bf16⟩
  | .hbm, ⟨19, _⟩ => ⟨S1x1024, .f32⟩
  | .hbm, ⟨20, _⟩ => ⟨S4096x1024, .f32⟩
  | .hbm, ⟨21, _⟩ => ⟨S4096x1024, .bf16⟩
  | .hbm, ⟨22, _⟩ => ⟨S1x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x512x704, .bf16⟩
  | .local _ .vmem, ⟨3, _⟩ => ⟨S4x512x704, .bf16⟩
  | .local _ .vmem, ⟨4, _⟩ => ⟨S4x704x1024, .bf16⟩
  | .local _ .vmem, ⟨5, _⟩ => ⟨S4x704x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v58 : BitVec 1 := Scalar.cmpi .eq arg0 c0_i32
  let v62 : BitVec 32 := Scalar.extui v58
  let c0_i32_57 : BitVec 32 := 0#32
  let v63 : BitVec 1 := Scalar.cmpi .ne v62 c0_i32_57
  v63

def k0_cond2 (i : grid0.Coords) : BitVec 1 :=
  let arg0 : BitVec 32 := BitVec.ofNat 32 (i 0).val
  let c0_i32 : BitVec 32 := 0#32
  let v58 : BitVec 1 := Scalar.cmpi .eq arg0 c0_i32
  let v_true : BitVec 1 := 1#1
  let v64 : BitVec 1 := Scalar.xori v58 v_true
  let v65 : BitVec 32 := Scalar.extui v64
  let c0_i32_58 : BitVec 32 := 0#32
  let v66 : BitVec 1 := Scalar.cmpi .ne v65 c0_i32_58
  v66

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference2Ideal.lean ====
abbrev S4096x1024 : Shape := ⟨2, ![4096, 1024]⟩
abbrev S1024 : Shape := ⟨1, ![1024]⟩
abbrev S1024x2816 : Shape := ⟨2, ![1024, 2816]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x2816, .f32⟩
  | .hbm, ⟨28, _⟩ => ⟨S4096x2816, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .bf16⟩
  | .hbm, ⟨59, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== Kernel3.lean ====
abbrev S4096x1024 : Shape := ⟨2, ![4096, 1024]⟩
abbrev S1024 : Shape := ⟨1, ![1024]⟩
abbrev S1024x1536 : Shape := ⟨2, ![1024, 1536]⟩
abbrev S4096x1536 : Shape := ⟨2, ![4096, 1536]⟩
abbrev S1024x4x384 : Shape := ⟨3, ![1024, 4, 384]⟩
abbrev S4x1024x384 : Shape := ⟨3, ![4, 1024, 384]⟩
abbrev S1x1024 : Shape := ⟨2, ![1, 1024]⟩
abbrev S512x1536 : Shape := ⟨2, ![512, 1536]⟩
abbrev S512x1024 : Shape := ⟨2, ![512, 1024]⟩
abbrev S512x384 : Shape := ⟨2, ![512, 384]⟩
abbrev S1x1024x384 : Shape := ⟨3, ![1, 1024, 384]⟩
abbrev S1024x384 : Shape := ⟨2, ![1024, 384]⟩
abbrev S512 : Shape := ⟨1, ![512]⟩
abbrev S512x1 : Shape := ⟨2, ![512, 1]⟩

abbrev nBuf : Space → Nat
  | .hbm => 13
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1536, .f32⟩
  | .hbm, ⟨3, _⟩ => ⟨S4096x1024, .f32⟩
  | .hbm, ⟨4, _⟩ => ⟨S4096x1536, .f32⟩
  | .hbm, ⟨5, _⟩ => ⟨S4096x1536, .bf16⟩
  | .hbm, ⟨6, _⟩ => ⟨S1024x4x384, .f32⟩
  | .hbm, ⟨7, _⟩ => ⟨S4x1024x384, .f32⟩
  | .hbm, ⟨8, _⟩ => ⟨S4x1024x384, .bf16⟩
  | .hbm, ⟨9, _⟩ => ⟨S1x1024, .f32⟩
  | .hbm, ⟨10, _⟩ => ⟨S4096x1024, .f32⟩
  | .hbm, ⟨11, _⟩ => ⟨S4096x1024, .bf16⟩
  | .hbm, ⟨12, _⟩ => ⟨S1x1024, .f32⟩
  | .local _ .vmem, ⟨0, _⟩ => ⟨S512x1536, .bf16⟩
  | .local _ .vmem, ⟨1, _⟩ => ⟨S512x1536, .bf16⟩
  | .local _ .vmem, ⟨2, _⟩ => ⟨S4x1024x384, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v34 : BitVec 1 := Scalar.cmpi .eq arg0 c0_i32
  let v38 : BitVec 32 := Scalar.extui v34
  let c0_i32_22 : BitVec 32 := 0#32
  let v39 : BitVec 1 := Scalar.cmpi .ne v38 c0_i32_22
  v39

def k0_cond2 (i : grid0.Coords) : BitVec 1 :=
  let arg0 : BitVec 32 := BitVec.ofNat 32 (i 0).val
  let c0_i32 : BitVec 32 := 0#32
  let v34 : BitVec 1 := Scalar.cmpi .eq arg0 c0_i32
  let v_true : BitVec 1 := 1#1
  let v40 : BitVec 1 := Scalar.xori v34 v_true
  let v41 : BitVec 32 := Scalar.extui v40
  let c0_i32_23 : BitVec 32 := 0#32
  let v42 : BitVec 1 := Scalar.cmpi .ne v41 c0_i32_23
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference3Ideal.lean ====
abbrev S4096x1024 : Shape := ⟨2, ![4096, 1024]⟩
abbrev S1024 : Shape := ⟨1, ![1024]⟩
abbrev S1024x1536 : Shape := ⟨2, ![1024, 1536]⟩
abbrev S4096x1536 : Shape := ⟨2, ![4096, 1536]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1536, .f32⟩
  | .hbm, ⟨3, _⟩ => ⟨S4096x1024, .f32⟩
  | .hbm, ⟨4, _⟩ => ⟨S4096x1536, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1536, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | .hbm, ⟨54, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel4.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S4x704x1024 : Shape := ⟨3, ![4, 704, 1024]⟩
abbrev S4096x4x704 : Shape := ⟨3, ![4096, 4, 704]⟩
abbrev S4x4096x704 : Shape := ⟨3, ![4, 4096, 704]⟩
abbrev S1x1024 : Shape := ⟨2, ![1, 1024]⟩
abbrev S1x128 : Shape := ⟨2, ![1, 128]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 15
  | .vmem => 14
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S2816x1024, .bf16⟩
  | .hbm, ⟨6, _⟩ => ⟨S4x704x1024, .bf16⟩
  | .hbm, ⟨7, _⟩ => ⟨S4096x4x704, .f32⟩
  | .hbm, ⟨8, _⟩ => ⟨S4x4096x704, .f32⟩
  | .hbm, ⟨9, _⟩ => ⟨S4x4096x704, .bf16⟩
  | .hbm, ⟨10, _⟩ => ⟨S1x1024, .f32⟩
  | .hbm, ⟨11, _⟩ => ⟨S4096x1024, .f32⟩
  | .hbm, ⟨12, _⟩ => ⟨S4096x1024, .bf16⟩
  | .hbm, ⟨13, _⟩ => ⟨S1x128, .f32⟩
  | .hbm, ⟨14, _⟩ => ⟨S1x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x704x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x128, .f32⟩
  | .local _ .vmem, ⟨13, _⟩ => ⟨S1x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v54 : BitVec 1 := Scalar.cmpi .eq arg0 c0_i32
  let v57 : BitVec 32 := Scalar.extui v54
  let c0_i32_38 : BitVec 32 := 0#32
  let v58 : BitVec 1 := Scalar.cmpi .ne v57 c0_i32_38
  v58

def k0_cond2 (i : grid0.Coords) : BitVec 1 :=
  let arg0 : BitVec 32 := BitVec.ofNat 32 (i 0).val
  let c0_i32 : BitVec 32 := 0#32
  let v54 : BitVec 1 := Scalar.cmpi .eq arg0 c0_i32
  let v_true : BitVec 1 := 1#1
  let v59 : BitVec 1 := Scalar.xori v54 v_true
  let v60 : BitVec 32 := Scalar.extui v59
  let c0_i32_39 : BitVec 32 := 0#32
  let v61 : BitVec 1 := Scalar.cmpi .ne v60 c0_i32_39
  v61

def k0_cond3 (i : grid0.Coords) : BitVec 1 :=
  let arg0 : BitVec 32 := BitVec.ofNat 32 (i 0).val
  let c0_i32_40 : BitVec 32 := 0#32
  let v62 : BitVec 1 := Scalar.cmpi .eq arg0 c0_i32_40
  let v66 : BitVec 32 := Scalar.extui v62
  let c0_i32_42 : BitVec 32 := 0#32
  let v67 : BitVec 1 := Scalar.cmpi .ne v66 c0_i32_42
  v67

def k0_cond4 (i : grid0.Coords) : BitVec 1 :=
  let arg0 : BitVec 32 := BitVec.ofNat 32 (i 0).val
  let c0_i32_40 : BitVec 32 := 0#32
  let v62 : BitVec 1 := Scalar.cmpi .eq arg0 c0_i32_40
  let true_43 : BitVec 1 := 1#1
  let v68 : BitVec 1 := Scalar.xori v62 true_43
  let v69 : BitVec 32 := Scalar.extui v68
  let c0_i32_44 : BitVec 32 := 0#32
  let v70 : BitVec 1 := Scalar.cmpi .ne v69 c0_i32_44
  v70

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference4Ideal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S4096, .f32⟩
  | .hbm, ⟨48, _⟩ => ⟨S_, .f32⟩
  | .hbm, ⟨49, _⟩ => ⟨S4096, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S4096x1024, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S4096x1024, .f32⟩
  | .hbm, ⟨66, _⟩ => ⟨S4096x1024, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S_, .f32⟩
  | .hbm, ⟨72, _⟩ => ⟨S4096, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .bf16⟩
  | .hbm, ⟨79, _⟩ => ⟨S1x128, .f32⟩
  | .hbm, ⟨80, _⟩ => ⟨S1x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_cst_9 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_cst_11 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_12 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_13 : Ref sig .tc := ⟨.hbm, 59, rfl⟩
abbrev main_v40 : Ref sig .tc := ⟨.hbm, 60, rfl⟩
abbrev main_v41 : Ref sig .tc := ⟨.hbm, 61, rfl⟩
abbrev main_cst_14 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_cst_16 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩

abbrev nD : Nat := 1
abbrev τ : Topo := Topo.v7x

variable {F : FTy → Type} [FloatOps F]
-- ==== Kernel5.lean ====
abbrev S4096x1024 : Shape := ⟨2, ![4096, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel6.lean ====
abbrev S4096x1024 : Shape := ⟨2, ![4096, 1024]⟩
abbrev S1024x2816 : Shape := ⟨2, ![1024, 2816]⟩
abbrev S2816x1024 : Shape := ⟨2, ![2816, 1024]⟩
abbrev S4x704x1024 : Shape := ⟨3, ![4, 704, 1024]⟩
abbrev S4x4096x704 : Shape := ⟨3, ![4, 4096, 704]⟩
abbrev S1024x1024 : Shape := ⟨2, ![1024, 1024]⟩
abbrev S1x1024x704 : Shape := ⟨3, ![1, 1024, 704]⟩
abbrev S1x704x1024 : Shape := ⟨3, ![1, 704, 1024]⟩
abbrev S704x1024 : Shape := ⟨2, ![704, 1024]⟩
abbrev S1024x704 : Shape := ⟨2, ![1024, 704]⟩

abbrev nBuf : Space → Nat
  | .hbm => 13
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x1024, .bf16⟩
  | .hbm, ⟨4, _⟩ => ⟨S2816x1024, .f32⟩
  | .hbm, ⟨5, _⟩ => ⟨S4x704x1024, .f32⟩
  | .hbm, ⟨6, _⟩ => ⟨S4x704x1024, .bf16⟩
  | .hbm, ⟨7, _⟩ => ⟨S2816x1024, .f32⟩
  | .hbm, ⟨8, _⟩ => ⟨S4x704x1024, .f32⟩
  | .hbm, ⟨9, _⟩ => ⟨S4x704x1024, .bf16⟩
  | .hbm, ⟨10, _⟩ => ⟨S4x4096x704, .bf16⟩
  | .hbm, ⟨11, _⟩ => ⟨S4x4096x704, .bf16⟩
  | .hbm, ⟨12, _⟩ => ⟨S4x4096x704, .bf16⟩
  | .local _ .vmem, ⟨0, _⟩ => ⟨S1024x1024, .bf16⟩
  | .local _ .vmem, ⟨1, _⟩ => ⟨S1024x1024, .bf16⟩
  | .local _ .vmem, ⟨2, _⟩ => ⟨S4x704x1024, .bf16⟩
  | .local _ .vmem, ⟨3, _⟩ => ⟨S4x704x1024, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v7_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 4], ![false, false]⟩

def k0_off1 (i : grid0.Coords) : Fin 3 → Nat :=
  let arg1 : BitVec 32 := BitVec.ofNat 32 (i 1).val
  let v2 : Index := Scalar.indexCast arg1
  let c0_1 : Index := 0#32
  let c0_2 : Index := 0#32
  ![v2.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S4096x1024 : Shape := ⟨2, ![4096, 1024]⟩
abbrev S1024x2816 : Shape := ⟨2, ![1024, 2816]⟩
abbrev S4096x2816 : Shape := ⟨2, ![4096, 2816]⟩
abbrev S4096x4x704 : Shape := ⟨3, ![4096, 4, 704]⟩
abbrev S4x4096x704 : Shape := ⟨3, ![4, 4096, 704]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x2816, .f32⟩
  | .hbm, ⟨4, _⟩ => ⟨S4096x2816, .f32⟩
  | .hbm, ⟨5, _⟩ => ⟨S4096x4x704, .f32⟩
  | .hbm, ⟨6, _⟩ => ⟨S4x4096x704, .f32⟩
  | .hbm, ⟨7, _⟩ => ⟨S4x4096x704, .bf16⟩
  | .hbm, ⟨8, _⟩ => ⟨S4096x4x704, .f32⟩
  | .hbm, ⟨9, _⟩ => ⟨S4x4096x704, .f32⟩
  | .hbm, ⟨10, _⟩ => ⟨S4x4096x704, .bf16⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x4x704, .f32⟩
  | .hbm, ⟨22, _⟩ => ⟨S4x4096x704, .f32⟩
  | .hbm, ⟨23, _⟩ => ⟨S4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]
-- ==== Kernel7.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S4x704x1024 : Shape := ⟨3, ![4, 704, 1024]⟩
abbrev S4096x4x704 : Shape := ⟨3, ![4096, 4, 704]⟩
abbrev S4x4096x704 : Shape := ⟨3, ![4, 4096, 704]⟩
abbrev S1x1024 : Shape := ⟨2, ![1, 1024]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩
abbrev S512x1 : Shape := ⟨2, ![512, 1]⟩

abbrev nBuf : Space → Nat
  | .hbm => 12
  | .vmem => 10
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S2816x1024, .bf16⟩
  | .hbm, ⟨5, _⟩ => ⟨S4x704x1024, .bf16⟩
  | .hbm, ⟨6, _⟩ => ⟨S4096x4x704, .f32⟩
  | .hbm, ⟨7, _⟩ => ⟨S4x4096x704, .f32⟩
  | .hbm, ⟨8, _⟩ => ⟨S4x4096x704, .bf16⟩
  | .hbm, ⟨9, _⟩ => ⟨S1x1024, .f32⟩
  | .hbm, ⟨10, _⟩ => ⟨S4096x1024, .f32⟩
  | .hbm, ⟨11, _⟩ => ⟨S4096x1024, .bf16⟩
  | .local _ .vmem, ⟨0, _⟩ => ⟨S4x512x704, .bf16⟩
  | .local _ .vmem, ⟨1, _⟩ => ⟨S4x512x704, .bf16⟩
  | .local _ .vmem, ⟨2, _⟩ => ⟨S4x704x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel8.lean ====
abbrev S4096x512 : Shape := ⟨2, ![4096, 512]⟩
abbrev S1024x1024 : Shape := ⟨2, ![1024, 1024]⟩
abbrev S4096x1024 : Shape := ⟨2, ![4096, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 11
  | .vmem => 10
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1024x1024, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S4096x1024, .bf16⟩
  | .hbm, ⟨7, _⟩ => ⟨S1024x1024, .bf16⟩
  | .hbm, ⟨8, _⟩ => ⟨S1x1024, .f32⟩
  | .hbm, ⟨9, _⟩ => ⟨S4096x1024, .f32⟩
  | .hbm, ⟨10, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference8Ideal.lean ====
abbrev S4096x512 : Shape := ⟨2, ![4096, 512]⟩
abbrev S1024x1024 : Shape := ⟨2, ![1024, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1024x1024, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Kernel9.lean ====
abbrev S4096x1536 : Shape := ⟨2, ![4096, 1536]⟩
abbrev S4096x512 : Shape := ⟨2, ![4096, 512]⟩
abbrev S31x512 : Shape := ⟨2, ![31, 512]⟩
abbrev S512 : Shape := ⟨1, ![512]⟩
abbrev S1x512 : Shape := ⟨2, ![1, 512]⟩
abbrev S8x8 : Shape := ⟨2, ![8, 8]⟩
abbrev S_ : Shape := ⟨0, ![]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S4096x1024 : Shape := ⟨2, ![4096, 1024]⟩
abbrev S256x512 : Shape := ⟨2, ![256, 512]⟩
abbrev S256x1024 : Shape := ⟨2, ![256, 1024]⟩
abbrev S288x512 : Shape := ⟨2, ![288, 512]⟩
abbrev S32x512 : Shape := ⟨2, ![32, 512]⟩
abbrev S40x512 : Shape := ⟨2, ![40, 512]⟩

abbrev nBuf : Space → Nat
  | .hbm => 29
  | .vmem => 16
  | .smem => 0
  | _ => 0

abbrev bufTy : (tb : Table) → Fin (tcTables nBuf tb) → BufTy
  | .hbm, ⟨0, _⟩ => ⟨S4096x1536, .f32⟩
  | .hbm, ⟨1, _⟩ => ⟨S4096x512, .f32⟩
  | .hbm, ⟨2, _⟩ => ⟨S31x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S4096x512, .bf16⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S8x8, .i32⟩
  | .hbm, ⟨11, _⟩ => ⟨S8x8, .i32⟩
  | .hbm, ⟨12, _⟩ => ⟨S_, .i32⟩
  | .hbm, ⟨13, _⟩ => ⟨S8x8, .i32⟩
  | .hbm, ⟨14, _⟩ => ⟨S8x8, .i32⟩
  | .hbm, ⟨15, _⟩ => ⟨S8x8, .i1⟩
  | .hbm, ⟨16, _⟩ => ⟨S8x8, .f32⟩
  | .hbm, ⟨17, _⟩ => ⟨S_, .f32⟩
  | .hbm, ⟨18, _⟩ => ⟨S64x64, .f32⟩
  | .hbm, ⟨19, _⟩ => ⟨S64x64, .f32⟩
  | .hbm, ⟨20, _⟩ => ⟨S8x1x8x1, .f32⟩
  | .hbm, ⟨21, _⟩ => ⟨S1x64x1x64, .f32⟩
  | .hbm, ⟨22, _⟩ => ⟨S8x64x8x64, .f32⟩
  | .hbm, ⟨23, _⟩ => ⟨S8x64x8x64, .f32⟩
  | .hbm, ⟨24, _⟩ => ⟨S8x64x8x64, .f32⟩
  | .hbm, ⟨25, _⟩ => ⟨S512x512, .f32⟩
  | .hbm, ⟨26, _⟩ => ⟨S512x512, .bf16⟩
  | .hbm, ⟨27, _⟩ => ⟨S4096x512, .f32⟩
  | .hbm, ⟨28, _⟩ => ⟨S4096x1024, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .bf16⟩
  | .local _ .vmem, ⟨5, _⟩ => ⟨S256x512, .bf16⟩
  | .local _ .vmem, ⟨6, _⟩ => ⟨S31x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S512x512, .bf16⟩
  | .local _ .vmem, ⟨11, _⟩ => ⟨S256x512, .f32⟩
  | .local _ .vmem, ⟨12, _⟩ => ⟨S256x512, .f32⟩
  | .local _ .vmem, ⟨13, _⟩ => ⟨S256x1024, .bf16⟩
  | .local _ .vmem, ⟨14, _⟩ => ⟨S256x1024, .bf16⟩
  | .local _ .vmem, ⟨15, _⟩ => ⟨S288x512, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_v11 : Ref sig .tc := ⟨.hbm, 25, rfl⟩
abbrev main_v12 : Ref sig .tc := ⟨.hbm, 26, rfl⟩
abbrev main_v13_0 : Ref sig .tc := ⟨.hbm, 27, rfl⟩
abbrev main_v13_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S31x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference9Ideal.lean ====
abbrev S4096x1536 : Shape := ⟨2, ![4096, 1536]⟩
abbrev S4096x512 : Shape := ⟨2, ![4096, 512]⟩
abbrev S31x512 : Shape := ⟨2, ![31, 512]⟩
abbrev S512 : Shape := ⟨1, ![512]⟩
abbrev S4096x1024 : Shape := ⟨2, ![4096, 1024]⟩
abbrev S_ : Shape := ⟨0, ![]⟩
abbrev S30x512 : Shape := ⟨2, ![30, 512]⟩
abbrev S4126x512 : Shape := ⟨2, ![4126, 512]⟩
abbrev S1x4096x512 : Shape := ⟨3, ![1, 4096, 512]⟩
abbrev S16x4096x512 : Shape := ⟨3, ![16, 4096, 512]⟩
abbrev S15x4096x512 : Shape := ⟨3, ![15, 4096, 512]⟩
abbrev S31x4096x512 : Shape := ⟨3, ![31, 4096, 512]⟩
abbrev S31x1x512 : Shape := ⟨3, ![31, 1, 512]⟩
abbrev S1x512 : Shape := ⟨2, ![1, 512]⟩
abbrev S4096x8x64 : Shape := ⟨3, ![4096, 8, 64]⟩
abbrev S4096x8 : Shape := ⟨2, ![4096, 8]⟩
abbrev S4096x8x1 : Shape := ⟨3, ![4096, 8, 1]⟩

abbrev nBuf : Space → Nat
  | .hbm => 136
  | .vmem => 0
  | .smem => 0
  | _ => 0

abbrev hbmTy0_0 (i : Nat) : BufTy := match i % 128 with
  | 0 => ⟨S4096x1536, .f32⟩
  | 1 => ⟨S4096x512, .f32⟩
  | 2 => ⟨S31x512, .f32⟩
  | 3 => ⟨S512, .f32⟩
  | 4 => ⟨S512, .f32⟩
  | 5 => ⟨S512, .f32⟩
  | 6 => ⟨S4096x1024, .f32⟩
  | 7 => ⟨S4096x512, .f32⟩
  | 8 => ⟨S4096x512, .f32⟩
  | 9 => ⟨S4096x512, .f32⟩
  | 10 => ⟨S4096x512, .f32⟩
  | 11 => ⟨S_, .f32⟩
  | 12 => ⟨S4096x512, .f32⟩
  | 13 => ⟨S4096x512, .f32⟩
  | 14 => ⟨S_, .f32⟩
  | 15 => ⟨S4096x512, .f32⟩
  | 16 => ⟨S4096x512, .f32⟩
  | 17 => ⟨S4096x512, .f32⟩
  | 18 => ⟨S_, .f32⟩
  | 19 => ⟨S30x512, .f32⟩
  | 20 => ⟨S4126x512, .f32⟩
  | 21 => ⟨S4096x512, .f32⟩
  | 22 => ⟨S4096x512, .f32⟩
  | 23 => ⟨S4096x512, .f32⟩
  | 24 => ⟨S4096x512, .f32⟩
  | 25 => ⟨S4096x512, .f32⟩
  | 26 => ⟨S4096x512, .f32⟩
  | 27 => ⟨S4096x512, .f32⟩
  | 28 => ⟨S4096x512, .f32⟩
  | 29 => ⟨S4096x512, .f32⟩
  | 30 => ⟨S4096x512, .f32⟩
  | 31 => ⟨S4096x512, .f32⟩
  | 32 => ⟨S4096x512, .f32⟩
  | 33 => ⟨S4096x512, .f32⟩
  | 34 => ⟨S4096x512, .f32⟩
  | 35 => ⟨S4096x512, .f32⟩
  | 36 => ⟨S4096x512, .f32⟩
  | 37 => ⟨S4096x512, .f32⟩
  | 38 => ⟨S4096x512, .f32⟩
  | 39 => ⟨S4096x512, .f32⟩
  | 40 => ⟨S4096x512, .f32⟩
  | 41 => ⟨S4096x512, .f32⟩
  | 42 => ⟨S4096x512, .f32⟩
  | 43 => ⟨S4096x512, .f32⟩
  | 44 => ⟨S4096x512, .f32⟩
  | 45 => ⟨S4096x512, .f32⟩
  | 46 => ⟨S4096x512, .f32⟩
  | 47 => ⟨S4096x512, .f32⟩
  | 48 => ⟨S4096x512, .f32⟩
  | 49 => ⟨S4096x512, .f32⟩
  | 50 => ⟨S4096x512, .f32⟩
  | 51 => ⟨S4096x512, .f32⟩
  | 52 => ⟨S1x4096x512, .f32⟩
  | 53 => ⟨S1x4096x512, .f32⟩
  | 54 => ⟨S1x4096x512, .f32⟩
  | 55 => ⟨S1x4096x512, .f32⟩
  | 56 => ⟨S1x4096x512, .f32⟩
  | 57 => ⟨S1x4096x512, .f32⟩
  | 58 => ⟨S1x4096x512, .f32⟩
  | 59 => ⟨S1x4096x512, .f32⟩
  | 60 => ⟨S1x4096x512, .f32⟩
  | 61 => ⟨S1x4096x512, .f32⟩
  | 62 => ⟨S1x4096x512, .f32⟩
  | 63 => ⟨S1x4096x512, .f32⟩
  | 64 => ⟨S1x4096x512, .f32⟩
  | 65 => ⟨S1x4096x512, .f32⟩
  | 66 => ⟨S1x4096x512, .f32⟩
  | 67 => ⟨S1x4096x512, .f32⟩
  | 68 => ⟨S1x4096x512, .f32⟩
  | 69 => ⟨S1x4096x512, .f32⟩
  | 70 => ⟨S1x4096x512, .f32⟩
  | 71 => ⟨S1x4096x512, .f32⟩
  | 72 => ⟨S1x4096x512, .f32⟩
  | 73 => ⟨S1x4096x512, .f32⟩
  | 74 => ⟨S1x4096x512, .f32⟩
  | 75 => ⟨S1x4096x512, .f32⟩
  | 76 => ⟨S1x4096x512, .f32⟩
  | 77 => ⟨S1x4096x512, .f32⟩
  | 78 => ⟨S1x4096x512, .f32⟩
  | 79 => ⟨S1x4096x512, .f32⟩
  | 80 => ⟨S1x4096x512, .f32⟩
  | 81 => ⟨S1x4096x512, .f32⟩
  | 82 => ⟨S1x4096x512, .f32⟩
  | 83 => ⟨S16x4096x512, .f32⟩
  | 84 => ⟨S15x4096x512, .f32⟩
  | 85 => ⟨S31x4096x512, .f32⟩
  | 86 => ⟨S31x1x512, .f32⟩
  | 87 => ⟨S31x4096x512, .f32⟩
  | 88 => ⟨S31x4096x512, .f32⟩
  | 89 => ⟨S_, .f32⟩
  | 90 => ⟨S4096x512, .f32⟩
  | 91 => ⟨S1x512, .f32⟩
  | 92 => ⟨S4096x512, .f32⟩
  | 93 => ⟨S4096x512, .f32⟩
  | 94 => ⟨S4096x8x64, .f32⟩
  | 95 => ⟨S_, .f32⟩
  | 96 => ⟨S4096x8, .f32⟩
  | 97 => ⟨S4096x8x1, .f32⟩
  | 98 => ⟨S_, .f32⟩
  | 99 => ⟨S4096x8x1, .f32⟩
  | 100 => ⟨S4096x8x1, .f32⟩
  | 101 => ⟨S4096x8x64, .f32⟩
  | 102 => ⟨S4096x8x64, .f32⟩
  | 103 => ⟨S4096x8x64, .f32⟩
  | 104 => ⟨S_, .f32⟩
  | 105 => ⟨S4096x8, .f32⟩
  | 106 => ⟨S4096x8x1, .f32⟩
  | 107 => ⟨S_, .f32⟩
  | 108 => ⟨S4096x8x1, .f32⟩
  | 109 => ⟨S4096x8x1, .f32⟩
  | 110 => ⟨S4096x8x64, .f32⟩
  | 111 => ⟨S4096x8x64, .f32⟩
  | 112 => ⟨S_, .f32⟩
  | 113 => ⟨S4096x8x1, .f32⟩
  | 114 => ⟨S4096x8x1, .f32⟩
  | 115 => ⟨S4096x8x1, .f32⟩
  | 116 => ⟨S4096x8x64, .f32⟩
  | 117 => ⟨S4096x8x64, .f32⟩
  | 118 => ⟨S4096x512, .f32⟩
  | 119 => ⟨S1x512, .f32⟩
  | 120 => ⟨S4096x512, .f32⟩
  | 121 => ⟨S4096x512, .f32⟩
  | 122 => ⟨S1x512, .f32⟩
  | 123 => ⟨S4096x512, .f32⟩
  | 124 => ⟨S4096x512, .f32⟩
  | 125 => ⟨S4096x512, .f32⟩
  | 126 => ⟨S4096x512, .f32⟩
  | 127 => ⟨S_, .f32⟩
  | _ => ⟨S4096x1536, .f32⟩

abbrev hbmTy0_1 (i : Nat) : BufTy := match i % 128 with
  | 0 => ⟨S4096x512, .f32⟩
  | 1 => ⟨S4096x512, .f32⟩
  | 2 => ⟨S_, .f32⟩
  | 3 => ⟨S4096x512, .f32⟩
  | 4 => ⟨S4096x512, .f32⟩
  | 5 => ⟨S4096x512, .f32⟩
  | 6 => ⟨S4096x1024, .f32⟩
  | 7 => ⟨S4096x1024, .bf16⟩
  | _ => ⟨S4096x1536, .f32⟩

abbrev hbmTy (i : Nat) : BufTy := match i / 128 with
  | 0 => hbmTy0_0 i
  | 1 => hbmTy0_1 i
  | _ => ⟨S4096x1536, .f32⟩

abbrev bufTy : (tb : Table) → Fin (tcTables nBuf tb) → BufTy
  | .hbm, ⟨i, _⟩ => hbmTy i
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_cst_2 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_cst_3 : Ref sig .tc := ⟨.hbm, 95, rfl⟩
abbrev main_v85 : Ref sig .tc := ⟨.hbm, 96, rfl⟩
abbrev main_v86 : Ref sig .tc := ⟨.hbm, 97, rfl⟩
abbrev main_cst_4 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_cst_5 : Ref sig .tc := ⟨.hbm, 104, rfl⟩
abbrev main_v92 : Ref sig .tc := ⟨.hbm, 105, rfl⟩
abbrev main_v93 : Ref sig .tc := ⟨.hbm, 106, rfl⟩
abbrev main_cst_6 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_cst_7 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_call0_v0 : Ref sig .tc := ⟨.hbm, 125, rfl⟩
abbrev main_call0_v1 : Ref sig .tc := ⟨.hbm, 126, rfl⟩
abbrev main_call0_cst : Ref sig .tc := ⟨.hbm, 127, rfl⟩
abbrev main_call0_v2 : Ref sig .tc := ⟨.hbm, 128, rfl⟩
abbrev main_call0_v3 : Ref sig .tc := ⟨.hbm, 129, rfl⟩
abbrev main_call0_cst_0 : Ref sig .tc := ⟨.hbm, 130, rfl⟩
abbrev main_call0_v4 : Ref sig .tc := ⟨.hbm, 131, rfl⟩
abbrev main_call0_v5 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩

abbrev nD : Nat := 1
abbrev τ : Topo := Topo.v7x

variable {F : FTy → Type} [FloatOps F]
-- ==== Kernel10.lean ====
abbrev S4096x1536 : Shape := ⟨2, ![4096, 1536]⟩
abbrev S31x512 : Shape := ⟨2, ![31, 512]⟩
abbrev S512 : Shape := ⟨1, ![512]⟩
abbrev S4096x512 : Shape := ⟨2, ![4096, 512]⟩
abbrev S4096x1024 : Shape := ⟨2, ![4096, 1024]⟩
abbrev S_ : Shape := ⟨0, ![]⟩
abbrev S30x512 : Shape := ⟨2, ![30, 512]⟩
abbrev S4126x512 : Shape := ⟨2, ![4126, 512]⟩
abbrev S1x4096x512 : Shape := ⟨3, ![1, 4096, 512]⟩
abbrev S16x4096x512 : Shape := ⟨3, ![16, 4096, 512]⟩
abbrev S15x4096x512 : Shape := ⟨3, ![15, 4096, 512]⟩
abbrev S31x4096x512 : Shape := ⟨3, ![31, 4096, 512]⟩
abbrev S31x1x512 : Shape := ⟨3, ![31, 1, 512]⟩
abbrev S1x512 : Shape := ⟨2, ![1, 512]⟩
abbrev S8x8 : Shape := ⟨2, ![8, 8]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S256x512 : Shape := ⟨2, ![256, 512]⟩
abbrev S32x512 : Shape := ⟨2, ![32, 512]⟩
abbrev S256x1536 : Shape := ⟨2, ![256, 1536]⟩
abbrev S288x512 : Shape := ⟨2, ![288, 512]⟩
abbrev S8x512 : Shape := ⟨2, ![8, 512]⟩
abbrev S4x8x512 : Shape := ⟨3, ![4, 8, 512]⟩
abbrev S7x512 : Shape := ⟨2, ![7, 512]⟩
abbrev S40x512 : Shape := ⟨2, ![40, 512]⟩
abbrev S5x8x512 : Shape := ⟨3, ![5, 8, 512]⟩
abbrev S2x512 : Shape := ⟨2, ![2, 512]⟩
abbrev S6x512 : Shape := ⟨2, ![6, 512]⟩
abbrev S3x512 : Shape := ⟨2, ![3, 512]⟩
abbrev S5x512 : Shape := ⟨2, ![5, 512]⟩
abbrev S4x512 : Shape := ⟨2, ![4, 512]⟩
abbrev S32x8x512 : Shape := ⟨3, ![32, 8, 512]⟩

abbrev nBuf : Space → Nat
  | .hbm => 125
  | .vmem => 27
  | .smem => 0
  | _ => 0

abbrev bufTy : (tb : Table) → Fin (tcTables nBuf tb) → BufTy
  | .hbm, ⟨0, _⟩ => ⟨S4096x1536, .f32⟩
  | .hbm, ⟨1, _⟩ => ⟨S31x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S4096x512, .f32⟩
  | .hbm, ⟨6, _⟩ => ⟨S4096x1024, .f32⟩
  | .hbm, ⟨7, _⟩ => ⟨S4096x1024, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S_, .f32⟩
  | .hbm, ⟨13, _⟩ => ⟨S4096x512, .f32⟩
  | .hbm, ⟨14, _⟩ => ⟨S4096x512, .f32⟩
  | .hbm, ⟨15, _⟩ => ⟨S_, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S_, .f32⟩
  | .hbm, ⟨20, _⟩ => ⟨S30x512, .f32⟩
  | .hbm, ⟨21, _⟩ => ⟨S4126x512, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S4096x512, .f32⟩
  | .hbm, ⟨42, _⟩ => ⟨S4096x512, .f32⟩
  | .hbm, ⟨43, _⟩ => ⟨S4096x512, .f32⟩
  | .hbm, ⟨44, _⟩ => ⟨S4096x512, .f32⟩
  | .hbm, ⟨45, _⟩ => ⟨S4096x512, .f32⟩
  | .hbm, ⟨46, _⟩ => ⟨S4096x512, .f32⟩
  | .hbm, ⟨47, _⟩ => ⟨S4096x512, .f32⟩
  | .hbm, ⟨48, _⟩ => ⟨S4096x512, .f32⟩
  | .hbm, ⟨49, _⟩ => ⟨S4096x512, .f32⟩
  | .hbm, ⟨50, _⟩ => ⟨S4096x512, .f32⟩
  | .hbm, ⟨51, _⟩ => ⟨S4096x512, .f32⟩
  | .hbm, ⟨52, _⟩ => ⟨S4096x512, .f32⟩
  | .hbm, ⟨53, _⟩ => ⟨S1x4096x512, .f32⟩
  | .hbm, ⟨54, _⟩ => ⟨S1x4096x512, .f32⟩
  | .hbm, ⟨55, _⟩ => ⟨S1x4096x512, .f32⟩
  | .hbm, ⟨56, _⟩ => ⟨S1x4096x512, .f32⟩
  | .hbm, ⟨57, _⟩ => ⟨S1x4096x512, .f32⟩
  | .hbm, ⟨58, _⟩ => ⟨S1x4096x512, .f32⟩
  | .hbm, ⟨59, _⟩ => ⟨S1x4096x512, .f32⟩
  | .hbm, ⟨60, _⟩ => ⟨S1x4096x512, .f32⟩
  | .hbm, ⟨61, _⟩ => ⟨S1x4096x512, .f32⟩
  | .hbm, ⟨62, _⟩ => ⟨S1x4096x512, .f32⟩
  | .hbm, ⟨63, _⟩ => ⟨S1x4096x512, .f32⟩
  | .hbm, ⟨64, _⟩ => ⟨S1x4096x512, .f32⟩
  | .hbm, ⟨65, _⟩ => ⟨S1x4096x512, .f32⟩
  | .hbm, ⟨66, _⟩ => ⟨S1x4096x512, .f32⟩
  | .hbm, ⟨67, _⟩ => ⟨S1x4096x512, .f32⟩
  | .hbm, ⟨68, _⟩ => ⟨S1x4096x512, .f32⟩
  | .hbm, ⟨69, _⟩ => ⟨S1x4096x512, .f32⟩
  | .hbm, ⟨70, _⟩ => ⟨S1x4096x512, .f32⟩
  | .hbm, ⟨71, _⟩ => ⟨S1x4096x512, .f32⟩
  | .hbm, ⟨72, _⟩ => ⟨S1x4096x512, .f32⟩
  | .hbm, ⟨73, _⟩ => ⟨S1x4096x512, .f32⟩
  | .hbm, ⟨74, _⟩ => ⟨S1x4096x512, .f32⟩
  | .hbm, ⟨75, _⟩ => ⟨S1x4096x512, .f32⟩
  | .hbm, ⟨76, _⟩ => ⟨S1x4096x512, .f32⟩
  | .hbm, ⟨77, _⟩ => ⟨S1x4096x512, .f32⟩
  | .hbm, ⟨78, _⟩ => ⟨S1x4096x512, .f32⟩
  | .hbm, ⟨79, _⟩ => ⟨S1x4096x512, .f32⟩
  | .hbm, ⟨80, _⟩ => ⟨S1x4096x512, .f32⟩
  | .hbm, ⟨81, _⟩ => ⟨S1x4096x512, .f32⟩
  | .hbm, ⟨82, _⟩ => ⟨S1x4096x512, .f32⟩
  | .hbm, ⟨83, _⟩ => ⟨S1x4096x512, .f32⟩
  | .hbm, ⟨84, _⟩ => ⟨S16x4096x512, .f32⟩
  | .hbm, ⟨85, _⟩ => ⟨S15x4096x512, .f32⟩
  | .hbm, ⟨86, _⟩ => ⟨S31x4096x512, .f32⟩
  | .hbm, ⟨87, _⟩ => ⟨S31x1x512, .f32⟩
  | .hbm, ⟨88, _⟩ => ⟨S31x4096x512, .f32⟩
  | .hbm, ⟨89, _⟩ => ⟨S31x4096x512, .f32⟩
  | .hbm, ⟨90, _⟩ => ⟨S_, .f32⟩
  | .hbm, ⟨91, _⟩ => ⟨S4096x512, .f32⟩
  | .hbm, ⟨92, _⟩ => ⟨S1x512, .f32⟩
  | .hbm, ⟨93, _⟩ => ⟨S4096x512, .f32⟩
  | .hbm, ⟨94, _⟩ => ⟨S4096x512, .f32⟩
  | .hbm, ⟨95, _⟩ => ⟨S4096x1024, .bf16⟩
  | .hbm, ⟨96, _⟩ => ⟨S4096x512, .bf16⟩
  | .hbm, ⟨97, _⟩ => ⟨S1x512, .f32⟩
  | .hbm, ⟨98, _⟩ => ⟨S1x512, .f32⟩
  | .hbm, ⟨99, _⟩ => ⟨S8x8, .i32⟩
  | .hbm, ⟨100, _⟩ => ⟨S8x8, .i32⟩
  | .hbm, ⟨101, _⟩ => ⟨S_, .i32⟩
  | .hbm, ⟨102, _⟩ => ⟨S8x8, .i32⟩
  | .hbm, ⟨103, _⟩ => ⟨S8x8, .i32⟩
  | .hbm, ⟨104, _⟩ => ⟨S8x8, .i1⟩
  | .hbm, ⟨105, _⟩ => ⟨S8x8, .f32⟩
  | .hbm, ⟨106, _⟩ => ⟨S_, .f32⟩
  | .hbm, ⟨107, _⟩ => ⟨S64x64, .f32⟩
  | .hbm, ⟨108, _⟩ => ⟨S64x64, .f32⟩
  | .hbm, ⟨109, _⟩ => ⟨S8x1x8x1, .f32⟩
  | .hbm, ⟨110, _⟩ => ⟨S1x64x1x64, .f32⟩
  | .hbm, ⟨111, _⟩ => ⟨S8x64x8x64, .f32⟩
  | .hbm, ⟨112, _⟩ => ⟨S8x64x8x64, .f32⟩
  | .hbm, ⟨113, _⟩ => ⟨S8x64x8x64, .f32⟩
  | .hbm, ⟨114, _⟩ => ⟨S512x512, .f32⟩
  | .hbm, ⟨115, _⟩ => ⟨S512x512, .bf16⟩
  | .hbm, ⟨116, _⟩ => ⟨S4096x1536, .bf16⟩
  | .hbm, ⟨117, _⟩ => ⟨S256x512, .f32⟩
  | .hbm, ⟨118, _⟩ => ⟨S1x512, .f32⟩
  | .hbm, ⟨119, _⟩ => ⟨S1x512, .f32⟩
  | .hbm, ⟨120, _⟩ => ⟨S1x512, .f32⟩
  | .hbm, ⟨121, _⟩ => ⟨S32x8x512, .f32⟩
  | .hbm, ⟨122, _⟩ => ⟨S_, .f32⟩
  | .hbm, ⟨123, _⟩ => ⟨S32x512, .f32⟩
  | .hbm, ⟨124, _⟩ => ⟨S31x512, .f32⟩
  | .local _ .vmem, ⟨0, _⟩ => ⟨S256x512, .bf16⟩
  | .local _ .vmem, ⟨1, _⟩ => ⟨S256x512, .bf16⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S32x512, .f32⟩
  | .local _ .vmem, ⟨9, _⟩ => ⟨S32x512, .f32⟩
  | .local _ .vmem, ⟨10, _⟩ => ⟨S32x512, .f32⟩
  | .local _ .vmem, ⟨11, _⟩ => ⟨S32x512, .f32⟩
  | .local _ .vmem, ⟨12, _⟩ => ⟨S256x512, .bf16⟩
  | .local _ .vmem, ⟨13, _⟩ => ⟨S256x512, .bf16⟩
  | .local _ .vmem, ⟨14, _⟩ => ⟨S31x512, .f32⟩
  | .local _ .vmem, ⟨15, _⟩ => ⟨S1x512, .f32⟩
  | .local _ .vmem, ⟨16, _⟩ => ⟨S1x512, .f32⟩
  | .local _ .vmem, ⟨17, _⟩ => ⟨S512x512, .bf16⟩
  | .local _ .vmem, ⟨18, _⟩ => ⟨S256x1536, .bf16⟩
  | .local _ .vmem, ⟨19, _⟩ => ⟨S256x1536, .bf16⟩
  | .local _ .vmem, ⟨20, _⟩ => ⟨S256x512, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S288x512, .f32⟩
  | .local _ .vmem, ⟨25, _⟩ => ⟨S288x512, .f32⟩
  | .local _ .vmem, ⟨26, _⟩ => ⟨S32x512, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_cst_2 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_c : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_cst_3 : Ref sig .tc := ⟨.hbm, 106, rfl⟩
abbrev main_v94 : Ref sig .tc := ⟨.hbm, 107, rfl⟩
abbrev main_call0_v0 : Ref sig .tc := ⟨.hbm, 108, rfl⟩
abbrev main_call0_v1 : Ref sig .tc := ⟨.hbm, 109, rfl⟩
abbrev main_call0_v2 : Ref sig .tc := ⟨.hbm, 110, rfl⟩
abbrev main_call0_v3 : Ref sig .tc := ⟨.hbm, 111, rfl⟩
abbrev main_call0_v4 : Ref sig .tc := ⟨.hbm, 112, rfl⟩
abbrev main_call0_v5 : Ref sig .tc := ⟨.hbm, 113, rfl⟩
abbrev main_v95 : Ref sig .tc := ⟨.hbm, 114, rfl⟩
abbrev main_v96 : Ref sig .tc := ⟨.hbm, 115, rfl⟩
abbrev main_v97_0 : Ref sig .tc := ⟨.hbm, 116, rfl⟩
abbrev main_v97_1 : Ref sig .tc := ⟨.hbm, 117, rfl⟩
abbrev main_v97_2 : Ref sig .tc := ⟨.hbm, 118, rfl⟩
abbrev main_v97_3 : Ref sig .tc := ⟨.hbm, 119, rfl⟩
abbrev main_v97_4 : Ref sig .tc := ⟨.hbm, 120, rfl⟩
abbrev main_v98 : Ref sig .tc := ⟨.hbm, 121, rfl⟩
abbrev main_cst_4 : Ref sig .tc := ⟨.hbm, 122, rfl⟩
abbrev main_v99 : Ref sig .tc := ⟨.hbm, 123, rfl⟩
abbrev main_v100 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem14_0 : DmaSem sig := 22
abbrev cc0_sem15_0 : DmaSem sig := 23

abbrev nD : Nat := 1
abbrev τ : Topo := Topo.v7x

variable {F : FTy → Type} [FloatOps F]

abbrev grid0 : Pipeline.Grid := ⟨1, ![16], ![false]⟩

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let v96 : BitVec 32 := Scalar.extui v0
  let c0_i32_37 : BitVec 32 := 0#32
  let v97 : BitVec 1 := Scalar.cmpi .ne v96 c0_i32_37
  v97

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let true_38 : BitVec 1 := 1#1
  let v98 : BitVec 1 := Scalar.xori v0 true_38
  let v99 : BitVec 32 := Scalar.extui v98
  let c0_i32_39 : BitVec 32 := 0#32
  let v100 : BitVec 1 := Scalar.cmpi .ne v99 c0_i32_39
  v100

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v62 : BitVec 32 := Scalar.extui v0
  let c0_i32_23 : BitVec 32 := 0#32
  let v63 : BitVec 1 := Scalar.cmpi .ne v62 c0_i32_23
  v63

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let true_24 : BitVec 1 := 1#1
  let v64 : BitVec 1 := Scalar.xori v0 true_24
  let v65 : BitVec 32 := Scalar.extui v64
  let c0_i32_25 : BitVec 32 := 0#32
  let v66 : BitVec 1 := Scalar.cmpi .ne v65 c0_i32_25
  v66

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v54 : BitVec 32 := Scalar.extui v0
  let c0_i32_20 : BitVec 32 := 0#32
  let v55 : BitVec 1 := Scalar.cmpi .ne v54 c0_i32_20
  v55

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v56 : BitVec 1 := Scalar.xori v0 v_true
  let v57 : BitVec 32 := Scalar.extui v56
  let c0_i32_21 : BitVec 32 := 0#32
  let v58 : BitVec 1 := Scalar.cmpi .ne v57 c0_i32_21
  v58

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c2_i32 : BitVec 32 := 2#32
  let c0_i32 : BitVec 32 := 0#32
  ![v0.toNat, c2_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c8_i32 : BitVec 32 := 8#32
  let v1 : BitVec 32 := Scalar.muli v0 c8_i32
  let c1_i32 : BitVec 32 := 1#32
  let v2 : BitVec 32 := Scalar.subi v1 c1_i32
  let c0_i32 : BitVec 32 := 0#32
  let v3 : BitVec 32 := Scalar.maxsi v2 c0_i32
  let c1_i32_0 : BitVec 32 := 1#32
  let c0_i32_1 : BitVec 32 := 0#32
  ![v3.toNat, c1_i32_0.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c8_i32 : BitVec 32 := 8#32
  let v1 : BitVec 32 := Scalar.muli v0 c8_i32
  let c1_i32 : BitVec 32 := 1#32
  let v2 : BitVec 32 := Scalar.subi v1 c1_i32
  let c0_i32 : BitVec 32 := 0#32
  let v3 : BitVec 32 := Scalar.maxsi v2 c0_i32
  let c2_i32 : BitVec 32 := 2#32
  let c0_i32_0 : BitVec 32 := 0#32
  ![v3.toNat, c2_i32.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S31x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1536 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S256x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference10Ideal.lean ====
abbrev S4096x1536 : Shape := ⟨2, ![4096, 1536]⟩
abbrev S31x512 : Shape := ⟨2, ![31, 512]⟩
abbrev S512 : Shape := ⟨1, ![512]⟩
abbrev S4096x512 : Shape := ⟨2, ![4096, 512]⟩
abbrev S4096x1024 : Shape := ⟨2, ![4096, 1024]⟩
abbrev S_ : Shape := ⟨0, ![]⟩
abbrev S30x512 : Shape := ⟨2, ![30, 512]⟩
abbrev S4126x512 : Shape := ⟨2, ![4126, 512]⟩
abbrev S1x4096x512 : Shape := ⟨3, ![1, 4096, 512]⟩
abbrev S16x4096x512 : Shape := ⟨3, ![16, 4096, 512]⟩
abbrev S15x4096x512 : Shape := ⟨3, ![15, 4096, 512]⟩
abbrev S31x4096x512 : Shape := ⟨3, ![31, 4096, 512]⟩
abbrev S31x1x512 : Shape := ⟨3, ![31, 1, 512]⟩
abbrev S1x512 : Shape := ⟨2, ![1, 512]⟩
abbrev S4096x8x64 : Shape := ⟨3, ![4096, 8, 64]⟩
abbrev S4096x8 : Shape := ⟨2, ![4096, 8]⟩
abbrev S4096x8x1 : Shape := ⟨3, ![4096, 8, 1]⟩

abbrev nBuf : Space → Nat
  | .hbm => 386
  | .vmem => 0
  | .smem => 0
  | _ => 0

abbrev hbmTy0_0 (i : Nat) : BufTy := match i % 128 with
  | 0 => ⟨S4096x1536, .f32⟩
  | 1 => ⟨S31x512, .f32⟩
  | 2 => ⟨S512, .f32⟩
  | 3 => ⟨S512, .f32⟩
  | 4 => ⟨S512, .f32⟩
  | 5 => ⟨S4096x512, .f32⟩
  | 6 => ⟨S4096x1024, .f32⟩
  | 7 => ⟨S4096x1024, .f32⟩
  | 8 => ⟨S4096x512, .f32⟩
  | 9 => ⟨S4096x512, .f32⟩
  | 10 => ⟨S4096x512, .f32⟩
  | 11 => ⟨S4096x512, .f32⟩
  | 12 => ⟨S_, .f32⟩
  | 13 => ⟨S4096x512, .f32⟩
  | 14 => ⟨S4096x512, .f32⟩
  | 15 => ⟨S_, .f32⟩
  | 16 => ⟨S4096x512, .f32⟩
  | 17 => ⟨S4096x512, .f32⟩
  | 18 => ⟨S_, .f32⟩
  | 19 => ⟨S4096x512, .f32⟩
  | 20 => ⟨S4096x512, .f32⟩
  | 21 => ⟨S4096x512, .f32⟩
  | 22 => ⟨S4096x512, .f32⟩
  | 23 => ⟨S_, .f32⟩
  | 24 => ⟨S30x512, .f32⟩
  | 25 => ⟨S4126x512, .f32⟩
  | 26 => ⟨S_, .f32⟩
  | 27 => ⟨S30x512, .f32⟩
  | 28 => ⟨S4096x512, .f32⟩
  | 29 => ⟨S4096x512, .f32⟩
  | 30 => ⟨S4096x512, .f32⟩
  | 31 => ⟨S4096x512, .f32⟩
  | 32 => ⟨S4096x512, .f32⟩
  | 33 => ⟨S4096x512, .f32⟩
  | 34 => ⟨S4096x512, .f32⟩
  | 35 => ⟨S4096x512, .f32⟩
  | 36 => ⟨S4096x512, .f32⟩
  | 37 => ⟨S4096x512, .f32⟩
  | 38 => ⟨S4096x512, .f32⟩
  | 39 => ⟨S4096x512, .f32⟩
  | 40 => ⟨S4096x512, .f32⟩
  | 41 => ⟨S4096x512, .f32⟩
  | 42 => ⟨S4096x512, .f32⟩
  | 43 => ⟨S4096x512, .f32⟩
  | 44 => ⟨S4096x512, .f32⟩
  | 45 => ⟨S4096x512, .f32⟩
  | 46 => ⟨S4096x512, .f32⟩
  | 47 => ⟨S4096x512, .f32⟩
  | 48 => ⟨S4096x512, .f32⟩
  | 49 => ⟨S4096x512, .f32⟩
  | 50 => ⟨S4096x512, .f32⟩
  | 51 => ⟨S4096x512, .f32⟩
  | 52 => ⟨S4096x512, .f32⟩
  | 53 => ⟨S4096x512, .f32⟩
  | 54 => ⟨S4096x512, .f32⟩
  | 55 => ⟨S4096x512, .f32⟩
  | 56 => ⟨S4096x512, .f32⟩
  | 57 => ⟨S4096x512, .f32⟩
  | 58 => ⟨S4096x512, .f32⟩
  | 59 => ⟨S1x4096x512, .f32⟩
  | 60 => ⟨S1x4096x512, .f32⟩
  | 61 => ⟨S1x4096x512, .f32⟩
  | 62 => ⟨S1x4096x512, .f32⟩
  | 63 => ⟨S1x4096x512, .f32⟩
  | 64 => ⟨S1x4096x512, .f32⟩
  | 65 => ⟨S1x4096x512, .f32⟩
  | 66 => ⟨S1x4096x512, .f32⟩
  | 67 => ⟨S1x4096x512, .f32⟩
  | 68 => ⟨S1x4096x512, .f32⟩
  | 69 => ⟨S1x4096x512, .f32⟩
  | 70 => ⟨S1x4096x512, .f32⟩
  | 71 => ⟨S1x4096x512, .f32⟩
  | 72 => ⟨S1x4096x512, .f32⟩
  | 73 => ⟨S1x4096x512, .f32⟩
  | 74 => ⟨S1x4096x512, .f32⟩
  | 75 => ⟨S1x4096x512, .f32⟩
  | 76 => ⟨S1x4096x512, .f32⟩
  | 77 => ⟨S1x4096x512, .f32⟩
  | 78 => ⟨S1x4096x512, .f32⟩
  | 79 => ⟨S1x4096x512, .f32⟩
  | 80 => ⟨S1x4096x512, .f32⟩
  | 81 => ⟨S1x4096x512, .f32⟩
  | 82 => ⟨S1x4096x512, .f32⟩
  | 83 => ⟨S1x4096x512, .f32⟩
  | 84 => ⟨S1x4096x512, .f32⟩
  | 85 => ⟨S1x4096x512, .f32⟩
  | 86 => ⟨S1x4096x512, .f32⟩
  | 87 => ⟨S1x4096x512, .f32⟩
  | 88 => ⟨S1x4096x512, .f32⟩
  | 89 => ⟨S1x4096x512, .f32⟩
  | 90 => ⟨S16x4096x512, .f32⟩
  | 91 => ⟨S15x4096x512, .f32⟩
  | 92 => ⟨S31x4096x512, .f32⟩
  | 93 => ⟨S31x1x512, .f32⟩
  | 94 => ⟨S31x4096x512, .f32⟩
  | 95 => ⟨S31x4096x512, .f32⟩
  | 96 => ⟨S_, .f32⟩
  | 97 => ⟨S4096x512, .f32⟩
  | 98 => ⟨S1x512, .f32⟩
  | 99 => ⟨S4096x512, .f32⟩
  | 100 => ⟨S4096x512, .f32⟩
  | 101 => ⟨S4096x8x64, .f32⟩
  | 102 => ⟨S_, .f32⟩
  | 103 => ⟨S4096x8, .f32⟩
  | 104 => ⟨S4096x8x1, .f32⟩
  | 105 => ⟨S_, .f32⟩
  | 106 => ⟨S4096x8x1, .f32⟩
  | 107 => ⟨S4096x8x1, .f32⟩
  | 108 => ⟨S4096x8x64, .f32⟩
  | 109 => ⟨S4096x8x64, .f32⟩
  | 110 => ⟨S4096x8x64, .f32⟩
  | 111 => ⟨S_, .f32⟩
  | 112 => ⟨S4096x8x64, .f32⟩
  | 113 => ⟨S4096x8x64, .f32⟩
  | 114 => ⟨S_, .f32⟩
  | 115 => ⟨S4096x8, .f32⟩
  | 116 => ⟨S4096x8x1, .f32⟩
  | 117 => ⟨S_, .f32⟩
  | 118 => ⟨S4096x8x1, .f32⟩
  | 119 => ⟨S4096x8x1, .f32⟩
  | 120 => ⟨S4096x8x64, .f32⟩
  | 121 => ⟨S4096x8x64, .f32⟩
  | 122 => ⟨S_, .f32⟩
  | 123 => ⟨S4096x8x1, .f32⟩
  | 124 => ⟨S4096x8x1, .f32⟩
  | 125 => ⟨S4096x8x1, .f32⟩
  | 126 => ⟨S4096x8x1, .f32⟩
  | 127 => ⟨S_, .f32⟩
  | _ => ⟨S4096x1536, .f32⟩

abbrev hbmTy0_1 (i : Nat) : BufTy := match i % 128 with
  | 0 => ⟨S4096x8x1, .f32⟩
  | 1 => ⟨S4096x8x1, .f32⟩
  | 2 => ⟨S4096x8x64, .f32⟩
  | 3 => ⟨S4096x8x64, .f32⟩
  | 4 => ⟨S4096x512, .f32⟩
  | 5 => ⟨S1x512, .f32⟩
  | 6 => ⟨S4096x512, .f32⟩
  | 7 => ⟨S4096x512, .f32⟩
  | 8 => ⟨S1x512, .f32⟩
  | 9 => ⟨S4096x512, .f32⟩
  | 10 => ⟨S4096x512, .f32⟩
  | 11 => ⟨S4096x512, .f32⟩
  | 12 => ⟨S4096x512, .f32⟩
  | 13 => ⟨S_, .f32⟩
  | 14 => ⟨S4096x512, .f32⟩
  | 15 => ⟨S4096x512, .f32⟩
  | 16 => ⟨S_, .f32⟩
  | 17 => ⟨S4096x512, .f32⟩
  | 18 => ⟨S4096x512, .f32⟩
  | 19 => ⟨S_, .f32⟩
  | 20 => ⟨S4096x512, .f32⟩
  | 21 => ⟨S4096x512, .f32⟩
  | 22 => ⟨S4096x512, .f32⟩
  | 23 => ⟨S4096x512, .f32⟩
  | 24 => ⟨S4096x512, .f32⟩
  | 25 => ⟨S4096x512, .f32⟩
  | 26 => ⟨S4096x512, .f32⟩
  | 27 => ⟨S4096x512, .f32⟩
  | 28 => ⟨S4096x512, .f32⟩
  | 29 => ⟨S_, .f32⟩
  | 30 => ⟨S512, .f32⟩
  | 31 => ⟨S1x512, .f32⟩
  | 32 => ⟨S_, .f32⟩
  | 33 => ⟨S512, .f32⟩
  | 34 => ⟨S4096x512, .f32⟩
  | 35 => ⟨S_, .f32⟩
  | 36 => ⟨S512, .f32⟩
  | 37 => ⟨S1x512, .f32⟩
  | 38 => ⟨S4096x512, .f32⟩
  | 39 => ⟨S4096x512, .f32⟩
  | 40 => ⟨S_, .f32⟩
  | 41 => ⟨S512, .f32⟩
  | 42 => ⟨S4096x8x64, .f32⟩
  | 43 => ⟨S4096x8x64, .f32⟩
  | 44 => ⟨S_, .f32⟩
  | 45 => ⟨S4096x8, .f32⟩
  | 46 => ⟨S4096x8x1, .f32⟩
  | 47 => ⟨S4096x8x64, .f32⟩
  | 48 => ⟨S4096x8x64, .f32⟩
  | 49 => ⟨S4096x8x1, .f32⟩
  | 50 => ⟨S4096x8x64, .f32⟩
  | 51 => ⟨S_, .f32⟩
  | 52 => ⟨S4096x8, .f32⟩
  | 53 => ⟨S4096x8x1, .f32⟩
  | 54 => ⟨S_, .f32⟩
  | 55 => ⟨S4096x8x1, .f32⟩
  | 56 => ⟨S4096x8x1, .f32⟩
  | 57 => ⟨S_, .f32⟩
  | 58 => ⟨S4096x8, .f32⟩
  | 59 => ⟨S4096x8x64, .f32⟩
  | 60 => ⟨S4096x8x64, .f32⟩
  | 61 => ⟨S4096x8x64, .f32⟩
  | 62 => ⟨S_, .f32⟩
  | 63 => ⟨S4096x8, .f32⟩
  | 64 => ⟨S4096x8x1, .f32⟩
  | 65 => ⟨S4096x8x64, .f32⟩
  | 66 => ⟨S4096x8x1, .f32⟩
  | 67 => ⟨S_, .f32⟩
  | 68 => ⟨S4096x8x1, .f32⟩
  | 69 => ⟨S4096x8x1, .f32⟩
  | 70 => ⟨S_, .f32⟩
  | 71 => ⟨S4096x8, .f32⟩
  | 72 => ⟨S4096x8x64, .f32⟩
  | 73 => ⟨S4096x8x64, .f32⟩
  | 74 => ⟨S4096x512, .f32⟩
  | 75 => ⟨S_, .f32⟩
  | 76 => ⟨S512, .f32⟩
  | 77 => ⟨S1x512, .f32⟩
  | 78 => ⟨S_, .f32⟩
  | 79 => ⟨S512, .f32⟩
  | 80 => ⟨S31x4096x512, .f32⟩
  | 81 => ⟨S31x4096x512, .f32⟩
  | 82 => ⟨S_, .f32⟩
  | 83 => ⟨S31x512, .f32⟩
  | 84 => ⟨S31x1x512, .f32⟩
  | 85 => ⟨S31x4096x512, .f32⟩
  | 86 => ⟨S31x4096x512, .f32⟩
  | 87 => ⟨S_, .f32⟩
  | 88 => ⟨S31x512, .f32⟩
  | 89 => ⟨S1x4096x512, .f32⟩
  | 90 => ⟨S4096x512, .f32⟩
  | 91 => ⟨S1x4096x512, .f32⟩
  | 92 => ⟨S4096x512, .f32⟩
  | 93 => ⟨S1x4096x512, .f32⟩
  | 94 => ⟨S4096x512, .f32⟩
  | 95 => ⟨S1x4096x512, .f32⟩
  | 96 => ⟨S4096x512, .f32⟩
  | 97 => ⟨S1x4096x512, .f32⟩
  | 98 => ⟨S4096x512, .f32⟩
  | 99 => ⟨S1x4096x512, .f32⟩
  | 100 => ⟨S4096x512, .f32⟩
  | 101 => ⟨S1x4096x512, .f32⟩
  | 102 => ⟨S4096x512, .f32⟩
  | 103 => ⟨S1x4096x512, .f32⟩
  | 104 => ⟨S4096x512, .f32⟩
  | 105 => ⟨S1x4096x512, .f32⟩
  | 106 => ⟨S4096x512, .f32⟩
  | 107 => ⟨S1x4096x512, .f32⟩
  | 108 => ⟨S4096x512, .f32⟩
  | 109 => ⟨S1x4096x512, .f32⟩
  | 110 => ⟨S4096x512, .f32⟩
  | 111 => ⟨S1x4096x512, .f32⟩
  | 112 => ⟨S4096x512, .f32⟩
  | 113 => ⟨S1x4096x512, .f32⟩
  | 114 => ⟨S4096x512, .f32⟩
  | 115 => ⟨S1x4096x512, .f32⟩
  | 116 => ⟨S4096x512, .f32⟩
  | 117 => ⟨S1x4096x512, .f32⟩
  | 118 => ⟨S4096x512, .f32⟩
  | 119 => ⟨S1x4096x512, .f32⟩
  | 120 => ⟨S4096x512, .f32⟩
  | 121 => ⟨S1x4096x512, .f32⟩
  | 122 => ⟨S4096x512, .f32⟩
  | 123 => ⟨S1x4096x512, .f32⟩
  | 124 => ⟨S4096x512, .f32⟩
  | 125 => ⟨S1x4096x512, .f32⟩
  | 126 => ⟨S4096x512, .f32⟩
  | 127 => ⟨S1x4096x512, .f32⟩
  | _ => ⟨S4096x1536, .f32⟩

abbrev hbmTy0_2 (i : Nat) : BufTy := match i % 128 with
  | 0 => ⟨S4096x512, .f32⟩
  | 1 => ⟨S1x4096x512, .f32⟩
  | 2 => ⟨S4096x512, .f32⟩
  | 3 => ⟨S1x4096x512, .f32⟩
  | 4 => ⟨S4096x512, .f32⟩
  | 5 => ⟨S1x4096x512, .f32⟩
  | 6 => ⟨S4096x512, .f32⟩
  | 7 => ⟨S1x4096x512, .f32⟩
  | 8 => ⟨S4096x512, .f32⟩
  | 9 => ⟨S1x4096x512, .f32⟩
  | 10 => ⟨S4096x512, .f32⟩
  | 11 => ⟨S1x4096x512, .f32⟩
  | 12 => ⟨S4096x512, .f32⟩
  | 13 => ⟨S1x4096x512, .f32⟩
  | 14 => ⟨S4096x512, .f32⟩
  | 15 => ⟨S1x4096x512, .f32⟩
  | 16 => ⟨S4096x512, .f32⟩
  | 17 => ⟨S1x4096x512, .f32⟩
  | 18 => ⟨S4096x512, .f32⟩
  | 19 => ⟨S1x4096x512, .f32⟩
  | 20 => ⟨S4096x512, .f32⟩
  | 21 => ⟨S1x4096x512, .f32⟩
  | 22 => ⟨S4096x512, .f32⟩
  | 23 => ⟨S_, .f32⟩
  | 24 => ⟨S4126x512, .f32⟩
  | 25 => ⟨S_, .f32⟩
  | 26 => ⟨S4126x512, .f32⟩
  | 27 => ⟨S4126x512, .f32⟩
  | 28 => ⟨S_, .f32⟩
  | 29 => ⟨S4126x512, .f32⟩
  | 30 => ⟨S4126x512, .f32⟩
  | 31 => ⟨S_, .f32⟩
  | 32 => ⟨S4126x512, .f32⟩
  | 33 => ⟨S4126x512, .f32⟩
  | 34 => ⟨S_, .f32⟩
  | 35 => ⟨S4126x512, .f32⟩
  | 36 => ⟨S4126x512, .f32⟩
  | 37 => ⟨S_, .f32⟩
  | 38 => ⟨S4126x512, .f32⟩
  | 39 => ⟨S4126x512, .f32⟩
  | 40 => ⟨S_, .f32⟩
  | 41 => ⟨S4126x512, .f32⟩
  | 42 => ⟨S4126x512, .f32⟩
  | 43 => ⟨S_, .f32⟩
  | 44 => ⟨S4126x512, .f32⟩
  | 45 => ⟨S4126x512, .f32⟩
  | 46 => ⟨S_, .f32⟩
  | 47 => ⟨S4126x512, .f32⟩
  | 48 => ⟨S4126x512, .f32⟩
  | 49 => ⟨S_, .f32⟩
  | 50 => ⟨S4126x512, .f32⟩
  | 51 => ⟨S4126x512, .f32⟩
  | 52 => ⟨S_, .f32⟩
  | 53 => ⟨S4126x512, .f32⟩
  | 54 => ⟨S4126x512, .f32⟩
  | 55 => ⟨S_, .f32⟩
  | 56 => ⟨S4126x512, .f32⟩
  | 57 => ⟨S4126x512, .f32⟩
  | 58 => ⟨S_, .f32⟩
  | 59 => ⟨S4126x512, .f32⟩
  | 60 => ⟨S4126x512, .f32⟩
  | 61 => ⟨S_, .f32⟩
  | 62 => ⟨S4126x512, .f32⟩
  | 63 => ⟨S4126x512, .f32⟩
  | 64 => ⟨S_, .f32⟩
  | 65 => ⟨S4126x512, .f32⟩
  | 66 => ⟨S4126x512, .f32⟩
  | 67 => ⟨S_, .f32⟩
  | 68 => ⟨S4126x512, .f32⟩
  | 69 => ⟨S4126x512, .f32⟩
  | 70 => ⟨S_, .f32⟩
  | 71 => ⟨S4126x512, .f32⟩
  | 72 => ⟨S4126x512, .f32⟩
  | 73 => ⟨S_, .f32⟩
  | 74 => ⟨S4126x512, .f32⟩
  | 75 => ⟨S4126x512, .f32⟩
  | 76 => ⟨S_, .f32⟩
  | 77 => ⟨S4126x512, .f32⟩
  | 78 => ⟨S4126x512, .f32⟩
  | 79 => ⟨S_, .f32⟩
  | 80 => ⟨S4126x512, .f32⟩
  | 81 => ⟨S4126x512, .f32⟩
  | 82 => ⟨S_, .f32⟩
  | 83 => ⟨S4126x512, .f32⟩
  | 84 => ⟨S4126x512, .f32⟩
  | 85 => ⟨S_, .f32⟩
  | 86 => ⟨S4126x512, .f32⟩
  | 87 => ⟨S4126x512, .f32⟩
  | 88 => ⟨S_, .f32⟩
  | 89 => ⟨S4126x512, .f32⟩
  | 90 => ⟨S4126x512, .f32⟩
  | 91 => ⟨S_, .f32⟩
  | 92 => ⟨S4126x512, .f32⟩
  | 93 => ⟨S4126x512, .f32⟩
  | 94 => ⟨S_, .f32⟩
  | 95 => ⟨S4126x512, .f32⟩
  | 96 => ⟨S4126x512, .f32⟩
  | 97 => ⟨S_, .f32⟩
  | 98 => ⟨S4126x512, .f32⟩
  | 99 => ⟨S4126x512, .f32⟩
  | 100 => ⟨S_, .f32⟩
  | 101 => ⟨S4126x512, .f32⟩
  | 102 => ⟨S4126x512, .f32⟩
  | 103 => ⟨S_, .f32⟩
  | 104 => ⟨S4126x512, .f32⟩
  | 105 => ⟨S4126x512, .f32⟩
  | 106 => ⟨S_, .f32⟩
  | 107 => ⟨S4126x512, .f32⟩
  | 108 => ⟨S4126x512, .f32⟩
  | 109 => ⟨S_, .f32⟩
  | 110 => ⟨S4126x512, .f32⟩
  | 111 => ⟨S4126x512, .f32⟩
  | 112 => ⟨S_, .f32⟩
  | 113 => ⟨S4126x512, .f32⟩
  | 114 => ⟨S4126x512, .f32⟩
  | 115 => ⟨S30x512, .f32⟩
  | 116 => ⟨S4096x512, .f32⟩
  | 117 => ⟨S4096x512, .f32⟩
  | 118 => ⟨S4096x512, .f32⟩
  | 119 => ⟨S4096x512, .f32⟩
  | 120 => ⟨S_, .f32⟩
  | 121 => ⟨S4096x1024, .f32⟩
  | 122 => ⟨S_, .f32⟩
  | 123 => ⟨S4096x1024, .f32⟩
  | 124 => ⟨S4096x1024, .f32⟩
  | 125 => ⟨S4096x1536, .f32⟩
  | 126 => ⟨S4096x1536, .bf16⟩
  | 127 => ⟨S1x512, .f32⟩
  | _ => ⟨S4096x1536, .f32⟩

abbrev hbmTy0_3 (i : Nat) : BufTy := match i % 128 with
  | 0 => ⟨S1x512, .f32⟩
  | 1 => ⟨S1x512, .f32⟩
  | _ => ⟨S4096x1536, .f32⟩

abbrev hbmTy (i : Nat) : BufTy := match i / 128 with
  | 0 => hbmTy0_0 i
  | 1 => hbmTy0_1 i
  | 2 => hbmTy0_2 i
  | 3 => hbmTy0_3 i
  | _ => ⟨S4096x1536, .f32⟩

abbrev bufTy : (tb : Table) → Fin (tcTables nBuf tb) → BufTy
  | .hbm, ⟨i, _⟩ => hbmTy i
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_cst_4 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_cst_5 : Ref sig .tc := ⟨.hbm, 102, rfl⟩
abbrev main_v89 : Ref sig .tc := ⟨.hbm, 103, rfl⟩
abbrev main_v90 : Ref sig .tc := ⟨.hbm, 104, rfl⟩
abbrev main_cst_6 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_cst_7 : Ref sig .tc := ⟨.hbm, 111, rfl⟩
abbrev main_v96 : Ref sig .tc := ⟨.hbm, 112, rfl⟩
abbrev main_v97 : Ref sig .tc := ⟨.hbm, 113, rfl⟩
abbrev main_cst_8 : Ref sig .tc := ⟨.hbm, 114, rfl⟩
abbrev main_v98 : Ref sig .tc := ⟨.hbm, 115, rfl⟩
abbrev main_v99 : Ref sig .tc := ⟨.hbm, 116, rfl⟩
abbrev main_cst_9 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_cst_10 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_cst_11 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_call0_v0 : Ref sig .tc := ⟨.hbm, 139, rfl⟩
abbrev main_call0_v1 : Ref sig .tc := ⟨.hbm, 140, rfl⟩
abbrev main_call0_cst : Ref sig .tc := ⟨.hbm, 141, rfl⟩
abbrev main_call0_v2 : Ref sig .tc := ⟨.hbm, 142, rfl⟩
abbrev main_call0_v3 : Ref sig .tc := ⟨.hbm, 143, rfl⟩
abbrev main_call0_cst_0 : Ref sig .tc := ⟨.hbm, 144, rfl⟩
abbrev main_call0_v4 : Ref sig .tc := ⟨.hbm, 145, rfl⟩
abbrev main_v119_2 : Ref sig .tc := ⟨.hbm, 146, rfl⟩
abbrev main_call0_cst_1 : Ref sig .tc := ⟨.hbm, 147, rfl⟩
abbrev main_call0_v6 : Ref sig .tc := ⟨.hbm, 148, rfl⟩
abbrev main_call0_v7 : Ref sig .tc := ⟨.hbm, 149, rfl⟩
abbrev main_v119_1 : Ref sig .tc := ⟨.hbm, 150, rfl⟩
abbrev main_v119_0 : Ref sig .tc := ⟨.hbm, 151, rfl⟩
abbrev main_v120 : Ref sig .tc := ⟨.hbm, 152, rfl⟩
abbrev main_call1_v0 : Ref sig .tc := ⟨.hbm, 153, rfl⟩
abbrev main_call1_v1 : Ref sig .tc := ⟨.hbm, 154, rfl⟩
abbrev main_call1_v2 : Ref sig .tc := ⟨.hbm, 155, rfl⟩
abbrev main_v121 : Ref sig .tc := ⟨.hbm, 156, rfl⟩
abbrev main_cst_12 : Ref sig .tc := ⟨.hbm, 157, rfl⟩
abbrev main_v122 : Ref sig .tc := ⟨.hbm, 158, rfl⟩
abbrev main_v123 : Ref sig .tc := ⟨.hbm, 159, rfl⟩
abbrev main_cst_13 : Ref sig .tc := ⟨.hbm, 160, rfl⟩
abbrev main_v124 : Ref sig .tc := ⟨.hbm, 161, rfl⟩
abbrev main_v125 : Ref sig .tc := ⟨.hbm, 162, rfl⟩
abbrev main_cst_14 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_cst_15 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_cst_16 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_cst_17 : Ref sig .tc := ⟨.hbm, 179, rfl⟩
abbrev main_v139 : Ref sig .tc := ⟨.hbm, 180, rfl⟩
abbrev main_v140 : Ref sig .tc := ⟨.hbm, 181, rfl⟩
abbrev main_cst_18 : Ref sig .tc := ⟨.hbm, 182, rfl⟩
abbrev main_v141 : Ref sig .tc := ⟨.hbm, 183, rfl⟩
abbrev main_v142 : Ref sig .tc := ⟨.hbm, 184, rfl⟩
abbrev main_cst_19 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_cst_20 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_cst_21 : Ref sig .tc := ⟨.hbm, 195, rfl⟩
abbrev main_v151 : Ref sig .tc := ⟨.hbm, 196, rfl⟩
abbrev main_v152 : Ref sig .tc := ⟨.hbm, 197, rfl⟩
abbrev main_cst_22 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_cst_23 : Ref sig .tc := ⟨.hbm, 203, rfl⟩
abbrev main_v157 : Ref sig .tc := ⟨.hbm, 204, rfl⟩
abbrev main_v158 : Ref sig .tc := ⟨.hbm, 205, rfl⟩
abbrev main_cst_24 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_cst_25 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_cst_26 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_v208 : Ref sig .tc := ⟨.hbm, 258, rfl⟩
abbrev main_v209 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_v214 : Ref sig .tc := ⟨.hbm, 264, rfl⟩
abbrev main_v215 : Ref sig .tc := ⟨.hbm, 265, rfl⟩
abbrev main_v216 : Ref sig .tc := ⟨.hbm, 266, rfl⟩
abbrev main_v217 : Ref sig .tc := ⟨.hbm, 267, rfl⟩
abbrev main_v218 : Ref sig .tc := ⟨.hbm, 268, rfl⟩
abbrev main_v219 : Ref sig .tc := ⟨.hbm, 269, rfl⟩
abbrev main_v220 : Ref sig .tc := ⟨.hbm, 270, rfl⟩
abbrev main_v221 : Ref sig .tc := ⟨.hbm, 271, rfl⟩
abbrev main_v222 : Ref sig .tc := ⟨.hbm, 272, rfl⟩
abbrev main_v223 : Ref sig .tc := ⟨.hbm, 273, rfl⟩
abbrev main_v224 : Ref sig .tc := ⟨.hbm, 274, rfl⟩
abbrev main_v225 : Ref sig .tc := ⟨.hbm, 275, rfl⟩
abbrev main_v226 : Ref sig .tc := ⟨.hbm, 276, rfl⟩
abbrev main_v227 : Ref sig .tc := ⟨.hbm, 277, rfl⟩
abbrev main_v228 : Ref sig .tc := ⟨.hbm, 278, rfl⟩
abbrev main_cst_27 : Ref sig .tc := ⟨.hbm, 279, rfl⟩
abbrev main_v229 : Ref sig .tc := ⟨.hbm, 280, rfl⟩
abbrev main_cst_28 : Ref sig .tc := ⟨.hbm, 281, rfl⟩
abbrev main_v230 : Ref sig .tc := ⟨.hbm, 282, rfl⟩
abbrev main_v231 : Ref sig .tc := ⟨.hbm, 283, rfl⟩
abbrev main_cst_29 : Ref sig .tc := ⟨.hbm, 284, rfl⟩
abbrev main_v232 : Ref sig .tc := ⟨.hbm, 285, rfl⟩
abbrev main_v233 : Ref sig .tc := ⟨.hbm, 286, rfl⟩
abbrev main_cst_30 : Ref sig .tc := ⟨.hbm, 287, rfl⟩
abbrev main_v234 : Ref sig .tc := ⟨.hbm, 288, rfl⟩
abbrev main_v235 : Ref sig .tc := ⟨.hbm, 289, rfl⟩
abbrev main_cst_31 : Ref sig .tc := ⟨.hbm, 290, rfl⟩
abbrev main_v236 : Ref sig .tc := ⟨.hbm, 291, rfl⟩
abbrev main_v237 : Ref sig .tc := ⟨.hbm, 292, rfl⟩
abbrev main_cst_32 : Ref sig .tc := ⟨.hbm, 293, rfl⟩
abbrev main_v238 : Ref sig .tc := ⟨.hbm, 294, rfl⟩
abbrev main_v239 : Ref sig .tc := ⟨.hbm, 295, rfl⟩
abbrev main_cst_33 : Ref sig .tc := ⟨.hbm, 296, rfl⟩
abbrev main_v240 : Ref sig .tc := ⟨.hbm, 297, rfl⟩
abbrev main_v241 : Ref sig .tc := ⟨.hbm, 298, rfl⟩
abbrev main_cst_34 : Ref sig .tc := ⟨.hbm, 299, rfl⟩
abbrev main_v242 : Ref sig .tc := ⟨.hbm, 300, rfl⟩
abbrev main_v243 : Ref sig .tc := ⟨.hbm, 301, rfl⟩
abbrev main_cst_35 : Ref sig .tc := ⟨.hbm, 302, rfl⟩
abbrev main_v244 : Ref sig .tc := ⟨.hbm, 303, rfl⟩
abbrev main_v245 : Ref sig .tc := ⟨.hbm, 304, rfl⟩
abbrev main_cst_36 : Ref sig .tc := ⟨.hbm, 305, rfl⟩
abbrev main_v246 : Ref sig .tc := ⟨.hbm, 306, rfl⟩
abbrev main_v247 : Ref sig .tc := ⟨.hbm, 307, rfl⟩
abbrev main_cst_37 : Ref sig .tc := ⟨.hbm, 308, rfl⟩
abbrev main_v248 : Ref sig .tc := ⟨.hbm, 309, rfl⟩
abbrev main_v249 : Ref sig .tc := ⟨.hbm, 310, rfl⟩
abbrev main_cst_38 : Ref sig .tc := ⟨.hbm, 311, rfl⟩
abbrev main_v250 : Ref sig .tc := ⟨.hbm, 312, rfl⟩
abbrev main_v251 : Ref sig .tc := ⟨.hbm, 313, rfl⟩
abbrev main_cst_39 : Ref sig .tc := ⟨.hbm, 314, rfl⟩
abbrev main_v252 : Ref sig .tc := ⟨.hbm, 315, rfl⟩
abbrev main_v253 : Ref sig .tc := ⟨.hbm, 316, rfl⟩
abbrev main_cst_40 : Ref sig .tc := ⟨.hbm, 317, rfl⟩
abbrev main_v254 : Ref sig .tc := ⟨.hbm, 318, rfl⟩
abbrev main_v255 : Ref sig .tc := ⟨.hbm, 319, rfl⟩
abbrev main_cst_41 : Ref sig .tc := ⟨.hbm, 320, rfl⟩
abbrev main_v256 : Ref sig .tc := ⟨.hbm, 321, rfl⟩
abbrev main_v257 : Ref sig .tc := ⟨.hbm, 322, rfl⟩
abbrev main_cst_42 : Ref sig .tc := ⟨.hbm, 323, rfl⟩
abbrev main_v258 : Ref sig .tc := ⟨.hbm, 324, rfl⟩
abbrev main_v259 : Ref sig .tc := ⟨.hbm, 325, rfl⟩
abbrev main_cst_43 : Ref sig .tc := ⟨.hbm, 326, rfl⟩
abbrev main_v260 : Ref sig .tc := ⟨.hbm, 327, rfl⟩
abbrev main_v261 : Ref sig .tc := ⟨.hbm, 328, rfl⟩
abbrev main_cst_44 : Ref sig .tc := ⟨.hbm, 329, rfl⟩
abbrev main_v262 : Ref sig .tc := ⟨.hbm, 330, rfl⟩
abbrev main_v263 : Ref sig .tc := ⟨.hbm, 331, rfl⟩
abbrev main_cst_45 : Ref sig .tc := ⟨.hbm, 332, rfl⟩
abbrev main_v264 : Ref sig .tc := ⟨.hbm, 333, rfl⟩
abbrev main_v265 : Ref sig .tc := ⟨.hbm, 334, rfl⟩
abbrev main_cst_46 : Ref sig .tc := ⟨.hbm, 335, rfl⟩
abbrev main_v266 : Ref sig .tc := ⟨.hbm, 336, rfl⟩
abbrev main_v267 : Ref sig .tc := ⟨.hbm, 337, rfl⟩
abbrev main_cst_47 : Ref sig .tc := ⟨.hbm, 338, rfl⟩
abbrev main_v268 : Ref sig .tc := ⟨.hbm, 339, rfl⟩
abbrev main_v269 : Ref sig .tc := ⟨.hbm, 340, rfl⟩
abbrev main_cst_48 : Ref sig .tc := ⟨.hbm, 341, rfl⟩
abbrev main_v270 : Ref sig .tc := ⟨.hbm, 342, rfl⟩
abbrev main_v271 : Ref sig .tc := ⟨.hbm, 343, rfl⟩
abbrev main_cst_49 : Ref sig .tc := ⟨.hbm, 344, rfl⟩
abbrev main_v272 : Ref sig .tc := ⟨.hbm, 345, rfl⟩
abbrev main_v273 : Ref sig .tc := ⟨.hbm, 346, rfl⟩
abbrev main_cst_50 : Ref sig .tc := ⟨.hbm, 347, rfl⟩
abbrev main_v274 : Ref sig .tc := ⟨.hbm, 348, rfl⟩
abbrev main_v275 : Ref sig .tc := ⟨.hbm, 349, rfl⟩
abbrev main_cst_51 : Ref sig .tc := ⟨.hbm, 350, rfl⟩
abbrev main_v276 : Ref sig .tc := ⟨.hbm, 351, rfl⟩
abbrev main_v277 : Ref sig .tc := ⟨.hbm, 352, rfl⟩
abbrev main_cst_52 : Ref sig .tc := ⟨.hbm, 353, rfl⟩
abbrev main_v278 : Ref sig .tc := ⟨.hbm, 354, rfl⟩
abbrev main_v279 : Ref sig .tc := ⟨.hbm, 355, rfl⟩
abbrev main_cst_53 : Ref sig .tc := ⟨.hbm, 356, rfl⟩
abbrev main_v280 : Ref sig .tc := ⟨.hbm, 357, rfl⟩
abbrev main_v281 : Ref sig .tc := ⟨.hbm, 358, rfl⟩
abbrev main_cst_54 : Ref sig .tc := ⟨.hbm, 359, rfl⟩
abbrev main_v282 : Ref sig .tc := ⟨.hbm, 360, rfl⟩
abbrev main_v283 : Ref sig .tc := ⟨.hbm, 361, rfl⟩
abbrev main_cst_55 : Ref sig .tc := ⟨.hbm, 362, rfl⟩
abbrev main_v284 : Ref sig .tc := ⟨.hbm, 363, rfl⟩
abbrev main_v285 : Ref sig .tc := ⟨.hbm, 364, rfl⟩
abbrev main_cst_56 : Ref sig .tc := ⟨.hbm, 365, rfl⟩
abbrev main_v286 : Ref sig .tc := ⟨.hbm, 366, rfl⟩
abbrev main_v287 : Ref sig .tc := ⟨.hbm, 367, rfl⟩
abbrev main_cst_57 : Ref sig .tc := ⟨.hbm, 368, rfl⟩
abbrev main_v288 : Ref sig .tc := ⟨.hbm, 369, rfl⟩
abbrev main_v289 : Ref sig .tc := ⟨.hbm, 370, rfl⟩
abbrev main_v290 : Ref sig .tc := ⟨.hbm, 371, rfl⟩
abbrev main_v291 : Ref sig .tc := ⟨.hbm, 372, rfl⟩
abbrev main_v292 : Ref sig .tc := ⟨.hbm, 373, rfl⟩
abbrev main_v293 : Ref sig .tc := ⟨.hbm, 374, rfl⟩
abbrev main_v294 : Ref sig .tc := ⟨.hbm, 375, rfl⟩
abbrev main_cst_58 : Ref sig .tc := ⟨.hbm, 376, rfl⟩
abbrev main_v295 : Ref sig .tc := ⟨.hbm, 377, rfl⟩
abbrev main_cst_59 : Ref sig .tc := ⟨.hbm, 378, rfl⟩
abbrev main_v296 : Ref sig .tc := ⟨.hbm, 379, rfl⟩
abbrev main_v297 : Ref sig .tc := ⟨.hbm, 380, rfl⟩
abbrev main_v298 : Ref sig .tc := ⟨.hbm, 381, rfl⟩
abbrev main_v299 : Ref sig .tc := ⟨.hbm, 382, rfl⟩
abbrev main_v300 : Ref sig .tc := ⟨.hbm, 383, rfl⟩
abbrev main_v301 : Ref sig .tc := ⟨.hbm, 384, rfl⟩
abbrev main_v302 : Ref sig .tc := ⟨.hbm, 385, rfl⟩

abbrev nD : Nat := 1
abbrev τ : Topo := Topo.v7x

variable {F : FTy → Type} [FloatOps F]
-- ==== Kernel11.lean ====
abbrev S32x64 : Shape := ⟨2, ![32, 64]⟩
abbrev S32 : Shape := ⟨1, ![32]⟩
abbrev S32x64x16 : Shape := ⟨3, ![32, 64, 16]⟩
abbrev S8x8 : Shape := ⟨2, ![8, 8]⟩
abbrev S1x2048 : Shape := ⟨2, ![1, 2048]⟩
abbrev S2048 : Shape := ⟨1, ![2048]⟩
abbrev S4x8x64x16 : Shape := ⟨4, ![4, 8, 64, 16]⟩
abbrev S16x4x8x64 : Shape := ⟨4, ![16, 4, 8, 64]⟩
abbrev S1x16x4x8x64 : Shape := ⟨5, ![1, 16, 4, 8, 64]⟩
abbrev S8x1x1x8x1 : Shape := ⟨5, ![8, 1, 1, 8, 1]⟩
abbrev S8x16x4x8x64 : Shape := ⟨5, ![8, 16, 4, 8, 64]⟩
abbrev S128x2048 : Shape := ⟨2, ![128, 2048]⟩
abbrev S_ : Shape := ⟨0, ![]⟩

abbrev nBuf : Space → Nat
  | .hbm => 81
  | .vmem => 14
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64x16, .f32⟩
  | .hbm, ⟨4, _⟩ => ⟨S32x64x16, .f32⟩
  | .hbm, ⟨5, _⟩ => ⟨S32x64, .f32⟩
  | .hbm, ⟨6, _⟩ => ⟨S32x64, .f32⟩
  | .hbm, ⟨7, _⟩ => ⟨S32x64x16, .f32⟩
  | .hbm, ⟨8, _⟩ => ⟨S32x64x16, .f32⟩
  | .hbm, ⟨9, _⟩ => ⟨S8x8, .f32⟩
  | .hbm, ⟨10, _⟩ => ⟨S1x2048, .f32⟩
  | .hbm, ⟨11, _⟩ => ⟨S1x2048, .f32⟩
  | .hbm, ⟨12, _⟩ => ⟨S32x64, .f32⟩
  | .hbm, ⟨13, _⟩ => ⟨S2048, .f32⟩
  | .hbm, ⟨14, _⟩ => ⟨S1x2048, .f32⟩
  | .hbm, ⟨15, _⟩ => ⟨S4x8x64x16, .f32⟩
  | .hbm, ⟨16, _⟩ => ⟨S16x4x8x64, .f32⟩
  | .hbm, ⟨17, _⟩ => ⟨S1x16x4x8x64, .f32⟩
  | .hbm, ⟨18, _⟩ => ⟨S8x1x1x8x1, .f32⟩
  | .hbm, ⟨19, _⟩ => ⟨S8x16x4x8x64, .f32⟩
  | .hbm, ⟨20, _⟩ => ⟨S8x16x4x8x64, .f32⟩
  | .hbm, ⟨21, _⟩ => ⟨S8x16x4x8x64, .f32⟩
  | .hbm, ⟨22, _⟩ => ⟨S128x2048, .f32⟩
  | .hbm, ⟨23, _⟩ => ⟨S4x8x64x16, .f32⟩
  | .hbm, ⟨24, _⟩ => ⟨S16x4x8x64, .f32⟩
  | .hbm, ⟨25, _⟩ => ⟨S1x16x4x8x64, .f32⟩
  | .hbm, ⟨26, _⟩ => ⟨S8x1x1x8x1, .f32⟩
  | .hbm, ⟨27, _⟩ => ⟨S8x16x4x8x64, .f32⟩
  | .hbm, ⟨28, _⟩ => ⟨S8x16x4x8x64, .f32⟩
  | .hbm, ⟨29, _⟩ => ⟨S8x16x4x8x64, .f32⟩
  | .hbm, ⟨30, _⟩ => ⟨S128x2048, .f32⟩
  | .hbm, ⟨31, _⟩ => ⟨S1x2048, .f32⟩
  | .hbm, ⟨32, _⟩ => ⟨S1x2048, .f32⟩
  | .hbm, ⟨33, _⟩ => ⟨S4x8x64x16, .f32⟩
  | .hbm, ⟨34, _⟩ => ⟨S16x4x8x64, .f32⟩
  | .hbm, ⟨35, _⟩ => ⟨S1x16x4x8x64, .f32⟩
  | .hbm, ⟨36, _⟩ => ⟨S8x1x1x8x1, .f32⟩
  | .hbm, ⟨37, _⟩ => ⟨S8x16x4x8x64, .f32⟩
  | .hbm, ⟨38, _⟩ => ⟨S8x16x4x8x64, .f32⟩
  | .hbm, ⟨39, _⟩ => ⟨S8x16x4x8x64, .f32⟩
  | .hbm, ⟨40, _⟩ => ⟨S128x2048, .f32⟩
  | .hbm, ⟨41, _⟩ => ⟨S4x8x64x16, .f32⟩
  | .hbm, ⟨42, _⟩ => ⟨S16x4x8x64, .f32⟩
  | .hbm, ⟨43, _⟩ => ⟨S1x16x4x8x64, .f32⟩
  | .hbm, ⟨44, _⟩ => ⟨S8x1x1x8x1, .f32⟩
  | .hbm, ⟨45, _⟩ => ⟨S8x16x4x8x64, .f32⟩
  | .hbm, ⟨46, _⟩ => ⟨S8x16x4x8x64, .f32⟩
  | .hbm, ⟨47, _⟩ => ⟨S8x16x4x8x64, .f32⟩
  | .hbm, ⟨48, _⟩ => ⟨S128x2048, .f32⟩
  | .hbm, ⟨49, _⟩ => ⟨S1x2048, .f32⟩
  | .hbm, ⟨50, _⟩ => ⟨S1x2048, .f32⟩
  | .hbm, ⟨51, _⟩ => ⟨S1x2048, .f32⟩
  | .hbm, ⟨52, _⟩ => ⟨S128x2048, .f32⟩
  | .hbm, ⟨53, _⟩ => ⟨S128x2048, .f32⟩
  | .hbm, ⟨54, _⟩ => ⟨S32x64, .f32⟩
  | .hbm, ⟨55, _⟩ => ⟨S_, .f32⟩
  | .hbm, ⟨56, _⟩ => ⟨S32, .f32⟩
  | .hbm, ⟨57, _⟩ => ⟨S8x16x4x8x64, .f32⟩
  | .hbm, ⟨58, _⟩ => ⟨S8x8, .i32⟩
  | .hbm, ⟨59, _⟩ => ⟨S8x8, .i32⟩
  | .hbm, ⟨60, _⟩ => ⟨S8x8, .i1⟩
  | .hbm, ⟨61, _⟩ => ⟨S8x16x4x8x64, .i1⟩
  | .hbm, ⟨62, _⟩ => ⟨S_, .f32⟩
  | .hbm, ⟨63, _⟩ => ⟨S8x16x4x8x64, .f32⟩
  | .hbm, ⟨64, _⟩ => ⟨S8x16x4x8x64, .f32⟩
  | .hbm, ⟨65, _⟩ => ⟨S_, .f32⟩
  | .hbm, ⟨66, _⟩ => ⟨S16x4x8x64, .f32⟩
  | .hbm, ⟨67, _⟩ => ⟨S4x8x64x16, .f32⟩
  | .hbm, ⟨68, _⟩ => ⟨S32x64x16, .f32⟩
  | .hbm, ⟨69, _⟩ => ⟨S8x16x4x8x64, .f32⟩
  | .hbm, ⟨70, _⟩ => ⟨S8x8, .i32⟩
  | .hbm, ⟨71, _⟩ => ⟨S8x8, .i32⟩
  | .hbm, ⟨72, _⟩ => ⟨S8x8, .i1⟩
  | .hbm, ⟨73, _⟩ => ⟨S8x16x4x8x64, .i1⟩
  | .hbm, ⟨74, _⟩ => ⟨S_, .f32⟩
  | .hbm, ⟨75, _⟩ => ⟨S8x16x4x8x64, .f32⟩
  | .hbm, ⟨76, _⟩ => ⟨S8x16x4x8x64, .f32⟩
  | .hbm, ⟨77, _⟩ => ⟨S_, .f32⟩
  | .hbm, ⟨78, _⟩ => ⟨S16x4x8x64, .f32⟩
  | .hbm, ⟨79, _⟩ => ⟨S4x8x64x16, .f32⟩
  | .hbm, ⟨80, _⟩ => ⟨S32x64x16, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S128x2048, .f32⟩
  | .local _ .vmem, ⟨4, _⟩ => ⟨S128x2048, .f32⟩
  | .local _ .vmem, ⟨5, _⟩ => ⟨S1x2048, .f32⟩
  | .local _ .vmem, ⟨6, _⟩ => ⟨S1x2048, .f32⟩
  | .local _ .vmem, ⟨7, _⟩ => ⟨S128x2048, .f32⟩
  | .local _ .vmem, ⟨8, _⟩ => ⟨S128x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S128x2048, .f32⟩
  | .local _ .vmem, ⟨13, _⟩ => ⟨S128x2048, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39_0 : Ref sig .tc := ⟨.hbm, 49, rfl⟩
abbrev main_v39_1 : Ref sig .tc := ⟨.hbm, 50, rfl⟩
abbrev main_v39_2 : Ref sig .tc := ⟨.hbm, 51, rfl⟩
abbrev main_v39_3 : Ref sig .tc := ⟨.hbm, 52, rfl⟩
abbrev main_v39_4 : Ref sig .tc := ⟨.hbm, 53, rfl⟩
abbrev main_v40 : Ref sig .tc := ⟨.hbm, 54, rfl⟩
abbrev main_cst_0 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_1 : Ref sig .tc := ⟨.hbm, 62, rfl⟩
abbrev main_v47 : Ref sig .tc := ⟨.hbm, 63, rfl⟩
abbrev main_v48 : Ref sig .tc := ⟨.hbm, 64, rfl⟩
abbrev main_cst_2 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_3 : Ref sig .tc := ⟨.hbm, 74, rfl⟩
abbrev main_v57 : Ref sig .tc := ⟨.hbm, 75, rfl⟩
abbrev main_v58 : Ref sig .tc := ⟨.hbm, 76, rfl⟩
abbrev main_cst_4 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S128x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S128x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Reference11Ideal.lean ====
abbrev S32x64 : Shape := ⟨2, ![32, 64]⟩
abbrev S32 : Shape := ⟨1, ![32]⟩
abbrev S32x64x16 : Shape := ⟨3, ![32, 64, 16]⟩
abbrev S32x1 : Shape := ⟨2, ![32, 1]⟩
abbrev S_ : Shape := ⟨0, ![]⟩
abbrev S32x64x1 : Shape := ⟨3, ![32, 64, 1]⟩
abbrev S1x2048 : Shape := ⟨2, ![1, 2048]⟩

abbrev nBuf : Space → Nat
  | .hbm => 163
  | .vmem => 0
  | .smem => 0
  | _ => 0

abbrev hbmTy0_0 (i : Nat) : BufTy := match i % 128 with
  | 0 => ⟨S32x64, .f32⟩
  | 1 => ⟨S32x64, .f32⟩
  | 2 => ⟨S32, .f32⟩
  | 3 => ⟨S32x64x16, .f32⟩
  | 4 => ⟨S32x64x16, .f32⟩
  | 5 => ⟨S32x64, .f32⟩
  | 6 => ⟨S32x64, .f32⟩
  | 7 => ⟨S32x64x16, .f32⟩
  | 8 => ⟨S32x64x16, .f32⟩
  | 9 => ⟨S32, .f32⟩
  | 10 => ⟨S32x1, .f32⟩
  | 11 => ⟨S32x64, .f32⟩
  | 12 => ⟨S32x64, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S_, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S_, .f32⟩
  | 36 => ⟨S32x64, .f32⟩
  | 37 => ⟨S32x64, .f32⟩
  | 38 => ⟨S32x64x1, .f32⟩
  | 39 => ⟨S32x64, .f32⟩
  | 40 => ⟨S32x64, .f32⟩
  | 41 => ⟨S32x64, .f32⟩
  | 42 => ⟨S32x64, .f32⟩
  | 43 => ⟨S32x64, .f32⟩
  | 44 => ⟨S_, .f32⟩
  | 45 => ⟨S32x64, .f32⟩
  | 46 => ⟨S32x64, .f32⟩
  | 47 => ⟨S32x64x1, .f32⟩
  | 48 => ⟨S32x64x16, .f32⟩
  | 49 => ⟨S32x64x16, .f32⟩
  | 50 => ⟨S32x64x16, .f32⟩
  | 51 => ⟨S32x64x16, .f32⟩
  | 52 => ⟨S32x64x16, .f32⟩
  | 53 => ⟨S32x64x16, .f32⟩
  | 54 => ⟨S32x64x16, .f32⟩
  | 55 => ⟨S32x64x16, .f32⟩
  | 56 => ⟨S32x64x16, .f32⟩
  | 57 => ⟨S32x64x16, .f32⟩
  | 58 => ⟨S32x64x16, .f32⟩
  | 59 => ⟨S32x64x16, .f32⟩
  | 60 => ⟨S32x64x16, .f32⟩
  | 61 => ⟨S32x64x16, .f32⟩
  | 62 => ⟨S32x64x16, .f32⟩
  | 63 => ⟨S_, .f32⟩
  | 64 => ⟨S32x64, .f32⟩
  | 65 => ⟨S32x64x1, .f32⟩
  | 66 => ⟨S32x64x16, .f32⟩
  | 67 => ⟨S32x64x16, .f32⟩
  | 68 => ⟨S32x64x16, .f32⟩
  | 69 => ⟨S_, .f32⟩
  | 70 => ⟨S32x64, .f32⟩
  | 71 => ⟨S32x64x1, .f32⟩
  | 72 => ⟨S32x64x16, .f32⟩
  | 73 => ⟨S32x64x16, .f32⟩
  | 74 => ⟨S32x64x16, .f32⟩
  | 75 => ⟨S32x64x16, .f32⟩
  | 76 => ⟨S32x64x16, .f32⟩
  | 77 => ⟨S32x64x16, .f32⟩
  | 78 => ⟨S_, .f32⟩
  | 79 => ⟨S32x64, .f32⟩
  | 80 => ⟨S32x64x1, .f32⟩
  | 81 => ⟨S32x64x1, .f32⟩
  | 82 => ⟨S32x64x16, .f32⟩
  | 83 => ⟨S32x64x16, .f32⟩
  | 84 => ⟨S32x64x16, .f32⟩
  | 85 => ⟨S32x64x16, .f32⟩
  | 86 => ⟨S_, .f32⟩
  | 87 => ⟨S32x64, .f32⟩
  | 88 => ⟨S32x64x1, .f32⟩
  | 89 => ⟨S32x64x1, .f32⟩
  | 90 => ⟨S_, .f32⟩
  | 91 => ⟨S32x64, .f32⟩
  | 92 => ⟨S32x64, .f32⟩
  | 93 => ⟨S32x64, .f32⟩
  | 94 => ⟨S32x64, .f32⟩
  | 95 => ⟨S32x64, .f32⟩
  | 96 => ⟨S32x64, .f32⟩
  | 97 => ⟨S32x64, .f32⟩
  | 98 => ⟨S32x64, .f32⟩
  | 99 => ⟨S32x64, .f32⟩
  | 100 => ⟨S32x64, .f32⟩
  | 101 => ⟨S32x64, .f32⟩
  | 102 => ⟨S32x64, .f32⟩
  | 103 => ⟨S_, .f32⟩
  | 104 => ⟨S32x64, .f32⟩
  | 105 => ⟨S32x64, .f32⟩
  | 106 => ⟨S32x64, .f32⟩
  | 107 => ⟨S32x64, .f32⟩
  | 108 => ⟨S32x64, .f32⟩
  | 109 => ⟨S32x64, .f32⟩
  | 110 => ⟨S32x64, .f32⟩
  | 111 => ⟨S32x64, .f32⟩
  | 112 => ⟨S32x64, .f32⟩
  | 113 => ⟨S32x64, .f32⟩
  | 114 => ⟨S32x64, .f32⟩
  | 115 => ⟨S32x64, .f32⟩
  | 116 => ⟨S32x64, .f32⟩
  | 117 => ⟨S32x64, .f32⟩
  | 118 => ⟨S32x64, .f32⟩
  | 119 => ⟨S32x64, .f32⟩
  | 120 => ⟨S32x64, .f32⟩
  | 121 => ⟨S32x64, .f32⟩
  | 122 => ⟨S32x64, .f32⟩
  | 123 => ⟨S32x64, .f32⟩
  | 124 => ⟨S32x64, .f32⟩
  | 125 => ⟨S32x64, .f32⟩
  | 126 => ⟨S32x64, .f32⟩
  | 127 => ⟨S32x64, .f32⟩
  | _ => ⟨S32x64, .f32⟩

abbrev hbmTy0_1 (i : Nat) : BufTy := match i % 128 with
  | 0 => ⟨S32x64, .f32⟩
  | 1 => ⟨S32x64, .f32⟩
  | 2 => ⟨S_, .f32⟩
  | 3 => ⟨S32, .f32⟩
  | 4 => ⟨S32x1, .f32⟩
  | 5 => ⟨S32x64, .f32⟩
  | 6 => ⟨S32x64, .f32⟩
  | 7 => ⟨S32x64, .f32⟩
  | 8 => ⟨S32x64, .f32⟩
  | 9 => ⟨S32x64, .f32⟩
  | 10 => ⟨S32x64, .f32⟩
  | 11 => ⟨S32x64, .f32⟩
  | 12 => ⟨S32x64, .f32⟩
  | 13 => ⟨S32x64, .f32⟩
  | 14 => ⟨S_, .f32⟩
  | 15 => ⟨S32, .f32⟩
  | 16 => ⟨S32x1, .f32⟩
  | 17 => ⟨S32x1, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S_, .f32⟩
  | 24 => ⟨S32, .f32⟩
  | 25 => ⟨S32x1, .f32⟩
  | 26 => ⟨S32x1, .f32⟩
  | 27 => ⟨S32x64, .f32⟩
  | 28 => ⟨S32x64, .f32⟩
  | 29 => ⟨S32x64, .f32⟩
  | 30 => ⟨S_, .f32⟩
  | 31 => ⟨S32, .f32⟩
  | 32 => ⟨S32, .f32⟩
  | 33 => ⟨S1x2048, .f32⟩
  | 34 => ⟨S1x2048, .f32⟩
  | _ => ⟨S32x64, .f32⟩

abbrev hbmTy (i : Nat) : BufTy := match i / 128 with
  | 0 => hbmTy0_0 i
  | 1 => hbmTy0_1 i
  | _ => ⟨S32x64, .f32⟩

abbrev bufTy : (tb : Table) → Fin (tcTables nBuf tb) → BufTy
  | .hbm, ⟨i, _⟩ => hbmTy i
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_1 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_2 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_3 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_4 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst_5 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_cst_6 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_cst_7 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_cst_8 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_cst_9 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_cst_10 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_cst_11 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩

abbrev nD : Nat := 1
abbrev τ : Topo := Topo.v7x

variable {F : FTy → Type} [FloatOps F]
-- ==== Kernel12.lean ====
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S8x8 : Shape := ⟨2, ![8, 8]⟩
abbrev S1x2048 : Shape := ⟨2, ![1, 2048]⟩
abbrev S2048 : Shape := ⟨1, ![2048]⟩
abbrev S4x8x64x16 : Shape := ⟨4, ![4, 8, 64, 16]⟩
abbrev S16x4x8x64 : Shape := ⟨4, ![16, 4, 8, 64]⟩
abbrev S1x16x4x8x64 : Shape := ⟨5, ![1, 16, 4, 8, 64]⟩
abbrev S8x1x1x8x1 : Shape := ⟨5, ![8, 1, 1, 8, 1]⟩
abbrev S8x16x4x8x64 : Shape := ⟨5, ![8, 16, 4, 8, 64]⟩
abbrev S128x2048 : Shape := ⟨2, ![128, 2048]⟩
abbrev S2048x128 : Shape := ⟨2, ![2048, 128]⟩

abbrev nBuf : Space → Nat
  | .hbm => 55
  | .vmem => 13
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64x16, .f32⟩
  | .hbm, ⟨4, _⟩ => ⟨S32x64x16, .f32⟩
  | .hbm, ⟨5, _⟩ => ⟨S32x16x64, .f32⟩
  | .hbm, ⟨6, _⟩ => ⟨S32x16x64, .f32⟩
  | .hbm, ⟨7, _⟩ => ⟨S8x8, .f32⟩
  | .hbm, ⟨8, _⟩ => ⟨S1x2048, .f32⟩
  | .hbm, ⟨9, _⟩ => ⟨S1x2048, .f32⟩
  | .hbm, ⟨10, _⟩ => ⟨S32x64, .f32⟩
  | .hbm, ⟨11, _⟩ => ⟨S2048, .f32⟩
  | .hbm, ⟨12, _⟩ => ⟨S1x2048, .f32⟩
  | .hbm, ⟨13, _⟩ => ⟨S4x8x64x16, .f32⟩
  | .hbm, ⟨14, _⟩ => ⟨S16x4x8x64, .f32⟩
  | .hbm, ⟨15, _⟩ => ⟨S1x16x4x8x64, .f32⟩
  | .hbm, ⟨16, _⟩ => ⟨S8x1x1x8x1, .f32⟩
  | .hbm, ⟨17, _⟩ => ⟨S8x16x4x8x64, .f32⟩
  | .hbm, ⟨18, _⟩ => ⟨S8x16x4x8x64, .f32⟩
  | .hbm, ⟨19, _⟩ => ⟨S8x16x4x8x64, .f32⟩
  | .hbm, ⟨20, _⟩ => ⟨S128x2048, .f32⟩
  | .hbm, ⟨21, _⟩ => ⟨S4x8x64x16, .f32⟩
  | .hbm, ⟨22, _⟩ => ⟨S16x4x8x64, .f32⟩
  | .hbm, ⟨23, _⟩ => ⟨S1x16x4x8x64, .f32⟩
  | .hbm, ⟨24, _⟩ => ⟨S8x1x1x8x1, .f32⟩
  | .hbm, ⟨25, _⟩ => ⟨S8x16x4x8x64, .f32⟩
  | .hbm, ⟨26, _⟩ => ⟨S8x16x4x8x64, .f32⟩
  | .hbm, ⟨27, _⟩ => ⟨S8x16x4x8x64, .f32⟩
  | .hbm, ⟨28, _⟩ => ⟨S128x2048, .f32⟩
  | .hbm, ⟨29, _⟩ => ⟨S32x64x16, .f32⟩
  | .hbm, ⟨30, _⟩ => ⟨S4x8x64x16, .f32⟩
  | .hbm, ⟨31, _⟩ => ⟨S16x4x8x64, .f32⟩
  | .hbm, ⟨32, _⟩ => ⟨S1x16x4x8x64, .f32⟩
  | .hbm, ⟨33, _⟩ => ⟨S8x1x1x8x1, .f32⟩
  | .hbm, ⟨34, _⟩ => ⟨S8x16x4x8x64, .f32⟩
  | .hbm, ⟨35, _⟩ => ⟨S8x16x4x8x64, .f32⟩
  | .hbm, ⟨36, _⟩ => ⟨S8x16x4x8x64, .f32⟩
  | .hbm, ⟨37, _⟩ => ⟨S128x2048, .f32⟩
  | .hbm, ⟨38, _⟩ => ⟨S2048x128, .f32⟩
  | .hbm, ⟨39, _⟩ => ⟨S32x64x16, .f32⟩
  | .hbm, ⟨40, _⟩ => ⟨S4x8x64x16, .f32⟩
  | .hbm, ⟨41, _⟩ => ⟨S16x4x8x64, .f32⟩
  | .hbm, ⟨42, _⟩ => ⟨S1x16x4x8x64, .f32⟩
  | .hbm, ⟨43, _⟩ => ⟨S8x1x1x8x1, .f32⟩
  | .hbm, ⟨44, _⟩ => ⟨S8x16x4x8x64, .f32⟩
  | .hbm, ⟨45, _⟩ => ⟨S8x16x4x8x64, .f32⟩
  | .hbm, ⟨46, _⟩ => ⟨S8x16x4x8x64, .f32⟩
  | .hbm, ⟨47, _⟩ => ⟨S128x2048, .f32⟩
  | .hbm, ⟨48, _⟩ => ⟨S2048x128, .f32⟩
  | .hbm, ⟨49, _⟩ => ⟨S1x2048, .f32⟩
  | .hbm, ⟨50, _⟩ => ⟨S1x2048, .f32⟩
  | .hbm, ⟨51, _⟩ => ⟨S128x2048, .bf16⟩
  | .hbm, ⟨52, _⟩ => ⟨S128x2048, .bf16⟩
  | .hbm, ⟨53, _⟩ => ⟨S2048x128, .bf16⟩
  | .hbm, ⟨54, _⟩ => ⟨S2048x128, .bf16⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S128x2048, .f32⟩
  | .local _ .vmem, ⟨4, _⟩ => ⟨S128x2048, .f32⟩
  | .local _ .vmem, ⟨5, _⟩ => ⟨S2048x128, .f32⟩
  | .local _ .vmem, ⟨6, _⟩ => ⟨S2048x128, .f32⟩
  | .local _ .vmem, ⟨7, _⟩ => ⟨S1x2048, .f32⟩
  | .local _ .vmem, ⟨8, _⟩ => ⟨S1x2048, .f32⟩
  | .local _ .vmem, ⟨9, _⟩ => ⟨S128x2048, .bf16⟩
  | .local _ .vmem, ⟨10, _⟩ => ⟨S128x2048, .bf16⟩
  | .local _ .vmem, ⟨11, _⟩ => ⟨S2048x128, .bf16⟩
  | .local _ .vmem, ⟨12, _⟩ => ⟨S2048x128, .bf16⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41_0 : Ref sig .tc := ⟨.hbm, 49, rfl⟩
abbrev main_v41_1 : Ref sig .tc := ⟨.hbm, 50, rfl⟩
abbrev main_v41_2 : Ref sig .tc := ⟨.hbm, 51, rfl⟩
abbrev main_v41_3 : Ref sig .tc := ⟨.hbm, 52, rfl⟩
abbrev main_v41_4 : Ref sig .tc := ⟨.hbm, 53, rfl⟩
abbrev main_v41_5 : Ref sig .tc := ⟨.hbm, 54, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2048x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2048x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Reference12Ideal.lean ====
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S32x1 : Shape := ⟨2, ![32, 1]⟩
abbrev S_ : Shape := ⟨0, ![]⟩
abbrev S32x64x1 : Shape := ⟨3, ![32, 64, 1]⟩
abbrev S1x2048 : Shape := ⟨2, ![1, 2048]⟩
abbrev S8x16x4x8x64 : Shape := ⟨5, ![8, 16, 4, 8, 64]⟩
abbrev S4x8x64x16 : Shape := ⟨4, ![4, 8, 64, 16]⟩
abbrev S16x4x8x64 : Shape := ⟨4, ![16, 4, 8, 64]⟩
abbrev S1x16x4x8x64 : Shape := ⟨5, ![1, 16, 4, 8, 64]⟩
abbrev S128x2048 : Shape := ⟨2, ![128, 2048]⟩
abbrev S2048x128 : Shape := ⟨2, ![2048, 128]⟩

abbrev nBuf : Space → Nat
  | .hbm => 104
  | .vmem => 0
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64x16, .f32⟩
  | .hbm, ⟨4, _⟩ => ⟨S32x64x16, .f32⟩
  | .hbm, ⟨5, _⟩ => ⟨S32x16x64, .f32⟩
  | .hbm, ⟨6, _⟩ => ⟨S32x16x64, .f32⟩
  | .hbm, ⟨7, _⟩ => ⟨S32, .f32⟩
  | .hbm, ⟨8, _⟩ => ⟨S32x1, .f32⟩
  | .hbm, ⟨9, _⟩ => ⟨S32x64, .f32⟩
  | .hbm, ⟨10, _⟩ => ⟨S32x64, .f32⟩
  | .hbm, ⟨11, _⟩ => ⟨S32x64, .f32⟩
  | .hbm, ⟨12, _⟩ => ⟨S32x64, .f32⟩
  | .hbm, ⟨13, _⟩ => ⟨S32x64, .f32⟩
  | .hbm, ⟨14, _⟩ => ⟨S32x64, .f32⟩
  | .hbm, ⟨15, _⟩ => ⟨S32x64, .f32⟩
  | .hbm, ⟨16, _⟩ => ⟨S32x64, .f32⟩
  | .hbm, ⟨17, _⟩ => ⟨S32x64, .f32⟩
  | .hbm, ⟨18, _⟩ => ⟨S32x64, .f32⟩
  | .hbm, ⟨19, _⟩ => ⟨S32x64, .f32⟩
  | .hbm, ⟨20, _⟩ => ⟨S32x64, .f32⟩
  | .hbm, ⟨21, _⟩ => ⟨S32x64, .f32⟩
  | .hbm, ⟨22, _⟩ => ⟨S32x64, .f32⟩
  | .hbm, ⟨23, _⟩ => ⟨S_, .f32⟩
  | .hbm, ⟨24, _⟩ => ⟨S32x64, .f32⟩
  | .hbm, ⟨25, _⟩ => ⟨S32x64, .f32⟩
  | .hbm, ⟨26, _⟩ => ⟨S32x64, .f32⟩
  | .hbm, ⟨27, _⟩ => ⟨S32x64, .f32⟩
  | .hbm, ⟨28, _⟩ => ⟨S32x64, .f32⟩
  | .hbm, ⟨29, _⟩ => ⟨S32x64, .f32⟩
  | .hbm, ⟨30, _⟩ => ⟨S32x64x1, .f32⟩
  | .hbm, ⟨31, _⟩ => ⟨S32x64, .f32⟩
  | .hbm, ⟨32, _⟩ => ⟨S32x64, .f32⟩
  | .hbm, ⟨33, _⟩ => ⟨S32x64, .f32⟩
  | .hbm, ⟨34, _⟩ => ⟨S32x64, .f32⟩
  | .hbm, ⟨35, _⟩ => ⟨S32x64x1, .f32⟩
  | .hbm, ⟨36, _⟩ => ⟨S32x64x16, .f32⟩
  | .hbm, ⟨37, _⟩ => ⟨S32x64x16, .f32⟩
  | .hbm, ⟨38, _⟩ => ⟨S32x64x16, .f32⟩
  | .hbm, ⟨39, _⟩ => ⟨S32x64x16, .f32⟩
  | .hbm, ⟨40, _⟩ => ⟨S32x64x16, .f32⟩
  | .hbm, ⟨41, _⟩ => ⟨S32x64x16, .f32⟩
  | .hbm, ⟨42, _⟩ => ⟨S32x64x16, .f32⟩
  | .hbm, ⟨43, _⟩ => ⟨S32x64x16, .f32⟩
  | .hbm, ⟨44, _⟩ => ⟨S32x64x16, .f32⟩
  | .hbm, ⟨45, _⟩ => ⟨S32x64x16, .f32⟩
  | .hbm, ⟨46, _⟩ => ⟨S1x2048, .f32⟩
  | .hbm, ⟨47, _⟩ => ⟨S1x2048, .f32⟩
  | .hbm, ⟨48, _⟩ => ⟨S8x16x4x8x64, .i32⟩
  | .hbm, ⟨49, _⟩ => ⟨S8x16x4x8x64, .i32⟩
  | .hbm, ⟨50, _⟩ => ⟨S4x8x64x16, .f32⟩
  | .hbm, ⟨51, _⟩ => ⟨S16x4x8x64, .f32⟩
  | .hbm, ⟨52, _⟩ => ⟨S1x16x4x8x64, .f32⟩
  | .hbm, ⟨53, _⟩ => ⟨S8x16x4x8x64, .f32⟩
  | .hbm, ⟨54, _⟩ => ⟨S8x16x4x8x64, .i1⟩
  | .hbm, ⟨55, _⟩ => ⟨S_, .f32⟩
  | .hbm, ⟨56, _⟩ => ⟨S_, .f32⟩
  | .hbm, ⟨57, _⟩ => ⟨S8x16x4x8x64, .f32⟩
  | .hbm, ⟨58, _⟩ => ⟨S8x16x4x8x64, .f32⟩
  | .hbm, ⟨59, _⟩ => ⟨S128x2048, .f32⟩
  | .hbm, ⟨60, _⟩ => ⟨S128x2048, .bf16⟩
  | .hbm, ⟨61, _⟩ => ⟨S8x16x4x8x64, .i32⟩
  | .hbm, ⟨62, _⟩ => ⟨S8x16x4x8x64, .i32⟩
  | .hbm, ⟨63, _⟩ => ⟨S4x8x64x16, .f32⟩
  | .hbm, ⟨64, _⟩ => ⟨S16x4x8x64, .f32⟩
  | .hbm, ⟨65, _⟩ => ⟨S1x16x4x8x64, .f32⟩
  | .hbm, ⟨66, _⟩ => ⟨S8x16x4x8x64, .f32⟩
  | .hbm, ⟨67, _⟩ => ⟨S8x16x4x8x64, .i1⟩
  | .hbm, ⟨68, _⟩ => ⟨S_, .f32⟩
  | .hbm, ⟨69, _⟩ => ⟨S_, .f32⟩
  | .hbm, ⟨70, _⟩ => ⟨S8x16x4x8x64, .f32⟩
  | .hbm, ⟨71, _⟩ => ⟨S8x16x4x8x64, .f32⟩
  | .hbm, ⟨72, _⟩ => ⟨S128x2048, .f32⟩
  | .hbm, ⟨73, _⟩ => ⟨S128x2048, .bf16⟩
  | .hbm, ⟨74, _⟩ => ⟨S32x64x16, .f32⟩
  | .hbm, ⟨75, _⟩ => ⟨S8x16x4x8x64, .i32⟩
  | .hbm, ⟨76, _⟩ => ⟨S8x16x4x8x64, .i32⟩
  | .hbm, ⟨77, _⟩ => ⟨S4x8x64x16, .f32⟩
  | .hbm, ⟨78, _⟩ => ⟨S16x4x8x64, .f32⟩
  | .hbm, ⟨79, _⟩ => ⟨S1x16x4x8x64, .f32⟩
  | .hbm, ⟨80, _⟩ => ⟨S8x16x4x8x64, .f32⟩
  | .hbm, ⟨81, _⟩ => ⟨S8x16x4x8x64, .i1⟩
  | .hbm, ⟨82, _⟩ => ⟨S_, .f32⟩
  | .hbm, ⟨83, _⟩ => ⟨S_, .f32⟩
  | .hbm, ⟨84, _⟩ => ⟨S8x16x4x8x64, .f32⟩
  | .hbm, ⟨85, _⟩ => ⟨S8x16x4x8x64, .f32⟩
  | .hbm, ⟨86, _⟩ => ⟨S128x2048, .f32⟩
  | .hbm, ⟨87, _⟩ => ⟨S128x2048, .bf16⟩
  | .hbm, ⟨88, _⟩ => ⟨S2048x128, .bf16⟩
  | .hbm, ⟨89, _⟩ => ⟨S32x64x16, .f32⟩
  | .hbm, ⟨90, _⟩ => ⟨S8x16x4x8x64, .i32⟩
  | .hbm, ⟨91, _⟩ => ⟨S8x16x4x8x64, .i32⟩
  | .hbm, ⟨92, _⟩ => ⟨S4x8x64x16, .f32⟩
  | .hbm, ⟨93, _⟩ => ⟨S16x4x8x64, .f32⟩
  | .hbm, ⟨94, _⟩ => ⟨S1x16x4x8x64, .f32⟩
  | .hbm, ⟨95, _⟩ => ⟨S8x16x4x8x64, .f32⟩
  | .hbm, ⟨96, _⟩ => ⟨S8x16x4x8x64, .i1⟩
  | .hbm, ⟨97, _⟩ => ⟨S_, .f32⟩
  | .hbm, ⟨98, _⟩ => ⟨S_, .f32⟩
  | .hbm, ⟨99, _⟩ => ⟨S8x16x4x8x64, .f32⟩
  | .hbm, ⟨100, _⟩ => ⟨S8x16x4x8x64, .f32⟩
  | .hbm, ⟨101, _⟩ => ⟨S128x2048, .f32⟩
  | .hbm, ⟨102, _⟩ => ⟨S128x2048, .bf16⟩
  | .hbm, ⟨103, _⟩ => ⟨S2048x128, .bf16⟩
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_cst_0 : Ref sig .tc := ⟨.hbm, 55, rfl⟩
abbrev main_call0_v0 : Ref sig .tc := ⟨.hbm, 56, rfl⟩
abbrev main_call0_v1 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_cst_1 : Ref sig .tc := ⟨.hbm, 68, rfl⟩
abbrev main_call1_v0 : Ref sig .tc := ⟨.hbm, 69, rfl⟩
abbrev main_call1_v1 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_cst_2 : Ref sig .tc := ⟨.hbm, 82, rfl⟩
abbrev main_call2_v0 : Ref sig .tc := ⟨.hbm, 83, rfl⟩
abbrev main_call2_v1 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_cst_3 : Ref sig .tc := ⟨.hbm, 97, rfl⟩
abbrev main_call3_v0 : Ref sig .tc := ⟨.hbm, 98, rfl⟩
abbrev main_call3_v1 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩

abbrev nD : Nat := 1
abbrev τ : Topo := Topo.v7x

variable {F : FTy → Type} [FloatOps F]
-- ==== Kernel13.lean ====
abbrev S4096x1024 : Shape := ⟨2, ![4096, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference13Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S4096x1024, .f32⟩
  | .hbm, ⟨4, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel14.lean ====
abbrev S4096x1024 : Shape := ⟨2, ![4096, 1024]⟩
abbrev S1024x1536 : Shape := ⟨2, ![1024, 1536]⟩
abbrev S1024x4x384 : Shape := ⟨3, ![1024, 4, 384]⟩
abbrev S4x1024x384 : Shape := ⟨3, ![4, 1024, 384]⟩
abbrev S4096x1536 : Shape := ⟨2, ![4096, 1536]⟩
abbrev S1024x1024 : Shape := ⟨2, ![1024, 1024]⟩
abbrev S1024x384 : Shape := ⟨2, ![1024, 384]⟩
abbrev S1x1024x384 : Shape := ⟨3, ![1, 1024, 384]⟩

abbrev nBuf : Space → Nat
  | .hbm => 7
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1536, .f32⟩
  | .hbm, ⟨2, _⟩ => ⟨S4096x1024, .bf16⟩
  | .hbm, ⟨3, _⟩ => ⟨S1024x4x384, .f32⟩
  | .hbm, ⟨4, _⟩ => ⟨S4x1024x384, .f32⟩
  | .hbm, ⟨5, _⟩ => ⟨S4x1024x384, .bf16⟩
  | .hbm, ⟨6, _⟩ => ⟨S4096x1536, .f32⟩
  | .local _ .vmem, ⟨0, _⟩ => ⟨S1024x1024, .bf16⟩
  | .local _ .vmem, ⟨1, _⟩ => ⟨S1024x1024, .bf16⟩
  | .local _ .vmem, ⟨2, _⟩ => ⟨S4x1024x384, .bf16⟩
  | .local _ .vmem, ⟨3, _⟩ => ⟨S1024x384, .f32⟩
  | .local _ .vmem, ⟨4, _⟩ => ⟨S1024x384, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 4], ![false, false]⟩

def k0_off1 (i : grid0.Coords) : Fin 3 → Nat :=
  let arg1 : BitVec 32 := BitVec.ofNat 32 (i 1).val
  let v2 : Index := Scalar.indexCast arg1
  let c0_1 : Index := 0#32
  let c0_2 : Index := 0#32
  ![v2.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4x1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S4096x1024 : Shape := ⟨2, ![4096, 1024]⟩
abbrev S1024x1536 : Shape := ⟨2, ![1024, 1536]⟩
abbrev S4096x1536 : Shape := ⟨2, ![4096, 1536]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1536, .f32⟩
  | .hbm, ⟨2, _⟩ => ⟨S4096x1536, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel15.lean ====
abbrev S704x1024 : Shape := ⟨2, ![704, 1024]⟩
abbrev S176x1024 : Shape := ⟨2, ![176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference15Ideal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Reals.lean ====
/-
  Extended reals that are real numbers. Under a finiteness precondition every argument entry is a real number, and every
  operation the two programs apply to real numbers gives a real number again; the lemmas here carry the coercion from
  `ℝ` to the extended reals outward through the operations, so that an equation between two programs becomes an
  equation over `ℝ`.
-/
module

public import Idealize.ShloMosaic.Lib.Pointwise
public import Idealize.ShloMosaic.Lib.Pipeline.Value

@[expose] public section

noncomputable section

namespace Cert.Reals

open Idealize.ShloMosaic

/-- The real array behind an array of extended reals (zero where an entry is infinite). -/
def re {ι : Type*} (x : ι → EReal) (i : ι) : ℝ := (x i).toReal

/-- Every entry of the array is a real number. -/
def Fin' {ι : Type*} (x : ι → EReal) : Prop := ∀ i, x i = ((re x i : ℝ) : EReal)

/-- An extended real that is a real number; sums and products of such are such. -/
def IsReal (x : EReal) : Prop := ∃ v : ℝ, x = (v : EReal)

theorem IsReal.add {x y : EReal} : IsReal x → IsReal y → IsReal (x + y) := fun ⟨a, ha⟩ ⟨b, hb⟩ => ⟨a + b, by rw [ha, hb, EReal.coe_add]⟩
theorem IsReal.sub {x y : EReal} : IsReal x → IsReal y → IsReal (x - y) := fun ⟨a, ha⟩ ⟨b, hb⟩ => ⟨a - b, by rw [ha, hb, EReal.coe_sub]⟩
theorem IsReal.mul {x y : EReal} : IsReal x → IsReal y → IsReal (x * y) := fun ⟨a, ha⟩ ⟨b, hb⟩ => ⟨a * b, by rw [ha, hb, EReal.coe_mul]⟩

theorem Fin'.at {ι : Type*} {x : ι → EReal} (h : Fin' x) (i : ι) : IsReal (x i) := ⟨_, h i⟩

theorem fin_of_isReal {ι : Type*} {x : ι → EReal} (h : ∀ i, IsReal (x i)) : Fin' x := fun i => by
  obtain ⟨v, hv⟩ := h i
  rw [re, hv, EReal.toReal_coe]

/-- A sum of real numbers is the real sum. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem IsReal.sum {ι : Type*} {s : Finset ι} {f : ι → EReal} (h : ∀ i, IsReal (f i)) : IsReal (∑ i ∈ s, f i) :=
  ⟨∑ i ∈ s, re f i, by rw [← coe_sum]; exact Finset.sum_congr rfl fun i _ => fin_of_isReal h i⟩

/-- A quotient by a real number that is not zero is the real quotient. -/
theorem div_coe_coe (x : ℝ) {y : ℝ} (h : y ≠ 0) : Ideal.div (x : EReal) (y : EReal) = ((x / y : ℝ) : EReal) := by
  rw [Ideal.div_coe h, ← EReal.coe_mul, mul_one_div]

/-- One over one plus an exponential: the logistic function of a real number is the real logistic function. -/
theorem logistic_div (x : ℝ) :
    Ideal.div 1 (1 + Ideal.exp ((x : ℝ) : EReal)) = ((1 / (1 + Real.exp x) : ℝ) : EReal) := by
  rw [Ideal.exp_coe, ← EReal.coe_one, ← EReal.coe_add, div_coe_coe]
  exact ne_of_gt (by positivity)

/-- The reciprocal square root of a positive real number is the real one. -/
theorem rsqrt_coe_pos {x : ℝ} (h : 0 < x) : Ideal.rsqrt (x : EReal) = (((Real.sqrt x)⁻¹ : ℝ) : EReal) := by
  rw [Ideal.rsqrt_coe, if_neg (not_lt.mpr h.le), if_neg h.ne']

/-- Zero less a real number. -/
theorem zero_sub_coe (x : ℝ) : (0 : EReal) - (x : EReal) = ((-x : ℝ) : EReal) := by
  rw [← EReal.coe_zero, ← EReal.coe_sub, zero_sub]

/-- The f32 pattern of positive infinity. -/
theorem ofBits_inf : (Ideal.ofBits .f32 0x7F800000#32 : EReal) = ⊤ := by
  simp [Ideal.ofBits, Ideal.ieee]

/-- An array whose absolute values the comparison finds below infinity holds real numbers only. -/
theorem fin_of_abs_lt {s z : Shape} (x : FVec Ideal s .f32) {dims : Fin z.rank → Fin s.rank} (hb : z.BroadcastsInDim s dims)
    (h : cmpf .olt (Host.absf x) (broadcastInDim s dims hb (constant z .f32 0x7F800000#32)) = fun _ => 1#1) : Fin' x := by
  intro i
  have hi := congrFun h i
  have hlt : max (x i) (-(x i)) < (⊤ : EReal) := by
    rw [← ofBits_inf]
    by_contra hc
    have h0 : cmpf .olt (Host.absf x) (broadcastInDim s dims hb (constant z .f32 0x7F800000#32)) i = 0#1 := by
      show BitVec.ofBool (decide (max (x i) (-(x i)) < (Ideal.ofBits .f32 0x7F800000#32 : EReal))) = 0#1
      rw [decide_eq_false hc]; rfl
    rw [h0] at hi
    exact absurd hi (by decide)
  have h1 : x i ≠ ⊤ := fun e => by rw [e] at hlt; simp at hlt
  have h2 : x i ≠ ⊥ := fun e => by rw [e] at hlt; simp at hlt
  exact (EReal.coe_toReal h1 h2).symm

/-- The f32 pattern of one half. -/
theorem ofBits_half : (Ideal.ofBits .f32 0x3F000000#32 : EReal) = ((1 / 2 : ℝ) : EReal) := by
  simp [Ideal.ofBits, Ideal.ieee, -EReal.coe_mul]
  norm_num

/-- An element of a window's block sits at the block's index times the block's size plus its own coordinate. -/
theorem emb_eq {sg : RefSig} {G : Pipeline.Grid} (w : Pipeline.Window sg G) (hk : w.kind = .blocked) (t : Fin G.N) (y : (w.xblock (G.coords t)).Idx)
    (z : w.shape.Idx) (h : ∀ a, w.index t a * w.size a + (y a).val = (z a).val) : (w.rect t).emb y = z :=
  funext fun a => Fin.ext ((w.rect_emb_val t y a hk).trans (h a))

theorem zero2 : (![0, 0] : Fin 2 → Nat) = fun _ => 0 := funext fun a => by fin_cases a <;> rfl
theorem zero3 : (![0, 0, 0] : Fin 3 → Nat) = fun _ => 0 := funext fun a => by fin_cases a <;> rfl

end Cert.Reals

end
-- ==== Proof.GateScalar.lean ====
/-
  The gradient of the gate `½ · (silu a · b) @ w` on real numbers, element by element: what the kernel computes from
  the saved products `a`, `b` and the cotangent carried back through `w`, what the reference's `jax.vjp` computes, and that the
  two agree where every argument is a real number.
-/
module

public import proofs.«01_k».proof.Proof.Reals

@[expose] public section

noncomputable section

namespace Cert.Gate

open Idealize.ShloMosaic

/-- The column of the whole hidden width that column `f` of slab `j` is. -/
abbrev col (j : Fin 4) (f : Fin 704) : Fin 2816 := ⟨j.val * 704 + f.val, by omega⟩

/-- The shapes of the activations, of the weights into the hidden width and of the weight out of it. -/
abbrev Act : Shape := ⟨2, ![4096, 1024]⟩
abbrev Up : Shape := ⟨2, ![1024, 2816]⟩
abbrev Down : Shape := ⟨2, ![2816, 1024]⟩

/-- The constant one half, as both programs write it. -/
abbrev half : EReal := Ideal.ofBits .f32 0x3F000000#32

/-- A row of one array times a column of another. -/
def dot (x : FVec Ideal Act .f32) (w : FVec Ideal Up .f32) (r : Fin 4096) (n : Fin 2816) : EReal :=
  ∑ k : Fin 1024, x (ix2 r k) * w (ix2 k n)

/-- A row of one array times a row of another. -/
def dotT (x : FVec Ideal Act .f32) (w : FVec Ideal Down .f32) (r : Fin 4096) (n : Fin 2816) : EReal :=
  ∑ k : Fin 1024, x (ix2 r k) * w (ix2 n k)

/-- Half a row of one array times a row of another. -/
def dotHalf (x : FVec Ideal Act .f32) (w : FVec Ideal Down .f32) (r : Fin 4096) (n : Fin 2816) : EReal :=
  ∑ k : Fin 1024, half * x (ix2 r k) * w (ix2 n k)

/-- The logistic function as the kernel writes it. -/
def sigma (a : EReal) : EReal := Ideal.div 1 (1 + Ideal.exp (0 - a))

/-- One element of the first product's gradient, from the saved products `a`, `b` and the element `g` of the cotangent
    carried back through the last product. -/
def da (a b g : EReal) : EReal := half * g * b * sigma a * (1 + a * (1 - sigma a))

/-- One element of the second product's gradient. -/
def db (a g : EReal) : EReal := half * g * a * sigma a

/-- The logistic function as the reference writes it. -/
def refSigma (a : EReal) : EReal := Ideal.div 1 (1 + Ideal.exp (-a))

/-- The two are one function. -/
theorem sigma_eq (a : EReal) : sigma a = refSigma a := by rw [sigma, refSigma, zero_sub]

/-- The reference's elements, `g` with the half already in it. -/
def refDa (a b g : EReal) : EReal := g * b * refSigma a + a * (g * b) * (refSigma a * (1 - refSigma a))
def refDb (a g : EReal) : EReal := a * refSigma a * g

variable {x : FVec Ideal Act .f32} {u : FVec Ideal Up .f32} {w : FVec Ideal Down .f32}

theorem dot_real (hx : Reals.Fin' x) (hu : Reals.Fin' u) (r : Fin 4096) (n : Fin 2816) :
    dot x u r n = ((∑ k : Fin 1024, Reals.re x (ix2 r k) * Reals.re u (ix2 k n) : ℝ) : EReal) := by
  rw [← Reals.coe_sum]
  exact Finset.sum_congr rfl fun k _ => by rw [hx, hu, EReal.coe_mul]

theorem dotT_real (hx : Reals.Fin' x) (hw : Reals.Fin' w) (r : Fin 4096) (n : Fin 2816) :
    dotT x w r n = ((∑ k : Fin 1024, Reals.re x (ix2 r k) * Reals.re w (ix2 n k) : ℝ) : EReal) := by
  rw [← Reals.coe_sum]
  exact Finset.sum_congr rfl fun k _ => by rw [hx, hw, EReal.coe_mul]

theorem dotHalf_real (hx : Reals.Fin' x) (hw : Reals.Fin' w) (r : Fin 4096) (n : Fin 2816) :
    dotHalf x w r n = ((1 / 2 * ∑ k : Fin 1024, Reals.re x (ix2 r k) * Reals.re w (ix2 n k) : ℝ) : EReal) := by
  rw [Finset.mul_sum, ← Reals.coe_sum]
  exact Finset.sum_congr rfl fun k _ => by
    rw [half, Reals.ofBits_half, hx, hw, ← EReal.coe_mul, ← EReal.coe_mul, mul_assoc]

theorem sigma_real (a : ℝ) : sigma a = ((1 / (1 + Real.exp (-a)) : ℝ) : EReal) := by
  rw [sigma, Reals.zero_sub_coe, Reals.logistic_div]

theorem refSigma_real (a : ℝ) : refSigma a = ((1 / (1 + Real.exp (-a)) : ℝ) : EReal) := by
  rw [refSigma, ← EReal.coe_neg, Reals.logistic_div]

/-- The kernel's element of the first gradient is the reference's. -/
theorem da_eq (a b g : ℝ) : da a b g = refDa a b ((1 / 2 * g : ℝ) : EReal) := by
  rw [da, refDa, sigma_real, refSigma_real, half, Reals.ofBits_half]
  generalize 1 / (1 + Real.exp (-a)) = s
  simp only [← EReal.coe_one, ← EReal.coe_mul, ← EReal.coe_add, ← EReal.coe_sub]
  congr 1
  ring

/-- The kernel's element of the second gradient is the reference's. -/
theorem db_eq (a g : ℝ) : db a g = refDb a ((1 / 2 * g : ℝ) : EReal) := by
  rw [db, refDb, sigma_real, refSigma_real, half, Reals.ofBits_half]
  generalize 1 / (1 + Real.exp (-a)) = s
  simp only [← EReal.coe_mul]
  congr 1
  ring

end Cert.Gate

end
-- ==== Proof.GateKernel.lean ====
/-
  The gate's gradient as the kernel computes it: what the body stores at each grid point, which blocks it reads there, and so
  each element of the two result arrays as a function of the arguments.
-/
module

public import proofs.«01_k».proof.Proof.Gen.KernelIdeal.Value
public import proofs.«01_k».proof.Proof.GateScalar

@[expose] public section

noncomputable section

namespace Cert.Gate

open Idealize.ShloMosaic Idealize.ShloMosaic.TcCoe Idealize.SL.Sem
open Idealize.ShloMosaic.Pipeline (Dat)
open Cert.KernelIdeal Cert.KernelIdeal.Gen

theorem pay2_apply (x0 : Vec Ideal S1024x1024 .bf16) (v3 : Vec Ideal S1x704x1024 .bf16) (p : Fin 1024) (q : Fin 704) :
    k0_pay2 x0 v3 (ix2 p q) = half * ∑ k, x0 (ix2 p k) * v3 (ix3 0 q k) := by
  pointwise [k0_pay2]

theorem pay5_apply (x0 : Vec Ideal S1024x1024 .bf16) (v3 : Vec Ideal S1x704x1024 .bf16) (a b : Vec Ideal S1x1024x704 .bf16) (p : Fin 1024) (q : Fin 704) :
    k0_pay5 x0 v3 a b (ix3 0 p q) = da (a (ix3 0 p q)) (b (ix3 0 p q)) (∑ k, x0 (ix2 p k) * v3 (ix3 0 q k)) := by
  pointwise [k0_pay5, k0_pay4, k0_pay3]
  rw [pay2_apply]; rfl

theorem pay6_apply (x0 : Vec Ideal S1024x1024 .bf16) (v3 : Vec Ideal S1x704x1024 .bf16) (a : Vec Ideal S1x1024x704 .bf16) (p : Fin 1024) (q : Fin 704) :
    k0_pay1 (k0_pay6 x0 v3 a) (ix3 0 p q) = db (a (ix3 0 p q)) (∑ k, x0 (ix2 p k) * v3 (ix3 0 q k)) := by
  pointwise [k0_pay1, k0_pay6, k0_pay4, k0_pay3]
  rw [pay2_apply]; rfl

variable (m : (ℓ : Loc nD τ sig) → Buf (Elt Ideal) ℓ) (ρ : Dev nD → PrngReg)

/-- The arguments: the hidden activations, the two weights into the hidden width, the weight out of it, the cotangent. -/
abbrev argH (c : Dev nD) : FVec Ideal S4096x1024 .f32 := m ((c : Thread nD τ).loc main_arg0)
abbrev argG (c : Dev nD) : FVec Ideal S1024x2816 .f32 := m ((c : Thread nD τ).loc main_arg1)
abbrev argU (c : Dev nD) : FVec Ideal S1024x2816 .f32 := m ((c : Thread nD τ).loc main_arg2)
abbrev argD (c : Dev nD) : FVec Ideal S2816x1024 .f32 := m ((c : Thread nD τ).loc main_arg3)
abbrev argC (c : Dev nD) : FVec Ideal S4096x1024 .f32 := m ((c : Thread nD τ).loc main_arg4)

/-- The host's product, cut in one slab of columns per chip, at an index. -/
theorem slab_apply (x : FVec Ideal S4096x1024 .f32) (w : FVec Ideal S1024x2816 .f32) (j : Fin 4) (r : Fin 4096) (f : Fin 704) :
    truncf .bf16 (transpose S4x4096x704 [1, 0, 2] (shapeCast S4096x4x704 (Host.dotGeneral (F := Ideal)
      dot_S4096x1024_S1024x2816_S4096x2816_1_0_0_1_n_n none x w : FVec Ideal S4096x2816 .f32)
      shapeCasts_S4096x2816_S4096x4x704) transposes_S4096x4x704_S4x4096x704_1_0_2) bitsLt_bf16_f32 (ix3 j r f)
      = dot x w r (col j f) := by
  pointwise []
  rfl

theorem V2 (c : Dev nD) : (V m c main_v2 : FVec Ideal S4096x1024 .bf16) = truncf .bf16 (argC m c) bitsLt_bf16_f32 := by
  unfold V hostOps0; after_results

theorem V1 (c : Dev nD) : (V m c main_v1 : FVec Ideal S4x704x1024 .bf16) = shapeCast S4x704x1024 (truncf .bf16 (argD m c) bitsLt_bf16_f32) shapeCasts_S2816x1024_S4x704x1024 := by
  unfold V hostOps0; after_results; rfl

theorem V6 (c : Dev nD) : (V m c main_v6 : FVec Ideal S4x4096x704 .bf16) = truncf .bf16 (transpose S4x4096x704 [1, 0, 2] (shapeCast S4096x4x704 (Host.dotGeneral (F := Ideal)
      dot_S4096x1024_S1024x2816_S4096x2816_1_0_0_1_n_n none (argH m c) (argG m c) : FVec Ideal S4096x2816 .f32)
      shapeCasts_S4096x2816_S4096x4x704) transposes_S4096x4x704_S4x4096x704_1_0_2) bitsLt_bf16_f32 := by
  unfold V hostOps0; after_results; rfl

theorem V10 (c : Dev nD) : (V m c main_v10 : FVec Ideal S4x4096x704 .bf16) = truncf .bf16 (transpose S4x4096x704 [1, 0, 2] (shapeCast S4096x4x704 (Host.dotGeneral (F := Ideal)
      dot_S4096x1024_S1024x2816_S4096x2816_1_0_0_1_n_n none (argH m c) (argU m c) : FVec Ideal S4096x2816 .f32)
      shapeCasts_S4096x2816_S4096x4x704) transposes_S4096x4x704_S4x4096x704_1_0_2) bitsLt_bf16_f32 := by
  unfold V hostOps0; after_results; rfl

/-- Where each window's block sits at each point: the row block is the point's first coordinate, the slab its second. -/
theorem idx_facts : ∀ t : Fin cfg0.N, (win0_0.index t 0 = t.val / 4 ∧ win0_0.index t 1 = 0)
    ∧ (win0_1.index t 0 = 0 ∧ win0_1.index t 1 = 0 ∧ win0_1.index t 2 = 0)
    ∧ (win0_2.index t 0 = t.val % 4 ∧ win0_2.index t 1 = t.val / 4 ∧ win0_2.index t 2 = 0)
    ∧ (win0_3.index t 0 = t.val % 4 ∧ win0_3.index t 1 = t.val / 4 ∧ win0_3.index t 2 = 0)
    ∧ (win0_4.index t 0 = t.val % 4 ∧ win0_4.index t 1 = t.val / 4 ∧ win0_4.index t 2 = 0)
    ∧ (win0_5.index t 0 = t.val % 4 ∧ win0_5.index t 1 = t.val / 4 ∧ win0_5.index t 2 = 0)
    ∧ k0_off1 (grid0.coords t) 0 = t.val % 4 ∧ k0_off1 (grid0.coords t) 1 = 0 ∧ k0_off1 (grid0.coords t) 2 = 0 :=
  (by decide +kernel : ∀ t : Fin grid0.N, _)

/-- The row of the whole array that row `p` of point `t`'s block is, and the slab. -/
abbrev rowOf (t : Fin cfg0.N) (p : Fin 1024) : Fin 4096 :=
  ⟨t.val / 4 * 1024 + p.val, by have : t.val < 16 := lt_of_lt_of_eq t.isLt N_0; omega⟩
abbrev slabOf (t : Fin cfg0.N) : Fin 4 := ⟨t.val % 4, by omega⟩

theorem blk0 (c : Dev nD) (t : Fin cfg0.N) (p k : Fin 1024) :
    (iblk m c 0 t : Vec Ideal S1024x1024 .bf16) (ix2 p k) = argC m c (ix2 (rowOf t p) k) := by
  have h := idx_facts t
  have e : (win0_0.rect t).emb (ix2 p k) = (ix2 (rowOf t p) k : S4096x1024.Idx) := Reals.emb_eq _ rfl t _ _ fun a => by
    fin_cases a
    · show win0_0.index t 0 * 1024 + p.val = t.val / 4 * 1024 + p.val; rw [h.1.1]
    · show win0_0.index t 1 * 1024 + k.val = k.val; rw [h.1.2]; simp
  show (V m c main_v2 : FVec Ideal S4096x1024 .bf16) ((win0_0.rect t).emb (ix2 p k)) = _
  rw [e, V2]; rfl

theorem blk1 (c : Dev nD) (t : Fin cfg0.N) (j : Fin 4) (q : Fin 704) (k : Fin 1024) :
    (iblk m c 1 t : Vec Ideal S4x704x1024 .bf16) (ix3 j q k) = argD m c (ix2 (col j q) k) := by
  have h := idx_facts t
  have e : (win0_1.rect t).emb (ix3 j q k) = (ix3 j q k : S4x704x1024.Idx) := Reals.emb_eq _ rfl t _ _ fun a => by
    fin_cases a
    · show win0_1.index t 0 * 4 + j.val = j.val; rw [h.2.1.1]; simp
    · show win0_1.index t 1 * 704 + q.val = q.val; rw [h.2.1.2.1]; simp
    · show win0_1.index t 2 * 1024 + k.val = k.val; rw [h.2.1.2.2]; simp
  show (V m c main_v1 : FVec Ideal S4x704x1024 .bf16) ((win0_1.rect t).emb (ix3 j q k)) = _
  rw [e, V1]; pointwise []

theorem blk2 (c : Dev nD) (t : Fin cfg0.N) (p : Fin 1024) (q : Fin 704) :
    (iblk m c 2 t : Vec Ideal S1x1024x704 .bf16) (ix3 0 p q) = dot (argH m c) (argG m c) (rowOf t p) (col (slabOf t) q) := by
  have h := idx_facts t
  have e : (win0_2.rect t).emb (ix3 0 p q) = (ix3 (slabOf t) (rowOf t p) q : S4x4096x704.Idx) := Reals.emb_eq _ rfl t _ _ fun a => by
    fin_cases a
    · show win0_2.index t 0 * 1 + 0 = t.val % 4; rw [h.2.2.1.1]; simp
    · show win0_2.index t 1 * 1024 + p.val = t.val / 4 * 1024 + p.val; rw [h.2.2.1.2.1]
    · show win0_2.index t 2 * 704 + q.val = q.val; rw [h.2.2.1.2.2]; simp
  show (V m c main_v6 : FVec Ideal S4x4096x704 .bf16) ((win0_2.rect t).emb (ix3 0 p q)) = _
  rw [e, V6, slab_apply]

theorem blk3 (c : Dev nD) (t : Fin cfg0.N) (p : Fin 1024) (q : Fin 704) :
    (iblk m c 3 t : Vec Ideal S1x1024x704 .bf16) (ix3 0 p q) = dot (argH m c) (argU m c) (rowOf t p) (col (slabOf t) q) := by
  have h := idx_facts t
  have e : (win0_3.rect t).emb (ix3 0 p q) = (ix3 (slabOf t) (rowOf t p) q : S4x4096x704.Idx) := Reals.emb_eq _ rfl t _ _ fun a => by
    fin_cases a
    · show win0_3.index t 0 * 1 + 0 = t.val % 4; rw [h.2.2.2.1.1]; simp
    · show win0_3.index t 1 * 1024 + p.val = t.val / 4 * 1024 + p.val; rw [h.2.2.2.1.2.1]
    · show win0_3.index t 2 * 704 + q.val = q.val; rw [h.2.2.2.1.2.2]; simp
  show (V m c main_v10 : FVec Ideal S4x4096x704 .bf16) ((win0_3.rect t).emb (ix3 0 p q)) = _
  rw [e, V10, slab_apply]

/-- The slab of the last weight that point `t` loads. -/
abbrev slabD (c : Dev nD) (t : Fin cfg0.N) : Vec Ideal S1x704x1024 .bf16 :=
  View.ld (iblk m c 1 t) (Rect.unit (s := S4x704x1024) (k0_off1 (grid0.coords t)) S1x704x1024.size (k0_off1_inb (grid0.coords t)))

theorem slabD_apply (c : Dev nD) (t : Fin cfg0.N) (q : Fin 704) (k : Fin 1024) :
    slabD m c t (ix3 0 q k) = argD m c (ix2 (col (slabOf t) q) k) := by
  have h := idx_facts t
  rw [← blk1 m c t]
  show (iblk m c 1 t : Vec Ideal S4x704x1024 .bf16) _ = _
  refine congrArg _ (funext fun a => Fin.ext ?_)
  have h' : ∀ a : Fin 3, ((Rect.unit (s := S4x704x1024) (k0_off1 (grid0.coords t)) S1x704x1024.size (k0_off1_inb (grid0.coords t))).idx (ix3 0 q k) a : Nat) = k0_off1 (grid0.coords t) a + 1 * (ix3 (0 : Fin 1) q k a : Nat) := fun a => rfl
  refine (h' a).trans ?_
  fin_cases a
  · show k0_off1 (grid0.coords t) 0 + 1 * 0 = t.val % 4; rw [h.2.2.2.2.2.2.1]; simp
  · show k0_off1 (grid0.coords t) 1 + 1 * q.val = q.val; rw [h.2.2.2.2.2.2.2.1]; simp
  · show k0_off1 (grid0.coords t) 2 + 1 * k.val = k.val; rw [h.2.2.2.2.2.2.2.2]; simp

/-- What the body leaves in the first output's block is its payload of the four input blocks. -/
theorem out4 (c : Dev nD) (t : Fin cfg0.N) : (outsAt0 m c t).1 = k0_pay5 (iblk m c 0 t) (slabD m c t) (iblk m c 2 t) (iblk m c 3 t) := by
  unfold outsAt0 out0_A_4
  dsimp only
  rw [View.read_writes_eq_canon _ _ _ (cover0_A_4 c _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread]
  rw [View.canon_unit_zero Reals.zero3, View.ld_unit_zero Reals.zero2, View.ld_unit_zero Reals.zero3, View.ld_unit_zero Reals.zero3]
  rfl

theorem out5 (c : Dev nD) (t : Fin cfg0.N) : (outsAt0 m c t).2 = k0_pay1 (k0_pay6 (iblk m c 0 t) (slabD m c t) (iblk m c 2 t)) := by
  unfold outsAt0 out0_A_5
  dsimp only
  rw [View.read_writes_eq_canon _ _ _ (cover0_A_5 c _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread]
  rw [View.canon_unit_zero Reals.zero3, View.ld_unit_zero Reals.zero2, View.ld_unit_zero Reals.zero3]
  rfl

/-- The point whose block holds row `r` of slab `j`, and the row's place in it. -/
abbrev pointOf (j : Fin 4) (r : Fin 4096) : Fin cfg0.N := ⟨r.val / 1024 * 4 + j.val, by rw [show cfg0.N = 16 from N_0]; omega⟩
abbrev inBlock (r : Fin 4096) : Fin 1024 := ⟨r.val % 1024, by omega⟩

theorem rowOf_pointOf (j : Fin 4) (r : Fin 4096) : rowOf (pointOf j r) (inBlock r) = r := Fin.ext (by dsimp only; omega)
theorem slabOf_pointOf (j : Fin 4) (r : Fin 4096) : slabOf (pointOf j r) = j := Fin.ext (by dsimp only; omega)

/-- The first result after the run, element by element. -/
theorem final4 (c : Dev nD) (j : Fin 4) (r : Fin 4096) (f : Fin 704) :
    ((dats m 0 c).arrAt 4 cfg0.N : FVec Ideal S4x4096x704 .bf16) (ix3 j r f)
      = da (dot (argH m c) (argG m c) r (col j f)) (dot (argH m c) (argU m c) r (col j f)) (dotT (argC m c) (argD m c) r (col j f)) := by
  have h := idx_facts (pointOf j r)
  have e : (win0_4.rect (pointOf j r)).emb (ix3 0 (inBlock r) f) = (ix3 j r f : S4x4096x704.Idx) := Reals.emb_eq _ rfl _ _ _ fun a => by
    fin_cases a
    · show win0_4.index (pointOf j r) 0 * 1 + 0 = j.val; rw [h.2.2.2.2.1.1]; dsimp only; omega
    · show win0_4.index (pointOf j r) 1 * 1024 + r.val % 1024 = r.val; rw [h.2.2.2.2.1.2.1]; dsimp only; omega
    · show win0_4.index (pointOf j r) 2 * 704 + f.val = f.val; rw [h.2.2.2.2.1.2.2]; simp
  rw [← e]
  refine ((dats m 0 c).arrAt_emb_eq_flushed 4 (Value.disjoint4) (pointOf j r) (flush0_4 _) (ix3 0 (inBlock r) f)).trans ?_
  rw [Value.flushed4]
  show (outsAt0 m c (pointOf j r)).1 (ix3 0 (inBlock r) f) = _
  rw [out4, pay5_apply, blk2, blk3, rowOf_pointOf, slabOf_pointOf]
  congr 1
  exact Finset.sum_congr rfl fun k _ => by rw [blk0, slabD_apply, rowOf_pointOf, slabOf_pointOf]

/-- The second result after the run, element by element. -/
theorem final5 (c : Dev nD) (j : Fin 4) (r : Fin 4096) (f : Fin 704) :
    ((dats m 0 c).arrAt 5 cfg0.N : FVec Ideal S4x4096x704 .bf16) (ix3 j r f)
      = db (dot (argH m c) (argG m c) r (col j f)) (dotT (argC m c) (argD m c) r (col j f)) := by
  have h := idx_facts (pointOf j r)
  have e : (win0_5.rect (pointOf j r)).emb (ix3 0 (inBlock r) f) = (ix3 j r f : S4x4096x704.Idx) := Reals.emb_eq _ rfl _ _ _ fun a => by
    fin_cases a
    · show win0_5.index (pointOf j r) 0 * 1 + 0 = j.val; rw [h.2.2.2.2.2.1.1]; dsimp only; omega
    · show win0_5.index (pointOf j r) 1 * 1024 + r.val % 1024 = r.val; rw [h.2.2.2.2.2.1.2.1]; dsimp only; omega
    · show win0_5.index (pointOf j r) 2 * 704 + f.val = f.val; rw [h.2.2.2.2.2.1.2.2]; simp
  rw [← e]
  refine ((dats m 0 c).arrAt_emb_eq_flushed 5 (Value.disjoint5) (pointOf j r) (flush0_5 _) (ix3 0 (inBlock r) f)).trans ?_
  rw [Value.flushed5]
  show (outsAt0 m c (pointOf j r)).2 (ix3 0 (inBlock r) f) = _
  rw [out5, pay6_apply, blk2, rowOf_pointOf, slabOf_pointOf]
  congr 1
  exact Finset.sum_congr rfl fun k _ => by rw [blk0, slabD_apply, rowOf_pointOf, slabOf_pointOf]

end Cert.Gate

end
-- ==== Proof.GateReference.lean ====
/-
  The reference of the gate's gradient read at an index: the two results `jax.vjp` gives, as functions of the products
  of the hidden activations with the two weights and of the cotangent carried back through the last weight.
-/
module

public import proofs.«01_k».proof.Proof.Gen.ReferenceIdeal.Run
public import proofs.«01_k».proof.Proof.Gen.ReferenceIdeal.Read
public import proofs.«01_k».proof.Proof.GateScalar

@[expose] public section

noncomputable section

namespace Cert.Gate.Ref

open Idealize.ShloMosaic Idealize.ShloMosaic.TcCoe Idealize.SL.Sem
open Cert.ReferenceIdeal Cert.ReferenceIdeal.Read

variable (x0 x4 : FVec Ideal S4096x1024 .f32) (x1 x2 : FVec Ideal S1024x2816 .f32) (x3 : FVec Ideal S2816x1024 .f32)

theorem v0 (r : Fin 4096) (n : Fin 2816) : val_main_v0 (F := Ideal) x0 x1 (ix2 r n) = dot x0 x1 r n := by
  unfold val_main_v0; pointwise []; rfl

theorem v1 (r : Fin 4096) (n : Fin 2816) : val_main_v1 (F := Ideal) x0 x2 (ix2 r n) = dot x0 x2 r n := by
  unfold val_main_v1; pointwise []; rfl

theorem v9 (r : Fin 4096) (n : Fin 2816) : val_main_v9 (F := Ideal) x3 x4 (ix2 r n) = dotHalf x4 x3 r n := by
  unfold val_main_v9 val_main_v8 val_main_v7 val_main_cst_0; pointwise []; rfl

/-- The place of an element of a slab in the array before it was cut in slabs. -/
theorem place (j : Fin 4) (r : Fin 4096) (f : Fin 704) : idx_main_v13 (idx_main_v14 (ix3 j r f)) = ix2 r (col j f) := by
  funext a
  refine Fin.ext ?_
  fin_cases a
  · show (((r.val * 4 + j.val) * 704 + f.val) / 2816) = r.val; omega
  · show (((r.val * 4 + j.val) * 704 + f.val) % 2816) = j.val * 704 + f.val; omega

/-- The first result: the gradient of the product that the gate's function is applied to. -/
theorem da_apply (j : Fin 4) (r : Fin 4096) (f : Fin 704) : val_main_v15 (F := Ideal) x0 x1 x2 x3 x4 (ix3 j r f)
    = refDa (dot x0 x1 r (col j f)) (dot x0 x2 r (col j f)) (dotHalf x4 x3 r (col j f)) := by
  simp only [val_main_v15_apply, val_main_v14_apply, val_main_v13_apply, val_main_v12_apply, val_main_v11_apply, val_main_v10_apply,
    val_main_v2_2_apply, val_main_v2_1_apply, val_main_call0_v0_apply, val_main_call0_v1_apply, val_main_call0_v2_apply,
    val_main_call0_v3_apply, val_main_call0_v4_apply, val_main_call0_v6_apply, val_main_call0_v7_apply, val_main_call0_cst_apply,
    val_main_call0_cst_0_apply, val_main_call0_cst_1_apply, val_main_call1_v0_apply, val_main_call1_v1_apply, val_main_call1_v2_apply,
    place, v0, v1, v9]
  unfold refDa refSigma
  simp only [← Ideal.ofBits_one_f32]
  rfl

/-- The second result: the gradient of the other product. -/
theorem db_apply (j : Fin 4) (r : Fin 4096) (f : Fin 704) : val_main_v18 (F := Ideal) x0 x1 x3 x4 (ix3 j r f)
    = refDb (dot x0 x1 r (col j f)) (dotHalf x4 x3 r (col j f)) := by
  have place' : idx_main_v16 (idx_main_v17 (ix3 j r f)) = ix2 r (col j f) := place j r f
  simp only [val_main_v18_apply, val_main_v17_apply, val_main_v16_apply, val_main_v10_apply,
    val_main_v2_0_apply, val_main_v2_2_apply, val_main_call0_v0_apply, val_main_call0_v1_apply, val_main_call0_v2_apply,
    val_main_call0_v3_apply, val_main_call0_v4_apply, val_main_call0_cst_apply,
    val_main_call0_cst_0_apply, place', v0, v9]
  unfold refDb refSigma
  simp only [← Ideal.ofBits_one_f32]
  rfl

end Cert.Gate.Ref

end
-- ==== Proof.GateClaims.lean ====
/-
  The claims about the gate's gradient (`_ffn_bwd_act`): the kernel's program and its idealization run and leave their
  arguments as they were, and over the extended reals the kernel's two results are the two gradients `jax.vjp` gives,
  where every argument entry is a real number.
-/
module

public import proofs.«01_k».proof.Defs
public import proofs.«01_k».proof.Proof.Gen.Kernel.Frame
public import proofs.«01_k».proof.Proof.Gen.Pre_gate_finite
public import proofs.«01_k».proof.Proof.GateKernel
public import proofs.«01_k».proof.Proof.GateReference

@[expose] public section

noncomputable section

namespace Cert.Gate

open Idealize.ShloMosaic Idealize.ShloMosaic.TcCoe Idealize.SL.Sem
open Cert.KernelIdeal KernelIdeal.Gen

theorem frame_kernel : quiescent_Kernel := fun m ρ _ => Kernel.Gen.frame m ρ
theorem frame_ideal : quiescent_KernelIdeal := fun m ρ _ => KernelIdeal.Gen.frame m ρ
theorem frame_ideal_pre : quiescent_KernelIdeal_pre_gate_finite := fun m ρ _ => KernelIdeal.Gen.frame m ρ
theorem frame_reference : quiescent_ReferenceIdeal := fun m ρ _ =>
  (θ_run ReferenceIdeal.defs _ _).mono (fun r h => ⟨fun c => (h c).2.2, sem_eq_zero_of_no_sems (by decide) r.2⟩)
    (ReferenceIdeal.Value.run (F := Ideal) m ρ)
theorem frame_reference_pre : quiescent_ReferenceIdeal_pre_gate_finite := fun m ρ _ => frame_reference m ρ trivial

/-- Under the precondition every argument entry is a real number. -/
theorem finite (m : (ℓ : Loc nD τ sig) → Buf (Elt Ideal) ℓ) (h : Cert.Pre_KernelIdeal_gate_finite m) (c : Dev nD) :
    Reals.Fin' (argH m c) ∧ Reals.Fin' (argG m c) ∧ Reals.Fin' (argU m c) ∧ Reals.Fin' (argD m c) ∧ Reals.Fin' (argC m c) :=
  ⟨Reals.fin_of_abs_lt _ _ (h c).1, Reals.fin_of_abs_lt _ _ (h c).2.1, Reals.fin_of_abs_lt _ _ (h c).2.2.1,
    Reals.fin_of_abs_lt _ _ (h c).2.2.2.1, Reals.fin_of_abs_lt _ _ (h c).2.2.2.2⟩

/-- An index of a result is a slab, a row and a column in the slab. -/
theorem place3 (i : (⟨3, ![4, 4096, 704]⟩ : Shape).Idx) : ∃ (j : Fin 4) (r : Fin 4096) (f : Fin 704), i = ix3 j r f :=
  ⟨i 0, i 1, i 2, (ix3_eta i).symm⟩

/-- The kernel's first result is the reference's, -/
theorem da_agree (m : (ℓ : Loc nD τ sig) → Buf (Elt Ideal) ℓ) (h : Cert.Pre_KernelIdeal_gate_finite m) (c : Dev nD) :
    ReferenceIdeal.Read.val_main_v15 (F := Ideal) (argH m c) (argG m c) (argU m c) (argD m c) (argC m c)
      = (dats m 0 c).arrAt 4 cfg0.N := by
  obtain ⟨h0, h1, h2, h3, h4⟩ := finite m h c
  funext i
  obtain ⟨j, r, f, rfl⟩ := place3 i
  refine (Ref.da_apply _ _ _ _ _ j r f).trans (Eq.trans ?_ (final4 m c j r f).symm)
  rw [dot_real h0 h1, dot_real h0 h2, dotHalf_real h4 h3, dotT_real h4 h3, da_eq]

/-- and so is its second. -/
theorem db_agree (m : (ℓ : Loc nD τ sig) → Buf (Elt Ideal) ℓ) (h : Cert.Pre_KernelIdeal_gate_finite m) (c : Dev nD) :
    ReferenceIdeal.Read.val_main_v18 (F := Ideal) (argH m c) (argG m c) (argD m c) (argC m c)
      = (dats m 0 c).arrAt 5 cfg0.N := by
  obtain ⟨h0, h1, h2, h3, h4⟩ := finite m h c
  funext i
  obtain ⟨j, r, f, rfl⟩ := place3 i
  refine (Ref.db_apply _ _ _ _ j r f).trans (Eq.trans ?_ (final5 m c j r f).symm)
  rw [dot_real h0 h1, dotHalf_real h4 h3, dotT_real h4 h3, db_eq]

theorem algebraic : algebraic_KernelIdeal_ReferenceIdeal_pre_gate_finite := by
  intro m ρ m' ρ' hpre hagree
  refine ⟨fun c => (dats m 0 c).arrAt 4 cfg0.N, fun c => (dats m 0 c).arrAt 5 cfg0.N, Value.run_blocks m ρ, ?_⟩
  refine (θ_run ReferenceIdeal.defs _ _).mono (fun _ h c => ⟨(h c).1.trans ?_, (h c).2.1.trans ?_, (h c).2.2⟩)
    (ReferenceIdeal.Value.run (F := Ideal) m' ρ')
  · rw [ReferenceIdeal.Read.val_main_v15_eq, (hagree c).1, (hagree c).2.1, (hagree c).2.2.1, (hagree c).2.2.2.1, (hagree c).2.2.2.2]
    exact da_agree m hpre c
  · rw [ReferenceIdeal.Read.val_main_v18_eq, (hagree c).1, (hagree c).2.1, (hagree c).2.2.2.1, (hagree c).2.2.2.2]
    exact db_agree m hpre c

end Cert.Gate

end
-- ==== Proof.NormScalar.lean ====
/-
  The gradient of the norm `x · rsqrt (mean (x · x) + ε)` along one row, on extended reals: as the kernels write it,
  as `jax.vjp` writes it, and that the two agree where the row and its cotangent hold real numbers. Also the regrouping
  of a sum over all rows into row blocks and of a sum over all columns into slabs, which holds for all extended reals.
-/
module

public import proofs.«01_k».proof.Proof.Reals

@[expose] public section

noncomputable section

namespace Cert.Norm

open Idealize.ShloMosaic

/-- The row's length, the guard under the root, and the factor `-1/2` of the root's derivative, as the programs write them. -/
abbrev width : EReal := Ideal.ofBits .f32 0x44800000#32
abbrev guard : EReal := Ideal.ofBits .f32 0x358637BD#32
abbrev minusHalf : EReal := Ideal.ofBits .f32 0xBF000000#32

/-- What is under the root, and the reciprocal root. -/
def under (x : Fin 1024 → EReal) : EReal := Ideal.div (∑ k, x k * x k) width + guard
def rinv (x : Fin 1024 → EReal) : EReal := Ideal.rsqrt (under x)

/-- An element of the normed row, with its gain. -/
def normed (x g : Fin 1024 → EReal) (n : Fin 1024) : EReal := x n * rinv x * g n

/-- The row's gradient beside the residual `o`, as the kernels write it: `d` is the cotangent of the normed row. -/
def grad (o : EReal) (x d : Fin 1024 → EReal) (n : Fin 1024) : EReal :=
  o + rinv x * (d n - x n * rinv x * Ideal.div (∑ k, d k * (x k * rinv x)) width)

/-- The part of the row's gradient that comes through the root, as `jax.vjp` writes it. -/
def through (x d : Fin 1024 → EReal) : EReal :=
  Ideal.div ((∑ k, x k * d k) * (minusHalf * Ideal.div (rinv x) (under x))) width

/-- The row's gradient beside the residual, as `jax.vjp` writes it. -/
def refGrad (o : EReal) (x d : Fin 1024 → EReal) (n : Fin 1024) : EReal :=
  o + d n * rinv x + x n * through x d + through x d * x n

theorem width_eq : width = ((1024 : ℝ) : EReal) := by
  simp [width, Ideal.ofBits, Ideal.ieee, -EReal.coe_mul]
  norm_num

theorem minusHalf_eq : minusHalf = ((-1 / 2 : ℝ) : EReal) := by
  simp [minusHalf, Ideal.ofBits, Ideal.ieee, -EReal.coe_mul]
  norm_num

theorem guard_pos : ∃ e : ℝ, 0 < e ∧ guard = (e : EReal) := by
  refine ⟨8796093 / 2 ^ 43, by positivity, ?_⟩
  simp [guard, Ideal.ofBits, Ideal.ieee, -EReal.coe_mul]
  norm_num

/-- On a row of real numbers the root is taken of a positive number. -/
theorem under_real (a : Fin 1024 → ℝ) : ∃ v : ℝ, 0 < v ∧ under (fun k => (a k : EReal)) = (v : EReal) := by
  obtain ⟨e, he, hg⟩ := guard_pos
  refine ⟨(∑ k, a k * a k) / 1024 + e, ?_, ?_⟩
  · have : 0 ≤ ∑ k, a k * a k := Finset.sum_nonneg fun k _ => mul_self_nonneg (a k)
    positivity
  · rw [under, hg, width_eq]
    simp only [← EReal.coe_mul]
    rw [Reals.coe_sum, Reals.div_coe_coe _ (by norm_num), ← EReal.coe_add]

/-- So the reciprocal root is a real number `r` with `r · r` the reciprocal of what is under it. -/
theorem rinv_real (a : Fin 1024 → ℝ) :
    ∃ v r : ℝ, 0 < v ∧ r * r * v = 1 ∧ under (fun k => (a k : EReal)) = (v : EReal) ∧ rinv (fun k => (a k : EReal)) = (r : EReal) := by
  obtain ⟨v, hv, h⟩ := under_real a
  refine ⟨v, (Real.sqrt v)⁻¹, hv, ?_, h, by rw [rinv, h, Reals.rsqrt_coe_pos hv]⟩
  have hs : Real.sqrt v * Real.sqrt v = v := Real.mul_self_sqrt hv.le
  have h0 : Real.sqrt v ≠ 0 := (Real.sqrt_pos.mpr hv).ne'
  field_simp
  nlinarith

theorem grad_eq_real (o : ℝ) (a b : Fin 1024 → ℝ) (n : Fin 1024) :
    grad o (fun k => (a k : EReal)) (fun k => (b k : EReal)) n = refGrad o (fun k => (a k : EReal)) (fun k => (b k : EReal)) n := by
  obtain ⟨v, r, hv, hr, hu, hi⟩ := rinv_real a
  have hv' : v ≠ 0 := hv.ne'
  have h1 : (∑ k, b k * (a k * r)) = r * ∑ k, a k * b k := by
    rw [Finset.mul_sum]; exact Finset.sum_congr rfl fun k _ => by ring
  rw [grad, refGrad, through, hu, hi, width_eq, minusHalf_eq]
  simp only [← EReal.coe_mul, Reals.coe_sum]
  rw [Reals.div_coe_coe r hv', h1]
  simp only [← EReal.coe_mul]
  rw [Reals.div_coe_coe _ (by norm_num : (1024 : ℝ) ≠ 0), Reals.div_coe_coe _ (by norm_num : (1024 : ℝ) ≠ 0)]
  simp only [← EReal.coe_mul, ← EReal.coe_sub, ← EReal.coe_add]
  congr 1
  have hq : r / v = r * r * r := by
    rw [div_eq_iff hv']; linear_combination (-r) * hr
  rw [hq]
  ring

/-- The two forms of the gradient agree on rows of real numbers. -/
theorem grad_eq {o : EReal} {x d : Fin 1024 → EReal} (ho : Reals.IsReal o) (hx : Reals.Fin' x) (hd : Reals.Fin' d) (n : Fin 1024) :
    grad o x d n = refGrad o x d n := by
  obtain ⟨v, rfl⟩ := ho
  have hx' : x = fun k => ((Reals.re x k : ℝ) : EReal) := funext hx
  have hd' : d = fun k => ((Reals.re d k : ℝ) : EReal) := funext hd
  rw [hx', hd']
  exact grad_eq_real v _ _ n

/-- A sum over `a · b` things, taken in `a` blocks of `b`. -/
theorem sum_blocks {M : Type*} [AddCommMonoid M] {n : ℕ} (a b : ℕ) (h : a * b = n) (f : Fin n → M) :
    ∑ r, f r = ∑ i : Fin a, ∑ p : Fin b, f ⟨i.val * b + p.val, by
      subst h; nlinarith [i.isLt, p.isLt, Nat.mul_le_mul_right b (Nat.succ_le_of_lt i.isLt)]⟩ := by
  subst h
  rw [← Finset.sum_product', ← (finProdFinEquiv (m := a) (n := b)).sum_comp]
  exact Finset.sum_congr rfl fun x _ => congrArg f (Fin.ext (by simp [finProdFinEquiv, Nat.add_comm, Nat.mul_comm]))

/-- What starts at the first part and takes on one part at each later step ends at the sum of the parts. -/
theorem sum_steps {M : Type*} [AddCommMonoid M] {N : ℕ} (S : (n : ℕ) → n < N → M) (part : Fin N → M)
    (h0 : ∀ h, S 0 h = part ⟨0, h⟩) (hs : ∀ n h, S (n + 1) h = S n (Nat.lt_of_succ_lt h) + part ⟨n + 1, h⟩) (n : ℕ) (h : n < N) :
    S n h = ∑ i : Fin (n + 1), part ⟨i.val, lt_of_lt_of_le i.isLt h⟩ := by
  induction n with
  | zero => rw [h0]; simp
  | succ n ih =>
    rw [hs, ih]
    exact (Fin.sum_univ_castSucc fun i : Fin (n + 2) => part ⟨i.val, lt_of_lt_of_le i.isLt h⟩).symm

/-- Slab `j` of a block of four slabs. -/
abbrev slabOf {r s : ℕ} (x : Vec Ideal ⟨3, ![4, r, s]⟩ .bf16) (j : Fin 4) (h : ∀ a, ![j.val, 0, 0] a + ![1, r, s] a ≤ ![4, r, s] a) :
    Vec Ideal ⟨3, ![1, r, s]⟩ .bf16 := View.ld x (Rect.unit (s := ⟨3, ![4, r, s]⟩) ![j.val, 0, 0] ![1, r, s] h)

theorem slabOf_apply {r s : ℕ} (x : Vec Ideal ⟨3, ![4, r, s]⟩ .bf16) (j : Fin 4) (h) (p : Fin r) (q : Fin s) :
    slabOf x j h (ix3 0 p q) = x (ix3 j p q) := by
  show x _ = _
  refine congrArg x (funext fun a => Fin.ext ?_)
  fin_cases a
  · show j.val + 1 * 0 = j.val; omega
  · show 0 + 1 * p.val = p.val; omega
  · show 0 + 1 * q.val = q.val; omega

/-- The product of a slab with a slab, element by element. -/
theorem sum_slab {r s n : ℕ} (x : Vec Ideal ⟨3, ![4, r, s]⟩ .bf16) (y : Vec Ideal ⟨3, ![4, s, n]⟩ .bf16) (j : Fin 4) (h h')
    (p : Fin r) (q : Fin n) : ∑ f, slabOf x j h (ix3 0 p f) * slabOf y j h' (ix3 0 f q) = ∑ f, x (ix3 j p f) * y (ix3 j f q) :=
  Finset.sum_congr rfl fun f _ => congrArg₂ (· * ·) (slabOf_apply x j h p f) (slabOf_apply y j h' f q)

/-- The row of the whole array that row `p` of point `t`'s block is. -/
abbrev rowIn (t : ℕ) (h : t < 8) (p : Fin 512) : Fin 4096 := ⟨t * 512 + p.val, by omega⟩
/-- The point whose block holds row `r`, and the row's place in it. -/
abbrev blockOf (r : Fin 4096) : ℕ := r.val / 512
abbrev inBlock (r : Fin 4096) : Fin 512 := ⟨r.val % 512, by omega⟩

theorem blockOf_lt (r : Fin 4096) : blockOf r < 8 := by have := r.isLt; unfold blockOf; omega
theorem rowIn_blockOf (r : Fin 4096) (h) : rowIn (blockOf r) h (inBlock r) = r := Fin.ext (by dsimp only [blockOf]; omega)

/-- The same for row blocks twice as high. -/
abbrev rowIn4 (t : ℕ) (h : t < 4) (p : Fin 1024) : Fin 4096 := ⟨t * 1024 + p.val, by omega⟩
abbrev blockOf4 (r : Fin 4096) : ℕ := r.val / 1024
abbrev inBlock4 (r : Fin 4096) : Fin 1024 := ⟨r.val % 1024, by omega⟩

theorem blockOf4_lt (r : Fin 4096) : blockOf4 r < 4 := by have := r.isLt; unfold blockOf4; omega
theorem rowIn4_blockOf4 (r : Fin 4096) (h) : rowIn4 (blockOf4 r) h (inBlock4 r) = r := Fin.ext (by dsimp only [blockOf4]; omega)

/-- An index of a result is a row and a column. -/
theorem place2 {a b : ℕ} (i : (⟨2, ![a, b]⟩ : Shape).Idx) : ∃ (r : Fin a) (n : Fin b), i = ix2 r n := ⟨i 0, i 1, (ix2_eta i).symm⟩

/-- An index of a row vector is a column. -/
theorem place1 {b : ℕ} (i : (⟨2, ![1, b]⟩ : Shape).Idx) : ∃ n : Fin b, i = ix2 0 n := by
  obtain ⟨r, n, rfl⟩ := place2 i
  exact ⟨n, by rw [Subsingleton.elim r 0]⟩

end Cert.Norm

end
-- ==== Proof.FfnNormKernel.lean ====
/-
  The gradient of the norm before a gated unit as the kernel computes it: the body's payloads at an index, the blocks it
  reads at each grid point, the accumulation of the gain's gradient over the grid, and so each element of the three
  result arrays as a function of the arguments.
-/
module

public import proofs.«01_k».proof.Proof.Gen.Kernel2Ideal.Value
public import proofs.«01_k».proof.Proof.NormScalar
public import proofs.«01_k».proof.Proof.GateScalar

@[expose] public section

noncomputable section

namespace Cert.FfnNorm

open Idealize.ShloMosaic Idealize.ShloMosaic.TcCoe Idealize.SL.Sem
open Idealize.ShloMosaic.Pipeline (Dat)
open Cert.Norm (slabOf rowIn blockOf inBlock)
open Cert.Kernel2Ideal Cert.Kernel2Ideal.Gen

variable (m : (ℓ : Loc nD τ sig) → Buf (Elt Ideal) ℓ) (ρ : Dev nD → PrngReg)

theorem pay8_apply (x : Vec Ideal S512x1024 .f32) (p : Fin 512) : k0_pay8 x (ix2 p 0) = Norm.rinv fun k => x (ix2 p k) := by
  pointwise [k0_pay8]
  rfl

theorem pay9_apply (x : Vec Ideal S512x1024 .f32) (p : Fin 512) (q : Fin 1024) : k0_pay9 x (ix2 p q) = x (ix2 p q) * Norm.rinv fun k => x (ix2 p k) := by
  pointwise [k0_pay9]
  rw [pay8_apply]

theorem pay3_apply (dh : FVec Ideal S512x1024 .f32) (x o : Vec Ideal S512x1024 .f32) (g : Vec Ideal S1x1024 .f32) (p : Fin 512) (q : Fin 1024) :
    k0_pay3 dh (k0_pay8 x) (k0_pay9 x) g o (ix2 p q) = Norm.grad (o (ix2 p q)) (fun k => x (ix2 p k)) (fun k => dh (ix2 p k) * g (ix2 0 k)) q := by
  pointwise [k0_pay3]
  simp only [pay8_apply, pay9_apply]
  rfl

theorem pay1_apply (dh : FVec Ideal S512x1024 .f32) (x : Vec Ideal S512x1024 .f32) (q : Fin 1024) :
    k0_pay1 dh (k0_pay9 x) (ix2 0 q) = ∑ p, dh (ix2 p q) * (x (ix2 p q) * Norm.rinv fun k => x (ix2 p k)) := by
  pointwise [k0_pay1]
  simp only [pay9_apply]

theorem pay2_apply (dh : FVec Ideal S512x1024 .f32) (x : Vec Ideal S512x1024 .f32) (a : Vec Ideal S1x1024 .f32) (q : Fin 1024) :
    k0_pay2 dh (k0_pay9 x) a (ix2 0 q) = a (ix2 0 q) + k0_pay1 dh (k0_pay9 x) (ix2 0 q) := by
  pointwise [k0_pay2]

/-- The cotangent of the normed rows of a block: the two products over the hidden width, slab by slab. -/
abbrev cot (a b : Vec Ideal S4x512x704 .bf16) (u w : Vec Ideal S4x704x1024 .bf16) : FVec Ideal S512x1024 .f32 :=
  k0_pay7 (k0_pay5 (slabOf a 0 inb_S4x512x704_S1x512x704_0_0_0) (slabOf u 0 inb_S4x704x1024_S1x704x1024_0_0_0)
      (slabOf a 1 inb_S4x512x704_S1x512x704_1_0_0) (slabOf u 1 inb_S4x704x1024_S1x704x1024_1_0_0)
      (slabOf a 2 inb_S4x512x704_S1x512x704_2_0_0) (slabOf u 2 inb_S4x704x1024_S1x704x1024_2_0_0)
      (slabOf a 3 inb_S4x512x704_S1x512x704_3_0_0) (slabOf u 3 inb_S4x704x1024_S1x704x1024_3_0_0))
    (k0_pay6 (slabOf b 0 inb_S4x512x704_S1x512x704_0_0_0)) (slabOf w 0 inb_S4x704x1024_S1x704x1024_0_0_0)
    (slabOf b 1 inb_S4x512x704_S1x512x704_1_0_0) (slabOf w 1 inb_S4x704x1024_S1x704x1024_1_0_0)
    (slabOf b 2 inb_S4x512x704_S1x512x704_2_0_0) (slabOf w 2 inb_S4x704x1024_S1x704x1024_2_0_0)
    (slabOf b 3 inb_S4x512x704_S1x512x704_3_0_0) (slabOf w 3 inb_S4x704x1024_S1x704x1024_3_0_0)

theorem cot_apply (a b : Vec Ideal S4x512x704 .bf16) (u w : Vec Ideal S4x704x1024 .bf16) (p : Fin 512) (q : Fin 1024) :
    cot a b u w (ix2 p q) = (∑ j, ∑ f, a (ix3 j p f) * u (ix3 j f q)) + ∑ j, ∑ f, b (ix3 j p f) * w (ix3 j f q) := by
  pointwise [cot, k0_pay7, k0_pay6, k0_pay5]
  rw [Fin.sum_univ_four, Fin.sum_univ_four]
  simp only [add_assoc]
  refine congrArg₂ (· + ·) (Norm.sum_slab a u 0 _ _ p q) (congrArg₂ (· + ·) (Norm.sum_slab a u 1 _ _ p q) (congrArg₂ (· + ·) (Norm.sum_slab a u 2 _ _ p q)
    (congrArg₂ (· + ·) (Norm.sum_slab a u 3 _ _ p q) (congrArg₂ (· + ·) (Norm.sum_slab b w 0 _ _ p q) (congrArg₂ (· + ·) (Norm.sum_slab b w 1 _ _ p q)
    (congrArg₂ (· + ·) (Norm.sum_slab b w 2 _ _ p q) (Norm.sum_slab b w 3 _ _ p q)))))))

/-- The cotangent of the normed rows of point `t`'s block. -/
abbrev cotAt (c : Dev nD) (t : Fin cfg0.N) : FVec Ideal S512x1024 .f32 := cot (iblk m c 0 t) (iblk m c 1 t) (iblk m c 2 t) (iblk m c 3 t)

/-- What the body leaves in each output's block at a point. -/
theorem out7 (c : Dev nD) (t : Fin cfg0.N) : (outsAt0 m c t.val t.isLt).1 = k0_pay3 (cotAt m c t) (k0_pay8 (iblk m c 4 t)) (k0_pay9 (iblk m c 4 t)) (iblk m c 5 t) (iblk m c 6 t) := by
  by_cases h0 : t.val % 8 = 0
  · have h1 : ¬1 ≤ t.val := by have := lt_of_lt_of_eq t.isLt N_0; omega
    rw [outsAt0_A m c t h0 h1]
    unfold out0_A_7
    dsimp only
    rw [View.read_writes_eq_canon _ _ _ (cover0_A_7 c _ _ _ _ _ _ _ _ _ _ _ _ _ _ _ _ _ _ _ _ _ _ _ _ _ _ _ _ _ _)]
    unfold kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread]
    rw [View.canon_unit_zero Reals.zero2, View.ld_unit_zero Reals.zero2, View.ld_unit_zero Reals.zero2, View.ld_unit_zero Reals.zero2]
    rfl
  · have h1 : 1 ≤ t.val := by omega
    rw [outsAt0_B m c t h0 h1]
    unfold out0_B_7
    dsimp only
    rw [View.read_writes_eq_canon _ _ _ (cover0_B_7 c _ _ _ _ _ _ _ _ _ _ _ _ _ _ _ _ _ _ _ _ _ _ _ _ _ _ _ _ _ _ _)]
    unfold kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_9 t).read_unread]
    rw [View.canon_unit_zero Reals.zero2, View.ld_unit_zero Reals.zero2, View.ld_unit_zero Reals.zero2, View.ld_unit_zero Reals.zero2]
    rfl

theorem out8 (c : Dev nD) (t : Fin cfg0.N) : (outsAt0 m c t.val t.isLt).2.1 = k0_pay4 (cotAt m c t) (k0_pay8 (iblk m c 4 t)) (k0_pay9 (iblk m c 4 t)) (iblk m c 5 t) (iblk m c 6 t) := by
  by_cases h0 : t.val % 8 = 0
  · have h1 : ¬1 ≤ t.val := by have := lt_of_lt_of_eq t.isLt N_0; omega
    rw [outsAt0_A m c t h0 h1]
    unfold out0_A_8
    dsimp only
    rw [View.read_writes_eq_canon _ _ _ (cover0_A_8 c _ _ _ _ _ _ _ _ _ _ _ _ _ _ _ _ _ _ _ _ _ _ _ _ _ _ _ _ _ _)]
    unfold kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread]
    rw [View.canon_unit_zero Reals.zero2, View.ld_unit_zero Reals.zero2, View.ld_unit_zero Reals.zero2, View.ld_unit_zero Reals.zero2]
    rfl
  · have h1 : 1 ≤ t.val := by omega
    rw [outsAt0_B m c t h0 h1]
    unfold out0_B_8
    dsimp only
    rw [View.read_writes_eq_canon _ _ _ (cover0_B_8 c _ _ _ _ _ _ _ _ _ _ _ _ _ _ _ _ _ _ _ _ _ _ _ _ _ _ _ _ _ _ _)]
    unfold kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_9 t).read_unread]
    rw [View.canon_unit_zero Reals.zero2, View.ld_unit_zero Reals.zero2, View.ld_unit_zero Reals.zero2, View.ld_unit_zero Reals.zero2]
    rfl

theorem out9_first (c : Dev nD) (t : Fin cfg0.N) (h0 : t.val % 8 = 0) :
    (outsAt0 m c t.val t.isLt).2.2 = k0_pay1 (cotAt m c t) (k0_pay9 (iblk m c 4 t)) := by
    have h1 : ¬1 ≤ t.val := by have := lt_of_lt_of_eq t.isLt N_0; omega
    rw [outsAt0_A m c t h0 h1]
    unfold out0_A_9
    dsimp only
    rw [View.read_writes_eq_canon _ _ _ (cover0_A_9 c _ _ _ _ _ _ _ _ _ _ _ _ _ _ _ _ _ _ _ _ _ _ _ _ _ _ _ _ _ _)]
    unfold kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread]
    rw [View.canon_unit_zero Reals.zero2, View.ld_unit_zero Reals.zero2]
    rfl

theorem out9_later (c : Dev nD) (t : Fin cfg0.N) (h0 : ¬t.val % 8 = 0) :
    (outsAt0 m c t.val t.isLt).2.2 = k0_pay2 (cotAt m c t) (k0_pay9 (iblk m c 4 t)) (outsAt0 m c (t.val - 1) (Nat.lt_of_le_of_lt (Nat.sub_le _ _) t.isLt)).2.2 := by
    have h1 : 1 ≤ t.val := by omega
    rw [outsAt0_B m c t h0 h1]
    unfold out0_B_9
    dsimp only
    rw [View.read_writes_eq_canon _ _ _ (cover0_B_9 c _ _ _ _ _ _ _ _ _ _ _ _ _ _ _ _ _ _ _ _ _ _ _ _ _ _ _ _ _ _ _)]
    unfold kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_9 t).read_unread]
    rw [View.canon_unit_zero Reals.zero2, View.ld_unit_zero Reals.zero2, View.ld_unit_zero Reals.zero2]
    rfl

/-- The arguments: the norm's input, its gain, the two weights after it, the residual's cotangent and the cotangents of the
    two products. -/
abbrev argX (c : Dev nD) : FVec Ideal S4096x1024 .f32 := m ((c : Thread nD τ).loc main_arg0)
abbrev argG (c : Dev nD) : FVec Ideal S1024 .f32 := m ((c : Thread nD τ).loc main_arg1)
abbrev argWg (c : Dev nD) : FVec Ideal S1024x2816 .f32 := m ((c : Thread nD τ).loc main_arg2)
abbrev argWu (c : Dev nD) : FVec Ideal S1024x2816 .f32 := m ((c : Thread nD τ).loc main_arg3)
abbrev argO (c : Dev nD) : FVec Ideal S4096x1024 .f32 := m ((c : Thread nD τ).loc main_arg4)
abbrev argA (c : Dev nD) : FVec Ideal S4096x2816 .f32 := m ((c : Thread nD τ).loc main_arg5)
abbrev argB (c : Dev nD) : FVec Ideal S4096x2816 .f32 := m ((c : Thread nD τ).loc main_arg6)

/-- The cotangent of the normed row `r`: both products carried back. -/
def hid (A B : FVec Ideal S4096x2816 .f32) (Wg Wu : FVec Ideal S1024x2816 .f32) (r : Fin 4096) (k : Fin 1024) : EReal :=
  (∑ n, A (ix2 r n) * Wg (ix2 k n)) + ∑ n, B (ix2 r n) * Wu (ix2 k n)

theorem V2 (c : Dev nD) : (V m c main_v2 : FVec Ideal S4x4096x704 .bf16) = truncf .bf16 (transpose S4x4096x704 [1, 0, 2]
    (shapeCast S4096x4x704 (argA m c) shapeCasts_S4096x2816_S4096x4x704) transposes_S4096x4x704_S4x4096x704_1_0_2) bitsLt_bf16_f32 := by
  unfold V hostOps0; after_results; rfl

theorem V5 (c : Dev nD) : (V m c main_v5 : FVec Ideal S4x4096x704 .bf16) = truncf .bf16 (transpose S4x4096x704 [1, 0, 2]
    (shapeCast S4096x4x704 (argB m c) shapeCasts_S4096x2816_S4096x4x704) transposes_S4096x4x704_S4x4096x704_1_0_2) bitsLt_bf16_f32 := by
  unfold V hostOps0; after_results; rfl

theorem V8 (c : Dev nD) : (V m c main_v8 : FVec Ideal S4x704x1024 .bf16) = truncf .bf16 (shapeCast S4x704x1024
    (transpose S2816x1024 [1, 0] (argWg m c) transposes_S1024x2816_S2816x1024_1_0) shapeCasts_S2816x1024_S4x704x1024) bitsLt_bf16_f32 := by
  unfold V hostOps0; after_results; rfl

theorem V11 (c : Dev nD) : (V m c main_v11 : FVec Ideal S4x704x1024 .bf16) = truncf .bf16 (shapeCast S4x704x1024
    (transpose S2816x1024 [1, 0] (argWu m c) transposes_S1024x2816_S2816x1024_1_0) shapeCasts_S2816x1024_S4x704x1024) bitsLt_bf16_f32 := by
  unfold V hostOps0; after_results; rfl

theorem V12 (c : Dev nD) : (V m c main_v12 : FVec Ideal S1x1024 .f32) = shapeCast S1x1024 (argG m c) shapeCasts_S1024_S1x1024 := by
  unfold V hostOps0; after_results; rfl

/-- Where each window's block sits at each point. -/
theorem idx_facts : ∀ t : Fin cfg0.N, (win0_0.index t 0 = 0 ∧ win0_0.index t 1 = t.val ∧ win0_0.index t 2 = 0)
    ∧ (win0_1.index t 0 = 0 ∧ win0_1.index t 1 = t.val ∧ win0_1.index t 2 = 0)
    ∧ (win0_2.index t 0 = 0 ∧ win0_2.index t 1 = 0 ∧ win0_2.index t 2 = 0)
    ∧ (win0_3.index t 0 = 0 ∧ win0_3.index t 1 = 0 ∧ win0_3.index t 2 = 0)
    ∧ (win0_4.index t 0 = t.val ∧ win0_4.index t 1 = 0) ∧ (win0_5.index t 0 = 0 ∧ win0_5.index t 1 = 0)
    ∧ (win0_6.index t 0 = t.val ∧ win0_6.index t 1 = 0) ∧ (win0_7.index t 0 = t.val ∧ win0_7.index t 1 = 0)
    ∧ (win0_8.index t 0 = t.val ∧ win0_8.index t 1 = 0) ∧ (win0_9.index t 0 = 0 ∧ win0_9.index t 1 = 0) :=
  (by decide +kernel : ∀ t : Fin grid0.N, _)

theorem lt8 (t : Fin cfg0.N) : t.val < 8 := lt_of_lt_of_eq t.isLt N_0

theorem blk0 (c : Dev nD) (t : Fin cfg0.N) (j : Fin 4) (p : Fin 512) (f : Fin 704) :
    (iblk m c 0 t : Vec Ideal S4x512x704 .bf16) (ix3 j p f) = argA m c (ix2 (rowIn t.val (lt8 t) p) (Gate.col j f)) := by
  have h := (idx_facts t).1
  have e : (win0_0.rect t).emb (ix3 j p f) = (ix3 j (rowIn t.val (lt8 t) p) f : S4x4096x704.Idx) := Reals.emb_eq _ rfl t _ _ fun a => by
    fin_cases a
    · show win0_0.index t 0 * 4 + j.val = j.val; rw [h.1]; simp
    · show win0_0.index t 1 * 512 + p.val = t.val * 512 + p.val; rw [h.2.1]
    · show win0_0.index t 2 * 704 + f.val = f.val; rw [h.2.2]; simp
  show (V m c main_v2 : FVec Ideal S4x4096x704 .bf16) ((win0_0.rect t).emb (ix3 j p f)) = _
  rw [e, V2]; pointwise []

theorem blk1 (c : Dev nD) (t : Fin cfg0.N) (j : Fin 4) (p : Fin 512) (f : Fin 704) :
    (iblk m c 1 t : Vec Ideal S4x512x704 .bf16) (ix3 j p f) = argB m c (ix2 (rowIn t.val (lt8 t) p) (Gate.col j f)) := by
  have h := (idx_facts t).2.1
  have e : (win0_1.rect t).emb (ix3 j p f) = (ix3 j (rowIn t.val (lt8 t) p) f : S4x4096x704.Idx) := Reals.emb_eq _ rfl t _ _ fun a => by
    fin_cases a
    · show win0_1.index t 0 * 4 + j.val = j.val; rw [h.1]; simp
    · show win0_1.index t 1 * 512 + p.val = t.val * 512 + p.val; rw [h.2.1]
    · show win0_1.index t 2 * 704 + f.val = f.val; rw [h.2.2]; simp
  show (V m c main_v5 : FVec Ideal S4x4096x704 .bf16) ((win0_1.rect t).emb (ix3 j p f)) = _
  rw [e, V5]; pointwise []

theorem blk2 (c : Dev nD) (t : Fin cfg0.N) (j : Fin 4) (f : Fin 704) (q : Fin 1024) :
    (iblk m c 2 t : Vec Ideal S4x704x1024 .bf16) (ix3 j f q) = argWg m c (ix2 q (Gate.col j f)) := by
  have h := (idx_facts t).2.2.1
  have e : (win0_2.rect t).emb (ix3 j f q) = (ix3 j f q : S4x704x1024.Idx) := Reals.emb_eq _ rfl t _ _ fun a => by
    fin_cases a
    · show win0_2.index t 0 * 4 + j.val = j.val; rw [h.1]; simp
    · show win0_2.index t 1 * 704 + f.val = f.val; rw [h.2.1]; simp
    · show win0_2.index t 2 * 1024 + q.val = q.val; rw [h.2.2]; simp
  show (V m c main_v8 : FVec Ideal S4x704x1024 .bf16) ((win0_2.rect t).emb (ix3 j f q)) = _
  rw [e, V8]; pointwise []

theorem blk3 (c : Dev nD) (t : Fin cfg0.N) (j : Fin 4) (f : Fin 704) (q : Fin 1024) :
    (iblk m c 3 t : Vec Ideal S4x704x1024 .bf16) (ix3 j f q) = argWu m c (ix2 q (Gate.col j f)) := by
  have h := (idx_facts t).2.2.2.1
  have e : (win0_3.rect t).emb (ix3 j f q) = (ix3 j f q : S4x704x1024.Idx) := Reals.emb_eq _ rfl t _ _ fun a => by
    fin_cases a
    · show win0_3.index t 0 * 4 + j.val = j.val; rw [h.1]; simp
    · show win0_3.index t 1 * 704 + f.val = f.val; rw [h.2.1]; simp
    · show win0_3.index t 2 * 1024 + q.val = q.val; rw [h.2.2]; simp
  show (V m c main_v11 : FVec Ideal S4x704x1024 .bf16) ((win0_3.rect t).emb (ix3 j f q)) = _
  rw [e, V11]; pointwise []

theorem blk4 (c : Dev nD) (t : Fin cfg0.N) (p : Fin 512) (q : Fin 1024) :
    (iblk m c 4 t : Vec Ideal S512x1024 .f32) (ix2 p q) = argX m c (ix2 (rowIn t.val (lt8 t) p) q) := by
  have h := (idx_facts t).2.2.2.2.1
  have e : (win0_4.rect t).emb (ix2 p q) = (ix2 (rowIn t.val (lt8 t) p) q : S4096x1024.Idx) := Reals.emb_eq _ rfl t _ _ fun a => by
    fin_cases a
    · show win0_4.index t 0 * 512 + p.val = t.val * 512 + p.val; rw [h.1]
    · show win0_4.index t 1 * 1024 + q.val = q.val; rw [h.2]; simp
  show (V m c main_arg0 : FVec Ideal S4096x1024 .f32) ((win0_4.rect t).emb (ix2 p q)) = _
  rw [e, V_main_arg0]

theorem blk5 (c : Dev nD) (t : Fin cfg0.N) (q : Fin 1024) : (iblk m c 5 t : Vec Ideal S1x1024 .f32) (ix2 0 q) = argG m c (ix1 q) := by
  have h := (idx_facts t).2.2.2.2.2.1
  have e : (win0_5.rect t).emb (ix2 0 q) = (ix2 0 q : S1x1024.Idx) := Reals.emb_eq _ rfl t _ _ fun a => by
    fin_cases a
    · show win0_5.index t 0 * 1 + 0 = 0; rw [h.1]
    · show win0_5.index t 1 * 1024 + q.val = q.val; rw [h.2]; simp
  show (V m c main_v12 : FVec Ideal S1x1024 .f32) ((win0_5.rect t).emb (ix2 0 q)) = _
  rw [e, V12]; pointwise []

theorem blk6 (c : Dev nD) (t : Fin cfg0.N) (p : Fin 512) (q : Fin 1024) :
    (iblk m c 6 t : Vec Ideal S512x1024 .f32) (ix2 p q) = argO m c (ix2 (rowIn t.val (lt8 t) p) q) := by
  have h := (idx_facts t).2.2.2.2.2.2.1
  have e : (win0_6.rect t).emb (ix2 p q) = (ix2 (rowIn t.val (lt8 t) p) q : S4096x1024.Idx) := Reals.emb_eq _ rfl t _ _ fun a => by
    fin_cases a
    · show win0_6.index t 0 * 512 + p.val = t.val * 512 + p.val; rw [h.1]
    · show win0_6.index t 1 * 1024 + q.val = q.val; rw [h.2]; simp
  show (V m c main_arg4 : FVec Ideal S4096x1024 .f32) ((win0_6.rect t).emb (ix2 p q)) = _
  rw [e, V_main_arg4]

theorem cotAt_apply (c : Dev nD) (t : Fin cfg0.N) (p : Fin 512) (q : Fin 1024) :
    cotAt m c t (ix2 p q) = hid (argA m c) (argB m c) (argWg m c) (argWu m c) (rowIn t.val (lt8 t) p) q := by
  refine (cot_apply _ _ _ _ p q).trans ?_
  rw [hid, Norm.sum_blocks 4 704 rfl, Norm.sum_blocks 4 704 rfl]
  simp only [blk0, blk1, blk2, blk3]

/-- An element of the two results that are written block by block. -/
abbrev dx (c : Dev nD) (r : Fin 4096) (n : Fin 1024) : EReal := Norm.grad (argO m c (ix2 r n)) (fun k => argX m c (ix2 r k))
  (fun k => hid (argA m c) (argB m c) (argWg m c) (argWu m c) r k * argG m c (ix1 k)) n

theorem point (c : Dev nD) (t : Fin cfg0.N) (p : Fin 512) (q : Fin 1024) :
    k0_pay3 (cotAt m c t) (k0_pay8 (iblk m c 4 t)) (k0_pay9 (iblk m c 4 t)) (iblk m c 5 t) (iblk m c 6 t) (ix2 p q)
      = dx m c (rowIn t.val (lt8 t) p) q := by
  rw [pay3_apply]
  simp only [cotAt_apply, blk4, blk5, blk6]

abbrev pointOf (r : Fin 4096) : Fin cfg0.N := ⟨blockOf r, by rw [show cfg0.N = 8 from N_0]; exact Norm.blockOf_lt r⟩

/-- The three results after the run, element by element. -/
theorem final7 (c : Dev nD) (r : Fin 4096) (n : Fin 1024) : ((dats m 0 c).arrAt 7 cfg0.N : FVec Ideal S4096x1024 .f32) (ix2 r n) = dx m c r n := by
  have h := (idx_facts (pointOf r)).2.2.2.2.2.2.2.1
  have e : (win0_7.rect (pointOf r)).emb (ix2 (inBlock r) n) = (ix2 r n : S4096x1024.Idx) := Reals.emb_eq _ rfl _ _ _ fun a => by
    fin_cases a
    · show win0_7.index (pointOf r) 0 * 512 + r.val % 512 = r.val; rw [h.1]; dsimp only [blockOf]; omega
    · show win0_7.index (pointOf r) 1 * 1024 + n.val = n.val; rw [h.2]; simp
  rw [← e]
  refine ((dats m 0 c).arrAt_emb_eq_flushed 7 (Value.disjoint7) (pointOf r) (flush0_7 _) (ix2 (inBlock r) n)).trans ?_
  rw [Value.flushed7]
  show (outsAt0 m c (pointOf r).val (pointOf r).isLt).1 (ix2 (inBlock r) n) = _
  rw [out7, point, Norm.rowIn_blockOf]

theorem final8 (c : Dev nD) (r : Fin 4096) (n : Fin 1024) : ((dats m 0 c).arrAt 8 cfg0.N : FVec Ideal S4096x1024 .bf16) (ix2 r n) = dx m c r n := by
  have h := (idx_facts (pointOf r)).2.2.2.2.2.2.2.2.1
  have e : (win0_8.rect (pointOf r)).emb (ix2 (inBlock r) n) = (ix2 r n : S4096x1024.Idx) := Reals.emb_eq _ rfl _ _ _ fun a => by
    fin_cases a
    · show win0_8.index (pointOf r) 0 * 512 + r.val % 512 = r.val; rw [h.1]; dsimp only [blockOf]; omega
    · show win0_8.index (pointOf r) 1 * 1024 + n.val = n.val; rw [h.2]; simp
  rw [← e]
  refine ((dats m 0 c).arrAt_emb_eq_flushed 8 (Value.disjoint8) (pointOf r) (flush0_8 _) (ix2 (inBlock r) n)).trans ?_
  rw [Value.flushed8]
  show (outsAt0 m c (pointOf r).val (pointOf r).isLt).2.1 (ix2 (inBlock r) n) = _
  rw [out8]
  refine Eq.trans ?_ ((point m c (pointOf r) (inBlock r) n).trans (by rw [Norm.rowIn_blockOf]))
  rfl

/-- The last result is written back once, at the last point. -/
theorem disjoint9 : ∀ t t' : Fin cfg0.N, (cfg0.win 9).flush t = true → (cfg0.win 9).flush t' = true → t ≠ t' →
    Disjoint ((cfg0.win 9).blk t).view.set ((cfg0.win 9).blk t').view.set := fun t t' h h' hn =>
  absurd (Fin.ext (by have := (flush0_9 t).mp h; have := (flush0_9 t').mp h'; have := lt8 t; have := lt8 t'; omega)) hn

/-- An element of the gain's gradient. -/
abbrev dg (c : Dev nD) (n : Fin 1024) : EReal := ∑ r, hid (argA m c) (argB m c) (argWg m c) (argWu m c) r n
  * (argX m c (ix2 r n) * Norm.rinv fun k => argX m c (ix2 r k))

theorem final9 (c : Dev nD) (n : Fin 1024) : ((dats m 0 c).arrAt 9 cfg0.N : FVec Ideal S1x1024 .f32) (ix2 0 n) = dg m c n := by
  have hN : cfg0.N = 8 := N_0
  have h7 : 7 < cfg0.N := by omega
  have h := (idx_facts ⟨7, h7⟩).2.2.2.2.2.2.2.2.2
  have e : (win0_9.rect ⟨7, h7⟩).emb (ix2 0 n) = (ix2 0 n : S1x1024.Idx) := Reals.emb_eq _ rfl _ _ _ fun a => by
    fin_cases a
    · show win0_9.index ⟨7, h7⟩ 0 * 1 + 0 = 0; rw [h.1]
    · show win0_9.index ⟨7, h7⟩ 1 * 1024 + n.val = n.val; rw [h.2]; simp
  rw [← e]
  refine ((dats m 0 c).arrAt_emb_eq_flushed 9 disjoint9 ⟨7, h7⟩ ((flush0_9 _).mpr rfl) (ix2 0 n)).trans ?_
  rw [Value.flushed9]
  show (outsAt0 m c 7 h7).2.2 (ix2 0 n) = _
  refine (Norm.sum_steps (fun k hk => (outsAt0 m c k hk).2.2 (ix2 0 n)) (fun t => k0_pay1 (cotAt m c t) (k0_pay9 (iblk m c 4 t)) (ix2 0 n))
    (fun h0 => by rw [out9_first m c ⟨0, h0⟩ rfl]) (fun k hk => ?_) 7 h7).trans ?_
  · rw [out9_later m c ⟨k + 1, hk⟩ (by show ¬(k + 1) % 8 = 0; omega), pay2_apply]
    rfl
  · rw [dg, Norm.sum_blocks 8 512 rfl]
    refine Finset.sum_congr rfl fun i _ => ?_
    rw [pay1_apply]
    simp only [cotAt_apply, blk4]

end Cert.FfnNorm

end
-- ==== Proof.FfnNormReference.lean ====
/-
  The reference of the gradient of the norm before a gated unit read at an index: the three results `jax.vjp` gives, as
  functions of the arguments' rows.
-/
module

public import proofs.«01_k».proof.Proof.Gen.Reference2Ideal.Run
public import proofs.«01_k».proof.Proof.Gen.Reference2Ideal.Read
public import proofs.«01_k».proof.Proof.FfnNormKernel

@[expose] public section

noncomputable section

namespace Cert.FfnNorm.Ref

open Idealize.ShloMosaic Idealize.ShloMosaic.TcCoe Idealize.SL.Sem
open Cert.Reference2Ideal Cert.Reference2Ideal.Read

variable (x0 x4 : FVec Ideal S4096x1024 .f32) (x1 : FVec Ideal S1024 .f32) (x2 x3 : FVec Ideal S1024x2816 .f32) (x5 x6 : FVec Ideal S4096x2816 .f32)

theorem under_apply (r : Fin 4096) : val_main_v6 (F := Ideal) x0 (ix2 r 0) = Norm.under fun k => x0 (ix2 r k) := by
  unfold val_main_v6 val_main_v5 val_main_v4 val_main_v3 val_main_v2 val_main_v1 val_main_v0 val_main_cst_1 val_main_cst_0 val_main_cst
  pointwise []
  rfl

theorem rinv_apply (r : Fin 4096) : val_main_v7 (F := Ideal) x0 (ix2 r 0) = Norm.rinv fun k => x0 (ix2 r k) := by
  unfold val_main_v7
  pointwise []
  rw [under_apply]; rfl

theorem root_apply (r : Fin 4096) : val_main_v10 (F := Ideal) x0 (ix2 r 0)
    = Norm.minusHalf * Ideal.div (Norm.rinv fun k => x0 (ix2 r k)) (Norm.under fun k => x0 (ix2 r k)) := by
  unfold val_main_v10 val_main_v9 val_main_v8 val_main_cst_2
  pointwise []
  rw [under_apply, rinv_apply]

theorem hid_apply (r : Fin 4096) (k : Fin 1024) : val_main_v20 (F := Ideal) x2 x3 x5 x6 (ix2 r k) = hid x5 x6 x2 x3 r k := by
  unfold val_main_v20 val_main_v19 val_main_v18
  pointwise []
  rw [hid, add_comm]

theorem cot_apply (r : Fin 4096) (k : Fin 1024) : val_main_v25 (F := Ideal) x1 x2 x3 x5 x6 (ix2 r k) = hid x5 x6 x2 x3 r k * x1 (ix1 k) := by
  unfold val_main_v25 val_main_v24 val_main_v13
  pointwise []
  rw [hid_apply]

theorem through_apply (r : Fin 4096) : val_main_v36 (F := Ideal) x0 x1 x2 x3 x5 x6 (ix1 r)
    = Norm.through (fun k => x0 (ix2 r k)) (fun k => hid x5 x6 x2 x3 r k * x1 (ix1 k)) := by
  unfold val_main_v36 val_main_v35 val_main_v34 val_main_v33 val_main_v29 val_main_v28 val_main_v27 val_main_cst_5 val_main_cst_6 val_main_cst_7
  pointwise []
  refine (Fin.sum_univ_one _).trans ?_
  simp only [cot_apply, root_apply]
  rfl

theorem dx_apply (r : Fin 4096) (n : Fin 1024) : val_main_v41 (F := Ideal) x0 x1 x2 x3 x4 x5 x6 (ix2 r n)
    = Norm.refGrad (x4 (ix2 r n)) (fun k => x0 (ix2 r k)) (fun k => hid x5 x6 x2 x3 r k * x1 (ix1 k)) n := by
  unfold val_main_v41 val_main_v40 val_main_v39 val_main_v38 val_main_v37 val_main_v32 val_main_v31 val_main_v30
  pointwise []
  rw [cot_apply, rinv_apply, through_apply]
  rfl

theorem dg_apply (n : Fin 1024) : val_main_v43 (F := Ideal) x0 x2 x3 x5 x6 (ix2 0 n)
    = ∑ r, hid x5 x6 x2 x3 r n * (x0 (ix2 r n) * Norm.rinv fun k => x0 (ix2 r k)) := by
  unfold val_main_v43 val_main_v26 val_main_v23 val_main_v22 val_main_v21 val_main_v12 val_main_v11 val_main_cst_3 val_main_cst_4
  pointwise []
  simp only [hid_apply, rinv_apply]
  exact (Fin.sum_univ_one _).trans (Finset.sum_congr rfl fun r _ => mul_comm _ _)

end Cert.FfnNorm.Ref

end
-- ==== Proof.FfnNormClaims.lean ====
/-
  The claims about the gradient of the norm before a gated unit (`_mm_rmsbwd`): the programs run and leave their arguments as
  they were, and over the extended reals the kernel's three results are the gradients `jax.vjp` gives, where every argument
  entry is a real number.
-/
module

public import proofs.«01_k».proof.Defs
public import proofs.«01_k».proof.Proof.Gen.Kernel2.Frame
public import proofs.«01_k».proof.Proof.Gen.Pre_ffn_norm_finite
public import proofs.«01_k».proof.Proof.FfnNormKernel
public import proofs.«01_k».proof.Proof.FfnNormReference

@[expose] public section

noncomputable section

namespace Cert.FfnNorm

open Idealize.ShloMosaic Idealize.ShloMosaic.TcCoe Idealize.SL.Sem
open Cert.Kernel2Ideal Kernel2Ideal.Gen

theorem frame_kernel : quiescent_Kernel2 := fun m ρ _ => Kernel2.Gen.frame m ρ
theorem frame_ideal : quiescent_Kernel2Ideal := fun m ρ _ => Kernel2Ideal.Gen.frame m ρ
theorem frame_ideal_pre : quiescent_Kernel2Ideal_pre_ffn_norm_finite := fun m ρ _ => Kernel2Ideal.Gen.frame m ρ
theorem frame_reference : quiescent_Reference2Ideal := fun m ρ _ =>
  (θ_run Reference2Ideal.defs _ _).mono (fun r h => ⟨fun c => (h c).2.2.2, sem_eq_zero_of_no_sems (by decide) r.2⟩)
    (Reference2Ideal.Value.run (F := Ideal) m ρ)
theorem frame_reference_pre : quiescent_Reference2Ideal_pre_ffn_norm_finite := fun m ρ _ => frame_reference m ρ trivial

variable (m : (ℓ : Loc nD τ sig) → Buf (Elt Ideal) ℓ)

/-- The two forms of the row's gradient agree under the precondition. -/
theorem dx_eq (h : Cert.Pre_Kernel2Ideal_ffn_norm_finite m) (c : Dev nD) (r : Fin 4096) (n : Fin 1024) : dx m c r n
    = Norm.refGrad (argO m c (ix2 r n)) (fun k => argX m c (ix2 r k)) (fun k => hid (argA m c) (argB m c) (argWg m c) (argWu m c) r k * argG m c (ix1 k)) n := by
  obtain ⟨h0, h1, h2, h3, h4, h5, h6⟩ := h c
  exact Norm.grad_eq ((Reals.fin_of_abs_lt _ _ h4).at _) (Reals.fin_of_isReal fun k => (Reals.fin_of_abs_lt _ _ h0).at _)
    (Reals.fin_of_isReal fun k => ((Reals.IsReal.sum fun n => ((Reals.fin_of_abs_lt _ _ h5).at _).mul ((Reals.fin_of_abs_lt _ _ h2).at _)).add
      (Reals.IsReal.sum fun n => ((Reals.fin_of_abs_lt _ _ h6).at _).mul ((Reals.fin_of_abs_lt _ _ h3).at _))).mul ((Reals.fin_of_abs_lt _ _ h1).at _)) n

/-- The kernel's three results are the reference's. -/
theorem dx_agree (h : Cert.Pre_Kernel2Ideal_ffn_norm_finite m) (c : Dev nD) :
    Reference2Ideal.Read.val_main_v41 (F := Ideal) (argX m c) (argG m c) (argWg m c) (argWu m c) (argO m c) (argA m c) (argB m c)
      = (dats m 0 c).arrAt 7 cfg0.N := by
  funext i
  obtain ⟨r, n, rfl⟩ := Norm.place2 i
  exact (Ref.dx_apply _ _ _ _ _ _ _ r n).trans ((dx_eq m h c r n).symm.trans (final7 m c r n).symm)

theorem dxb_agree (h : Cert.Pre_Kernel2Ideal_ffn_norm_finite m) (c : Dev nD) :
    Reference2Ideal.Read.val_main_v42 (F := Ideal) (argX m c) (argG m c) (argWg m c) (argWu m c) (argO m c) (argA m c) (argB m c)
      = (dats m 0 c).arrAt 8 cfg0.N := by
  funext i
  obtain ⟨r, n, rfl⟩ := Norm.place2 i
  exact (Ref.dx_apply _ _ _ _ _ _ _ r n).trans ((dx_eq m h c r n).symm.trans (final8 m c r n).symm)

theorem dg_agree (c : Dev nD) : Reference2Ideal.Read.val_main_v43 (F := Ideal) (argX m c) (argWg m c) (argWu m c) (argA m c) (argB m c)
      = (dats m 0 c).arrAt 9 cfg0.N := by
  funext i
  obtain ⟨n, rfl⟩ := Norm.place1 i
  exact (Ref.dg_apply _ _ _ _ _ n).trans (final9 m c n).symm

theorem algebraic : algebraic_Kernel2Ideal_Reference2Ideal_pre_ffn_norm_finite := by
  intro m ρ m' ρ' hpre hagree
  refine ⟨fun c => (dats m 0 c).arrAt 7 cfg0.N, fun c => (dats m 0 c).arrAt 8 cfg0.N, fun c => (dats m 0 c).arrAt 9 cfg0.N, Value.run_blocks m ρ, ?_⟩
  refine (θ_run Reference2Ideal.defs _ _).mono (fun _ h c => ⟨(h c).1.trans ?_, (h c).2.1.trans ?_, (h c).2.2.1.trans ?_, (h c).2.2.2⟩)
    (Reference2Ideal.Value.run (F := Ideal) m' ρ')
  all_goals obtain ⟨a0, a1, a2, a3, a4, a5, a6⟩ := hagree c
  · rw [Reference2Ideal.Read.val_main_v41_eq, a0, a1, a2, a3, a4, a5, a6]
    exact dx_agree m hpre c
  · rw [Reference2Ideal.Read.val_main_v42_eq, a0, a1, a2, a3, a4, a5, a6]
    exact dxb_agree m hpre c
  · refine (Reference2Ideal.Read.val_main_v43_eq _ _ _ _ _).trans ?_
    rw [a0, a2, a3, a5, a6]
    exact dg_agree m c

end Cert.FfnNorm

end
-- ==== Proof.MixNormKernel.lean ====
/-
  The gradient of the norm before the mixers as the kernel computes it: the body's payloads at an index, the blocks it
  reads at each grid point, the accumulation of the gain's gradient over the grid, and so each element of the three
  result arrays as a function of the arguments.
-/
module

public import proofs.«01_k».proof.Proof.Gen.Kernel3Ideal.Value
public import proofs.«01_k».proof.Proof.NormScalar

@[expose] public section

noncomputable section

namespace Cert.MixNorm

open Idealize.ShloMosaic Idealize.ShloMosaic.TcCoe Idealize.SL.Sem
open Idealize.ShloMosaic.Pipeline (Dat)
open Cert.Norm (slabOf slabOf_apply rowIn blockOf inBlock)
open Cert.Kernel3Ideal Cert.Kernel3Ideal.Gen

variable (m : (ℓ : Loc nD τ sig) → Buf (Elt Ideal) ℓ) (ρ : Dev nD → PrngReg)

theorem pay1_apply (x : Vec Ideal S512x1024 .f32) (p : Fin 512) : k0_pay1 (k0_pay8 x) k0_pay9 (ix2 p 0) = Norm.rinv fun k => x (ix2 p k) := by
  pointwise [k0_pay1, k0_pay8, k0_pay9]
  rfl

theorem pay2_apply (x : Vec Ideal S512x1024 .f32) (p : Fin 512) (q : Fin 1024) :
    k0_pay2 x (k0_pay8 x) k0_pay9 (ix2 p q) = x (ix2 p q) * Norm.rinv fun k => x (ix2 p k) := by
  pointwise [k0_pay2]
  rw [pay1_apply]

theorem pay5_apply (dh : FVec Ideal S512x1024 .f32) (x o : Vec Ideal S512x1024 .f32) (g : Vec Ideal S1x1024 .f32) (p : Fin 512) (q : Fin 1024) :
    k0_pay5 dh x (k0_pay8 x) k0_pay9 g o (ix2 p q) = Norm.grad (o (ix2 p q)) (fun k => x (ix2 p k)) (fun k => dh (ix2 p k) * g (ix2 0 k)) q := by
  pointwise [k0_pay5]
  simp only [pay1_apply, pay2_apply]
  rfl

theorem pay3_apply (dh : FVec Ideal S512x1024 .f32) (x : Vec Ideal S512x1024 .f32) (q : Fin 1024) :
    k0_pay3 dh x (k0_pay8 x) k0_pay9 (ix2 0 q) = ∑ p, dh (ix2 p q) * (x (ix2 p q) * Norm.rinv fun k => x (ix2 p k)) := by
  pointwise [k0_pay3]
  simp only [pay2_apply]

theorem pay4_apply (dh : FVec Ideal S512x1024 .f32) (x : Vec Ideal S512x1024 .f32) (a : Vec Ideal S1x1024 .f32) (q : Fin 1024) :
    k0_pay4 dh x (k0_pay8 x) k0_pay9 a (ix2 0 q) = a (ix2 0 q) + k0_pay3 dh x (k0_pay8 x) k0_pay9 (ix2 0 q) := by
  pointwise [k0_pay4]

/-- The column of the whole width that column `f` of slab `j` is. -/
abbrev col (j : Fin 4) (f : Fin 384) : Fin 1536 := ⟨j.val * 384 + f.val, by omega⟩

/-- The columns of slab `j` in a block of rows. -/
abbrev colsOf (x : Vec Ideal S512x1536 .bf16) (j : Fin 4) (h : ∀ a, ![0, j.val * 384] a + ![512, 384] a ≤ S512x1536.size a) :
    Vec Ideal S512x384 .bf16 := View.ld x (Rect.unit (s := S512x1536) ![0, j.val * 384] ![512, 384] h)

theorem colsOf_apply (x : Vec Ideal S512x1536 .bf16) (j : Fin 4) (h) (p : Fin 512) (f : Fin 384) : colsOf x j h (ix2 p f) = x (ix2 p (col j f)) := by
  show x _ = _
  refine congrArg x (funext fun a => Fin.ext ?_)
  fin_cases a
  · show 0 + 1 * p.val = p.val; omega
  · show j.val * 384 + 1 * f.val = j.val * 384 + f.val; omega

/-- The product of the columns of a slab with the slab, element by element. -/
theorem sum_cols (x : Vec Ideal S512x1536 .bf16) (y : Vec Ideal S4x1024x384 .bf16) (j : Fin 4) (h h') (p : Fin 512) (q : Fin 1024) :
    ∑ f, colsOf x j h (ix2 p f) * slabOf y j h' (ix3 0 q f) = ∑ f, x (ix2 p (col j f)) * y (ix3 j q f) :=
  Finset.sum_congr rfl fun f _ => congrArg₂ (· * ·) (colsOf_apply x j h p f) (slabOf_apply y j h' q f)

/-- The cotangent of the normed rows of a block: the product over the width, slab by slab. -/
abbrev cot (a : Vec Ideal S512x1536 .bf16) (w : Vec Ideal S4x1024x384 .bf16) : FVec Ideal S512x1024 .f32 :=
  k0_pay7 (colsOf a 0 inb_S512x1536_S512x384_0_0) (slabOf w 0 inb_S4x1024x384_S1x1024x384_0_0_0)
    (colsOf a 1 inb_S512x1536_S512x384_0_384) (slabOf w 1 inb_S4x1024x384_S1x1024x384_1_0_0)
    (colsOf a 2 inb_S512x1536_S512x384_0_768) (slabOf w 2 inb_S4x1024x384_S1x1024x384_2_0_0)
    (colsOf a 3 inb_S512x1536_S512x384_0_1152) (slabOf w 3 inb_S4x1024x384_S1x1024x384_3_0_0)

theorem cot_apply (a : Vec Ideal S512x1536 .bf16) (w : Vec Ideal S4x1024x384 .bf16) (p : Fin 512) (q : Fin 1024) :
    cot a w (ix2 p q) = ∑ j, ∑ f, a (ix2 p (col j f)) * w (ix3 j q f) := by
  pointwise [cot, k0_pay7]
  rw [Fin.sum_univ_four]
  exact congrArg₂ (· + ·) (congrArg₂ (· + ·) (congrArg₂ (· + ·) (sum_cols a w 0 _ _ p q) (sum_cols a w 1 _ _ p q)) (sum_cols a w 2 _ _ p q)) (sum_cols a w 3 _ _ p q)

/-- The cotangent of the normed rows of point `t`'s block. -/
abbrev cotAt (c : Dev nD) (t : Fin cfg0.N) : FVec Ideal S512x1024 .f32 := cot (iblk m c 0 t) (iblk m c 1 t)

/-- What the body leaves in each output's block at a point. -/
theorem out5 (c : Dev nD) (t : Fin cfg0.N) : (outsAt0 m c t.val t.isLt).1 = k0_pay5 (cotAt m c t) (iblk m c 2 t) (k0_pay8 (iblk m c 2 t)) k0_pay9 (iblk m c 3 t) (iblk m c 4 t) := by
  by_cases h0 : t.val % 8 = 0
  · have h1 : ¬1 ≤ t.val := by have := lt_of_lt_of_eq t.isLt N_0; omega
    rw [outsAt0_A m c t h0 h1]
    unfold out0_A_5
    dsimp only
    rw [View.read_writes_eq_canon _ _ _ (cover0_A_5 c _ _ _ _ _ _ _ _ _ _ _ _ _ _ _ _ _ _ _ _ _ _ _ _)]
    unfold kernelRun0_A
    dsimp only
    sl_unfold_words
    simp only [View.readAt_eq_ld, (hs0_0 t).read_unread, (hs0_1 t).read_unread, (hs0_2 t).read_unread, (hs0_3 t).read_unread, (hs0_4 t).read_unread]
    rw [View.canon_unit_zero Reals.zero2, View.ld_unit_zero Reals.zero2, View.ld_unit_zero Reals.zero2, View.ld_unit_zero Reals.zero2]
    rfl
  · have h1 : 1 ≤ t.val := by omega
    rw [outsAt0_B m c t h0 h1]
    unfold out0_B_5
    dsimp only
    rw [View.read_writes_eq_canon _ _ _ (cover0_B_5 c _ _ _ _ _ _ _ _ _ _ _ _ _ _ _ _ _ _ _ _ _ _ _ _ _)]
    unfold kernelRun0_B
    dsimp only
    sl_unfold_words
    simp only [View.readAt_eq_ld, (hs0_0 t).read_unread, (hs0_1 t).read_unread, (hs0_2 t).read_unread, (hs0_3 t).read_unread, (hs0_4 t).read_unread, (hs0_7 t).read_unread]
    rw [View.canon_unit_zero Reals.zero2, View.ld_unit_zero Reals.zero2, View.ld_unit_zero Reals.zero2, View.ld_unit_zero Reals.zero2]
    rfl

theorem out6 (c : Dev nD) (t : Fin cfg0.N) : (outsAt0 m c t.val t.isLt).2.1 = k0_pay6 (cotAt m c t) (iblk m c 2 t) (k0_pay8 (iblk m c 2 t)) k0_pay9 (iblk m c 3 t) (iblk m c 4 t) := by
  by_cases h0 : t.val % 8 = 0
  · have h1 : ¬1 ≤ t.val := by have := lt_of_lt_of_eq t.isLt N_0; omega
    rw [outsAt0_A m c t h0 h1]
    unfold out0_A_6
    dsimp only
    rw [View.read_writes_eq_canon _ _ _ (cover0_A_6 c _ _ _ _ _ _ _ _ _ _ _ _ _ _ _ _ _ _ _ _ _ _ _ _)]
    unfold kernelRun0_A
    dsimp only
    sl_unfold_words
    simp only [View.readAt_eq_ld, (hs0_0 t).read_unread, (hs0_1 t).read_unread, (hs0_2 t).read_unread, (hs0_3 t).read_unread, (hs0_4 t).read_unread]
    rw [View.canon_unit_zero Reals.zero2, View.ld_unit_zero Reals.zero2, View.ld_unit_zero Reals.zero2, View.ld_unit_zero Reals.zero2]
    rfl
  · have h1 : 1 ≤ t.val := by omega
    rw [outsAt0_B m c t h0 h1]
    unfold out0_B_6
    dsimp only
    rw [View.read_writes_eq_canon _ _ _ (cover0_B_6 c _ _ _ _ _ _ _ _ _ _ _ _ _ _ _ _ _ _ _ _ _ _ _ _ _)]
    unfold kernelRun0_B
    dsimp only
    sl_unfold_words
    simp only [View.readAt_eq_ld, (hs0_0 t).read_unread, (hs0_1 t).read_unread, (hs0_2 t).read_unread, (hs0_3 t).read_unread, (hs0_4 t).read_unread, (hs0_7 t).read_unread]
    rw [View.canon_unit_zero Reals.zero2, View.ld_unit_zero Reals.zero2, View.ld_unit_zero Reals.zero2, View.ld_unit_zero Reals.zero2]
    rfl

theorem out7_first (c : Dev nD) (t : Fin cfg0.N) (h0 : t.val % 8 = 0) :
    (outsAt0 m c t.val t.isLt).2.2 = k0_pay3 (cotAt m c t) (iblk m c 2 t) (k0_pay8 (iblk m c 2 t)) k0_pay9 := by
    have h1 : ¬1 ≤ t.val := by have := lt_of_lt_of_eq t.isLt N_0; omega
    rw [outsAt0_A m c t h0 h1]
    unfold out0_A_7
    dsimp only
    rw [View.read_writes_eq_canon _ _ _ (cover0_A_7 c _ _ _ _ _ _ _ _ _ _ _ _ _ _ _ _ _ _ _ _ _ _ _ _)]
    unfold kernelRun0_A
    dsimp only
    sl_unfold_words
    simp only [View.readAt_eq_ld, (hs0_0 t).read_unread, (hs0_1 t).read_unread, (hs0_2 t).read_unread, (hs0_3 t).read_unread, (hs0_4 t).read_unread]
    rw [View.canon_unit_zero Reals.zero2, View.ld_unit_zero Reals.zero2]
    rfl

theorem out7_later (c : Dev nD) (t : Fin cfg0.N) (h0 : ¬t.val % 8 = 0) :
    (outsAt0 m c t.val t.isLt).2.2 = k0_pay4 (cotAt m c t) (iblk m c 2 t) (k0_pay8 (iblk m c 2 t)) k0_pay9 (outsAt0 m c (t.val - 1) (Nat.lt_of_le_of_lt (Nat.sub_le _ _) t.isLt)).2.2 := by
    have h1 : 1 ≤ t.val := by omega
    rw [outsAt0_B m c t h0 h1]
    unfold out0_B_7
    dsimp only
    rw [View.read_writes_eq_canon _ _ _ (cover0_B_7 c _ _ _ _ _ _ _ _ _ _ _ _ _ _ _ _ _ _ _ _ _ _ _ _ _)]
    unfold kernelRun0_B
    dsimp only
    sl_unfold_words
    simp only [View.readAt_eq_ld, (hs0_0 t).read_unread, (hs0_1 t).read_unread, (hs0_2 t).read_unread, (hs0_3 t).read_unread, (hs0_4 t).read_unread, (hs0_7 t).read_unread]
    rw [View.canon_unit_zero Reals.zero2, View.ld_unit_zero Reals.zero2, View.ld_unit_zero Reals.zero2]
    rfl

/-- The arguments: the norm's input, its gain, the weight after it, the residual's cotangent and the product's cotangent. -/
abbrev argX (c : Dev nD) : FVec Ideal S4096x1024 .f32 := m ((c : Thread nD τ).loc main_arg0)
abbrev argG (c : Dev nD) : FVec Ideal S1024 .f32 := m ((c : Thread nD τ).loc main_arg1)
abbrev argW (c : Dev nD) : FVec Ideal S1024x1536 .f32 := m ((c : Thread nD τ).loc main_arg2)
abbrev argO (c : Dev nD) : FVec Ideal S4096x1024 .f32 := m ((c : Thread nD τ).loc main_arg3)
abbrev argU (c : Dev nD) : FVec Ideal S4096x1536 .f32 := m ((c : Thread nD τ).loc main_arg4)

/-- The cotangent of the normed row `r`: the product carried back. -/
def hid (U : FVec Ideal S4096x1536 .f32) (W : FVec Ideal S1024x1536 .f32) (r : Fin 4096) (k : Fin 1024) : EReal := ∑ n, U (ix2 r n) * W (ix2 k n)

theorem V0 (c : Dev nD) : (V m c main_v0 : FVec Ideal S4096x1536 .bf16) = truncf .bf16 (argU m c) bitsLt_bf16_f32 := by
  unfold V hostOps0; after_results

theorem V3 (c : Dev nD) : (V m c main_v3 : FVec Ideal S4x1024x384 .bf16) = truncf .bf16 (transpose S4x1024x384 [1, 0, 2]
    (shapeCast S1024x4x384 (argW m c) shapeCasts_S1024x1536_S1024x4x384) transposes_S1024x4x384_S4x1024x384_1_0_2) bitsLt_bf16_f32 := by
  unfold V hostOps0; after_results; rfl

theorem V4 (c : Dev nD) : (V m c main_v4 : FVec Ideal S1x1024 .f32) = shapeCast S1x1024 (argG m c) shapeCasts_S1024_S1x1024 := by
  unfold V hostOps0; after_results; rfl

/-- Where each window's block sits at each point. -/
theorem idx_facts : ∀ t : Fin cfg0.N, (win0_0.index t 0 = t.val ∧ win0_0.index t 1 = 0)
    ∧ (win0_1.index t 0 = 0 ∧ win0_1.index t 1 = 0 ∧ win0_1.index t 2 = 0)
    ∧ (win0_2.index t 0 = t.val ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = 0 ∧ win0_7.index t 1 = 0) :=
  (by decide +kernel : ∀ t : Fin grid0.N, _)

theorem lt8 (t : Fin cfg0.N) : t.val < 8 := lt_of_lt_of_eq t.isLt N_0

theorem blk0 (c : Dev nD) (t : Fin cfg0.N) (p : Fin 512) (f : Fin 1536) :
    (iblk m c 0 t : Vec Ideal S512x1536 .bf16) (ix2 p f) = argU m c (ix2 (rowIn t.val (lt8 t) p) f) := by
  have h := (idx_facts t).1
  have e : (win0_0.rect t).emb (ix2 p f) = (ix2 (rowIn t.val (lt8 t) p) f : S4096x1536.Idx) := Reals.emb_eq _ rfl t _ _ fun a => by
    fin_cases a
    · show win0_0.index t 0 * 512 + p.val = t.val * 512 + p.val; rw [h.1]
    · show win0_0.index t 1 * 1536 + f.val = f.val; rw [h.2]; simp
  show (V m c main_v0 : FVec Ideal S4096x1536 .bf16) ((win0_0.rect t).emb (ix2 p f)) = _
  rw [e, V0]; rfl

theorem blk1 (c : Dev nD) (t : Fin cfg0.N) (j : Fin 4) (q : Fin 1024) (f : Fin 384) :
    (iblk m c 1 t : Vec Ideal S4x1024x384 .bf16) (ix3 j q f) = argW m c (ix2 q (col j f)) := by
  have h := (idx_facts t).2.1
  have e : (win0_1.rect t).emb (ix3 j q f) = (ix3 j q f : S4x1024x384.Idx) := Reals.emb_eq _ rfl t _ _ fun a => by
    fin_cases a
    · show win0_1.index t 0 * 4 + j.val = j.val; rw [h.1]; simp
    · show win0_1.index t 1 * 1024 + q.val = q.val; rw [h.2.1]; simp
    · show win0_1.index t 2 * 384 + f.val = f.val; rw [h.2.2]; simp
  show (V m c main_v3 : FVec Ideal S4x1024x384 .bf16) ((win0_1.rect t).emb (ix3 j q f)) = _
  rw [e, V3]; pointwise []

theorem blk2 (c : Dev nD) (t : Fin cfg0.N) (p : Fin 512) (q : Fin 1024) :
    (iblk m c 2 t : Vec Ideal S512x1024 .f32) (ix2 p q) = argX m c (ix2 (rowIn t.val (lt8 t) p) q) := by
  have h := (idx_facts t).2.2.1
  have e : (win0_2.rect t).emb (ix2 p q) = (ix2 (rowIn t.val (lt8 t) p) q : S4096x1024.Idx) := Reals.emb_eq _ rfl t _ _ fun a => by
    fin_cases a
    · show win0_2.index t 0 * 512 + p.val = t.val * 512 + p.val; rw [h.1]
    · show win0_2.index t 1 * 1024 + q.val = q.val; rw [h.2]; simp
  show (V m c main_arg0 : FVec Ideal S4096x1024 .f32) ((win0_2.rect t).emb (ix2 p q)) = _
  rw [e, V_main_arg0]

theorem blk3 (c : Dev nD) (t : Fin cfg0.N) (q : Fin 1024) : (iblk m c 3 t : Vec Ideal S1x1024 .f32) (ix2 0 q) = argG m c (ix1 q) := by
  have h := (idx_facts t).2.2.2.1
  have e : (win0_3.rect t).emb (ix2 0 q) = (ix2 0 q : S1x1024.Idx) := Reals.emb_eq _ rfl t _ _ fun a => by
    fin_cases a
    · show win0_3.index t 0 * 1 + 0 = 0; rw [h.1]
    · show win0_3.index t 1 * 1024 + q.val = q.val; rw [h.2]; simp
  show (V m c main_v4 : FVec Ideal S1x1024 .f32) ((win0_3.rect t).emb (ix2 0 q)) = _
  rw [e, V4]; pointwise []

theorem blk4 (c : Dev nD) (t : Fin cfg0.N) (p : Fin 512) (q : Fin 1024) :
    (iblk m c 4 t : Vec Ideal S512x1024 .f32) (ix2 p q) = argO m c (ix2 (rowIn t.val (lt8 t) p) q) := by
  have h := (idx_facts t).2.2.2.2.1
  have e : (win0_4.rect t).emb (ix2 p q) = (ix2 (rowIn t.val (lt8 t) p) q : S4096x1024.Idx) := Reals.emb_eq _ rfl t _ _ fun a => by
    fin_cases a
    · show win0_4.index t 0 * 512 + p.val = t.val * 512 + p.val; rw [h.1]
    · show win0_4.index t 1 * 1024 + q.val = q.val; rw [h.2]; simp
  show (V m c main_arg3 : FVec Ideal S4096x1024 .f32) ((win0_4.rect t).emb (ix2 p q)) = _
  rw [e, V_main_arg3]

theorem cotAt_apply (c : Dev nD) (t : Fin cfg0.N) (p : Fin 512) (q : Fin 1024) :
    cotAt m c t (ix2 p q) = hid (argU m c) (argW m c) (rowIn t.val (lt8 t) p) q := by
  refine (cot_apply _ _ p q).trans ?_
  rw [hid, Norm.sum_blocks 4 384 rfl]
  simp only [blk0, blk1]

/-- An element of the two results that are written block by block. -/
abbrev dx (c : Dev nD) (r : Fin 4096) (n : Fin 1024) : EReal := Norm.grad (argO m c (ix2 r n)) (fun k => argX m c (ix2 r k))
  (fun k => hid (argU m c) (argW m c) r k * argG m c (ix1 k)) n

theorem point (c : Dev nD) (t : Fin cfg0.N) (p : Fin 512) (q : Fin 1024) :
    k0_pay5 (cotAt m c t) (iblk m c 2 t) (k0_pay8 (iblk m c 2 t)) k0_pay9 (iblk m c 3 t) (iblk m c 4 t) (ix2 p q)
      = dx m c (rowIn t.val (lt8 t) p) q := by
  rw [pay5_apply]
  simp only [cotAt_apply, blk2, blk3, blk4]

abbrev pointOf (r : Fin 4096) : Fin cfg0.N := ⟨blockOf r, by rw [show cfg0.N = 8 from N_0]; exact Norm.blockOf_lt r⟩

/-- The three results after the run, element by element. -/
theorem final5 (c : Dev nD) (r : Fin 4096) (n : Fin 1024) : ((dats m 0 c).arrAt 5 cfg0.N : FVec Ideal S4096x1024 .f32) (ix2 r n) = dx m c r n := by
  have h := (idx_facts (pointOf r)).2.2.2.2.2.1
  have e : (win0_5.rect (pointOf r)).emb (ix2 (inBlock r) n) = (ix2 r n : S4096x1024.Idx) := Reals.emb_eq _ rfl _ _ _ fun a => by
    fin_cases a
    · show win0_5.index (pointOf r) 0 * 512 + r.val % 512 = r.val; rw [h.1]; dsimp only [blockOf]; omega
    · show win0_5.index (pointOf r) 1 * 1024 + n.val = n.val; rw [h.2]; simp
  rw [← e]
  refine ((dats m 0 c).arrAt_emb_eq_flushed 5 (Value.disjoint5) (pointOf r) (flush0_5 _) (ix2 (inBlock r) n)).trans ?_
  rw [Value.flushed5]
  show (outsAt0 m c (pointOf r).val (pointOf r).isLt).1 (ix2 (inBlock r) n) = _
  rw [out5, point, Norm.rowIn_blockOf]

theorem final6 (c : Dev nD) (r : Fin 4096) (n : Fin 1024) : ((dats m 0 c).arrAt 6 cfg0.N : FVec Ideal S4096x1024 .bf16) (ix2 r n) = dx m c r n := by
  have h := (idx_facts (pointOf r)).2.2.2.2.2.2.1
  have e : (win0_6.rect (pointOf r)).emb (ix2 (inBlock r) n) = (ix2 r n : S4096x1024.Idx) := Reals.emb_eq _ rfl _ _ _ fun a => by
    fin_cases a
    · show win0_6.index (pointOf r) 0 * 512 + r.val % 512 = r.val; rw [h.1]; dsimp only [blockOf]; omega
    · show win0_6.index (pointOf r) 1 * 1024 + n.val = n.val; rw [h.2]; simp
  rw [← e]
  refine ((dats m 0 c).arrAt_emb_eq_flushed 6 (Value.disjoint6) (pointOf r) (flush0_6 _) (ix2 (inBlock r) n)).trans ?_
  rw [Value.flushed6]
  show (outsAt0 m c (pointOf r).val (pointOf r).isLt).2.1 (ix2 (inBlock r) n) = _
  rw [out6]
  refine Eq.trans ?_ ((point m c (pointOf r) (inBlock r) n).trans (by rw [Norm.rowIn_blockOf]))
  rfl

/-- The last result is written back once, at the last point. -/
theorem disjoint7 : ∀ t t' : Fin cfg0.N, (cfg0.win 7).flush t = true → (cfg0.win 7).flush t' = true → t ≠ t' →
    Disjoint ((cfg0.win 7).blk t).view.set ((cfg0.win 7).blk t').view.set := fun t t' h h' hn =>
  absurd (Fin.ext (by have := (flush0_7 t).mp h; have := (flush0_7 t').mp h'; have := lt8 t; have := lt8 t'; omega)) hn

/-- An element of the gain's gradient. -/
abbrev dg (c : Dev nD) (n : Fin 1024) : EReal := ∑ r, hid (argU m c) (argW m c) r n
  * (argX m c (ix2 r n) * Norm.rinv fun k => argX m c (ix2 r k))

theorem final7 (c : Dev nD) (n : Fin 1024) : ((dats m 0 c).arrAt 7 cfg0.N : FVec Ideal S1x1024 .f32) (ix2 0 n) = dg m c n := by
  have hN : cfg0.N = 8 := N_0
  have h7 : 7 < cfg0.N := by omega
  have h := (idx_facts ⟨7, h7⟩).2.2.2.2.2.2.2
  have e : (win0_7.rect ⟨7, h7⟩).emb (ix2 0 n) = (ix2 0 n : S1x1024.Idx) := Reals.emb_eq _ rfl _ _ _ fun a => by
    fin_cases a
    · show win0_7.index ⟨7, h7⟩ 0 * 1 + 0 = 0; rw [h.1]
    · show win0_7.index ⟨7, h7⟩ 1 * 1024 + n.val = n.val; rw [h.2]; simp
  rw [← e]
  refine ((dats m 0 c).arrAt_emb_eq_flushed 7 disjoint7 ⟨7, h7⟩ ((flush0_7 _).mpr rfl) (ix2 0 n)).trans ?_
  rw [Value.flushed7]
  show (outsAt0 m c 7 h7).2.2 (ix2 0 n) = _
  refine (Norm.sum_steps (fun k hk => (outsAt0 m c k hk).2.2 (ix2 0 n)) (fun t => k0_pay3 (cotAt m c t) (iblk m c 2 t) (k0_pay8 (iblk m c 2 t)) k0_pay9 (ix2 0 n))
    (fun h0 => by rw [out7_first m c ⟨0, h0⟩ rfl]) (fun k hk => ?_) 7 h7).trans ?_
  · rw [out7_later m c ⟨k + 1, hk⟩ (by show ¬(k + 1) % 8 = 0; omega), pay4_apply]
    rfl
  · rw [dg, Norm.sum_blocks 8 512 rfl]
    refine Finset.sum_congr rfl fun i _ => ?_
    rw [pay3_apply]
    simp only [cotAt_apply, blk2]

end Cert.MixNorm

end
-- ==== Proof.MixNormReference.lean ====
/-
  The reference of the gradient of the norm before the mixers read at an index: the three results `jax.vjp` gives, as
  functions of the arguments' rows.
-/
module

public import proofs.«01_k».proof.Proof.Gen.Reference3Ideal.Run
public import proofs.«01_k».proof.Proof.Gen.Reference3Ideal.Read
public import proofs.«01_k».proof.Proof.MixNormKernel

@[expose] public section

noncomputable section

namespace Cert.MixNorm.Ref

open Idealize.ShloMosaic Idealize.ShloMosaic.TcCoe Idealize.SL.Sem
open Cert.Reference3Ideal Cert.Reference3Ideal.Read

variable (x0 x3 : FVec Ideal S4096x1024 .f32) (x1 : FVec Ideal S1024 .f32) (x2 : FVec Ideal S1024x1536 .f32) (x4 : FVec Ideal S4096x1536 .f32)

theorem under_apply (r : Fin 4096) : val_main_v6 (F := Ideal) x0 (ix2 r 0) = Norm.under fun k => x0 (ix2 r k) := by
  unfold val_main_v6 val_main_v5 val_main_v4 val_main_v3 val_main_v2 val_main_v1 val_main_v0 val_main_cst_1 val_main_cst_0 val_main_cst
  pointwise []
  rfl

theorem rinv_apply (r : Fin 4096) : val_main_v7 (F := Ideal) x0 (ix2 r 0) = Norm.rinv fun k => x0 (ix2 r k) := by
  unfold val_main_v7
  pointwise []
  rw [under_apply]; rfl

theorem root_apply (r : Fin 4096) : val_main_v10 (F := Ideal) x0 (ix2 r 0)
    = Norm.minusHalf * Ideal.div (Norm.rinv fun k => x0 (ix2 r k)) (Norm.under fun k => x0 (ix2 r k)) := by
  unfold val_main_v10 val_main_v9 val_main_v8 val_main_cst_2
  pointwise []
  rw [under_apply, rinv_apply]

theorem hid_apply (r : Fin 4096) (k : Fin 1024) : val_main_v17 (F := Ideal) x2 x4 (ix2 r k) = hid x4 x2 r k := by
  unfold val_main_v17
  pointwise []
  rfl

theorem cot_apply (r : Fin 4096) (k : Fin 1024) : val_main_v22 (F := Ideal) x1 x2 x4 (ix2 r k) = hid x4 x2 r k * x1 (ix1 k) := by
  unfold val_main_v22 val_main_v21 val_main_v13
  pointwise []
  rw [hid_apply]

theorem through_apply (r : Fin 4096) : val_main_v33 (F := Ideal) x0 x1 x2 x4 (ix1 r)
    = Norm.through (fun k => x0 (ix2 r k)) (fun k => hid x4 x2 r k * x1 (ix1 k)) := by
  unfold val_main_v33 val_main_v32 val_main_v31 val_main_v30 val_main_v26 val_main_v25 val_main_v24 val_main_cst_5 val_main_cst_6 val_main_cst_7
  pointwise []
  refine (Fin.sum_univ_one _).trans ?_
  simp only [cot_apply, root_apply]
  rfl

theorem dx_apply (r : Fin 4096) (n : Fin 1024) : val_main_v38 (F := Ideal) x0 x1 x2 x3 x4 (ix2 r n)
    = Norm.refGrad (x3 (ix2 r n)) (fun k => x0 (ix2 r k)) (fun k => hid x4 x2 r k * x1 (ix1 k)) n := by
  unfold val_main_v38 val_main_v37 val_main_v36 val_main_v35 val_main_v34 val_main_v29 val_main_v28 val_main_v27
  pointwise []
  rw [cot_apply, rinv_apply, through_apply]
  rfl

theorem dg_apply (n : Fin 1024) : val_main_v40 (F := Ideal) x0 x2 x4 (ix2 0 n)
    = ∑ r, hid x4 x2 r n * (x0 (ix2 r n) * Norm.rinv fun k => x0 (ix2 r k)) := by
  unfold val_main_v40 val_main_v23 val_main_v20 val_main_v19 val_main_v18 val_main_v12 val_main_v11 val_main_cst_3 val_main_cst_4
  pointwise []
  simp only [hid_apply, rinv_apply]
  exact (Fin.sum_univ_one _).trans (Finset.sum_congr rfl fun r _ => mul_comm _ _)

end Cert.MixNorm.Ref

end
-- ==== Proof.MixNormClaims.lean ====
/-
  The claims about the gradient of the norm before the mixers (`_mm_rmsbwd`): the programs run and leave their arguments as
  they were, and over the extended reals the kernel's three results are the gradients `jax.vjp` gives, where every argument
  entry is a real number.
-/
module

public import proofs.«01_k».proof.Defs
public import proofs.«01_k».proof.Proof.Gen.Kernel3.Frame
public import proofs.«01_k».proof.Proof.Gen.Pre_mix_norm_finite
public import proofs.«01_k».proof.Proof.MixNormKernel
public import proofs.«01_k».proof.Proof.MixNormReference

@[expose] public section

noncomputable section

namespace Cert.MixNorm

open Idealize.ShloMosaic Idealize.ShloMosaic.TcCoe Idealize.SL.Sem
open Cert.Kernel3Ideal Kernel3Ideal.Gen

theorem frame_kernel : quiescent_Kernel3 := fun m ρ _ => Kernel3.Gen.frame m ρ
theorem frame_ideal : quiescent_Kernel3Ideal := fun m ρ _ => Kernel3Ideal.Gen.frame m ρ
theorem frame_ideal_pre : quiescent_Kernel3Ideal_pre_mix_norm_finite := fun m ρ _ => Kernel3Ideal.Gen.frame m ρ
theorem frame_reference : quiescent_Reference3Ideal := fun m ρ _ =>
  (θ_run Reference3Ideal.defs _ _).mono (fun r h => ⟨fun c => (h c).2.2.2, sem_eq_zero_of_no_sems (by decide) r.2⟩)
    (Reference3Ideal.Value.run (F := Ideal) m ρ)
theorem frame_reference_pre : quiescent_Reference3Ideal_pre_mix_norm_finite := fun m ρ _ => frame_reference m ρ trivial

variable (m : (ℓ : Loc nD τ sig) → Buf (Elt Ideal) ℓ)

/-- The two forms of the row's gradient agree under the precondition. -/
theorem dx_eq (h : Cert.Pre_Kernel3Ideal_mix_norm_finite m) (c : Dev nD) (r : Fin 4096) (n : Fin 1024) : dx m c r n
    = Norm.refGrad (argO m c (ix2 r n)) (fun k => argX m c (ix2 r k)) (fun k => hid (argU m c) (argW m c) r k * argG m c (ix1 k)) n := by
  obtain ⟨h0, h1, h2, h3, h4⟩ := h c
  exact Norm.grad_eq ((Reals.fin_of_abs_lt _ _ h3).at _) (Reals.fin_of_isReal fun k => (Reals.fin_of_abs_lt _ _ h0).at _)
    (Reals.fin_of_isReal fun k => (Reals.IsReal.sum fun n => ((Reals.fin_of_abs_lt _ _ h4).at _).mul ((Reals.fin_of_abs_lt _ _ h2).at _)).mul
      ((Reals.fin_of_abs_lt _ _ h1).at _)) n

/-- The kernel's three results are the reference's. -/
theorem dx_agree (h : Cert.Pre_Kernel3Ideal_mix_norm_finite m) (c : Dev nD) :
    Reference3Ideal.Read.val_main_v38 (F := Ideal) (argX m c) (argG m c) (argW m c) (argO m c) (argU m c)
      = (dats m 0 c).arrAt 5 cfg0.N := by
  funext i
  obtain ⟨r, n, rfl⟩ := Norm.place2 i
  exact (Ref.dx_apply _ _ _ _ _ r n).trans ((dx_eq m h c r n).symm.trans (final5 m c r n).symm)

theorem dxb_agree (h : Cert.Pre_Kernel3Ideal_mix_norm_finite m) (c : Dev nD) :
    Reference3Ideal.Read.val_main_v39 (F := Ideal) (argX m c) (argG m c) (argW m c) (argO m c) (argU m c)
      = (dats m 0 c).arrAt 6 cfg0.N := by
  funext i
  obtain ⟨r, n, rfl⟩ := Norm.place2 i
  exact (Ref.dx_apply _ _ _ _ _ r n).trans ((dx_eq m h c r n).symm.trans (final6 m c r n).symm)

theorem dg_agree (c : Dev nD) : Reference3Ideal.Read.val_main_v40 (F := Ideal) (argX m c) (argW m c) (argU m c)
      = (dats m 0 c).arrAt 7 cfg0.N := by
  funext i
  obtain ⟨n, rfl⟩ := Norm.place1 i
  exact (Ref.dg_apply _ _ _ n).trans (final7 m c n).symm

theorem algebraic : algebraic_Kernel3Ideal_Reference3Ideal_pre_mix_norm_finite := by
  intro m ρ m' ρ' hpre hagree
  refine ⟨fun c => (dats m 0 c).arrAt 5 cfg0.N, fun c => (dats m 0 c).arrAt 6 cfg0.N, fun c => (dats m 0 c).arrAt 7 cfg0.N, Value.run_blocks m ρ, ?_⟩
  refine (θ_run Reference3Ideal.defs _ _).mono (fun _ h c => ⟨(h c).1.trans ?_, (h c).2.1.trans ?_, (h c).2.2.1.trans ?_, (h c).2.2.2⟩)
    (Reference3Ideal.Value.run (F := Ideal) m' ρ')
  all_goals obtain ⟨a0, a1, a2, a3, a4⟩ := hagree c
  · rw [Reference3Ideal.Read.val_main_v38_eq, a0, a1, a2, a3, a4]
    exact dx_agree m hpre c
  · rw [Reference3Ideal.Read.val_main_v39_eq, a0, a1, a2, a3, a4]
    exact dxb_agree m hpre c
  · refine (Reference3Ideal.Read.val_main_v40_eq _ _ _).trans ?_
    rw [a0, a2, a4]
    exact dg_agree m c

end Cert.MixNorm

end
-- ==== Proof.LossScalar.lean ====
/-
  The loss and its gradient along one row, on extended reals: the mean square of the error, its derivative as the kernel
  writes it and as `jax.vjp` writes it, and that they agree where the entries are real numbers.
-/
module

public import proofs.«01_k».proof.Proof.NormScalar
public import proofs.«01_k».proof.Proof.GateScalar

@[expose] public section

noncomputable section

namespace Cert.Loss

open Idealize.ShloMosaic

abbrev two : EReal := Ideal.ofBits .f32 0x40000000#32

theorem two_eq : two = ((2 : ℝ) : EReal) := by
  simp [two, Ideal.ofBits, Ideal.ieee, -EReal.coe_mul]
  norm_num

theorem half_eq : Gate.half = ((1 / 2 : ℝ) : EReal) := by
  simp [Gate.half, Ideal.ofBits, Ideal.ieee, -EReal.coe_mul]
  norm_num

/-- The derivative of the loss by the error, as `jax.vjp` writes it: half divided by the width, times twice the error. -/
def slope (e : EReal) : EReal := Ideal.div Gate.half Norm.width * (two * e)

theorem slope_eq {e : EReal} (h : Reals.IsReal e) : Ideal.div e Norm.width = slope e := by
  obtain ⟨v, rfl⟩ := h
  rw [slope, half_eq, two_eq, Norm.width_eq]
  simp only [← EReal.coe_mul]
  rw [Reals.div_coe_coe _ (by norm_num : (1024 : ℝ) ≠ 0), Reals.div_coe_coe _ (by norm_num : (1024 : ℝ) ≠ 0), ← EReal.coe_mul]
  congr 1
  ring

theorem slope_real {e : EReal} (h : Reals.IsReal e) : Reals.IsReal (slope e) := by
  obtain ⟨v, rfl⟩ := h
  refine ⟨v / 1024, ?_⟩
  rw [← slope_eq ⟨v, rfl⟩, Norm.width_eq, Reals.div_coe_coe _ (by norm_num : (1024 : ℝ) ≠ 0)]

/-- The loss of a set of rows of errors, as the kernel takes it: half the sum over the columns of the sums over the rows, divided by the width. -/
def part {n : ℕ} (e : Fin n → Fin 1024 → EReal) : EReal := Ideal.div (Gate.half * ∑ k, ∑ r, e r k * e r k) Norm.width

/-- The loss as the reference takes it: half the sum over the rows of their mean squares. -/
def mean {n : ℕ} (e : Fin n → Fin 1024 → EReal) : EReal := Gate.half * ∑ r, Ideal.div (∑ k, e r k * e r k) Norm.width

theorem part_eq {n : ℕ} {e : Fin n → Fin 1024 → EReal} (h : ∀ r k, Reals.IsReal (e r k)) : part e = mean e := by
  obtain ⟨v, hv⟩ : ∃ v : Fin n → Fin 1024 → ℝ, ∀ r k, e r k = (v r k : EReal) := ⟨fun r k => (h r k).choose, fun r k => (h r k).choose_spec⟩
  rw [part, mean, half_eq, Norm.width_eq]
  simp only [hv, ← EReal.coe_mul, Reals.coe_sum]
  simp only [Reals.div_coe_coe _ (by norm_num : (1024 : ℝ) ≠ 0), Reals.coe_sum, ← EReal.coe_mul]
  congr 1
  rw [Finset.sum_comm, ← Finset.sum_div]
  ring

/-- The loss of all rows is the sum of the losses of the row blocks. -/
theorem sum_parts {e : Fin 4096 → Fin 1024 → EReal} (h : ∀ r k, Reals.IsReal (e r k)) :
    (∑ i : Fin 8, part fun p : Fin 512 => e (Norm.rowIn i.val i.isLt p)) = mean e := by
  rw [← part_eq h]
  have hp : ∀ i : Fin 8, part (fun p : Fin 512 => e (Norm.rowIn i.val i.isLt p)) = mean _ := fun i => part_eq fun p k => h _ k
  rw [part_eq h, mean, Norm.sum_blocks 8 512 rfl]
  rw [Finset.sum_congr rfl fun i _ => hp i]
  obtain ⟨v, hv⟩ : ∃ v : Fin 4096 → Fin 1024 → ℝ, ∀ r k, e r k = (v r k : EReal) := ⟨fun r k => (h r k).choose, fun r k => (h r k).choose_spec⟩
  simp only [mean]
  rw [half_eq, Norm.width_eq]
  simp only [hv, ← EReal.coe_mul, Reals.coe_sum, Reals.div_coe_coe _ (by norm_num : (1024 : ℝ) ≠ 0)]
  rw [Finset.mul_sum]

end Cert.Loss

end
-- ==== Proof.LossKernel.lean ====
/-
  The last feed-forward product with the loss and the gradient of the norm before it, as the kernel computes them: the body's
  payloads at an index, the blocks it reads at each grid point, the accumulation of the loss and of the gain's gradient over
  the grid, and so each element of the four result arrays as a function of the arguments.
-/
module

public import proofs.«01_k».proof.Proof.Gen.Kernel4Ideal.Value
public import proofs.«01_k».proof.Proof.LossScalar

@[expose] public section

noncomputable section

namespace Cert.Loss

open Idealize.ShloMosaic Idealize.ShloMosaic.TcCoe Idealize.SL.Sem
open Idealize.ShloMosaic.Pipeline (Dat)
open Cert.Norm (slabOf rowIn blockOf inBlock)
open Cert.Kernel4Ideal Cert.Kernel4Ideal.Gen

variable (m : (ℓ : Loc nD τ sig) → Buf (Elt Ideal) ℓ) (ρ : Dev nD → PrngReg)

/-- The residual row block with half the feed-forward product added, the product taken slab by slab; and its squares. -/
abbrev fresh (x : Vec Ideal S512x1024 .f32) (a : Vec Ideal S4x512x704 .bf16) (w : Vec Ideal S4x704x1024 .bf16) : FVec Ideal S512x1024 .f32 :=
  k0_pay4 x (slabOf a 0 inb_S4x512x704_S1x512x704_0_0_0) (slabOf w 0 inb_S4x704x1024_S1x704x1024_0_0_0)
    (slabOf a 1 inb_S4x512x704_S1x512x704_1_0_0) (slabOf w 1 inb_S4x704x1024_S1x704x1024_1_0_0)
    (slabOf a 2 inb_S4x512x704_S1x512x704_2_0_0) (slabOf w 2 inb_S4x704x1024_S1x704x1024_2_0_0)
    (slabOf a 3 inb_S4x512x704_S1x512x704_3_0_0) (slabOf w 3 inb_S4x704x1024_S1x704x1024_3_0_0)

abbrev squares (x : Vec Ideal S512x1024 .f32) (a : Vec Ideal S4x512x704 .bf16) (w : Vec Ideal S4x704x1024 .bf16) : FVec Ideal S512x1024 .f32 :=
  k0_pay5 x (slabOf a 0 inb_S4x512x704_S1x512x704_0_0_0) (slabOf w 0 inb_S4x704x1024_S1x704x1024_0_0_0)
    (slabOf a 1 inb_S4x512x704_S1x512x704_1_0_0) (slabOf w 1 inb_S4x704x1024_S1x704x1024_1_0_0)
    (slabOf a 2 inb_S4x512x704_S1x512x704_2_0_0) (slabOf w 2 inb_S4x704x1024_S1x704x1024_2_0_0)
    (slabOf a 3 inb_S4x512x704_S1x512x704_3_0_0) (slabOf w 3 inb_S4x704x1024_S1x704x1024_3_0_0)

theorem fresh_apply (x : Vec Ideal S512x1024 .f32) (a : Vec Ideal S4x512x704 .bf16) (w : Vec Ideal S4x704x1024 .bf16) (p : Fin 512) (q : Fin 1024) :
    fresh x a w (ix2 p q) = x (ix2 p q) + Gate.half * ∑ j, ∑ f, a (ix3 j p f) * w (ix3 j f q) := by
  pointwise [fresh, k0_pay4]
  rw [Fin.sum_univ_four]
  exact congrArg (fun s => x (ix2 p q) + Gate.half * s) (congrArg₂ (· + ·) (congrArg₂ (· + ·) (congrArg₂ (· + ·)
    (Norm.sum_slab a w 0 _ _ p q) (Norm.sum_slab a w 1 _ _ p q)) (Norm.sum_slab a w 2 _ _ p q)) (Norm.sum_slab a w 3 _ _ p q))

section
variable (y s : FVec Ideal S512x1024 .f32) (hs : ∀ p q, s (ix2 p q) = y (ix2 p q) * y (ix2 p q)) (g : Vec Ideal S1x1024 .f32) (o : Vec Ideal S512x1024 .f32)
include hs

theorem pay6_apply (p : Fin 512) : k0_pay6 s (ix2 p 0) = Norm.rinv fun k => y (ix2 p k) := by
  pointwise [k0_pay6]
  simp only [hs]
  rfl

theorem pay7_apply (p : Fin 512) (q : Fin 1024) : k0_pay7 y s (ix2 p q) = y (ix2 p q) * Norm.rinv fun k => y (ix2 p k) := by
  pointwise [k0_pay7]
  rw [pay6_apply y s hs]

theorem pay9_apply (p : Fin 512) (q : Fin 1024) :
    k0_pay9 y s g o (ix2 p q) = y (ix2 p q) * (Norm.rinv fun k => y (ix2 p k)) * g (ix2 0 q) - o (ix2 p q) := by
  pointwise [k0_pay9, k0_pay8]
  rw [pay7_apply y s hs]

theorem pay10_apply (p : Fin 512) (q : Fin 1024) : k0_pay10 y s g o (ix2 p q)
    = Ideal.div (y (ix2 p q) * (Norm.rinv fun k => y (ix2 p k)) * g (ix2 0 q) - o (ix2 p q)) Norm.width := by
  pointwise [k0_pay10]
  rw [pay9_apply y s hs]

theorem pay2_apply (p : Fin 512) (q : Fin 1024) :
    k0_pay2 (k0_pay6 s) (k0_pay7 y s) (k0_pay8 g) (k0_pay10 y s g o) (ix2 p q)
      = Norm.grad 0 (fun k => y (ix2 p k)) (fun k => Ideal.div (y (ix2 p k) * (Norm.rinv fun k => y (ix2 p k)) * g (ix2 0 k) - o (ix2 p k)) Norm.width * g (ix2 0 k)) q := by
  pointwise [k0_pay2, k0_pay8]
  simp only [pay10_apply y s hs, pay6_apply y s hs, pay7_apply y s hs]
  exact (zero_add _).symm

theorem pay11_apply (q : Fin 128) : k0_pay11 y s g o (ix2 0 q)
    = part fun p k => y (ix2 p k) * (Norm.rinv fun k => y (ix2 p k)) * g (ix2 0 k) - o (ix2 p k) := by
  pointwise [k0_pay11]
  simp only [pay9_apply y s hs]
  first | rfl | exact (Fin.sum_univ_one _).trans rfl

theorem pay13_apply (q : Fin 1024) : k0_pay13 y s g o (ix2 0 q)
    = ∑ p, Ideal.div (y (ix2 p q) * (Norm.rinv fun k => y (ix2 p k)) * g (ix2 0 q) - o (ix2 p q)) Norm.width * (y (ix2 p q) * Norm.rinv fun k => y (ix2 p k)) := by
  pointwise [k0_pay13]
  simp only [pay10_apply y s hs, pay7_apply y s hs]

end

theorem pay12_apply (y s : FVec Ideal S512x1024 .f32) (g : Vec Ideal S1x1024 .f32) (o : Vec Ideal S512x1024 .f32) (c : Vec Ideal S1x128 .f32) (q : Fin 128) :
    k0_pay12 y s g o c (ix2 0 q) = c (ix2 0 q) + k0_pay11 y s g o (ix2 0 q) := by
  pointwise [k0_pay12]

theorem pay1_apply (v c : Vec Ideal S1x1024 .f32) (q : Fin 1024) : k0_pay1 v c (ix2 0 q) = c (ix2 0 q) + v (ix2 0 q) := by
  pointwise [k0_pay1]

/-- The new row block of point `t`, and its squares. -/
abbrev freshAt (c : Dev nD) (t : Fin cfg0.N) : FVec Ideal S512x1024 .f32 := fresh (iblk m c 2 t) (iblk m c 0 t) (iblk m c 1 t)
abbrev squaresAt (c : Dev nD) (t : Fin cfg0.N) : FVec Ideal S512x1024 .f32 := squares (iblk m c 2 t) (iblk m c 0 t) (iblk m c 1 t)

theorem squaresAt_apply (c : Dev nD) (t : Fin cfg0.N) (p : Fin 512) (q : Fin 1024) :
    squaresAt m c t (ix2 p q) = freshAt m c t (ix2 p q) * freshAt m c t (ix2 p q) := by
  pointwise [squaresAt, squares, k0_pay5]

/-- What the body leaves in each of its four output blocks at point `t`. -/
theorem out5 (c : Dev nD) (t : Fin cfg0.N) : (outsAt0 m c t.val t.isLt).1 = k0_pay2 (k0_pay6 (squaresAt m c t)) (k0_pay7 (freshAt m c t) (squaresAt m c t)) (k0_pay8 (iblk m c 3 t)) (k0_pay10 (freshAt m c t) (squaresAt m c t) (iblk m c 3 t) (iblk m c 4 t)) := by
  by_cases h0 : t.val % 8 = 0
  · have h1 : ¬1 ≤ t.val := by have := lt_of_lt_of_eq t.isLt N_0; omega
    rw [outsAt0_A m c t h0 h1 h0 h1]
    unfold out0_A_5
    dsimp only
    rw [View.read_writes_eq_canon _ _ _ (cover0_A_5 c _ _ _ _ _ _ _ _ _ _ _ _ _ _ _ _ _ _ _ _ _ _ _ _ _ _ _ _)]
    unfold kernelRun0_A
    dsimp only
    sl_unfold_words
    simp only [View.readAt_eq_ld, (hs0_0 t).read_unread, (hs0_1 t).read_unread, (hs0_2 t).read_unread, (hs0_3 t).read_unread, (hs0_4 t).read_unread]
    rw [View.canon_unit_zero Reals.zero2, View.ld_unit_zero Reals.zero2, View.ld_unit_zero Reals.zero2, View.ld_unit_zero Reals.zero2]
    rfl
  · have h1 : 1 ≤ t.val := by omega
    rw [outsAt0_B m c t h0 h1 h0 h1]
    unfold out0_B_5
    dsimp only
    rw [View.read_writes_eq_canon _ _ _ (cover0_B_5 c _ _ _ _ _ _ _ _ _ _ _ _ _ _ _ _ _ _ _ _ _ _ _ _ _ _ _ _ _ _)]
    unfold kernelRun0_B
    dsimp only
    sl_unfold_words
    simp only [View.readAt_eq_ld, (hs0_0 t).read_unread, (hs0_1 t).read_unread, (hs0_2 t).read_unread, (hs0_3 t).read_unread, (hs0_4 t).read_unread, (hs0_7 t).read_unread, (hs0_8 t).read_unread]
    rw [View.canon_unit_zero Reals.zero2, View.ld_unit_zero Reals.zero2, View.ld_unit_zero Reals.zero2, View.ld_unit_zero Reals.zero2]
    rfl

theorem out6 (c : Dev nD) (t : Fin cfg0.N) : (outsAt0 m c t.val t.isLt).2.1 = k0_pay3 (k0_pay6 (squaresAt m c t)) (k0_pay7 (freshAt m c t) (squaresAt m c t)) (k0_pay8 (iblk m c 3 t)) (k0_pay10 (freshAt m c t) (squaresAt m c t) (iblk m c 3 t) (iblk m c 4 t)) := by
  by_cases h0 : t.val % 8 = 0
  · have h1 : ¬1 ≤ t.val := by have := lt_of_lt_of_eq t.isLt N_0; omega
    rw [outsAt0_A m c t h0 h1 h0 h1]
    unfold out0_A_6
    dsimp only
    rw [View.read_writes_eq_canon _ _ _ (cover0_A_6 c _ _ _ _ _ _ _ _ _ _ _ _ _ _ _ _ _ _ _ _ _ _ _ _ _ _ _ _)]
    unfold kernelRun0_A
    dsimp only
    sl_unfold_words
    simp only [View.readAt_eq_ld, (hs0_0 t).read_unread, (hs0_1 t).read_unread, (hs0_2 t).read_unread, (hs0_3 t).read_unread, (hs0_4 t).read_unread]
    rw [View.canon_unit_zero Reals.zero2, View.ld_unit_zero Reals.zero2, View.ld_unit_zero Reals.zero2, View.ld_unit_zero Reals.zero2]
    rfl
  · have h1 : 1 ≤ t.val := by omega
    rw [outsAt0_B m c t h0 h1 h0 h1]
    unfold out0_B_6
    dsimp only
    rw [View.read_writes_eq_canon _ _ _ (cover0_B_6 c _ _ _ _ _ _ _ _ _ _ _ _ _ _ _ _ _ _ _ _ _ _ _ _ _ _ _ _ _ _)]
    unfold kernelRun0_B
    dsimp only
    sl_unfold_words
    simp only [View.readAt_eq_ld, (hs0_0 t).read_unread, (hs0_1 t).read_unread, (hs0_2 t).read_unread, (hs0_3 t).read_unread, (hs0_4 t).read_unread, (hs0_7 t).read_unread, (hs0_8 t).read_unread]
    rw [View.canon_unit_zero Reals.zero2, View.ld_unit_zero Reals.zero2, View.ld_unit_zero Reals.zero2, View.ld_unit_zero Reals.zero2]
    rfl

theorem out7_first (c : Dev nD) (t : Fin cfg0.N) (h0 : t.val % 8 = 0) : (outsAt0 m c t.val t.isLt).2.2.1 = k0_pay11 (freshAt m c t) (squaresAt m c t) (iblk m c 3 t) (iblk m c 4 t) := by
  have h1 : ¬1 ≤ t.val := by have := lt_of_lt_of_eq t.isLt N_0; omega
  rw [outsAt0_A m c t h0 h1 h0 h1]
  unfold out0_A_7
  dsimp only
  rw [View.read_writes_eq_canon _ _ _ (cover0_A_7 c _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread]
  rw [View.canon_unit_zero Reals.zero2, View.ld_unit_zero Reals.zero2, View.ld_unit_zero Reals.zero2, View.ld_unit_zero Reals.zero2]
  rfl

theorem out7_later (c : Dev nD) (t : Fin cfg0.N) (h0 : ¬t.val % 8 = 0) : (outsAt0 m c t.val t.isLt).2.2.1 = k0_pay12 (freshAt m c t) (squaresAt m c t) (iblk m c 3 t) (iblk m c 4 t) (outsAt0 m c (t.val - 1) (Nat.lt_of_le_of_lt (Nat.sub_le _ _) t.isLt)).2.2.1 := by
  have h1 : 1 ≤ t.val := by omega
  rw [outsAt0_B m c t h0 h1 h0 h1]
  unfold out0_B_7
  dsimp only
  rw [View.read_writes_eq_canon _ _ _ (cover0_B_7 c _ _ _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_7 t).read_unread, (hs0_8 t).read_unread]
  rw [View.canon_unit_zero Reals.zero2, View.ld_unit_zero Reals.zero2, View.ld_unit_zero Reals.zero2, View.ld_unit_zero Reals.zero2, View.ld_unit_zero Reals.zero2]
  rfl

theorem out8_first (c : Dev nD) (t : Fin cfg0.N) (h0 : t.val % 8 = 0) : (outsAt0 m c t.val t.isLt).2.2.2 = k0_pay13 (freshAt m c t) (squaresAt m c t) (iblk m c 3 t) (iblk m c 4 t) := by
  have h1 : ¬1 ≤ t.val := by have := lt_of_lt_of_eq t.isLt N_0; omega
  rw [outsAt0_A m c t h0 h1 h0 h1]
  unfold out0_A_8
  dsimp only
  rw [View.read_writes_eq_canon _ _ _ (cover0_A_8 c _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread]
  rw [View.canon_unit_zero Reals.zero2, View.ld_unit_zero Reals.zero2, View.ld_unit_zero Reals.zero2, View.ld_unit_zero Reals.zero2]
  rfl

theorem out8_later (c : Dev nD) (t : Fin cfg0.N) (h0 : ¬t.val % 8 = 0) : (outsAt0 m c t.val t.isLt).2.2.2 = k0_pay1 (k0_pay13 (freshAt m c t) (squaresAt m c t) (iblk m c 3 t) (iblk m c 4 t)) (outsAt0 m c (t.val - 1) (Nat.lt_of_le_of_lt (Nat.sub_le _ _) t.isLt)).2.2.2 := by
  have h1 : 1 ≤ t.val := by omega
  rw [outsAt0_B m c t h0 h1 h0 h1]
  unfold out0_B_8
  dsimp only
  rw [View.read_writes_eq_canon _ _ _ (cover0_B_8 c _ _ _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_7 t).read_unread, (hs0_8 t).read_unread]
  rw [View.canon_unit_zero Reals.zero2, View.ld_unit_zero Reals.zero2, View.ld_unit_zero Reals.zero2, View.ld_unit_zero Reals.zero2, View.ld_unit_zero Reals.zero2]
  rfl

/-- The arguments: the gated activations, the weight, the residual, the norm's gain and the target. -/
abbrev argA (c : Dev nD) : FVec Ideal S4096x2816 .f32 := m ((c : Thread nD τ).loc main_arg0)
abbrev argW (c : Dev nD) : FVec Ideal S2816x1024 .f32 := m ((c : Thread nD τ).loc main_arg1)
abbrev argX (c : Dev nD) : FVec Ideal S4096x1024 .f32 := m ((c : Thread nD τ).loc main_arg2)
abbrev argG (c : Dev nD) : FVec Ideal S1024 .f32 := m ((c : Thread nD τ).loc main_arg3)
abbrev argT (c : Dev nD) : FVec Ideal S4096x1024 .f32 := m ((c : Thread nD τ).loc main_arg4)

section
variable (A : FVec Ideal S4096x2816 .f32) (W : FVec Ideal S2816x1024 .f32) (X : FVec Ideal S4096x1024 .f32) (G : FVec Ideal S1024 .f32) (T : FVec Ideal S4096x1024 .f32)

/-- The new row, its normed form, and the error against the target. -/
def new (r : Fin 4096) (n : Fin 1024) : EReal := X (ix2 r n) + Gate.half * ∑ f, A (ix2 r f) * W (ix2 f n)
def normed (r : Fin 4096) (n : Fin 1024) : EReal := new A W X r n * Norm.rinv (new A W X r)
def err (r : Fin 4096) (n : Fin 1024) : EReal := normed A W X r n * G (ix1 n) - T (ix2 r n)
end

theorem V1 (c : Dev nD) : (V m c main_v1 : FVec Ideal S4x704x1024 .bf16) = shapeCast S4x704x1024 (truncf .bf16 (argW m c) bitsLt_bf16_f32) shapeCasts_S2816x1024_S4x704x1024 := by
  unfold V hostOps0; after_results; rfl

theorem V4 (c : Dev nD) : (V m c main_v4 : FVec Ideal S4x4096x704 .bf16) = truncf .bf16 (transpose S4x4096x704 [1, 0, 2]
    (shapeCast S4096x4x704 (argA m c) shapeCasts_S4096x2816_S4096x4x704) transposes_S4096x4x704_S4x4096x704_1_0_2) bitsLt_bf16_f32 := by
  unfold V hostOps0; after_results; rfl

theorem V5 (c : Dev nD) : (V m c main_v5 : FVec Ideal S1x1024 .f32) = shapeCast S1x1024 (argG m c) shapeCasts_S1024_S1x1024 := by
  unfold V hostOps0; after_results; rfl

/-- Where each window's block sits at each point. -/
theorem idx_facts : ∀ t : Fin cfg0.N, (win0_0.index t 0 = 0 ∧ win0_0.index t 1 = t.val ∧ win0_0.index t 2 = 0)
    ∧ (win0_1.index t 0 = 0 ∧ win0_1.index t 1 = 0 ∧ win0_1.index t 2 = 0)
    ∧ (win0_2.index t 0 = t.val ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = 0 ∧ win0_7.index t 1 = 0) ∧ (win0_8.index t 0 = 0 ∧ win0_8.index t 1 = 0) :=
  (by decide +kernel : ∀ t : Fin grid0.N, _)

theorem lt8 (t : Fin cfg0.N) : t.val < 8 := lt_of_lt_of_eq t.isLt N_0

theorem blk0 (c : Dev nD) (t : Fin cfg0.N) (j : Fin 4) (p : Fin 512) (f : Fin 704) :
    (iblk m c 0 t : Vec Ideal S4x512x704 .bf16) (ix3 j p f) = argA m c (ix2 (rowIn t.val (lt8 t) p) (Gate.col j f)) := by
  have h := (idx_facts t).1
  have e : (win0_0.rect t).emb (ix3 j p f) = (ix3 j (rowIn t.val (lt8 t) p) f : S4x4096x704.Idx) := Reals.emb_eq _ rfl t _ _ fun a => by
    fin_cases a
    · show win0_0.index t 0 * 4 + j.val = j.val; rw [h.1]; simp
    · show win0_0.index t 1 * 512 + p.val = t.val * 512 + p.val; rw [h.2.1]
    · show win0_0.index t 2 * 704 + f.val = f.val; rw [h.2.2]; simp
  show (V m c main_v4 : FVec Ideal S4x4096x704 .bf16) ((win0_0.rect t).emb (ix3 j p f)) = _
  rw [e, V4]; pointwise []

theorem blk1 (c : Dev nD) (t : Fin cfg0.N) (j : Fin 4) (f : Fin 704) (q : Fin 1024) :
    (iblk m c 1 t : Vec Ideal S4x704x1024 .bf16) (ix3 j f q) = argW m c (ix2 (Gate.col j f) q) := by
  have h := (idx_facts t).2.1
  have e : (win0_1.rect t).emb (ix3 j f q) = (ix3 j f q : S4x704x1024.Idx) := Reals.emb_eq _ rfl t _ _ fun a => by
    fin_cases a
    · show win0_1.index t 0 * 4 + j.val = j.val; rw [h.1]; simp
    · show win0_1.index t 1 * 704 + f.val = f.val; rw [h.2.1]; simp
    · show win0_1.index t 2 * 1024 + q.val = q.val; rw [h.2.2]; simp
  show (V m c main_v1 : FVec Ideal S4x704x1024 .bf16) ((win0_1.rect t).emb (ix3 j f q)) = _
  rw [e, V1]; pointwise []

theorem blk2 (c : Dev nD) (t : Fin cfg0.N) (p : Fin 512) (q : Fin 1024) :
    (iblk m c 2 t : Vec Ideal S512x1024 .f32) (ix2 p q) = argX m c (ix2 (rowIn t.val (lt8 t) p) q) := by
  have h := (idx_facts t).2.2.1
  have e : (win0_2.rect t).emb (ix2 p q) = (ix2 (rowIn t.val (lt8 t) p) q : S4096x1024.Idx) := Reals.emb_eq _ rfl t _ _ fun a => by
    fin_cases a
    · show win0_2.index t 0 * 512 + p.val = t.val * 512 + p.val; rw [h.1]
    · show win0_2.index t 1 * 1024 + q.val = q.val; rw [h.2]; simp
  show (V m c main_arg2 : FVec Ideal S4096x1024 .f32) ((win0_2.rect t).emb (ix2 p q)) = _
  rw [e, V_main_arg2]

theorem blk3 (c : Dev nD) (t : Fin cfg0.N) (q : Fin 1024) : (iblk m c 3 t : Vec Ideal S1x1024 .f32) (ix2 0 q) = argG m c (ix1 q) := by
  have h := (idx_facts t).2.2.2.1
  have e : (win0_3.rect t).emb (ix2 0 q) = (ix2 0 q : S1x1024.Idx) := Reals.emb_eq _ rfl t _ _ fun a => by
    fin_cases a
    · show win0_3.index t 0 * 1 + 0 = 0; rw [h.1]
    · show win0_3.index t 1 * 1024 + q.val = q.val; rw [h.2]; simp
  show (V m c main_v5 : FVec Ideal S1x1024 .f32) ((win0_3.rect t).emb (ix2 0 q)) = _
  rw [e, V5]; pointwise []

theorem blk4 (c : Dev nD) (t : Fin cfg0.N) (p : Fin 512) (q : Fin 1024) :
    (iblk m c 4 t : Vec Ideal S512x1024 .f32) (ix2 p q) = argT m c (ix2 (rowIn t.val (lt8 t) p) q) := by
  have h := (idx_facts t).2.2.2.2.1
  have e : (win0_4.rect t).emb (ix2 p q) = (ix2 (rowIn t.val (lt8 t) p) q : S4096x1024.Idx) := Reals.emb_eq _ rfl t _ _ fun a => by
    fin_cases a
    · show win0_4.index t 0 * 512 + p.val = t.val * 512 + p.val; rw [h.1]
    · show win0_4.index t 1 * 1024 + q.val = q.val; rw [h.2]; simp
  show (V m c main_arg4 : FVec Ideal S4096x1024 .f32) ((win0_4.rect t).emb (ix2 p q)) = _
  rw [e, V_main_arg4]

theorem freshAt_apply (c : Dev nD) (t : Fin cfg0.N) (p : Fin 512) (q : Fin 1024) :
    freshAt m c t (ix2 p q) = new (argA m c) (argW m c) (argX m c) (rowIn t.val (lt8 t) p) q := by
  refine (fresh_apply _ _ _ p q).trans ?_
  rw [new, Norm.sum_blocks 4 704 rfl]
  simp only [blk0, blk1, blk2]

/-- An element of the two results that are written block by block. -/
abbrev dx (c : Dev nD) (r : Fin 4096) (n : Fin 1024) : EReal := Norm.grad 0 (new (argA m c) (argW m c) (argX m c) r) (fun k => Ideal.div ((err (argA m c) (argW m c) (argX m c) (argG m c) (argT m c)) r k) Norm.width * argG m c (ix1 k)) n

theorem point (c : Dev nD) (t : Fin cfg0.N) (p : Fin 512) (q : Fin 1024) :
    k0_pay2 (k0_pay6 (squaresAt m c t)) (k0_pay7 (freshAt m c t) (squaresAt m c t)) (k0_pay8 (iblk m c 3 t)) (k0_pay10 (freshAt m c t) (squaresAt m c t) (iblk m c 3 t) (iblk m c 4 t)) (ix2 p q) = dx m c (rowIn t.val (lt8 t) p) q := by
  refine (pay2_apply _ _ (squaresAt_apply m c t) _ _ p q).trans ?_
  simp only [freshAt_apply, blk3, blk4]
  rfl

abbrev pointOf (r : Fin 4096) : Fin cfg0.N := ⟨blockOf r, by rw [show cfg0.N = 8 from N_0]; exact Norm.blockOf_lt r⟩

/-- The four results after the run, element by element. -/
theorem final5 (c : Dev nD) (r : Fin 4096) (n : Fin 1024) : ((dats m 0 c).arrAt 5 cfg0.N : FVec Ideal S4096x1024 .f32) (ix2 r n) = dx m c r n := by
  have h := (idx_facts (pointOf r)).2.2.2.2.2.1
  have e : (win0_5.rect (pointOf r)).emb (ix2 (inBlock r) n) = (ix2 r n : S4096x1024.Idx) := Reals.emb_eq _ rfl _ _ _ fun a => by
    fin_cases a
    · show win0_5.index (pointOf r) 0 * 512 + r.val % 512 = r.val; rw [h.1]; dsimp only [blockOf]; omega
    · show win0_5.index (pointOf r) 1 * 1024 + n.val = n.val; rw [h.2]; simp
  rw [← e]
  refine ((dats m 0 c).arrAt_emb_eq_flushed 5 (Value.disjoint5) (pointOf r) (flush0_5 _) (ix2 (inBlock r) n)).trans ?_
  rw [Value.flushed5]
  show (outsAt0 m c (pointOf r).val (pointOf r).isLt).1 (ix2 (inBlock r) n) = _
  rw [out5, point, Norm.rowIn_blockOf]

theorem final6 (c : Dev nD) (r : Fin 4096) (n : Fin 1024) : ((dats m 0 c).arrAt 6 cfg0.N : FVec Ideal S4096x1024 .bf16) (ix2 r n) = dx m c r n := by
  have h := (idx_facts (pointOf r)).2.2.2.2.2.2.1
  have e : (win0_6.rect (pointOf r)).emb (ix2 (inBlock r) n) = (ix2 r n : S4096x1024.Idx) := Reals.emb_eq _ rfl _ _ _ fun a => by
    fin_cases a
    · show win0_6.index (pointOf r) 0 * 512 + r.val % 512 = r.val; rw [h.1]; dsimp only [blockOf]; omega
    · show win0_6.index (pointOf r) 1 * 1024 + n.val = n.val; rw [h.2]; simp
  rw [← e]
  refine ((dats m 0 c).arrAt_emb_eq_flushed 6 (Value.disjoint6) (pointOf r) (flush0_6 _) (ix2 (inBlock r) n)).trans ?_
  rw [Value.flushed6]
  show (outsAt0 m c (pointOf r).val (pointOf r).isLt).2.1 (ix2 (inBlock r) n) = _
  rw [out6]
  refine Eq.trans ?_ ((point m c (pointOf r) (inBlock r) n).trans (by rw [Norm.rowIn_blockOf]))
  rfl

/-- The last two results are written back once, at the last point: the sum over the row blocks. -/
theorem point7 (c : Dev nD) (t : Fin cfg0.N) (n : Fin 128) :
    k0_pay11 (freshAt m c t) (squaresAt m c t) (iblk m c 3 t) (iblk m c 4 t) (ix2 0 n) = part fun p : Fin 512 => (err (argA m c) (argW m c) (argX m c) (argG m c) (argT m c)) (rowIn t.val (lt8 t) p) := by
  refine (pay11_apply _ _ (squaresAt_apply m c t) _ _ n).trans ?_
  simp only [freshAt_apply, blk3, blk4]
  rfl

abbrev part7 (c : Dev nD) (n : Fin 128) (t : Fin cfg0.N) : EReal := k0_pay11 (freshAt m c t) (squaresAt m c t) (iblk m c 3 t) (iblk m c 4 t) (ix2 0 n)

theorem disjoint7 : ∀ t t' : Fin cfg0.N, (cfg0.win 7).flush t = true → (cfg0.win 7).flush t' = true → t ≠ t' →
    Disjoint ((cfg0.win 7).blk t).view.set ((cfg0.win 7).blk t').view.set := fun t t' h h' hn =>
  absurd (Fin.ext (by have := (flush0_7 t).mp h; have := (flush0_7 t').mp h'; have := lt8 t; have := lt8 t'; omega)) hn

theorem last7 (c : Dev nD) (t : Fin cfg0.N) (ht : t.val % 8 = 7) (n : Fin 128) :
    ((dats m 0 c).arrAt 7 cfg0.N : FVec Ideal S1x128 .f32) (ix2 0 n) = (outsAt0 m c t.val t.isLt).2.2.1 (ix2 0 n) := by
  have h := (idx_facts t).2.2.2.2.2.2.2.1
  have e : (win0_7.rect t).emb (ix2 0 n) = (ix2 0 n : S1x128.Idx) := Reals.emb_eq _ rfl _ _ _ fun a => by
    fin_cases a
    · show win0_7.index t 0 * 1 + 0 = 0; rw [h.1]
    · show win0_7.index t 1 * 128 + n.val = n.val; rw [h.2]; simp
  refine (congrArg _ e.symm).trans (((dats m 0 c).arrAt_emb_eq_flushed 7 disjoint7 t ((flush0_7 _).mpr ht) (ix2 0 n)).trans ?_)
  rw [Value.flushed7]
  rfl

theorem steps7 (c : Dev nD) (n : Fin 128) (k : ℕ) (hk : k < cfg0.N) : (outsAt0 m c k hk).2.2.1 (ix2 0 n)
    = ∑ i : Fin (k + 1), part7 m c n ⟨i.val, lt_of_lt_of_le i.isLt hk⟩ := by
  refine Norm.sum_steps (fun k hk => (outsAt0 m c k hk).2.2.1 (ix2 0 n)) (part7 m c n)
    (fun h0 => by rw [out7_first m c ⟨0, h0⟩ rfl]) (fun k hk => ?_) k hk
  rw [out7_later m c ⟨k + 1, hk⟩ (by show ¬(k + 1) % 8 = 0; have := lt_of_lt_of_eq hk N_0; omega), pay12_apply]
  rfl

theorem final7 (c : Dev nD) (n : Fin 128) : ((dats m 0 c).arrAt 7 cfg0.N : FVec Ideal S1x128 .f32) (ix2 0 n) = ∑ i : Fin 8, part fun p : Fin 512 => (err (argA m c) (argW m c) (argX m c) (argG m c) (argT m c)) (rowIn i.val i.isLt p) := by
  have hN : cfg0.N = 8 := N_0
  obtain ⟨k, hk, h7⟩ : ∃ k, ∃ _ : k < cfg0.N, k = 7 := ⟨7, by omega, rfl⟩
  refine (last7 m c ⟨k, hk⟩ (by show k % 8 = 7; omega) n).trans ((steps7 m c n k hk).trans ?_)
  subst h7
  skip
  refine Finset.sum_congr rfl fun i _ => ?_
  exact point7 m c _ n

/-- An element of the gain's gradient. -/
abbrev dg (c : Dev nD) (n : Fin 1024) : EReal := ∑ r, Ideal.div ((err (argA m c) (argW m c) (argX m c) (argG m c) (argT m c)) r n) Norm.width * normed (argA m c) (argW m c) (argX m c) r n

theorem point8 (c : Dev nD) (t : Fin cfg0.N) (n : Fin 1024) : k0_pay13 (freshAt m c t) (squaresAt m c t) (iblk m c 3 t) (iblk m c 4 t) (ix2 0 n)
    = ∑ p : Fin 512, Ideal.div ((err (argA m c) (argW m c) (argX m c) (argG m c) (argT m c)) (rowIn t.val (lt8 t) p) n) Norm.width * normed (argA m c) (argW m c) (argX m c) (rowIn t.val (lt8 t) p) n := by
  refine (pay13_apply _ _ (squaresAt_apply m c t) _ _ n).trans ?_
  simp only [freshAt_apply, blk3, blk4]
  rfl

abbrev part8 (c : Dev nD) (n : Fin 1024) (t : Fin cfg0.N) : EReal := k0_pay13 (freshAt m c t) (squaresAt m c t) (iblk m c 3 t) (iblk m c 4 t) (ix2 0 n)

theorem disjoint8 : ∀ t t' : Fin cfg0.N, (cfg0.win 8).flush t = true → (cfg0.win 8).flush t' = true → t ≠ t' →
    Disjoint ((cfg0.win 8).blk t).view.set ((cfg0.win 8).blk t').view.set := fun t t' h h' hn =>
  absurd (Fin.ext (by have := (flush0_8 t).mp h; have := (flush0_8 t').mp h'; have := lt8 t; have := lt8 t'; omega)) hn

theorem last8 (c : Dev nD) (t : Fin cfg0.N) (ht : t.val % 8 = 7) (n : Fin 1024) :
    ((dats m 0 c).arrAt 8 cfg0.N : FVec Ideal S1x1024 .f32) (ix2 0 n) = (outsAt0 m c t.val t.isLt).2.2.2 (ix2 0 n) := by
  have h := (idx_facts t).2.2.2.2.2.2.2.2
  have e : (win0_8.rect t).emb (ix2 0 n) = (ix2 0 n : S1x1024.Idx) := Reals.emb_eq _ rfl _ _ _ fun a => by
    fin_cases a
    · show win0_8.index t 0 * 1 + 0 = 0; rw [h.1]
    · show win0_8.index t 1 * 1024 + n.val = n.val; rw [h.2]; simp
  refine (congrArg _ e.symm).trans (((dats m 0 c).arrAt_emb_eq_flushed 8 disjoint8 t ((flush0_8 _).mpr ht) (ix2 0 n)).trans ?_)
  rw [Value.flushed8]
  rfl

theorem steps8 (c : Dev nD) (n : Fin 1024) (k : ℕ) (hk : k < cfg0.N) : (outsAt0 m c k hk).2.2.2 (ix2 0 n)
    = ∑ i : Fin (k + 1), part8 m c n ⟨i.val, lt_of_lt_of_le i.isLt hk⟩ := by
  refine Norm.sum_steps (fun k hk => (outsAt0 m c k hk).2.2.2 (ix2 0 n)) (part8 m c n)
    (fun h0 => by rw [out8_first m c ⟨0, h0⟩ rfl]) (fun k hk => ?_) k hk
  rw [out8_later m c ⟨k + 1, hk⟩ (by show ¬(k + 1) % 8 = 0; have := lt_of_lt_of_eq hk N_0; omega), pay1_apply]
  rfl

theorem final8 (c : Dev nD) (n : Fin 1024) : ((dats m 0 c).arrAt 8 cfg0.N : FVec Ideal S1x1024 .f32) (ix2 0 n) = dg m c n := by
  have hN : cfg0.N = 8 := N_0
  obtain ⟨k, hk, h7⟩ : ∃ k, ∃ _ : k < cfg0.N, k = 7 := ⟨7, by omega, rfl⟩
  refine (last8 m c ⟨k, hk⟩ (by show k % 8 = 7; omega) n).trans ((steps8 m c n k hk).trans ?_)
  subst h7
  rw [dg, Norm.sum_blocks 8 512 rfl]
  refine Finset.sum_congr rfl fun i _ => ?_
  exact point8 m c _ n

end Cert.Loss

end
-- ==== Proof.LossReference.lean ====
/-
  The reference of the loss and of its gradient read at an index: the four results `jax.vjp` gives, as functions of the
  arguments' rows.
-/
module

public import proofs.«01_k».proof.Proof.Gen.Reference4Ideal.Run
public import proofs.«01_k».proof.Proof.Gen.Reference4Ideal.Read
public import proofs.«01_k».proof.Proof.LossKernel

@[expose] public section

noncomputable section

namespace Cert.Loss.Ref

open Idealize.ShloMosaic Idealize.ShloMosaic.TcCoe Idealize.SL.Sem
open Cert.Reference4Ideal Cert.Reference4Ideal.Read

variable (x0 : FVec Ideal S4096x2816 .f32) (x1 : FVec Ideal S2816x1024 .f32) (x2 x4 : FVec Ideal S4096x1024 .f32) (x3 : FVec Ideal S1024 .f32)

theorem new_apply (r : Fin 4096) (n : Fin 1024) : val_main_v3 (F := Ideal) x0 x1 x2 (ix2 r n) = new x0 x1 x2 r n := by
  unfold val_main_v3 val_main_v2 val_main_v1 val_main_v0 val_main_cst
  pointwise []
  rfl

theorem under_apply (r : Fin 4096) : val_main_v10 (F := Ideal) x0 x1 x2 (ix2 r 0) = Norm.under (new x0 x1 x2 r) := by
  unfold val_main_v10 val_main_v9 val_main_v8 val_main_v7 val_main_v6 val_main_v5 val_main_v4 val_main_cst_2 val_main_cst_1 val_main_cst_0
  pointwise []
  simp only [new_apply]
  rfl

theorem rinv_apply (r : Fin 4096) : val_main_v11 (F := Ideal) x0 x1 x2 (ix2 r 0) = Norm.rinv (new x0 x1 x2 r) := by
  unfold val_main_v11
  pointwise []
  rw [under_apply]; rfl

theorem root_apply (r : Fin 4096) : val_main_v14 (F := Ideal) x0 x1 x2 (ix2 r 0)
    = Norm.minusHalf * Ideal.div (Norm.rinv (new x0 x1 x2 r)) (Norm.under (new x0 x1 x2 r)) := by
  unfold val_main_v14 val_main_v13 val_main_v12 val_main_cst_3
  pointwise []
  rw [under_apply, rinv_apply]

theorem normed_apply (r : Fin 4096) (n : Fin 1024) : val_main_v16 (F := Ideal) x0 x1 x2 (ix2 r n) = normed x0 x1 x2 r n := by
  unfold val_main_v16 val_main_v15
  pointwise []
  rw [new_apply, rinv_apply]; rfl

theorem err_apply (r : Fin 4096) (n : Fin 1024) : val_main_v20 (F := Ideal) x0 x1 x2 x3 x4 (ix2 r n) = err x0 x1 x2 x3 x4 r n := by
  unfold val_main_v20 val_main_v19 val_main_v18 val_main_v17
  pointwise []
  rw [normed_apply]; rfl

theorem slope_apply (r : Fin 4096) (n : Fin 1024) : val_main_v34 (F := Ideal) x0 x1 x2 x3 x4 (ix2 r n) = slope (err x0 x1 x2 x3 x4 r n) := by
  unfold val_main_v34 val_main_v33 val_main_v32 val_main_v31 val_main_v30 val_main_v29 val_main_v23 val_main_v22 val_main_cst_11 val_main_cst_10 val_main_cst_9 val_main_cst_4
  pointwise []
  rw [err_apply]; rfl

theorem cot_apply (r : Fin 4096) (n : Fin 1024) : val_main_v39 (F := Ideal) x0 x1 x2 x3 x4 (ix2 r n) = slope (err x0 x1 x2 x3 x4 r n) * x3 (ix1 n) := by
  unfold val_main_v39 val_main_v38 val_main_v17
  pointwise []
  rw [slope_apply]

theorem through_apply (r : Fin 4096) : val_main_v49 (F := Ideal) x0 x1 x2 x3 x4 (ix1 r)
    = Norm.through (new x0 x1 x2 r) (fun k => slope (err x0 x1 x2 x3 x4 r k) * x3 (ix1 k)) := by
  unfold val_main_v49 val_main_v48 val_main_v47 val_main_v46 val_main_v43 val_main_v42 val_main_v41 val_main_cst_14 val_main_cst_15 val_main_cst_16
  pointwise []
  refine (Fin.sum_univ_one _).trans ?_
  simp only [cot_apply, root_apply, new_apply]
  rfl

theorem dx_apply (r : Fin 4096) (n : Fin 1024) : val_main_v54 (F := Ideal) x0 x1 x2 x3 x4 (ix2 r n)
    = Norm.refGrad 0 (new x0 x1 x2 r) (fun k => slope (err x0 x1 x2 x3 x4 r k) * x3 (ix1 k)) n := by
  unfold val_main_v54 val_main_v53 val_main_v52 val_main_v51 val_main_v50 val_main_v45 val_main_v44
  pointwise []
  rw [cot_apply, rinv_apply, through_apply, new_apply]
  unfold Norm.refGrad
  exact congrArg₂ (· + ·) (congrArg₂ (· + ·) (zero_add _).symm rfl) rfl

theorem loss_apply (n : Fin 128) : val_main_v56 (F := Ideal) x0 x1 x2 x3 x4 (ix2 0 n) = mean (err x0 x1 x2 x3 x4) := by
  unfold val_main_v56 val_main_v28 val_main_v27 val_main_v26 val_main_v25 val_main_v24 val_main_v21 val_main_cst_5 val_main_cst_6 val_main_cst_7 val_main_cst_8
  pointwise []
  simp only [err_apply]
  rfl

theorem dg_apply (n : Fin 1024) : val_main_v57 (F := Ideal) x0 x1 x2 x3 x4 (ix2 0 n)
    = ∑ r, normed x0 x1 x2 r n * slope (err x0 x1 x2 x3 x4 r n) := by
  unfold val_main_v57 val_main_v40 val_main_v37 val_main_v36 val_main_v35 val_main_cst_12 val_main_cst_13
  pointwise []
  simp only [normed_apply, slope_apply]
  exact Fin.sum_univ_one _

end Cert.Loss.Ref

end
-- ==== Proof.LossClaims.lean ====
/-
  The claims about the last feed-forward product with the loss and its gradient (`_ffn_down_loss`): the programs run and leave their arguments as
  they were, and over the extended reals the kernel's four results are the loss and the gradients `jax.vjp` gives, where every argument
  entry is a real number.
-/
module

public import proofs.«01_k».proof.Defs
public import proofs.«01_k».proof.Proof.Gen.Kernel4.Frame
public import proofs.«01_k».proof.Proof.Gen.Pre_loss_finite
public import proofs.«01_k».proof.Proof.LossKernel
public import proofs.«01_k».proof.Proof.LossReference

@[expose] public section

noncomputable section

namespace Cert.Loss

open Idealize.ShloMosaic Idealize.ShloMosaic.TcCoe Idealize.SL.Sem
open Cert.Kernel4Ideal Kernel4Ideal.Gen

theorem frame_kernel : quiescent_Kernel4 := fun m ρ _ => Kernel4.Gen.frame m ρ
theorem frame_ideal : quiescent_Kernel4Ideal := fun m ρ _ => Kernel4Ideal.Gen.frame m ρ
theorem frame_ideal_pre : quiescent_Kernel4Ideal_pre_loss_finite := fun m ρ _ => Kernel4Ideal.Gen.frame m ρ
theorem frame_reference : quiescent_Reference4Ideal := fun m ρ _ =>
  (θ_run Reference4Ideal.defs _ _).mono (fun r h => ⟨fun c => (h c).2.2.2.2, sem_eq_zero_of_no_sems (by decide) r.2⟩)
    (Reference4Ideal.Value.run (F := Ideal) m ρ)
theorem frame_reference_pre : quiescent_Reference4Ideal_pre_loss_finite := fun m ρ _ => frame_reference m ρ trivial

variable (m : (ℓ : Loc nD τ sig) → Buf (Elt Ideal) ℓ)

/-- Where the arguments are real numbers, so are the new row, its normed form and the error. -/
theorem new_real (h : Cert.Pre_Kernel4Ideal_loss_finite m) (c : Dev nD) (r : Fin 4096) (n : Fin 1024) : Reals.IsReal (new (argA m c) (argW m c) (argX m c) r n) := by
  obtain ⟨h0, h1, h2, h3, h4⟩ := h c
  exact ((Reals.fin_of_abs_lt _ _ h2).at _).add (Reals.IsReal.mul ⟨1 / 2, half_eq⟩ (Reals.IsReal.sum fun f =>
    ((Reals.fin_of_abs_lt _ _ h0).at _).mul ((Reals.fin_of_abs_lt _ _ h1).at _)))

theorem normed_real (h : Cert.Pre_Kernel4Ideal_loss_finite m) (c : Dev nD) (r : Fin 4096) (n : Fin 1024) : Reals.IsReal (normed (argA m c) (argW m c) (argX m c) r n) := by
  have hn := Reals.fin_of_isReal fun k => new_real m h c r k
  obtain ⟨v, i, -, -, -, hi⟩ := Norm.rinv_real (Reals.re fun k => new (argA m c) (argW m c) (argX m c) r k)
  refine (new_real m h c r n).mul ⟨i, ?_⟩
  rw [← hi]
  exact congrArg Norm.rinv (funext hn)

theorem err_real (h : Cert.Pre_Kernel4Ideal_loss_finite m) (c : Dev nD) (r : Fin 4096) (n : Fin 1024) : Reals.IsReal ((err (argA m c) (argW m c) (argX m c) (argG m c) (argT m c)) r n) := by
  obtain ⟨h0, h1, h2, h3, h4⟩ := h c
  exact ((normed_real m h c r n).mul ((Reals.fin_of_abs_lt _ _ h3).at _)).sub ((Reals.fin_of_abs_lt _ _ h4).at _)

/-- The two forms of the row's gradient agree under the precondition. -/
theorem dx_eq (h : Cert.Pre_Kernel4Ideal_loss_finite m) (c : Dev nD) (r : Fin 4096) (n : Fin 1024) : dx m c r n
    = Norm.refGrad 0 (new (argA m c) (argW m c) (argX m c) r) (fun k => slope ((err (argA m c) (argW m c) (argX m c) (argG m c) (argT m c)) r k) * argG m c (ix1 k)) n := by
  rw [dx]
  simp only [slope_eq (err_real m h c r _)]
  obtain ⟨h0, h1, h2, h3, h4⟩ := id h c
  exact Norm.grad_eq ⟨0, rfl⟩ (Reals.fin_of_isReal fun k => new_real m h c r k)
    (Reals.fin_of_isReal fun k => (slope_real (err_real m h c r k)).mul ((Reals.fin_of_abs_lt _ _ h3).at _)) n

/-- The kernel's four results are the reference's. -/
theorem dx_agree (h : Cert.Pre_Kernel4Ideal_loss_finite m) (c : Dev nD) :
    Reference4Ideal.Read.val_main_v54 (F := Ideal) (argA m c) (argW m c) (argX m c) (argG m c) (argT m c) = (dats m 0 c).arrAt 5 cfg0.N := by
  funext i
  obtain ⟨r, n, rfl⟩ := Norm.place2 i
  exact (Ref.dx_apply _ _ _ _ _ r n).trans ((dx_eq m h c r n).symm.trans (final5 m c r n).symm)

theorem dxb_agree (h : Cert.Pre_Kernel4Ideal_loss_finite m) (c : Dev nD) :
    Reference4Ideal.Read.val_main_v55 (F := Ideal) (argA m c) (argW m c) (argX m c) (argG m c) (argT m c) = (dats m 0 c).arrAt 6 cfg0.N := by
  funext i
  obtain ⟨r, n, rfl⟩ := Norm.place2 i
  exact (Ref.dx_apply _ _ _ _ _ r n).trans ((dx_eq m h c r n).symm.trans (final6 m c r n).symm)

theorem loss_agree (h : Cert.Pre_Kernel4Ideal_loss_finite m) (c : Dev nD) :
    Reference4Ideal.Read.val_main_v56 (F := Ideal) (argA m c) (argW m c) (argX m c) (argG m c) (argT m c) = (dats m 0 c).arrAt 7 cfg0.N := by
  funext i
  obtain ⟨n, rfl⟩ := Norm.place1 i
  exact (Ref.loss_apply _ _ _ _ _ n).trans ((sum_parts (fun r k => err_real m h c r k)).symm.trans (final7 m c n).symm)

theorem dg_agree (h : Cert.Pre_Kernel4Ideal_loss_finite m) (c : Dev nD) :
    Reference4Ideal.Read.val_main_v57 (F := Ideal) (argA m c) (argW m c) (argX m c) (argG m c) (argT m c) = (dats m 0 c).arrAt 8 cfg0.N := by
  funext i
  obtain ⟨n, rfl⟩ := Norm.place1 i
  refine (Ref.dg_apply _ _ _ _ _ n).trans (Eq.trans (Finset.sum_congr rfl fun r _ => ?_) (final8 m c n).symm)
  rw [slope_eq (err_real m h c r n), mul_comm]

theorem algebraic : algebraic_Kernel4Ideal_Reference4Ideal_pre_loss_finite := by
  intro m ρ m' ρ' hpre hagree
  refine ⟨fun c => (dats m 0 c).arrAt 5 cfg0.N, fun c => (dats m 0 c).arrAt 6 cfg0.N, fun c => (dats m 0 c).arrAt 7 cfg0.N, fun c => (dats m 0 c).arrAt 8 cfg0.N,
    Value.run_blocks m ρ, ?_⟩
  refine (θ_run Reference4Ideal.defs _ _).mono
    (fun _ h c => ⟨(h c).1.trans ?_, (h c).2.1.trans ?_, (h c).2.2.1.trans ?_, (h c).2.2.2.1.trans ?_, (h c).2.2.2.2⟩)
    (Reference4Ideal.Value.run (F := Ideal) m' ρ')
  all_goals obtain ⟨a0, a1, a2, a3, a4⟩ := hagree c
  · rw [Reference4Ideal.Read.val_main_v54_eq, a0, a1, a2, a3, a4]
    exact dx_agree m hpre c
  · rw [Reference4Ideal.Read.val_main_v55_eq, a0, a1, a2, a3, a4]
    exact dxb_agree m hpre c
  · refine (Reference4Ideal.Read.val_main_v56_eq _ _ _ _ _).trans ?_
    rw [a0, a1, a2, a3, a4]
    exact loss_agree m hpre c
  · refine (Reference4Ideal.Read.val_main_v57_eq _ _ _ _ _).trans ?_
    rw [a0, a1, a2, a3, a4]
    exact dg_agree m hpre c

end Cert.Loss

end
-- ==== Proof.RmsFwdClaims.lean ====
/-
  The claims about the norm itself (`_rms_fwd`): the programs run and leave their arguments as they were, and over the
  extended reals the kernel's result is the normed rows, whatever the arguments are.
-/
module

public import proofs.«01_k».proof.Defs
public import proofs.«01_k».proof.Proof.Gen.Kernel5.Frame
public import proofs.«01_k».proof.Proof.Gen.Kernel5Ideal.Value
public import proofs.«01_k».proof.Proof.Gen.Reference5Ideal.Read
public import proofs.«01_k».proof.Proof.NormScalar

@[expose] public section

noncomputable section

open Idealize.ShloMosaic Idealize.ShloMosaic.TcCoe Idealize.SL.Sem

namespace Cert.RmsFwd.Ref

open Cert.Reference5Ideal Reference5Ideal.Read

variable (x : FVec Ideal S4096x1024 .f32) (g : FVec Ideal S1024 .f32)

theorem rinv_apply (r : Fin 4096) : val_main_v7 (F := Ideal) x (ix2 r 0) = Norm.rinv fun k => x (ix2 r k) := by
  unfold val_main_v7 val_main_v6 val_main_v5 val_main_v4 val_main_v3 val_main_v2 val_main_v1 val_main_v0 val_main_cst_1 val_main_cst_0 val_main_cst
  pointwise []
  rfl

/-- The reference at an index. -/
theorem apply (r : Fin 4096) (n : Fin 1024) : val_main_v13 (F := Ideal) x g (ix2 r n) = Norm.normed (fun k => x (ix2 r k)) (fun k => g (ix1 k)) n := by
  unfold val_main_v13 val_main_v12 val_main_v11 val_main_v10 val_main_v9 val_main_v8
  pointwise []
  rw [rinv_apply]
  rfl

end Cert.RmsFwd.Ref

namespace Cert.RmsFwd

open Cert.Kernel5Ideal Kernel5Ideal.Gen
open Cert.Norm (rowIn4 blockOf4 inBlock4)

theorem pay1_apply (x : Vec Ideal S1024x1024 .f32) (g : Vec Ideal S1x1024 .f32) (p q : Fin 1024) :
    k0_pay1 x g (ix2 p q) = Norm.normed (fun k => x (ix2 p k)) (fun k => g (ix2 0 k)) q := by
  pointwise [k0_pay1]
  rfl

variable (m : (ℓ : Loc nD τ sig) → Buf (Elt Ideal) ℓ) (ρ : Dev nD → PrngReg)

/-- The arguments: the rows and the gain. -/
abbrev argX (c : Dev nD) : FVec Ideal S4096x1024 .f32 := m ((c : Thread nD τ).loc main_arg0)
abbrev argG (c : Dev nD) : FVec Ideal S1024 .f32 := m ((c : Thread nD τ).loc main_arg1)

theorem V0 (c : Dev nD) : (V m c main_v0 : FVec Ideal S1x1024 .f32) = shapeCast S1x1024 (argG m c) shapeCasts_S1024_S1x1024 := by
  unfold V hostOps0; after_results; rfl

/-- Where each window's block sits at each point. -/
theorem idx_facts : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) :=
  (by decide +kernel : ∀ t : Fin grid0.N, _)

theorem lt4 (t : Fin cfg0.N) : t.val < 4 := lt_of_lt_of_eq t.isLt N_0

theorem blk0 (c : Dev nD) (t : Fin cfg0.N) (p q : Fin 1024) :
    (iblk m c 0 t : Vec Ideal S1024x1024 .f32) (ix2 p q) = argX m c (ix2 (rowIn4 t.val (lt4 t) p) q) := by
  have h := (idx_facts t).1
  have e : (win0_0.rect t).emb (ix2 p q) = (ix2 (rowIn4 t.val (lt4 t) p) q : S4096x1024.Idx) := Reals.emb_eq _ rfl t _ _ fun a => by
    fin_cases a
    · show win0_0.index t 0 * 1024 + p.val = t.val * 1024 + p.val; rw [h.1]
    · show win0_0.index t 1 * 1024 + q.val = q.val; rw [h.2]; simp
  show (V m c main_arg0 : FVec Ideal S4096x1024 .f32) ((win0_0.rect t).emb (ix2 p q)) = _
  rw [e, V_main_arg0]

theorem blk1 (c : Dev nD) (t : Fin cfg0.N) (q : Fin 1024) : (iblk m c 1 t : Vec Ideal S1x1024 .f32) (ix2 0 q) = argG m c (ix1 q) := by
  have h := (idx_facts t).2.1
  have e : (win0_1.rect t).emb (ix2 0 q) = (ix2 0 q : S1x1024.Idx) := Reals.emb_eq _ rfl t _ _ fun a => by
    fin_cases a
    · show win0_1.index t 0 * 1 + 0 = 0; rw [h.1]
    · show win0_1.index t 1 * 1024 + q.val = q.val; rw [h.2]; simp
  show (V m c main_v0 : FVec Ideal S1x1024 .f32) ((win0_1.rect t).emb (ix2 0 q)) = _
  rw [e, V0]; pointwise []

abbrev pointOf (r : Fin 4096) : Fin cfg0.N := ⟨blockOf4 r, by rw [show cfg0.N = 4 from N_0]; exact Norm.blockOf4_lt r⟩

theorem out2 (x : Vec Ideal S1024x1024 .f32) (g : Vec Ideal S1x1024 .f32) : out0_2 x g = k0_pay1 x g := by
  unfold out0_2
  rw [View.canon_unit_zero Reals.zero2, View.ld_unit_zero Reals.zero2, View.ld_unit_zero Reals.zero2]

/-- What a point writes back. -/
theorem flushed2 (c : Dev nD) (t : Fin cfg0.N) (y : S1024x1024.Idx) : (dats m 0 c).flushed 2 t y = k0_pay1 (iblk m c 0 t) (iblk m c 1 t) y := by
  rw [Value.flushed2, out2]
  rfl

/-- The result after the run, element by element. -/
theorem final2 (c : Dev nD) (r : Fin 4096) (n : Fin 1024) : ((dats m 0 c).arrAt 2 cfg0.N : FVec Ideal S4096x1024 .bf16) (ix2 r n)
    = Norm.normed (fun k => argX m c (ix2 r k)) (fun k => argG m c (ix1 k)) n := by
  have h := (idx_facts (pointOf r)).2.2
  have e : (win0_2.rect (pointOf r)).emb (ix2 (inBlock4 r) n) = (ix2 r n : S4096x1024.Idx) := Reals.emb_eq _ rfl _ _ _ fun a => by
    fin_cases a
    · show win0_2.index (pointOf r) 0 * 1024 + r.val % 1024 = r.val; rw [h.1]; dsimp only [blockOf4]; omega
    · show win0_2.index (pointOf r) 1 * 1024 + n.val = n.val; rw [h.2]; simp
  rw [← e]
  refine ((dats m 0 c).arrAt_emb_eq_flushed 2 (Value.disjoint2) (pointOf r) (flush0_2 _) (ix2 (inBlock4 r) n)).trans ?_
  refine (flushed2 m c (pointOf r) _).trans ?_
  rw [pay1_apply]
  simp only [blk0, blk1, Norm.rowIn4_blockOf4]

theorem frame_kernel : quiescent_Kernel5 := fun m ρ _ => Kernel5.Gen.frame m ρ
theorem frame_ideal : quiescent_Kernel5Ideal := fun m ρ _ => Kernel5Ideal.Gen.frame m ρ
theorem frame_reference : quiescent_Reference5Ideal := fun m ρ _ =>
  (θ_run Reference5Ideal.defs _ _).mono (fun r h => ⟨fun c => (h c).2, sem_eq_zero_of_no_sems (by decide) r.2⟩)
    (Reference5Ideal.Value.run (F := Ideal) m ρ)

theorem algebraic : algebraic_Kernel5Ideal_Reference5Ideal := by
  intro m ρ m' ρ' _ hagree
  refine ⟨fun c => (dats m 0 c).arrAt 2 cfg0.N, Value.run_blocks m ρ, ?_⟩
  refine (θ_run Reference5Ideal.defs _ _).mono (fun _ h c => ⟨(h c).1.trans ?_, (h c).2⟩)
    (Reference5Ideal.Value.run (F := Ideal) m' ρ')
  obtain ⟨a0, a1⟩ := hagree c
  rw [Reference5Ideal.Read.val_main_v13_eq, a0, a1]
  funext i
  obtain ⟨r, n, rfl⟩ := Norm.place2 i
  exact (Ref.apply _ _ r n).trans (final2 m c r n).symm

end Cert.RmsFwd

end
-- ==== Proof.GateFwdClaims.lean ====
/-
  The claims about the gate itself (`_ffn_up`): the programs run and leave their arguments as they were, and over the extended
  reals the kernel's three results are the two products and the gated product, whatever the arguments are.
-/
module

public import proofs.«01_k».proof.Defs
public import proofs.«01_k».proof.Proof.Gen.Kernel6.Frame
public import proofs.«01_k».proof.Proof.Gen.Kernel6Ideal.Value
public import proofs.«01_k».proof.Proof.Gen.Reference6Ideal.Read
public import proofs.«01_k».proof.Proof.NormScalar
public import proofs.«01_k».proof.Proof.GateScalar

@[expose] public section

noncomputable section

open Idealize.ShloMosaic Idealize.ShloMosaic.TcCoe Idealize.SL.Sem

namespace Cert.GateFwd.Ref

open Cert.Reference6Ideal Reference6Ideal.Read
open Cert.Gate (dot col refSigma)

variable (h : FVec Ideal S4096x1024 .f32) (u w : FVec Ideal S1024x2816 .f32)

theorem v0 (r : Fin 4096) (n : Fin 2816) : val_main_v0 (F := Ideal) h u (ix2 r n) = dot h u r n := by
  unfold val_main_v0; pointwise []; rfl

theorem v1 (r : Fin 4096) (n : Fin 2816) : val_main_v1 (F := Ideal) h w (ix2 r n) = dot h w r n := by
  unfold val_main_v1; pointwise []; rfl

/-- The three results at an index. -/
theorem a_apply (j : Fin 4) (r : Fin 4096) (f : Fin 704) : val_main_v4 (F := Ideal) h u (ix3 j r f) = dot h u r (col j f) := by
  unfold val_main_v4 val_main_v3 val_main_v2; pointwise []; exact v0 h u r (col j f)

theorem b_apply (j : Fin 4) (r : Fin 4096) (f : Fin 704) : val_main_v7 (F := Ideal) h w (ix3 j r f) = dot h w r (col j f) := by
  unfold val_main_v7 val_main_v6 val_main_v5; pointwise []; exact v1 h w r (col j f)

theorem act_apply (j : Fin 4) (r : Fin 4096) (f : Fin 704) : val_main_v12 (F := Ideal) h u w (ix3 j r f)
    = dot h u r (col j f) * refSigma (dot h u r (col j f)) * dot h w r (col j f) := by
  have e : val_main_v9 (F := Ideal) h u w (ix2 r (col j f)) = dot h u r (col j f) * refSigma (dot h u r (col j f)) * dot h w r (col j f) := by
    unfold val_main_v9 val_main_v8 val_main_call0_v5 val_main_call0_v4 val_main_call0_v3 val_main_call0_v2 val_main_call0_v1 val_main_call0_v0
      val_main_call0_cst val_main_call0_cst_0
    pointwise []
    rw [v0, v1]
    rfl
  unfold val_main_v12 val_main_v11 val_main_v10; pointwise []; exact e

end Cert.GateFwd.Ref

namespace Cert.GateFwd

open Cert.Kernel6Ideal Kernel6Ideal.Gen
open Cert.Gate (dot col refSigma sigma sigma_eq)
open Cert.Norm (inBlock4)

theorem pay2_apply (x : Vec Ideal S1024x1024 .bf16) (w : Vec Ideal S1x704x1024 .bf16) (p : Fin 1024) (q : Fin 704) :
    k0_pay2 x w (ix2 p q) = ∑ k, x (ix2 p k) * w (ix3 0 q k) := by
  pointwise [k0_pay2, k0_pay1]

theorem pay3_apply (x : Vec Ideal S1024x1024 .bf16) (w : Vec Ideal S1x704x1024 .bf16) (p : Fin 1024) (q : Fin 704) :
    k0_pay3 x w (ix2 p q) = ∑ k, x (ix2 p k) * w (ix3 0 q k) := by
  pointwise [k0_pay3, k0_pay1]

theorem pay4_apply (x : Vec Ideal S1024x1024 .bf16) (w : Vec Ideal S1x704x1024 .bf16) (p : Fin 1024) (q : Fin 704) :
    k0_pay4 x w (ix3 0 p q) = ∑ k, x (ix2 p k) * w (ix3 0 q k) := by
  pointwise [k0_pay4]; exact pay2_apply x w p q

theorem pay5_apply (x : Vec Ideal S1024x1024 .bf16) (w : Vec Ideal S1x704x1024 .bf16) (p : Fin 1024) (q : Fin 704) :
    k0_pay5 x w (ix3 0 p q) = ∑ k, x (ix2 p k) * w (ix3 0 q k) := by
  pointwise [k0_pay5]; exact pay3_apply x w p q

theorem pay6_apply (x : Vec Ideal S1024x1024 .bf16) (u w : Vec Ideal S1x704x1024 .bf16) (p : Fin 1024) (q : Fin 704) :
    k0_pay6 x u w (ix3 0 p q) = (∑ k, x (ix2 p k) * u (ix3 0 q k)) * sigma (∑ k, x (ix2 p k) * u (ix3 0 q k)) * ∑ k, x (ix2 p k) * w (ix3 0 q k) := by
  pointwise [k0_pay6]
  rw [pay2_apply, pay3_apply]
  rfl

variable (m : (ℓ : Loc nD τ sig) → Buf (Elt Ideal) ℓ) (ρ : Dev nD → PrngReg)

/-- The arguments: the normed rows and the two weights into the hidden width. -/
abbrev argH (c : Dev nD) : FVec Ideal S4096x1024 .f32 := m ((c : Thread nD τ).loc main_arg0)
abbrev argG (c : Dev nD) : FVec Ideal S1024x2816 .f32 := m ((c : Thread nD τ).loc main_arg1)
abbrev argU (c : Dev nD) : FVec Ideal S1024x2816 .f32 := m ((c : Thread nD τ).loc main_arg2)

/-- A weight transposed and cut in one slab of rows per chip. -/
abbrev cut (w : FVec Ideal S1024x2816 .f32) : FVec Ideal S4x704x1024 .bf16 := truncf .bf16 (shapeCast S4x704x1024
  (transpose S2816x1024 [1, 0] w transposes_S1024x2816_S2816x1024_1_0) shapeCasts_S2816x1024_S4x704x1024) bitsLt_bf16_f32

theorem cut_apply (w : FVec Ideal S1024x2816 .f32) (j : Fin 4) (q : Fin 704) (k : Fin 1024) : cut w (ix3 j q k) = w (ix2 k (col j q)) := by
  pointwise [cut]

theorem V0 (c : Dev nD) : (V m c main_v0 : FVec Ideal S4096x1024 .bf16) = truncf .bf16 (argH m c) bitsLt_bf16_f32 := by
  unfold V hostOps0; after_results

theorem V3 (c : Dev nD) : (V m c main_v3 : FVec Ideal S4x704x1024 .bf16) = cut (argG m c) := by
  unfold V hostOps0; after_results; rfl

theorem V6 (c : Dev nD) : (V m c main_v6 : FVec Ideal S4x704x1024 .bf16) = cut (argU m c) := by
  unfold V hostOps0; after_results; rfl

/-- Where each window's block sits at each point: the row block is the point's first coordinate, the slab its second. -/
theorem idx_facts : ∀ t : Fin cfg0.N, (win0_0.index t 0 = t.val / 4 ∧ win0_0.index t 1 = 0)
    ∧ (win0_1.index t 0 = 0 ∧ win0_1.index t 1 = 0 ∧ win0_1.index t 2 = 0)
    ∧ (win0_2.index t 0 = 0 ∧ win0_2.index t 1 = 0 ∧ win0_2.index t 2 = 0)
    ∧ (win0_3.index t 0 = t.val % 4 ∧ win0_3.index t 1 = t.val / 4 ∧ win0_3.index t 2 = 0)
    ∧ (win0_4.index t 0 = t.val % 4 ∧ win0_4.index t 1 = t.val / 4 ∧ win0_4.index t 2 = 0)
    ∧ (win0_5.index t 0 = t.val % 4 ∧ win0_5.index t 1 = t.val / 4 ∧ win0_5.index t 2 = 0)
    ∧ k0_off1 (grid0.coords t) 0 = t.val % 4 ∧ k0_off1 (grid0.coords t) 1 = 0 ∧ k0_off1 (grid0.coords t) 2 = 0 :=
  (by decide +kernel : ∀ t : Fin grid0.N, _)

/-- The row of the whole array that row `p` of point `t`'s block is, and the slab. -/
abbrev rowOf (t : Fin cfg0.N) (p : Fin 1024) : Fin 4096 :=
  ⟨t.val / 4 * 1024 + p.val, by have : t.val < 16 := lt_of_lt_of_eq t.isLt N_0; omega⟩
abbrev slabAt (t : Fin cfg0.N) : Fin 4 := ⟨t.val % 4, by omega⟩

theorem blk0 (c : Dev nD) (t : Fin cfg0.N) (p k : Fin 1024) :
    (iblk m c 0 t : Vec Ideal S1024x1024 .bf16) (ix2 p k) = argH m c (ix2 (rowOf t p) k) := by
  have h := idx_facts t
  have e : (win0_0.rect t).emb (ix2 p k) = (ix2 (rowOf t p) k : S4096x1024.Idx) := Reals.emb_eq _ rfl t _ _ fun a => by
    fin_cases a
    · show win0_0.index t 0 * 1024 + p.val = t.val / 4 * 1024 + p.val; rw [h.1.1]
    · show win0_0.index t 1 * 1024 + k.val = k.val; rw [h.1.2]; simp
  show (V m c main_v0 : FVec Ideal S4096x1024 .bf16) ((win0_0.rect t).emb (ix2 p k)) = _
  rw [e, V0]; rfl

theorem blk1 (c : Dev nD) (t : Fin cfg0.N) (j : Fin 4) (q : Fin 704) (k : Fin 1024) :
    (iblk m c 1 t : Vec Ideal S4x704x1024 .bf16) (ix3 j q k) = argG m c (ix2 k (col j q)) := by
  have h := idx_facts t
  have e : (win0_1.rect t).emb (ix3 j q k) = (ix3 j q k : S4x704x1024.Idx) := Reals.emb_eq _ rfl t _ _ fun a => by
    fin_cases a
    · show win0_1.index t 0 * 4 + j.val = j.val; rw [h.2.1.1]; simp
    · show win0_1.index t 1 * 704 + q.val = q.val; rw [h.2.1.2.1]; simp
    · show win0_1.index t 2 * 1024 + k.val = k.val; rw [h.2.1.2.2]; simp
  show (V m c main_v3 : FVec Ideal S4x704x1024 .bf16) ((win0_1.rect t).emb (ix3 j q k)) = _
  rw [e, V3, cut_apply]

theorem blk2 (c : Dev nD) (t : Fin cfg0.N) (j : Fin 4) (q : Fin 704) (k : Fin 1024) :
    (iblk m c 2 t : Vec Ideal S4x704x1024 .bf16) (ix3 j q k) = argU m c (ix2 k (col j q)) := by
  have h := idx_facts t
  have e : (win0_2.rect t).emb (ix3 j q k) = (ix3 j q k : S4x704x1024.Idx) := Reals.emb_eq _ rfl t _ _ fun a => by
    fin_cases a
    · show win0_2.index t 0 * 4 + j.val = j.val; rw [h.2.2.1.1]; simp
    · show win0_2.index t 1 * 704 + q.val = q.val; rw [h.2.2.1.2.1]; simp
    · show win0_2.index t 2 * 1024 + k.val = k.val; rw [h.2.2.1.2.2]; simp
  show (V m c main_v6 : FVec Ideal S4x704x1024 .bf16) ((win0_2.rect t).emb (ix3 j q k)) = _
  rw [e, V6, cut_apply]

/-- The slab of a weight that point `t` loads. -/
abbrev slab (w : Vec Ideal S4x704x1024 .bf16) (t : Fin cfg0.N) : Vec Ideal S1x704x1024 .bf16 :=
  View.ld w (Rect.unit (s := S4x704x1024) (k0_off1 (grid0.coords t)) S1x704x1024.size (k0_off1_inb (grid0.coords t)))

theorem slab_apply (w : Vec Ideal S4x704x1024 .bf16) (t : Fin cfg0.N) (q : Fin 704) (k : Fin 1024) :
    slab w t (ix3 0 q k) = w (ix3 (slabAt t) q k) := by
  have h := idx_facts t
  show w _ = _
  refine congrArg _ (funext fun a => Fin.ext ?_)
  have h' : ∀ a : Fin 3, ((Rect.unit (s := S4x704x1024) (k0_off1 (grid0.coords t)) S1x704x1024.size (k0_off1_inb (grid0.coords t))).idx (ix3 0 q k) a : Nat) = k0_off1 (grid0.coords t) a + 1 * (ix3 (0 : Fin 1) q k a : Nat) := fun a => rfl
  refine (h' a).trans ?_
  fin_cases a
  · show k0_off1 (grid0.coords t) 0 + 1 * 0 = t.val % 4; rw [h.2.2.2.2.2.2.1]; simp
  · show k0_off1 (grid0.coords t) 1 + 1 * q.val = q.val; rw [h.2.2.2.2.2.2.2.1]; simp
  · show k0_off1 (grid0.coords t) 2 + 1 * k.val = k.val; rw [h.2.2.2.2.2.2.2.2]; simp

/-- The rows of point `t`. -/
abbrev rowsAt (c : Dev nD) (t : Fin cfg0.N) : Vec Ideal S1024x1024 .bf16 := iblk m c 0 t

/-- The two products at point `t`. -/
theorem dotG (c : Dev nD) (t : Fin cfg0.N) (p : Fin 1024) (q : Fin 704) :
    ∑ k, rowsAt m c t (ix2 p k) * slab (iblk m c 1 t) t (ix3 0 q k) = dot (argH m c) (argG m c) (rowOf t p) (col (slabAt t) q) :=
  Finset.sum_congr rfl fun k _ => congrArg₂ (· * ·) (blk0 m c t p k) ((slab_apply _ t q k).trans (blk1 m c t _ q k))

theorem dotU (c : Dev nD) (t : Fin cfg0.N) (p : Fin 1024) (q : Fin 704) :
    ∑ k, rowsAt m c t (ix2 p k) * slab (iblk m c 2 t) t (ix3 0 q k) = dot (argH m c) (argU m c) (rowOf t p) (col (slabAt t) q) :=
  Finset.sum_congr rfl fun k _ => congrArg₂ (· * ·) (blk0 m c t p k) ((slab_apply _ t q k).trans (blk2 m c t _ q k))

/-- What the body leaves in each output's block is its payload of the input blocks. -/
theorem out3 (c : Dev nD) (t : Fin cfg0.N) : (outsAt0 m c t).1 = k0_pay4 (iblk m c 0 t) (slab (iblk m c 1 t) t) := by
  unfold outsAt0 out0_A_3
  dsimp only
  rw [View.read_writes_eq_canon _ _ _ (cover0_A_3 c _ _ _ _ _ _ _ _ _ _ _ _ _ _ _ _)]
  unfold kernelRun0_A
  dsimp only
  sl_unfold_words
  simp only [View.readAt_eq_ld, (hs0_0 t).read_unread, (hs0_1 t).read_unread, (hs0_2 t).read_unread]
  rw [View.canon_unit_zero Reals.zero3, View.ld_unit_zero Reals.zero2]
  rfl

theorem out4 (c : Dev nD) (t : Fin cfg0.N) : (outsAt0 m c t).2.1 = k0_pay5 (iblk m c 0 t) (slab (iblk m c 2 t) t) := by
  unfold outsAt0 out0_A_4
  dsimp only
  rw [View.read_writes_eq_canon _ _ _ (cover0_A_4 c _ _ _ _ _ _ _ _ _ _ _ _ _ _ _ _)]
  unfold kernelRun0_A
  dsimp only
  sl_unfold_words
  simp only [View.readAt_eq_ld, (hs0_0 t).read_unread, (hs0_1 t).read_unread, (hs0_2 t).read_unread]
  rw [View.canon_unit_zero Reals.zero3, View.ld_unit_zero Reals.zero2]
  rfl

theorem out5 (c : Dev nD) (t : Fin cfg0.N) : (outsAt0 m c t).2.2 = k0_pay6 (iblk m c 0 t) (slab (iblk m c 1 t) t) (slab (iblk m c 2 t) t) := by
  unfold outsAt0 out0_A_5
  dsimp only
  rw [View.read_writes_eq_canon _ _ _ (cover0_A_5 c _ _ _ _ _ _ _ _ _ _ _ _ _ _ _ _)]
  unfold kernelRun0_A
  dsimp only
  sl_unfold_words
  simp only [View.readAt_eq_ld, (hs0_0 t).read_unread, (hs0_1 t).read_unread, (hs0_2 t).read_unread]
  rw [View.canon_unit_zero Reals.zero3, View.ld_unit_zero Reals.zero2]
  rfl

/-- The point whose block holds row `r` of slab `j`. -/
abbrev pointOf (j : Fin 4) (r : Fin 4096) : Fin cfg0.N := ⟨r.val / 1024 * 4 + j.val, by rw [show cfg0.N = 16 from N_0]; omega⟩

theorem rowOf_pointOf (j : Fin 4) (r : Fin 4096) : rowOf (pointOf j r) (inBlock4 r) = r := Fin.ext (by dsimp only; omega)
theorem slabAt_pointOf (j : Fin 4) (r : Fin 4096) : slabAt (pointOf j r) = j := Fin.ext (by dsimp only; omega)

/-- The three results after the run, element by element. -/
theorem final3 (c : Dev nD) (j : Fin 4) (r : Fin 4096) (f : Fin 704) :
    ((dats m 0 c).arrAt 3 cfg0.N : FVec Ideal S4x4096x704 .bf16) (ix3 j r f) = dot (argH m c) (argG m c) r (col j f) := by
  have h := idx_facts (pointOf j r)
  have e : (win0_3.rect (pointOf j r)).emb (ix3 0 (inBlock4 r) f) = (ix3 j r f : S4x4096x704.Idx) := Reals.emb_eq _ rfl _ _ _ fun a => by
    fin_cases a
    · show win0_3.index (pointOf j r) 0 * 1 + 0 = j.val; rw [h.2.2.2.1.1]; dsimp only; omega
    · show win0_3.index (pointOf j r) 1 * 1024 + r.val % 1024 = r.val; rw [h.2.2.2.1.2.1]; dsimp only; omega
    · show win0_3.index (pointOf j r) 2 * 704 + f.val = f.val; rw [h.2.2.2.1.2.2]; simp
  refine (congrArg _ e.symm).trans (((dats m 0 c).arrAt_emb_eq_flushed 3 (Value.disjoint3) (pointOf j r) (flush0_3 _) (ix3 0 (inBlock4 r) f)).trans ?_)
  rw [Value.flushed3]
  show (outsAt0 m c (pointOf j r)).1 (ix3 0 (inBlock4 r) f) = _
  rw [out3, pay4_apply, dotG, rowOf_pointOf, slabAt_pointOf]

theorem final4 (c : Dev nD) (j : Fin 4) (r : Fin 4096) (f : Fin 704) :
    ((dats m 0 c).arrAt 4 cfg0.N : FVec Ideal S4x4096x704 .bf16) (ix3 j r f) = dot (argH m c) (argU m c) r (col j f) := by
  have h := idx_facts (pointOf j r)
  have e : (win0_4.rect (pointOf j r)).emb (ix3 0 (inBlock4 r) f) = (ix3 j r f : S4x4096x704.Idx) := Reals.emb_eq _ rfl _ _ _ fun a => by
    fin_cases a
    · show win0_4.index (pointOf j r) 0 * 1 + 0 = j.val; rw [h.2.2.2.2.1.1]; dsimp only; omega
    · show win0_4.index (pointOf j r) 1 * 1024 + r.val % 1024 = r.val; rw [h.2.2.2.2.1.2.1]; dsimp only; omega
    · show win0_4.index (pointOf j r) 2 * 704 + f.val = f.val; rw [h.2.2.2.2.1.2.2]; simp
  refine (congrArg _ e.symm).trans (((dats m 0 c).arrAt_emb_eq_flushed 4 (Value.disjoint4) (pointOf j r) (flush0_4 _) (ix3 0 (inBlock4 r) f)).trans ?_)
  rw [Value.flushed4]
  show (outsAt0 m c (pointOf j r)).2.1 (ix3 0 (inBlock4 r) f) = _
  rw [out4, pay5_apply, dotU, rowOf_pointOf, slabAt_pointOf]

theorem final5 (c : Dev nD) (j : Fin 4) (r : Fin 4096) (f : Fin 704) :
    ((dats m 0 c).arrAt 5 cfg0.N : FVec Ideal S4x4096x704 .bf16) (ix3 j r f) = dot (argH m c) (argG m c) r (col j f) * refSigma (dot (argH m c) (argG m c) r (col j f)) * dot (argH m c) (argU m c) r (col j f) := by
  have h := idx_facts (pointOf j r)
  have e : (win0_5.rect (pointOf j r)).emb (ix3 0 (inBlock4 r) f) = (ix3 j r f : S4x4096x704.Idx) := Reals.emb_eq _ rfl _ _ _ fun a => by
    fin_cases a
    · show win0_5.index (pointOf j r) 0 * 1 + 0 = j.val; rw [h.2.2.2.2.2.1.1]; dsimp only; omega
    · show win0_5.index (pointOf j r) 1 * 1024 + r.val % 1024 = r.val; rw [h.2.2.2.2.2.1.2.1]; dsimp only; omega
    · show win0_5.index (pointOf j r) 2 * 704 + f.val = f.val; rw [h.2.2.2.2.2.1.2.2]; simp
  refine (congrArg _ e.symm).trans (((dats m 0 c).arrAt_emb_eq_flushed 5 (Value.disjoint5) (pointOf j r) (flush0_5 _) (ix3 0 (inBlock4 r) f)).trans ?_)
  rw [Value.flushed5]
  show (outsAt0 m c (pointOf j r)).2.2 (ix3 0 (inBlock4 r) f) = _
  rw [out5, pay6_apply, dotG, dotU, rowOf_pointOf, slabAt_pointOf, sigma_eq]

theorem frame_kernel : quiescent_Kernel6 := fun m ρ _ => Kernel6.Gen.frame m ρ
theorem frame_ideal : quiescent_Kernel6Ideal := fun m ρ _ => Kernel6Ideal.Gen.frame m ρ
theorem frame_reference : quiescent_Reference6Ideal := fun m ρ _ =>
  (θ_run Reference6Ideal.defs _ _).mono (fun r h => ⟨fun c => (h c).2.2.2, sem_eq_zero_of_no_sems (by decide) r.2⟩)
    (Reference6Ideal.Value.run (F := Ideal) m ρ)

/-- An index of a result is a slab, a row and a column in the slab. -/
theorem place3 (i : (⟨3, ![4, 4096, 704]⟩ : Shape).Idx) : ∃ (j : Fin 4) (r : Fin 4096) (f : Fin 704), i = ix3 j r f :=
  ⟨i 0, i 1, i 2, (ix3_eta i).symm⟩

theorem algebraic : algebraic_Kernel6Ideal_Reference6Ideal := by
  intro m ρ m' ρ' _ hagree
  refine ⟨fun c => (dats m 0 c).arrAt 3 cfg0.N, fun c => (dats m 0 c).arrAt 4 cfg0.N, fun c => (dats m 0 c).arrAt 5 cfg0.N, Value.run_blocks m ρ, ?_⟩
  refine (θ_run Reference6Ideal.defs _ _).mono (fun _ h c => ⟨(h c).1.trans ?_, (h c).2.1.trans ?_, (h c).2.2.1.trans ?_, (h c).2.2.2⟩)
    (Reference6Ideal.Value.run (F := Ideal) m' ρ')
  all_goals obtain ⟨a0, a1, a2⟩ := hagree c
  · rw [Reference6Ideal.Read.val_main_v4_eq, a0, a1]
    funext i
    obtain ⟨j, r, f, rfl⟩ := place3 i
    exact (Ref.a_apply _ _ j r f).trans (final3 m c j r f).symm
  · rw [Reference6Ideal.Read.val_main_v7_eq, a0, a2]
    funext i
    obtain ⟨j, r, f, rfl⟩ := place3 i
    exact (Ref.b_apply _ _ j r f).trans (final4 m c j r f).symm
  · rw [Reference6Ideal.Read.val_main_v12_eq, a0, a1, a2]
    funext i
    obtain ⟨j, r, f, rfl⟩ := place3 i
    exact (Ref.act_apply _ _ _ j r f).trans (final5 m c j r f).symm

end Cert.GateFwd

end
-- ==== Proof.DownFwdClaims.lean ====
/-
  The claims about the gate's product out with the residual and the norm after it (`_ffn_down`): the programs run and leave
  their arguments as they were, and over the extended reals the kernel's two results are the residual sum and its normed
  rows, whatever the arguments are.
-/
module

public import proofs.«01_k».proof.Defs
public import proofs.«01_k».proof.Proof.Gen.Kernel7.Frame
public import proofs.«01_k».proof.Proof.Gen.Kernel7Ideal.Value
public import proofs.«01_k».proof.Proof.Gen.Reference7Ideal.Read
public import proofs.«01_k».proof.Proof.NormScalar
public import proofs.«01_k».proof.Proof.GateScalar

@[expose] public section

noncomputable section

open Idealize.ShloMosaic Idealize.ShloMosaic.TcCoe Idealize.SL.Sem

namespace Cert.DownFwd.Ref

open Cert.Reference7Ideal Reference7Ideal.Read

variable (a : FVec Ideal S4096x2816 .f32) (w : FVec Ideal S2816x1024 .f32) (x : FVec Ideal S4096x1024 .f32) (g : FVec Ideal S1024 .f32)

/-- The residual with half the product added. -/
def next (r : Fin 4096) (n : Fin 1024) : EReal := x (ix2 r n) + Gate.half * ∑ k, a (ix2 r k) * w (ix2 k n)

theorem next_apply (r : Fin 4096) (n : Fin 1024) : val_main_v3 (F := Ideal) a w x (ix2 r n) = next a w x r n := by
  unfold val_main_v3 val_main_v2 val_main_v1 val_main_v0 val_main_cst
  pointwise []
  rfl

theorem rinv_apply (r : Fin 4096) : val_main_v11 (F := Ideal) a w x (ix2 r 0) = Norm.rinv (next a w x r) := by
  unfold val_main_v11 val_main_v10 val_main_v9 val_main_v8 val_main_v7 val_main_v6 val_main_v5 val_main_v4 val_main_cst_2 val_main_cst_1 val_main_cst_0
  pointwise []
  simp only [next_apply]
  rfl

theorem normed_apply (r : Fin 4096) (n : Fin 1024) : val_main_v17 (F := Ideal) a w x g (ix2 r n) = Norm.normed (next a w x r) (fun k => g (ix1 k)) n := by
  unfold val_main_v17 val_main_v16 val_main_v15 val_main_v14 val_main_v13 val_main_v12
  pointwise []
  rw [rinv_apply, next_apply]
  rfl

end Cert.DownFwd.Ref

namespace Cert.DownFwd

open Cert.Kernel7Ideal Kernel7Ideal.Gen
open Cert.Gate (col)
open Cert.Norm (slabOf slabOf_apply sum_slab rowIn blockOf inBlock)

/-- The residual sum in a block: half the product, slab by slab, added to the residual. -/
theorem pay3_apply (a : Vec Ideal S4x512x704 .bf16) (w : Vec Ideal S4x704x1024 .bf16) (x : Vec Ideal S512x1024 .f32) (g : Vec Ideal S1x1024 .f32)
    (p : Fin 512) (q : Fin 1024) : k0_pay3 a w x g (ix2 p q) = x (ix2 p q) + Gate.half * ∑ j, ∑ f, a (ix3 j p f) * w (ix3 j f q) := by
  unfold k0_pay3
  rw [View.ld_unit_zero Reals.zero2]
  pointwise [k0_pay2]
  rw [Fin.sum_univ_four]

theorem pay1_apply (v : FVec Ideal S512x1024 .f32) (g : Vec Ideal S1x1024 .f32) (p : Fin 512) (q : Fin 1024) :
    k0_pay1 v g (ix2 p q) = Norm.normed (fun n => v (ix2 p n)) (fun k => g (ix2 0 k)) q := by
  pointwise [k0_pay1]
  rfl

variable (m : (ℓ : Loc nD τ sig) → Buf (Elt Ideal) ℓ) (ρ : Dev nD → PrngReg)

/-- The arguments: the gated activations, the weight out of the hidden width, the residual and the next norm's gain. -/
abbrev argA (c : Dev nD) : FVec Ideal S4096x2816 .f32 := m ((c : Thread nD τ).loc main_arg0)
abbrev argW (c : Dev nD) : FVec Ideal S2816x1024 .f32 := m ((c : Thread nD τ).loc main_arg1)
abbrev argX (c : Dev nD) : FVec Ideal S4096x1024 .f32 := m ((c : Thread nD τ).loc main_arg2)
abbrev argG (c : Dev nD) : FVec Ideal S1024 .f32 := m ((c : Thread nD τ).loc main_arg3)

/-- A row of the residual sum. -/
abbrev next (c : Dev nD) : Fin 4096 → Fin 1024 → EReal := Ref.next (argA m c) (argW m c) (argX m c)

theorem V1 (c : Dev nD) : (V m c main_v1 : FVec Ideal S4x704x1024 .bf16)
    = shapeCast S4x704x1024 (truncf .bf16 (argW m c) bitsLt_bf16_f32) shapeCasts_S2816x1024_S4x704x1024 := by
  unfold V hostOps0; after_results; rfl

theorem V4 (c : Dev nD) : (V m c main_v4 : FVec Ideal S4x4096x704 .bf16) = truncf .bf16 (transpose S4x4096x704 [1, 0, 2]
    (shapeCast S4096x4x704 (argA m c) shapeCasts_S4096x2816_S4096x4x704) transposes_S4096x4x704_S4x4096x704_1_0_2) bitsLt_bf16_f32 := by
  unfold V hostOps0; after_results; rfl

theorem V5 (c : Dev nD) : (V m c main_v5 : FVec Ideal S1x1024 .f32) = shapeCast S1x1024 (argG m c) shapeCasts_S1024_S1x1024 := by
  unfold V hostOps0; after_results; rfl

/-- Where each window's block sits at each point. -/
theorem idx_facts : ∀ t : Fin cfg0.N, (win0_0.index t 0 = 0 ∧ win0_0.index t 1 = t.val ∧ win0_0.index t 2 = 0)
    ∧ (win0_1.index t 0 = 0 ∧ win0_1.index t 1 = 0 ∧ win0_1.index t 2 = 0)
    ∧ (win0_2.index t 0 = t.val ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0) :=
  (by decide +kernel : ∀ t : Fin grid0.N, _)

theorem lt8 (t : Fin cfg0.N) : t.val < 8 := lt_of_lt_of_eq t.isLt N_0

theorem blk0 (c : Dev nD) (t : Fin cfg0.N) (j : Fin 4) (p : Fin 512) (f : Fin 704) : (iblk m c 0 t : Vec Ideal S4x512x704 .bf16) (ix3 j p f)
    = argA m c (ix2 (rowIn t.val (lt8 t) p) (col j f)) := by
  have h := (idx_facts t).1
  have e : (win0_0.rect t).emb (ix3 j p f) = (ix3 j (rowIn t.val (lt8 t) p) f : S4x4096x704.Idx) := Reals.emb_eq _ rfl t _ _ fun a => by
    fin_cases a
    · show win0_0.index t 0 * 4 + j.val = j.val; rw [h.1]; simp
    · show win0_0.index t 1 * 512 + p.val = t.val * 512 + p.val; rw [h.2.1]
    · show win0_0.index t 2 * 704 + f.val = f.val; rw [h.2.2]; simp
  show (V m c main_v4 : FVec Ideal S4x4096x704 .bf16) ((win0_0.rect t).emb (ix3 j p f)) = _
  rw [e, V4]; pointwise []

theorem blk1 (c : Dev nD) (t : Fin cfg0.N) (j : Fin 4) (f : Fin 704) (q : Fin 1024) :
    (iblk m c 1 t : Vec Ideal S4x704x1024 .bf16) (ix3 j f q) = argW m c (ix2 (col j f) q) := by
  have h := (idx_facts t).2.1
  have e : (win0_1.rect t).emb (ix3 j f q) = (ix3 j f q : S4x704x1024.Idx) := Reals.emb_eq _ rfl t _ _ fun a => by
    fin_cases a
    · show win0_1.index t 0 * 4 + j.val = j.val; rw [h.1]; simp
    · show win0_1.index t 1 * 704 + f.val = f.val; rw [h.2.1]; simp
    · show win0_1.index t 2 * 1024 + q.val = q.val; rw [h.2.2]; simp
  show (V m c main_v1 : FVec Ideal S4x704x1024 .bf16) ((win0_1.rect t).emb (ix3 j f q)) = _
  rw [e, V1]; pointwise []

theorem blk2 (c : Dev nD) (t : Fin cfg0.N) (p : Fin 512) (q : Fin 1024) :
    (iblk m c 2 t : Vec Ideal S512x1024 .f32) (ix2 p q) = argX m c (ix2 (rowIn t.val (lt8 t) p) q) := by
  have h := (idx_facts t).2.2.1
  have e : (win0_2.rect t).emb (ix2 p q) = (ix2 (rowIn t.val (lt8 t) p) q : S4096x1024.Idx) := Reals.emb_eq _ rfl t _ _ fun a => by
    fin_cases a
    · show win0_2.index t 0 * 512 + p.val = t.val * 512 + p.val; rw [h.1]
    · show win0_2.index t 1 * 1024 + q.val = q.val; rw [h.2]; simp
  show (V m c main_arg2 : FVec Ideal S4096x1024 .f32) ((win0_2.rect t).emb (ix2 p q)) = _
  rw [e, V_main_arg2]

theorem blk3 (c : Dev nD) (t : Fin cfg0.N) (q : Fin 1024) : (iblk m c 3 t : Vec Ideal S1x1024 .f32) (ix2 0 q) = argG m c (ix1 q) := by
  have h := (idx_facts t).2.2.2.1
  have e : (win0_3.rect t).emb (ix2 0 q) = (ix2 0 q : S1x1024.Idx) := Reals.emb_eq _ rfl t _ _ fun a => by
    fin_cases a
    · show win0_3.index t 0 * 1 + 0 = 0; rw [h.1]
    · show win0_3.index t 1 * 1024 + q.val = q.val; rw [h.2]; simp
  show (V m c main_v5 : FVec Ideal S1x1024 .f32) ((win0_3.rect t).emb (ix2 0 q)) = _
  rw [e, V5]; pointwise []

abbrev pointOf (r : Fin 4096) : Fin cfg0.N := ⟨blockOf r, by rw [show cfg0.N = 8 from N_0]; exact Norm.blockOf_lt r⟩

theorem out4 (a : Vec Ideal S4x512x704 .bf16) (w : Vec Ideal S4x704x1024 .bf16) (x : Vec Ideal S512x1024 .f32) (g : Vec Ideal S1x1024 .f32) :
    out0_4 a w x g = k0_pay3 a w x g := by
  unfold out0_4
  rw [View.canon_unit_zero Reals.zero2]

theorem out5 (a : Vec Ideal S4x512x704 .bf16) (w : Vec Ideal S4x704x1024 .bf16) (x : Vec Ideal S512x1024 .f32) (g : Vec Ideal S1x1024 .f32) :
    out0_5 a w x g = k0_pay1 (k0_pay3 a w x g) g := by
  unfold out0_5
  rw [View.canon_unit_zero Reals.zero2, View.ld_unit_zero Reals.zero2]

/-- What a point writes back. -/
theorem flushed4 (c : Dev nD) (t : Fin cfg0.N) (y : S512x1024.Idx) :
    (dats m 0 c).flushed 4 t y = k0_pay3 (iblk m c 0 t) (iblk m c 1 t) (iblk m c 2 t) (iblk m c 3 t) y := by
  rw [Value.flushed4, out4]
  rfl

theorem flushed5 (c : Dev nD) (t : Fin cfg0.N) (y : S512x1024.Idx) : (dats m 0 c).flushed 5 t y
    = k0_pay1 (k0_pay3 (iblk m c 0 t) (iblk m c 1 t) (iblk m c 2 t) (iblk m c 3 t)) (iblk m c 3 t) y := by
  rw [Value.flushed5, out5]
  rfl

/-- The residual sum in a point's block. -/
theorem point (c : Dev nD) (t : Fin cfg0.N) (p : Fin 512) (q : Fin 1024) :
    k0_pay3 (iblk m c 0 t) (iblk m c 1 t) (iblk m c 2 t) (iblk m c 3 t) (ix2 p q) = next m c (rowIn t.val (lt8 t) p) q := by
  rw [pay3_apply, next, Ref.next, Norm.sum_blocks 4 704 rfl]
  simp only [blk0, blk1, blk2]

/-- The two results after the run, element by element. -/
theorem final4 (c : Dev nD) (r : Fin 4096) (n : Fin 1024) : ((dats m 0 c).arrAt 4 cfg0.N : FVec Ideal S4096x1024 .f32) (ix2 r n) = next m c r n := by
  have h := (idx_facts (pointOf r)).2.2.2.2.1
  have e : (win0_4.rect (pointOf r)).emb (ix2 (inBlock r) n) = (ix2 r n : S4096x1024.Idx) := Reals.emb_eq _ rfl _ _ _ fun a => by
    fin_cases a
    · show win0_4.index (pointOf r) 0 * 512 + r.val % 512 = r.val; rw [h.1]; dsimp only [blockOf]; omega
    · show win0_4.index (pointOf r) 1 * 1024 + n.val = n.val; rw [h.2]; simp
  refine (congrArg _ e.symm).trans (((dats m 0 c).arrAt_emb_eq_flushed 4 (Value.disjoint4) (pointOf r) (flush0_4 _) (ix2 (inBlock r) n)).trans ?_)
  refine (flushed4 m c (pointOf r) _).trans ?_
  rw [point, Norm.rowIn_blockOf]

theorem final5 (c : Dev nD) (r : Fin 4096) (n : Fin 1024) : ((dats m 0 c).arrAt 5 cfg0.N : FVec Ideal S4096x1024 .bf16) (ix2 r n)
    = Norm.normed (next m c r) (fun k => argG m c (ix1 k)) n := by
  have h := (idx_facts (pointOf r)).2.2.2.2.2
  have e : (win0_5.rect (pointOf r)).emb (ix2 (inBlock r) n) = (ix2 r n : S4096x1024.Idx) := Reals.emb_eq _ rfl _ _ _ fun a => by
    fin_cases a
    · show win0_5.index (pointOf r) 0 * 512 + r.val % 512 = r.val; rw [h.1]; dsimp only [blockOf]; omega
    · show win0_5.index (pointOf r) 1 * 1024 + n.val = n.val; rw [h.2]; simp
  refine (congrArg _ e.symm).trans (((dats m 0 c).arrAt_emb_eq_flushed 5 (Value.disjoint5) (pointOf r) (flush0_5 _) (ix2 (inBlock r) n)).trans ?_)
  refine (flushed5 m c (pointOf r) _).trans ?_
  rw [pay1_apply]
  simp only [point, blk3, Norm.rowIn_blockOf]

theorem frame_kernel : quiescent_Kernel7 := fun m ρ _ => Kernel7.Gen.frame m ρ
theorem frame_ideal : quiescent_Kernel7Ideal := fun m ρ _ => Kernel7Ideal.Gen.frame m ρ
theorem frame_reference : quiescent_Reference7Ideal := fun m ρ _ =>
  (θ_run Reference7Ideal.defs _ _).mono (fun r h => ⟨fun c => (h c).2.2, sem_eq_zero_of_no_sems (by decide) r.2⟩)
    (Reference7Ideal.Value.run (F := Ideal) m ρ)

theorem algebraic : algebraic_Kernel7Ideal_Reference7Ideal := by
  intro m ρ m' ρ' _ hagree
  refine ⟨fun c => (dats m 0 c).arrAt 4 cfg0.N, fun c => (dats m 0 c).arrAt 5 cfg0.N, Value.run_blocks m ρ, ?_⟩
  refine (θ_run Reference7Ideal.defs _ _).mono (fun _ h c => ⟨(h c).1.trans ?_, (h c).2.1.trans ?_, (h c).2.2⟩)
    (Reference7Ideal.Value.run (F := Ideal) m' ρ')
  all_goals obtain ⟨a0, a1, a2, a3⟩ := hagree c
  · rw [Reference7Ideal.Read.val_main_v3_eq, a0, a1, a2]
    funext i
    obtain ⟨r, n, rfl⟩ := Norm.place2 i
    exact (Ref.next_apply _ _ _ r n).trans (final4 m c r n).symm
  · rw [Reference7Ideal.Read.val_main_v17_eq, a0, a1, a2, a3]
    funext i
    obtain ⟨r, n, rfl⟩ := Norm.place2 i
    exact (Ref.normed_apply _ _ _ _ r n).trans (final5 m c r n).symm

end Cert.DownFwd

end
-- ==== Proof.OutFwdClaims.lean ====
/-
  The claims about the mixers' product out with the residual and the norm after it (`_mix_out`): the programs run and leave
  their arguments as they were, and over the extended reals the kernel's two results are the residual sum and its normed
  rows, whatever the arguments are.
-/
module

public import proofs.«01_k».proof.Defs
public import proofs.«01_k».proof.Proof.Gen.Kernel8.Frame
public import proofs.«01_k».proof.Proof.Gen.Kernel8Ideal.Value
public import proofs.«01_k».proof.Proof.Gen.Reference8Ideal.Read
public import proofs.«01_k».proof.Proof.NormScalar

@[expose] public section

noncomputable section

open Idealize.ShloMosaic Idealize.ShloMosaic.TcCoe Idealize.SL.Sem

namespace Cert.OutFwd.Ref

open Cert.Reference8Ideal Reference8Ideal.Read

variable (y z : FVec Ideal S4096x512 .f32) (w : FVec Ideal S1024x1024 .f32) (x : FVec Ideal S4096x1024 .f32) (g : FVec Ideal S1024 .f32)

/-- The residual with the product of the two mixers' outputs, side by side, added. -/
def next (r : Fin 4096) (n : Fin 1024) : EReal := x (ix2 r n) + ∑ k, val_main_v0 (F := Ideal) y z (ix2 r k) * w (ix2 k n)

theorem next_apply (r : Fin 4096) (n : Fin 1024) : val_main_v2 (F := Ideal) y z w x (ix2 r n) = next y z w x r n := by
  unfold val_main_v2 val_main_v1
  pointwise []
  rfl

theorem rinv_apply (r : Fin 4096) : val_main_v10 (F := Ideal) y z w x (ix2 r 0) = Norm.rinv (next y z w x r) := by
  unfold val_main_v10 val_main_v9 val_main_v8 val_main_v7 val_main_v6 val_main_v5 val_main_v4 val_main_v3 val_main_cst_1 val_main_cst_0 val_main_cst
  pointwise []
  simp only [next_apply]
  rfl

theorem normed_apply (r : Fin 4096) (n : Fin 1024) : val_main_v16 (F := Ideal) y z w x g (ix2 r n) = Norm.normed (next y z w x r) (fun k => g (ix1 k)) n := by
  unfold val_main_v16 val_main_v15 val_main_v14 val_main_v13 val_main_v12 val_main_v11
  pointwise []
  rw [rinv_apply, next_apply]
  rfl

end Cert.OutFwd.Ref

namespace Cert.OutFwd

open Cert.Kernel8Ideal Kernel8Ideal.Gen
open Cert.Norm (rowIn4 blockOf4 inBlock4)

theorem pay1_apply (x : Vec Ideal S1024x1024 .f32) (a w : Vec Ideal S1024x1024 .bf16) (p q : Fin 1024) :
    k0_pay1 x a w (ix2 p q) = x (ix2 p q) + ∑ k, a (ix2 p k) * w (ix2 k q) := by
  pointwise [k0_pay1]

theorem pay2_apply (x : Vec Ideal S1024x1024 .f32) (a w : Vec Ideal S1024x1024 .bf16) (g : Vec Ideal S1x1024 .f32) (p q : Fin 1024) :
    k0_pay2 x a w g (ix2 p q) = Norm.normed (fun n => k0_pay1 x a w (ix2 p n)) (fun k => g (ix2 0 k)) q := by
  pointwise [k0_pay2]
  rfl

variable (m : (ℓ : Loc nD τ sig) → Buf (Elt Ideal) ℓ) (ρ : Dev nD → PrngReg)

/-- The arguments: the two mixers' outputs, the weight, the residual and the next norm's gain. -/
abbrev argY (c : Dev nD) : FVec Ideal S4096x512 .f32 := m ((c : Thread nD τ).loc main_arg0)
abbrev argZ (c : Dev nD) : FVec Ideal S4096x512 .f32 := m ((c : Thread nD τ).loc main_arg1)
abbrev argW (c : Dev nD) : FVec Ideal S1024x1024 .f32 := m ((c : Thread nD τ).loc main_arg2)
abbrev argX (c : Dev nD) : FVec Ideal S4096x1024 .f32 := m ((c : Thread nD τ).loc main_arg3)
abbrev argG (c : Dev nD) : FVec Ideal S1024 .f32 := m ((c : Thread nD τ).loc main_arg4)

/-- The two outputs side by side. -/
abbrev cat (c : Dev nD) : FVec Ideal S4096x1024 .f32 := Reference8Ideal.Read.val_main_v0 (F := Ideal) (argY m c) (argZ m c)

/-- A row of the residual sum. -/
abbrev next (c : Dev nD) : Fin 4096 → Fin 1024 → EReal := Ref.next (argY m c) (argZ m c) (argW m c) (argX m c)

theorem V1 (c : Dev nD) : (V m c main_v1 : FVec Ideal S4096x1024 .bf16)
    = truncf .bf16 (cat m c) bitsLt_bf16_f32 := by
  unfold V hostOps0; after_results; rfl

theorem V2 (c : Dev nD) : (V m c main_v2 : FVec Ideal S1024x1024 .bf16) = truncf .bf16 (argW m c) bitsLt_bf16_f32 := by
  unfold V hostOps0; after_results

theorem V3 (c : Dev nD) : (V m c main_v3 : FVec Ideal S1x1024 .f32) = shapeCast S1x1024 (argG m c) shapeCasts_S1024_S1x1024 := by
  unfold V hostOps0; after_results; rfl

/-- Where each window's block sits at each point. -/
theorem idx_facts : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0) :=
  (by decide +kernel : ∀ t : Fin grid0.N, _)

theorem lt4 (t : Fin cfg0.N) : t.val < 4 := lt_of_lt_of_eq t.isLt N_0

theorem blk0 (c : Dev nD) (t : Fin cfg0.N) (p q : Fin 1024) : (iblk m c 0 t : Vec Ideal S1024x1024 .bf16) (ix2 p q)
    = Reference8Ideal.Read.val_main_v0 (F := Ideal) (argY m c) (argZ m c) (ix2 (rowIn4 t.val (lt4 t) p) q) := by
  have h := (idx_facts t).1
  have e : (win0_0.rect t).emb (ix2 p q) = (ix2 (rowIn4 t.val (lt4 t) p) q : S4096x1024.Idx) := Reals.emb_eq _ rfl t _ _ fun a => by
    fin_cases a
    · show win0_0.index t 0 * 1024 + p.val = t.val * 1024 + p.val; rw [h.1]
    · show win0_0.index t 1 * 1024 + q.val = q.val; rw [h.2]; simp
  show (V m c main_v1 : FVec Ideal S4096x1024 .bf16) ((win0_0.rect t).emb (ix2 p q)) = _
  rw [e, V1]; rfl

theorem blk1 (c : Dev nD) (t : Fin cfg0.N) (k q : Fin 1024) : (iblk m c 1 t : Vec Ideal S1024x1024 .bf16) (ix2 k q) = argW m c (ix2 k q) := by
  have h := (idx_facts t).2.1
  have e : (win0_1.rect t).emb (ix2 k q) = (ix2 k q : S1024x1024.Idx) := Reals.emb_eq _ rfl t _ _ fun a => by
    fin_cases a
    · show win0_1.index t 0 * 1024 + k.val = k.val; rw [h.1]; simp
    · show win0_1.index t 1 * 1024 + q.val = q.val; rw [h.2]; simp
  show (V m c main_v2 : FVec Ideal S1024x1024 .bf16) ((win0_1.rect t).emb (ix2 k q)) = _
  rw [e, V2]; rfl

theorem blk2 (c : Dev nD) (t : Fin cfg0.N) (p q : Fin 1024) :
    (iblk m c 2 t : Vec Ideal S1024x1024 .f32) (ix2 p q) = argX m c (ix2 (rowIn4 t.val (lt4 t) p) q) := by
  have h := (idx_facts t).2.2.1
  have e : (win0_2.rect t).emb (ix2 p q) = (ix2 (rowIn4 t.val (lt4 t) p) q : S4096x1024.Idx) := Reals.emb_eq _ rfl t _ _ fun a => by
    fin_cases a
    · show win0_2.index t 0 * 1024 + p.val = t.val * 1024 + p.val; rw [h.1]
    · show win0_2.index t 1 * 1024 + q.val = q.val; rw [h.2]; simp
  show (V m c main_arg3 : FVec Ideal S4096x1024 .f32) ((win0_2.rect t).emb (ix2 p q)) = _
  rw [e, V_main_arg3]

theorem blk3 (c : Dev nD) (t : Fin cfg0.N) (q : Fin 1024) : (iblk m c 3 t : Vec Ideal S1x1024 .f32) (ix2 0 q) = argG m c (ix1 q) := by
  have h := (idx_facts t).2.2.2.1
  have e : (win0_3.rect t).emb (ix2 0 q) = (ix2 0 q : S1x1024.Idx) := Reals.emb_eq _ rfl t _ _ fun a => by
    fin_cases a
    · show win0_3.index t 0 * 1 + 0 = 0; rw [h.1]
    · show win0_3.index t 1 * 1024 + q.val = q.val; rw [h.2]; simp
  show (V m c main_v3 : FVec Ideal S1x1024 .f32) ((win0_3.rect t).emb (ix2 0 q)) = _
  rw [e, V3]; pointwise []

abbrev pointOf (r : Fin 4096) : Fin cfg0.N := ⟨blockOf4 r, by rw [show cfg0.N = 4 from N_0]; exact Norm.blockOf4_lt r⟩

theorem out4 (a w : Vec Ideal S1024x1024 .bf16) (x : Vec Ideal S1024x1024 .f32) (g : Vec Ideal S1x1024 .f32) : out0_4 a w x g = k0_pay1 x a w := by
  unfold out0_4
  rw [View.canon_unit_zero Reals.zero2, View.ld_unit_zero Reals.zero2, View.ld_unit_zero Reals.zero2, View.ld_unit_zero Reals.zero2]

theorem out5 (a w : Vec Ideal S1024x1024 .bf16) (x : Vec Ideal S1024x1024 .f32) (g : Vec Ideal S1x1024 .f32) : out0_5 a w x g = k0_pay2 x a w g := by
  unfold out0_5
  rw [View.canon_unit_zero Reals.zero2, View.ld_unit_zero Reals.zero2, View.ld_unit_zero Reals.zero2, View.ld_unit_zero Reals.zero2,
    View.ld_unit_zero Reals.zero2]

/-- What a point writes back. -/
theorem flushed4 (c : Dev nD) (t : Fin cfg0.N) (y : S1024x1024.Idx) :
    (dats m 0 c).flushed 4 t y = k0_pay1 (iblk m c 2 t) (iblk m c 0 t) (iblk m c 1 t) y := by
  rw [Value.flushed4, out4]
  rfl

theorem flushed5 (c : Dev nD) (t : Fin cfg0.N) (y : S1024x1024.Idx) :
    (dats m 0 c).flushed 5 t y = k0_pay2 (iblk m c 2 t) (iblk m c 0 t) (iblk m c 1 t) (iblk m c 3 t) y := by
  rw [Value.flushed5, out5]
  rfl

/-- The residual sum in a point's block. -/
theorem point (c : Dev nD) (t : Fin cfg0.N) (p q : Fin 1024) :
    k0_pay1 (iblk m c 2 t) (iblk m c 0 t) (iblk m c 1 t) (ix2 p q) = next m c (rowIn4 t.val (lt4 t) p) q := by
  rw [pay1_apply]
  simp only [blk0, blk1, blk2]
  rfl

/-- The two results after the run, element by element. -/
theorem final4 (c : Dev nD) (r : Fin 4096) (n : Fin 1024) : ((dats m 0 c).arrAt 4 cfg0.N : FVec Ideal S4096x1024 .f32) (ix2 r n) = next m c r n := by
  have h := (idx_facts (pointOf r)).2.2.2.2.1
  have e : (win0_4.rect (pointOf r)).emb (ix2 (inBlock4 r) n) = (ix2 r n : S4096x1024.Idx) := Reals.emb_eq _ rfl _ _ _ fun a => by
    fin_cases a
    · show win0_4.index (pointOf r) 0 * 1024 + r.val % 1024 = r.val; rw [h.1]; dsimp only [blockOf4]; omega
    · show win0_4.index (pointOf r) 1 * 1024 + n.val = n.val; rw [h.2]; simp
  refine (congrArg _ e.symm).trans (((dats m 0 c).arrAt_emb_eq_flushed 4 (Value.disjoint4) (pointOf r) (flush0_4 _) (ix2 (inBlock4 r) n)).trans ?_)
  refine (flushed4 m c (pointOf r) _).trans ?_
  rw [point, Norm.rowIn4_blockOf4]

theorem final5 (c : Dev nD) (r : Fin 4096) (n : Fin 1024) : ((dats m 0 c).arrAt 5 cfg0.N : FVec Ideal S4096x1024 .bf16) (ix2 r n)
    = Norm.normed (next m c r) (fun k => argG m c (ix1 k)) n := by
  have h := (idx_facts (pointOf r)).2.2.2.2.2
  have e : (win0_5.rect (pointOf r)).emb (ix2 (inBlock4 r) n) = (ix2 r n : S4096x1024.Idx) := Reals.emb_eq _ rfl _ _ _ fun a => by
    fin_cases a
    · show win0_5.index (pointOf r) 0 * 1024 + r.val % 1024 = r.val; rw [h.1]; dsimp only [blockOf4]; omega
    · show win0_5.index (pointOf r) 1 * 1024 + n.val = n.val; rw [h.2]; simp
  refine (congrArg _ e.symm).trans (((dats m 0 c).arrAt_emb_eq_flushed 5 (Value.disjoint5) (pointOf r) (flush0_5 _) (ix2 (inBlock4 r) n)).trans ?_)
  refine (flushed5 m c (pointOf r) _).trans ?_
  rw [pay2_apply]
  simp only [point, blk3, Norm.rowIn4_blockOf4]

theorem frame_kernel : quiescent_Kernel8 := fun m ρ _ => Kernel8.Gen.frame m ρ
theorem frame_ideal : quiescent_Kernel8Ideal := fun m ρ _ => Kernel8Ideal.Gen.frame m ρ
theorem frame_reference : quiescent_Reference8Ideal := fun m ρ _ =>
  (θ_run Reference8Ideal.defs _ _).mono (fun r h => ⟨fun c => (h c).2.2, sem_eq_zero_of_no_sems (by decide) r.2⟩)
    (Reference8Ideal.Value.run (F := Ideal) m ρ)

theorem algebraic : algebraic_Kernel8Ideal_Reference8Ideal := by
  intro m ρ m' ρ' _ hagree
  refine ⟨fun c => (dats m 0 c).arrAt 4 cfg0.N, fun c => (dats m 0 c).arrAt 5 cfg0.N, Value.run_blocks m ρ, ?_⟩
  refine (θ_run Reference8Ideal.defs _ _).mono (fun _ h c => ⟨(h c).1.trans ?_, (h c).2.1.trans ?_, (h c).2.2⟩)
    (Reference8Ideal.Value.run (F := Ideal) m' ρ')
  all_goals obtain ⟨a0, a1, a2, a3, a4⟩ := hagree c
  · rw [Reference8Ideal.Read.val_main_v2_eq, a0, a1, a2, a3]
    funext i
    obtain ⟨r, n, rfl⟩ := Norm.place2 i
    exact (Ref.next_apply _ _ _ _ r n).trans (final4 m c r n).symm
  · rw [Reference8Ideal.Read.val_main_v16_eq, a0, a1, a2, a3, a4]
    funext i
    obtain ⟨r, n, rfl⟩ := Norm.place2 i
    exact (Ref.normed_apply _ _ _ _ _ r n).trans (final5 m c r n).symm

end Cert.OutFwd

end
-- ==== Proof.ConvScalar.lean ====
/-
  The convolution module's arithmetic, apart from any program: the taps of the causal convolution over a buffer that holds
  thirty-two rows of the block before and the rows of a block, in the order in which the taps are added, and the means over a
  head's lanes.
-/
module

public import proofs.«01_k».proof.Proof.NormScalar
public import proofs.«01_k».proof.Proof.GateScalar
public import Idealize.ShloMosaic.Lib.WritesUnit

@[expose] public section

noncomputable section

open Idealize.ShloMosaic Idealize.ShloMosaic.TcCoe

namespace Cert.Conv

/-- An array of rows of 512 lanes. -/
abbrev Rows (n : ℕ) : Type := FVec Ideal ⟨2, ![n, 512]⟩ .f32

/-- Row `i` of an array, zero past its end. -/
def rowsOf {n : ℕ} (z : Rows n) (i : ℕ) (q : Fin 512) : EReal := if h : i < n then z (ix2 ⟨i, h⟩ q) else 0

/-- The buffer: thirty-two rows, then the rows of a block. -/
def buf (head : ℕ → Fin 512 → EReal) (P : Rows 256) (i : ℕ) (q : Fin 512) : EReal := if i < 32 then head i q else rowsOf P (i - 32) q

/-- A load from the buffer after its block was stored reads its rows. -/
theorem load_buf {sg : RefSig} {κ : Kind} {sp : Space} (v : View sg κ sp ⟨2, ![288, 512]⟩ .f32) (f : v.ty.Contents (Elt Ideal)) (P : Rows 256)
    (inb) (L : List (View.Piece (Elt Ideal) ⟨2, ![288, 512]⟩ .f32)) (head : ℕ → Fin 512 → EReal)
    {o n : ℕ} (hh : ∀ (r : Fin 288) (q : Fin 512), r.val < 32 → o ≤ r.val → v.read (Elt Ideal) (v.writes (Elt Ideal) f L) (ix2 r q) = head r.val q)
    (inb') (i : Fin n) (q : Fin 512) :
    v.readAt (Elt Ideal) (Rect.unit (s := ⟨2, ![288, 512]⟩) ![o, 0] ![n, 512] inb').toLoadRect
      (v.writes (Elt Ideal) f ((⟨Rect.unit (s := ⟨2, ![288, 512]⟩) ![32, 0] ![256, 512] inb, P⟩ : View.Piece (Elt Ideal) ⟨2, ![288, 512]⟩ .f32) :: L))
      (ix2 i q) = buf head P (i.val + o) q := by
  have ho : o + n ≤ 288 := inb' 0
  have hi := i.isLt
  have e : (Rect.unit (s := ⟨2, ![288, 512]⟩) ![o, 0] ![n, 512] inb').toLoadRect.idx (ix2 i q)
      = (ix2 ⟨i.val + o, by omega⟩ q : (⟨2, ![288, 512]⟩ : Shape).Idx) := funext fun a => Fin.ext (by
    fin_cases a
    · show o + 1 * i.val = i.val + o; omega
    · show 0 + 1 * q.val = q.val; omega)
  rw [View.readAt_apply, e]
  by_cases h : i.val + o < 32
  · rw [View.read_writes_cons_rows_of_not_mem v f inb P L _ rfl rfl (Or.inl h), buf, if_pos h]
    exact hh ⟨i.val + o, _⟩ q h (by show o ≤ i.val + o; omega)
  · rw [View.read_writes_cons_rows_of_mem v f inb P L _ (ix2 ⟨i.val + o - 32, by omega⟩ q) rfl (by show i.val + o = 32 + (i.val + o - 32); omega) rfl,
      buf, if_neg h, rowsOf, dif_pos (by omega)]

/-- The convolution at row `p` of the block whose rows the buffer `z` holds from row 32 on. -/
def taps (w : Rows 31) (b : Fin 512 → EReal) (z : ℕ → Fin 512 → EReal) (p : ℕ) (q : Fin 512) : EReal :=
  b q + ∑ k : Fin 31, w (ix2 k q) * z (p + (k.val + 2)) q

theorem taps_at (w : Rows 31) (b : Fin 512 → EReal) (z : ℕ → Fin 512 → EReal) {p o : ℕ} (r : ℕ) (l : Fin 512) {q : Fin 512}
    (e : p = o + 1 * r) (h : q.val = 0 + 1 * l.val) : taps w b z p q = b l + ∑ k : Fin 31, w (ix2 k l) * z (r + (o + (k.val + 2))) l := by
  obtain rfl : q = l := Fin.ext (by omega)
  subst e
  refine congrArg (b q + ·) (Finset.sum_congr rfl fun k _ => ?_)
  rw [show o + 1 * r + (k.val + 2) = r + (o + (k.val + 2)) by omega]

/-- The taps added by their place in a group of eight rows. -/
theorem sum_phases (f : Fin 31 → EReal) :
    (f 6 + f 14 + f 22 + f 30) + (f 7 + f 15 + f 23) + (f 0 + f 8 + f 16 + f 24) + (f 1 + f 9 + f 17 + f 25)
      + (f 2 + f 10 + f 18 + f 26) + (f 3 + f 11 + f 19 + f 27) + (f 4 + f 12 + f 20 + f 28) + (f 5 + f 13 + f 21 + f 29) = ∑ k, f k := by
  simp only [Fin.sum_univ_castSucc, Fin.sum_univ_zero, zero_add]
  change (f 6 + f 14 + f 22 + f 30) + (f 7 + f 15 + f 23) + (f 0 + f 8 + f 16 + f 24) + (f 1 + f 9 + f 17 + f 25)
      + (f 2 + f 10 + f 18 + f 26) + (f 3 + f 11 + f 19 + f 27) + (f 4 + f 12 + f 20 + f 28) + (f 5 + f 13 + f 21 + f 29)
    = f 0 + f 1 + f 2 + f 3 + f 4 + f 5 + f 6 + f 7 + f 8 + f 9 + f 10 + f 11 + f 12 + f 13 + f 14 + f 15 + f 16 + f 17 + f 18 + f 19 + f 20
      + f 21 + f 22 + f 23 + f 24 + f 25 + f 26 + f 27 + f 28 + f 29 + f 30
  abel

/-- The gated rows: the second third of the lanes times the logistic function of the last third. -/
def gated (u : FVec Ideal ⟨2, ![4096, 1536]⟩ .f32) (r : Fin 4096) (q : Fin 512) : EReal :=
  u (ix2 r ⟨512 + q.val, by omega⟩) * Gate.refSigma (u (ix2 r ⟨512 + (512 + q.val), by omega⟩))

/-- The gated rows after thirty rows of zeros. -/
def padded (u : FVec Ideal ⟨2, ![4096, 1536]⟩ .f32) (i : ℕ) (q : Fin 512) : EReal :=
  if h : 30 ≤ i ∧ i < 4126 then gated u ⟨i - 30, by omega⟩ q else 0

/-- The causal convolution, as the reference writes it. -/
def conv (u : FVec Ideal ⟨2, ![4096, 1536]⟩ .f32) (w : Rows 31) (b : Fin 512 → EReal) (r : Fin 4096) (q : Fin 512) : EReal :=
  (∑ k : Fin 31, padded u (r.val + k.val) q * w (ix2 k q)) + b q

/-- The heads: which one a lane is in, and its lanes. -/
abbrev headOf (q : Fin 512) : Fin 8 := ⟨q.val / 64, by omega⟩
abbrev inHead (h : Fin 8) (e : Fin 64) : Fin 512 := ⟨h.val * 64 + e.val, by omega⟩
abbrev lanes : EReal := Ideal.ofBits .f32 0x42800000#32

/-- The mean over a head, and the norm of a head with its gain and shift. -/
def mean (z : Fin 512 → EReal) (h : Fin 8) : EReal := Ideal.div (∑ e, z (inHead h e)) lanes
def headNorm (z g b : Fin 512 → EReal) (q : Fin 512) : EReal :=
  (z q - mean z (headOf q)) * Ideal.rsqrt (mean (fun k => (z k - mean z (headOf k)) * (z k - mean z (headOf k))) (headOf q) + Norm.guard) * g q + b q

/-- The means over the heads as the kernel takes them: two products with a matrix `a` that averages, the first of the row and the second of what
    rounding the row left over. -/
def meanBy (a : Fin 512 → Fin 512 → EReal) (z : Fin 512 → EReal) (q : Fin 512) : EReal := ∑ k, z k * a k q + ∑ k, (z k - z k) * a k q
def headNormBy (a : Fin 512 → Fin 512 → EReal) (z g b : Fin 512 → EReal) (q : Fin 512) : EReal :=
  (z q - meanBy a z q) * Ideal.rsqrt (meanBy a (fun k => (z k - meanBy a z k) * (z k - meanBy a z k)) q + Norm.guard) * g q + b q

theorem lanes_eq : lanes = ((64 : ℝ) : EReal) := by
  simp [lanes, Ideal.ofBits, Ideal.ieee]
  rw [← EReal.coe_mul]
  norm_num

/-- The averaging matrix. -/
def avg (k q : Fin 512) : EReal := if k.val / 64 = q.val / 64 then ((1 / 64 : ℝ) : EReal) else 0

theorem mean_real {z : Fin 512 → EReal} (hz : ∀ k, Reals.IsReal (z k)) (h : Fin 8) : Reals.IsReal (mean z h) := by
  obtain ⟨v, hv⟩ := Reals.IsReal.sum (s := Finset.univ) fun e => hz (inHead h e)
  exact ⟨v / 64, by rw [mean, hv, lanes_eq, Reals.div_coe_coe _ (by norm_num)]⟩

/-- On real numbers the two means agree. -/
theorem meanBy_avg {z : Fin 512 → EReal} (hz : ∀ k, Reals.IsReal (z k)) (q : Fin 512) : meanBy avg z q = mean z (headOf q) := by
  have h0 : ∑ k, (z k - z k) * avg k q = 0 := Finset.sum_eq_zero fun k _ => by
    obtain ⟨v, hv⟩ := hz k
    rw [hv, ← EReal.coe_sub, sub_self, EReal.coe_zero, zero_mul]
  have hs : ∑ k, z k * avg k q = ∑ e, z (inHead (headOf q) e) * ((1 / 64 : ℝ) : EReal) := by
    rw [← Finset.sum_subset (Finset.subset_univ (Finset.univ.image (inHead (headOf q))))
      (fun k _ hk => by
        rw [avg, if_neg, mul_zero]
        intro e
        refine hk (Finset.mem_image.mpr ⟨⟨k.val % 64, by omega⟩, Finset.mem_univ _, Fin.ext ?_⟩)
        show q.val / 64 * 64 + k.val % 64 = k.val
        omega),
      Finset.sum_image (fun e _ e' _ h => by have := congrArg Fin.val h; apply Fin.ext; dsimp only at this; omega)]
    refine Finset.sum_congr rfl fun e _ => ?_
    rw [avg, if_pos (by show (q.val / 64 * 64 + e.val) / 64 = q.val / 64; omega)]
  rw [meanBy, h0, add_zero, hs, mean, lanes_eq]
  choose f hf using fun e => hz (inHead (headOf q) e)
  simp only [hf, ← EReal.coe_mul, Reals.coe_sum]
  rw [Reals.div_coe_coe _ (by norm_num), ← Finset.sum_mul, mul_one_div]

/-- So do the two norms. -/
theorem headNormBy_avg {z : Fin 512 → EReal} (hz : ∀ k, Reals.IsReal (z k)) (g b : Fin 512 → EReal) (q : Fin 512) :
    headNormBy avg z g b q = headNorm z g b q := by
  have hd : ∀ k, Reals.IsReal ((z k - mean z (headOf k)) * (z k - mean z (headOf k))) := fun k =>
    ((hz k).sub (mean_real hz _)).mul ((hz k).sub (mean_real hz _))
  rw [headNormBy, headNorm]
  simp only [meanBy_avg hz]
  rw [meanBy_avg hd]

theorem sigma_isReal {x : EReal} (h : Reals.IsReal x) : Reals.IsReal (Gate.refSigma x) := by
  obtain ⟨v, rfl⟩ := h
  exact ⟨_, by rw [Gate.refSigma, ← EReal.coe_neg, Reals.logistic_div]⟩

/-- The convolution of real numbers is one. -/
theorem conv_real {u : FVec Ideal ⟨2, ![4096, 1536]⟩ .f32} {w : Rows 31} {b : Fin 512 → EReal} (hu : Reals.Fin' u) (hw : Reals.Fin' w)
    (hb : ∀ q, Reals.IsReal (b q)) (r : Fin 4096) (q : Fin 512) : Reals.IsReal (conv u w b r q) := by
  refine Reals.IsReal.add (Reals.IsReal.sum fun k => Reals.IsReal.mul ?_ (hw.at _)) (hb q)
  unfold padded
  split
  · exact (hu.at _).mul (sigma_isReal (hu.at _))
  · exact ⟨0, rfl⟩

end Cert.Conv

end
-- ==== Proof.ConvTaps.lean ====
/-
  What a grid point of the convolution module's forward call computes: every row of its first output is the thirty-one taps over
  the buffer (thirty-two rows left by the point before, or zeros at the first point, then the block's gated rows), and the buffer's
  first rows become the block's last ones.
-/
module

public import proofs.«01_k».proof.Defs
public import proofs.«01_k».proof.Proof.Gen.Kernel9Ideal.Value
public import proofs.«01_k».proof.Proof.ConvScalar

@[expose] public section

noncomputable section

open Idealize.ShloMosaic Idealize.ShloMosaic.TcCoe Idealize.SL.Sem

namespace Cert.ConvFwd

open Cert.Kernel9Ideal Cert.Kernel9Ideal.Gen
open Cert.Conv (buf taps rowsOf Rows load_buf)

section Block

variable (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .bf16) (harg3 : arg3.IsWhole) (arg4 : Memref sig .tc .vmem S31x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S256x512 .f32) (harg9 : arg9.IsWhole) (arg10 : Memref sig .tc .vmem S256x1024 .bf16) (harg10 : arg10.IsWhole) (arg11 : Memref sig .tc .vmem S288x512 .f32) (harg11 : arg11.IsWhole)
  (x0 x1 : Vec Ideal S256x512 .f32) (x2 : Vec Ideal S256x512 .bf16) (x3 : Vec Ideal S31x512 .f32) (x4 x5 x6 : Vec Ideal S1x512 .f32) (x7 : Vec Ideal S512x512 .bf16)

/-- A load of one row of taps. -/
theorem load_w {k : ℕ} (inb) (l : Fin 512) : View.readAt (Elt Ideal) arg4.view (Rect.unit (s := S31x512) ![k, 0] S1x512.size inb).toLoadRect (harg4.unread x3) (ix2 0 l)
    = x3 (ix2 ⟨k, (inb 0 : k + 1 ≤ 31)⟩ l) := by
  rw [View.readAt_apply, harg4.read_unread]
  refine congrArg _ (funext fun a => Fin.ext ?_)
  fin_cases a
  · show k + 1 * 0 = k; omega
  · show 0 + 1 * l.val = l.val; omega

/-- The load of the bias. -/
theorem load_b (l : Fin 512) : View.readAt (Elt Ideal) arg5.view (Rect.unit (s := S1x512) ![0, 0] S1x512.size inb_S1x512_S1x512_0_0).toLoadRect (harg5.unread x4) (ix2 0 l)
    = x4 (ix2 0 l) := by
  rw [View.readAt_apply, harg5.read_unread]
  refine congrArg _ (funext fun a => Fin.ext ?_)
  fin_cases a
  · rfl
  · show 0 + 1 * l.val = l.val; omega

section First

variable (hc0 : cond0_0 i)

/-- The rows that the first point sets to zero. -/
theorem zero_rows {f : arg11.view.ty.Contents (Elt Ideal)} (r : Fin 288) (q : Fin 512) (h : r.val < 32) :
    arg11.view.read (Elt Ideal) (arg11.view.writes (Elt Ideal) f [⟨Rect.unit ![0, 0] S32x512.size inb_S288x512_S32x512_0_0, (k0_pay2 : FVec Ideal S32x512 .f32)⟩]) (ix2 r q) = 0 := by
  refine (View.read_writes_cons_rows_of_mem arg11.view f inb_S288x512_S32x512_0_0 (k0_pay2 : FVec Ideal S32x512 .f32) [] (ix2 r q) (ix2 ⟨r.val, h⟩ q) rfl (Nat.zero_add _).symm rfl).trans ?_
  pointwise [k0_pay2]

/-- The buffer at a sequence's first point: zeros, then the block's rows. -/
abbrev first : ℕ → Fin 512 → EReal := buf (fun _ _ => 0) (k0_pay3 x0 x1)

theorem first_written : kernelRun0_A.sl.HS0_2 c arg1 harg1 arg2 harg2 x0 x1
    = [⟨Rect.unit ![32, 0] S256x512.size inb_S288x512_S256x512_32_0, k0_pay3 x0 x1⟩, ⟨Rect.unit ![0, 0] S32x512.size inb_S288x512_S32x512_0_0, (k0_pay2 : FVec Ideal S32x512 .f32)⟩] := by
  unfold kernelRun0_A.sl.HS0_2
  rw [View.readAt_eq_ld, View.readAt_eq_ld, harg1.read_unread, harg2.read_unread, View.ld_unit_zero Reals.zero2, View.ld_unit_zero Reals.zero2]

theorem load_firstcov32 {o : ℕ} (inb) (r : Fin 32) (l : Fin 512) :
    arg11.view.readCov (kernelRun0_A.sl.HS0_2 c arg1 harg1 arg2 harg2 x0 x1) (Rect.unit (s := S288x512) ![o, 0] S32x512.size inb).toLoadRect (ix2 r l)
    = first x0 x1 (r.val + o) l := by
  refine Eq.trans ?_ (load_buf arg11.view arg11.view.junk (k0_pay3 x0 x1) inb_S288x512_S256x512_32_0 [⟨Rect.unit ![0, 0] S32x512.size inb_S288x512_S32x512_0_0, (k0_pay2 : FVec Ideal S32x512 .f32)⟩] (fun _ _ => 0) (fun r q h _ => zero_rows arg11 r q h) inb r l)
  rw [first_written c arg1 harg1 arg2 harg2 x0 x1]
  rfl

theorem load_firstcov40 {o : ℕ} (inb) {s r : ℕ} (h : s + r < 40) (l : Fin 512) :
    arg11.view.readCov (kernelRun0_A.sl.HS0_2 c arg1 harg1 arg2 harg2 x0 x1) (Rect.unit (s := S288x512) ![o, 0] S40x512.size inb).toLoadRect (ix2 ⟨s + r, h⟩ l)
    = first x0 x1 (r + (s + o)) l := by
  rw [show r + (s + o) = s + r + o by omega]
  refine Eq.trans ?_ (load_buf arg11.view arg11.view.junk (k0_pay3 x0 x1) inb_S288x512_S256x512_32_0 [⟨Rect.unit ![0, 0] S32x512.size inb_S288x512_S32x512_0_0, (k0_pay2 : FVec Ideal S32x512 .f32)⟩] (fun _ _ => 0) (fun r q h _ => zero_rows arg11 r q h) inb ⟨s + r, h⟩ l)
  rw [first_written c arg1 harg1 arg2 harg2 x0 x1]
  rfl

/-- The taps over that buffer. -/
abbrev firstTaps (p : ℕ) (q : Fin 512) : EReal := taps x3 (fun q => x4 (ix2 0 q)) (first x0 x1) p q

/-- The taps of a group of rows, in the order in which they are added. -/
theorem first_group (o : ℕ) (r : Fin 32) (l : Fin 512) {p : ℕ} {q : Fin 512} (hp : p = o + 1 * r.val) (hq : q.val = 0 + 1 * l.val) :
    x4 (ix2 0 l) + ((x3 (ix2 6 l) * first x0 x1 (r.val + (o + 8)) l + x3 (ix2 14 l) * first x0 x1 (r.val + (o + 16)) l + x3 (ix2 22 l) * first x0 x1 (r.val + (o + 24)) l + x3 (ix2 30 l) * first x0 x1 (r.val + (o + 32)) l) + (x3 (ix2 7 l) * first x0 x1 (r.val + (o + 9)) l + x3 (ix2 15 l) * first x0 x1 (r.val + (o + 17)) l + x3 (ix2 23 l) * first x0 x1 (r.val + (o + 25)) l) + (x3 (ix2 0 l) * first x0 x1 (r.val + (o + 2)) l + x3 (ix2 8 l) * first x0 x1 (r.val + (o + 10)) l + x3 (ix2 16 l) * first x0 x1 (r.val + (o + 18)) l + x3 (ix2 24 l) * first x0 x1 (r.val + (o + 26)) l) + (x3 (ix2 1 l) * first x0 x1 (r.val + (o + 3)) l + x3 (ix2 9 l) * first x0 x1 (r.val + (o + 11)) l + x3 (ix2 17 l) * first x0 x1 (r.val + (o + 19)) l + x3 (ix2 25 l) * first x0 x1 (r.val + (o + 27)) l) + (x3 (ix2 2 l) * first x0 x1 (r.val + (o + 4)) l + x3 (ix2 10 l) * first x0 x1 (r.val + (o + 12)) l + x3 (ix2 18 l) * first x0 x1 (r.val + (o + 20)) l + x3 (ix2 26 l) * first x0 x1 (r.val + (o + 28)) l) + (x3 (ix2 3 l) * first x0 x1 (r.val + (o + 5)) l + x3 (ix2 11 l) * first x0 x1 (r.val + (o + 13)) l + x3 (ix2 19 l) * first x0 x1 (r.val + (o + 21)) l + x3 (ix2 27 l) * first x0 x1 (r.val + (o + 29)) l) + (x3 (ix2 4 l) * first x0 x1 (r.val + (o + 6)) l + x3 (ix2 12 l) * first x0 x1 (r.val + (o + 14)) l + x3 (ix2 20 l) * first x0 x1 (r.val + (o + 22)) l + x3 (ix2 28 l) * first x0 x1 (r.val + (o + 30)) l) + (x3 (ix2 5 l) * first x0 x1 (r.val + (o + 7)) l + x3 (ix2 13 l) * first x0 x1 (r.val + (o + 15)) l + x3 (ix2 21 l) * first x0 x1 (r.val + (o + 23)) l + x3 (ix2 29 l) * first x0 x1 (r.val + (o + 31)) l)) = firstTaps x0 x1 x3 x4 p q :=
  (congrArg (x4 (ix2 0 l) + ·) (Conv.sum_phases fun k => x3 (ix2 k l) * first x0 x1 (r.val + (o + (k.val + 2))) l)).trans
    (Conv.taps_at x3 (fun q => x4 (ix2 0 q)) _ r.val l hp hq).symm

set_option maxHeartbeats 800000 in
theorem first_piece (pc) (hpc : pc ∈ (kernelRun0_A c i arg1 harg1 arg2 harg2 arg3 harg3 arg4 harg4 arg5 harg5 arg6 harg6 arg7 harg7 arg8 harg8 arg9 harg9 arg10 harg10 arg11 harg11 hc0 x0 x1 x2 x3 x4 x5 x6 x7).1) (x) : pc.2 x = firstTaps x0 x1 x3 x4 (pc.1.emb x 0).val (pc.1.emb x 1) := by
  unfold kernelRun0_A at hpc
  dsimp only at hpc
  unfold kernelRun0_A.sl.H8_8 at hpc
  simp only [List.mem_cons, List.not_mem_nil, or_false] at hpc
  rcases hpc with rfl | rfl | rfl | rfl | rfl | rfl | rfl | rfl <;> obtain ⟨r, l, rfl⟩ := Norm.place2 x
  all_goals simp only [kernelRun0_A.sl.r_85, kernelRun0_A.sl.r_93, kernelRun0_A.sl.r_91, kernelRun0_A.sl.r_88, kernelRun0_A.sl.r_86, kernelRun0_A.sl.v1181, kernelRun0_A.sl.v1185, kernelRun0_A.sl.v1190, kernelRun0_A.sl.v1195, kernelRun0_A.sl.r_87, kernelRun0_A.sl.v1200, kernelRun0_A.sl.v1204, kernelRun0_A.sl.v1209, kernelRun0_A.sl.v1216, kernelRun0_A.sl.r_89, kernelRun0_A.sl.r_90, kernelRun0_A.sl.r_92, kernelRun0_A.sl.r_94, kernelRun0_A.sl.r_95, kernelRun0_A.sl.r_74, kernelRun0_A.sl.r_82, kernelRun0_A.sl.r_81, kernelRun0_A.sl.r_78, kernelRun0_A.sl.r_75, kernelRun0_A.sl.v1015, kernelRun0_A.sl.v1019, kernelRun0_A.sl.v1024, kernelRun0_A.sl.v1029, kernelRun0_A.sl.r_76, kernelRun0_A.sl.v1034, kernelRun0_A.sl.v1038, kernelRun0_A.sl.r_77, kernelRun0_A.sl.v1043, kernelRun0_A.sl.v1050, kernelRun0_A.sl.r_79, kernelRun0_A.sl.r_80, kernelRun0_A.sl.r_83, kernelRun0_A.sl.r_84, kernelRun0_A.sl.r_61, kernelRun0_A.sl.r_71, kernelRun0_A.sl.r_68, kernelRun0_A.sl.r_65, kernelRun0_A.sl.r_62, kernelRun0_A.sl.v849, kernelRun0_A.sl.v853, kernelRun0_A.sl.v858, kernelRun0_A.sl.v863, kernelRun0_A.sl.r_63, kernelRun0_A.sl.v868, kernelRun0_A.sl.r_64, kernelRun0_A.sl.v872, kernelRun0_A.sl.v877, kernelRun0_A.sl.v884, kernelRun0_A.sl.r_66, kernelRun0_A.sl.r_67, kernelRun0_A.sl.r_69, kernelRun0_A.sl.r_70, kernelRun0_A.sl.r_72, kernelRun0_A.sl.r_73, kernelRun0_A.sl.r_59, kernelRun0_A.sl.r_56, kernelRun0_A.sl.r_53, kernelRun0_A.sl.r_51, kernelRun0_A.sl.r_48, kernelRun0_A.sl.v683, kernelRun0_A.sl.v687, kernelRun0_A.sl.v692, kernelRun0_A.sl.v697, kernelRun0_A.sl.r_49, kernelRun0_A.sl.v702, kernelRun0_A.sl.r_50, kernelRun0_A.sl.v706, kernelRun0_A.sl.v711, kernelRun0_A.sl.v718, kernelRun0_A.sl.r_52, kernelRun0_A.sl.r_54, kernelRun0_A.sl.r_55, kernelRun0_A.sl.r_57, kernelRun0_A.sl.r_58, kernelRun0_A.sl.r_60, kernelRun0_A.sl.r_47, kernelRun0_A.sl.r_35, kernelRun0_A.sl.r_44, kernelRun0_A.sl.r_42, kernelRun0_A.sl.r_39, kernelRun0_A.sl.r_38, kernelRun0_A.sl.r_36, kernelRun0_A.sl.v517, kernelRun0_A.sl.v521, kernelRun0_A.sl.v526, kernelRun0_A.sl.v531, kernelRun0_A.sl.r_37, kernelRun0_A.sl.v536, kernelRun0_A.sl.v540, kernelRun0_A.sl.v545, kernelRun0_A.sl.v552, kernelRun0_A.sl.r_40, kernelRun0_A.sl.r_41, kernelRun0_A.sl.r_43, kernelRun0_A.sl.r_45, kernelRun0_A.sl.r_46, kernelRun0_A.sl.r_24, kernelRun0_A.sl.r_33, kernelRun0_A.sl.r_31, kernelRun0_A.sl.r_29, kernelRun0_A.sl.r_26, kernelRun0_A.sl.r_25, kernelRun0_A.sl.v351, kernelRun0_A.sl.v355, kernelRun0_A.sl.v360, kernelRun0_A.sl.v365, kernelRun0_A.sl.v370, kernelRun0_A.sl.v374, kernelRun0_A.sl.v379, kernelRun0_A.sl.r_27, kernelRun0_A.sl.v386, kernelRun0_A.sl.r_28, kernelRun0_A.sl.r_30, kernelRun0_A.sl.r_32, kernelRun0_A.sl.r_34, kernelRun0_A.sl.r_12, kernelRun0_A.sl.r_21, kernelRun0_A.sl.r_20, kernelRun0_A.sl.r_17, kernelRun0_A.sl.r_15, kernelRun0_A.sl.r_13, kernelRun0_A.sl.v185, kernelRun0_A.sl.v189, kernelRun0_A.sl.v194, kernelRun0_A.sl.r_14, kernelRun0_A.sl.v199, kernelRun0_A.sl.v204, kernelRun0_A.sl.v208, kernelRun0_A.sl.v213, kernelRun0_A.sl.r_16, kernelRun0_A.sl.v220, kernelRun0_A.sl.r_18, kernelRun0_A.sl.r_19, kernelRun0_A.sl.r_22, kernelRun0_A.sl.r_23, kernelRun0_A.sl.r, kernelRun0_A.sl.r_10, kernelRun0_A.sl.r_7, kernelRun0_A.sl.r_5, kernelRun0_A.sl.r_2, kernelRun0_A.sl.r_1, kernelRun0_A.sl.v19, kernelRun0_A.sl.v23, kernelRun0_A.sl.v28, kernelRun0_A.sl.v33, kernelRun0_A.sl.v38, kernelRun0_A.sl.v42, kernelRun0_A.sl.v47, kernelRun0_A.sl.r_3, kernelRun0_A.sl.v54, kernelRun0_A.sl.r_4, kernelRun0_A.sl.r_6, kernelRun0_A.sl.r_8, kernelRun0_A.sl.r_9, kernelRun0_A.sl.r_11]
  all_goals pointwise [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92]
  · refine Eq.trans (congrArg₂ (· + ·) (load_b arg5 harg5 x4 l) ?_) (first_group x0 x1 x3 x4 224 r l rfl rfl)
    repeat' refine congrArg₂ (· + ·) ?_ ?_
    iterate 4 exact congrArg₂ (· * ·) (load_w _ _ _ _ _) (load_firstcov32 _ _ _ _ _ _ _ _ _ _ _)
    iterate 27 exact congrArg₂ (· * ·) (load_w _ _ _ _ _) (load_firstcov40 _ _ _ _ _ _ _ _ _ _ _)
  · refine Eq.trans (congrArg₂ (· + ·) (load_b arg5 harg5 x4 l) ?_) (first_group x0 x1 x3 x4 192 r l rfl rfl)
    repeat' refine congrArg₂ (· + ·) ?_ ?_
    iterate 4 exact congrArg₂ (· * ·) (load_w _ _ _ _ _) (load_firstcov32 _ _ _ _ _ _ _ _ _ _ _)
    iterate 27 exact congrArg₂ (· * ·) (load_w _ _ _ _ _) (load_firstcov40 _ _ _ _ _ _ _ _ _ _ _)
  · refine Eq.trans (congrArg₂ (· + ·) (load_b arg5 harg5 x4 l) ?_) (first_group x0 x1 x3 x4 160 r l rfl rfl)
    repeat' refine congrArg₂ (· + ·) ?_ ?_
    iterate 4 exact congrArg₂ (· * ·) (load_w _ _ _ _ _) (load_firstcov32 _ _ _ _ _ _ _ _ _ _ _)
    iterate 27 exact congrArg₂ (· * ·) (load_w _ _ _ _ _) (load_firstcov40 _ _ _ _ _ _ _ _ _ _ _)
  · refine Eq.trans (congrArg₂ (· + ·) (load_b arg5 harg5 x4 l) ?_) (first_group x0 x1 x3 x4 128 r l rfl rfl)
    repeat' refine congrArg₂ (· + ·) ?_ ?_
    iterate 4 exact congrArg₂ (· * ·) (load_w _ _ _ _ _) (load_firstcov32 _ _ _ _ _ _ _ _ _ _ _)
    iterate 27 exact congrArg₂ (· * ·) (load_w _ _ _ _ _) (load_firstcov40 _ _ _ _ _ _ _ _ _ _ _)
  · refine Eq.trans (congrArg₂ (· + ·) (load_b arg5 harg5 x4 l) ?_) (first_group x0 x1 x3 x4 96 r l rfl rfl)
    repeat' refine congrArg₂ (· + ·) ?_ ?_
    iterate 4 exact congrArg₂ (· * ·) (load_w _ _ _ _ _) (load_firstcov32 _ _ _ _ _ _ _ _ _ _ _)
    iterate 27 exact congrArg₂ (· * ·) (load_w _ _ _ _ _) (load_firstcov40 _ _ _ _ _ _ _ _ _ _ _)
  · refine Eq.trans (congrArg₂ (· + ·) (load_b arg5 harg5 x4 l) ?_) (first_group x0 x1 x3 x4 64 r l rfl rfl)
    repeat' refine congrArg₂ (· + ·) ?_ ?_
    iterate 4 exact congrArg₂ (· * ·) (load_w _ _ _ _ _) (load_firstcov32 _ _ _ _ _ _ _ _ _ _ _)
    iterate 27 exact congrArg₂ (· * ·) (load_w _ _ _ _ _) (load_firstcov40 _ _ _ _ _ _ _ _ _ _ _)
  · refine Eq.trans (congrArg₂ (· + ·) (load_b arg5 harg5 x4 l) ?_) (first_group x0 x1 x3 x4 32 r l rfl rfl)
    repeat' refine congrArg₂ (· + ·) ?_ ?_
    iterate 4 exact congrArg₂ (· * ·) (load_w _ _ _ _ _) (load_firstcov32 _ _ _ _ _ _ _ _ _ _ _)
    iterate 27 exact congrArg₂ (· * ·) (load_w _ _ _ _ _) (load_firstcov40 _ _ _ _ _ _ _ _ _ _ _)
  · refine Eq.trans (congrArg₂ (· + ·) (load_b arg5 harg5 x4 l) ?_) (first_group x0 x1 x3 x4 0 r l rfl rfl)
    repeat' refine congrArg₂ (· + ·) ?_ ?_
    iterate 4 exact congrArg₂ (· * ·) (load_w _ _ _ _ _) (load_firstcov32 _ _ _ _ _ _ _ _ _ _ _)
    iterate 27 exact congrArg₂ (· * ·) (load_w _ _ _ _ _) (load_firstcov40 _ _ _ _ _ _ _ _ _ _ _)

/-- The first output, through any view of its shape. -/
theorem first_read {sg : RefSig} {κ : Kind} {sp : Space} (v : View sg κ sp S256x512 .f32) (f : v.ty.Contents (Elt Ideal)) (p : Fin 256) (q : Fin 512) :
    v.read (Elt Ideal) (v.writes (Elt Ideal) f (kernelRun0_A c i arg1 harg1 arg2 harg2 arg3 harg3 arg4 harg4 arg5 harg5 arg6 harg6 arg7 harg7 arg8 harg8 arg9 harg9 arg10 harg10 arg11 harg11 hc0 x0 x1 x2 x3 x4 x5 x6 x7).1) (ix2 p q) = firstTaps x0 x1 x3 x4 p.val q := by
  rw [View.read_writes_eq_canon _ _ _ (cover0_A_8 c i arg1 harg1 arg2 harg2 arg3 harg3 arg4 harg4 arg5 harg5 arg6 harg6 arg7 harg7 arg8 harg8 arg9 harg9 arg10 harg10 arg11 harg11 hc0 x0 x1 x2 x3 x4 x5 x6 x7)]
  exact View.canon_apply_of_pieces (fun y => firstTaps x0 x1 x3 x4 (y 0).val (y 1)) _ (first_piece c i arg1 harg1 arg2 harg2 arg3 harg3 arg4 harg4 arg5 harg5 arg6 harg6 arg7 harg7 arg8 harg8 arg9 harg9 arg10 harg10 arg11 harg11 x0 x1 x2 x3 x4 x5 x6 x7 hc0) _ (cover0_A_8 c i arg1 harg1 arg2 harg2 arg3 harg3 arg4 harg4 arg5 harg5 arg6 harg6 arg7 harg7 arg8 harg8 arg9 harg9 arg10 harg10 arg11 harg11 hc0 x0 x1 x2 x3 x4 x5 x6 x7 (ix2 p q))

theorem first_zc (p : Fin 256) (q : Fin 512) : out0_A_8 c i arg1 harg1 arg2 harg2 arg3 harg3 arg4 harg4 arg5 harg5 arg6 harg6 arg7 harg7 arg8 harg8 arg9 harg9 arg10 harg10 arg11 harg11 hc0 x0 x1 x2 x3 x4 x5 x6 x7 (ix2 p q) = firstTaps x0 x1 x3 x4 p.val q :=
  first_read c i arg1 harg1 arg2 harg2 arg3 harg3 arg4 harg4 arg5 harg5 arg6 harg6 arg7 harg7 arg8 harg8 arg9 harg9 arg10 harg10 arg11 harg11 x0 x1 x2 x3 x4 x5 x6 x7 hc0 _ _ p q

/-- The rows that the buffer hands to the next point. -/
theorem first_rows (p : Fin 288) (hp : p.val < 32) (q : Fin 512) : sout0_A_0 c i arg1 harg1 arg2 harg2 arg3 harg3 arg4 harg4 arg5 harg5 arg6 harg6 arg7 harg7 arg8 harg8 arg9 harg9 arg10 harg10 arg11 harg11 hc0 x0 x1 x2 x3 x4 x5 x6 x7 (ix2 p q) = first x0 x1 (p.val + 256) q := by
  unfold sout0_A_0 kernelRun0_A
  dsimp only
  refine (View.read_writes_cons_rows_of_mem _ _ inb_S288x512_S32x512_0_0 _ _ (ix2 p q) (ix2 ⟨p.val, hp⟩ q) rfl (Nat.zero_add _).symm rfl).trans ?_
  pointwise [k0_pay93]
  sl_unfold_words
  exact load_firstcov32 _ _ _ _ _ _ _ _ _ ⟨p.val, hp⟩ q

end First

section Later

variable (xs0 : Vec Ideal S288x512 .f32) (hc0 : ¬cond0_0 i)

/-- The buffer at a later point: the rows that the point before left, then the block's. -/
abbrev later : ℕ → Fin 512 → EReal := buf (rowsOf xs0) (k0_pay3 x0 x1)

theorem later_written : kernelRun0_B.sl.HS0_1 c arg1 harg1 arg2 harg2 x0 x1
    = [⟨Rect.unit ![32, 0] S256x512.size inb_S288x512_S256x512_32_0, k0_pay3 x0 x1⟩] := by
  unfold kernelRun0_B.sl.HS0_1
  rw [View.readAt_eq_ld, View.readAt_eq_ld, harg1.read_unread, harg2.read_unread, View.ld_unit_zero Reals.zero2, View.ld_unit_zero Reals.zero2]

theorem load_latercov32 {o : ℕ} (ho : 32 ≤ o) (inb) (r : Fin 32) (l : Fin 512) :
    arg11.view.readCov (kernelRun0_B.sl.HS0_1 c arg1 harg1 arg2 harg2 x0 x1) (Rect.unit (s := S288x512) ![o, 0] S32x512.size inb).toLoadRect (ix2 r l)
    = later x0 x1 xs0 (r.val + o) l := by
  refine Eq.trans ?_ (load_buf arg11.view arg11.view.junk (k0_pay3 x0 x1) inb_S288x512_S256x512_32_0 [] (rowsOf xs0) (fun _ _ h1 h2 => absurd (Nat.lt_of_lt_of_le h1 (Nat.le_trans ho h2)) (Nat.lt_irrefl _)) inb r l)
  rw [later_written c arg1 harg1 arg2 harg2 x0 x1]
  rfl

theorem load_latercov40 {o : ℕ} (ho : 32 ≤ o) (inb) {s r : ℕ} (h : s + r < 40) (l : Fin 512) :
    arg11.view.readCov (kernelRun0_B.sl.HS0_1 c arg1 harg1 arg2 harg2 x0 x1) (Rect.unit (s := S288x512) ![o, 0] S40x512.size inb).toLoadRect (ix2 ⟨s + r, h⟩ l)
    = later x0 x1 xs0 (r + (s + o)) l := by
  rw [show r + (s + o) = s + r + o by omega]
  refine Eq.trans ?_ (load_buf arg11.view arg11.view.junk (k0_pay3 x0 x1) inb_S288x512_S256x512_32_0 [] (rowsOf xs0) (fun _ _ h1 h2 => absurd (Nat.lt_of_lt_of_le h1 (Nat.le_trans ho h2)) (Nat.lt_irrefl _)) inb ⟨s + r, h⟩ l)
  rw [later_written c arg1 harg1 arg2 harg2 x0 x1]
  rfl

theorem load_laterold32 {o : ℕ} (inb) (r : Fin 32) (l : Fin 512) :
    View.readAt (Elt Ideal) arg11.view (Rect.unit (s := S288x512) ![o, 0] S32x512.size inb).toLoadRect (arg11.view.writes (Elt Ideal) (harg11.unread xs0) (kernelRun0_B.sl.HS0_1 c arg1 harg1 arg2 harg2 x0 x1)) (ix2 r l)
    = later x0 x1 xs0 (r.val + o) l := by
  refine Eq.trans ?_ (load_buf arg11.view (harg11.unread xs0) (k0_pay3 x0 x1) inb_S288x512_S256x512_32_0 [] (rowsOf xs0) (fun r q _ _ => (congrFun (harg11.read_unread xs0) _).trans (by rw [rowsOf, dif_pos r.isLt])) inb r l)
  rw [later_written c arg1 harg1 arg2 harg2 x0 x1]

theorem load_laterold40 {o : ℕ} (inb) {s r : ℕ} (h : s + r < 40) (l : Fin 512) :
    View.readAt (Elt Ideal) arg11.view (Rect.unit (s := S288x512) ![o, 0] S40x512.size inb).toLoadRect (arg11.view.writes (Elt Ideal) (harg11.unread xs0) (kernelRun0_B.sl.HS0_1 c arg1 harg1 arg2 harg2 x0 x1)) (ix2 ⟨s + r, h⟩ l)
    = later x0 x1 xs0 (r + (s + o)) l := by
  rw [show r + (s + o) = s + r + o by omega]
  refine Eq.trans ?_ (load_buf arg11.view (harg11.unread xs0) (k0_pay3 x0 x1) inb_S288x512_S256x512_32_0 [] (rowsOf xs0) (fun r q _ _ => (congrFun (harg11.read_unread xs0) _).trans (by rw [rowsOf, dif_pos r.isLt])) inb ⟨s + r, h⟩ l)
  rw [later_written c arg1 harg1 arg2 harg2 x0 x1]

/-- The taps over that buffer. -/
abbrev laterTaps (p : ℕ) (q : Fin 512) : EReal := taps x3 (fun q => x4 (ix2 0 q)) (later x0 x1 xs0) p q

/-- The taps of a group of rows, in the order in which they are added. -/
theorem later_group (o : ℕ) (r : Fin 32) (l : Fin 512) {p : ℕ} {q : Fin 512} (hp : p = o + 1 * r.val) (hq : q.val = 0 + 1 * l.val) :
    x4 (ix2 0 l) + ((x3 (ix2 6 l) * later x0 x1 xs0 (r.val + (o + 8)) l + x3 (ix2 14 l) * later x0 x1 xs0 (r.val + (o + 16)) l + x3 (ix2 22 l) * later x0 x1 xs0 (r.val + (o + 24)) l + x3 (ix2 30 l) * later x0 x1 xs0 (r.val + (o + 32)) l) + (x3 (ix2 7 l) * later x0 x1 xs0 (r.val + (o + 9)) l + x3 (ix2 15 l) * later x0 x1 xs0 (r.val + (o + 17)) l + x3 (ix2 23 l) * later x0 x1 xs0 (r.val + (o + 25)) l) + (x3 (ix2 0 l) * later x0 x1 xs0 (r.val + (o + 2)) l + x3 (ix2 8 l) * later x0 x1 xs0 (r.val + (o + 10)) l + x3 (ix2 16 l) * later x0 x1 xs0 (r.val + (o + 18)) l + x3 (ix2 24 l) * later x0 x1 xs0 (r.val + (o + 26)) l) + (x3 (ix2 1 l) * later x0 x1 xs0 (r.val + (o + 3)) l + x3 (ix2 9 l) * later x0 x1 xs0 (r.val + (o + 11)) l + x3 (ix2 17 l) * later x0 x1 xs0 (r.val + (o + 19)) l + x3 (ix2 25 l) * later x0 x1 xs0 (r.val + (o + 27)) l) + (x3 (ix2 2 l) * later x0 x1 xs0 (r.val + (o + 4)) l + x3 (ix2 10 l) * later x0 x1 xs0 (r.val + (o + 12)) l + x3 (ix2 18 l) * later x0 x1 xs0 (r.val + (o + 20)) l + x3 (ix2 26 l) * later x0 x1 xs0 (r.val + (o + 28)) l) + (x3 (ix2 3 l) * later x0 x1 xs0 (r.val + (o + 5)) l + x3 (ix2 11 l) * later x0 x1 xs0 (r.val + (o + 13)) l + x3 (ix2 19 l) * later x0 x1 xs0 (r.val + (o + 21)) l + x3 (ix2 27 l) * later x0 x1 xs0 (r.val + (o + 29)) l) + (x3 (ix2 4 l) * later x0 x1 xs0 (r.val + (o + 6)) l + x3 (ix2 12 l) * later x0 x1 xs0 (r.val + (o + 14)) l + x3 (ix2 20 l) * later x0 x1 xs0 (r.val + (o + 22)) l + x3 (ix2 28 l) * later x0 x1 xs0 (r.val + (o + 30)) l) + (x3 (ix2 5 l) * later x0 x1 xs0 (r.val + (o + 7)) l + x3 (ix2 13 l) * later x0 x1 xs0 (r.val + (o + 15)) l + x3 (ix2 21 l) * later x0 x1 xs0 (r.val + (o + 23)) l + x3 (ix2 29 l) * later x0 x1 xs0 (r.val + (o + 31)) l)) = laterTaps x0 x1 x3 x4 xs0 p q :=
  (congrArg (x4 (ix2 0 l) + ·) (Conv.sum_phases fun k => x3 (ix2 k l) * later x0 x1 xs0 (r.val + (o + (k.val + 2))) l)).trans
    (Conv.taps_at x3 (fun q => x4 (ix2 0 q)) _ r.val l hp hq).symm

set_option maxHeartbeats 800000 in
theorem later_piece (pc) (hpc : pc ∈ (kernelRun0_B c i arg1 harg1 arg2 harg2 arg3 harg3 arg4 harg4 arg5 harg5 arg6 harg6 arg7 harg7 arg8 harg8 arg9 harg9 arg10 harg10 arg11 harg11 hc0 x0 x1 x2 x3 x4 x5 x6 x7 xs0).1) (x) : pc.2 x = laterTaps x0 x1 x3 x4 xs0 (pc.1.emb x 0).val (pc.1.emb x 1) := by
  unfold kernelRun0_B at hpc
  dsimp only at hpc
  unfold kernelRun0_B.sl.H8_8 at hpc
  simp only [List.mem_cons, List.not_mem_nil, or_false] at hpc
  rcases hpc with rfl | rfl | rfl | rfl | rfl | rfl | rfl | rfl <;> obtain ⟨r, l, rfl⟩ := Norm.place2 x
  all_goals simp only [kernelRun0_B.sl.r_87, kernelRun0_B.sl.r_95, kernelRun0_B.sl.r_93, kernelRun0_B.sl.r_90, kernelRun0_B.sl.r_88, kernelRun0_B.sl.v1181, kernelRun0_B.sl.v1185, kernelRun0_B.sl.v1190, kernelRun0_B.sl.v1195, kernelRun0_B.sl.r_89, kernelRun0_B.sl.v1200, kernelRun0_B.sl.v1204, kernelRun0_B.sl.v1209, kernelRun0_B.sl.v1216, kernelRun0_B.sl.r_91, kernelRun0_B.sl.r_92, kernelRun0_B.sl.r_94, kernelRun0_B.sl.r_96, kernelRun0_B.sl.r_97, kernelRun0_B.sl.r_76, kernelRun0_B.sl.r_84, kernelRun0_B.sl.r_83, kernelRun0_B.sl.r_80, kernelRun0_B.sl.r_77, kernelRun0_B.sl.v1015, kernelRun0_B.sl.v1019, kernelRun0_B.sl.v1024, kernelRun0_B.sl.v1029, kernelRun0_B.sl.r_78, kernelRun0_B.sl.v1034, kernelRun0_B.sl.v1038, kernelRun0_B.sl.r_79, kernelRun0_B.sl.v1043, kernelRun0_B.sl.v1050, kernelRun0_B.sl.r_81, kernelRun0_B.sl.r_82, kernelRun0_B.sl.r_85, kernelRun0_B.sl.r_86, kernelRun0_B.sl.r_63, kernelRun0_B.sl.r_73, kernelRun0_B.sl.r_70, kernelRun0_B.sl.r_67, kernelRun0_B.sl.r_64, kernelRun0_B.sl.v849, kernelRun0_B.sl.v853, kernelRun0_B.sl.v858, kernelRun0_B.sl.v863, kernelRun0_B.sl.r_65, kernelRun0_B.sl.v868, kernelRun0_B.sl.r_66, kernelRun0_B.sl.v872, kernelRun0_B.sl.v877, kernelRun0_B.sl.v884, kernelRun0_B.sl.r_68, kernelRun0_B.sl.r_69, kernelRun0_B.sl.r_71, kernelRun0_B.sl.r_72, kernelRun0_B.sl.r_74, kernelRun0_B.sl.r_75, kernelRun0_B.sl.r_61, kernelRun0_B.sl.r_58, kernelRun0_B.sl.r_55, kernelRun0_B.sl.r_53, kernelRun0_B.sl.r_50, kernelRun0_B.sl.v683, kernelRun0_B.sl.v687, kernelRun0_B.sl.v692, kernelRun0_B.sl.v697, kernelRun0_B.sl.r_51, kernelRun0_B.sl.v702, kernelRun0_B.sl.r_52, kernelRun0_B.sl.v706, kernelRun0_B.sl.v711, kernelRun0_B.sl.v718, kernelRun0_B.sl.r_54, kernelRun0_B.sl.r_56, kernelRun0_B.sl.r_57, kernelRun0_B.sl.r_59, kernelRun0_B.sl.r_60, kernelRun0_B.sl.r_62, kernelRun0_B.sl.r_49, kernelRun0_B.sl.r_37, kernelRun0_B.sl.r_46, kernelRun0_B.sl.r_44, kernelRun0_B.sl.r_41, kernelRun0_B.sl.r_40, kernelRun0_B.sl.r_38, kernelRun0_B.sl.v517, kernelRun0_B.sl.v521, kernelRun0_B.sl.v526, kernelRun0_B.sl.v531, kernelRun0_B.sl.r_39, kernelRun0_B.sl.v536, kernelRun0_B.sl.v540, kernelRun0_B.sl.v545, kernelRun0_B.sl.v552, kernelRun0_B.sl.r_42, kernelRun0_B.sl.r_43, kernelRun0_B.sl.r_45, kernelRun0_B.sl.r_47, kernelRun0_B.sl.r_48, kernelRun0_B.sl.r_26, kernelRun0_B.sl.r_35, kernelRun0_B.sl.r_33, kernelRun0_B.sl.r_31, kernelRun0_B.sl.r_28, kernelRun0_B.sl.r_27, kernelRun0_B.sl.v351, kernelRun0_B.sl.v355, kernelRun0_B.sl.v360, kernelRun0_B.sl.v365, kernelRun0_B.sl.v370, kernelRun0_B.sl.v374, kernelRun0_B.sl.v379, kernelRun0_B.sl.r_29, kernelRun0_B.sl.v386, kernelRun0_B.sl.r_30, kernelRun0_B.sl.r_32, kernelRun0_B.sl.r_34, kernelRun0_B.sl.r_36, kernelRun0_B.sl.r_14, kernelRun0_B.sl.r_23, kernelRun0_B.sl.r_22, kernelRun0_B.sl.r_19, kernelRun0_B.sl.r_17, kernelRun0_B.sl.r_15, kernelRun0_B.sl.v185, kernelRun0_B.sl.v189, kernelRun0_B.sl.v194, kernelRun0_B.sl.r_16, kernelRun0_B.sl.v199, kernelRun0_B.sl.v204, kernelRun0_B.sl.v208, kernelRun0_B.sl.v213, kernelRun0_B.sl.r_18, kernelRun0_B.sl.v220, kernelRun0_B.sl.r_20, kernelRun0_B.sl.r_21, kernelRun0_B.sl.r_24, kernelRun0_B.sl.r_25, kernelRun0_B.sl.r, kernelRun0_B.sl.r_12, kernelRun0_B.sl.r_8, kernelRun0_B.sl.r_6, kernelRun0_B.sl.r_2, kernelRun0_B.sl.r_1, kernelRun0_B.sl.v33, kernelRun0_B.sl.r_3, kernelRun0_B.sl.r_4, kernelRun0_B.sl.r_5, kernelRun0_B.sl.r_7, kernelRun0_B.sl.r_9, kernelRun0_B.sl.r_10, kernelRun0_B.sl.r_11, kernelRun0_B.sl.r_13]
  all_goals pointwise [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92]
  · refine Eq.trans (congrArg₂ (· + ·) (load_b arg5 harg5 x4 l) ?_) (later_group x0 x1 x3 x4 xs0 224 r l rfl rfl)
    repeat' refine congrArg₂ (· + ·) ?_ ?_
    iterate 4 exact congrArg₂ (· * ·) (load_w _ _ _ _ _) (load_latercov32 _ _ _ _ _ _ _ _ _ (by decide) _ _ _)
    iterate 27 exact congrArg₂ (· * ·) (load_w _ _ _ _ _) (load_latercov40 _ _ _ _ _ _ _ _ _ (by decide) _ _ _)
  · refine Eq.trans (congrArg₂ (· + ·) (load_b arg5 harg5 x4 l) ?_) (later_group x0 x1 x3 x4 xs0 192 r l rfl rfl)
    repeat' refine congrArg₂ (· + ·) ?_ ?_
    iterate 4 exact congrArg₂ (· * ·) (load_w _ _ _ _ _) (load_latercov32 _ _ _ _ _ _ _ _ _ (by decide) _ _ _)
    iterate 27 exact congrArg₂ (· * ·) (load_w _ _ _ _ _) (load_latercov40 _ _ _ _ _ _ _ _ _ (by decide) _ _ _)
  · refine Eq.trans (congrArg₂ (· + ·) (load_b arg5 harg5 x4 l) ?_) (later_group x0 x1 x3 x4 xs0 160 r l rfl rfl)
    repeat' refine congrArg₂ (· + ·) ?_ ?_
    iterate 4 exact congrArg₂ (· * ·) (load_w _ _ _ _ _) (load_latercov32 _ _ _ _ _ _ _ _ _ (by decide) _ _ _)
    iterate 27 exact congrArg₂ (· * ·) (load_w _ _ _ _ _) (load_latercov40 _ _ _ _ _ _ _ _ _ (by decide) _ _ _)
  · refine Eq.trans (congrArg₂ (· + ·) (load_b arg5 harg5 x4 l) ?_) (later_group x0 x1 x3 x4 xs0 128 r l rfl rfl)
    repeat' refine congrArg₂ (· + ·) ?_ ?_
    iterate 4 exact congrArg₂ (· * ·) (load_w _ _ _ _ _) (load_latercov32 _ _ _ _ _ _ _ _ _ (by decide) _ _ _)
    iterate 27 exact congrArg₂ (· * ·) (load_w _ _ _ _ _) (load_latercov40 _ _ _ _ _ _ _ _ _ (by decide) _ _ _)
  · refine Eq.trans (congrArg₂ (· + ·) (load_b arg5 harg5 x4 l) ?_) (later_group x0 x1 x3 x4 xs0 96 r l rfl rfl)
    repeat' refine congrArg₂ (· + ·) ?_ ?_
    iterate 4 exact congrArg₂ (· * ·) (load_w _ _ _ _ _) (load_latercov32 _ _ _ _ _ _ _ _ _ (by decide) _ _ _)
    iterate 27 exact congrArg₂ (· * ·) (load_w _ _ _ _ _) (load_latercov40 _ _ _ _ _ _ _ _ _ (by decide) _ _ _)
  · refine Eq.trans (congrArg₂ (· + ·) (load_b arg5 harg5 x4 l) ?_) (later_group x0 x1 x3 x4 xs0 64 r l rfl rfl)
    repeat' refine congrArg₂ (· + ·) ?_ ?_
    iterate 4 exact congrArg₂ (· * ·) (load_w _ _ _ _ _) (load_latercov32 _ _ _ _ _ _ _ _ _ (by decide) _ _ _)
    iterate 27 exact congrArg₂ (· * ·) (load_w _ _ _ _ _) (load_latercov40 _ _ _ _ _ _ _ _ _ (by decide) _ _ _)
  · refine Eq.trans (congrArg₂ (· + ·) (load_b arg5 harg5 x4 l) ?_) (later_group x0 x1 x3 x4 xs0 32 r l rfl rfl)
    repeat' refine congrArg₂ (· + ·) ?_ ?_
    iterate 4 exact congrArg₂ (· * ·) (load_w _ _ _ _ _) (load_latercov32 _ _ _ _ _ _ _ _ _ (by decide) _ _ _)
    iterate 27 exact congrArg₂ (· * ·) (load_w _ _ _ _ _) (load_latercov40 _ _ _ _ _ _ _ _ _ (by decide) _ _ _)
  · refine Eq.trans (congrArg₂ (· + ·) (load_b arg5 harg5 x4 l) ?_) (later_group x0 x1 x3 x4 xs0 0 r l rfl rfl)
    repeat' refine congrArg₂ (· + ·) ?_ ?_
    iterate 3 exact congrArg₂ (· * ·) (load_w _ _ _ _ _) (load_laterold32 _ _ _ _ _ _ _ _ _ _ _ _ _)
    exact congrArg₂ (· * ·) (load_w _ _ _ _ _) (load_latercov32 _ _ _ _ _ _ _ _ _ (by decide) _ _ _)
    iterate 27 exact congrArg₂ (· * ·) (load_w _ _ _ _ _) (load_laterold40 _ _ _ _ _ _ _ _ _ _ _ _ _)

/-- The first output, through any view of its shape. -/
theorem later_read {sg : RefSig} {κ : Kind} {sp : Space} (v : View sg κ sp S256x512 .f32) (f : v.ty.Contents (Elt Ideal)) (p : Fin 256) (q : Fin 512) :
    v.read (Elt Ideal) (v.writes (Elt Ideal) f (kernelRun0_B c i arg1 harg1 arg2 harg2 arg3 harg3 arg4 harg4 arg5 harg5 arg6 harg6 arg7 harg7 arg8 harg8 arg9 harg9 arg10 harg10 arg11 harg11 hc0 x0 x1 x2 x3 x4 x5 x6 x7 xs0).1) (ix2 p q) = laterTaps x0 x1 x3 x4 xs0 p.val q := by
  rw [View.read_writes_eq_canon _ _ _ (cover0_B_8 c i arg1 harg1 arg2 harg2 arg3 harg3 arg4 harg4 arg5 harg5 arg6 harg6 arg7 harg7 arg8 harg8 arg9 harg9 arg10 harg10 arg11 harg11 hc0 x0 x1 x2 x3 x4 x5 x6 x7 xs0)]
  exact View.canon_apply_of_pieces (fun y => laterTaps x0 x1 x3 x4 xs0 (y 0).val (y 1)) _ (later_piece c i arg1 harg1 arg2 harg2 arg3 harg3 arg4 harg4 arg5 harg5 arg6 harg6 arg7 harg7 arg8 harg8 arg9 harg9 arg10 harg10 arg11 harg11 x0 x1 x2 x3 x4 x5 x6 x7 xs0 hc0) _ (cover0_B_8 c i arg1 harg1 arg2 harg2 arg3 harg3 arg4 harg4 arg5 harg5 arg6 harg6 arg7 harg7 arg8 harg8 arg9 harg9 arg10 harg10 arg11 harg11 hc0 x0 x1 x2 x3 x4 x5 x6 x7 xs0 (ix2 p q))

theorem later_zc (p : Fin 256) (q : Fin 512) : out0_B_8 c i arg1 harg1 arg2 harg2 arg3 harg3 arg4 harg4 arg5 harg5 arg6 harg6 arg7 harg7 arg8 harg8 arg9 harg9 arg10 harg10 arg11 harg11 hc0 x0 x1 x2 x3 x4 x5 x6 x7 xs0 (ix2 p q) = laterTaps x0 x1 x3 x4 xs0 p.val q :=
  later_read c i arg1 harg1 arg2 harg2 arg3 harg3 arg4 harg4 arg5 harg5 arg6 harg6 arg7 harg7 arg8 harg8 arg9 harg9 arg10 harg10 arg11 harg11 x0 x1 x2 x3 x4 x5 x6 x7 xs0 hc0 _ _ p q

/-- The rows that the buffer hands to the next point. -/
theorem later_rows (p : Fin 288) (hp : p.val < 32) (q : Fin 512) : sout0_B_0 c i arg1 harg1 arg2 harg2 arg3 harg3 arg4 harg4 arg5 harg5 arg6 harg6 arg7 harg7 arg8 harg8 arg9 harg9 arg10 harg10 arg11 harg11 hc0 x0 x1 x2 x3 x4 x5 x6 x7 xs0 (ix2 p q) = later x0 x1 xs0 (p.val + 256) q := by
  unfold sout0_B_0 kernelRun0_B
  dsimp only
  refine (View.read_writes_cons_rows_of_mem _ _ inb_S288x512_S32x512_0_0 _ _ (ix2 p q) (ix2 ⟨p.val, hp⟩ q) rfl (Nat.zero_add _).symm rfl).trans ?_
  pointwise [k0_pay93]
  sl_unfold_words
  exact load_latercov32 _ _ _ _ _ _ _ _ _ (by decide) _ ⟨p.val, hp⟩ q

end Later

end Block

end Cert.ConvFwd

end
-- ==== Proof.ConvFwdHead.lean ====
/-
  The second output of a grid point of the convolution module's forward call: its left half is the recurrence's block as it came, its right half
  the activated head norm of the first output, with means taken by two products with the averaging matrix.
-/
module

public import proofs.«01_k».proof.Proof.ConvTaps

@[expose] public section

noncomputable section

open Idealize.ShloMosaic Idealize.ShloMosaic.TcCoe Idealize.SL.Sem

namespace Cert.ConvFwd

open Cert.Kernel9Ideal Cert.Kernel9Ideal.Gen
open Cert.Conv

theorem pay94_apply (v : Vec Ideal S256x512 .f32) (a : Vec Ideal S512x512 .bf16) (g h : Vec Ideal S1x512 .f32) (p : Fin 256) (q : Fin 512) :
    k0_pay94 v a g h (ix2 p q) = headNormBy (fun k l => a (ix2 k l)) (fun k => v (ix2 p k)) (fun k => g (ix2 0 k)) (fun k => h (ix2 0 k)) q := by
  pointwise [k0_pay94]
  rfl

/-- The stored half. -/
theorem pay1_apply (v : Vec Ideal S256x512 .f32) (a : Vec Ideal S512x512 .bf16) (g h : Vec Ideal S1x512 .f32) (p : Fin 256) (q : Fin 512) :
    k0_pay1 (k0_pay94 v a g h) (k0_pay96 v a g h) (Scalar.ofBits .f32 0x3F800000#32 : Ideal .f32) (ix2 p q)
      = k0_pay94 v a g h (ix2 p q) * Gate.sigma (k0_pay94 v a g h (ix2 p q)) := by
  pointwise [k0_pay1, k0_pay96]
  rfl

/-- The two halves of the output. -/
def halves (x2 : Vec Ideal S256x512 .bf16) (z : ℕ → Fin 512 → EReal) (a : Vec Ideal S512x512 .bf16) (g h : Vec Ideal S1x512 .f32) (p : Fin 256) (n : Fin 1024) : EReal :=
  if hn : n.val < 512 then x2 (ix2 p ⟨n.val, hn⟩) else
    headNormBy (fun k l => a (ix2 k l)) (z p.val) (fun k => g (ix2 0 k)) (fun k => h (ix2 0 k)) ⟨n.val - 512, by omega⟩
      * Gate.sigma (headNormBy (fun k l => a (ix2 k l)) (z p.val) (fun k => g (ix2 0 k)) (fun k => h (ix2 0 k)) ⟨n.val - 512, by omega⟩)

theorem halves_left (x2 : Vec Ideal S256x512 .bf16) (z : ℕ → Fin 512 → EReal) (a : Vec Ideal S512x512 .bf16) (g h : Vec Ideal S1x512 .f32) {p r : Fin 256} {n : Fin 1024} {l : Fin 512}
    (hp : p.val = 0 + 1 * r.val) (hn : n.val = 0 + 1 * l.val) : x2 (ix2 r l) = halves x2 z a g h p n := by
  obtain rfl : p = r := Fin.ext (by omega)
  have := l.isLt
  rw [halves, dif_pos (by omega)]
  exact congrArg x2 (congrArg (ix2 p) (Fin.ext (by show l.val = n.val; omega)))

theorem halves_right (x2 : Vec Ideal S256x512 .bf16) (z : ℕ → Fin 512 → EReal) (a : Vec Ideal S512x512 .bf16) (g h : Vec Ideal S1x512 .f32) (v : Vec Ideal S256x512 .f32)
    (hv : ∀ p q, v (ix2 p q) = z p.val q) {p r : Fin 256} {n : Fin 1024} {l : Fin 512} (hp : p.val = 0 + 1 * r.val) (hn : n.val = 512 + 1 * l.val) :
    k0_pay1 (k0_pay94 v a g h) (k0_pay96 v a g h) (Scalar.ofBits .f32 0x3F800000#32 : Ideal .f32) (ix2 r l) = halves x2 z a g h p n := by
  obtain rfl : p = r := Fin.ext (by omega)
  rw [pay1_apply, pay94_apply, halves, dif_neg (by omega)]
  simp only [hv]
  rw [show (⟨n.val - 512, by omega⟩ : Fin 512) = l from Fin.ext (by show n.val - 512 = l.val; omega)]

section Block

variable (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .bf16) (harg3 : arg3.IsWhole) (arg4 : Memref sig .tc .vmem S31x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S256x512 .f32) (harg9 : arg9.IsWhole) (arg10 : Memref sig .tc .vmem S256x1024 .bf16) (harg10 : arg10.IsWhole) (arg11 : Memref sig .tc .vmem S288x512 .f32) (harg11 : arg11.IsWhole)
  (x0 x1 : Vec Ideal S256x512 .f32) (x2 : Vec Ideal S256x512 .bf16) (x3 : Vec Ideal S31x512 .f32) (x4 x5 x6 : Vec Ideal S1x512 .f32) (x7 : Vec Ideal S512x512 .bf16)

theorem first_zc_row (hc0 : cond0_0 i) (p : Fin 256) (q : Fin 512) :
    arg9.view.readCov (kernelRun0_A c i arg1 harg1 arg2 harg2 arg3 harg3 arg4 harg4 arg5 harg5 arg6 harg6 arg7 harg7 arg8 harg8 arg9 harg9 arg10 harg10 arg11 harg11 hc0 x0 x1 x2 x3 x4 x5 x6 x7).1 (Rect.unit (s := S256x512) ![0, 0] S256x512.size inb_S256x512_S256x512_0_0).toLoadRect (ix2 p q) = firstTaps x0 x1 x3 x4 p.val q := by
  refine Eq.trans ?_ (first_read c i arg1 harg1 arg2 harg2 arg3 harg3 arg4 harg4 arg5 harg5 arg6 harg6 arg7 harg7 arg8 harg8 arg9 harg9 arg10 harg10 arg11 harg11 x0 x1 x2 x3 x4 x5 x6 x7 hc0 arg9.view arg9.view.junk p q)
  unfold View.readCov
  rw [View.readAt_apply]
  refine congrArg _ (funext fun a => Fin.ext ?_)
  fin_cases a
  · show 0 + 1 * p.val = p.val; omega
  · show 0 + 1 * q.val = q.val; omega

theorem first_half (hc0 : cond0_0 i) (pc) (hpc : pc ∈ (kernelRun0_A c i arg1 harg1 arg2 harg2 arg3 harg3 arg4 harg4 arg5 harg5 arg6 harg6 arg7 harg7 arg8 harg8 arg9 harg9 arg10 harg10 arg11 harg11 hc0 x0 x1 x2 x3 x4 x5 x6 x7).2.1) (x) :
    pc.2 x = halves x2 (firstTaps x0 x1 x3 x4) x7 x5 x6 (pc.1.emb x 0) (pc.1.emb x 1) := by
  unfold kernelRun0_A at hpc
  dsimp only at hpc
  simp only [List.mem_cons, List.not_mem_nil, or_false] at hpc
  rcases hpc with rfl | rfl <;> obtain ⟨r, l, rfl⟩ := Norm.place2 x
  · unfold kernelRun0_A.sl.r_96 kernelRun0_A.sl.r_97 kernelRun0_A.sl.cst_996
    rw [View.readAt_eq_ld, View.readAt_eq_ld, View.readAt_eq_ld, harg6.read_unread, harg7.read_unread, harg8.read_unread, View.ld_unit_zero Reals.zero2,
      View.ld_unit_zero Reals.zero2, View.ld_unit_zero Reals.zero2]
    exact halves_right x2 _ x7 x5 x6 _ (first_zc_row c i arg1 harg1 arg2 harg2 arg3 harg3 arg4 harg4 arg5 harg5 arg6 harg6 arg7 harg7 arg8 harg8 arg9 harg9 arg10 harg10 arg11 harg11 x0 x1 x2 x3 x4 x5 x6 x7 hc0) rfl rfl
  · rw [View.readAt_eq_ld, harg3.read_unread]
    refine Eq.trans ?_ (halves_left x2 _ x7 x5 x6 (r := r) (l := l) rfl rfl)
    pointwise [k0_pay95]

theorem first_cat (hc0 : cond0_0 i) (p : Fin 256) (n : Fin 1024) : out0_A_9 c i arg1 harg1 arg2 harg2 arg3 harg3 arg4 harg4 arg5 harg5 arg6 harg6 arg7 harg7 arg8 harg8 arg9 harg9 arg10 harg10 arg11 harg11 hc0 x0 x1 x2 x3 x4 x5 x6 x7 (ix2 p n) = halves x2 (firstTaps x0 x1 x3 x4) x7 x5 x6 p n := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 hc0 x0 x1 x2 x3 x4 x5 x6 x7)]
  exact View.canon_apply_of_pieces (fun y => halves x2 (firstTaps x0 x1 x3 x4) x7 x5 x6 (y 0) (y 1)) _ (first_half c i arg1 harg1 arg2 harg2 arg3 harg3 arg4 harg4 arg5 harg5 arg6 harg6 arg7 harg7 arg8 harg8 arg9 harg9 arg10 harg10 arg11 harg11 x0 x1 x2 x3 x4 x5 x6 x7 hc0) _ (cover0_A_9 c i arg1 harg1 arg2 harg2 arg3 harg3 arg4 harg4 arg5 harg5 arg6 harg6 arg7 harg7 arg8 harg8 arg9 harg9 arg10 harg10 arg11 harg11 hc0 x0 x1 x2 x3 x4 x5 x6 x7 (ix2 p n))

theorem later_zc_row (xs0 : Vec Ideal S288x512 .f32) (hc0 : ¬cond0_0 i) (p : Fin 256) (q : Fin 512) :
    arg9.view.readCov (kernelRun0_B c i arg1 harg1 arg2 harg2 arg3 harg3 arg4 harg4 arg5 harg5 arg6 harg6 arg7 harg7 arg8 harg8 arg9 harg9 arg10 harg10 arg11 harg11 hc0 x0 x1 x2 x3 x4 x5 x6 x7 xs0).1 (Rect.unit (s := S256x512) ![0, 0] S256x512.size inb_S256x512_S256x512_0_0).toLoadRect (ix2 p q) = laterTaps x0 x1 x3 x4 xs0 p.val q := by
  refine Eq.trans ?_ (later_read c i arg1 harg1 arg2 harg2 arg3 harg3 arg4 harg4 arg5 harg5 arg6 harg6 arg7 harg7 arg8 harg8 arg9 harg9 arg10 harg10 arg11 harg11 x0 x1 x2 x3 x4 x5 x6 x7 xs0 hc0 arg9.view arg9.view.junk p q)
  unfold View.readCov
  rw [View.readAt_apply]
  refine congrArg _ (funext fun a => Fin.ext ?_)
  fin_cases a
  · show 0 + 1 * p.val = p.val; omega
  · show 0 + 1 * q.val = q.val; omega

theorem later_half (xs0 : Vec Ideal S288x512 .f32) (hc0 : ¬cond0_0 i) (pc) (hpc : pc ∈ (kernelRun0_B c i arg1 harg1 arg2 harg2 arg3 harg3 arg4 harg4 arg5 harg5 arg6 harg6 arg7 harg7 arg8 harg8 arg9 harg9 arg10 harg10 arg11 harg11 hc0 x0 x1 x2 x3 x4 x5 x6 x7 xs0).2.1) (x) :
    pc.2 x = halves x2 (laterTaps x0 x1 x3 x4 xs0) x7 x5 x6 (pc.1.emb x 0) (pc.1.emb x 1) := by
  unfold kernelRun0_B at hpc
  dsimp only at hpc
  simp only [List.mem_cons, List.not_mem_nil, or_false] at hpc
  rcases hpc with rfl | rfl <;> obtain ⟨r, l, rfl⟩ := Norm.place2 x
  · unfold kernelRun0_B.sl.r_98 kernelRun0_B.sl.r_99 kernelRun0_B.sl.cst_996
    rw [View.readAt_eq_ld, View.readAt_eq_ld, View.readAt_eq_ld, harg6.read_unread, harg7.read_unread, harg8.read_unread, View.ld_unit_zero Reals.zero2,
      View.ld_unit_zero Reals.zero2, View.ld_unit_zero Reals.zero2]
    exact halves_right x2 _ x7 x5 x6 _ (later_zc_row c i arg1 harg1 arg2 harg2 arg3 harg3 arg4 harg4 arg5 harg5 arg6 harg6 arg7 harg7 arg8 harg8 arg9 harg9 arg10 harg10 arg11 harg11 x0 x1 x2 x3 x4 x5 x6 x7 xs0 hc0) rfl rfl
  · rw [View.readAt_eq_ld, harg3.read_unread]
    refine Eq.trans ?_ (halves_left x2 _ x7 x5 x6 (r := r) (l := l) rfl rfl)
    pointwise [k0_pay95]

theorem later_cat (xs0 : Vec Ideal S288x512 .f32) (hc0 : ¬cond0_0 i) (p : Fin 256) (n : Fin 1024) : out0_B_9 c i arg1 harg1 arg2 harg2 arg3 harg3 arg4 harg4 arg5 harg5 arg6 harg6 arg7 harg7 arg8 harg8 arg9 harg9 arg10 harg10 arg11 harg11 hc0 x0 x1 x2 x3 x4 x5 x6 x7 xs0 (ix2 p n) = halves x2 (laterTaps x0 x1 x3 x4 xs0) x7 x5 x6 p n := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 hc0 x0 x1 x2 x3 x4 x5 x6 x7 xs0)]
  exact View.canon_apply_of_pieces (fun y => halves x2 (laterTaps x0 x1 x3 x4 xs0) x7 x5 x6 (y 0) (y 1)) _ (later_half c i arg1 harg1 arg2 harg2 arg3 harg3 arg4 harg4 arg5 harg5 arg6 harg6 arg7 harg7 arg8 harg8 arg9 harg9 arg10 harg10 arg11 harg11 x0 x1 x2 x3 x4 x5 x6 x7 xs0 hc0) _ (cover0_B_9 c i arg1 harg1 arg2 harg2 arg3 harg3 arg4 harg4 arg5 harg5 arg6 harg6 arg7 harg7 arg8 harg8 arg9 harg9 arg10 harg10 arg11 harg11 hc0 x0 x1 x2 x3 x4 x5 x6 x7 xs0 (ix2 p n))

end Block

end Cert.ConvFwd

end
-- ==== Proof.ConvFwdKernel.lean ====
/-
  The convolution module's forward call as the kernel computes it: which blocks each grid point reads, that the buffer holds the rows before the
  block, and so the two results, element by element.
-/
module

public import proofs.«01_k».proof.Proof.ConvFwdHead

@[expose] public section

noncomputable section

open Idealize.ShloMosaic Idealize.ShloMosaic.TcCoe Idealize.SL.Sem

namespace Cert.ConvFwd

open Cert.Kernel9Ideal Cert.Kernel9Ideal.Gen
open Cert.Conv

variable (m : (ℓ : Loc nD τ sig) → Buf (Elt Ideal) ℓ) (c : Dev nD)

/-- The arguments: the projected rows, the recurrence's output, the taps, their bias, the gain and the shift of the norm. -/
abbrev argU : FVec Ideal S4096x1536 .f32 := m ((c : Thread nD τ).loc main_arg0)
abbrev argS : FVec Ideal S4096x512 .f32 := m ((c : Thread nD τ).loc main_arg1)
abbrev argW : FVec Ideal S31x512 .f32 := m ((c : Thread nD τ).loc main_arg2)
abbrev argB : FVec Ideal S512 .f32 := m ((c : Thread nD τ).loc main_arg3)
abbrev argG : FVec Ideal S512 .f32 := m ((c : Thread nD τ).loc main_arg4)
abbrev argH : FVec Ideal S512 .f32 := m ((c : Thread nD τ).loc main_arg5)

theorem V0 : (V m c main_v0 : FVec Ideal S4096x512 .bf16) = truncf .bf16 (argS m c) bitsLt_bf16_f32 := by
  unfold V hostOps0 hostOps0_1 hostOps0_2
  simp only [List.flatten_cons, List.flatten_nil, List.append_nil, List.cons_append, List.nil_append]
  after_results

theorem V1 : (V m c main_v1 : FVec Ideal S1x512 .f32) = shapeCast S1x512 (argB m c) shapeCasts_S512_S1x512 := by
  unfold V hostOps0 hostOps0_1 hostOps0_2
  simp only [List.flatten_cons, List.flatten_nil, List.append_nil, List.cons_append, List.nil_append]
  after_results; rfl

theorem V2 : (V m c main_v2 : FVec Ideal S1x512 .f32) = shapeCast S1x512 (argG m c) shapeCasts_S512_S1x512 := by
  unfold V hostOps0 hostOps0_1 hostOps0_2
  simp only [List.flatten_cons, List.flatten_nil, List.append_nil, List.cons_append, List.nil_append]
  after_results; rfl

theorem V3 : (V m c main_v3 : FVec Ideal S1x512 .f32) = shapeCast S1x512 (argH m c) shapeCasts_S512_S1x512 := by
  unfold V hostOps0 hostOps0_1 hostOps0_2
  simp only [List.flatten_cons, List.flatten_nil, List.append_nil, List.cons_append, List.nil_append]
  after_results; rfl

/-- The averaging matrix as the host builds it: the identity of the heads times a constant block. -/
theorem V12 : (V m c main_v12 : FVec Ideal S512x512 .bf16) = truncf .bf16 (shapeCast S512x512 (mulf
      (broadcastInDim S8x64x8x64 ![0, 1, 2, 3] bcast_S8x1x8x1_S8x64x8x64_0_1_2_3 (broadcastInDim S8x1x8x1 ![0, 2] bcast_S8x8_S8x1x8x1_0_2
        (uitofp (F := Ideal) .f32 (cmpi .eq (addi (iotaInDim S8x8 32 0) (broadcastInDim S8x8 ![] bcast_S_S8x8 (constantI S_ 32 0#32))) (iotaInDim S8x8 32 1)))))
      (broadcastInDim S8x64x8x64 ![0, 1, 2, 3] bcast_S1x64x1x64_S8x64x8x64_0_1_2_3 (broadcastInDim S1x64x1x64 ![1, 3] bcast_S64x64_S1x64x1x64_1_3
        (broadcastInDim S64x64 ![] bcast_S_S64x64 (constant (F := Ideal) S_ .f32 0x3C800000#32)))) : FVec Ideal S8x64x8x64 .f32) shapeCasts_S8x64x8x64_S512x512) bitsLt_bf16_f32 := by
  unfold V hostOps0 hostOps0_1 hostOps0_2
  simp only [List.flatten_cons, List.flatten_nil, List.append_nil, List.cons_append, List.nil_append]
  after_results; rfl

theorem word64 : (Ideal.ofBits .f32 0x3C800000#32 : EReal) = ((1 / 64 : ℝ) : EReal) := by
  simp [Ideal.ofBits, Ideal.ieee]
  rw [← EReal.coe_mul]
  norm_num

/-- It averages over a head. -/
theorem V12_apply (k q : Fin 512) : (V m c main_v12 : FVec Ideal S512x512 .bf16) (ix2 k q) = avg k q := by
  rw [V12]
  pointwise []
  rw [avg, word64]
  have e : IntOp.cmpi .eq (IntOp.addi (BitVec.ofNat 32 (k.val / 64)) 0#32) (BitVec.ofNat 32 (q.val / 64)) = BitVec.ofBool (decide (k.val / 64 = q.val / 64)) := by
    have hk : k.val / 64 < 8 := by omega
    have hq : q.val / 64 < 8 := by omega
    generalize k.val / 64 = a at *
    generalize q.val / 64 = b at *
    interval_cases a <;> interval_cases b <;> rfl
  rw [e]
  by_cases h : k.val / 64 = q.val / 64
  · rw [if_pos h, decide_eq_true h]
    show ((((1#1 : BitVec 1).toNat : ℝ)) : EReal) * _ = _
    norm_num
  · rw [if_neg h, decide_eq_false h]
    show ((((0#1 : BitVec 1).toNat : ℝ)) : EReal) * _ = _
    norm_num

/-- Where each window's block sits at each point. -/
theorem idx_facts : ∀ t : Fin cfg0.N, (win0_0.index t 0 = t.val ∧ win0_0.index t 1 = 1) ∧ (win0_1.index t 0 = t.val ∧ win0_1.index t 1 = 2)
    ∧ (win0_2.index t 0 = t.val ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0) ∧ (win0_6.index t 0 = 0 ∧ win0_6.index t 1 = 0)
    ∧ (win0_7.index t 0 = 0 ∧ win0_7.index t 1 = 0) ∧ (win0_8.index t 0 = t.val ∧ win0_8.index t 1 = 0) ∧ (win0_9.index t 0 = t.val ∧ win0_9.index t 1 = 0) :=
  (by decide +kernel : ∀ t : Fin grid0.N, _)

theorem lt16 (t : Fin cfg0.N) : t.val < 16 := lt_of_lt_of_eq t.isLt N_0

/-- The row of the whole array that row `p` of point `t`'s block is. -/
abbrev rowIn (t : Fin cfg0.N) (p : Fin 256) : Fin 4096 := ⟨t.val * 256 + p.val, by have := lt16 t; omega⟩

theorem blk0 (t : Fin cfg0.N) (p : Fin 256) (q : Fin 512) : (iblk m c 0 t : Vec Ideal S256x512 .f32) (ix2 p q) = argU m c (ix2 (rowIn t p) ⟨512 + q.val, by omega⟩) := by
  have h := (idx_facts t).1
  have e : (win0_0.rect t).emb (ix2 p q) = (ix2 (rowIn t p) ⟨512 + q.val, by omega⟩ : S4096x1536.Idx) := Reals.emb_eq _ rfl t _ _ fun a => by
    fin_cases a
    · show win0_0.index t 0 * 256 + p.val = t.val * 256 + p.val; rw [h.1]
    · show win0_0.index t 1 * 512 + q.val = 512 + q.val; rw [h.2]
  show (V m c main_arg0 : FVec Ideal S4096x1536 .f32) ((win0_0.rect t).emb (ix2 p q)) = _
  rw [e, V_main_arg0]

theorem blk1 (t : Fin cfg0.N) (p : Fin 256) (q : Fin 512) : (iblk m c 1 t : Vec Ideal S256x512 .f32) (ix2 p q) = argU m c (ix2 (rowIn t p) ⟨512 + (512 + q.val), by omega⟩) := by
  have h := (idx_facts t).2.1
  have e : (win0_1.rect t).emb (ix2 p q) = (ix2 (rowIn t p) ⟨512 + (512 + q.val), by omega⟩ : S4096x1536.Idx) := Reals.emb_eq _ rfl t _ _ fun a => by
    fin_cases a
    · show win0_1.index t 0 * 256 + p.val = t.val * 256 + p.val; rw [h.1]
    · show win0_1.index t 1 * 512 + q.val = 512 + (512 + q.val); rw [h.2]; omega
  show (V m c main_arg0 : FVec Ideal S4096x1536 .f32) ((win0_1.rect t).emb (ix2 p q)) = _
  rw [e, V_main_arg0]

theorem blk2 (t : Fin cfg0.N) (p : Fin 256) (q : Fin 512) : (iblk m c 2 t : Vec Ideal S256x512 .bf16) (ix2 p q) = argS m c (ix2 (rowIn t p) q) := by
  have h := (idx_facts t).2.2.1
  have e : (win0_2.rect t).emb (ix2 p q) = (ix2 (rowIn t p) q : S4096x512.Idx) := Reals.emb_eq _ rfl t _ _ fun a => by
    fin_cases a
    · show win0_2.index t 0 * 256 + p.val = t.val * 256 + p.val; rw [h.1]
    · show win0_2.index t 1 * 512 + q.val = q.val; rw [h.2]; simp
  show (V m c main_v0 : FVec Ideal S4096x512 .bf16) ((win0_2.rect t).emb (ix2 p q)) = _
  rw [e, V0]; rfl

theorem blk3 (t : Fin cfg0.N) (k : Fin 31) (q : Fin 512) : (iblk m c 3 t : Vec Ideal S31x512 .f32) (ix2 k q) = argW m c (ix2 k q) := by
  have h := (idx_facts t).2.2.2.1
  have e : (win0_3.rect t).emb (ix2 k q) = (ix2 k q : S31x512.Idx) := Reals.emb_eq _ rfl t _ _ fun a => by
    fin_cases a
    · show win0_3.index t 0 * 31 + k.val = k.val; rw [h.1]; simp
    · show win0_3.index t 1 * 512 + q.val = q.val; rw [h.2]; simp
  show (V m c main_arg2 : FVec Ideal S31x512 .f32) ((win0_3.rect t).emb (ix2 k q)) = _
  rw [e, V_main_arg2]

theorem blk4 (t : Fin cfg0.N) (q : Fin 512) : (iblk m c 4 t : Vec Ideal S1x512 .f32) (ix2 0 q) = argB m c (ix1 q) := by
  have h := (idx_facts t).2.2.2.2.1
  have e : (win0_4.rect t).emb (ix2 0 q) = (ix2 0 q : S1x512.Idx) := Reals.emb_eq _ rfl t _ _ fun a => by
    fin_cases a
    · show win0_4.index t 0 * 1 + 0 = 0; rw [h.1]
    · show win0_4.index t 1 * 512 + q.val = q.val; rw [h.2]; simp
  show (V m c main_v1 : FVec Ideal S1x512 .f32) ((win0_4.rect t).emb (ix2 0 q)) = _
  rw [e, V1]; pointwise []

theorem blk5 (t : Fin cfg0.N) (q : Fin 512) : (iblk m c 5 t : Vec Ideal S1x512 .f32) (ix2 0 q) = argG m c (ix1 q) := by
  have h := (idx_facts t).2.2.2.2.2.1
  have e : (win0_5.rect t).emb (ix2 0 q) = (ix2 0 q : S1x512.Idx) := Reals.emb_eq _ rfl t _ _ fun a => by
    fin_cases a
    · show win0_5.index t 0 * 1 + 0 = 0; rw [h.1]
    · show win0_5.index t 1 * 512 + q.val = q.val; rw [h.2]; simp
  show (V m c main_v2 : FVec Ideal S1x512 .f32) ((win0_5.rect t).emb (ix2 0 q)) = _
  rw [e, V2]; pointwise []

theorem blk6 (t : Fin cfg0.N) (q : Fin 512) : (iblk m c 6 t : Vec Ideal S1x512 .f32) (ix2 0 q) = argH m c (ix1 q) := by
  have h := (idx_facts t).2.2.2.2.2.2.1
  have e : (win0_6.rect t).emb (ix2 0 q) = (ix2 0 q : S1x512.Idx) := Reals.emb_eq _ rfl t _ _ fun a => by
    fin_cases a
    · show win0_6.index t 0 * 1 + 0 = 0; rw [h.1]
    · show win0_6.index t 1 * 512 + q.val = q.val; rw [h.2]; simp
  show (V m c main_v3 : FVec Ideal S1x512 .f32) ((win0_6.rect t).emb (ix2 0 q)) = _
  rw [e, V3]; pointwise []

theorem blk7 (t : Fin cfg0.N) (k q : Fin 512) : (iblk m c 7 t : Vec Ideal S512x512 .bf16) (ix2 k q) = avg k q := by
  have h := (idx_facts t).2.2.2.2.2.2.2.1
  have e : (win0_7.rect t).emb (ix2 k q) = (ix2 k q : S512x512.Idx) := Reals.emb_eq _ rfl t _ _ fun a => by
    fin_cases a
    · show win0_7.index t 0 * 512 + k.val = k.val; rw [h.1]; simp
    · show win0_7.index t 1 * 512 + q.val = q.val; rw [h.2]; simp
  show (V m c main_v12 : FVec Ideal S512x512 .bf16) ((win0_7.rect t).emb (ix2 k q)) = _
  rw [e, V12_apply]

/-- The block's gated rows. -/
theorem block_rows (t : Fin cfg0.N) (p : ℕ) (hp : p < 256) (q : Fin 512) :
    rowsOf (k0_pay3 (iblk m c 0 t : Vec Ideal S256x512 .f32) (iblk m c 1 t : Vec Ideal S256x512 .f32)) p q = padded (argU m c) (t.val * 256 + p + 30) q := by
  have ht := lt16 t
  rw [rowsOf, dif_pos hp, padded, dif_pos (by omega)]
  pointwise [k0_pay3]
  refine (congrArg₂ (fun a b : EReal => a * b) (blk0 m c t ⟨p, hp⟩ q) (congrArg Gate.sigma (blk1 m c t ⟨p, hp⟩ q))).trans ?_
  rw [gated, Gate.sigma_eq]
  have e : rowIn t ⟨p, hp⟩ = ⟨t.val * 256 + p + 30 - 30, by omega⟩ := Fin.ext (by show t.val * 256 + p = t.val * 256 + p + 30 - 30; omega)
  rw [e]

/-- The buffer's first rows after a point are the last of the padded rows so far. -/
theorem carried (t : Fin cfg0.N) (p : Fin 288) (hp : p.val < 32) (q : Fin 512) :
    (outsAt0 m c t.val t.isLt).2.2 (ix2 p q) = padded (argU m c) (t.val * 256 + p.val + 254) q := by
  have e : ∀ head : ℕ → Fin 512 → EReal, buf head (k0_pay3 (iblk m c 0 t : Vec Ideal S256x512 .f32) (iblk m c 1 t : Vec Ideal S256x512 .f32)) (p.val + 256) q
      = padded (argU m c) (t.val * 256 + p.val + 254) q := fun head => by
    rw [buf, if_neg (by omega), show p.val + 256 - 32 = p.val + 224 by omega, block_rows m c t _ (by omega)]
    congr 1
  by_cases h0 : t.val % 16 = 0
  · rw [outsAt0_A m c t h0]
    dsimp only
    exact (first_rows c (grid0.coords t) _ _ _ _ _ _ _ _ _ _ _ _ _ _ _ _ _ _ _ _ _ _ _ _ _ _ _ _ _ _ ((hcond0_0 t).mpr h0) p hp q).trans (e _)
  · rw [outsAt0_B m c t h0]
    dsimp only
    exact (later_rows c (grid0.coords t) _ _ _ _ _ _ _ _ _ _ _ _ _ _ _ _ _ _ _ _ _ _ _ _ _ _ _ _ _ _ (outsAt0 m c (t.val - 1) (Nat.lt_of_le_of_lt (Nat.sub_le _ _) t.isLt)).2.2 (fun h => h0 ((hcond0_0 t).mp h)) p hp q).trans (e _)

/-- The taps over a buffer that holds the padded rows are the convolution. -/
theorem taps_conv (t : Fin cfg0.N) (head : ℕ → Fin 512 → EReal) (hh : ∀ i, 2 ≤ i → i < 32 → ∀ q, head i q = padded (argU m c) (t.val * 256 + i - 2) q) (p : Fin 256) (q : Fin 512) :
    taps (iblk m c 3 t : Vec Ideal S31x512 .f32) (fun q => (iblk m c 4 t : Vec Ideal S1x512 .f32) (ix2 0 q))
      (buf head (k0_pay3 (iblk m c 0 t : Vec Ideal S256x512 .f32) (iblk m c 1 t : Vec Ideal S256x512 .f32))) p.val q
      = conv (argU m c) (argW m c) (fun q => argB m c (ix1 q)) (rowIn t p) q := by
  rw [taps, conv, add_comm]
  refine congrArg₂ (· + ·) (Finset.sum_congr rfl fun k _ => ?_) (blk4 m c t q)
  refine (congrArg₂ (fun a b : EReal => a * b) (blk3 m c t k q) (?_ : _ = padded (argU m c) (t.val * 256 + p.val + k.val) q)).trans (mul_comm _ _)
  rw [buf]
  split
  · rw [hh _ (by omega) (by omega)]
    congr 1; omega
  · rw [block_rows m c t _ (by omega)]
    congr 1; omega

/-- The buffer before the block's rows: zeros at the first point, the rows the point before handed on at the others. -/
theorem zeros_padded (t : Fin cfg0.N) (h0 : t.val % 16 = 0) (i : ℕ) (hi : i < 32) (q : Fin 512) : (0 : EReal) = padded (argU m c) (t.val * 256 + i - 2) q := by
  have := lt16 t
  rw [padded, dif_neg (by omega)]

theorem carried_padded (t : Fin cfg0.N) (h0 : ¬t.val % 16 = 0) (hn : t.val - 1 < cfg0.N) (i : ℕ) (hi : i < 32) (h2 : 2 ≤ i) (q : Fin 512) :
    rowsOf (outsAt0 m c (t.val - 1) hn).2.2 i q = padded (argU m c) (t.val * 256 + i - 2) q := by
  rw [rowsOf, dif_pos (by omega)]
  refine (carried m c ⟨t.val - 1, hn⟩ ⟨i, by omega⟩ hi q).trans ?_
  dsimp only
  congr 1; omega

/-- The first output at a point is the convolution's rows. -/
theorem zc_point (t : Fin cfg0.N) (p : Fin 256) (q : Fin 512) :
    (outsAt0 m c t.val t.isLt).1 (ix2 p q) = conv (argU m c) (argW m c) (fun q => argB m c (ix1 q)) (rowIn t p) q := by
  by_cases h0 : t.val % 16 = 0
  · rw [outsAt0_A m c t h0]
    dsimp only
    exact (first_zc c (grid0.coords t) _ _ _ _ _ _ _ _ _ _ _ _ _ _ _ _ _ _ _ _ _ _ _ _ _ _ _ _ _ _ ((hcond0_0 t).mpr h0) p q).trans
      (taps_conv m c t _ (fun i _ hi q => zeros_padded m c t h0 i hi q) p q)
  · rw [outsAt0_B m c t h0]
    dsimp only
    exact (later_zc c (grid0.coords t) _ _ _ _ _ _ _ _ _ _ _ _ _ _ _ _ _ _ _ _ _ _ _ _ _ _ _ _ _ _ (outsAt0 m c (t.val - 1) (Nat.lt_of_le_of_lt (Nat.sub_le _ _) t.isLt)).2.2 (fun h => h0 ((hcond0_0 t).mp h)) p q).trans
      (taps_conv m c t _ (fun i h2 hi q => carried_padded m c t h0 _ i hi h2 q) p q)

/-- The right half of the second result, with the means as the kernel takes them. -/
abbrev act (r : Fin 4096) (q : Fin 512) : EReal :=
  headNormBy avg (conv (argU m c) (argW m c) (fun q => argB m c (ix1 q)) r) (fun q => argG m c (ix1 q)) (fun q => argH m c (ix1 q)) q

theorem halves_eq (t : Fin cfg0.N) (z : ℕ → Fin 512 → EReal) (p : Fin 256) (hz : ∀ q, z p.val q = conv (argU m c) (argW m c) (fun q => argB m c (ix1 q)) (rowIn t p) q) (n : Fin 1024) :
    halves (iblk m c 2 t : Vec Ideal S256x512 .bf16) z (iblk m c 7 t : Vec Ideal S512x512 .bf16) (iblk m c 5 t : Vec Ideal S1x512 .f32) (iblk m c 6 t : Vec Ideal S1x512 .f32) p n
      = if hn : n.val < 512 then argS m c (ix2 (rowIn t p) ⟨n.val, hn⟩) else
        act m c (rowIn t p) ⟨n.val - 512, by omega⟩ * Gate.refSigma (act m c (rowIn t p) ⟨n.val - 512, by omega⟩) := by
  unfold halves
  split
  · exact blk2 m c t p _
  · have e : ∀ q, headNormBy (fun k l => (iblk m c 7 t : Vec Ideal S512x512 .bf16) (ix2 k l)) (z p.val) (fun k => (iblk m c 5 t : Vec Ideal S1x512 .f32) (ix2 0 k))
        (fun k => (iblk m c 6 t : Vec Ideal S1x512 .f32) (ix2 0 k)) q = act m c (rowIn t p) q := fun q => by
      rw [funext fun k => blk5 m c t k, funext fun k => blk6 m c t k, funext fun k => funext fun l => blk7 m c t k l, funext hz]
    rw [e, Gate.sigma_eq]

/-- The second output at a point. -/
theorem cat_point (t : Fin cfg0.N) (p : Fin 256) (n : Fin 1024) : (outsAt0 m c t.val t.isLt).2.1 (ix2 p n)
    = if hn : n.val < 512 then argS m c (ix2 (rowIn t p) ⟨n.val, hn⟩) else
        act m c (rowIn t p) ⟨n.val - 512, by omega⟩ * Gate.refSigma (act m c (rowIn t p) ⟨n.val - 512, by omega⟩) := by
  by_cases h0 : t.val % 16 = 0
  · rw [outsAt0_A m c t h0]
    dsimp only
    exact (first_cat c (grid0.coords t) _ _ _ _ _ _ _ _ _ _ _ _ _ _ _ _ _ _ _ _ _ _ _ _ _ _ _ _ _ _ ((hcond0_0 t).mpr h0) p n).trans
      (halves_eq m c t _ p (taps_conv m c t _ (fun i _ hi q => zeros_padded m c t h0 i hi q) p) n)
  · rw [outsAt0_B m c t h0]
    dsimp only
    exact (later_cat c (grid0.coords t) _ _ _ _ _ _ _ _ _ _ _ _ _ _ _ _ _ _ _ _ _ _ _ _ _ _ _ _ _ _ (outsAt0 m c (t.val - 1) (Nat.lt_of_le_of_lt (Nat.sub_le _ _) t.isLt)).2.2 (fun h => h0 ((hcond0_0 t).mp h)) p n).trans
      (halves_eq m c t _ p (taps_conv m c t _ (fun i h2 hi q => carried_padded m c t h0 _ i hi h2 q) p) n)

abbrev pointOf (r : Fin 4096) : Fin cfg0.N := ⟨r.val / 256, by rw [show cfg0.N = 16 from N_0]; omega⟩
abbrev inBlock (r : Fin 4096) : Fin 256 := ⟨r.val % 256, by omega⟩

theorem rowIn_pointOf (r : Fin 4096) : rowIn (pointOf r) (inBlock r) = r := Fin.ext (by show r.val / 256 * 256 + r.val % 256 = r.val; omega)

/-- The two results after the run, element by element. -/
theorem final8 (r : Fin 4096) (q : Fin 512) : ((dats m 0 c).arrAt 8 cfg0.N : FVec Ideal S4096x512 .f32) (ix2 r q)
    = conv (argU m c) (argW m c) (fun q => argB m c (ix1 q)) r q := by
  have h := (idx_facts (pointOf r)).2.2.2.2.2.2.2.2.1
  have e : (win0_8.rect (pointOf r)).emb (ix2 (inBlock r) q) = (ix2 r q : S4096x512.Idx) := Reals.emb_eq _ rfl _ _ _ fun a => by
    fin_cases a
    · show win0_8.index (pointOf r) 0 * 256 + r.val % 256 = r.val; rw [h.1]; dsimp only; omega
    · show win0_8.index (pointOf r) 1 * 512 + q.val = q.val; rw [h.2]; simp
  refine (congrArg _ e.symm).trans ?_
  refine ((dats m 0 c).arrAt_emb_eq_flushed 8 (Value.disjoint8) (pointOf r) (flush0_8 _) (ix2 (inBlock r) q)).trans ?_
  rw [Value.flushed8]
  show (outsAt0 m c (pointOf r).val (pointOf r).isLt).1 (ix2 (inBlock r) q) = _
  rw [zc_point, rowIn_pointOf]

theorem final9 (r : Fin 4096) (n : Fin 1024) : ((dats m 0 c).arrAt 9 cfg0.N : FVec Ideal S4096x1024 .bf16) (ix2 r n)
    = if hn : n.val < 512 then argS m c (ix2 r ⟨n.val, hn⟩) else act m c r ⟨n.val - 512, by omega⟩ * Gate.refSigma (act m c r ⟨n.val - 512, by omega⟩) := by
  have h := (idx_facts (pointOf r)).2.2.2.2.2.2.2.2.2
  have e : (win0_9.rect (pointOf r)).emb (ix2 (inBlock r) n) = (ix2 r n : S4096x1024.Idx) := Reals.emb_eq _ rfl _ _ _ fun a => by
    fin_cases a
    · show win0_9.index (pointOf r) 0 * 256 + r.val % 256 = r.val; rw [h.1]; dsimp only; omega
    · show win0_9.index (pointOf r) 1 * 1024 + n.val = n.val; rw [h.2]; simp
  refine (congrArg _ e.symm).trans ?_
  refine ((dats m 0 c).arrAt_emb_eq_flushed 9 (Value.disjoint9) (pointOf r) (flush0_9 _) (ix2 (inBlock r) n)).trans ?_
  rw [Value.flushed9]
  show (outsAt0 m c (pointOf r).val (pointOf r).isLt).2.1 (ix2 (inBlock r) n) = _
  rw [cat_point]
  simp only [rowIn_pointOf]

end Cert.ConvFwd

end
-- ==== Proof.ConvFwdReference.lean ====
/-
  The convolution module's forward pass as the reference computes it, at an index: the convolution as a sum over the taps of the padded rows, the
  norm of a head, and the two halves of the concatenated result.
-/
module

public import proofs.«01_k».proof.Proof.Gen.Reference9Ideal.Run
public import proofs.«01_k».proof.Proof.Gen.Reference9Ideal.Read
public import proofs.«01_k».proof.Proof.ConvScalar
public import Idealize.ShloMosaic.Lib.Pipeline.ValueKit.Tiles

@[expose] public section

noncomputable section

namespace Cert.ConvFwd.Ref

open Idealize.ShloMosaic Idealize.ShloMosaic.TcCoe
open Cert.Reference9Ideal Cert.Reference9Ideal.Gen Cert.Reference9Ideal.Read
open Cert.Conv

variable (u : FVec Ideal S4096x1536 .f32) (s : FVec Ideal S4096x512 .f32) (w : FVec Ideal S31x512 .f32) (b g sh : FVec Ideal S512 .f32)

theorem v9 (r : Fin 4096) (q : Fin 512) : val_main_v9 (F := Ideal) u (ix2 r q) = gated u r q := by
  unfold val_main_v9 val_main_v8 val_main_v7 val_main_v6 val_main_v5 val_main_v4 val_main_v3 val_main_v2 val_main_v1 val_main_v0 val_main_cst val_main_cst_0
  pointwise []
  rfl

theorem v11 (i : Fin 4126) (q : Fin 512) : val_main_v11 (F := Ideal) u (ix2 i q) = padded u i.val q := by
  unfold val_main_v11 padded
  split
  · rename_i h
    refine (concatenate_pair_apply_right (t := S4126x512) (s₁ := S30x512) (s₂ := S4096x512) 0 _ _ _ _ rfl rfl (ix2 ⟨i.val - 30, by omega⟩ q)
      (fun c hc => ?_) (by show i.val - 30 + 30 = i.val; omega)).trans (v9 u _ q)
    fin_cases c
    exacts [absurd rfl hc, rfl]
  · rename_i h
    refine (concatenate_pair_apply_left (t := S4126x512) (s₁ := S30x512) (s₂ := S4096x512) 0 _ _ _ _ rfl (ix2 ⟨i.val, by omega⟩ q) (fun c => ?_)).trans ?_
    · fin_cases c <;> rfl
    · unfold val_main_v10 val_main_cst_1
      pointwise []

theorem v11_at (j : S4126x512.Idx) {n : ℕ} {q : Fin 512} (h0 : (j 0).val = n) (h1 : (j 1).val = q.val) : val_main_v11 (F := Ideal) u j = padded u n q := by
  obtain ⟨i, l, rfl⟩ := Norm.place2 j
  obtain rfl : l = q := Fin.ext h1
  subst h0
  exact v11 u i l

/-- The slices, stacked. -/
theorem v76 (k : Fin 31) (r : Fin 4096) (q : Fin 512) : val_main_v76 (F := Ideal) u (ix3 k r q) = padded u (r.val + k.val) q := by
  unfold val_main_v76
  by_cases hk : k.val < 16
  · refine (concatenate_pair_apply_left (t := S31x4096x512) (s₁ := S16x4096x512) (s₂ := S15x4096x512) 0 _ _ _ _ rfl (ix3 ⟨k.val, hk⟩ r q) (fun c => ?_)).trans ?_
    · fin_cases c <;> rfl
    unfold val_main_v74
    concat_tiles i h
    all_goals
      simp only [val_main_v43_apply, val_main_v12_apply, val_main_v44_apply, val_main_v13_apply, val_main_v45_apply, val_main_v14_apply, val_main_v46_apply, val_main_v15_apply, val_main_v47_apply, val_main_v16_apply, val_main_v48_apply, val_main_v17_apply, val_main_v49_apply, val_main_v18_apply, val_main_v50_apply, val_main_v19_apply, val_main_v51_apply, val_main_v20_apply, val_main_v52_apply, val_main_v21_apply, val_main_v53_apply, val_main_v22_apply, val_main_v54_apply, val_main_v23_apply, val_main_v55_apply, val_main_v24_apply, val_main_v56_apply, val_main_v25_apply, val_main_v57_apply, val_main_v26_apply, val_main_v58_apply, val_main_v27_apply]
      refine v11_at u _ ?_ h2
      have e : k.val = _ := h
      have e' : (i 1).val = r.val := h1
      dsimp only
      omega
  · refine (concatenate_pair_apply_right (t := S31x4096x512) (s₁ := S16x4096x512) (s₂ := S15x4096x512) 0 _ _ _ _ rfl rfl (ix3 ⟨k.val - 16, by omega⟩ r q)
      (fun c hc => ?_) (by show k.val - 16 + 16 = k.val; omega)).trans ?_
    · fin_cases c
      exacts [absurd rfl hc, rfl, rfl]
    unfold val_main_v75
    concat_tiles i h
    all_goals
      simp only [val_main_v59_apply, val_main_v28_apply, val_main_v60_apply, val_main_v29_apply, val_main_v61_apply, val_main_v30_apply, val_main_v62_apply, val_main_v31_apply, val_main_v63_apply, val_main_v32_apply, val_main_v64_apply, val_main_v33_apply, val_main_v65_apply, val_main_v34_apply, val_main_v66_apply, val_main_v35_apply, val_main_v67_apply, val_main_v36_apply, val_main_v68_apply, val_main_v37_apply, val_main_v69_apply, val_main_v38_apply, val_main_v70_apply, val_main_v39_apply, val_main_v71_apply, val_main_v40_apply, val_main_v72_apply, val_main_v41_apply, val_main_v73_apply, val_main_v42_apply]
      refine v11_at u _ ?_ h2
      have e : k.val - 16 = _ := h
      have e' : (i 1).val = r.val := h1
      dsimp only
      omega

/-- The first result: the convolution. -/
theorem v83 (r : Fin 4096) (q : Fin 512) : val_main_v83 (F := Ideal) u w b (ix2 r q) = conv u w (fun q => b (ix1 q)) r q := by
  unfold val_main_v83 val_main_v82 val_main_v81 val_main_v80 val_main_v79 val_main_v78 val_main_v77 val_main_cst_2
  pointwise []
  simp only [v76]
  rfl

theorem v88 (r : Fin 4096) (h : Fin 8) : val_main_v88 (F := Ideal) u w b (ix3 r h 0) = mean (conv u w (fun q => b (ix1 q)) r) h := by
  unfold val_main_v88 val_main_v87 val_main_v86 val_main_v85 val_main_v84 val_main_cst_4 val_main_cst_3
  pointwise []
  simp only [v83]
  rfl

theorem v95 (r : Fin 4096) (h : Fin 8) : val_main_v95 (F := Ideal) u w b (ix3 r h 0) = mean (fun k =>
    (conv u w (fun q => b (ix1 q)) r k - mean (conv u w (fun q => b (ix1 q)) r) (headOf k)) * (conv u w (fun q => b (ix1 q)) r k - mean (conv u w (fun q => b (ix1 q)) r) (headOf k))) h := by
  unfold val_main_v95 val_main_v94 val_main_v93 val_main_v92 val_main_v91 val_main_v90 val_main_v89 val_main_v84 val_main_cst_6 val_main_cst_5
  pointwise []
  simp only [v83, v88]
  refine congrArg (Ideal.div · _) (Finset.sum_congr rfl fun e _ => ?_)
  have : headOf (inHead h e) = h := Fin.ext (by show (h.val * 64 + e.val) / 64 = h.val; omega)
  show _ = (_ - mean _ (headOf (inHead h e))) * (_ - mean _ (headOf (inHead h e)))
  rw [this]

/-- The norm of the heads, with gain and shift. -/
theorem v109 (r : Fin 4096) (q : Fin 512) : val_main_v109 (F := Ideal) u w b g sh (ix2 r q)
    = headNorm (conv u w (fun q => b (ix1 q)) r) (fun q => g (ix1 q)) (fun q => sh (ix1 q)) q := by
  unfold val_main_v109 val_main_v108 val_main_v107 val_main_v106 val_main_v105 val_main_v104 val_main_v103 val_main_v102 val_main_v101 val_main_v100
    val_main_v99 val_main_v98 val_main_v97 val_main_v96 val_main_v84 val_main_cst_7
  pointwise []
  simp only [v83, v88, v95]
  rfl

/-- The second result, in its two halves. -/
theorem v112_left (r : Fin 4096) (q : Fin 512) : val_main_v112 (F := Ideal) u s w b g sh (ix2 r ⟨q.val, by omega⟩) = s (ix2 r q) := by
  show val_main_v111 (F := Ideal) u s w b g sh (ix2 r ⟨q.val, _⟩) = _
  unfold val_main_v111
  refine (concatenate_pair_apply_left (t := S4096x1024) (s₁ := S4096x512) (s₂ := S4096x512) 1 _ _ _ _ rfl (ix2 r q) (fun c => ?_))
  fin_cases c <;> rfl

theorem v112_right (r : Fin 4096) (q : Fin 512) : val_main_v112 (F := Ideal) u s w b g sh (ix2 r ⟨512 + q.val, by omega⟩)
    = headNorm (conv u w (fun q => b (ix1 q)) r) (fun q => g (ix1 q)) (fun q => sh (ix1 q)) q
      * Gate.refSigma (headNorm (conv u w (fun q => b (ix1 q)) r) (fun q => g (ix1 q)) (fun q => sh (ix1 q)) q) := by
  show val_main_v111 (F := Ideal) u s w b g sh (ix2 r ⟨512 + q.val, _⟩) = _
  unfold val_main_v111
  refine (concatenate_pair_apply_right (t := S4096x1024) (s₁ := S4096x512) (s₂ := S4096x512) 1 _ _ _ _ rfl rfl (ix2 r q)
    (fun c hc => ?_) (by show q.val + 512 = 512 + q.val; omega)).trans ?_
  · fin_cases c
    exacts [rfl, absurd rfl hc]
  unfold val_main_v110 val_main_call0_v5 val_main_call0_v4 val_main_call0_v3 val_main_call0_v2 val_main_call0_v1 val_main_call0_v0 val_main_call0_cst
    val_main_call0_cst_0
  pointwise []
  rw [v109]
  rfl

end Cert.ConvFwd.Ref

end
-- ==== Proof.ConvFwdClaims.lean ====
/-
  The claims about the convolution module's forward call (`_conv_fwd`): the programs run and leave their arguments as they were, and over the extended
  reals the kernel's two results are the reference's where the rows, the taps and the bias are real numbers.
-/
module

public import proofs.«01_k».proof.Proof.Gen.Kernel9.Frame
public import proofs.«01_k».proof.Proof.Gen.Pre_module_finite
public import proofs.«01_k».proof.Proof.ConvFwdKernel
public import proofs.«01_k».proof.Proof.ConvFwdReference

@[expose] public section

noncomputable section

namespace Cert.ConvFwd

open Idealize.ShloMosaic Idealize.ShloMosaic.TcCoe Idealize.SL.Sem
open Cert.Kernel9Ideal Kernel9Ideal.Gen
open Cert.Conv

theorem frame_kernel : quiescent_Kernel9 := fun m ρ _ => Kernel9.Gen.frame m ρ
theorem frame_ideal : quiescent_Kernel9Ideal := fun m ρ _ => Kernel9Ideal.Gen.frame m ρ
theorem frame_ideal_pre : quiescent_Kernel9Ideal_pre_module_finite := fun m ρ _ => Kernel9Ideal.Gen.frame m ρ
theorem frame_reference : quiescent_Reference9Ideal := fun m ρ _ =>
  (θ_run Reference9Ideal.defs _ _).mono (fun r h => ⟨fun c => (h c).2.2, sem_eq_zero_of_no_sems (by decide) r.2⟩)
    (Reference9Ideal.Value.run (F := Ideal) m ρ)
theorem frame_reference_pre : quiescent_Reference9Ideal_pre_module_finite := fun m ρ _ => frame_reference m ρ trivial

variable (m : (ℓ : Loc nD τ sig) → Buf (Elt Ideal) ℓ)

/-- Under the precondition the convolution is real, so the two norms agree. -/
theorem act_eq (h : Cert.Pre_Kernel9Ideal_module_finite m) (c : Dev nD) (r : Fin 4096) (q : Fin 512) : act m c r q
    = headNorm (conv (argU m c) (argW m c) (fun q => argB m c (ix1 q)) r) (fun q => argG m c (ix1 q)) (fun q => argH m c (ix1 q)) q := by
  obtain ⟨h0, h1, h2⟩ := h c
  exact headNormBy_avg (fun k => conv_real (Reals.fin_of_abs_lt _ _ h0) (Reals.fin_of_abs_lt _ _ h1) (fun q => (Reals.fin_of_abs_lt _ _ h2).at _) r k) _ _ q

theorem zc_agree (c : Dev nD) : Reference9Ideal.Read.val_main_v83 (F := Ideal) (argU m c) (argW m c) (argB m c) = (dats m 0 c).arrAt 8 cfg0.N := by
  funext i
  obtain ⟨r, q, rfl⟩ := Norm.place2 i
  exact (Ref.v83 _ _ _ r q).trans (final8 m c r q).symm

theorem cat_agree (h : Cert.Pre_Kernel9Ideal_module_finite m) (c : Dev nD) :
    Reference9Ideal.Read.val_main_v112 (F := Ideal) (argU m c) (argS m c) (argW m c) (argB m c) (argG m c) (argH m c) = (dats m 0 c).arrAt 9 cfg0.N := by
  funext i
  obtain ⟨r, n, rfl⟩ := Norm.place2 i
  refine Eq.trans ?_ (final9 m c r n).symm
  by_cases hn : n.val < 512
  · rw [dif_pos hn]
    exact Ref.v112_left _ _ _ _ _ _ r ⟨n.val, hn⟩
  · rw [dif_neg hn, act_eq m h]
    have e : n = ⟨512 + (n.val - 512), by omega⟩ := Fin.ext (by show n.val = 512 + (n.val - 512); omega)
    refine (congrArg (fun n => Reference9Ideal.Read.val_main_v112 (F := Ideal) (argU m c) (argS m c) (argW m c) (argB m c) (argG m c) (argH m c) (ix2 r n)) e).trans ?_
    exact Ref.v112_right _ _ _ _ _ _ r ⟨n.val - 512, by omega⟩

theorem algebraic : algebraic_Kernel9Ideal_Reference9Ideal_pre_module_finite := by
  intro m ρ m' ρ' hpre hagree
  refine ⟨fun c => (dats m 0 c).arrAt 8 cfg0.N, fun c => (dats m 0 c).arrAt 9 cfg0.N, Value.run_blocks m ρ, ?_⟩
  refine (θ_run Reference9Ideal.defs _ _).mono (fun _ h c => ⟨(h c).1.trans ?_, (h c).2.1.trans ?_, (h c).2.2⟩)
    (Reference9Ideal.Value.run (F := Ideal) m' ρ')
  all_goals obtain ⟨a0, a1, a2, a3, a4, a5⟩ := hagree c
  · refine (Reference9Ideal.Read.val_main_v83_eq _).trans (Eq.trans ?_ (zc_agree m c))
    exact congr (congr (congrArg (Reference9Ideal.Read.val_main_v83 (F := Ideal)) a0) a2) a3
  · refine (Reference9Ideal.Read.val_main_v112_eq _).trans (Eq.trans ?_ (cat_agree m hpre c))
    exact congr (congr (congr (congr (congr (congrArg (Reference9Ideal.Read.val_main_v112 (F := Ideal)) a0) a1) a2) a3) a4) a5

end Cert.ConvFwd

end
-- ==== Proof.ConvFrame.lean ====
module

public import proofs.«01_k».proof.Proof.Gen.Kernel10Ideal.Frame.RunB
public import Idealize.ShloMosaic.Lib.Claim

/-! # The run of the convolution's backward call, what each grid point leaves being named

The generated runs `kernelRun0_A` (the first grid point) and `kernelRun0_B` (every later one) say which pieces the body
stores.  Here the five outputs and the scratch which carries the head of the next block are named by a structure
`Left`, point after point (`left`), and the whole launch is run with them. -/

@[expose] public section

set_option maxRecDepth 16384

noncomputable section

namespace Cert.ConvBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel10Ideal Cert.Kernel10Ideal.Gen

variable {F : FTy → Type} [FloatOps F]

local notation "𝕄" => MT nD τ sig Unit (Elt F) ℕ (UR sig nD τ) ℕ

/-- What a grid point leaves: the gradient of its block of inputs, the partial sums of the gradients of the weights, the
    bias, the gain and the shift, and the first rows of the block's own gradient, kept for the block before it. -/
structure Left (F : FTy → Type) [FloatOps F] where
  /-- the gradient of the block of inputs -/
  du : Vec F S256x1536 .bf16
  /-- the sums for the weights, eight rows to a weight -/
  dw : Vec F S256x512 .f32
  /-- the sum for the convolution's bias -/
  db : Vec F S1x512 .f32
  /-- the sum for the norm's gain -/
  dg : Vec F S1x512 .f32
  /-- the sum for the norm's shift -/
  ds : Vec F S1x512 .f32
  /-- the first rows of the block's gradient -/
  head : Vec F S32x512 .f32

/-- Only the point 0 is a first point. -/
theorem not_later {t : Fin cfg0.N} (h : t.val % 16 = 0) : ¬1 ≤ t.val := by
  have hN : t.val < 16 := lt_of_lt_of_eq t.isLt (show cfg0.N = 16 from N_0)
  omega

/-- Every other point is a later one. -/
theorem later {t : Fin cfg0.N} (h : ¬t.val % 16 = 0) : 1 ≤ t.val := by omega

variable (m : (ℓ : Loc nD τ sig) → Buf (Elt F) ℓ) (ρ : Dev nD → PrngReg)

/-- The run of the first point at its memrefs and blocks. -/
def firstRun (c : Dev nD) (t : Fin cfg0.N) (h : t.val % 16 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) ((hcond0_0 t).mpr h) ((hcond0_1 t).mpr h) (fun k => not_later h ((hcond0_2 t).mp k)) ((hcond0_3 t).mpr h) (fun k => not_later h ((hcond0_4 t).mp k)) ((hcond0_5 t).mpr h) (fun k => not_later h ((hcond0_6 t).mp k)) (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- The run of a later point, over what the point before left. -/
def laterRun (c : Dev nD) (t : Fin cfg0.N) (h : ¬t.val % 16 = 0) (l : Left F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (fun k => h ((hcond0_0 t).mp k)) (fun k => h ((hcond0_1 t).mp k)) ((hcond0_2 t).mpr (later h)) (fun k => h ((hcond0_3 t).mp k)) ((hcond0_4 t).mpr (later h)) (fun k => h ((hcond0_5 t).mp k)) ((hcond0_6 t).mpr (later h)) (iblk m c 0 t) (iblk m c 1 t) (iblk m c 2 t) (iblk m c 3 t) (iblk m c 4 t) (iblk m c 5 t) (iblk m c 6 t) (iblk m c 7 t) (iblk m c 8 t) (iblk m c 9 t) (iblk m c 10 t) l.dw l.db l.dg l.ds l.head

/-- The first point's pieces of `du` cover it. -/
theorem first_du_cover (c : Dev nD) (t : Fin cfg0.N) (h : t.val % 16 = 0) (y : S256x1536.Idx) :
    ∃ pc ∈ (firstRun m c t h).1, y ∈ pc.1.set :=
  View.cover_of_tiledBy (firstRun m c t h).1 ![32, 512] (by sl_kernel_rfl) y

/-- The first point's pieces of `dw` cover it. -/
theorem first_dw_cover (c : Dev nD) (t : Fin cfg0.N) (h : t.val % 16 = 0) (y : S256x512.Idx) :
    ∃ pc ∈ (firstRun m c t h).2.1, y ∈ pc.1.set :=
  View.cover_of_tiledBy (firstRun m c t h).2.1 ![8, 512] (by sl_kernel_rfl) y

/-- The first point's pieces of `db` cover it. -/
theorem first_db_cover (c : Dev nD) (t : Fin cfg0.N) (h : t.val % 16 = 0) (y : S1x512.Idx) :
    ∃ pc ∈ (firstRun m c t h).2.2.1, y ∈ pc.1.set :=
  View.cover_of_tiledL (firstRun m c t h).2.2.1 S1x512.size (by sl_kernel_rfl) y

/-- The first point's pieces of `dg` cover it. -/
theorem first_dg_cover (c : Dev nD) (t : Fin cfg0.N) (h : t.val % 16 = 0) (y : S1x512.Idx) :
    ∃ pc ∈ (firstRun m c t h).2.2.2.1, y ∈ pc.1.set :=
  View.cover_of_tiledL (firstRun m c t h).2.2.2.1 S1x512.size (by sl_kernel_rfl) y

/-- The first point's pieces of `ds` cover it. -/
theorem first_ds_cover (c : Dev nD) (t : Fin cfg0.N) (h : t.val % 16 = 0) (y : S1x512.Idx) :
    ∃ pc ∈ (firstRun m c t h).2.2.2.2.1, y ∈ pc.1.set :=
  View.cover_of_tiledL (firstRun m c t h).2.2.2.2.1 S1x512.size (by sl_kernel_rfl) y

/-- The first point's pieces of `head` cover it. -/
theorem first_head_cover (c : Dev nD) (t : Fin cfg0.N) (h : t.val % 16 = 0) (y : S32x512.Idx) :
    ∃ pc ∈ (firstRun m c t h).2.2.2.2.2.1, y ∈ pc.1.set :=
  View.cover_of_tiledL (firstRun m c t h).2.2.2.2.2.1 S32x512.size (by sl_kernel_rfl) y

/-- The later point's pieces of `du` cover it. -/
theorem later_du_cover (c : Dev nD) (t : Fin cfg0.N) (h : ¬t.val % 16 = 0) (l : Left F) (y : S256x1536.Idx) :
    ∃ pc ∈ (laterRun m c t h l).1, y ∈ pc.1.set :=
  View.cover_of_tiledBy (laterRun m c t h l).1 ![32, 512] (by sl_kernel_rfl) y

/-- The later point's pieces of `db` cover it. -/
theorem later_db_cover (c : Dev nD) (t : Fin cfg0.N) (h : ¬t.val % 16 = 0) (l : Left F) (y : S1x512.Idx) :
    ∃ pc ∈ (laterRun m c t h l).2.2.1, y ∈ pc.1.set :=
  View.cover_of_tiledL (laterRun m c t h l).2.2.1 S1x512.size (by sl_kernel_rfl) y

/-- The later point's pieces of `dg` cover it. -/
theorem later_dg_cover (c : Dev nD) (t : Fin cfg0.N) (h : ¬t.val % 16 = 0) (l : Left F) (y : S1x512.Idx) :
    ∃ pc ∈ (laterRun m c t h l).2.2.2.1, y ∈ pc.1.set :=
  View.cover_of_tiledL (laterRun m c t h l).2.2.2.1 S1x512.size (by sl_kernel_rfl) y

/-- The later point's pieces of `ds` cover it. -/
theorem later_ds_cover (c : Dev nD) (t : Fin cfg0.N) (h : ¬t.val % 16 = 0) (l : Left F) (y : S1x512.Idx) :
    ∃ pc ∈ (laterRun m c t h l).2.2.2.2.1, y ∈ pc.1.set :=
  View.cover_of_tiledL (laterRun m c t h l).2.2.2.2.1 S1x512.size (by sl_kernel_rfl) y

/-- The later point's pieces of `head` cover it. -/
theorem later_head_cover (c : Dev nD) (t : Fin cfg0.N) (h : ¬t.val % 16 = 0) (l : Left F) (y : S32x512.Idx) :
    ∃ pc ∈ (laterRun m c t h l).2.2.2.2.2.1, y ∈ pc.1.set :=
  View.cover_of_tiledL (laterRun m c t h l).2.2.2.2.2.1 S32x512.size (by sl_kernel_rfl) y

/-- What the first point leaves. -/
def firstLeft (c : Dev nD) (t : Fin cfg0.N) (h : t.val % 16 = 0) : Left F where
  du := VO0_11.read (Elt F) (VO0_11.writes (Elt F) VO0_11.junk (firstRun m c t h).1)
  dw := VO0_12.read (Elt F) (VO0_12.writes (Elt F) VO0_12.junk (firstRun m c t h).2.1)
  db := VO0_13.read (Elt F) (VO0_13.writes (Elt F) VO0_13.junk (firstRun m c t h).2.2.1)
  dg := VO0_14.read (Elt F) (VO0_14.writes (Elt F) VO0_14.junk (firstRun m c t h).2.2.2.1)
  ds := VO0_15.read (Elt F) (VO0_15.writes (Elt F) VO0_15.junk (firstRun m c t h).2.2.2.2.1)
  head := VS0_2.read (Elt F) (VS0_2.writes (Elt F) VS0_2.junk (firstRun m c t h).2.2.2.2.2.1)

/-- What a later point leaves: the sums for the weights are stored into what the point before left. -/
def laterLeft (c : Dev nD) (t : Fin cfg0.N) (h : ¬t.val % 16 = 0) (l : Left F) : Left F where
  du := VO0_11.read (Elt F) (VO0_11.writes (Elt F) VO0_11.junk (laterRun m c t h l).1)
  dw := (ms0_12 t).view.read (Elt F) ((ms0_12 t).view.writes (Elt F) ((hs0_12 t).unread l.dw) (laterRun m c t h l).2.1)
  db := VO0_13.read (Elt F) (VO0_13.writes (Elt F) VO0_13.junk (laterRun m c t h l).2.2.1)
  dg := VO0_14.read (Elt F) (VO0_14.writes (Elt F) VO0_14.junk (laterRun m c t h l).2.2.2.1)
  ds := VO0_15.read (Elt F) (VO0_15.writes (Elt F) VO0_15.junk (laterRun m c t h l).2.2.2.2.1)
  head := VS0_2.read (Elt F) (VS0_2.writes (Elt F) VS0_2.junk (laterRun m c t h l).2.2.2.2.2.1)

/-- What each point leaves, one after another. -/
def left (c : Dev nD) : (n : ℕ) → n < cfg0.N → Left F
  | 0, hn => firstLeft m c ⟨0, hn⟩ (Nat.zero_mod _)
  | n + 1, hn => laterLeft m c ⟨n + 1, hn⟩
      (by have hN : n + 1 < 16 := lt_of_lt_of_eq hn (show cfg0.N = 16 from N_0); dsimp only; omega)
      (left c n (Nat.lt_of_succ_lt hn))

/-- `left` at a first point. -/
theorem left_first (c : Dev nD) (t : Fin cfg0.N) (h : t.val % 16 = 0) :
    left m c t.val t.isLt = firstLeft m c t h := by
  obtain ⟨n, hn⟩ := t
  cases n with
  | zero => rfl
  | succ n => exact absurd (Nat.le_add_left 1 n) (not_later h)

/-- `left` at a later point. -/
theorem left_later (c : Dev nD) (t : Fin cfg0.N) (h : ¬t.val % 16 = 0) :
    left m c t.val t.isLt
      = laterLeft m c t h (left m c (t.val - 1) (Nat.lt_of_le_of_lt (Nat.sub_le _ _) t.isLt)) := by
  obtain ⟨n, hn⟩ := t
  cases n with
  | zero => exact absurd (Nat.zero_mod _) h
  | succ n => rfl

/-- The scoped rest between two points: the two buffers at anything, the carried rows at given contents. -/
def rest (c : Dev nD) (d : Vec F S32x512 .f32) : sProp 𝕄 :=
  iprop(iprop((∃ d, owns (c : Thread nD τ) scM0_0 fullShare d) ∗ (∃ d, owns (c : Thread nD τ) scM0_1 fullShare d) ∗ owns (c : Thread nD τ) scM0_2 fullShare d) ∗ (∃ r, prngReg c r))

/-- The invariant before position `n`. -/
def Inv (c : Dev nD) : (n : ℕ) → n ≤ cfg0.N → sProp 𝕄
  | 0, _ => Pipeline.ΦA spec0 c
  | n + 1, hn => rest c (left m c n hn).head

/-- Before the first point. -/
theorem Inv_zero (c : Dev nD) (n : ℕ) (h : n ≤ cfg0.N) (hz : n = 0) : Inv m c n h = Pipeline.ΦA spec0 c := by
  subst hz; rfl

/-- Before any other. -/
theorem Inv_pos (c : Dev nD) (n : ℕ) (h : n ≤ cfg0.N) (hz : n ≠ 0) :
    Inv m c n h = rest c (left m c (n - 1) (by omega)).head := by
  cases n with
  | zero => exact absurd rfl hz
  | succ n => rfl

/-- The proof data: each input at its block, each output at what `left` says. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (left m c t.val t.isLt).du
    | ⟨12, _⟩ => (left m c t.val t.isLt).dw
    | ⟨13, _⟩ => (left m c t.val t.isLt).db
    | ⟨14, _⟩ => (left m c t.val t.isLt).dg
    | ⟨15, _⟩ => (left m c t.val t.isLt).ds
    | ⟨_ + 16, h⟩ => absurd h (Nat.not_lt.2 (Nat.le_add_left _ _))
  Φ t := Inv m c t.val (Nat.le_of_lt_succ t.isLt)
  q w := Pipeline.shareOf spec0 w
  owed _ := 0

/-- The arrays of the proof data are the ones the region finds. -/
theorem data_A (c : Dev nD) (w : Fin cfg0.W) : (data m 0 c).A w = V m c (Pipeline.arrRef spec0 w) := by
  dsimp only [data]

/-- The invariant at a point's start. -/
theorem Inv_castSucc (c : Dev nD) (t : Fin cfg0.N) :
    (data m 0 c).Φ t.castSucc = Inv m c t.val (Nat.le_of_lt t.isLt) := by
  dsimp only [data]; exact Pipeline.Dat.Φ_castSucc (Inv m c) t

theorem in_0 (c : Dev nD) (t : Fin cfg0.N) : (data m 0 c).after 0 t = iblk m c 0 t := by dsimp only [data]
theorem in_1 (c : Dev nD) (t : Fin cfg0.N) : (data m 0 c).after 1 t = iblk m c 1 t := by dsimp only [data]
theorem in_2 (c : Dev nD) (t : Fin cfg0.N) : (data m 0 c).after 2 t = iblk m c 2 t := by dsimp only [data]
theorem in_3 (c : Dev nD) (t : Fin cfg0.N) : (data m 0 c).after 3 t = iblk m c 3 t := by dsimp only [data]
theorem in_4 (c : Dev nD) (t : Fin cfg0.N) : (data m 0 c).after 4 t = iblk m c 4 t := by dsimp only [data]
theorem in_5 (c : Dev nD) (t : Fin cfg0.N) : (data m 0 c).after 5 t = iblk m c 5 t := by dsimp only [data]
theorem in_6 (c : Dev nD) (t : Fin cfg0.N) : (data m 0 c).after 6 t = iblk m c 6 t := by dsimp only [data]
theorem in_7 (c : Dev nD) (t : Fin cfg0.N) : (data m 0 c).after 7 t = iblk m c 7 t := by dsimp only [data]
theorem in_8 (c : Dev nD) (t : Fin cfg0.N) : (data m 0 c).after 8 t = iblk m c 8 t := by dsimp only [data]
theorem in_9 (c : Dev nD) (t : Fin cfg0.N) : (data m 0 c).after 9 t = iblk m c 9 t := by dsimp only [data]
theorem in_10 (c : Dev nD) (t : Fin cfg0.N) : (data m 0 c).after 10 t = iblk m c 10 t := by dsimp only [data]
theorem out_11 (c : Dev nD) (t : Fin cfg0.N) : (data m 0 c).after 11 t = (left m c t.val t.isLt).du := by dsimp only [data]
theorem out_12 (c : Dev nD) (t : Fin cfg0.N) : (data m 0 c).after 12 t = (left m c t.val t.isLt).dw := by dsimp only [data]
theorem out_13 (c : Dev nD) (t : Fin cfg0.N) : (data m 0 c).after 13 t = (left m c t.val t.isLt).db := by dsimp only [data]
theorem out_14 (c : Dev nD) (t : Fin cfg0.N) : (data m 0 c).after 14 t = (left m c t.val t.isLt).dg := by dsimp only [data]
theorem out_15 (c : Dev nD) (t : Fin cfg0.N) : (data m 0 c).after 15 t = (left m c t.val t.isLt).ds := by dsimp only [data]
theorem start_0 (c : Dev nD) (t : Fin cfg0.N) (d) : (data m 0 c).before 0 t d = iblk m c 0 t := before0_0_of m (data m 0 c) (data_A m c 0) (in_0 m c) t d
theorem start_1 (c : Dev nD) (t : Fin cfg0.N) (d) : (data m 0 c).before 1 t d = iblk m c 1 t := before0_1_of m (data m 0 c) (data_A m c 1) (in_1 m c) t d
theorem start_2 (c : Dev nD) (t : Fin cfg0.N) (d) : (data m 0 c).before 2 t d = iblk m c 2 t := before0_2_of m (data m 0 c) (data_A m c 2) (in_2 m c) t d
theorem start_3 (c : Dev nD) (t : Fin cfg0.N) (d) : (data m 0 c).before 3 t d = iblk m c 3 t := before0_3_of m (data m 0 c) (data_A m c 3) (in_3 m c) t d
theorem start_4 (c : Dev nD) (t : Fin cfg0.N) (d) : (data m 0 c).before 4 t d = iblk m c 4 t := before0_4_of m (data m 0 c) (data_A m c 4) (in_4 m c) t d
theorem start_5 (c : Dev nD) (t : Fin cfg0.N) (d) : (data m 0 c).before 5 t d = iblk m c 5 t := before0_5_of m (data m 0 c) (data_A m c 5) (in_5 m c) t d
theorem start_6 (c : Dev nD) (t : Fin cfg0.N) (d) : (data m 0 c).before 6 t d = iblk m c 6 t := before0_6_of m (data m 0 c) (data_A m c 6) (in_6 m c) t d
theorem start_7 (c : Dev nD) (t : Fin cfg0.N) (d) : (data m 0 c).before 7 t d = iblk m c 7 t := before0_7_of m (data m 0 c) (data_A m c 7) (in_7 m c) t d
theorem start_8 (c : Dev nD) (t : Fin cfg0.N) (d) : (data m 0 c).before 8 t d = iblk m c 8 t := before0_8_of m (data m 0 c) (data_A m c 8) (in_8 m c) t d
theorem start_9 (c : Dev nD) (t : Fin cfg0.N) (d) : (data m 0 c).before 9 t d = iblk m c 9 t := before0_9_of m (data m 0 c) (data_A m c 9) (in_9 m c) t d
theorem start_10 (c : Dev nD) (t : Fin cfg0.N) (d) : (data m 0 c).before 10 t d = iblk m c 10 t := before0_10_of m (data m 0 c) (data_A m c 10) (in_10 m c) t d

/-- Output 13 is written at every point. -/
theorem live_13 (t : Fin cfg0.N) : cfg0.idle 13 (grid0.coords t) = false := by
  by_cases h : t.val % 16 = 0
  · exact liveAt0_13_A t ((hcond0_0 t).mpr h) ((hcond0_1 t).mpr h) (fun k => not_later h ((hcond0_2 t).mp k)) ((hcond0_3 t).mpr h) (fun k => not_later h ((hcond0_4 t).mp k)) ((hcond0_5 t).mpr h) (fun k => not_later h ((hcond0_6 t).mp k))
  · exact liveAt0_13_B t (fun k => h ((hcond0_0 t).mp k)) (fun k => h ((hcond0_1 t).mp k)) ((hcond0_2 t).mpr (later h)) (fun k => h ((hcond0_3 t).mp k)) ((hcond0_4 t).mpr (later h)) (fun k => h ((hcond0_5 t).mp k)) ((hcond0_6 t).mpr (later h))

/-- Output 14 is written at every point. -/
theorem live_14 (t : Fin cfg0.N) : cfg0.idle 14 (grid0.coords t) = false := by
  by_cases h : t.val % 16 = 0
  · exact liveAt0_14_A t ((hcond0_0 t).mpr h) ((hcond0_1 t).mpr h) (fun k => not_later h ((hcond0_2 t).mp k)) ((hcond0_3 t).mpr h) (fun k => not_later h ((hcond0_4 t).mp k)) ((hcond0_5 t).mpr h) (fun k => not_later h ((hcond0_6 t).mp k))
  · exact liveAt0_14_B t (fun k => h ((hcond0_0 t).mp k)) (fun k => h ((hcond0_1 t).mp k)) ((hcond0_2 t).mpr (later h)) (fun k => h ((hcond0_3 t).mp k)) ((hcond0_4 t).mpr (later h)) (fun k => h ((hcond0_5 t).mp k)) ((hcond0_6 t).mpr (later h))

/-- Output 15 is written at every point. -/
theorem live_15 (t : Fin cfg0.N) : cfg0.idle 15 (grid0.coords t) = false := by
  by_cases h : t.val % 16 = 0
  · exact liveAt0_15_A t ((hcond0_0 t).mpr h) ((hcond0_1 t).mpr h) (fun k => not_later h ((hcond0_2 t).mp k)) ((hcond0_3 t).mpr h) (fun k => not_later h ((hcond0_4 t).mp k)) ((hcond0_5 t).mpr h) (fun k => not_later h ((hcond0_6 t).mp k))
  · exact liveAt0_15_B t (fun k => h ((hcond0_0 t).mp k)) (fun k => h ((hcond0_1 t).mp k)) ((hcond0_2 t).mpr (later h)) (fun k => h ((hcond0_3 t).mp k)) ((hcond0_4 t).mpr (later h)) (fun k => h ((hcond0_5 t).mp k)) ((hcond0_6 t).mpr (later h))

/-- The sums for the weights a later point finds are those the point before left. -/
theorem start_12 (c : Dev nD) (t : Fin cfg0.N) (h : ¬t.val % 16 = 0) (d) :
    (data m 0 c).before 12 t d = (left m c (t.val - 1) (Nat.lt_of_le_of_lt (Nat.sub_le _ _) t.isLt)).dw := by
  have hN : t.val < 16 := lt_of_lt_of_eq t.isLt (show cfg0.N = 16 from N_0)
  rw [Dat.before_out_kept _ 12 rfl t (by omega)
    (Bool.eq_false_iff.mpr fun h => by have := (flush0_12 _).mp h; dsimp only at this; omega)
    (fun _ => rfl) (fun _ _ => rfl)]
  dsimp only [data]

theorem start_13 (c : Dev nD) (t : Fin cfg0.N) (h : ¬t.val % 16 = 0) (d) :
    (data m 0 c).before 13 t d = (left m c (t.val - 1) (Nat.lt_of_le_of_lt (Nat.sub_le _ _) t.isLt)).db := by
  rw [Dat.before_out_traj _ 13 rfl (fun _ _ => rfl)
      (fun s _ hi _ => by rw [live_13 s] at hi; exact absurd hi Bool.false_ne_true) t.val t rfl d,
    if_neg (by rw [notFresh0_13_B t (fun k => h ((hcond0_0 t).mp k)) (fun k => h ((hcond0_1 t).mp k)) ((hcond0_2 t).mpr (later h)) (fun k => h ((hcond0_3 t).mp k)) ((hcond0_4 t).mpr (later h)) (fun k => h ((hcond0_5 t).mp k)) ((hcond0_6 t).mpr (later h))]; exact Bool.false_ne_true)]
  dsimp only [data]

theorem start_14 (c : Dev nD) (t : Fin cfg0.N) (h : ¬t.val % 16 = 0) (d) :
    (data m 0 c).before 14 t d = (left m c (t.val - 1) (Nat.lt_of_le_of_lt (Nat.sub_le _ _) t.isLt)).dg := by
  rw [Dat.before_out_traj _ 14 rfl (fun _ _ => rfl)
      (fun s _ hi _ => by rw [live_14 s] at hi; exact absurd hi Bool.false_ne_true) t.val t rfl d,
    if_neg (by rw [notFresh0_14_B t (fun k => h ((hcond0_0 t).mp k)) (fun k => h ((hcond0_1 t).mp k)) ((hcond0_2 t).mpr (later h)) (fun k => h ((hcond0_3 t).mp k)) ((hcond0_4 t).mpr (later h)) (fun k => h ((hcond0_5 t).mp k)) ((hcond0_6 t).mpr (later h))]; exact Bool.false_ne_true)]
  dsimp only [data]

theorem start_15 (c : Dev nD) (t : Fin cfg0.N) (h : ¬t.val % 16 = 0) (d) :
    (data m 0 c).before 15 t d = (left m c (t.val - 1) (Nat.lt_of_le_of_lt (Nat.sub_le _ _) t.isLt)).ds := by
  rw [Dat.before_out_traj _ 15 rfl (fun _ _ => rfl)
      (fun s _ hi _ => by rw [live_15 s] at hi; exact absurd hi Bool.false_ne_true) t.val t rfl d,
    if_neg (by rw [notFresh0_15_B t (fun k => h ((hcond0_0 t).mp k)) (fun k => h ((hcond0_1 t).mp k)) ((hcond0_2 t).mpr (later h)) (fun k => h ((hcond0_3 t).mp k)) ((hcond0_4 t).mpr (later h)) (fun k => h ((hcond0_5 t).mp k)) ((hcond0_6 t).mpr (later h))]; exact Bool.false_ne_true)]
  dsimp only [data]

/-- What the body is called with. -/
def pre (c : Dev nD) (t : Fin cfg0.N) : sProp 𝕄 :=
  iprop((data m 0 c).Φ t.castSucc ∗ (data m 0 c).owesAt () t.castSucc
    ∗ (∃ d, owns (c : Thread nD τ) (ms0_0 t) fullShare ((data m 0 c).before 0 t d))
    ∗ (∃ d, owns (c : Thread nD τ) (ms0_1 t) fullShare ((data m 0 c).before 1 t d))
    ∗ (∃ d, owns (c : Thread nD τ) (ms0_2 t) fullShare ((data m 0 c).before 2 t d))
    ∗ (∃ d, owns (c : Thread nD τ) (ms0_3 t) fullShare ((data m 0 c).before 3 t d))
    ∗ (∃ d, owns (c : Thread nD τ) (ms0_4 t) fullShare ((data m 0 c).before 4 t d))
    ∗ (∃ d, owns (c : Thread nD τ) (ms0_5 t) fullShare ((data m 0 c).before 5 t d))
    ∗ (∃ d, owns (c : Thread nD τ) (ms0_6 t) fullShare ((data m 0 c).before 6 t d))
    ∗ (∃ d, owns (c : Thread nD τ) (ms0_7 t) fullShare ((data m 0 c).before 7 t d))
    ∗ (∃ d, owns (c : Thread nD τ) (ms0_8 t) fullShare ((data m 0 c).before 8 t d))
    ∗ (∃ d, owns (c : Thread nD τ) (ms0_9 t) fullShare ((data m 0 c).before 9 t d))
    ∗ (∃ d, owns (c : Thread nD τ) (ms0_10 t) fullShare ((data m 0 c).before 10 t d))
    ∗ (∃ d, owns (c : Thread nD τ) (ms0_11 t) fullShare ((data m 0 c).before 11 t d))
    ∗ (∃ d, owns (c : Thread nD τ) (ms0_12 t) fullShare ((data m 0 c).before 12 t d))
    ∗ (∃ d, owns (c : Thread nD τ) (ms0_13 t) fullShare ((data m 0 c).before 13 t d))
    ∗ (∃ d, owns (c : Thread nD τ) (ms0_14 t) fullShare ((data m 0 c).before 14 t d))
    ∗ (∃ d, owns (c : Thread nD τ) (ms0_15 t) fullShare ((data m 0 c).before 15 t d)))

/-- What it returns. -/
def post (c : Dev nD) (t : Fin cfg0.N) : sProp 𝕄 :=
  iprop((data m 0 c).Φ t.succ ∗ (data m 0 c).owesAt () t.succ
    ∗ (data m 0 c).leavesExact 0 t
    ∗ (data m 0 c).leavesExact 1 t
    ∗ (data m 0 c).leavesExact 2 t
    ∗ (data m 0 c).leavesExact 3 t
    ∗ (data m 0 c).leavesExact 4 t
    ∗ (data m 0 c).leavesExact 5 t
    ∗ (data m 0 c).leavesExact 6 t
    ∗ (data m 0 c).leavesExact 7 t
    ∗ (data m 0 c).leavesExact 8 t
    ∗ (data m 0 c).leavesExact 9 t
    ∗ (data m 0 c).leavesExact 10 t
    ∗ (data m 0 c).leavesExact 11 t
    ∗ (data m 0 c).leavesExact 12 t
    ∗ (data m 0 c).leavesExact 13 t
    ∗ (data m 0 c).leavesExact 14 t
    ∗ (data m 0 c).leavesExact 15 t)

theorem leaves_0 (c : Dev nD) (t : Fin cfg0.N) : (data m 0 c).leavesExact 0 t = owns (c : Thread nD τ) (ms0_0 t) fullShare (iblk m c 0 t) := by
  rw [← in_0 m c t]

theorem leaves_1 (c : Dev nD) (t : Fin cfg0.N) : (data m 0 c).leavesExact 1 t = owns (c : Thread nD τ) (ms0_1 t) fullShare (iblk m c 1 t) := by
  rw [← in_1 m c t]

theorem leaves_2 (c : Dev nD) (t : Fin cfg0.N) : (data m 0 c).leavesExact 2 t = owns (c : Thread nD τ) (ms0_2 t) fullShare (iblk m c 2 t) := by
  rw [← in_2 m c t]

theorem leaves_3 (c : Dev nD) (t : Fin cfg0.N) : (data m 0 c).leavesExact 3 t = owns (c : Thread nD τ) (ms0_3 t) fullShare (iblk m c 3 t) := by
  rw [← in_3 m c t]

theorem leaves_4 (c : Dev nD) (t : Fin cfg0.N) : (data m 0 c).leavesExact 4 t = owns (c : Thread nD τ) (ms0_4 t) fullShare (iblk m c 4 t) := by
  rw [← in_4 m c t]

theorem leaves_5 (c : Dev nD) (t : Fin cfg0.N) : (data m 0 c).leavesExact 5 t = owns (c : Thread nD τ) (ms0_5 t) fullShare (iblk m c 5 t) := by
  rw [← in_5 m c t]

theorem leaves_6 (c : Dev nD) (t : Fin cfg0.N) : (data m 0 c).leavesExact 6 t = owns (c : Thread nD τ) (ms0_6 t) fullShare (iblk m c 6 t) := by
  rw [← in_6 m c t]

theorem leaves_7 (c : Dev nD) (t : Fin cfg0.N) : (data m 0 c).leavesExact 7 t = owns (c : Thread nD τ) (ms0_7 t) fullShare (iblk m c 7 t) := by
  rw [← in_7 m c t]

theorem leaves_8 (c : Dev nD) (t : Fin cfg0.N) : (data m 0 c).leavesExact 8 t = owns (c : Thread nD τ) (ms0_8 t) fullShare (iblk m c 8 t) := by
  rw [← in_8 m c t]

theorem leaves_9 (c : Dev nD) (t : Fin cfg0.N) : (data m 0 c).leavesExact 9 t = owns (c : Thread nD τ) (ms0_9 t) fullShare (iblk m c 9 t) := by
  rw [← in_9 m c t]

theorem leaves_10 (c : Dev nD) (t : Fin cfg0.N) : (data m 0 c).leavesExact 10 t = owns (c : Thread nD τ) (ms0_10 t) fullShare (iblk m c 10 t) := by
  rw [← in_10 m c t]

theorem leaves_11 (c : Dev nD) (t : Fin cfg0.N) : (data m 0 c).leavesExact 11 t = owns (c : Thread nD τ) (ms0_11 t) fullShare (left m c t.val t.isLt).du := by
  rw [← out_11 m c t]

theorem leaves_12 (c : Dev nD) (t : Fin cfg0.N) : (data m 0 c).leavesExact 12 t = owns (c : Thread nD τ) (ms0_12 t) fullShare (left m c t.val t.isLt).dw := by
  rw [← out_12 m c t]

theorem leaves_13 (c : Dev nD) (t : Fin cfg0.N) : (data m 0 c).leavesExact 13 t = owns (c : Thread nD τ) (ms0_13 t) fullShare (left m c t.val t.isLt).db := by
  rw [← out_13 m c t]; unfold Dat.leavesExact; rw [live_13 t]

theorem leaves_14 (c : Dev nD) (t : Fin cfg0.N) : (data m 0 c).leavesExact 14 t = owns (c : Thread nD τ) (ms0_14 t) fullShare (left m c t.val t.isLt).dg := by
  rw [← out_14 m c t]; unfold Dat.leavesExact; rw [live_14 t]

theorem leaves_15 (c : Dev nD) (t : Fin cfg0.N) : (data m 0 c).leavesExact 15 t = owns (c : Thread nD τ) (ms0_15 t) fullShare (left m c t.val t.isLt).ds := by
  rw [← out_15 m c t]; unfold Dat.leavesExact; rw [live_15 t]

set_option maxHeartbeats 12800000 in
/-- The body at any point does what `left` says. -/
theorem body_runs (c : Dev nD) (t : Fin cfg0.N) :
    pre m c t ⊢ wp frame (wpE (defs₀ (F := F)) Variants.none c none) Set.univ (bodyAt0 t) (fun _ => post m c t) := by
  unfold pre post bodyAt0
  simp only [start_0, start_1, start_2, start_3, start_4, start_5, start_6, start_7, start_8, start_9, start_10]
  rw [show (data m 0 c).owesAt () t.succ = (data m 0 c).owesAt () t.castSucc from rfl]
  rw [show (data m 0 c).Φ t.succ = rest c (left m c t.val t.isLt).head from rfl]
  rw [leaves_0 m c t, leaves_1 m c t, leaves_2 m c t, leaves_3 m c t, leaves_4 m c t, leaves_5 m c t, leaves_6 m c t, leaves_7 m c t, leaves_8 m c t, leaves_9 m c t, leaves_10 m c t, leaves_11 m c t, leaves_12 m c t, leaves_13 m c t, leaves_14 m c t, leaves_15 m c t]
  by_cases h : t.val % 16 = 0
  · have hz : t.val = 0 := by have := not_later h; omega
    rw [Inv_castSucc m c t, Inv_zero m c _ _ hz, PhiA0_eq, left_first m c t h]
    unfold rest firstLeft; dsimp only
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply ((firstRun m c t h).2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    isplitl [HS0]; · iexact HS0
    isplitl [HS1]; · iexact HS1
    isplitl [HS2]; · iexact HS2
    iintro ⟨H0, H1, H2, H3, H4, H5, H6, H7, H8, H9, H10, ⟨%e11, H11⟩, ⟨%e12, H12⟩, ⟨%e13, H13⟩, ⟨%e14, H14⟩, ⟨%e15, H15⟩, ⟨%fT0, HS0⟩, ⟨%fT1, HS1⟩, ⟨%es2, HS2⟩⟩
    isplitl [HS0 HS1 HS2 Hg]
    · isplitl [HS0 HS1 HS2]
      · isplitl [HS0]
        · iexists _; unfold owns; iexists _; isplitr
          swap; · iexact HS0
          ipureintro; rfl
        isplitl [HS1]
        · iexists _; unfold owns; iexists _; isplitr
          swap; · iexact HS1
          ipureintro; rfl
        unfold owns; iexists _; isplitr
        swap; · iexact HS2
        ipureintro; exact View.read_writes_of_cover _ _ _ _ _ (first_head_cover m c t h)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact View.read_writes_of_cover _ _ _ _ _ (first_du_cover m c t h)
    isplitl [H12]
    · unfold owns; iexists _; isplitr
      swap; · iexact H12
      ipureintro; exact View.read_writes_of_cover _ _ _ _ _ (first_dw_cover m c t h)
    isplitl [H13]
    · unfold owns; iexists _; isplitr
      swap; · iexact H13
      ipureintro; exact View.read_writes_of_cover _ _ _ _ _ (first_db_cover m c t h)
    isplitl [H14]
    · unfold owns; iexists _; isplitr
      swap; · iexact H14
      ipureintro; exact View.read_writes_of_cover _ _ _ _ _ (first_dg_cover m c t h)
    unfold owns; iexists _; isplitr
    swap; · iexact H15
    ipureintro; exact View.read_writes_of_cover _ _ _ _ _ (first_ds_cover m c t h)
  · have hz : t.val ≠ 0 := by have := later h; omega
    rw [Inv_castSucc m c t, Inv_pos m c _ _ hz, left_later m c t h]
    simp only [start_12 m c t h, start_13 m c t h, start_14 m c t h, start_15 m c t h]
    generalize left m c (t.val - 1) _ = l
    unfold rest laterLeft; dsimp only
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply ((laterRun m c t h l).2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexact H12
    isplitl [H13]; · iexact H13
    isplitl [H14]; · iexact H14
    isplitl [H15]; · iexact H15
    isplitl [HS0]; · iexact HS0
    isplitl [HS1]; · iexact HS1
    isplitl [HS2]; · iexact HS2
    iintro ⟨H0, H1, H2, H3, H4, H5, H6, H7, H8, H9, H10, ⟨%e11, H11⟩, H12, ⟨%e13, H13⟩, ⟨%e14, H14⟩, ⟨%e15, H15⟩, ⟨%fT0, HS0⟩, ⟨%fT1, HS1⟩, ⟨%es2, HS2⟩⟩
    isplitl [HS0 HS1 HS2 Hg]
    · isplitl [HS0 HS1 HS2]
      · isplitl [HS0]
        · iexists _; unfold owns; iexists _; isplitr
          swap; · iexact HS0
          ipureintro; rfl
        isplitl [HS1]
        · iexists _; unfold owns; iexists _; isplitr
          swap; · iexact HS1
          ipureintro; rfl
        unfold owns; iexists _; isplitr
        swap; · iexact HS2
        ipureintro; exact View.read_writes_of_cover _ _ _ _ _ (later_head_cover m c t h l)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact View.read_writes_of_cover _ _ _ _ _ (later_du_cover m c t h l)
    isplitl [H12]
    · unfold owns; iexists _; isplitr
      swap; · iexact H12
      ipureintro; rfl
    isplitl [H13]
    · unfold owns; iexists _; isplitr
      swap; · iexact H13
      ipureintro; exact View.read_writes_of_cover _ _ _ _ _ (later_db_cover m c t h l)
    isplitl [H14]
    · unfold owns; iexists _; isplitr
      swap; · iexact H14
      ipureintro; exact View.read_writes_of_cover _ _ _ _ _ (later_dg_cover m c t h l)
    unfold owns; iexists _; isplitr
    swap; · iexact H15
    ipureintro; exact View.read_writes_of_cover _ _ _ _ _ (later_ds_cover m c t h l)

/-- The body table's row at a point is the body. -/
theorem row (t : Fin cfg0.N) : defs₀ (F := F) .tc cfg0.body (cfg0.bodyArgs t (cfg0.slots t)) = bodyAt0 t := by
  unfold defs₀; rw [Defs.onTc_tc]

/-- The body obligation at every point. -/
theorem obligation (c : Dev nD) : BodyObligation (data (F := F) m 0 c) (defs₀ (F := F)) Variants.none () Set.univ := fun t => by
  rw [bigSep_W0, bigSep_W0, row]
  exact triple_restated (body_runs m c t) rfl .rfl fun _ => .rfl

/-- The launch gives the invariant before the first point. -/
theorem enter (c : Dev nD) : Pipeline.ΦA spec0 c ⊢ (data m 0 c).Φ 0 := by
  rw [show (data m 0 c).Φ 0 = Inv m c 0 (Nat.zero_le _) from rfl, Inv_zero m c 0 _ rfl]

/-- After the last point the carried rows are forgotten. -/
theorem leave (c : Dev nD) : (data m 0 c).Φ (Fin.last cfg0.N) ⊢ Pipeline.ΦA spec0 c := by
  have ht : (Fin.last cfg0.N).val ≠ 0 := by rw [Fin.val_last]; have : cfg0.N = 16 := N_0; omega
  rw [show (data m 0 c).Φ (Fin.last cfg0.N) = Inv m c (Fin.last cfg0.N).val (Nat.le_of_lt_succ (Fin.last cfg0.N).isLt) from rfl,
    Inv_pos m c _ _ ht, PhiA0_eq]
  unfold rest
  iintro ⟨⟨HS0, HS1, HS2⟩, Hg⟩
  isplitl [HS0 HS1 HS2]
  · isplitl [HS0]
    · iexact HS0
    isplitl [HS1]
    · iexact HS1
    iexists _; iexact HS2
  iexact Hg

set_option backward.isDefEq.respectTransparency.types false in
set_option maxHeartbeats 800000 in
/-- The launch and the lines after it. -/
theorem launch : θ_run defs (onTc (τ := τ) (main (F := F))) (s₀ m ρ)
    (fun r => (Pipeline.FramePost cfgs (data m) 0 (Pipeline.afterTail₀ cfgs (data m) 0 (V0 m) [hostOps1])) r
      ∧ r.2.sem = fun _ => 0) :=
  Pipeline.θ_run_frame_around_track_shared (Q' := _) cfgs (data m) (0 : Fin 1) launch₀0 defs₀ Variants.none m ρ main
    (hbody := fun c => (obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := data_A m) (hin := enter m) (hout := leave m)

/-- The same without the counters. -/
theorem launch_post : θ_run defs (onTc (τ := τ) (main (F := F))) (s₀ m ρ)
    (Pipeline.FramePost cfgs (data m) 0 (Pipeline.afterTail₀ cfgs (data m) 0 (V0 m) [hostOps1])) :=
  (θ_run defs _ _).mono (fun _ h => h.1) (launch m ρ)

/-- The call terminates, leaves its arguments as they were and every counter at zero. -/
theorem quiet : θ_run defs (onTc (τ := τ) (main (F := F))) ⟨m, fun _ => 0, ρ⟩ (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (data m) (data_A m) (launch_post m ρ)) ((θ_run defs _ _).mono (fun _ h => h.2) (launch m ρ))

end Cert.ConvBwd

end
-- ==== Proof.ConvFrameWords.lean ====
module

public import proofs.«01_k».proof.Proof.Gen.Kernel10
public import proofs.«01_k».proof.Proof.ConvFrame
public import proofs.«01_k».proof.Defs

/-! # The run of the program whose floats are words

The program before idealization has the same lines over its own names, and `ConvFrame` runs them at every kind of float: its run at the words is this one. -/

@[expose] public section

set_option maxRecDepth 200000
set_option maxHeartbeats 4000000

noncomputable section

namespace Cert.ConvBwd.Words

open Idealize.ShloMosaic Idealize.ShloMosaic.TcCoe Idealize.SL.Sem
open Cert.Kernel10 Cert.Kernel10.Gen

/-- The two tables of bodies are one. -/
theorem bodies : @defs₀ Bits _ _ = @Cert.Kernel10Ideal.defs₀ Bits _ _ := by
  unfold defs₀ Cert.Kernel10Ideal.defs₀
  refine congrArg (Defs.onTc (nD := nD) (τ := τ) (sig := sig) (Λ := Λ₀)) ?_
  funext l p
  match l, p with
  | 0, (t, s) => exact rfl

theorem tables : @defs Bits _ _ = @Cert.Kernel10Ideal.defs Bits _ _ := congrArg (Pipeline.defs (pcfgs (F := Bits))) bodies

theorem lines : @main Bits _ _ = @Cert.Kernel10Ideal.main Bits _ _ := rfl

/-- The call terminates, leaves its arguments as they were and every counter at zero. -/
theorem quiet (m : (ℓ : Loc nD τ sig) → Idealize.ShloMosaic.Buf (Elt Bits) ℓ) (ρ : Dev nD → PrngReg) :
    θ_run (defs (F := Bits)) (onTc (τ := τ) (main (F := Bits))) ⟨m, fun _ => 0, ρ⟩ (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  rw [tables, lines]
  exact Cert.ConvBwd.quiet (F := Bits) m ρ

end Cert.ConvBwd.Words

end
-- ==== Proof.ConvTapSums.lean ====
/-
  The gradient of the taps, as a grid point of the convolution's backward call adds it up: a block of 256 rows is taken in eight pieces of 32
  rows, and for every piece each of the 31 taps adds to its own eight rows the products of the piece, shifted by the tap's place in a group of
  eight rows, with the rows it met, summed over the groups. What the rows hold after each addition, and what they hold together at the end.
-/
module

public import proofs.«01_k».proof.Proof.ConvScalar
public import proofs.«01_k».proof.Proof.Gen.Kernel10Ideal.Skeleton

@[expose] public section

noncomputable section

open Idealize.ShloMosaic Idealize.ShloMosaic.TcCoe

namespace Cert.ConvBwd

open Cert.Kernel10Ideal Cert.Kernel10Ideal.Gen
open Cert.Conv

/-- A row of a buffer by its number. -/
abbrev Buf : Type := ℕ → Fin 512 → EReal

/-- The tap of the `i`-th addition: the 31 taps by their place in a group of eight, over and over. -/
def tapAt (i : ℕ) : ℕ :=
  ([6, 14, 22, 30, 7, 15, 23, 0, 8, 16, 24, 1, 9, 17, 25, 2, 10, 18, 26, 3, 11, 19, 27, 4, 12, 20, 28, 5, 13, 21, 29] : List ℕ).getD (i % 31) 0

/-- Row `x` of piece `b`, shifted down by the place of tap `k`. -/
def shifted (D : Buf) (b k x : ℕ) (q : Fin 512) : EReal :=
  if (k + 2) % 8 ≤ x ∧ x < (k + 2) % 8 + 32 then D (32 * b + (x - (k + 2) % 8)) q else 0

/-- What piece `b` adds to row `j` of tap `k`. -/
def part (D Z : Buf) (b k j : ℕ) (q : Fin 512) : EReal :=
  ∑ g : Fin 5, shifted D b k (g.val * 8 + j) q * Z (32 * b + 8 * ((k + 2) / 8) + (g.val * 8 + j)) q

/-- Row `r` after `n` additions. -/
def total (init D Z : Buf) (n r : ℕ) (q : Fin 512) : EReal :=
  init r q + ∑ i ∈ Finset.range n, if tapAt i = r / 8 then part D Z (i / 31) (r / 8) (r % 8) q else 0

/-- A row of tap `k` was stored to in the first `n` additions. -/
def Met (all : Bool) (n k : ℕ) : Prop := all = true ∨ ∃ i < n, tapAt i = k

/-- The stores of the first `n` additions: on the rows met they leave the totals, on the others what was there. -/
def Holds {sg : RefSig} {κ : Kind} {sp : Space} (v : View sg κ sp S256x512 .f32) (init D Z : Buf) (all : Bool) (n : ℕ)
    (L : List (View.Piece (Elt Ideal) S256x512 .f32)) : Prop :=
  ∀ (f : v.ty.Contents (Elt Ideal)) (r : Fin 256) (q : Fin 512),
    (Met all n (r.val / 8) → v.read (Elt Ideal) (v.writes (Elt Ideal) f L) (ix2 r q) = total init D Z n r.val q)
    ∧ (¬Met all n (r.val / 8) → v.read (Elt Ideal) (v.writes (Elt Ideal) f L) (ix2 r q) = v.read (Elt Ideal) f (ix2 r q))

/-- One addition: of a shifted piece in five groups, and of one in its place in four. -/
def add40 (s z : FVec Ideal S40x512 .f32) (p : FVec Ideal S8x512 .f32) : FVec Ideal S8x512 .f32 :=
  addf (shapeCast S8x512 p shapeCasts_S8x512_S8x512)
    (multiReduction .add [0] S8x512 (shapeCast S5x8x512 (mulf s z) shapeCasts_S40x512_S5x8x512) 0x00000000#32 reduces_S5x8x512_S8x512 (.inl rfl) rfl)
def add32 (s z : FVec Ideal S32x512 .f32) (p : FVec Ideal S8x512 .f32) : FVec Ideal S8x512 .f32 :=
  addf (shapeCast S8x512 p shapeCasts_S8x512_S8x512)
    (multiReduction .add [0] S8x512 (shapeCast S4x8x512 (mulf s z) shapeCasts_S32x512_S4x8x512) 0x00000000#32 reduces_S4x8x512_S8x512 (.inl rfl) rfl)

theorem add40_apply (s z : FVec Ideal S40x512 .f32) (p : FVec Ideal S8x512 .f32) (j : Fin 8) (q : Fin 512) :
    add40 s z p (ix2 j q) = p (ix2 j q) + ∑ g : Fin 5, s (ix2 ⟨g.val * 8 + j.val, by omega⟩ q) * z (ix2 ⟨g.val * 8 + j.val, by omega⟩ q) := by
  pointwise [add40]

theorem add32_apply (s z : FVec Ideal S32x512 .f32) (p : FVec Ideal S8x512 .f32) (j : Fin 8) (q : Fin 512) :
    add32 s z p (ix2 j q) = p (ix2 j q) + ∑ g : Fin 4, s (ix2 ⟨g.val * 8 + j.val, by omega⟩ q) * z (ix2 ⟨g.val * 8 + j.val, by omega⟩ q) := by
  pointwise [add32]

/-- A piece between rows of zeros. -/
theorem cat_apply {s t : ℕ} (h : Shape.Concatenates [⟨2, ![s, 512]⟩, S32x512, ⟨2, ![t, 512]⟩] S40x512 0) (v : FVec Ideal S32x512 .f32)
    (x : Fin 40) (q : Fin 512) :
    concatenate S40x512 0 [⟨(⟨2, ![s, 512]⟩ : Shape), broadcast ⟨2, ![s, 512]⟩ (Scalar.ofBits .f32 0x00000000#32 : Ideal .f32)⟩, ⟨S32x512, v⟩,
      ⟨(⟨2, ![t, 512]⟩ : Shape), broadcast ⟨2, ![t, 512]⟩ (Scalar.ofBits .f32 0x00000000#32 : Ideal .f32)⟩] h (ix2 x q)
      = if hx : s ≤ x.val ∧ x.val < s + 32 then v (ix2 ⟨x.val - s, by omega⟩ q) else 0 := by
  have hsum : s + 32 + t = 40 := by
    have := h.2.2
    simpa [add_assoc] using this
  have hx := x.isLt
  split
  · rename_i hm
    exact concatenate_apply_piece (t := S40x512) 0 _ (by exact h) _ 1 (by simp) S32x512 v rfl rfl s (by simp) (ix2 ⟨x.val - s, by omega⟩ q)
      (fun b hb => by fin_cases b; exacts [absurd rfl hb, rfl]) (by show s + (x.val - s) = x.val; omega)
  · rename_i hm
    have z : ∀ (n : ℕ) (i : (⟨2, ![n, 512]⟩ : Shape).Idx), broadcast ⟨2, ![n, 512]⟩ (Scalar.ofBits .f32 0x00000000#32 : Ideal .f32) i = (0 : EReal) :=
      fun n i => by simp [broadcast, Scalar.ofBits, Ideal.ofBits, Ideal.ieee]
    by_cases hl : x.val < s
    · refine (concatenate_apply_piece (t := S40x512) 0 _ (by exact h) _ 0 (by simp) ⟨2, ![s, 512]⟩ _ rfl rfl 0 (by simp) (ix2 ⟨x.val, hl⟩ q)
        (fun b hb => by fin_cases b; exacts [absurd rfl hb, rfl]) (by show 0 + x.val = x.val; omega)).trans (z s _)
    · refine (concatenate_apply_piece (t := S40x512) 0 _ (by exact h) _ 2 (by simp) ⟨2, ![t, 512]⟩ _ rfl rfl (s + 32) (by simp)
        (ix2 ⟨x.val - (s + 32), by omega⟩ q) (fun b hb => by fin_cases b; exacts [absurd rfl hb, rfl])
        (by show s + 32 + (x.val - (s + 32)) = x.val; omega)).trans (z t _)

/-- So a shifted piece of the buffer, by its rows. -/
theorem cat_rows {s t : ℕ} (h : Shape.Concatenates [⟨2, ![s, 512]⟩, S32x512, ⟨2, ![t, 512]⟩] S40x512 0) {v : FVec Ideal S32x512 .f32} {D : Buf} {b k : ℕ}
    (hk : (k + 2) % 8 = s) (hv : ∀ (x : Fin 32) (q : Fin 512), v (ix2 x q) = D (32 * b + x.val) q) (x : Fin 40) (q : Fin 512) :
    concatenate S40x512 0 [⟨(⟨2, ![s, 512]⟩ : Shape), broadcast ⟨2, ![s, 512]⟩ (Scalar.ofBits .f32 0x00000000#32 : Ideal .f32)⟩, ⟨S32x512, v⟩,
      ⟨(⟨2, ![t, 512]⟩ : Shape), broadcast ⟨2, ![t, 512]⟩ (Scalar.ofBits .f32 0x00000000#32 : Ideal .f32)⟩] h (ix2 x q) = shifted D b k x.val q := by
  rw [cat_apply, shifted, hk]
  split
  · exact hv _ q
  · rfl

/-- A load of rows of a buffer whose rows are known. -/
theorem load_rows {sg : RefSig} {κ : Kind} {sp : Space} (v : View sg κ sp ⟨2, ![288, 512]⟩ .f32) {f : v.ty.Contents (Elt Ideal)} {D : Buf}
    (h : ∀ (r : Fin 288) (q : Fin 512), v.read (Elt Ideal) f (ix2 r q) = D r.val q) {o n : ℕ} (inb) {o' : ℕ} (ho : o = o') (x : Fin n) (q : Fin 512) :
    v.readAt (Elt Ideal) (Rect.unit (s := ⟨2, ![288, 512]⟩) ![o, 0] ![n, 512] inb).toLoadRect f (ix2 x q) = D (o' + x.val) q := by
  subst ho
  have ho : o + n ≤ 288 := inb 0
  have hx := x.isLt
  rw [View.readAt_apply]
  refine (congrArg _ (funext fun a => Fin.ext ?_)).trans (h ⟨o + x.val, by omega⟩ q)
  fin_cases a
  · show o + 1 * x.val = o + x.val; omega
  · show 0 + 1 * q.val = q.val; omega

section Step

variable {sg : RefSig} {κ : Kind} {sp : Space} {v : View sg κ sp S256x512 .f32} {init D Z : Buf} {all : Bool}

/-- Eight rows read out of a whole output. -/
theorem eight_rows {f : v.ty.Contents (Elt Ideal)} {o : ℕ} (inb) (j : Fin 8) (q : Fin 512) (h : o + j.val < 256) :
    v.readAt (Elt Ideal) (Rect.unit (s := S256x512) ![o, 0] S8x512.size inb).toLoadRect f (ix2 j q) = v.read (Elt Ideal) f (ix2 ⟨o + j.val, h⟩ q) := by
  rw [View.readAt_apply]
  refine congrArg _ (funext fun a => Fin.ext ?_)
  fin_cases a
  · show o + 1 * j.val = o + j.val; omega
  · show 0 + 1 * q.val = q.val; omega

theorem total_succ (n r : ℕ) (q : Fin 512) :
    total init D Z (n + 1) r q = total init D Z n r q + (if tapAt n = r / 8 then part D Z (n / 31) (r / 8) (r % 8) q else 0) := by
  rw [total, total, Finset.sum_range_succ, add_assoc]

theorem total_unmet {n r : ℕ} (h : ∀ i < n, tapAt i ≠ r / 8) (q : Fin 512) : total init D Z n r q = init r q := by
  rw [total, Finset.sum_eq_zero, add_zero]
  exact fun i hi => if_neg (h i (Finset.mem_range.mp hi))

/-- The step: eight rows replaced by their sum with what the next addition brings. -/
theorem Holds.step {L : List (View.Piece (Elt Ideal) S256x512 .f32)} (n : ℕ) {o : ℕ} (ho : 8 * tapAt n = o) (inb)
    {P : FVec Ideal S8x512 .f32} (H : Holds v init D Z all n L)
    (hP : ∀ (j : Fin 8) (q : Fin 512), P (ix2 j q) = total init D Z n (o + j.val) q + part D Z (n / 31) (tapAt n) j.val q) :
    Holds v init D Z all (n + 1) ((⟨Rect.unit (s := S256x512) ![o, 0] S8x512.size inb, P⟩ : View.Piece (Elt Ideal) S256x512 .f32) :: L) := by
  subst ho
  intro f r q
  have hb : 8 * tapAt n + 8 ≤ 256 := inb 0
  by_cases hr : r.val / 8 = tapAt n
  · have e : v.read (Elt Ideal) (v.writes (Elt Ideal) f ((⟨Rect.unit (s := S256x512) ![8 * tapAt n, 0] S8x512.size inb, P⟩ : View.Piece (Elt Ideal) S256x512 .f32) :: L)) (ix2 r q)
        = P (ix2 ⟨r.val % 8, by omega⟩ q) :=
      View.read_writes_cons_rows_of_mem v f inb P L _ (ix2 ⟨r.val % 8, by omega⟩ q) rfl (by show r.val = 8 * tapAt n + r.val % 8; omega) rfl
    refine ⟨fun _ => ?_, fun h => absurd (Or.inr ⟨n, by omega, hr.symm⟩) h⟩
    rw [e, hP, total_succ, if_pos hr.symm, hr]
    rw [show 8 * tapAt n + r.val % 8 = r.val by omega]
  · have e : v.read (Elt Ideal) (v.writes (Elt Ideal) f ((⟨Rect.unit (s := S256x512) ![8 * tapAt n, 0] S8x512.size inb, P⟩ : View.Piece (Elt Ideal) S256x512 .f32) :: L)) (ix2 r q)
        = v.read (Elt Ideal) (v.writes (Elt Ideal) f L) (ix2 r q) :=
      View.read_writes_cons_rows_of_not_mem v f inb P L _ rfl rfl (by
        show r.val < 8 * tapAt n ∨ 8 * tapAt n + 8 ≤ r.val
        omega)
    have hm : Met all (n + 1) (r.val / 8) ↔ Met all n (r.val / 8) := by
      refine or_congr_right ⟨?_, fun ⟨i, hi, h⟩ => ⟨i, by omega, h⟩⟩
      rintro ⟨i, hi, h⟩
      refine ⟨i, ?_, h⟩
      rcases Nat.lt_succ_iff_lt_or_eq.mp hi with hi | rfl
      exacts [hi, absurd h.symm hr]
    rw [hm, e, total_succ, if_neg (Ne.symm hr), add_zero]
    exact H f r q

/-- Every tap is met in the first 31 additions. -/
theorem met_all (n k : ℕ) (hn : 31 ≤ n) (hk : k < 31) : Met all n k := by
  have h : ∀ k < 31, ∃ i < 31, tapAt i = k := by decide
  obtain ⟨i, hi, e⟩ := h k hk
  exact Or.inr ⟨i, by omega, e⟩

theorem tapAt_lt (n : ℕ) : tapAt n < 31 := by
  have h : ∀ i < 31, ([6, 14, 22, 30, 7, 15, 23, 0, 8, 16, 24, 1, 9, 17, 25, 2, 10, 18, 26, 3, 11, 19, 27, 4, 12, 20, 28, 5, 13, 21, 29] : List ℕ).getD i 0 < 31 := by decide
  exact h (n % 31) (Nat.mod_lt _ (by norm_num))

/-- Eight rows read back after the first `n` additions. -/
theorem Holds.load {L : List (View.Piece (Elt Ideal) S256x512 .f32)} {n o : ℕ} (H : Holds v init D Z all n L) (ho : 8 * tapAt n = o)
    (h : all = true ∨ 31 ≤ n) (inb) (j : Fin 8) (q : Fin 512) :
    v.readCov L (Rect.unit (s := S256x512) ![o, 0] S8x512.size inb).toLoadRect (ix2 j q) = total init D Z n (o + j.val) q := by
  have hb : o + 8 ≤ 256 := inb 0
  have ht := tapAt_lt n
  unfold View.readCov
  rw [eight_rows inb j q (by omega)]
  refine (H _ _ q).1 ?_
  have e : (o + j.val) / 8 = tapAt n := by omega
  show Met all n ((o + j.val) / 8)
  rw [e]
  rcases h with h | h
  exacts [Or.inl h, met_all n _ h ht]

theorem five {n : ℕ} {s z : FVec Ideal S40x512 .f32} (hs : ∀ (x : Fin 40) (q : Fin 512), s (ix2 x q) = shifted D (n / 31) (tapAt n) x.val q)
    (hz : ∀ (x : Fin 40) (q : Fin 512), z (ix2 x q) = Z (32 * (n / 31) + 8 * ((tapAt n + 2) / 8) + x.val) q) {p : FVec Ideal S8x512 .f32} (j : Fin 8) (q : Fin 512) :
    add40 s z p (ix2 j q) = p (ix2 j q) + part D Z (n / 31) (tapAt n) j.val q := by
  rw [add40_apply]
  simp only [hs, hz]
  rfl

theorem four {n : ℕ} (h0 : (tapAt n + 2) % 8 = 0) {s z : FVec Ideal S32x512 .f32} (hs : ∀ (x : Fin 32) (q : Fin 512), s (ix2 x q) = D (32 * (n / 31) + x.val) q)
    (hz : ∀ (x : Fin 32) (q : Fin 512), z (ix2 x q) = Z (32 * (n / 31) + 8 * ((tapAt n + 2) / 8) + x.val) q) {p : FVec Ideal S8x512 .f32} (j : Fin 8) (q : Fin 512) :
    add32 s z p (ix2 j q) = p (ix2 j q) + part D Z (n / 31) (tapAt n) j.val q := by
  rw [part, Fin.sum_univ_castSucc, add32_apply]
  simp only [hs, hz, shifted, h0]
  rw [if_neg (by show ¬(0 ≤ 4 * 8 + j.val ∧ 4 * 8 + j.val < 0 + 32); omega), zero_mul, add_zero]
  refine congrArg _ (Finset.sum_congr rfl fun g _ => ?_)
  rw [if_pos ⟨Nat.zero_le _, by show g.val * 8 + j.val < 0 + 32; omega⟩]
  rfl

/-- An addition to rows read back. -/
theorem Holds.more40 {L : List (View.Piece (Elt Ideal) S256x512 .f32)} (n : ℕ) {o : ℕ} (ho : 8 * tapAt n = o) (h : all = true ∨ 31 ≤ n) {inb inb'} {s z : FVec Ideal S40x512 .f32}
    (hs : ∀ (x : Fin 40) (q : Fin 512), s (ix2 x q) = shifted D (n / 31) (tapAt n) x.val q)
    (hz : ∀ (x : Fin 40) (q : Fin 512), z (ix2 x q) = Z (32 * (n / 31) + 8 * ((tapAt n + 2) / 8) + x.val) q) (H : Holds v init D Z all n L) :
    Holds v init D Z all (n + 1) ((⟨Rect.unit (s := S256x512) ![o, 0] S8x512.size inb,
      add40 s z (v.readCov L (Rect.unit (s := S256x512) ![o, 0] S8x512.size inb').toLoadRect)⟩ : View.Piece (Elt Ideal) S256x512 .f32) :: L) :=
  H.step n ho inb fun j q => (five hs hz j q).trans (congrArg (· + _) (H.load ho h inb' j q))

theorem Holds.more32 {L : List (View.Piece (Elt Ideal) S256x512 .f32)} (n : ℕ) {o : ℕ} (ho : 8 * tapAt n = o) (h : all = true ∨ 31 ≤ n) (h0 : (tapAt n + 2) % 8 = 0) {inb inb'} {s z : FVec Ideal S32x512 .f32}
    (hs : ∀ (x : Fin 32) (q : Fin 512), s (ix2 x q) = D (32 * (n / 31) + x.val) q)
    (hz : ∀ (x : Fin 32) (q : Fin 512), z (ix2 x q) = Z (32 * (n / 31) + 8 * ((tapAt n + 2) / 8) + x.val) q) (H : Holds v init D Z all n L) :
    Holds v init D Z all (n + 1) ((⟨Rect.unit (s := S256x512) ![o, 0] S8x512.size inb,
      add32 s z (v.readCov L (Rect.unit (s := S256x512) ![o, 0] S8x512.size inb').toLoadRect)⟩ : View.Piece (Elt Ideal) S256x512 .f32) :: L) :=
  H.step n ho inb fun j q => (four h0 hs hz j q).trans (congrArg (· + _) (H.load ho h inb' j q))

/-- An addition to rows not yet stored to. -/
theorem start_load {n o : ℕ} {f : v.ty.Contents (Elt Ideal)} (hf : ∀ (r : Fin 256) (q : Fin 512), v.read (Elt Ideal) f (ix2 r q) = init r.val q)
    (ho : 8 * tapAt n = o) (hn : ∀ i < n, tapAt i ≠ tapAt n) (inb) (j : Fin 8) (q : Fin 512) :
    v.readAt (Elt Ideal) (Rect.unit (s := S256x512) ![o, 0] S8x512.size inb).toLoadRect f (ix2 j q) = total init D Z n (o + j.val) q := by
  have hb : o + 8 ≤ 256 := inb 0
  rw [eight_rows inb j q (by omega), hf, total_unmet]
  have e : (o + j.val) / 8 = tapAt n := by omega
  rw [e]
  exact hn

theorem Holds.start40 {L : List (View.Piece (Elt Ideal) S256x512 .f32)} (n : ℕ) {o : ℕ} (ho : 8 * tapAt n = o) (hn : ∀ i < n, tapAt i ≠ tapAt n)
    {f : v.ty.Contents (Elt Ideal)} (hf : ∀ (r : Fin 256) (q : Fin 512), v.read (Elt Ideal) f (ix2 r q) = init r.val q) {inb inb'} {s z : FVec Ideal S40x512 .f32}
    (hs : ∀ (x : Fin 40) (q : Fin 512), s (ix2 x q) = shifted D (n / 31) (tapAt n) x.val q)
    (hz : ∀ (x : Fin 40) (q : Fin 512), z (ix2 x q) = Z (32 * (n / 31) + 8 * ((tapAt n + 2) / 8) + x.val) q) (H : Holds v init D Z all n L) :
    Holds v init D Z all (n + 1) ((⟨Rect.unit (s := S256x512) ![o, 0] S8x512.size inb,
      add40 s z (v.readAt (Elt Ideal) (Rect.unit (s := S256x512) ![o, 0] S8x512.size inb').toLoadRect f)⟩ : View.Piece (Elt Ideal) S256x512 .f32) :: L) :=
  H.step n ho inb fun j q => (five hs hz j q).trans (congrArg (· + _) (start_load hf ho hn inb' j q))

theorem Holds.start32 {L : List (View.Piece (Elt Ideal) S256x512 .f32)} (n : ℕ) {o : ℕ} (ho : 8 * tapAt n = o) (hn : ∀ i < n, tapAt i ≠ tapAt n) (h0 : (tapAt n + 2) % 8 = 0)
    {f : v.ty.Contents (Elt Ideal)} (hf : ∀ (r : Fin 256) (q : Fin 512), v.read (Elt Ideal) f (ix2 r q) = init r.val q) {inb inb'} {s z : FVec Ideal S32x512 .f32}
    (hs : ∀ (x : Fin 32) (q : Fin 512), s (ix2 x q) = D (32 * (n / 31) + x.val) q)
    (hz : ∀ (x : Fin 32) (q : Fin 512), z (ix2 x q) = Z (32 * (n / 31) + 8 * ((tapAt n + 2) / 8) + x.val) q) (H : Holds v init D Z all n L) :
    Holds v init D Z all (n + 1) ((⟨Rect.unit (s := S256x512) ![o, 0] S8x512.size inb,
      add32 s z (v.readAt (Elt Ideal) (Rect.unit (s := S256x512) ![o, 0] S8x512.size inb').toLoadRect f)⟩ : View.Piece (Elt Ideal) S256x512 .f32) :: L) :=
  H.step n ho inb fun j q => (four h0 hs hz j q).trans (congrArg (· + _) (start_load hf ho hn inb' j q))

/-- Before the first addition: nothing stored, or everything. -/
theorem Holds.none : Holds v init D Z false 0 [] := fun f r q =>
  ⟨fun h => by rcases h with h | ⟨i, hi, _⟩; exacts [absurd h (by decide), absurd hi (by omega)], fun _ => rfl⟩

theorem Holds.whole {P : FVec Ideal S256x512 .f32} (inb) (hP : ∀ (r : Fin 256) (q : Fin 512), P (ix2 r q) = init r.val q) :
    Holds v init D Z true 0 [(⟨Rect.unit (s := S256x512) ![0, 0] S256x512.size inb, P⟩ : View.Piece (Elt Ideal) S256x512 .f32)] := fun f r q =>
  ⟨fun _ => by
    rw [View.read_writes_cons_rows_of_mem v f inb P [] _ (ix2 r q) rfl (by show r.val = 0 + r.val; omega) rfl, hP, total_unmet fun i hi => absurd hi (by omega)],
   fun h => absurd (Or.inl rfl) h⟩

end Step

/-- The additions of all eight pieces to a row of a tap. -/
theorem total_all (init D Z : Buf) (k : Fin 31) (j : Fin 8) (q : Fin 512) :
    total init D Z 248 (8 * k.val + j.val) q = init (8 * k.val + j.val) q + ∑ b : Fin 8, part D Z b.val k.val j.val q := by
  have hd : (8 * k.val + j.val) / 8 = k.val := by omega
  have hm : (8 * k.val + j.val) % 8 = j.val := by omega
  rw [total, hd, hm]
  refine congrArg _ ?_
  have once : ∀ k : Fin 31, ∃ i : Fin 31, ∀ i' : Fin 31, tapAt i'.val = k.val ↔ i' = i := by decide
  obtain ⟨i, hi⟩ := once k
  have block : ∀ b, ∑ x ∈ Finset.range (31 * b), (if tapAt x = k.val then part D Z (x / 31) k.val j.val q else 0) = ∑ b' ∈ Finset.range b, part D Z b' k.val j.val q := by
    intro b
    induction b with
    | zero => rfl
    | succ b ih =>
      rw [Nat.mul_succ, Finset.sum_range_add, ih, Finset.sum_range_succ _ b]
      refine congrArg _ ?_
      rw [Finset.sum_range, Finset.sum_eq_single i]
      · have e : tapAt (31 * b + i.val) = tapAt i.val := by rw [tapAt, tapAt, Nat.mul_add_mod]
        rw [e, if_pos ((hi i).mpr rfl), show (31 * b + i.val) / 31 = b by omega]
      · intro i' _ hne
        have e : tapAt (31 * b + i'.val) = tapAt i'.val := by rw [tapAt, tapAt, Nat.mul_add_mod]
        rw [e, if_neg (fun h => hne ((hi i').mp h))]
      · exact fun h => absurd (Finset.mem_univ _) h
  rw [show 248 = 31 * 8 from rfl, block, Finset.sum_range]

/-- The rows of a piece shifted by a tap's place, against the rows they meet. -/
theorem sum_part (D Z : Buf) (b k : ℕ) (q : Fin 512) :
    ∑ j : Fin 8, part D Z b k j.val q = ∑ x : Fin 32, D (32 * b + x.val) q * Z (32 * b + x.val + (k + 2)) q := by
  unfold part
  rw [Finset.sum_comm]
  have e : ∑ g : Fin 5, ∑ j : Fin 8, shifted D b k (g.val * 8 + j.val) q * Z (32 * b + 8 * ((k + 2) / 8) + (g.val * 8 + j.val)) q
      = ∑ x ∈ Finset.range 40, shifted D b k x q * Z (32 * b + 8 * ((k + 2) / 8) + x) q := by
    rw [← Fintype.sum_prod_type' (f := fun (g : Fin 5) (j : Fin 8) => shifted D b k (g.val * 8 + j.val) q * Z (32 * b + 8 * ((k + 2) / 8) + (g.val * 8 + j.val)) q),
      Finset.sum_range, ← Equiv.sum_comp (finProdFinEquiv (m := 5) (n := 8))]
    refine Finset.sum_congr rfl fun x _ => ?_
    have : (finProdFinEquiv x).val = x.1.val * 8 + x.2.val := by simp [finProdFinEquiv]; omega
    rw [this]
  rw [e, ← Finset.sum_range (fun x => D (32 * b + x) q * Z (32 * b + x + (k + 2)) q)]
  have hs : (k + 2) % 8 < 8 := Nat.mod_lt _ (by norm_num)
  have hk := Nat.div_add_mod (k + 2) 8
  generalize (k + 2) / 8 = m at *
  unfold shifted
  generalize (k + 2) % 8 = s at *
  rw [← Finset.sum_subset (s₁ := (Finset.range 32).map (addLeftEmbedding s)) (fun x hx => by
      obtain ⟨y, hy, rfl⟩ := Finset.mem_map.mp hx
      have := Finset.mem_range.mp hy
      exact Finset.mem_range.mpr (by show s + y < 40; omega)) (fun x _ hx => by
      rw [if_neg, zero_mul]
      rintro ⟨h1, h2⟩
      exact hx (Finset.mem_map.mpr ⟨x - s, Finset.mem_range.mpr (by omega), by show s + (x - s) = x; omega⟩)), Finset.sum_map]
  refine Finset.sum_congr rfl fun y hy => ?_
  have := Finset.mem_range.mp hy
  show (if s ≤ s + y ∧ s + y < s + 32 then D (32 * b + (s + y - s)) q else 0) * Z (32 * b + 8 * m + (s + y)) q = _
  rw [if_pos (by omega), show s + y - s = y by omega, show 32 * b + 8 * m + (s + y) = 32 * b + y + (k + 2) by omega]

/-- The gradient of a tap over a block: the eight rows of the tap together. -/
theorem sum_tap (init D Z : Buf) (k : Fin 31) (q : Fin 512) :
    ∑ j : Fin 8, total init D Z 248 (8 * k.val + j.val) q
      = ∑ j : Fin 8, init (8 * k.val + j.val) q + ∑ p : Fin 256, D p.val q * Z (p.val + (k.val + 2)) q := by
  simp only [total_all, Finset.sum_add_distrib]
  refine congrArg _ ?_
  rw [Finset.sum_comm]
  simp only [sum_part]
  rw [← Fintype.sum_prod_type' (f := fun (b : Fin 8) (x : Fin 32) => D (32 * b.val + x.val) q * Z (32 * b.val + x.val + (k.val + 2)) q),
    ← Equiv.sum_comp (finProdFinEquiv (m := 8) (n := 32))]
  refine Finset.sum_congr rfl fun x _ => ?_
  have : (finProdFinEquiv x).val = 32 * x.1.val + x.2.val := by simp [finProdFinEquiv]; omega
  rw [this]

end Cert.ConvBwd

end
-- ==== Proof.ConvBwdRows.lean ====
/-
  The rows of a grid point of the convolution's backward call: the gradient that the head norm and its activation pass back, element by element
  of a row, with the means taken by products with an averaging matrix, and the bodies' own expressions for it, for the gated rows, and for the
  taps that carry the gradient back to the rows before the convolution.
-/
module

public import proofs.«01_k».proof.Proof.ConvTapSums

@[expose] public section

noncomputable section

open Idealize.ShloMosaic Idealize.ShloMosaic.TcCoe

namespace Cert.ConvBwd

open Cert.Kernel10Ideal Cert.Kernel10Ideal.Gen
open Cert.Conv

/-- A row of 512 lanes, and the averaging matrix by its entries. -/
abbrev Row : Type := Fin 512 → EReal
abbrev Mat : Type := Fin 512 → Fin 512 → EReal

/-- A row less its means, the inverse root of its means of squares, and the row they norm. -/
def centred (a : Mat) (z : Row) (q : Fin 512) : EReal := z q - meanBy a z q
def rstd (a : Mat) (z : Row) (q : Fin 512) : EReal := Ideal.rsqrt (meanBy a (fun k => centred a z k * centred a z k) q + Norm.guard)
def normed (a : Mat) (z : Row) (q : Fin 512) : EReal := centred a z q * rstd a z q
/-- The norm with its gain and shift, and the gradient that the activation passes back to it. -/
def shaped (a : Mat) (z g b : Row) (q : Fin 512) : EReal := normed a z q * g q + b q
def slope (a : Mat) (z g b d : Row) (q : Fin 512) : EReal :=
  d q * Gate.sigma (shaped a z g b q) * (1 + shaped a z g b q * (1 - Gate.sigma (shaped a z g b q)))
/-- The gradient of the normed row, and of the row before the norm. -/
def gained (a : Mat) (z g b d : Row) (q : Fin 512) : EReal := slope a z g b d q * g q
def pulled (a : Mat) (z g b d : Row) (q : Fin 512) : EReal :=
  rstd a z q * (gained a z g b d q - meanBy a (gained a z g b d) q - normed a z q * meanBy a (fun k => gained a z g b d k * normed a z k) q)

section Block

variable (dm : Vec Ideal S256x512 .bf16) (zc : Vec Ideal S256x512 .f32) (g b : Vec Ideal S1x512 .f32) (m : Vec Ideal S512x512 .bf16)

/-- The same of row `p` of a block. -/
def matOf : Mat := fun k q => m (ix2 k q)
def rowOf (g : Vec Ideal S1x512 .f32) : Row := fun q => g (ix2 0 q)
def slopeAt (p : Fin 256) : Row := slope (matOf m) (fun k => zc (ix2 p k)) (rowOf g) (rowOf b) (fun k => dm (ix2 p k))
def normedAt (p : Fin 256) : Row := normed (matOf m) (fun k => zc (ix2 p k))
def pulledAt (p : Fin 256) : Row := pulled (matOf m) (fun k => zc (ix2 p k)) (rowOf g) (rowOf b) (fun k => dm (ix2 p k))

theorem pay7_apply (p : Fin 256) (q : Fin 512) : k0_pay7 zc m (ix2 p q) = centred (matOf m) (fun k => zc (ix2 p k)) q := by
  pointwise [k0_pay7, k0_pay6]
  rfl

theorem pay8_apply (p : Fin 256) (q : Fin 512) : k0_pay8 zc m (ix2 p q) = rstd (matOf m) (fun k => zc (ix2 p k)) q := by
  have h := pay7_apply zc m p
  unfold k0_pay8
  generalize k0_pay7 zc m = z at *
  pointwise [k0_pay6]
  simp only [h]
  rfl

theorem pay9_apply (p : Fin 256) (q : Fin 512) : k0_pay9 zc m (ix2 p q) = normedAt zc m p q := by
  pointwise [k0_pay9]
  rw [pay7_apply, pay8_apply]
  rfl

theorem pay10_apply (p : Fin 256) (q : Fin 512) : k0_pay10 zc m g b (ix2 p q) = shaped (matOf m) (fun k => zc (ix2 p k)) (rowOf g) (rowOf b) q := by
  pointwise [k0_pay10]
  rw [pay9_apply]
  rfl

/-- The activation's gradient as the body writes it. -/
abbrev slopes : FVec Ideal S256x512 .f32 := k0_pay12 (k0_pay10 zc m g b) (k0_pay11 zc m g b) (Scalar.ofBits .f32 0x3F800000#32 : Ideal .f32) dm

theorem slopes_apply (p : Fin 256) (q : Fin 512) : slopes dm zc g b m (ix2 p q) = slopeAt dm zc g b m p q := by
  show k0_pay12 (F := Ideal) _ _ _ _ _ = _
  refine Eq.trans (b := dm (ix2 p q) * Gate.sigma (k0_pay10 zc m g b (ix2 p q)) * (1 + k0_pay10 zc m g b (ix2 p q) * (1 - Gate.sigma (k0_pay10 zc m g b (ix2 p q))))) ?_ ?_
  · generalize hz : k0_pay10 zc m g b = z
    have hy : k0_pay11 zc m g b (ix2 p q) = 1 + Ideal.exp (0 - z (ix2 p q)) := by
      rw [← hz]
      pointwise [k0_pay11]
    generalize k0_pay11 zc m g b = y at hy ⊢
    pointwise [k0_pay12]
    rw [hy]
    rfl
  · rw [pay10_apply]
    rfl

/-- The gradient of the normed rows, and of the rows before the norm, as the body writes them. -/
abbrev gains : FVec Ideal S256x512 .f32 := k0_pay17 (k0_pay10 zc m g b) (k0_pay11 zc m g b) (Scalar.ofBits .f32 0x3F800000#32 : Ideal .f32) dm g

theorem gains_apply (p : Fin 256) (q : Fin 512) : gains dm zc g b m (ix2 p q) = gained (matOf m) (fun k => zc (ix2 p k)) (rowOf g) (rowOf b) (fun k => dm (ix2 p k)) q := by
  refine Eq.trans (b := slopes dm zc g b m (ix2 p q) * g (ix2 0 q)) ?_ (congrArg (· * g (ix2 0 q)) (slopes_apply dm zc g b m p q))
  unfold gains slopes k0_pay17
  generalize k0_pay12 (F := Ideal) _ _ _ _ = s
  pointwise []

abbrev pulls : FVec Ideal S256x512 .f32 :=
  k0_pay22 (k0_pay8 zc m) (k0_pay9 zc m) (gains dm zc g b m) (k0_pay18 m)
    (k0_pay20 (k0_pay10 zc m g b) (k0_pay11 zc m g b) (Scalar.ofBits .f32 0x3F800000#32 : Ideal .f32) dm g)
    (k0_pay21 (k0_pay10 zc m g b) (k0_pay11 zc m g b) (Scalar.ofBits .f32 0x3F800000#32 : Ideal .f32) dm g m)
    (constant S256x512 .f32 0x00000000#32) m

theorem pulls_apply (p : Fin 256) (q : Fin 512) : pulls dm zc g b m (ix2 p q) = pulledAt dm zc g b m p q := by
  have h8 := pay8_apply zc m p
  have h9 := pay9_apply zc m p
  have hg := gains_apply dm zc g b m p
  unfold pulls k0_pay21 k0_pay20 k0_pay19
  unfold gains at *
  generalize k0_pay8 zc m = r8 at *
  generalize k0_pay9 zc m = r9 at *
  generalize k0_pay17 (F := Ideal) _ _ _ _ _ = dn at *
  pointwise [k0_pay22, k0_pay18]
  simp only [h8, h9, hg]
  rfl

theorem pay13_apply (q : Fin 512) : k0_pay13 (k0_pay10 zc m g b) (k0_pay11 zc m g b) (Scalar.ofBits .f32 0x3F800000#32 : Ideal .f32) dm (ix2 0 q)
    = ∑ p : Fin 256, slopeAt dm zc g b m p q := by
  refine Eq.trans (b := ∑ p : Fin 256, slopes dm zc g b m (ix2 p q)) ?_ (Finset.sum_congr rfl fun p _ => slopes_apply dm zc g b m p q)
  unfold k0_pay13
  show _ = ∑ p : Fin 256, k0_pay12 (F := Ideal) _ _ _ _ _
  generalize k0_pay12 (F := Ideal) _ _ _ _ = s
  pointwise []

theorem pay15_apply (q : Fin 512) : k0_pay15 (k0_pay9 zc m) (k0_pay10 zc m g b) (k0_pay11 zc m g b) (Scalar.ofBits .f32 0x3F800000#32 : Ideal .f32) dm (ix2 0 q)
    = ∑ p : Fin 256, slopeAt dm zc g b m p q * normedAt zc m p q := by
  refine Eq.trans (b := ∑ p : Fin 256, slopes dm zc g b m (ix2 p q) * k0_pay9 zc m (ix2 p q)) ?_
    (Finset.sum_congr rfl fun p _ => congrArg₂ (· * ·) (slopes_apply dm zc g b m p q) (pay9_apply zc m p q))
  unfold k0_pay15
  show _ = ∑ p : Fin 256, k0_pay12 (F := Ideal) _ _ _ _ _ * _
  generalize k0_pay12 (F := Ideal) _ _ _ _ = s
  generalize k0_pay9 zc m = r
  pointwise []

theorem pay23_apply (q : Fin 512) : k0_pay23 (k0_pay8 zc m) (k0_pay9 zc m) (gains dm zc g b m) (k0_pay18 m)
    (k0_pay20 (k0_pay10 zc m g b) (k0_pay11 zc m g b) (Scalar.ofBits .f32 0x3F800000#32 : Ideal .f32) dm g)
    (k0_pay21 (k0_pay10 zc m g b) (k0_pay11 zc m g b) (Scalar.ofBits .f32 0x3F800000#32 : Ideal .f32) dm g m)
    (constant S256x512 .f32 0x00000000#32) m (ix2 0 q) = ∑ p : Fin 256, pulledAt dm zc g b m p q := by
  refine Eq.trans (b := ∑ p : Fin 256, pulls dm zc g b m (ix2 p q)) ?_ (Finset.sum_congr rfl fun p _ => pulls_apply dm zc g b m p q)
  unfold k0_pay23
  show _ = ∑ p : Fin 256, k0_pay22 (F := Ideal) _ _ _ _ _ _ _ _ _
  generalize k0_pay22 (F := Ideal) _ _ _ _ _ _ _ _ = s
  pointwise []

/-- The sums as they are added to what the point before left. -/
theorem pay14_apply (y : Vec Ideal S1x512 .f32) (q : Fin 512) :
    k0_pay14 (k0_pay10 zc m g b) (k0_pay11 zc m g b) (Scalar.ofBits .f32 0x3F800000#32 : Ideal .f32) dm y (ix2 0 q)
      = y (ix2 0 q) + ∑ p : Fin 256, slopeAt dm zc g b m p q := by
  rw [← pay13_apply]
  unfold k0_pay14
  generalize k0_pay13 (F := Ideal) _ _ _ _ = s
  pointwise []

theorem pay16_apply (y : Vec Ideal S1x512 .f32) (q : Fin 512) :
    k0_pay16 (k0_pay9 zc m) (k0_pay10 zc m g b) (k0_pay11 zc m g b) (Scalar.ofBits .f32 0x3F800000#32 : Ideal .f32) dm y (ix2 0 q)
      = y (ix2 0 q) + ∑ p : Fin 256, slopeAt dm zc g b m p q * normedAt zc m p q := by
  rw [← pay15_apply]
  unfold k0_pay16
  generalize k0_pay15 (F := Ideal) _ _ _ _ _ = s
  pointwise []

theorem pay24_apply (y : Vec Ideal S1x512 .f32) (q : Fin 512) : k0_pay24 (k0_pay8 zc m) (k0_pay9 zc m) (gains dm zc g b m) (k0_pay18 m)
    (k0_pay20 (k0_pay10 zc m g b) (k0_pay11 zc m g b) (Scalar.ofBits .f32 0x3F800000#32 : Ideal .f32) dm g)
    (k0_pay21 (k0_pay10 zc m g b) (k0_pay11 zc m g b) (Scalar.ofBits .f32 0x3F800000#32 : Ideal .f32) dm g m)
    (constant S256x512 .f32 0x00000000#32) m y (ix2 0 q) = y (ix2 0 q) + ∑ p : Fin 256, pulledAt dm zc g b m p q := by
  rw [← pay23_apply]
  unfold k0_pay24
  generalize k0_pay23 (F := Ideal) _ _ _ _ _ _ _ _ = s
  pointwise []

theorem pay25_apply (p : Fin 256) (q : Fin 512) : k0_pay25 (k0_pay8 zc m) (k0_pay9 zc m) (gains dm zc g b m) (k0_pay18 m)
    (k0_pay20 (k0_pay10 zc m g b) (k0_pay11 zc m g b) (Scalar.ofBits .f32 0x3F800000#32 : Ideal .f32) dm g)
    (k0_pay21 (k0_pay10 zc m g b) (k0_pay11 zc m g b) (Scalar.ofBits .f32 0x3F800000#32 : Ideal .f32) dm g m)
    (constant S256x512 .f32 0x00000000#32) m (ix2 p q) = pulledAt dm zc g b m p q := by
  rw [← pulls_apply]
  show _ = k0_pay22 (F := Ideal) _ _ _ _ _ _ _ _ _
  unfold k0_pay25
  generalize k0_pay22 (F := Ideal) _ _ _ _ _ _ _ _ = s
  pointwise []

end Block

/-- Rows that are copied, the gated rows, and the gated rows before the block, kept or not. -/
theorem pay26_apply (v : Vec Ideal S32x512 .f32) (i : Fin 32) (q : Fin 512) : k0_pay26 v (ix2 i q) = v (ix2 i q) := by
  pointwise [k0_pay26]

theorem pay27_apply (v : Vec Ideal S32x512 .f32) (i : Fin 32) (q : Fin 512) : k0_pay27 v (ix2 i q) = v (ix2 i q) := by
  pointwise [k0_pay27]

theorem pay29_apply (v w : Vec Ideal S256x512 .f32) (p : Fin 256) (q : Fin 512) : k0_pay29 v w (ix2 p q) = v (ix2 p q) * Gate.sigma (w (ix2 p q)) := by
  pointwise [k0_pay29]
  rfl

theorem pay28_apply (n : BitVec 32) (v w : Vec Ideal S32x512 .f32) (i : Fin 32) (q : Fin 512) :
    k0_pay28 n v w (ix2 i q) = v (ix2 i q) * Gate.sigma (w (ix2 i q)) * (Scalar.sitofp .f32 n : Ideal .f32) := by
  pointwise [k0_pay28]
  rfl

theorem pay30_apply (v : Vec Ideal S256x512 .bf16) (p : Fin 256) (q : Fin 512) : k0_pay30 v (ix2 p q) = v (ix2 p q) := by
  pointwise [k0_pay30]

/-- The stored halves of a piece of the inputs' gradient. -/
theorem pay2_apply (d v : Vec Ideal S32x512 .f32) (i : Fin 32) (q : Fin 512) : k0_pay2 d v (ix2 i q) = d (ix2 i q) * Gate.sigma (v (ix2 i q)) := by
  pointwise [k0_pay2, k0_pay1]
  rfl

theorem pay3_apply (d w v : Vec Ideal S32x512 .f32) (i : Fin 32) (q : Fin 512) :
    k0_pay3 d w v (ix2 i q) = d (ix2 i q) * w (ix2 i q) * Gate.sigma (v (ix2 i q)) * (1 - Gate.sigma (v (ix2 i q))) := by
  pointwise [k0_pay3, k0_pay1]
  rfl

/-- The gradient carried back to a piece of 32 rows, as the body adds it up: tap `30 - k` times the rows `k` further on, by the rows' place in a group of eight. -/
def back (w0 w1 w2 w3 w4 w5 w6 w7 w8 w9 w10 w11 w12 w13 w14 w15 w16 w17 w18 w19 w20 w21 w22 w23 w24 w25 w26 w27 w28 w29 w30 : FVec Ideal S1x512 .f32)
    (z0 z8 z16 z24 : FVec Ideal S32x512 .f32)
    (z1 z2 z3 z4 z5 z6 z7 z9 z10 z11 z12 z13 z14 z15 z17 z18 z19 z20 z21 z22 z23 z25 z26 z27 z28 z29 z30 : FVec Ideal S40x512 .f32) : FVec Ideal S32x512 .f32 :=
  addf (addf (addf (addf (addf (addf (addf (addf (addf (addf (mulf (broadcastTo S32x512 w30 broadcasts_S1x512_S32x512) z0) (mulf (broadcastTo S32x512 w22 broadcasts_S1x512_S32x512) z8)) (mulf (broadcastTo S32x512 w14 broadcasts_S1x512_S32x512) z16)) (mulf (broadcastTo S32x512 w6 broadcasts_S1x512_S32x512) z24))
    (extractStridedSlice S32x512 ![1, 0] (addf (addf (addf (mulf (broadcastTo S40x512 w29 broadcasts_S1x512_S40x512) z1) (mulf (broadcastTo S40x512 w21 broadcasts_S1x512_S40x512) z9)) (mulf (broadcastTo S40x512 w13 broadcasts_S1x512_S40x512) z17)) (mulf (broadcastTo S40x512 w5 broadcasts_S1x512_S40x512) z25)) slices_S40x512_o1_0_S32x512))
    (extractStridedSlice S32x512 ![2, 0] (addf (addf (addf (mulf (broadcastTo S40x512 w28 broadcasts_S1x512_S40x512) z2) (mulf (broadcastTo S40x512 w20 broadcasts_S1x512_S40x512) z10)) (mulf (broadcastTo S40x512 w12 broadcasts_S1x512_S40x512) z18)) (mulf (broadcastTo S40x512 w4 broadcasts_S1x512_S40x512) z26)) slices_S40x512_o2_0_S32x512))
    (extractStridedSlice S32x512 ![3, 0] (addf (addf (addf (mulf (broadcastTo S40x512 w27 broadcasts_S1x512_S40x512) z3) (mulf (broadcastTo S40x512 w19 broadcasts_S1x512_S40x512) z11)) (mulf (broadcastTo S40x512 w11 broadcasts_S1x512_S40x512) z19)) (mulf (broadcastTo S40x512 w3 broadcasts_S1x512_S40x512) z27)) slices_S40x512_o3_0_S32x512))
    (extractStridedSlice S32x512 ![4, 0] (addf (addf (addf (mulf (broadcastTo S40x512 w26 broadcasts_S1x512_S40x512) z4) (mulf (broadcastTo S40x512 w18 broadcasts_S1x512_S40x512) z12)) (mulf (broadcastTo S40x512 w10 broadcasts_S1x512_S40x512) z20)) (mulf (broadcastTo S40x512 w2 broadcasts_S1x512_S40x512) z28)) slices_S40x512_o4_0_S32x512))
    (extractStridedSlice S32x512 ![5, 0] (addf (addf (addf (mulf (broadcastTo S40x512 w25 broadcasts_S1x512_S40x512) z5) (mulf (broadcastTo S40x512 w17 broadcasts_S1x512_S40x512) z13)) (mulf (broadcastTo S40x512 w9 broadcasts_S1x512_S40x512) z21)) (mulf (broadcastTo S40x512 w1 broadcasts_S1x512_S40x512) z29)) slices_S40x512_o5_0_S32x512))
    (extractStridedSlice S32x512 ![6, 0] (addf (addf (addf (mulf (broadcastTo S40x512 w24 broadcasts_S1x512_S40x512) z6) (mulf (broadcastTo S40x512 w16 broadcasts_S1x512_S40x512) z14)) (mulf (broadcastTo S40x512 w8 broadcasts_S1x512_S40x512) z22)) (mulf (broadcastTo S40x512 w0 broadcasts_S1x512_S40x512) z30)) slices_S40x512_o6_0_S32x512))
    (extractStridedSlice S32x512 ![7, 0] (addf (addf (mulf (broadcastTo S40x512 w23 broadcasts_S1x512_S40x512) z7) (mulf (broadcastTo S40x512 w15 broadcasts_S1x512_S40x512) z15)) (mulf (broadcastTo S40x512 w7 broadcasts_S1x512_S40x512) z23)) slices_S40x512_o7_0_S32x512)

/-- The taps' sum over a buffer, from row `p` on. -/
def backTaps (w : Vec Ideal S31x512 .f32) (D : Buf) (p : ℕ) (q : Fin 512) : EReal := ∑ k : Fin 31, w (ix2 (Fin.rev k) q) * D (p + k.val) q

theorem sum_groups (f : Fin 31 → EReal) :
    (f 0 + f 8 + f 16 + f 24) + (f 1 + f 9 + f 17 + f 25) + (f 2 + f 10 + f 18 + f 26) + (f 3 + f 11 + f 19 + f 27) + (f 4 + f 12 + f 20 + f 28) + (f 5 + f 13 + f 21 + f 29) + (f 6 + f 14 + f 22 + f 30) + (f 7 + f 15 + f 23) = ∑ k, f k := by
  simp only [Fin.sum_univ_castSucc, Fin.sum_univ_zero, zero_add]
  change (f 0 + f 8 + f 16 + f 24) + (f 1 + f 9 + f 17 + f 25) + (f 2 + f 10 + f 18 + f 26) + (f 3 + f 11 + f 19 + f 27) + (f 4 + f 12 + f 20 + f 28) + (f 5 + f 13 + f 21 + f 29) + (f 6 + f 14 + f 22 + f 30) + (f 7 + f 15 + f 23)
    = f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30
  abel

theorem back_apply {w : Vec Ideal S31x512 .f32} {D : Buf} {o : ℕ} {w0 w1 w2 w3 w4 w5 w6 w7 w8 w9 w10 w11 w12 w13 w14 w15 w16 w17 w18 w19 w20 w21 w22 w23 w24 w25 w26 w27 w28 w29 w30 : FVec Ideal S1x512 .f32}
    {z0 z8 z16 z24 : FVec Ideal S32x512 .f32}
    {z1 z2 z3 z4 z5 z6 z7 z9 z10 z11 z12 z13 z14 z15 z17 z18 z19 z20 z21 z22 z23 z25 z26 z27 z28 z29 z30 : FVec Ideal S40x512 .f32}
    (hw0 : ∀ q, w0 (ix2 0 q) = w (ix2 0 q)) (hw1 : ∀ q, w1 (ix2 0 q) = w (ix2 1 q)) (hw2 : ∀ q, w2 (ix2 0 q) = w (ix2 2 q)) (hw3 : ∀ q, w3 (ix2 0 q) = w (ix2 3 q)) (hw4 : ∀ q, w4 (ix2 0 q) = w (ix2 4 q)) (hw5 : ∀ q, w5 (ix2 0 q) = w (ix2 5 q)) (hw6 : ∀ q, w6 (ix2 0 q) = w (ix2 6 q)) (hw7 : ∀ q, w7 (ix2 0 q) = w (ix2 7 q)) (hw8 : ∀ q, w8 (ix2 0 q) = w (ix2 8 q)) (hw9 : ∀ q, w9 (ix2 0 q) = w (ix2 9 q)) (hw10 : ∀ q, w10 (ix2 0 q) = w (ix2 10 q)) (hw11 : ∀ q, w11 (ix2 0 q) = w (ix2 11 q)) (hw12 : ∀ q, w12 (ix2 0 q) = w (ix2 12 q)) (hw13 : ∀ q, w13 (ix2 0 q) = w (ix2 13 q)) (hw14 : ∀ q, w14 (ix2 0 q) = w (ix2 14 q)) (hw15 : ∀ q, w15 (ix2 0 q) = w (ix2 15 q)) (hw16 : ∀ q, w16 (ix2 0 q) = w (ix2 16 q)) (hw17 : ∀ q, w17 (ix2 0 q) = w (ix2 17 q)) (hw18 : ∀ q, w18 (ix2 0 q) = w (ix2 18 q)) (hw19 : ∀ q, w19 (ix2 0 q) = w (ix2 19 q)) (hw20 : ∀ q, w20 (ix2 0 q) = w (ix2 20 q)) (hw21 : ∀ q, w21 (ix2 0 q) = w (ix2 21 q)) (hw22 : ∀ q, w22 (ix2 0 q) = w (ix2 22 q)) (hw23 : ∀ q, w23 (ix2 0 q) = w (ix2 23 q)) (hw24 : ∀ q, w24 (ix2 0 q) = w (ix2 24 q)) (hw25 : ∀ q, w25 (ix2 0 q) = w (ix2 25 q)) (hw26 : ∀ q, w26 (ix2 0 q) = w (ix2 26 q)) (hw27 : ∀ q, w27 (ix2 0 q) = w (ix2 27 q)) (hw28 : ∀ q, w28 (ix2 0 q) = w (ix2 28 q)) (hw29 : ∀ q, w29 (ix2 0 q) = w (ix2 29 q)) (hw30 : ∀ q, w30 (ix2 0 q) = w (ix2 30 q))
    (hz0 : ∀ (x : Fin 32) (q : Fin 512), z0 (ix2 x q) = D (o + 0 + x.val) q) (hz1 : ∀ (x : Fin 40) (q : Fin 512), z1 (ix2 x q) = D (o + 0 + x.val) q) (hz2 : ∀ (x : Fin 40) (q : Fin 512), z2 (ix2 x q) = D (o + 0 + x.val) q) (hz3 : ∀ (x : Fin 40) (q : Fin 512), z3 (ix2 x q) = D (o + 0 + x.val) q) (hz4 : ∀ (x : Fin 40) (q : Fin 512), z4 (ix2 x q) = D (o + 0 + x.val) q) (hz5 : ∀ (x : Fin 40) (q : Fin 512), z5 (ix2 x q) = D (o + 0 + x.val) q) (hz6 : ∀ (x : Fin 40) (q : Fin 512), z6 (ix2 x q) = D (o + 0 + x.val) q) (hz7 : ∀ (x : Fin 40) (q : Fin 512), z7 (ix2 x q) = D (o + 0 + x.val) q) (hz8 : ∀ (x : Fin 32) (q : Fin 512), z8 (ix2 x q) = D (o + 8 + x.val) q) (hz9 : ∀ (x : Fin 40) (q : Fin 512), z9 (ix2 x q) = D (o + 8 + x.val) q) (hz10 : ∀ (x : Fin 40) (q : Fin 512), z10 (ix2 x q) = D (o + 8 + x.val) q) (hz11 : ∀ (x : Fin 40) (q : Fin 512), z11 (ix2 x q) = D (o + 8 + x.val) q) (hz12 : ∀ (x : Fin 40) (q : Fin 512), z12 (ix2 x q) = D (o + 8 + x.val) q) (hz13 : ∀ (x : Fin 40) (q : Fin 512), z13 (ix2 x q) = D (o + 8 + x.val) q) (hz14 : ∀ (x : Fin 40) (q : Fin 512), z14 (ix2 x q) = D (o + 8 + x.val) q) (hz15 : ∀ (x : Fin 40) (q : Fin 512), z15 (ix2 x q) = D (o + 8 + x.val) q) (hz16 : ∀ (x : Fin 32) (q : Fin 512), z16 (ix2 x q) = D (o + 16 + x.val) q) (hz17 : ∀ (x : Fin 40) (q : Fin 512), z17 (ix2 x q) = D (o + 16 + x.val) q) (hz18 : ∀ (x : Fin 40) (q : Fin 512), z18 (ix2 x q) = D (o + 16 + x.val) q) (hz19 : ∀ (x : Fin 40) (q : Fin 512), z19 (ix2 x q) = D (o + 16 + x.val) q) (hz20 : ∀ (x : Fin 40) (q : Fin 512), z20 (ix2 x q) = D (o + 16 + x.val) q) (hz21 : ∀ (x : Fin 40) (q : Fin 512), z21 (ix2 x q) = D (o + 16 + x.val) q) (hz22 : ∀ (x : Fin 40) (q : Fin 512), z22 (ix2 x q) = D (o + 16 + x.val) q) (hz23 : ∀ (x : Fin 40) (q : Fin 512), z23 (ix2 x q) = D (o + 16 + x.val) q) (hz24 : ∀ (x : Fin 32) (q : Fin 512), z24 (ix2 x q) = D (o + 24 + x.val) q) (hz25 : ∀ (x : Fin 40) (q : Fin 512), z25 (ix2 x q) = D (o + 24 + x.val) q) (hz26 : ∀ (x : Fin 40) (q : Fin 512), z26 (ix2 x q) = D (o + 24 + x.val) q) (hz27 : ∀ (x : Fin 40) (q : Fin 512), z27 (ix2 x q) = D (o + 24 + x.val) q) (hz28 : ∀ (x : Fin 40) (q : Fin 512), z28 (ix2 x q) = D (o + 24 + x.val) q) (hz29 : ∀ (x : Fin 40) (q : Fin 512), z29 (ix2 x q) = D (o + 24 + x.val) q) (hz30 : ∀ (x : Fin 40) (q : Fin 512), z30 (ix2 x q) = D (o + 24 + x.val) q)
    (r : Fin 32) (q : Fin 512) : back w0 w1 w2 w3 w4 w5 w6 w7 w8 w9 w10 w11 w12 w13 w14 w15 w16 w17 w18 w19 w20 w21 w22 w23 w24 w25 w26 w27 w28 w29 w30
      z0 z8 z16 z24
      z1 z2 z3 z4 z5 z6 z7 z9 z10 z11 z12 z13 z14 z15 z17 z18 z19 z20 z21 z22 z23 z25 z26 z27 z28 z29 z30 (ix2 r q) = backTaps w D (o + r.val) q := by
  pointwise [back]
  simp only [hw0, hw1, hw2, hw3, hw4, hw5, hw6, hw7, hw8, hw9, hw10, hw11, hw12, hw13, hw14, hw15, hw16, hw17, hw18, hw19, hw20, hw21, hw22, hw23, hw24, hw25, hw26, hw27, hw28, hw29, hw30, hz0, hz1, hz2, hz3, hz4, hz5, hz6, hz7, hz8, hz9, hz10, hz11, hz12, hz13, hz14, hz15, hz16, hz17, hz18, hz19, hz20, hz21, hz22, hz23, hz24, hz25, hz26, hz27, hz28, hz29, hz30]
  refine Eq.trans ?_ (sum_groups fun k => w (ix2 (Fin.rev k) q) * D (o + r.val + k.val) q)
  simp only [show o + 0 + r.val = o + r.val + 0 by omega, show o + 0 + (1 + r.val) = o + r.val + 1 by omega, show o + 0 + (2 + r.val) = o + r.val + 2 by omega, show o + 0 + (3 + r.val) = o + r.val + 3 by omega, show o + 0 + (4 + r.val) = o + r.val + 4 by omega, show o + 0 + (5 + r.val) = o + r.val + 5 by omega, show o + 0 + (6 + r.val) = o + r.val + 6 by omega, show o + 0 + (7 + r.val) = o + r.val + 7 by omega, show o + 8 + r.val = o + r.val + 8 by omega, show o + 8 + (1 + r.val) = o + r.val + 9 by omega, show o + 8 + (2 + r.val) = o + r.val + 10 by omega, show o + 8 + (3 + r.val) = o + r.val + 11 by omega, show o + 8 + (4 + r.val) = o + r.val + 12 by omega, show o + 8 + (5 + r.val) = o + r.val + 13 by omega, show o + 8 + (6 + r.val) = o + r.val + 14 by omega, show o + 8 + (7 + r.val) = o + r.val + 15 by omega, show o + 16 + r.val = o + r.val + 16 by omega, show o + 16 + (1 + r.val) = o + r.val + 17 by omega, show o + 16 + (2 + r.val) = o + r.val + 18 by omega, show o + 16 + (3 + r.val) = o + r.val + 19 by omega, show o + 16 + (4 + r.val) = o + r.val + 20 by omega, show o + 16 + (5 + r.val) = o + r.val + 21 by omega, show o + 16 + (6 + r.val) = o + r.val + 22 by omega, show o + 16 + (7 + r.val) = o + r.val + 23 by omega, show o + 24 + r.val = o + r.val + 24 by omega, show o + 24 + (1 + r.val) = o + r.val + 25 by omega, show o + 24 + (2 + r.val) = o + r.val + 26 by omega, show o + 24 + (3 + r.val) = o + r.val + 27 by omega, show o + 24 + (4 + r.val) = o + r.val + 28 by omega, show o + 24 + (5 + r.val) = o + r.val + 29 by omega, show o + 24 + (6 + r.val) = o + r.val + 30 by omega]
  rfl

end Cert.ConvBwd

end
-- ==== Proof.ConvBwdBlocks.lean ====
/-
  The blocks that each grid point of the convolution's backward call is given: the points walk the row blocks from the last to the first, and
  the two short blocks of gated rows are the thirty-two rows before the point's own.
-/
module

public import proofs.«01_k».proof.Proof.ConvBwdRows
public import proofs.«01_k».proof.Proof.ConvFwdReference
public import proofs.«01_k».proof.Proof.Gen.Kernel10Ideal.Frame.Runs

@[expose] public section

set_option maxRecDepth 16384

noncomputable section

open Idealize.ShloMosaic Idealize.ShloMosaic.TcCoe Idealize.SL.Sem

namespace Cert.ConvBwd

open Cert.Kernel10Ideal Cert.Kernel10Ideal.Gen
open Cert.Conv

variable (m : (ℓ : Loc nD τ sig) → Idealize.ShloMosaic.Buf (Elt Ideal) ℓ) (c : Dev nD)

/-- The arguments: the projected rows, the taps, their bias, the gain and the shift of the norm, the gradient from the recurrence's half and the
    gradient of the module's output. -/
abbrev argU : FVec Ideal S4096x1536 .f32 := m ((c : Thread nD τ).loc main_arg0)
abbrev argW : FVec Ideal S31x512 .f32 := m ((c : Thread nD τ).loc main_arg1)
abbrev argB : FVec Ideal S512 .f32 := m ((c : Thread nD τ).loc main_arg2)
abbrev argG : FVec Ideal S512 .f32 := m ((c : Thread nD τ).loc main_arg3)
abbrev argH : FVec Ideal S512 .f32 := m ((c : Thread nD τ).loc main_arg4)
abbrev argS : FVec Ideal S4096x512 .f32 := m ((c : Thread nD τ).loc main_arg5)
abbrev argM : FVec Ideal S4096x1024 .f32 := m ((c : Thread nD τ).loc main_arg6)

set_option maxHeartbeats 16000000 in
/-- The convolution, as the host lines compute it. -/
theorem V83 : (V m c main_v83 : FVec Ideal S4096x512 .f32) = Cert.Reference9Ideal.Read.val_main_v83 (F := Ideal) (argU m c) (argW m c) (argB m c) := by
  unfold V V0 hostOps0 hostOps0_1 hostOps0_2
  simp only [List.flatten_cons, List.flatten_nil, List.append_nil, List.cons_append, List.nil_append]
  after_results; rfl

set_option maxHeartbeats 8000000 in
theorem V84 : (V m c main_v84 : FVec Ideal S4096x1024 .bf16) = truncf .bf16 (argM m c) bitsLt_bf16_f32 := by
  unfold V V0 hostOps0 hostOps0_1 hostOps0_2
  simp only [List.flatten_cons, List.flatten_nil, List.append_nil, List.cons_append, List.nil_append]
  after_results

set_option maxHeartbeats 8000000 in
theorem V85 : (V m c main_v85 : FVec Ideal S4096x512 .bf16) = truncf .bf16 (argS m c) bitsLt_bf16_f32 := by
  unfold V V0 hostOps0 hostOps0_1 hostOps0_2
  simp only [List.flatten_cons, List.flatten_nil, List.append_nil, List.cons_append, List.nil_append]
  after_results

set_option maxHeartbeats 8000000 in
theorem V86 : (V m c main_v86 : FVec Ideal S1x512 .f32) = shapeCast S1x512 (argG m c) shapeCasts_S512_S1x512 := by
  unfold V V0 hostOps0 hostOps0_1 hostOps0_2
  simp only [List.flatten_cons, List.flatten_nil, List.append_nil, List.cons_append, List.nil_append]
  after_results; rfl

set_option maxHeartbeats 8000000 in
theorem V87 : (V m c main_v87 : FVec Ideal S1x512 .f32) = shapeCast S1x512 (argH m c) shapeCasts_S512_S1x512 := by
  unfold V V0 hostOps0 hostOps0_1 hostOps0_2
  simp only [List.flatten_cons, List.flatten_nil, List.append_nil, List.cons_append, List.nil_append]
  after_results; rfl

set_option maxHeartbeats 8000000 in
/-- The averaging matrix as the host builds it: the identity of the heads times a constant block. -/
theorem V96 : (V m c main_v96 : FVec Ideal S512x512 .bf16) = truncf .bf16 (shapeCast S512x512 (mulf
      (broadcastInDim S8x64x8x64 ![0, 1, 2, 3] bcast_S8x1x8x1_S8x64x8x64_0_1_2_3 (broadcastInDim S8x1x8x1 ![0, 2] bcast_S8x8_S8x1x8x1_0_2
        (uitofp (F := Ideal) .f32 (cmpi .eq (addi (iotaInDim S8x8 32 0) (broadcastInDim S8x8 ![] bcast_S_S8x8 (constantI S_ 32 0#32))) (iotaInDim S8x8 32 1)))))
      (broadcastInDim S8x64x8x64 ![0, 1, 2, 3] bcast_S1x64x1x64_S8x64x8x64_0_1_2_3 (broadcastInDim S1x64x1x64 ![1, 3] bcast_S64x64_S1x64x1x64_1_3
        (broadcastInDim S64x64 ![] bcast_S_S64x64 (constant (F := Ideal) S_ .f32 0x3C800000#32)))) : FVec Ideal S8x64x8x64 .f32) shapeCasts_S8x64x8x64_S512x512) bitsLt_bf16_f32 := by
  unfold V V0 hostOps0 hostOps0_1 hostOps0_2
  simp only [List.flatten_cons, List.flatten_nil, List.append_nil, List.cons_append, List.nil_append]
  after_results; rfl

theorem word64 : (Ideal.ofBits .f32 0x3C800000#32 : EReal) = ((1 / 64 : ℝ) : EReal) := by
  simp [Ideal.ofBits, Ideal.ieee]
  rw [← EReal.coe_mul]
  norm_num

/-- It averages over a head. -/
theorem V96_apply (k q : Fin 512) : (V m c main_v96 : FVec Ideal S512x512 .bf16) (ix2 k q) = avg k q := by
  rw [V96]
  pointwise []
  rw [avg, word64]
  have e : IntOp.cmpi .eq (IntOp.addi (BitVec.ofNat 32 (k.val / 64)) 0#32) (BitVec.ofNat 32 (q.val / 64)) = BitVec.ofBool (decide (k.val / 64 = q.val / 64)) := by
    have hk : k.val / 64 < 8 := by omega
    have hq : q.val / 64 < 8 := by omega
    generalize k.val / 64 = a at *
    generalize q.val / 64 = b at *
    interval_cases a <;> interval_cases b <;> rfl
  rw [e]
  by_cases h : k.val / 64 = q.val / 64
  · rw [if_pos h, decide_eq_true h]
    show ((((1#1 : BitVec 1).toNat : ℝ)) : EReal) * _ = _
    norm_num
  · rw [if_neg h, decide_eq_false h]
    show ((((0#1 : BitVec 1).toNat : ℝ)) : EReal) * _ = _
    norm_num

/-- Where each window's block sits at each point. -/
theorem idx_facts : ∀ t : Fin cfg0.N,
    (win0_0.index t 0 = 15 - t.val ∧ win0_0.index t 1 = 1)
    ∧ (win0_1.index t 0 = 15 - t.val ∧ win0_1.index t 1 = 0)
    ∧ (win0_2.index t 0 = 15 - t.val ∧ win0_2.index t 1 = 1)
    ∧ (win0_3.index t 0 = 15 - t.val ∧ win0_3.index t 1 = 2)
    ∧ (win0_4.index t 0 = (15 - t.val) * 8 - 1 ∧ win0_4.index t 1 = 1)
    ∧ (win0_5.index t 0 = (15 - t.val) * 8 - 1 ∧ win0_5.index t 1 = 2)
    ∧ (win0_6.index t 0 = 15 - t.val ∧ win0_6.index t 1 = 0)
    ∧ (win0_7.index t 0 = 0 ∧ win0_7.index t 1 = 0)
    ∧ (win0_8.index t 0 = 0 ∧ win0_8.index t 1 = 0)
    ∧ (win0_9.index t 0 = 0 ∧ win0_9.index t 1 = 0)
    ∧ (win0_10.index t 0 = 0 ∧ win0_10.index t 1 = 0)
    ∧ (win0_11.index t 0 = 15 - t.val ∧ win0_11.index t 1 = 0)
    ∧ (win0_12.index t 0 = 0 ∧ win0_12.index t 1 = 0)
    ∧ (win0_13.index t 0 = 0 ∧ win0_13.index t 1 = 0)
    ∧ (win0_14.index t 0 = 0 ∧ win0_14.index t 1 = 0)
    ∧ (win0_15.index t 0 = 0 ∧ win0_15.index t 1 = 0) :=
  (by decide +kernel : ∀ t : Fin grid0.N, _)

theorem lt16 (t : Fin cfg0.N) : t.val < 16 := lt_of_lt_of_eq t.isLt N_0

/-- The row of the whole array that row `p` of point `t`'s block is. -/
abbrev rowIn (t : Fin cfg0.N) (p : Fin 256) : Fin 4096 := ⟨(15 - t.val) * 256 + p.val, by omega⟩
/-- The row `p` of the thirty-two before it. -/
abbrev rowBefore (t : Fin cfg0.N) (p : Fin 32) : Fin 4096 := ⟨((15 - t.val) * 8 - 1) * 32 + p.val, by omega⟩

theorem blk0 (t : Fin cfg0.N) (p : Fin 256) (q : Fin 512) : (iblk m c 0 t : Vec Ideal S256x512 .bf16) (ix2 p q) = argM m c (ix2 (rowIn t p) ⟨512 + q.val, by omega⟩) := by
  have h := (idx_facts t).1
  have e : (win0_0.rect t).emb (ix2 p q) = (ix2 (rowIn t p) ⟨512 + q.val, by omega⟩ : S4096x1024.Idx) := Reals.emb_eq _ rfl t _ _ fun a => by
    fin_cases a
    · show win0_0.index t 0 * 256 + p.val = (15 - t.val) * 256 + p.val; rw [h.1]
    · show win0_0.index t 1 * 512 + q.val = 512 + q.val; rw [h.2]
  show (V m c main_v84 : FVec Ideal S4096x1024 .bf16) ((win0_0.rect t).emb (ix2 p q)) = _
  rw [e, V84]; rfl

theorem blk1 (t : Fin cfg0.N) (p : Fin 256) (q : Fin 512) : (iblk m c 1 t : Vec Ideal S256x512 .f32) (ix2 p q) = conv (argU m c) (argW m c) (fun q => argB m c (ix1 q)) (rowIn t p) q := by
  have h := (idx_facts t).2.1
  have e : (win0_1.rect t).emb (ix2 p q) = (ix2 (rowIn t p) q : S4096x512.Idx) := Reals.emb_eq _ rfl t _ _ fun a => by
    fin_cases a
    · show win0_1.index t 0 * 256 + p.val = (15 - t.val) * 256 + p.val; rw [h.1]
    · show win0_1.index t 1 * 512 + q.val = q.val; rw [h.2]; simp
  show (V m c main_v83 : FVec Ideal S4096x512 .f32) ((win0_1.rect t).emb (ix2 p q)) = _
  rw [e, V83]; exact ConvFwd.Ref.v83 _ _ _ _ _

theorem blk2 (t : Fin cfg0.N) (p : Fin 256) (q : Fin 512) : (iblk m c 2 t : Vec Ideal S256x512 .f32) (ix2 p q) = argU m c (ix2 (rowIn t p) ⟨512 + q.val, by omega⟩) := by
  have h := (idx_facts t).2.2.1
  have e : (win0_2.rect t).emb (ix2 p q) = (ix2 (rowIn t p) ⟨512 + q.val, by omega⟩ : S4096x1536.Idx) := Reals.emb_eq _ rfl t _ _ fun a => by
    fin_cases a
    · show win0_2.index t 0 * 256 + p.val = (15 - t.val) * 256 + p.val; rw [h.1]
    · show win0_2.index t 1 * 512 + q.val = 512 + q.val; rw [h.2]
  show (V m c main_arg0 : FVec Ideal S4096x1536 .f32) ((win0_2.rect t).emb (ix2 p q)) = _
  rw [e, V_main_arg0]

theorem blk3 (t : Fin cfg0.N) (p : Fin 256) (q : Fin 512) : (iblk m c 3 t : Vec Ideal S256x512 .f32) (ix2 p q) = argU m c (ix2 (rowIn t p) ⟨512 + (512 + q.val), by omega⟩) := by
  have h := (idx_facts t).2.2.2.1
  have e : (win0_3.rect t).emb (ix2 p q) = (ix2 (rowIn t p) ⟨512 + (512 + q.val), by omega⟩ : S4096x1536.Idx) := Reals.emb_eq _ rfl t _ _ fun a => by
    fin_cases a
    · show win0_3.index t 0 * 256 + p.val = (15 - t.val) * 256 + p.val; rw [h.1]
    · show win0_3.index t 1 * 512 + q.val = 512 + (512 + q.val); rw [h.2]; omega
  show (V m c main_arg0 : FVec Ideal S4096x1536 .f32) ((win0_3.rect t).emb (ix2 p q)) = _
  rw [e, V_main_arg0]

theorem blk4 (t : Fin cfg0.N) (p : Fin 32) (q : Fin 512) : (iblk m c 4 t : Vec Ideal S32x512 .f32) (ix2 p q) = argU m c (ix2 (rowBefore t p) ⟨512 + q.val, by omega⟩) := by
  have h := (idx_facts t).2.2.2.2.1
  have e : (win0_4.rect t).emb (ix2 p q) = (ix2 (rowBefore t p) ⟨512 + q.val, by omega⟩ : S4096x1536.Idx) := Reals.emb_eq _ rfl t _ _ fun a => by
    fin_cases a
    · show win0_4.index t 0 * 32 + p.val = ((15 - t.val) * 8 - 1) * 32 + p.val; rw [h.1]
    · show win0_4.index t 1 * 512 + q.val = 512 + q.val; rw [h.2]
  show (V m c main_arg0 : FVec Ideal S4096x1536 .f32) ((win0_4.rect t).emb (ix2 p q)) = _
  rw [e, V_main_arg0]

theorem blk5 (t : Fin cfg0.N) (p : Fin 32) (q : Fin 512) : (iblk m c 5 t : Vec Ideal S32x512 .f32) (ix2 p q) = argU m c (ix2 (rowBefore t p) ⟨512 + (512 + q.val), by omega⟩) := by
  have h := (idx_facts t).2.2.2.2.2.1
  have e : (win0_5.rect t).emb (ix2 p q) = (ix2 (rowBefore t p) ⟨512 + (512 + q.val), by omega⟩ : S4096x1536.Idx) := Reals.emb_eq _ rfl t _ _ fun a => by
    fin_cases a
    · show win0_5.index t 0 * 32 + p.val = ((15 - t.val) * 8 - 1) * 32 + p.val; rw [h.1]
    · show win0_5.index t 1 * 512 + q.val = 512 + (512 + q.val); rw [h.2]; omega
  show (V m c main_arg0 : FVec Ideal S4096x1536 .f32) ((win0_5.rect t).emb (ix2 p q)) = _
  rw [e, V_main_arg0]

theorem blk6 (t : Fin cfg0.N) (p : Fin 256) (q : Fin 512) : (iblk m c 6 t : Vec Ideal S256x512 .bf16) (ix2 p q) = argS m c (ix2 (rowIn t p) q) := by
  have h := (idx_facts t).2.2.2.2.2.2.1
  have e : (win0_6.rect t).emb (ix2 p q) = (ix2 (rowIn t p) q : S4096x512.Idx) := Reals.emb_eq _ rfl t _ _ fun a => by
    fin_cases a
    · show win0_6.index t 0 * 256 + p.val = (15 - t.val) * 256 + p.val; rw [h.1]
    · show win0_6.index t 1 * 512 + q.val = q.val; rw [h.2]; simp
  show (V m c main_v85 : FVec Ideal S4096x512 .bf16) ((win0_6.rect t).emb (ix2 p q)) = _
  rw [e, V85]; rfl

theorem blk7 (t : Fin cfg0.N) (k : Fin 31) (q : Fin 512) : (iblk m c 7 t : Vec Ideal S31x512 .f32) (ix2 k q) = argW m c (ix2 k q) := by
  have h := (idx_facts t).2.2.2.2.2.2.2.1
  have e : (win0_7.rect t).emb (ix2 k q) = (ix2 k q : S31x512.Idx) := Reals.emb_eq _ rfl t _ _ fun a => by
    fin_cases a
    · show win0_7.index t 0 * 31 + k.val = k.val; rw [h.1]; simp
    · show win0_7.index t 1 * 512 + q.val = q.val; rw [h.2]; simp
  show (V m c main_arg1 : FVec Ideal S31x512 .f32) ((win0_7.rect t).emb (ix2 k q)) = _
  rw [e, V_main_arg1]

theorem blk8 (t : Fin cfg0.N) (q : Fin 512) : (iblk m c 8 t : Vec Ideal S1x512 .f32) (ix2 0 q) = argG m c (ix1 q) := by
  have h := (idx_facts t).2.2.2.2.2.2.2.2.1
  have e : (win0_8.rect t).emb (ix2 0 q) = (ix2 0 q : S1x512.Idx) := Reals.emb_eq _ rfl t _ _ fun a => by
    fin_cases a
    · show win0_8.index t 0 * 1 + 0 = 0; rw [h.1]
    · show win0_8.index t 1 * 512 + q.val = q.val; rw [h.2]; simp
  show (V m c main_v86 : FVec Ideal S1x512 .f32) ((win0_8.rect t).emb (ix2 0 q)) = _
  rw [e, V86]; pointwise []

theorem blk9 (t : Fin cfg0.N) (q : Fin 512) : (iblk m c 9 t : Vec Ideal S1x512 .f32) (ix2 0 q) = argH m c (ix1 q) := by
  have h := (idx_facts t).2.2.2.2.2.2.2.2.2.1
  have e : (win0_9.rect t).emb (ix2 0 q) = (ix2 0 q : S1x512.Idx) := Reals.emb_eq _ rfl t _ _ fun a => by
    fin_cases a
    · show win0_9.index t 0 * 1 + 0 = 0; rw [h.1]
    · show win0_9.index t 1 * 512 + q.val = q.val; rw [h.2]; simp
  show (V m c main_v87 : FVec Ideal S1x512 .f32) ((win0_9.rect t).emb (ix2 0 q)) = _
  rw [e, V87]; pointwise []

theorem blk10 (t : Fin cfg0.N) (k q : Fin 512) : (iblk m c 10 t : Vec Ideal S512x512 .bf16) (ix2 k q) = avg k q := by
  have h := (idx_facts t).2.2.2.2.2.2.2.2.2.2.1
  have e : (win0_10.rect t).emb (ix2 k q) = (ix2 k q : S512x512.Idx) := Reals.emb_eq _ rfl t _ _ fun a => by
    fin_cases a
    · show win0_10.index t 0 * 512 + k.val = k.val; rw [h.1]; simp
    · show win0_10.index t 1 * 512 + q.val = q.val; rw [h.2]; simp
  show (V m c main_v96 : FVec Ideal S512x512 .bf16) ((win0_10.rect t).emb (ix2 k q)) = _
  rw [e, V96_apply]

end Cert.ConvBwd

end
-- ==== Proof.ConvBwdPieces.lean ====
/-
  The buffers of a grid point of the convolution's backward call, row by row, and the pieces of its first output: what each of them is, given
  what the loads are.
-/
module

public import proofs.«01_k».proof.Proof.ConvBwdRows
public import Idealize.ShloMosaic.Lib.Pipeline.ValueKit

@[expose] public section

noncomputable section

open Idealize.ShloMosaic Idealize.ShloMosaic.TcCoe

namespace Cert.ConvBwd

open Cert.Kernel10Ideal Cert.Kernel10Ideal.Gen
open Cert.Conv

/-- A load of some of the rows of an array, and of all of it. -/
theorem load_part {a b n o : ℕ} {e : EltTy} (arg : Memref sig .tc .vmem ⟨2, ![a, b]⟩ e) (h : arg.IsWhole) (x : Vec Ideal ⟨2, ![a, b]⟩ e) (inb)
    (r : Fin n) (l : Fin b) (p : Fin a) (hp : p.val = o + 1 * r.val) :
    View.readAt (Elt Ideal) arg.view (Rect.unit (s := ⟨2, ![a, b]⟩) ![o, 0] ![n, b] inb).toLoadRect (h.unread x) (ix2 r l) = x (ix2 p l) := by
  rw [View.readAt_apply, h.read_unread]
  refine congrArg x (funext fun a => Fin.ext ?_)
  fin_cases a
  · exact hp.symm
  · show 0 + 1 * l.val = l.val; omega

theorem load_whole {a b : ℕ} {e : EltTy} (arg : Memref sig .tc .vmem ⟨2, ![a, b]⟩ e) (h : arg.IsWhole) (x : Vec Ideal ⟨2, ![a, b]⟩ e) (inb) :
    View.readAt (Elt Ideal) arg.view (Rect.unit (s := ⟨2, ![a, b]⟩) ![0, 0] ![a, b] inb).toLoadRect (h.unread x) = x := by
  funext y
  obtain ⟨r, l, rfl⟩ := Norm.place2 y
  exact load_part arg h x inb r l r (by omega)

/-- Whether the rows before the block count: at every point but the last, which takes the first block. -/
def keep (i : grid0.Coords) : EReal := (Scalar.sitofp .f32 (Scalar.extui (Scalar.cmpi .slt (BitVec.ofNat 32 (i 0).val) 15#32) : BitVec 32) : Ideal .f32)

/-- The buffer of gated rows: thirty-two before the block, then the block's. -/
def gatedRows (s : EReal) (v1 v2 : Vec Ideal S256x512 .f32) (p1 p2 : Vec Ideal S32x512 .f32) (i : ℕ) (q : Fin 512) : EReal :=
  if h : i < 32 then p1 (ix2 ⟨i, h⟩ q) * Gate.sigma (p2 (ix2 ⟨i, h⟩ q)) * s
  else if h' : i - 32 < 256 then v1 (ix2 ⟨i - 32, h'⟩ q) * Gate.sigma (v2 (ix2 ⟨i - 32, h'⟩ q)) else 0

/-- The buffer of gradients: the block's rows, then thirty-two after it. -/
def gradRows (dm : Vec Ideal S256x512 .bf16) (zc : Vec Ideal S256x512 .f32) (g b : Vec Ideal S1x512 .f32) (m : Vec Ideal S512x512 .bf16) (after : Buf)
    (i : ℕ) (q : Fin 512) : EReal :=
  if h : i < 256 then pulledAt dm zc g b m ⟨i, h⟩ q else after (i - 256) q

/-- A buffer of two pieces, by its rows. -/
theorem two_pieces {sg : RefSig} {κ : Kind} {sp : Space} (v : View sg κ sp ⟨2, ![288, 512]⟩ .f32) {f : v.ty.Contents (Elt Ideal)} {k n : ℕ}
    (inb inb') (P : FVec Ideal ⟨2, ![n, 512]⟩ .f32) (P' : FVec Ideal ⟨2, ![k, 512]⟩ .f32) {D : Buf} (hk : k + n = 288)
    (h : ∀ (r : Fin n) (q : Fin 512), P (ix2 r q) = D (k + r.val) q) (h' : ∀ (r : Fin k) (q : Fin 512), P' (ix2 r q) = D r.val q) (r : Fin 288) (q : Fin 512) :
    v.read (Elt Ideal) (v.writes (Elt Ideal) f [(⟨Rect.unit (s := ⟨2, ![288, 512]⟩) ![k, 0] ![n, 512] inb, P⟩ : View.Piece (Elt Ideal) ⟨2, ![288, 512]⟩ .f32),
      ⟨Rect.unit (s := ⟨2, ![288, 512]⟩) ![0, 0] ![k, 512] inb', P'⟩]) (ix2 r q) = D r.val q := by
  have hr := r.isLt
  by_cases hc : r.val < k
  · rw [View.read_writes_cons_rows_of_not_mem v f inb P _ _ rfl rfl (Or.inl hc),
      View.read_writes_cons_rows_of_mem v f inb' P' _ _ (ix2 ⟨r.val, hc⟩ q) rfl (by show r.val = 0 + r.val; omega) rfl, h']
  · rw [View.read_writes_cons_rows_of_mem v f inb P _ _ (ix2 ⟨r.val - k, by omega⟩ q) rfl (by show r.val = k + (r.val - k); omega) rfl, h]
    exact congrArg (D · q) (by show k + (r.val - k) = r.val; omega)

/-- A whole output stored last. -/
theorem whole_piece {sg : RefSig} {κ : Kind} {sp : Space} {a : ℕ} (v : View sg κ sp ⟨2, ![a, 512]⟩ .f32) {f : v.ty.Contents (Elt Ideal)}
    (inb) (P : FVec Ideal ⟨2, ![a, 512]⟩ .f32) (L : List (View.Piece (Elt Ideal) ⟨2, ![a, 512]⟩ .f32)) (r : Fin a) (q : Fin 512) :
    v.read (Elt Ideal) (v.writes (Elt Ideal) f ((⟨Rect.unit (s := ⟨2, ![a, 512]⟩) ![0, 0] ![a, 512] inb, P⟩ : View.Piece (Elt Ideal) ⟨2, ![a, 512]⟩ .f32) :: L)) (ix2 r q)
      = P (ix2 r q) :=
  View.read_writes_cons_rows_of_mem v f inb P L _ (ix2 r q) rfl (by show r.val = 0 + r.val; omega) rfl

/-- And read back. -/
theorem whole_back {sg : RefSig} {κ : Kind} {sp : Space} {a : ℕ} (v : View sg κ sp ⟨2, ![a, 512]⟩ .f32)
    (inb inb') (P : FVec Ideal ⟨2, ![a, 512]⟩ .f32) (r : Fin a) (q : Fin 512) :
    v.readCov [(⟨Rect.unit (s := ⟨2, ![a, 512]⟩) ![0, 0] ![a, 512] inb, P⟩ : View.Piece (Elt Ideal) ⟨2, ![a, 512]⟩ .f32)]
      (Rect.unit (s := ⟨2, ![a, 512]⟩) ![0, 0] ![a, 512] inb').toLoadRect (ix2 r q) = P (ix2 r q) := by
  unfold View.readCov
  rw [View.readAt_apply]
  refine Eq.trans (congrArg _ (funext fun a => Fin.ext ?_)) (whole_piece v (f := v.junk) inb P [] r q)
  fin_cases a
  · show 0 + 1 * r.val = r.val; omega
  · show 0 + 1 * q.val = q.val; omega

section Loaded

variable {dm : Vec Ideal S256x512 .bf16} {zc : Vec Ideal S256x512 .f32} {g b : Vec Ideal S1x512 .f32} {m : Vec Ideal S512x512 .bf16}
  {X0 : Vec Ideal S256x512 .bf16} {X1 : Vec Ideal S256x512 .f32} {X8 X9 : Vec Ideal S1x512 .f32} {X10 : Vec Ideal S512x512 .bf16}

/-- The gradient rows over what was loaded, and the sums. -/
theorem grads_of (h0 : X0 = dm) (h1 : X1 = zc) (h8 : X8 = g) (h9 : X9 = b) (h10 : X10 = m) (p : Fin 256) (q : Fin 512) :
    k0_pay25 (k0_pay8 X1 X10) (k0_pay9 X1 X10) (gains X0 X1 X8 X9 X10) (k0_pay18 X10)
      (k0_pay20 (k0_pay10 X1 X10 X8 X9) (k0_pay11 X1 X10 X8 X9) (Scalar.ofBits .f32 0x3F800000#32 : Ideal .f32) X0 X8)
      (k0_pay21 (k0_pay10 X1 X10 X8 X9) (k0_pay11 X1 X10 X8 X9) (Scalar.ofBits .f32 0x3F800000#32 : Ideal .f32) X0 X8 X10)
      (constant S256x512 .f32 0x00000000#32) X10 (ix2 p q) = pulledAt dm zc g b m p q := by
  subst h0 h1 h8 h9 h10
  exact pay25_apply _ _ _ _ _ p q

theorem db_of (h0 : X0 = dm) (h1 : X1 = zc) (h8 : X8 = g) (h9 : X9 = b) (h10 : X10 = m) {Y : Vec Ideal S1x512 .f32} {y : Row} (q : Fin 512) (hY : Y (ix2 0 q) = y q) :
    k0_pay24 (k0_pay8 X1 X10) (k0_pay9 X1 X10) (gains X0 X1 X8 X9 X10) (k0_pay18 X10)
      (k0_pay20 (k0_pay10 X1 X10 X8 X9) (k0_pay11 X1 X10 X8 X9) (Scalar.ofBits .f32 0x3F800000#32 : Ideal .f32) X0 X8)
      (k0_pay21 (k0_pay10 X1 X10 X8 X9) (k0_pay11 X1 X10 X8 X9) (Scalar.ofBits .f32 0x3F800000#32 : Ideal .f32) X0 X8 X10)
      (constant S256x512 .f32 0x00000000#32) X10 Y (ix2 0 q) = y q + ∑ p : Fin 256, pulledAt dm zc g b m p q := by
  subst h0 h1 h8 h9 h10
  exact (pay24_apply _ _ _ _ _ Y q).trans (congrArg (· + _) hY)

theorem dg_of (h0 : X0 = dm) (h1 : X1 = zc) (h8 : X8 = g) (h9 : X9 = b) (h10 : X10 = m) {Y : Vec Ideal S1x512 .f32} {y : Row} (q : Fin 512) (hY : Y (ix2 0 q) = y q) :
    k0_pay16 (k0_pay9 X1 X10) (k0_pay10 X1 X10 X8 X9) (k0_pay11 X1 X10 X8 X9) (Scalar.ofBits .f32 0x3F800000#32 : Ideal .f32) X0 Y (ix2 0 q)
      = y q + ∑ p : Fin 256, slopeAt dm zc g b m p q * normedAt zc m p q := by
  subst h0 h1 h8 h9 h10
  exact (pay16_apply _ _ _ _ _ Y q).trans (congrArg (· + _) hY)

theorem ds_of (h0 : X0 = dm) (h1 : X1 = zc) (h8 : X8 = g) (h9 : X9 = b) (h10 : X10 = m) {Y : Vec Ideal S1x512 .f32} {y : Row} (q : Fin 512) (hY : Y (ix2 0 q) = y q) :
    k0_pay14 (k0_pay10 X1 X10 X8 X9) (k0_pay11 X1 X10 X8 X9) (Scalar.ofBits .f32 0x3F800000#32 : Ideal .f32) X0 Y (ix2 0 q)
      = y q + ∑ p : Fin 256, slopeAt dm zc g b m p q := by
  subst h0 h1 h8 h9 h10
  exact (pay14_apply _ _ _ _ _ Y q).trans (congrArg (· + _) hY)

theorem db_start (h0 : X0 = dm) (h1 : X1 = zc) (h8 : X8 = g) (h9 : X9 = b) (h10 : X10 = m) (q : Fin 512) :
    k0_pay23 (k0_pay8 X1 X10) (k0_pay9 X1 X10) (gains X0 X1 X8 X9 X10) (k0_pay18 X10)
      (k0_pay20 (k0_pay10 X1 X10 X8 X9) (k0_pay11 X1 X10 X8 X9) (Scalar.ofBits .f32 0x3F800000#32 : Ideal .f32) X0 X8)
      (k0_pay21 (k0_pay10 X1 X10 X8 X9) (k0_pay11 X1 X10 X8 X9) (Scalar.ofBits .f32 0x3F800000#32 : Ideal .f32) X0 X8 X10)
      (constant S256x512 .f32 0x00000000#32) X10 (ix2 0 q) = ∑ p : Fin 256, pulledAt dm zc g b m p q := by
  subst h0 h1 h8 h9 h10
  exact pay23_apply _ _ _ _ _ q

theorem dg_start (h0 : X0 = dm) (h1 : X1 = zc) (h8 : X8 = g) (h9 : X9 = b) (h10 : X10 = m) (q : Fin 512) :
    k0_pay15 (k0_pay9 X1 X10) (k0_pay10 X1 X10 X8 X9) (k0_pay11 X1 X10 X8 X9) (Scalar.ofBits .f32 0x3F800000#32 : Ideal .f32) X0 (ix2 0 q) = ∑ p : Fin 256, slopeAt dm zc g b m p q * normedAt zc m p q := by
  subst h0 h1 h8 h9 h10
  exact pay15_apply _ _ _ _ _ q

theorem ds_start (h0 : X0 = dm) (h1 : X1 = zc) (h8 : X8 = g) (h9 : X9 = b) (h10 : X10 = m) (q : Fin 512) :
    k0_pay13 (k0_pay10 X1 X10 X8 X9) (k0_pay11 X1 X10 X8 X9) (Scalar.ofBits .f32 0x3F800000#32 : Ideal .f32) X0 (ix2 0 q) = ∑ p : Fin 256, slopeAt dm zc g b m p q := by
  subst h0 h1 h8 h9 h10
  exact pay13_apply _ _ _ _ _ q

end Loaded

/-- The gated rows over what was loaded. -/
theorem gated_of {v1 v2 V W : Vec Ideal S256x512 .f32} {p1 p2 : Vec Ideal S32x512 .f32} {s : EReal} (hV : V = v1) (hW : W = v2) (r : Fin 256) (q : Fin 512) :
    k0_pay29 V W (ix2 r q) = gatedRows s v1 v2 p1 p2 (32 + r.val) q := by
  subst hV hW
  have := r.isLt
  rw [pay29_apply, gatedRows, dif_neg (by omega), dif_pos (by omega)]
  simp only [Nat.add_sub_cancel_left]

theorem before_of {v1 v2 : Vec Ideal S256x512 .f32} {p1 p2 V W : Vec Ideal S32x512 .f32} {n : BitVec 32} {s : EReal} (hs : (Scalar.sitofp .f32 n : Ideal .f32) = s)
    (hV : V = p1) (hW : W = p2) (r : Fin 32) (q : Fin 512) :
    k0_pay28 n V W (ix2 r q) = gatedRows s v1 v2 p1 p2 r.val q := by
  subst hV hW hs
  rw [pay28_apply, gatedRows, dif_pos r.isLt]

/-- The first output of a point: the recurrence's block as it came, then the gradients of the two halves of the gate. -/
def inputs (v1 v2 : Vec Ideal S256x512 .f32) (s5 : Vec Ideal S256x512 .bf16) (w : Vec Ideal S31x512 .f32) (D : Buf) (p : Fin 256) (n : Fin 1536) : EReal :=
  if h : n.val < 512 then s5 (ix2 p ⟨n.val, h⟩)
  else if h' : n.val - 512 < 512 then backTaps w D p.val ⟨n.val - 512, h'⟩ * Gate.sigma (v2 (ix2 p ⟨n.val - 512, h'⟩))
  else backTaps w D p.val ⟨n.val - 1024, by omega⟩ * v1 (ix2 p ⟨n.val - 1024, by omega⟩) * Gate.sigma (v2 (ix2 p ⟨n.val - 1024, by omega⟩))
    * (1 - Gate.sigma (v2 (ix2 p ⟨n.val - 1024, by omega⟩)))

section Pieces

variable {v1 v2 : Vec Ideal S256x512 .f32} {s5 : Vec Ideal S256x512 .bf16} {w : Vec Ideal S31x512 .f32} {D : Buf}
  {o : ℕ} {p : Fin 256} {n : Fin 1536} {r : Fin 32} {l : Fin 512} {d V W : Vec Ideal S32x512 .f32}

theorem input_copy {S : Vec Ideal S256x512 .bf16} (hS : S = s5) {r : Fin 256} (hp : p.val = 0 + 1 * r.val) (hn : n.val = 0 + 1 * l.val) :
    k0_pay30 S (ix2 r l) = inputs v1 v2 s5 w D p n := by
  subst hS
  obtain rfl : p = r := Fin.ext (by omega)
  have := l.isLt
  rw [pay30_apply, inputs, dif_pos (by omega)]
  exact congrArg S (congrArg (ix2 p) (Fin.ext (by show l.val = n.val; omega)))

theorem input_value (hd : d (ix2 r l) = backTaps w D (o + r.val) l) (hV : V (ix2 r l) = v2 (ix2 p l)) (hp : p.val = o + 1 * r.val) (hn : n.val = 512 + 1 * l.val) :
    k0_pay2 d V (ix2 r l) = inputs v1 v2 s5 w D p n := by
  have := l.isLt
  rw [pay2_apply, hd, hV, inputs, dif_neg (by omega), dif_pos (by omega), show o + r.val = p.val by omega,
    show (⟨n.val - 512, by omega⟩ : Fin 512) = l from Fin.ext (by show n.val - 512 = l.val; omega)]

theorem input_gate (hd : d (ix2 r l) = backTaps w D (o + r.val) l) (hW : W (ix2 r l) = v1 (ix2 p l)) (hV : V (ix2 r l) = v2 (ix2 p l)) (hp : p.val = o + 1 * r.val)
    (hn : n.val = 1024 + 1 * l.val) : k0_pay3 d W V (ix2 r l) = inputs v1 v2 s5 w D p n := by
  have := l.isLt
  rw [pay3_apply, hd, hV, hW, inputs, dif_neg (by omega), dif_neg (by omega), show o + r.val = p.val by omega,
    show (⟨n.val - 1024, by omega⟩ : Fin 512) = l from Fin.ext (by show n.val - 1024 = l.val; omega)]

end Pieces

end Cert.ConvBwd

end
-- ==== Proof.ConvBwdFirst.lean ====
/-
  What the first point of the convolution's backward call computes: the rows of its buffers, the sums it leaves and the rows it keeps.
-/
module

public import proofs.«01_k».proof.Proof.Gen.Kernel10Ideal.Frame.RunA
public import proofs.«01_k».proof.Proof.ConvBwdPieces

@[expose] public section

noncomputable section

open Idealize.ShloMosaic Idealize.ShloMosaic.TcCoe Idealize.SL.Sem

namespace Cert.ConvBwd

open Cert.Kernel10Ideal Cert.Kernel10Ideal.Gen
open Cert.Conv

section Block

variable (c : Dev nD) (i : grid0.Coords) (arg1 : Memref sig .tc .vmem S256x512 .bf16) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S32x512 .f32) (harg5 : arg5.IsWhole) (arg6 : Memref sig .tc .vmem S32x512 .f32) (harg6 : arg6.IsWhole) (arg7 : Memref sig .tc .vmem S256x512 .bf16) (harg7 : arg7.IsWhole) (arg8 : Memref sig .tc .vmem S31x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x512 .bf16) (harg11 : arg11.IsWhole) (arg12 : Memref sig .tc .vmem S256x1536 .bf16) (harg12 : arg12.IsWhole) (arg13 : Memref sig .tc .vmem S256x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S288x512 .f32) (harg17 : arg17.IsWhole) (arg18 : Memref sig .tc .vmem S288x512 .f32) (harg18 : arg18.IsWhole) (arg19 : Memref sig .tc .vmem S32x512 .f32) (harg19 : arg19.IsWhole)
variable (hc0 : cond0_0 i) (hc1 : cond0_1 i) (hc2 : ¬cond0_2 i) (hc3 : cond0_3 i) (hc4 : ¬cond0_4 i) (hc5 : cond0_5 i) (hc6 : ¬cond0_6 i)
    (x0 : Vec Ideal S256x512 .bf16) (x1 : Vec Ideal S256x512 .f32) (x2 : Vec Ideal S256x512 .f32) (x3 : Vec Ideal S256x512 .f32) (x4 : Vec Ideal S32x512 .f32) (x5 : Vec Ideal S32x512 .f32) (x6 : Vec Ideal S256x512 .bf16) (x7 : Vec Ideal S31x512 .f32) (x8 : Vec Ideal S1x512 .f32) (x9 : Vec Ideal S1x512 .f32) (x10 : Vec Ideal S512x512 .bf16)

/-- The rows of the two buffers at the first point. -/
theorem first_gated (r : Fin 288) (q : Fin 512) :
    arg17.view.read (Elt Ideal) (arg17.view.writes (Elt Ideal) arg17.view.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 x0 x1 x2 x3 x4 x5 x6 x7 x8 x9 x10).2.2.2.2.2.2.1) (ix2 r q) = gatedRows (keep i) x2 x3 x4 x5 r.val q := by
  unfold kernelRun0_A
  dsimp only
  refine two_pieces arg17.view (n := 256) (k := 32) _ _ _ _ rfl ?_ ?_ r q
  · exact fun r q => gated_of (load_whole arg3 harg3 x2 _) (load_whole arg4 harg4 x3 _) r q
  · exact fun r q => before_of (s := keep i) rfl (load_whole arg5 harg5 x4 _) (load_whole arg6 harg6 x5 _) r q

theorem first_grads (r : Fin 288) (q : Fin 512) :
    arg18.view.read (Elt Ideal) (arg18.view.writes (Elt Ideal) arg18.view.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 x0 x1 x2 x3 x4 x5 x6 x7 x8 x9 x10).2.2.2.2.2.2.2.1) (ix2 r q) = gradRows x0 x1 x8 x9 x10 (fun _ _ => 0) r.val q := by
  unfold kernelRun0_A
  dsimp only
  refine two_pieces arg18.view (n := 32) (k := 256) _ _ _ _ rfl ?_ ?_ r q
  · intro r q
    rw [gradRows, dif_neg (by omega)]
    refine (pay26_apply _ r q).trans ?_
    refine (whole_back arg19.view _ _ _ r q).trans ?_
    pointwise [k0_pay4]
  · intro r q
    rw [gradRows, dif_pos r.isLt]
    exact grads_of (load_whole arg1 harg1 x0 _) (load_whole arg2 harg2 x1 _) (load_whole arg9 harg9 x8 _) (load_whole arg10 harg10 x9 _) (load_whole arg11 harg11 x10 _) r q

/-- The sums that the first point leaves, and the rows it keeps. -/
theorem first_db {κ : Kind} {sp : Space} (v : View sig κ sp S1x512 .f32) (f : v.ty.Contents (Elt Ideal)) (q : Fin 512) :
    v.read (Elt Ideal) (v.writes (Elt Ideal) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 x0 x1 x2 x3 x4 x5 x6 x7 x8 x9 x10).2.2.1) (ix2 0 q) = ∑ p : Fin 256, pulledAt x0 x1 x8 x9 x10 p q := by
  unfold kernelRun0_A
  dsimp only
  refine (whole_piece v _ _ _ 0 q).trans ?_
  exact db_start (load_whole arg1 harg1 x0 _) (load_whole arg2 harg2 x1 _) (load_whole arg9 harg9 x8 _) (load_whole arg10 harg10 x9 _) (load_whole arg11 harg11 x10 _) q

theorem first_dg {κ : Kind} {sp : Space} (v : View sig κ sp S1x512 .f32) (f : v.ty.Contents (Elt Ideal)) (q : Fin 512) :
    v.read (Elt Ideal) (v.writes (Elt Ideal) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 x0 x1 x2 x3 x4 x5 x6 x7 x8 x9 x10).2.2.2.1) (ix2 0 q) = ∑ p : Fin 256, slopeAt x0 x1 x8 x9 x10 p q * normedAt x1 x10 p q := by
  unfold kernelRun0_A
  dsimp only
  refine (whole_piece v _ _ _ 0 q).trans ?_
  exact dg_start (load_whole arg1 harg1 x0 _) (load_whole arg2 harg2 x1 _) (load_whole arg9 harg9 x8 _) (load_whole arg10 harg10 x9 _) (load_whole arg11 harg11 x10 _) q

theorem first_ds {κ : Kind} {sp : Space} (v : View sig κ sp S1x512 .f32) (f : v.ty.Contents (Elt Ideal)) (q : Fin 512) :
    v.read (Elt Ideal) (v.writes (Elt Ideal) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 x0 x1 x2 x3 x4 x5 x6 x7 x8 x9 x10).2.2.2.2.1) (ix2 0 q) = ∑ p : Fin 256, slopeAt x0 x1 x8 x9 x10 p q := by
  unfold kernelRun0_A
  dsimp only
  refine (whole_piece v _ _ _ 0 q).trans ?_
  exact ds_start (load_whole arg1 harg1 x0 _) (load_whole arg2 harg2 x1 _) (load_whole arg9 harg9 x8 _) (load_whole arg10 harg10 x9 _) (load_whole arg11 harg11 x10 _) q

theorem first_kept {κ : Kind} {sp : Space} (v : View sig κ sp S32x512 .f32) (f : v.ty.Contents (Elt Ideal)) {D : Buf}
    (hD : ∀ (r : Fin 288) (q : Fin 512), arg18.view.read (Elt Ideal) (arg18.view.writes (Elt Ideal) arg18.view.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 x0 x1 x2 x3 x4 x5 x6 x7 x8 x9 x10).2.2.2.2.2.2.2.1) (ix2 r q) = D r.val q) (r : Fin 32) (q : Fin 512) :
    v.read (Elt Ideal) (v.writes (Elt Ideal) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 x0 x1 x2 x3 x4 x5 x6 x7 x8 x9 x10).2.2.2.2.2.1) (ix2 r q) = D r.val q := by
  unfold kernelRun0_A at hD ⊢
  dsimp only at hD ⊢
  refine (whole_piece v _ _ _ r q).trans ((pay27_apply _ r q).trans ?_)
  exact (load_rows _ hD _ (o' := 0) (by rfl) r q).trans (congrArg (D · q) (Nat.zero_add _))

end Block

end Cert.ConvBwd

end
-- ==== Proof.ConvBwdLater.lean ====
/-
  What a later point of the convolution's backward call computes: the rows of its buffers, the sums it leaves and the rows it keeps.
-/
module

public import proofs.«01_k».proof.Proof.Gen.Kernel10Ideal.Frame.RunB
public import proofs.«01_k».proof.Proof.ConvBwdPieces

@[expose] public section

noncomputable section

open Idealize.ShloMosaic Idealize.ShloMosaic.TcCoe Idealize.SL.Sem

namespace Cert.ConvBwd

open Cert.Kernel10Ideal Cert.Kernel10Ideal.Gen
open Cert.Conv

section Block

variable (c : Dev nD) (i : grid0.Coords) (arg1 : Memref sig .tc .vmem S256x512 .bf16) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S32x512 .f32) (harg5 : arg5.IsWhole) (arg6 : Memref sig .tc .vmem S32x512 .f32) (harg6 : arg6.IsWhole) (arg7 : Memref sig .tc .vmem S256x512 .bf16) (harg7 : arg7.IsWhole) (arg8 : Memref sig .tc .vmem S31x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x512 .bf16) (harg11 : arg11.IsWhole) (arg12 : Memref sig .tc .vmem S256x1536 .bf16) (harg12 : arg12.IsWhole) (arg13 : Memref sig .tc .vmem S256x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S288x512 .f32) (harg17 : arg17.IsWhole) (arg18 : Memref sig .tc .vmem S288x512 .f32) (harg18 : arg18.IsWhole) (arg19 : Memref sig .tc .vmem S32x512 .f32) (harg19 : arg19.IsWhole)
variable (hc0 : ¬cond0_0 i) (hc1 : ¬cond0_1 i) (hc2 : cond0_2 i) (hc3 : ¬cond0_3 i) (hc4 : cond0_4 i) (hc5 : ¬cond0_5 i) (hc6 : cond0_6 i)
    (x0 : Vec Ideal S256x512 .bf16) (x1 : Vec Ideal S256x512 .f32) (x2 : Vec Ideal S256x512 .f32) (x3 : Vec Ideal S256x512 .f32) (x4 : Vec Ideal S32x512 .f32) (x5 : Vec Ideal S32x512 .f32) (x6 : Vec Ideal S256x512 .bf16) (x7 : Vec Ideal S31x512 .f32) (x8 : Vec Ideal S1x512 .f32) (x9 : Vec Ideal S1x512 .f32) (x10 : Vec Ideal S512x512 .bf16) (xo12 : Vec Ideal S256x512 .f32) (xo13 : Vec Ideal S1x512 .f32) (xo14 : Vec Ideal S1x512 .f32) (xo15 : Vec Ideal S1x512 .f32) (xs2 : Vec Ideal S32x512 .f32)

/-- The rows of the two buffers at a later point. -/
theorem later_gated (r : Fin 288) (q : Fin 512) :
    arg17.view.read (Elt Ideal) (arg17.view.writes (Elt Ideal) arg17.view.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 x0 x1 x2 x3 x4 x5 x6 x7 x8 x9 x10 xo12 xo13 xo14 xo15 xs2).2.2.2.2.2.2.1) (ix2 r q) = gatedRows (keep i) x2 x3 x4 x5 r.val q := by
  unfold kernelRun0_B
  dsimp only
  refine two_pieces arg17.view (n := 256) (k := 32) _ _ _ _ rfl ?_ ?_ r q
  · exact fun r q => gated_of (load_whole arg3 harg3 x2 _) (load_whole arg4 harg4 x3 _) r q
  · exact fun r q => before_of (s := keep i) rfl (load_whole arg5 harg5 x4 _) (load_whole arg6 harg6 x5 _) r q

theorem later_grads (r : Fin 288) (q : Fin 512) :
    arg18.view.read (Elt Ideal) (arg18.view.writes (Elt Ideal) arg18.view.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 x0 x1 x2 x3 x4 x5 x6 x7 x8 x9 x10 xo12 xo13 xo14 xo15 xs2).2.2.2.2.2.2.2.1) (ix2 r q) = gradRows x0 x1 x8 x9 x10 (rowsOf xs2) r.val q := by
  unfold kernelRun0_B
  dsimp only
  refine two_pieces arg18.view (n := 32) (k := 256) _ _ _ _ rfl ?_ ?_ r q
  · intro r q
    rw [gradRows, dif_neg (by omega), Nat.add_sub_cancel_left]
    refine (pay26_apply _ r q).trans ?_
    rw [rowsOf, dif_pos r.isLt]
    exact congrFun (load_whole arg19 harg19 xs2 _) _
  · intro r q
    rw [gradRows, dif_pos r.isLt]
    exact grads_of (load_whole arg1 harg1 x0 _) (load_whole arg2 harg2 x1 _) (load_whole arg9 harg9 x8 _) (load_whole arg10 harg10 x9 _) (load_whole arg11 harg11 x10 _) r q

/-- The sums that a later point leaves, and the rows it keeps. -/
theorem later_db {κ : Kind} {sp : Space} (v : View sig κ sp S1x512 .f32) (f : v.ty.Contents (Elt Ideal)) (q : Fin 512) :
    v.read (Elt Ideal) (v.writes (Elt Ideal) f (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 x0 x1 x2 x3 x4 x5 x6 x7 x8 x9 x10 xo12 xo13 xo14 xo15 xs2).2.2.1) (ix2 0 q) = xo13 (ix2 0 q) + ∑ p : Fin 256, pulledAt x0 x1 x8 x9 x10 p q := by
  unfold kernelRun0_B
  dsimp only
  refine (whole_piece v _ _ _ 0 q).trans ?_
  exact db_of (y := fun q => xo13 (ix2 0 q)) (load_whole arg1 harg1 x0 _) (load_whole arg2 harg2 x1 _) (load_whole arg9 harg9 x8 _) (load_whole arg10 harg10 x9 _) (load_whole arg11 harg11 x10 _) q (congrFun (load_whole arg14 harg14 xo13 _) _)

theorem later_dg {κ : Kind} {sp : Space} (v : View sig κ sp S1x512 .f32) (f : v.ty.Contents (Elt Ideal)) (q : Fin 512) :
    v.read (Elt Ideal) (v.writes (Elt Ideal) f (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 x0 x1 x2 x3 x4 x5 x6 x7 x8 x9 x10 xo12 xo13 xo14 xo15 xs2).2.2.2.1) (ix2 0 q) = xo14 (ix2 0 q) + ∑ p : Fin 256, slopeAt x0 x1 x8 x9 x10 p q * normedAt x1 x10 p q := by
  unfold kernelRun0_B
  dsimp only
  refine (whole_piece v _ _ _ 0 q).trans ?_
  exact dg_of (y := fun q => xo14 (ix2 0 q)) (load_whole arg1 harg1 x0 _) (load_whole arg2 harg2 x1 _) (load_whole arg9 harg9 x8 _) (load_whole arg10 harg10 x9 _) (load_whole arg11 harg11 x10 _) q (congrFun (load_whole arg15 harg15 xo14 _) _)

theorem later_ds {κ : Kind} {sp : Space} (v : View sig κ sp S1x512 .f32) (f : v.ty.Contents (Elt Ideal)) (q : Fin 512) :
    v.read (Elt Ideal) (v.writes (Elt Ideal) f (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 x0 x1 x2 x3 x4 x5 x6 x7 x8 x9 x10 xo12 xo13 xo14 xo15 xs2).2.2.2.2.1) (ix2 0 q) = xo15 (ix2 0 q) + ∑ p : Fin 256, slopeAt x0 x1 x8 x9 x10 p q := by
  unfold kernelRun0_B
  dsimp only
  refine (whole_piece v _ _ _ 0 q).trans ?_
  exact ds_of (y := fun q => xo15 (ix2 0 q)) (load_whole arg1 harg1 x0 _) (load_whole arg2 harg2 x1 _) (load_whole arg9 harg9 x8 _) (load_whole arg10 harg10 x9 _) (load_whole arg11 harg11 x10 _) q (congrFun (load_whole arg16 harg16 xo15 _) _)

theorem later_kept {κ : Kind} {sp : Space} (v : View sig κ sp S32x512 .f32) (f : v.ty.Contents (Elt Ideal)) {D : Buf}
    (hD : ∀ (r : Fin 288) (q : Fin 512), arg18.view.read (Elt Ideal) (arg18.view.writes (Elt Ideal) arg18.view.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 x0 x1 x2 x3 x4 x5 x6 x7 x8 x9 x10 xo12 xo13 xo14 xo15 xs2).2.2.2.2.2.2.2.1) (ix2 r q) = D r.val q) (r : Fin 32) (q : Fin 512) :
    v.read (Elt Ideal) (v.writes (Elt Ideal) f (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 x0 x1 x2 x3 x4 x5 x6 x7 x8 x9 x10 xo12 xo13 xo14 xo15 xs2).2.2.2.2.2.1) (ix2 r q) = D r.val q := by
  unfold kernelRun0_B at hD ⊢
  dsimp only at hD ⊢
  refine (whole_piece v _ _ _ r q).trans ((pay27_apply _ r q).trans ?_)
  exact (load_rows _ hD _ (o' := 0) (by rfl) r q).trans (congrArg (D · q) (Nat.zero_add _))

end Block

end Cert.ConvBwd

end
-- ==== Proof.ConvBwdInputsFirst.lean ====
/-
  The pieces of the first output of the convolution's backward call at the first point: the block copied, and the gradients of the gate's two halves in
  eight pieces of 32 rows, each with its taps.
-/
module

public import proofs.«01_k».proof.Proof.Gen.Kernel10Ideal.Frame.RunA
public import proofs.«01_k».proof.Proof.ConvBwdPieces

@[expose] public section

noncomputable section

open Idealize.ShloMosaic Idealize.ShloMosaic.TcCoe Idealize.SL.Sem

namespace Cert.ConvBwd

open Cert.Kernel10Ideal Cert.Kernel10Ideal.Gen
open Cert.Conv

section Block

variable (c : Dev nD) (i : grid0.Coords) (arg1 : Memref sig .tc .vmem S256x512 .bf16) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S32x512 .f32) (harg5 : arg5.IsWhole) (arg6 : Memref sig .tc .vmem S32x512 .f32) (harg6 : arg6.IsWhole) (arg7 : Memref sig .tc .vmem S256x512 .bf16) (harg7 : arg7.IsWhole) (arg8 : Memref sig .tc .vmem S31x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x512 .bf16) (harg11 : arg11.IsWhole) (arg12 : Memref sig .tc .vmem S256x1536 .bf16) (harg12 : arg12.IsWhole) (arg13 : Memref sig .tc .vmem S256x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S288x512 .f32) (harg17 : arg17.IsWhole) (arg18 : Memref sig .tc .vmem S288x512 .f32) (harg18 : arg18.IsWhole) (arg19 : Memref sig .tc .vmem S32x512 .f32) (harg19 : arg19.IsWhole)

set_option maxHeartbeats 4000000 in
/-- The pieces of the first output at the first point. -/
theorem first_input (hc0 : cond0_0 i) (hc1 : cond0_1 i) (hc2 : ¬cond0_2 i) (hc3 : cond0_3 i) (hc4 : ¬cond0_4 i) (hc5 : cond0_5 i) (hc6 : ¬cond0_6 i)
    (x0 : Vec Ideal S256x512 .bf16) (x1 : Vec Ideal S256x512 .f32) (x2 : Vec Ideal S256x512 .f32) (x3 : Vec Ideal S256x512 .f32) (x4 : Vec Ideal S32x512 .f32) (x5 : Vec Ideal S32x512 .f32) (x6 : Vec Ideal S256x512 .bf16) (x7 : Vec Ideal S31x512 .f32) (x8 : Vec Ideal S1x512 .f32) (x9 : Vec Ideal S1x512 .f32) (x10 : Vec Ideal S512x512 .bf16) {D : Buf}
    (hD : ∀ (r : Fin 288) (q : Fin 512), arg18.view.read (Elt Ideal) (arg18.view.writes (Elt Ideal) arg18.view.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 x0 x1 x2 x3 x4 x5 x6 x7 x8 x9 x10).2.2.2.2.2.2.2.1) (ix2 r q) = D r.val q)
    (pc) (hpc : pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 x0 x1 x2 x3 x4 x5 x6 x7 x8 x9 x10).1) (x) : pc.2 x = inputs x2 x3 x6 x7 D (pc.1.emb x 0) (pc.1.emb x 1) := by
  have T : ∀ (k : Fin 31) (inb) (q : Fin 512), View.readAt (Elt Ideal) arg8.view (Rect.unit (s := S31x512) ![k.val, 0] ![1, 512] inb).toLoadRect (harg8.unread x7) (ix2 0 q) = x7 (ix2 k q) :=
    fun k inb q => load_part arg8 harg8 x7 inb 0 q k rfl
  unfold kernelRun0_A at hD hpc
  dsimp only at hD hpc
  have R {o n : ℕ} (inb) {o' : ℕ} (ho : o = o' := by rfl) := load_rows (n := n) _ hD inb ho
  simp only [List.mem_cons, List.not_mem_nil, or_false] at hpc
  rcases hpc with rfl | rfl | rfl | rfl | rfl | rfl | rfl | rfl | rfl | rfl | rfl | rfl | rfl | rfl | rfl | rfl | rfl <;> obtain ⟨r, l, rfl⟩ := Norm.place2 x
  · refine input_gate (o := 224) ?_ ?_ ?_ rfl rfl
    · exact back_apply (w := x7) (D := D) (o := 224) (T 0 _) (T 1 _) (T 2 _) (T 3 _) (T 4 _) (T 5 _) (T 6 _) (T 7 _) (T 8 _) (T 9 _) (T 10 _) (T 11 _) (T 12 _) (T 13 _) (T 14 _) (T 15 _) (T 16 _) (T 17 _) (T 18 _) (T 19 _) (T 20 _) (T 21 _) (T 22 _) (T 23 _) (T 24 _) (T 25 _) (T 26 _) (T 27 _) (T 28 _) (T 29 _) (T 30 _)
        (R _) (R _) (R _) (R _) (R _) (R _) (R _) (R _) (R _) (R _) (R _) (R _) (R _) (R _) (R _) (R _) (R _) (R _) (R _) (R _) (R _) (R _) (R _) (R _) (R _) (R _) (R _) (R _) (R _) (R _) (R _) r l
    · exact load_part arg3 harg3 x2 _ r l _ rfl
    · exact load_part arg4 harg4 x3 _ r l _ rfl
  · refine input_value (o := 224) ?_ ?_ rfl rfl
    · exact back_apply (w := x7) (D := D) (o := 224) (T 0 _) (T 1 _) (T 2 _) (T 3 _) (T 4 _) (T 5 _) (T 6 _) (T 7 _) (T 8 _) (T 9 _) (T 10 _) (T 11 _) (T 12 _) (T 13 _) (T 14 _) (T 15 _) (T 16 _) (T 17 _) (T 18 _) (T 19 _) (T 20 _) (T 21 _) (T 22 _) (T 23 _) (T 24 _) (T 25 _) (T 26 _) (T 27 _) (T 28 _) (T 29 _) (T 30 _)
        (R _) (R _) (R _) (R _) (R _) (R _) (R _) (R _) (R _) (R _) (R _) (R _) (R _) (R _) (R _) (R _) (R _) (R _) (R _) (R _) (R _) (R _) (R _) (R _) (R _) (R _) (R _) (R _) (R _) (R _) (R _) r l
    · exact load_part arg4 harg4 x3 _ r l _ rfl
  · refine input_gate (o := 192) ?_ ?_ ?_ rfl rfl
    · exact back_apply (w := x7) (D := D) (o := 192) (T 0 _) (T 1 _) (T 2 _) (T 3 _) (T 4 _) (T 5 _) (T 6 _) (T 7 _) (T 8 _) (T 9 _) (T 10 _) (T 11 _) (T 12 _) (T 13 _) (T 14 _) (T 15 _) (T 16 _) (T 17 _) (T 18 _) (T 19 _) (T 20 _) (T 21 _) (T 22 _) (T 23 _) (T 24 _) (T 25 _) (T 26 _) (T 27 _) (T 28 _) (T 29 _) (T 30 _)
        (R _) (R _) (R _) (R _) (R _) (R _) (R _) (R _) (R _) (R _) (R _) (R _) (R _) (R _) (R _) (R _) (R _) (R _) (R _) (R _) (R _) (R _) (R _) (R _) (R _) (R _) (R _) (R _) (R _) (R _) (R _) r l
    · exact load_part arg3 harg3 x2 _ r l _ rfl
    · exact load_part arg4 harg4 x3 _ r l _ rfl
  · refine input_value (o := 192) ?_ ?_ rfl rfl
    · exact back_apply (w := x7) (D := D) (o := 192) (T 0 _) (T 1 _) (T 2 _) (T 3 _) (T 4 _) (T 5 _) (T 6 _) (T 7 _) (T 8 _) (T 9 _) (T 10 _) (T 11 _) (T 12 _) (T 13 _) (T 14 _) (T 15 _) (T 16 _) (T 17 _) (T 18 _) (T 19 _) (T 20 _) (T 21 _) (T 22 _) (T 23 _) (T 24 _) (T 25 _) (T 26 _) (T 27 _) (T 28 _) (T 29 _) (T 30 _)
        (R _) (R _) (R _) (R _) (R _) (R _) (R _) (R _) (R _) (R _) (R _) (R _) (R _) (R _) (R _) (R _) (R _) (R _) (R _) (R _) (R _) (R _) (R _) (R _) (R _) (R _) (R _) (R _) (R _) (R _) (R _) r l
    · exact load_part arg4 harg4 x3 _ r l _ rfl
  · refine input_gate (o := 160) ?_ ?_ ?_ rfl rfl
    · exact back_apply (w := x7) (D := D) (o := 160) (T 0 _) (T 1 _) (T 2 _) (T 3 _) (T 4 _) (T 5 _) (T 6 _) (T 7 _) (T 8 _) (T 9 _) (T 10 _) (T 11 _) (T 12 _) (T 13 _) (T 14 _) (T 15 _) (T 16 _) (T 17 _) (T 18 _) (T 19 _) (T 20 _) (T 21 _) (T 22 _) (T 23 _) (T 24 _) (T 25 _) (T 26 _) (T 27 _) (T 28 _) (T 29 _) (T 30 _)
        (R _) (R _) (R _) (R _) (R _) (R _) (R _) (R _) (R _) (R _) (R _) (R _) (R _) (R _) (R _) (R _) (R _) (R _) (R _) (R _) (R _) (R _) (R _) (R _) (R _) (R _) (R _) (R _) (R _) (R _) (R _) r l
    · exact load_part arg3 harg3 x2 _ r l _ rfl
    · exact load_part arg4 harg4 x3 _ r l _ rfl
  · refine input_value (o := 160) ?_ ?_ rfl rfl
    · exact back_apply (w := x7) (D := D) (o := 160) (T 0 _) (T 1 _) (T 2 _) (T 3 _) (T 4 _) (T 5 _) (T 6 _) (T 7 _) (T 8 _) (T 9 _) (T 10 _) (T 11 _) (T 12 _) (T 13 _) (T 14 _) (T 15 _) (T 16 _) (T 17 _) (T 18 _) (T 19 _) (T 20 _) (T 21 _) (T 22 _) (T 23 _) (T 24 _) (T 25 _) (T 26 _) (T 27 _) (T 28 _) (T 29 _) (T 30 _)
        (R _) (R _) (R _) (R _) (R _) (R _) (R _) (R _) (R _) (R _) (R _) (R _) (R _) (R _) (R _) (R _) (R _) (R _) (R _) (R _) (R _) (R _) (R _) (R _) (R _) (R _) (R _) (R _) (R _) (R _) (R _) r l
    · exact load_part arg4 harg4 x3 _ r l _ rfl
  · refine input_gate (o := 128) ?_ ?_ ?_ rfl rfl
    · exact back_apply (w := x7) (D := D) (o := 128) (T 0 _) (T 1 _) (T 2 _) (T 3 _) (T 4 _) (T 5 _) (T 6 _) (T 7 _) (T 8 _) (T 9 _) (T 10 _) (T 11 _) (T 12 _) (T 13 _) (T 14 _) (T 15 _) (T 16 _) (T 17 _) (T 18 _) (T 19 _) (T 20 _) (T 21 _) (T 22 _) (T 23 _) (T 24 _) (T 25 _) (T 26 _) (T 27 _) (T 28 _) (T 29 _) (T 30 _)
        (R _) (R _) (R _) (R _) (R _) (R _) (R _) (R _) (R _) (R _) (R _) (R _) (R _) (R _) (R _) (R _) (R _) (R _) (R _) (R _) (R _) (R _) (R _) (R _) (R _) (R _) (R _) (R _) (R _) (R _) (R _) r l
    · exact load_part arg3 harg3 x2 _ r l _ rfl
    · exact load_part arg4 harg4 x3 _ r l _ rfl
  · refine input_value (o := 128) ?_ ?_ rfl rfl
    · exact back_apply (w := x7) (D := D) (o := 128) (T 0 _) (T 1 _) (T 2 _) (T 3 _) (T 4 _) (T 5 _) (T 6 _) (T 7 _) (T 8 _) (T 9 _) (T 10 _) (T 11 _) (T 12 _) (T 13 _) (T 14 _) (T 15 _) (T 16 _) (T 17 _) (T 18 _) (T 19 _) (T 20 _) (T 21 _) (T 22 _) (T 23 _) (T 24 _) (T 25 _) (T 26 _) (T 27 _) (T 28 _) (T 29 _) (T 30 _)
        (R _) (R _) (R _) (R _) (R _) (R _) (R _) (R _) (R _) (R _) (R _) (R _) (R _) (R _) (R _) (R _) (R _) (R _) (R _) (R _) (R _) (R _) (R _) (R _) (R _) (R _) (R _) (R _) (R _) (R _) (R _) r l
    · exact load_part arg4 harg4 x3 _ r l _ rfl
  · refine input_gate (o := 96) ?_ ?_ ?_ rfl rfl
    · exact back_apply (w := x7) (D := D) (o := 96) (T 0 _) (T 1 _) (T 2 _) (T 3 _) (T 4 _) (T 5 _) (T 6 _) (T 7 _) (T 8 _) (T 9 _) (T 10 _) (T 11 _) (T 12 _) (T 13 _) (T 14 _) (T 15 _) (T 16 _) (T 17 _) (T 18 _) (T 19 _) (T 20 _) (T 21 _) (T 22 _) (T 23 _) (T 24 _) (T 25 _) (T 26 _) (T 27 _) (T 28 _) (T 29 _) (T 30 _)
        (R _) (R _) (R _) (R _) (R _) (R _) (R _) (R _) (R _) (R _) (R _) (R _) (R _) (R _) (R _) (R _) (R _) (R _) (R _) (R _) (R _) (R _) (R _) (R _) (R _) (R _) (R _) (R _) (R _) (R _) (R _) r l
    · exact load_part arg3 harg3 x2 _ r l _ rfl
    · exact load_part arg4 harg4 x3 _ r l _ rfl
  · refine input_value (o := 96) ?_ ?_ rfl rfl
    · exact back_apply (w := x7) (D := D) (o := 96) (T 0 _) (T 1 _) (T 2 _) (T 3 _) (T 4 _) (T 5 _) (T 6 _) (T 7 _) (T 8 _) (T 9 _) (T 10 _) (T 11 _) (T 12 _) (T 13 _) (T 14 _) (T 15 _) (T 16 _) (T 17 _) (T 18 _) (T 19 _) (T 20 _) (T 21 _) (T 22 _) (T 23 _) (T 24 _) (T 25 _) (T 26 _) (T 27 _) (T 28 _) (T 29 _) (T 30 _)
        (R _) (R _) (R _) (R _) (R _) (R _) (R _) (R _) (R _) (R _) (R _) (R _) (R _) (R _) (R _) (R _) (R _) (R _) (R _) (R _) (R _) (R _) (R _) (R _) (R _) (R _) (R _) (R _) (R _) (R _) (R _) r l
    · exact load_part arg4 harg4 x3 _ r l _ rfl
  · refine input_gate (o := 64) ?_ ?_ ?_ rfl rfl
    · exact back_apply (w := x7) (D := D) (o := 64) (T 0 _) (T 1 _) (T 2 _) (T 3 _) (T 4 _) (T 5 _) (T 6 _) (T 7 _) (T 8 _) (T 9 _) (T 10 _) (T 11 _) (T 12 _) (T 13 _) (T 14 _) (T 15 _) (T 16 _) (T 17 _) (T 18 _) (T 19 _) (T 20 _) (T 21 _) (T 22 _) (T 23 _) (T 24 _) (T 25 _) (T 26 _) (T 27 _) (T 28 _) (T 29 _) (T 30 _)
        (R _) (R _) (R _) (R _) (R _) (R _) (R _) (R _) (R _) (R _) (R _) (R _) (R _) (R _) (R _) (R _) (R _) (R _) (R _) (R _) (R _) (R _) (R _) (R _) (R _) (R _) (R _) (R _) (R _) (R _) (R _) r l
    · exact load_part arg3 harg3 x2 _ r l _ rfl
    · exact load_part arg4 harg4 x3 _ r l _ rfl
  · refine input_value (o := 64) ?_ ?_ rfl rfl
    · exact back_apply (w := x7) (D := D) (o := 64) (T 0 _) (T 1 _) (T 2 _) (T 3 _) (T 4 _) (T 5 _) (T 6 _) (T 7 _) (T 8 _) (T 9 _) (T 10 _) (T 11 _) (T 12 _) (T 13 _) (T 14 _) (T 15 _) (T 16 _) (T 17 _) (T 18 _) (T 19 _) (T 20 _) (T 21 _) (T 22 _) (T 23 _) (T 24 _) (T 25 _) (T 26 _) (T 27 _) (T 28 _) (T 29 _) (T 30 _)
        (R _) (R _) (R _) (R _) (R _) (R _) (R _) (R _) (R _) (R _) (R _) (R _) (R _) (R _) (R _) (R _) (R _) (R _) (R _) (R _) (R _) (R _) (R _) (R _) (R _) (R _) (R _) (R _) (R _) (R _) (R _) r l
    · exact load_part arg4 harg4 x3 _ r l _ rfl
  · refine input_gate (o := 32) ?_ ?_ ?_ rfl rfl
    · exact back_apply (w := x7) (D := D) (o := 32) (T 0 _) (T 1 _) (T 2 _) (T 3 _) (T 4 _) (T 5 _) (T 6 _) (T 7 _) (T 8 _) (T 9 _) (T 10 _) (T 11 _) (T 12 _) (T 13 _) (T 14 _) (T 15 _) (T 16 _) (T 17 _) (T 18 _) (T 19 _) (T 20 _) (T 21 _) (T 22 _) (T 23 _) (T 24 _) (T 25 _) (T 26 _) (T 27 _) (T 28 _) (T 29 _) (T 30 _)
        (R _) (R _) (R _) (R _) (R _) (R _) (R _) (R _) (R _) (R _) (R _) (R _) (R _) (R _) (R _) (R _) (R _) (R _) (R _) (R _) (R _) (R _) (R _) (R _) (R _) (R _) (R _) (R _) (R _) (R _) (R _) r l
    · exact load_part arg3 harg3 x2 _ r l _ rfl
    · exact load_part arg4 harg4 x3 _ r l _ rfl
  · refine input_value (o := 32) ?_ ?_ rfl rfl
    · exact back_apply (w := x7) (D := D) (o := 32) (T 0 _) (T 1 _) (T 2 _) (T 3 _) (T 4 _) (T 5 _) (T 6 _) (T 7 _) (T 8 _) (T 9 _) (T 10 _) (T 11 _) (T 12 _) (T 13 _) (T 14 _) (T 15 _) (T 16 _) (T 17 _) (T 18 _) (T 19 _) (T 20 _) (T 21 _) (T 22 _) (T 23 _) (T 24 _) (T 25 _) (T 26 _) (T 27 _) (T 28 _) (T 29 _) (T 30 _)
        (R _) (R _) (R _) (R _) (R _) (R _) (R _) (R _) (R _) (R _) (R _) (R _) (R _) (R _) (R _) (R _) (R _) (R _) (R _) (R _) (R _) (R _) (R _) (R _) (R _) (R _) (R _) (R _) (R _) (R _) (R _) r l
    · exact load_part arg4 harg4 x3 _ r l _ rfl
  · refine input_gate (o := 0) ?_ ?_ ?_ rfl rfl
    · exact back_apply (w := x7) (D := D) (o := 0) (T 0 _) (T 1 _) (T 2 _) (T 3 _) (T 4 _) (T 5 _) (T 6 _) (T 7 _) (T 8 _) (T 9 _) (T 10 _) (T 11 _) (T 12 _) (T 13 _) (T 14 _) (T 15 _) (T 16 _) (T 17 _) (T 18 _) (T 19 _) (T 20 _) (T 21 _) (T 22 _) (T 23 _) (T 24 _) (T 25 _) (T 26 _) (T 27 _) (T 28 _) (T 29 _) (T 30 _)
        (R _) (R _) (R _) (R _) (R _) (R _) (R _) (R _) (R _) (R _) (R _) (R _) (R _) (R _) (R _) (R _) (R _) (R _) (R _) (R _) (R _) (R _) (R _) (R _) (R _) (R _) (R _) (R _) (R _) (R _) (R _) r l
    · exact load_part arg3 harg3 x2 _ r l _ rfl
    · exact load_part arg4 harg4 x3 _ r l _ rfl
  · refine input_value (o := 0) ?_ ?_ rfl rfl
    · exact back_apply (w := x7) (D := D) (o := 0) (T 0 _) (T 1 _) (T 2 _) (T 3 _) (T 4 _) (T 5 _) (T 6 _) (T 7 _) (T 8 _) (T 9 _) (T 10 _) (T 11 _) (T 12 _) (T 13 _) (T 14 _) (T 15 _) (T 16 _) (T 17 _) (T 18 _) (T 19 _) (T 20 _) (T 21 _) (T 22 _) (T 23 _) (T 24 _) (T 25 _) (T 26 _) (T 27 _) (T 28 _) (T 29 _) (T 30 _)
        (R _) (R _) (R _) (R _) (R _) (R _) (R _) (R _) (R _) (R _) (R _) (R _) (R _) (R _) (R _) (R _) (R _) (R _) (R _) (R _) (R _) (R _) (R _) (R _) (R _) (R _) (R _) (R _) (R _) (R _) (R _) r l
    · exact load_part arg4 harg4 x3 _ r l _ rfl
  · exact input_copy (load_whole arg7 harg7 x6 _) rfl rfl

end Block

end Cert.ConvBwd

end
-- ==== Proof.ConvBwdInputsLater.lean ====
/-
  The pieces of the first output of the convolution's backward call at a later point: the block copied, and the gradients of the gate's two halves in
  eight pieces of 32 rows, each with its taps.
-/
module

public import proofs.«01_k».proof.Proof.Gen.Kernel10Ideal.Frame.RunB
public import proofs.«01_k».proof.Proof.ConvBwdPieces

@[expose] public section

noncomputable section

open Idealize.ShloMosaic Idealize.ShloMosaic.TcCoe Idealize.SL.Sem

namespace Cert.ConvBwd

open Cert.Kernel10Ideal Cert.Kernel10Ideal.Gen
open Cert.Conv

section Block

variable (c : Dev nD) (i : grid0.Coords) (arg1 : Memref sig .tc .vmem S256x512 .bf16) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S32x512 .f32) (harg5 : arg5.IsWhole) (arg6 : Memref sig .tc .vmem S32x512 .f32) (harg6 : arg6.IsWhole) (arg7 : Memref sig .tc .vmem S256x512 .bf16) (harg7 : arg7.IsWhole) (arg8 : Memref sig .tc .vmem S31x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x512 .bf16) (harg11 : arg11.IsWhole) (arg12 : Memref sig .tc .vmem S256x1536 .bf16) (harg12 : arg12.IsWhole) (arg13 : Memref sig .tc .vmem S256x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S288x512 .f32) (harg17 : arg17.IsWhole) (arg18 : Memref sig .tc .vmem S288x512 .f32) (harg18 : arg18.IsWhole) (arg19 : Memref sig .tc .vmem S32x512 .f32) (harg19 : arg19.IsWhole)

set_option maxHeartbeats 4000000 in
/-- The pieces of the first output at a later point. -/
theorem later_input (hc0 : ¬cond0_0 i) (hc1 : ¬cond0_1 i) (hc2 : cond0_2 i) (hc3 : ¬cond0_3 i) (hc4 : cond0_4 i) (hc5 : ¬cond0_5 i) (hc6 : cond0_6 i)
    (x0 : Vec Ideal S256x512 .bf16) (x1 : Vec Ideal S256x512 .f32) (x2 : Vec Ideal S256x512 .f32) (x3 : Vec Ideal S256x512 .f32) (x4 : Vec Ideal S32x512 .f32) (x5 : Vec Ideal S32x512 .f32) (x6 : Vec Ideal S256x512 .bf16) (x7 : Vec Ideal S31x512 .f32) (x8 : Vec Ideal S1x512 .f32) (x9 : Vec Ideal S1x512 .f32) (x10 : Vec Ideal S512x512 .bf16) (xo12 : Vec Ideal S256x512 .f32) (xo13 : Vec Ideal S1x512 .f32) (xo14 : Vec Ideal S1x512 .f32) (xo15 : Vec Ideal S1x512 .f32) (xs2 : Vec Ideal S32x512 .f32) {D : Buf}
    (hD : ∀ (r : Fin 288) (q : Fin 512), arg18.view.read (Elt Ideal) (arg18.view.writes (Elt Ideal) arg18.view.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 x0 x1 x2 x3 x4 x5 x6 x7 x8 x9 x10 xo12 xo13 xo14 xo15 xs2).2.2.2.2.2.2.2.1) (ix2 r q) = D r.val q)
    (pc) (hpc : pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 x0 x1 x2 x3 x4 x5 x6 x7 x8 x9 x10 xo12 xo13 xo14 xo15 xs2).1) (x) : pc.2 x = inputs x2 x3 x6 x7 D (pc.1.emb x 0) (pc.1.emb x 1) := by
  have T : ∀ (k : Fin 31) (inb) (q : Fin 512), View.readAt (Elt Ideal) arg8.view (Rect.unit (s := S31x512) ![k.val, 0] ![1, 512] inb).toLoadRect (harg8.unread x7) (ix2 0 q) = x7 (ix2 k q) :=
    fun k inb q => load_part arg8 harg8 x7 inb 0 q k rfl
  unfold kernelRun0_B at hD hpc
  dsimp only at hD hpc
  have R {o n : ℕ} (inb) {o' : ℕ} (ho : o = o' := by rfl) := load_rows (n := n) _ hD inb ho
  simp only [List.mem_cons, List.not_mem_nil, or_false] at hpc
  rcases hpc with rfl | rfl | rfl | rfl | rfl | rfl | rfl | rfl | rfl | rfl | rfl | rfl | rfl | rfl | rfl | rfl | rfl <;> obtain ⟨r, l, rfl⟩ := Norm.place2 x
  · refine input_gate (o := 224) ?_ ?_ ?_ rfl rfl
    · exact back_apply (w := x7) (D := D) (o := 224) (T 0 _) (T 1 _) (T 2 _) (T 3 _) (T 4 _) (T 5 _) (T 6 _) (T 7 _) (T 8 _) (T 9 _) (T 10 _) (T 11 _) (T 12 _) (T 13 _) (T 14 _) (T 15 _) (T 16 _) (T 17 _) (T 18 _) (T 19 _) (T 20 _) (T 21 _) (T 22 _) (T 23 _) (T 24 _) (T 25 _) (T 26 _) (T 27 _) (T 28 _) (T 29 _) (T 30 _)
        (R _) (R _) (R _) (R _) (R _) (R _) (R _) (R _) (R _) (R _) (R _) (R _) (R _) (R _) (R _) (R _) (R _) (R _) (R _) (R _) (R _) (R _) (R _) (R _) (R _) (R _) (R _) (R _) (R _) (R _) (R _) r l
    · exact load_part arg3 harg3 x2 _ r l _ rfl
    · exact load_part arg4 harg4 x3 _ r l _ rfl
  · refine input_value (o := 224) ?_ ?_ rfl rfl
    · exact back_apply (w := x7) (D := D) (o := 224) (T 0 _) (T 1 _) (T 2 _) (T 3 _) (T 4 _) (T 5 _) (T 6 _) (T 7 _) (T 8 _) (T 9 _) (T 10 _) (T 11 _) (T 12 _) (T 13 _) (T 14 _) (T 15 _) (T 16 _) (T 17 _) (T 18 _) (T 19 _) (T 20 _) (T 21 _) (T 22 _) (T 23 _) (T 24 _) (T 25 _) (T 26 _) (T 27 _) (T 28 _) (T 29 _) (T 30 _)
        (R _) (R _) (R _) (R _) (R _) (R _) (R _) (R _) (R _) (R _) (R _) (R _) (R _) (R _) (R _) (R _) (R _) (R _) (R _) (R _) (R _) (R _) (R _) (R _) (R _) (R _) (R _) (R _) (R _) (R _) (R _) r l
    · exact load_part arg4 harg4 x3 _ r l _ rfl
  · refine input_gate (o := 192) ?_ ?_ ?_ rfl rfl
    · exact back_apply (w := x7) (D := D) (o := 192) (T 0 _) (T 1 _) (T 2 _) (T 3 _) (T 4 _) (T 5 _) (T 6 _) (T 7 _) (T 8 _) (T 9 _) (T 10 _) (T 11 _) (T 12 _) (T 13 _) (T 14 _) (T 15 _) (T 16 _) (T 17 _) (T 18 _) (T 19 _) (T 20 _) (T 21 _) (T 22 _) (T 23 _) (T 24 _) (T 25 _) (T 26 _) (T 27 _) (T 28 _) (T 29 _) (T 30 _)
        (R _) (R _) (R _) (R _) (R _) (R _) (R _) (R _) (R _) (R _) (R _) (R _) (R _) (R _) (R _) (R _) (R _) (R _) (R _) (R _) (R _) (R _) (R _) (R _) (R _) (R _) (R _) (R _) (R _) (R _) (R _) r l
    · exact load_part arg3 harg3 x2 _ r l _ rfl
    · exact load_part arg4 harg4 x3 _ r l _ rfl
  · refine input_value (o := 192) ?_ ?_ rfl rfl
    · exact back_apply (w := x7) (D := D) (o := 192) (T 0 _) (T 1 _) (T 2 _) (T 3 _) (T 4 _) (T 5 _) (T 6 _) (T 7 _) (T 8 _) (T 9 _) (T 10 _) (T 11 _) (T 12 _) (T 13 _) (T 14 _) (T 15 _) (T 16 _) (T 17 _) (T 18 _) (T 19 _) (T 20 _) (T 21 _) (T 22 _) (T 23 _) (T 24 _) (T 25 _) (T 26 _) (T 27 _) (T 28 _) (T 29 _) (T 30 _)
        (R _) (R _) (R _) (R _) (R _) (R _) (R _) (R _) (R _) (R _) (R _) (R _) (R _) (R _) (R _) (R _) (R _) (R _) (R _) (R _) (R _) (R _) (R _) (R _) (R _) (R _) (R _) (R _) (R _) (R _) (R _) r l
    · exact load_part arg4 harg4 x3 _ r l _ rfl
  · refine input_gate (o := 160) ?_ ?_ ?_ rfl rfl
    · exact back_apply (w := x7) (D := D) (o := 160) (T 0 _) (T 1 _) (T 2 _) (T 3 _) (T 4 _) (T 5 _) (T 6 _) (T 7 _) (T 8 _) (T 9 _) (T 10 _) (T 11 _) (T 12 _) (T 13 _) (T 14 _) (T 15 _) (T 16 _) (T 17 _) (T 18 _) (T 19 _) (T 20 _) (T 21 _) (T 22 _) (T 23 _) (T 24 _) (T 25 _) (T 26 _) (T 27 _) (T 28 _) (T 29 _) (T 30 _)
        (R _) (R _) (R _) (R _) (R _) (R _) (R _) (R _) (R _) (R _) (R _) (R _) (R _) (R _) (R _) (R _) (R _) (R _) (R _) (R _) (R _) (R _) (R _) (R _) (R _) (R _) (R _) (R _) (R _) (R _) (R _) r l
    · exact load_part arg3 harg3 x2 _ r l _ rfl
    · exact load_part arg4 harg4 x3 _ r l _ rfl
  · refine input_value (o := 160) ?_ ?_ rfl rfl
    · exact back_apply (w := x7) (D := D) (o := 160) (T 0 _) (T 1 _) (T 2 _) (T 3 _) (T 4 _) (T 5 _) (T 6 _) (T 7 _) (T 8 _) (T 9 _) (T 10 _) (T 11 _) (T 12 _) (T 13 _) (T 14 _) (T 15 _) (T 16 _) (T 17 _) (T 18 _) (T 19 _) (T 20 _) (T 21 _) (T 22 _) (T 23 _) (T 24 _) (T 25 _) (T 26 _) (T 27 _) (T 28 _) (T 29 _) (T 30 _)
        (R _) (R _) (R _) (R _) (R _) (R _) (R _) (R _) (R _) (R _) (R _) (R _) (R _) (R _) (R _) (R _) (R _) (R _) (R _) (R _) (R _) (R _) (R _) (R _) (R _) (R _) (R _) (R _) (R _) (R _) (R _) r l
    · exact load_part arg4 harg4 x3 _ r l _ rfl
  · refine input_gate (o := 128) ?_ ?_ ?_ rfl rfl
    · exact back_apply (w := x7) (D := D) (o := 128) (T 0 _) (T 1 _) (T 2 _) (T 3 _) (T 4 _) (T 5 _) (T 6 _) (T 7 _) (T 8 _) (T 9 _) (T 10 _) (T 11 _) (T 12 _) (T 13 _) (T 14 _) (T 15 _) (T 16 _) (T 17 _) (T 18 _) (T 19 _) (T 20 _) (T 21 _) (T 22 _) (T 23 _) (T 24 _) (T 25 _) (T 26 _) (T 27 _) (T 28 _) (T 29 _) (T 30 _)
        (R _) (R _) (R _) (R _) (R _) (R _) (R _) (R _) (R _) (R _) (R _) (R _) (R _) (R _) (R _) (R _) (R _) (R _) (R _) (R _) (R _) (R _) (R _) (R _) (R _) (R _) (R _) (R _) (R _) (R _) (R _) r l
    · exact load_part arg3 harg3 x2 _ r l _ rfl
    · exact load_part arg4 harg4 x3 _ r l _ rfl
  · refine input_value (o := 128) ?_ ?_ rfl rfl
    · exact back_apply (w := x7) (D := D) (o := 128) (T 0 _) (T 1 _) (T 2 _) (T 3 _) (T 4 _) (T 5 _) (T 6 _) (T 7 _) (T 8 _) (T 9 _) (T 10 _) (T 11 _) (T 12 _) (T 13 _) (T 14 _) (T 15 _) (T 16 _) (T 17 _) (T 18 _) (T 19 _) (T 20 _) (T 21 _) (T 22 _) (T 23 _) (T 24 _) (T 25 _) (T 26 _) (T 27 _) (T 28 _) (T 29 _) (T 30 _)
        (R _) (R _) (R _) (R _) (R _) (R _) (R _) (R _) (R _) (R _) (R _) (R _) (R _) (R _) (R _) (R _) (R _) (R _) (R _) (R _) (R _) (R _) (R _) (R _) (R _) (R _) (R _) (R _) (R _) (R _) (R _) r l
    · exact load_part arg4 harg4 x3 _ r l _ rfl
  · refine input_gate (o := 96) ?_ ?_ ?_ rfl rfl
    · exact back_apply (w := x7) (D := D) (o := 96) (T 0 _) (T 1 _) (T 2 _) (T 3 _) (T 4 _) (T 5 _) (T 6 _) (T 7 _) (T 8 _) (T 9 _) (T 10 _) (T 11 _) (T 12 _) (T 13 _) (T 14 _) (T 15 _) (T 16 _) (T 17 _) (T 18 _) (T 19 _) (T 20 _) (T 21 _) (T 22 _) (T 23 _) (T 24 _) (T 25 _) (T 26 _) (T 27 _) (T 28 _) (T 29 _) (T 30 _)
        (R _) (R _) (R _) (R _) (R _) (R _) (R _) (R _) (R _) (R _) (R _) (R _) (R _) (R _) (R _) (R _) (R _) (R _) (R _) (R _) (R _) (R _) (R _) (R _) (R _) (R _) (R _) (R _) (R _) (R _) (R _) r l
    · exact load_part arg3 harg3 x2 _ r l _ rfl
    · exact load_part arg4 harg4 x3 _ r l _ rfl
  · refine input_value (o := 96) ?_ ?_ rfl rfl
    · exact back_apply (w := x7) (D := D) (o := 96) (T 0 _) (T 1 _) (T 2 _) (T 3 _) (T 4 _) (T 5 _) (T 6 _) (T 7 _) (T 8 _) (T 9 _) (T 10 _) (T 11 _) (T 12 _) (T 13 _) (T 14 _) (T 15 _) (T 16 _) (T 17 _) (T 18 _) (T 19 _) (T 20 _) (T 21 _) (T 22 _) (T 23 _) (T 24 _) (T 25 _) (T 26 _) (T 27 _) (T 28 _) (T 29 _) (T 30 _)
        (R _) (R _) (R _) (R _) (R _) (R _) (R _) (R _) (R _) (R _) (R _) (R _) (R _) (R _) (R _) (R _) (R _) (R _) (R _) (R _) (R _) (R _) (R _) (R _) (R _) (R _) (R _) (R _) (R _) (R _) (R _) r l
    · exact load_part arg4 harg4 x3 _ r l _ rfl
  · refine input_gate (o := 64) ?_ ?_ ?_ rfl rfl
    · exact back_apply (w := x7) (D := D) (o := 64) (T 0 _) (T 1 _) (T 2 _) (T 3 _) (T 4 _) (T 5 _) (T 6 _) (T 7 _) (T 8 _) (T 9 _) (T 10 _) (T 11 _) (T 12 _) (T 13 _) (T 14 _) (T 15 _) (T 16 _) (T 17 _) (T 18 _) (T 19 _) (T 20 _) (T 21 _) (T 22 _) (T 23 _) (T 24 _) (T 25 _) (T 26 _) (T 27 _) (T 28 _) (T 29 _) (T 30 _)
        (R _) (R _) (R _) (R _) (R _) (R _) (R _) (R _) (R _) (R _) (R _) (R _) (R _) (R _) (R _) (R _) (R _) (R _) (R _) (R _) (R _) (R _) (R _) (R _) (R _) (R _) (R _) (R _) (R _) (R _) (R _) r l
    · exact load_part arg3 harg3 x2 _ r l _ rfl
    · exact load_part arg4 harg4 x3 _ r l _ rfl
  · refine input_value (o := 64) ?_ ?_ rfl rfl
    · exact back_apply (w := x7) (D := D) (o := 64) (T 0 _) (T 1 _) (T 2 _) (T 3 _) (T 4 _) (T 5 _) (T 6 _) (T 7 _) (T 8 _) (T 9 _) (T 10 _) (T 11 _) (T 12 _) (T 13 _) (T 14 _) (T 15 _) (T 16 _) (T 17 _) (T 18 _) (T 19 _) (T 20 _) (T 21 _) (T 22 _) (T 23 _) (T 24 _) (T 25 _) (T 26 _) (T 27 _) (T 28 _) (T 29 _) (T 30 _)
        (R _) (R _) (R _) (R _) (R _) (R _) (R _) (R _) (R _) (R _) (R _) (R _) (R _) (R _) (R _) (R _) (R _) (R _) (R _) (R _) (R _) (R _) (R _) (R _) (R _) (R _) (R _) (R _) (R _) (R _) (R _) r l
    · exact load_part arg4 harg4 x3 _ r l _ rfl
  · refine input_gate (o := 32) ?_ ?_ ?_ rfl rfl
    · exact back_apply (w := x7) (D := D) (o := 32) (T 0 _) (T 1 _) (T 2 _) (T 3 _) (T 4 _) (T 5 _) (T 6 _) (T 7 _) (T 8 _) (T 9 _) (T 10 _) (T 11 _) (T 12 _) (T 13 _) (T 14 _) (T 15 _) (T 16 _) (T 17 _) (T 18 _) (T 19 _) (T 20 _) (T 21 _) (T 22 _) (T 23 _) (T 24 _) (T 25 _) (T 26 _) (T 27 _) (T 28 _) (T 29 _) (T 30 _)
        (R _) (R _) (R _) (R _) (R _) (R _) (R _) (R _) (R _) (R _) (R _) (R _) (R _) (R _) (R _) (R _) (R _) (R _) (R _) (R _) (R _) (R _) (R _) (R _) (R _) (R _) (R _) (R _) (R _) (R _) (R _) r l
    · exact load_part arg3 harg3 x2 _ r l _ rfl
    · exact load_part arg4 harg4 x3 _ r l _ rfl
  · refine input_value (o := 32) ?_ ?_ rfl rfl
    · exact back_apply (w := x7) (D := D) (o := 32) (T 0 _) (T 1 _) (T 2 _) (T 3 _) (T 4 _) (T 5 _) (T 6 _) (T 7 _) (T 8 _) (T 9 _) (T 10 _) (T 11 _) (T 12 _) (T 13 _) (T 14 _) (T 15 _) (T 16 _) (T 17 _) (T 18 _) (T 19 _) (T 20 _) (T 21 _) (T 22 _) (T 23 _) (T 24 _) (T 25 _) (T 26 _) (T 27 _) (T 28 _) (T 29 _) (T 30 _)
        (R _) (R _) (R _) (R _) (R _) (R _) (R _) (R _) (R _) (R _) (R _) (R _) (R _) (R _) (R _) (R _) (R _) (R _) (R _) (R _) (R _) (R _) (R _) (R _) (R _) (R _) (R _) (R _) (R _) (R _) (R _) r l
    · exact load_part arg4 harg4 x3 _ r l _ rfl
  · refine input_gate (o := 0) ?_ ?_ ?_ rfl rfl
    · exact back_apply (w := x7) (D := D) (o := 0) (T 0 _) (T 1 _) (T 2 _) (T 3 _) (T 4 _) (T 5 _) (T 6 _) (T 7 _) (T 8 _) (T 9 _) (T 10 _) (T 11 _) (T 12 _) (T 13 _) (T 14 _) (T 15 _) (T 16 _) (T 17 _) (T 18 _) (T 19 _) (T 20 _) (T 21 _) (T 22 _) (T 23 _) (T 24 _) (T 25 _) (T 26 _) (T 27 _) (T 28 _) (T 29 _) (T 30 _)
        (R _) (R _) (R _) (R _) (R _) (R _) (R _) (R _) (R _) (R _) (R _) (R _) (R _) (R _) (R _) (R _) (R _) (R _) (R _) (R _) (R _) (R _) (R _) (R _) (R _) (R _) (R _) (R _) (R _) (R _) (R _) r l
    · exact load_part arg3 harg3 x2 _ r l _ rfl
    · exact load_part arg4 harg4 x3 _ r l _ rfl
  · refine input_value (o := 0) ?_ ?_ rfl rfl
    · exact back_apply (w := x7) (D := D) (o := 0) (T 0 _) (T 1 _) (T 2 _) (T 3 _) (T 4 _) (T 5 _) (T 6 _) (T 7 _) (T 8 _) (T 9 _) (T 10 _) (T 11 _) (T 12 _) (T 13 _) (T 14 _) (T 15 _) (T 16 _) (T 17 _) (T 18 _) (T 19 _) (T 20 _) (T 21 _) (T 22 _) (T 23 _) (T 24 _) (T 25 _) (T 26 _) (T 27 _) (T 28 _) (T 29 _) (T 30 _)
        (R _) (R _) (R _) (R _) (R _) (R _) (R _) (R _) (R _) (R _) (R _) (R _) (R _) (R _) (R _) (R _) (R _) (R _) (R _) (R _) (R _) (R _) (R _) (R _) (R _) (R _) (R _) (R _) (R _) (R _) (R _) r l
    · exact load_part arg4 harg4 x3 _ r l _ rfl
  · exact input_copy (load_whole arg7 harg7 x6 _) rfl rfl

end Block

end Cert.ConvBwd

end
-- ==== Proof.ConvBwdTapsFirst.lean ====
/-
  The sums for the taps' gradient at the first point of the convolution's backward call: the 248 additions to the rows of the taps, one by one.
-/
module

public import proofs.«01_k».proof.Proof.Gen.Kernel10Ideal.Frame.RunA
public import proofs.«01_k».proof.Proof.ConvTapSums

@[expose] public section

noncomputable section

open Idealize.ShloMosaic Idealize.ShloMosaic.TcCoe Idealize.SL.Sem

namespace Cert.ConvBwd

open Cert.Kernel10Ideal Cert.Kernel10Ideal.Gen
open Cert.Conv

section Block

variable (c : Dev nD) (i : grid0.Coords) (arg1 : Memref sig .tc .vmem S256x512 .bf16) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S32x512 .f32) (harg5 : arg5.IsWhole) (arg6 : Memref sig .tc .vmem S32x512 .f32) (harg6 : arg6.IsWhole) (arg7 : Memref sig .tc .vmem S256x512 .bf16) (harg7 : arg7.IsWhole) (arg8 : Memref sig .tc .vmem S31x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x512 .bf16) (harg11 : arg11.IsWhole) (arg12 : Memref sig .tc .vmem S256x1536 .bf16) (harg12 : arg12.IsWhole) (arg13 : Memref sig .tc .vmem S256x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S288x512 .f32) (harg17 : arg17.IsWhole) (arg18 : Memref sig .tc .vmem S288x512 .f32) (harg18 : arg18.IsWhole) (arg19 : Memref sig .tc .vmem S32x512 .f32) (harg19 : arg19.IsWhole)

set_option maxHeartbeats 4000000 in
/-- The additions of the first point, to rows of zeros. -/
theorem first_holds (hc0 : cond0_0 i) (hc1 : cond0_1 i) (hc2 : ¬cond0_2 i) (hc3 : cond0_3 i) (hc4 : ¬cond0_4 i) (hc5 : cond0_5 i) (hc6 : ¬cond0_6 i)
    (x0 : Vec Ideal S256x512 .bf16) (x1 : Vec Ideal S256x512 .f32) (x2 : Vec Ideal S256x512 .f32) (x3 : Vec Ideal S256x512 .f32) (x4 : Vec Ideal S32x512 .f32) (x5 : Vec Ideal S32x512 .f32) (x6 : Vec Ideal S256x512 .bf16) (x7 : Vec Ideal S31x512 .f32) (x8 : Vec Ideal S1x512 .f32) (x9 : Vec Ideal S1x512 .f32) (x10 : Vec Ideal S512x512 .bf16) {D Z : Buf}
    (hZ : ∀ (r : Fin 288) (q : Fin 512), arg17.view.read (Elt Ideal) (arg17.view.writes (Elt Ideal) arg17.view.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 x0 x1 x2 x3 x4 x5 x6 x7 x8 x9 x10).2.2.2.2.2.2.1) (ix2 r q) = Z r.val q)
    (hD : ∀ (r : Fin 288) (q : Fin 512), arg18.view.read (Elt Ideal) (arg18.view.writes (Elt Ideal) arg18.view.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 x0 x1 x2 x3 x4 x5 x6 x7 x8 x9 x10).2.2.2.2.2.2.2.1) (ix2 r q) = D r.val q) :
    Holds arg13.view (fun _ _ => 0) D Z true 248 (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 x0 x1 x2 x3 x4 x5 x6 x7 x8 x9 x10).2.1 := by
  unfold kernelRun0_A at hZ hD ⊢
  dsimp only at hZ hD ⊢
  iterate 8
    iterate 27
      refine Holds.more40 _ rfl (Or.inl rfl) ?_ ?_ ?_
      · exact fun x q => cat_rows (by decide) (by rfl) (fun x q => load_rows _ hD _ (by rfl) x q) x q
      · exact fun x q => load_rows _ hZ _ (by rfl) x q
    iterate 4
      refine Holds.more32 _ rfl (Or.inl rfl) rfl ?_ ?_ ?_
      · exact fun x q => load_rows _ hD _ (by rfl) x q
      · exact fun x q => load_rows _ hZ _ (by rfl) x q
  exact Holds.whole _ fun r q => by
    pointwise [k0_pay5]

end Block

end Cert.ConvBwd

end
-- ==== Proof.ConvBwdTapsLater.lean ====
/-
  The sums for the taps' gradient at a later point of the convolution's backward call: the 248 additions to the rows of the taps, one by one.
-/
module

public import proofs.«01_k».proof.Proof.Gen.Kernel10Ideal.Frame.RunB
public import proofs.«01_k».proof.Proof.ConvTapSums

@[expose] public section

noncomputable section

open Idealize.ShloMosaic Idealize.ShloMosaic.TcCoe Idealize.SL.Sem

namespace Cert.ConvBwd

open Cert.Kernel10Ideal Cert.Kernel10Ideal.Gen
open Cert.Conv

section Block

variable (c : Dev nD) (i : grid0.Coords) (arg1 : Memref sig .tc .vmem S256x512 .bf16) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S32x512 .f32) (harg5 : arg5.IsWhole) (arg6 : Memref sig .tc .vmem S32x512 .f32) (harg6 : arg6.IsWhole) (arg7 : Memref sig .tc .vmem S256x512 .bf16) (harg7 : arg7.IsWhole) (arg8 : Memref sig .tc .vmem S31x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x512 .bf16) (harg11 : arg11.IsWhole) (arg12 : Memref sig .tc .vmem S256x1536 .bf16) (harg12 : arg12.IsWhole) (arg13 : Memref sig .tc .vmem S256x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S288x512 .f32) (harg17 : arg17.IsWhole) (arg18 : Memref sig .tc .vmem S288x512 .f32) (harg18 : arg18.IsWhole) (arg19 : Memref sig .tc .vmem S32x512 .f32) (harg19 : arg19.IsWhole)

set_option maxHeartbeats 4000000 in
/-- The additions of a later point, to what the point before left. -/
theorem later_holds (hc0 : ¬cond0_0 i) (hc1 : ¬cond0_1 i) (hc2 : cond0_2 i) (hc3 : ¬cond0_3 i) (hc4 : cond0_4 i) (hc5 : ¬cond0_5 i) (hc6 : cond0_6 i)
    (x0 : Vec Ideal S256x512 .bf16) (x1 : Vec Ideal S256x512 .f32) (x2 : Vec Ideal S256x512 .f32) (x3 : Vec Ideal S256x512 .f32) (x4 : Vec Ideal S32x512 .f32) (x5 : Vec Ideal S32x512 .f32) (x6 : Vec Ideal S256x512 .bf16) (x7 : Vec Ideal S31x512 .f32) (x8 : Vec Ideal S1x512 .f32) (x9 : Vec Ideal S1x512 .f32) (x10 : Vec Ideal S512x512 .bf16) (xo12 : Vec Ideal S256x512 .f32) (xo13 : Vec Ideal S1x512 .f32) (xo14 : Vec Ideal S1x512 .f32) (xo15 : Vec Ideal S1x512 .f32) (xs2 : Vec Ideal S32x512 .f32) {D Z : Buf}
    (hZ : ∀ (r : Fin 288) (q : Fin 512), arg17.view.read (Elt Ideal) (arg17.view.writes (Elt Ideal) arg17.view.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 x0 x1 x2 x3 x4 x5 x6 x7 x8 x9 x10 xo12 xo13 xo14 xo15 xs2).2.2.2.2.2.2.1) (ix2 r q) = Z r.val q)
    (hD : ∀ (r : Fin 288) (q : Fin 512), arg18.view.read (Elt Ideal) (arg18.view.writes (Elt Ideal) arg18.view.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 x0 x1 x2 x3 x4 x5 x6 x7 x8 x9 x10 xo12 xo13 xo14 xo15 xs2).2.2.2.2.2.2.2.1) (ix2 r q) = D r.val q) :
    Holds arg13.view (rowsOf xo12) D Z false 248 (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 hc6 x0 x1 x2 x3 x4 x5 x6 x7 x8 x9 x10 xo12 xo13 xo14 xo15 xs2).2.1 := by
  unfold kernelRun0_B at hZ hD ⊢
  dsimp only at hZ hD ⊢
  have hf : ∀ (r : Fin 256) (q : Fin 512), arg13.view.read (Elt Ideal) (harg13.unread xo12) (ix2 r q) = rowsOf xo12 r.val q := fun r q => by
    rw [harg13.read_unread, rowsOf, dif_pos r.isLt]
  iterate 7
    iterate 27
      refine Holds.more40 _ rfl (Or.inr (by norm_num)) ?_ ?_ ?_
      · exact fun x q => cat_rows (by decide) (by rfl) (fun x q => load_rows _ hD _ (by rfl) x q) x q
      · exact fun x q => load_rows _ hZ _ (by rfl) x q
    iterate 4
      refine Holds.more32 _ rfl (Or.inr (by norm_num)) rfl ?_ ?_ ?_
      · exact fun x q => load_rows _ hD _ (by rfl) x q
      · exact fun x q => load_rows _ hZ _ (by rfl) x q
  iterate 27
    refine Holds.start40 _ rfl (by decide) hf ?_ ?_ ?_
    · exact fun x q => cat_rows (by decide) (by rfl) (fun x q => load_rows _ hD _ (by rfl) x q) x q
    · exact fun x q => load_rows _ hZ _ (by rfl) x q
  iterate 4
    refine Holds.start32 _ rfl (by decide) rfl hf ?_ ?_ ?_
    · exact fun x q => load_rows _ hD _ (by rfl) x q
    · exact fun x q => load_rows _ hZ _ (by rfl) x q
  exact Holds.none

end Block

end Cert.ConvBwd

end
-- ==== Proof.ConvBwdPoints.lean ====
/-
  What each grid point of the convolution's backward call leaves, in the rows of the whole arrays: the gradient of its block of inputs, the first
  rows of its own gradient for the block before it, and its share of the gradients of the taps, the bias, the gain and the shift.
-/
module

public import proofs.«01_k».proof.Proof.ConvFrame
public import proofs.«01_k».proof.Proof.ConvBwdBlocks
public import proofs.«01_k».proof.Proof.ConvBwdFirst
public import proofs.«01_k».proof.Proof.ConvBwdLater
public import proofs.«01_k».proof.Proof.ConvBwdInputsFirst
public import proofs.«01_k».proof.Proof.ConvBwdInputsLater
public import proofs.«01_k».proof.Proof.ConvBwdTapsFirst
public import proofs.«01_k».proof.Proof.ConvBwdTapsLater

@[expose] public section

set_option maxRecDepth 16384

noncomputable section

open Idealize.ShloMosaic Idealize.ShloMosaic.TcCoe

namespace Cert.ConvBwd

open Cert.Kernel10Ideal Cert.Kernel10Ideal.Gen
open Cert.Conv

variable (m : (ℓ : Loc nD τ sig) → Idealize.ShloMosaic.Buf (Elt Ideal) ℓ) (c : Dev nD)

/-- A row of the convolution, and of the gradient of the module's second half; the gain and the shift. -/
abbrev zcRow (R : Fin 4096) : Row := conv (argU m c) (argW m c) (fun q => argB m c (ix1 q)) R
abbrev dmRow (R : Fin 4096) : Row := fun k => argM m c (ix2 R ⟨512 + k.val, by omega⟩)
abbrev gain : Row := fun q => argG m c (ix1 q)
abbrev shift : Row := fun q => argH m c (ix1 q)

/-- A row of the gradient of the convolution, with zeros after the last; of the gradient of the norm's result; and of the normed rows. -/
def dzAt (R : Fin 4096) : Row := pulled avg (zcRow m c R) (gain m c) (shift m c) (dmRow m c R)
def dz : Buf := fun R q => if h : R < 4096 then dzAt m c ⟨R, h⟩ q else 0
def slopeOf (R : Fin 4096) : Row := slope avg (zcRow m c R) (gain m c) (shift m c) (dmRow m c R)
def normOf (R : Fin 4096) : Row := normed avg (zcRow m c R)

/-- The first row of a point's block. -/
abbrev base (t : Fin cfg0.N) : ℕ := (15 - t.val) * 256

section Point

variable (t : Fin cfg0.N)

theorem mat_point : matOf (iblk m c 10 t) = avg := funext fun k => funext fun q => blk10 m c t k q
theorem zc_point (p : Fin 256) : (fun k => (iblk m c 1 t : Vec Ideal S256x512 .f32) (ix2 p k)) = zcRow m c (rowIn t p) := funext fun q => blk1 m c t p q
theorem dm_point (p : Fin 256) : (fun k => (iblk m c 0 t : Vec Ideal S256x512 .bf16) (ix2 p k)) = dmRow m c (rowIn t p) := funext fun q => blk0 m c t p q
theorem gain_point : rowOf (iblk m c 8 t) = gain m c := funext fun q => blk8 m c t q
theorem shift_point : rowOf (iblk m c 9 t) = shift m c := funext fun q => blk9 m c t q

theorem pulled_point (p : Fin 256) (q : Fin 512) :
    pulledAt (iblk m c 0 t) (iblk m c 1 t) (iblk m c 8 t) (iblk m c 9 t) (iblk m c 10 t) p q = dzAt m c (rowIn t p) q := by
  refine congrFun (?_ : _ = dzAt m c (rowIn t p)) q
  show pulled (matOf (iblk m c 10 t)) (fun k => (iblk m c 1 t : Vec Ideal S256x512 .f32) (ix2 p k)) (rowOf (iblk m c 8 t)) (rowOf (iblk m c 9 t))
    (fun k => (iblk m c 0 t : Vec Ideal S256x512 .bf16) (ix2 p k)) = _
  rw [mat_point, zc_point, dm_point, gain_point, shift_point]
  rfl

theorem slope_point (p : Fin 256) (q : Fin 512) :
    slopeAt (iblk m c 0 t) (iblk m c 1 t) (iblk m c 8 t) (iblk m c 9 t) (iblk m c 10 t) p q = slopeOf m c (rowIn t p) q := by
  refine congrFun (?_ : _ = slopeOf m c (rowIn t p)) q
  show slope (matOf (iblk m c 10 t)) (fun k => (iblk m c 1 t : Vec Ideal S256x512 .f32) (ix2 p k)) (rowOf (iblk m c 8 t)) (rowOf (iblk m c 9 t))
    (fun k => (iblk m c 0 t : Vec Ideal S256x512 .bf16) (ix2 p k)) = _
  rw [mat_point, zc_point, dm_point, gain_point, shift_point]
  rfl

theorem norm_point (p : Fin 256) (q : Fin 512) : normedAt (iblk m c 1 t) (iblk m c 10 t) p q = normOf m c (rowIn t p) q := by
  refine congrFun (?_ : _ = normOf m c (rowIn t p)) q
  show normed (matOf (iblk m c 10 t)) (fun k => (iblk m c 1 t : Vec Ideal S256x512 .f32) (ix2 p k)) = _
  rw [mat_point, zc_point]
  rfl

/-- The buffer of gradients, when the rows after the block are the next block's. -/
theorem grads_point (after : Buf) (ha : ∀ (r : Fin 32) (q : Fin 512), after r.val q = dz m c (base t + (256 + r.val)) q) (r : Fin 288) (q : Fin 512) :
    gradRows (iblk m c 0 t) (iblk m c 1 t) (iblk m c 8 t) (iblk m c 9 t) (iblk m c 10 t) after r.val q = dz m c (base t + r.val) q := by
  have hr := r.isLt
  have ht := lt16 t
  unfold gradRows
  split
  · rename_i h
    rw [pulled_point, dz, dif_pos (by dsimp only [base]; omega)]
  · rename_i h
    refine (ha ⟨r.val - 256, by omega⟩ q).trans (congrArg (dz m c · q) ?_)
    dsimp only
    omega

theorem coords_eq : ∀ t : Fin cfg0.N, (grid0.coords t 0).val = t.val := (by decide +kernel : ∀ t : Fin grid0.N, _)

theorem keep_eq : keep (grid0.coords t) = if t.val < 15 then 1 else 0 := by
  have e : ∀ n < 16, (Scalar.extui (Scalar.cmpi .slt (BitVec.ofNat 32 n) 15#32) : BitVec 32) = if n < 15 then 1#32 else 0#32 := by decide
  rw [keep, coords_eq, e _ (lt16 t)]
  split
  · show (((1#32 : BitVec 32).toInt : ℝ) : EReal) = 1
    norm_num
  · show (((0#32 : BitVec 32).toInt : ℝ) : EReal) = 0
    norm_num

/-- The buffer of gated rows holds the padded rows from two before the block on. -/
theorem gated_point (r : Fin 288) (q : Fin 512) :
    gatedRows (keep (grid0.coords t)) (iblk m c 2 t) (iblk m c 3 t) (iblk m c 4 t) (iblk m c 5 t) r.val q = padded (argU m c) (base t + r.val - 2) q := by
  have hr := r.isLt
  have ht := lt16 t
  unfold gatedRows
  split
  · rename_i h
    refine (congrArg₂ (fun a b : EReal => a * Gate.sigma b * _) (blk4 m c t ⟨r.val, h⟩ q) (blk5 m c t ⟨r.val, h⟩ q)).trans ?_
    rw [keep_eq, Gate.sigma_eq, padded]
    split
    · rw [mul_one, dif_pos (by dsimp only [base]; omega), gated]
      have e : rowBefore t ⟨r.val, h⟩ = (⟨base t + r.val - 2 - 30, by dsimp only [base]; omega⟩ : Fin 4096) := Fin.ext (by dsimp only [base]; omega)
      rw [e]
    · rw [mul_zero, dif_neg (by dsimp only [base]; omega)]
  · rename_i h
    rw [dif_pos (by omega)]
    refine (congrArg₂ (fun a b : EReal => a * Gate.sigma b) (blk2 m c t ⟨r.val - 32, by omega⟩ q) (blk3 m c t ⟨r.val - 32, by omega⟩ q)).trans ?_
    rw [Gate.sigma_eq, padded, dif_pos (by dsimp only [base]; omega), gated]
    have e : rowIn t ⟨r.val - 32, by omega⟩ = (⟨base t + r.val - 2 - 30, by dsimp only [base]; omega⟩ : Fin 4096) := Fin.ext (by dsimp only [base]; omega)
    rw [e]

/-- What a point adds to the gradients of the taps, of the bias, of the gain and of the shift. -/
def tapPart (k : Fin 31) (q : Fin 512) : EReal := ∑ p : Fin 256, dz m c (base t + p.val) q * padded (argU m c) (base t + p.val + k.val) q
def biasPart (q : Fin 512) : EReal := ∑ p : Fin 256, dzAt m c (rowIn t p) q
def gainPart (q : Fin 512) : EReal := ∑ p : Fin 256, slopeOf m c (rowIn t p) q * normOf m c (rowIn t p) q
def shiftPart (q : Fin 512) : EReal := ∑ p : Fin 256, slopeOf m c (rowIn t p) q

/-- The rows of a point's own gradient, and its block of the inputs' gradient. -/
abbrev dzFrom : Buf := fun i q => dz m c (base t + i) q
abbrev inputsAt (p : Fin 256) (n : Fin 1536) : EReal := inputs (iblk m c 2 t) (iblk m c 3 t) (iblk m c 6 t) (iblk m c 7 t) (dzFrom m c t) p n

theorem tap_sum {init : Buf} (k : Fin 31) (q : Fin 512) :
    ∑ j : Fin 8, total init (dzFrom m c t) (fun i q => padded (argU m c) (base t + i - 2) q) 248 (8 * k.val + j.val) q
      = ∑ j : Fin 8, init (8 * k.val + j.val) q + tapPart m c t k q := by
  rw [sum_tap]
  refine congrArg _ (Finset.sum_congr rfl fun p _ => congrArg _ (congrArg (padded (argU m c) · q) ?_))
  omega

section First

variable (h : t.val % 16 = 0)

theorem first_Z (r : Fin 288) (q : Fin 512) : scM0_0.view.read (Elt Ideal) (scM0_0.view.writes (Elt Ideal) scM0_0.view.junk (firstRun m c t h).2.2.2.2.2.2.1) (ix2 r q)
    = padded (argU m c) (base t + r.val - 2) q := by
  unfold firstRun
  exact (first_gated ..).trans (gated_point m c t r q)

theorem first_D (r : Fin 288) (q : Fin 512) :
    scM0_1.view.read (Elt Ideal) (scM0_1.view.writes (Elt Ideal) scM0_1.view.junk (firstRun m c t h).2.2.2.2.2.2.2.1) (ix2 r q) = dzFrom m c t r.val q := by
  unfold firstRun
  refine (first_grads ..).trans (grads_point m c t (fun _ _ => 0) (fun r q => by
    rw [dz, dif_neg (by dsimp only [base]; have := lt16 t; omega)]) r q)

theorem first_left_head (r : Fin 32) (q : Fin 512) : (firstLeft m c t h).head (ix2 r q) = dz m c (base t + r.val) q := by
  have hD := first_D m c t h
  unfold firstLeft
  dsimp only
  unfold firstRun at hD ⊢
  exact first_kept (D := dzFrom m c t) (hD := hD) ..

theorem first_left_du (p : Fin 256) (n : Fin 1536) : (firstLeft m c t h).du (ix2 p n) = inputsAt m c t p n := by
  have hD := first_D m c t h
  unfold firstLeft
  dsimp only
  refine (congrFun (View.read_writes_eq_canon VO0_11 VO0_11.junk (firstRun m c t h).1 (first_du_cover m c t h)) (ix2 p n)).trans ?_
  refine View.canon_apply_of_pieces (fun y : S256x1536.Idx => inputsAt m c t (y 0) (y 1)) _ (fun pc hpc x => ?_) (ix2 p n) (first_du_cover m c t h (ix2 p n))
  unfold firstRun at hD hpc
  exact first_input (D := dzFrom m c t) (hD := hD) (hpc := hpc) ..

theorem first_left_db (q : Fin 512) : (firstLeft m c t h).db (ix2 0 q) = biasPart m c t q := by
  unfold firstLeft
  dsimp only
  unfold firstRun
  exact (first_db ..).trans (Finset.sum_congr rfl fun p _ => pulled_point m c t p q)

theorem first_left_dg (q : Fin 512) : (firstLeft m c t h).dg (ix2 0 q) = gainPart m c t q := by
  unfold firstLeft
  dsimp only
  unfold firstRun
  exact (first_dg ..).trans (Finset.sum_congr rfl fun p _ => congrArg₂ (fun a b : EReal => a * b) (slope_point m c t p q) (norm_point m c t p q))

theorem first_left_ds (q : Fin 512) : (firstLeft m c t h).ds (ix2 0 q) = shiftPart m c t q := by
  unfold firstLeft
  dsimp only
  unfold firstRun
  exact (first_ds ..).trans (Finset.sum_congr rfl fun p _ => slope_point m c t p q)

theorem first_taps : Holds (ms0_12 t).view (fun _ _ => 0) (dzFrom m c t) (fun i q => padded (argU m c) (base t + i - 2) q) true 248 (firstRun m c t h).2.1 := by
  have hD := first_D m c t h
  have hZ := first_Z m c t h
  unfold firstRun at hD hZ ⊢
  exact fun _ _ _ => first_holds (D := dzFrom m c t) (Z := fun i q => padded (argU m c) (base t + i - 2) q) (hZ := hZ) (hD := hD) ..

theorem first_left_dw (k : Fin 31) (q : Fin 512) : ∑ j : Fin 8, (firstLeft m c t h).dw (ix2 (⟨8 * k.val + j.val, by omega⟩ : Fin 256) q) = tapPart m c t k q := by
  have e : ∀ j : Fin 8, (firstLeft m c t h).dw (ix2 (⟨8 * k.val + j.val, by omega⟩ : Fin 256) q)
      = total (fun _ _ => 0) (dzFrom m c t) (fun i q => padded (argU m c) (base t + i - 2) q) 248 (8 * k.val + j.val) q := fun j => by
    unfold firstLeft
    dsimp only
    exact (congrFun (View.read_writes_of_cover VO0_12 VO0_12.junk (ms0_12 t).view (ms0_12 t).view.junk _ (first_dw_cover m c t h)) _).trans
      (((first_taps m c t h) _ _ q).1 (Or.inl rfl))
  rw [Finset.sum_congr rfl fun j _ => e j]
  refine (tap_sum m c t k q).trans ?_
  rw [Finset.sum_const_zero, zero_add]

end First

section Later

variable (h : ¬t.val % 16 = 0) (l : Left Ideal)

theorem later_Z (r : Fin 288) (q : Fin 512) : scM0_0.view.read (Elt Ideal) (scM0_0.view.writes (Elt Ideal) scM0_0.view.junk (laterRun m c t h l).2.2.2.2.2.2.1) (ix2 r q)
    = padded (argU m c) (base t + r.val - 2) q := by
  unfold laterRun
  exact (later_gated ..).trans (gated_point m c t r q)

theorem later_D
    (hl : ∀ (r : Fin 32) (q : Fin 512), l.head (ix2 r q) = dz m c (base t + (256 + r.val)) q) (r : Fin 288) (q : Fin 512) :
    scM0_1.view.read (Elt Ideal) (scM0_1.view.writes (Elt Ideal) scM0_1.view.junk (laterRun m c t h l).2.2.2.2.2.2.2.1) (ix2 r q) = dzFrom m c t r.val q := by
  unfold laterRun
  refine (later_grads ..).trans (grads_point m c t (rowsOf l.head) (fun r q => by
    rw [rowsOf, dif_pos r.isLt]
    exact hl r q) r q)

theorem later_left_head
    (hl : ∀ (r : Fin 32) (q : Fin 512), l.head (ix2 r q) = dz m c (base t + (256 + r.val)) q) (r : Fin 32) (q : Fin 512) : (laterLeft m c t h l).head (ix2 r q) = dz m c (base t + r.val) q := by
  have hD := later_D m c t h l hl
  unfold laterLeft
  dsimp only
  unfold laterRun at hD ⊢
  exact later_kept (D := dzFrom m c t) (hD := hD) ..

theorem later_left_du
    (hl : ∀ (r : Fin 32) (q : Fin 512), l.head (ix2 r q) = dz m c (base t + (256 + r.val)) q) (p : Fin 256) (n : Fin 1536) : (laterLeft m c t h l).du (ix2 p n) = inputsAt m c t p n := by
  have hD := later_D m c t h l hl
  unfold laterLeft
  dsimp only
  refine (congrFun (View.read_writes_eq_canon VO0_11 VO0_11.junk (laterRun m c t h l).1 (later_du_cover m c t h l)) (ix2 p n)).trans ?_
  refine View.canon_apply_of_pieces (fun y : S256x1536.Idx => inputsAt m c t (y 0) (y 1)) _ (fun pc hpc x => ?_) (ix2 p n) (later_du_cover m c t h l (ix2 p n))
  unfold laterRun at hD hpc
  exact later_input (D := dzFrom m c t) (hD := hD) (hpc := hpc) ..

theorem later_left_db (q : Fin 512) : (laterLeft m c t h l).db (ix2 0 q) = l.db (ix2 0 q) + biasPart m c t q := by
  unfold laterLeft
  dsimp only
  unfold laterRun
  exact (later_db ..).trans (congrArg _ (Finset.sum_congr rfl fun p _ => pulled_point m c t p q))

theorem later_left_dg (q : Fin 512) : (laterLeft m c t h l).dg (ix2 0 q) = l.dg (ix2 0 q) + gainPart m c t q := by
  unfold laterLeft
  dsimp only
  unfold laterRun
  exact (later_dg ..).trans (congrArg _ (Finset.sum_congr rfl fun p _ => congrArg₂ (fun a b : EReal => a * b) (slope_point m c t p q) (norm_point m c t p q)))

theorem later_left_ds (q : Fin 512) : (laterLeft m c t h l).ds (ix2 0 q) = l.ds (ix2 0 q) + shiftPart m c t q := by
  unfold laterLeft
  dsimp only
  unfold laterRun
  exact (later_ds ..).trans (congrArg _ (Finset.sum_congr rfl fun p _ => slope_point m c t p q))

theorem later_taps
    (hl : ∀ (r : Fin 32) (q : Fin 512), l.head (ix2 r q) = dz m c (base t + (256 + r.val)) q) : Holds (ms0_12 t).view (rowsOf l.dw) (dzFrom m c t) (fun i q => padded (argU m c) (base t + i - 2) q) false 248 (laterRun m c t h l).2.1 := by
  have hD := later_D m c t h l hl
  have hZ := later_Z m c t h l
  unfold laterRun at hD hZ ⊢
  exact fun _ _ _ => later_holds (D := dzFrom m c t) (Z := fun i q => padded (argU m c) (base t + i - 2) q) (hZ := hZ) (hD := hD) ..

theorem later_left_dw
    (hl : ∀ (r : Fin 32) (q : Fin 512), l.head (ix2 r q) = dz m c (base t + (256 + r.val)) q) (k : Fin 31) (q : Fin 512) : ∑ j : Fin 8, (laterLeft m c t h l).dw (ix2 (⟨8 * k.val + j.val, by omega⟩ : Fin 256) q) = ∑ j : Fin 8, l.dw (ix2 (⟨8 * k.val + j.val, by omega⟩ : Fin 256) q) + tapPart m c t k q := by
  have e : ∀ j : Fin 8, (laterLeft m c t h l).dw (ix2 (⟨8 * k.val + j.val, by omega⟩ : Fin 256) q)
      = total (rowsOf l.dw) (dzFrom m c t) (fun i q => padded (argU m c) (base t + i - 2) q) 248 (8 * k.val + j.val) q := fun j =>
    ((later_taps m c t h l hl) _ _ q).1 (met_all _ _ (by norm_num) (by dsimp only; omega))
  rw [Finset.sum_congr rfl fun j _ => e j]
  refine (tap_sum m c t k q).trans (congrArg (· + _) (Finset.sum_congr rfl fun j _ => ?_))
  rw [rowsOf, dif_pos (by omega)]

end Later

end Point

/-- Every point leaves the first rows of its own gradient. -/
theorem left_head (t : Fin cfg0.N) (r : Fin 32) (q : Fin 512) : (left m c t.val t.isLt).head (ix2 r q) = dz m c (base t + r.val) q := by
  obtain ⟨n, hn⟩ := t
  induction n generalizing r q with
  | zero => exact first_left_head m c ⟨0, hn⟩ (Nat.zero_mod _) r q
  | succ n ih =>
    have h16 := lt16 ⟨n + 1, hn⟩
    dsimp only at h16
    refine later_left_head m c ⟨n + 1, hn⟩ _ _ (fun r q => (ih r q (Nat.lt_of_succ_lt hn)).trans (congrArg (dz m c · q) ?_)) r q
    dsimp only [base]
    omega

/-- What a point finds of the block after it. -/
theorem next_head (n : ℕ) (hn : n + 1 < cfg0.N) (r : Fin 32) (q : Fin 512) :
    (left m c n (Nat.lt_of_succ_lt hn)).head (ix2 r q) = dz m c (base ⟨n + 1, hn⟩ + (256 + r.val)) q := by
  have h16 := lt16 ⟨n + 1, hn⟩
  dsimp only at h16
  refine (left_head m c ⟨n, Nat.lt_of_succ_lt hn⟩ r q).trans (congrArg (dz m c · q) ?_)
  dsimp only [base]
  omega

/-- And its block of the inputs' gradient. -/
theorem left_du (t : Fin cfg0.N) (p : Fin 256) (n : Fin 1536) : (left m c t.val t.isLt).du (ix2 p n) = inputsAt m c t p n := by
  obtain ⟨i, hi⟩ := t
  cases i with
  | zero => exact first_left_du m c ⟨0, hi⟩ (Nat.zero_mod _) p n
  | succ i => exact later_left_du m c ⟨i + 1, hi⟩ _ _ (next_head m c i hi) p n

/-- The sums over the points. -/
theorem left_dw (k : Fin 31) (q : Fin 512) (n : ℕ) (hn : n < cfg0.N) :
    ∑ j : Fin 8, (left m c n hn).dw (ix2 (⟨8 * k.val + j.val, by omega⟩ : Fin 256) q) = ∑ i : Fin (n + 1), tapPart m c ⟨i.val, lt_of_lt_of_le i.isLt hn⟩ k q :=
  Norm.sum_steps (fun n hn => ∑ j : Fin 8, (left m c n hn).dw (ix2 (⟨8 * k.val + j.val, by omega⟩ : Fin 256) q)) (fun t => tapPart m c t k q)
    (fun h => first_left_dw m c ⟨0, h⟩ (Nat.zero_mod _) k q) (fun n h => later_left_dw m c ⟨n + 1, h⟩ _ _ (next_head m c n h) k q) n hn

theorem left_db (q : Fin 512) (n : ℕ) (hn : n < cfg0.N) : (left m c n hn).db (ix2 0 q) = ∑ i : Fin (n + 1), biasPart m c ⟨i.val, lt_of_lt_of_le i.isLt hn⟩ q :=
  Norm.sum_steps (fun n hn => (left m c n hn).db (ix2 0 q)) (fun t => biasPart m c t q)
    (fun h => first_left_db m c ⟨0, h⟩ (Nat.zero_mod _) q) (fun n h => later_left_db m c ⟨n + 1, h⟩ _ _ q) n hn

theorem left_dg (q : Fin 512) (n : ℕ) (hn : n < cfg0.N) : (left m c n hn).dg (ix2 0 q) = ∑ i : Fin (n + 1), gainPart m c ⟨i.val, lt_of_lt_of_le i.isLt hn⟩ q :=
  Norm.sum_steps (fun n hn => (left m c n hn).dg (ix2 0 q)) (fun t => gainPart m c t q)
    (fun h => first_left_dg m c ⟨0, h⟩ (Nat.zero_mod _) q) (fun n h => later_left_dg m c ⟨n + 1, h⟩ _ _ q) n hn

theorem left_ds (q : Fin 512) (n : ℕ) (hn : n < cfg0.N) : (left m c n hn).ds (ix2 0 q) = ∑ i : Fin (n + 1), shiftPart m c ⟨i.val, lt_of_lt_of_le i.isLt hn⟩ q :=
  Norm.sum_steps (fun n hn => (left m c n hn).ds (ix2 0 q)) (fun t => shiftPart m c t q)
    (fun h => first_left_ds m c ⟨0, h⟩ (Nat.zero_mod _) q) (fun n h => later_left_ds m c ⟨n + 1, h⟩ _ _ q) n hn

/-- The blocks from the last to the first are all the rows. -/
theorem all_rows (f : Fin 4096 → EReal) : ∑ i : Fin 16, ∑ p : Fin 256, f ⟨(15 - i.val) * 256 + p.val, by omega⟩ = ∑ r, f r := by
  rw [Norm.sum_blocks 16 256 (by norm_num) f, ← Equiv.sum_comp Fin.revPerm (fun i : Fin 16 => ∑ p : Fin 256, f ⟨i.val * 256 + p.val, _⟩)]
  refine Finset.sum_congr rfl fun i _ => Finset.sum_congr rfl fun p _ => congrArg f (Fin.ext ?_)
  show (15 - i.val) * 256 + p.val = (Fin.rev i).val * 256 + p.val
  rw [Fin.val_rev]
  omega

end Cert.ConvBwd

end
-- ==== Proof.ConvBwdFinal.lean ====
/-
  The whole arrays the convolution's backward call leaves: the gradient of its inputs, and the gradients of the taps, the bias, the gain and the
  shift as sums over all the rows.
-/
module

public import proofs.«01_k».proof.Proof.ConvBwdPoints

@[expose] public section

set_option maxRecDepth 16384

noncomputable section

open Idealize.ShloMosaic Idealize.ShloMosaic.TcCoe Idealize.SL.Sem
open Idealize.ShloMosaic.Pipeline (Dat)

namespace Cert.ConvBwd

open Cert.Kernel10Ideal Cert.Kernel10Ideal.Gen
open Cert.Conv

variable (m : (ℓ : Loc nD τ sig) → Idealize.ShloMosaic.Buf (Elt Ideal) ℓ) (c : Dev nD)

/-- The taps run back over the gradient of the convolution. -/
def backAt (r : Fin 4096) (q : Fin 512) : EReal := ∑ k : Fin 31, argW m c (ix2 (Fin.rev k) q) * dz m c (r.val + k.val) q

/-- The gradient of the inputs: the recurrence's third as given, then that of the gated columns, then that of their gates. -/
def duAt (r : Fin 4096) (n : Fin 1536) : EReal :=
  if h : n.val < 512 then argS m c (ix2 r ⟨n.val, h⟩)
  else if h' : n.val - 512 < 512 then backAt m c r ⟨n.val - 512, h'⟩ * Gate.sigma (argU m c (ix2 r ⟨512 + (512 + (n.val - 512)), by omega⟩))
  else backAt m c r ⟨n.val - 1024, by omega⟩ * argU m c (ix2 r ⟨512 + (n.val - 1024), by omega⟩)
    * Gate.sigma (argU m c (ix2 r ⟨512 + (512 + (n.val - 1024)), by omega⟩)) * (1 - Gate.sigma (argU m c (ix2 r ⟨512 + (512 + (n.val - 1024)), by omega⟩)))

theorem back_point (t : Fin cfg0.N) (p : Fin 256) (q : Fin 512) : backTaps (iblk m c 7 t) (dzFrom m c t) p.val q = backAt m c (rowIn t p) q := by
  refine Finset.sum_congr rfl fun k _ => congrArg₂ (fun a b : EReal => a * b) (blk7 m c t (Fin.rev k) q) (congrArg (dz m c · q) ?_)
  dsimp only [base]
  omega

theorem inputs_point (t : Fin cfg0.N) (p : Fin 256) (n : Fin 1536) : inputsAt m c t p n = duAt m c (rowIn t p) n := by
  unfold inputsAt inputs duAt
  split
  · rename_i h
    exact blk6 m c t p ⟨n.val, h⟩
  · split
    · rename_i h h'
      exact congrArg₂ (fun a b : EReal => a * Gate.sigma b) (back_point m c t p ⟨n.val - 512, h'⟩) (blk3 m c t p ⟨n.val - 512, h'⟩)
    · rename_i h h'
      have h3 := blk3 m c t p ⟨n.val - 1024, by omega⟩
      exact congrArg₂ (fun a b : EReal => a * b) (congrArg₂ (fun a b : EReal => a * b) (congrArg₂ (fun a b : EReal => a * b)
        (back_point m c t p ⟨n.val - 1024, by omega⟩) (blk2 m c t p ⟨n.val - 1024, by omega⟩)) (congrArg Gate.sigma h3)) (congrArg (fun a : EReal => 1 - Gate.sigma a) h3)

/-- The point that holds a row, and the row's place in its block. -/
def pointOf (r : Fin 4096) : Fin cfg0.N := ⟨15 - r.val / 256, lt_of_lt_of_eq (by omega) N_0.symm⟩
def inBlock (r : Fin 4096) : Fin 256 := ⟨r.val % 256, by omega⟩

theorem rowIn_pointOf (r : Fin 4096) : rowIn (pointOf r) (inBlock r) = r := Fin.ext (by dsimp only [pointOf, inBlock]; omega)

theorem idx_inj11 : ∀ t t' : Fin cfg0.N, win0_11.index t = win0_11.index t' → t = t' := (by decide +kernel : ∀ t t' : Fin grid0.N, _)

theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (idx_inj11 t t' h)

theorem flushed11 (t : Fin cfg0.N) : (data m 0 c).flushed 11 t = (cfg0.win 11).cut (grid0.coords t) (left m c t.val t.isLt).du := by
  show (cfg0.win 11).cut (grid0.coords t) ((data m 0 c).after 11 t) = _
  rw [out_11]

theorem final11 (r : Fin 4096) (n : Fin 1536) : ((data m 0 c).arrAt 11 cfg0.N : FVec Ideal S4096x1536 .bf16) (ix2 r n) = duAt m c r n := by
  have h := (idx_facts (pointOf r)).2.2.2.2.2.2.2.2.2.2.2.1
  have e : (win0_11.rect (pointOf r)).emb (ix2 (inBlock r) n) = (ix2 r n : S4096x1536.Idx) := Reals.emb_eq _ rfl _ _ _ fun a => by
    fin_cases a
    · show win0_11.index (pointOf r) 0 * 256 + r.val % 256 = r.val; rw [h.1]; dsimp only [pointOf]; omega
    · show win0_11.index (pointOf r) 1 * 1536 + n.val = n.val; rw [h.2]; simp
  refine (congrArg _ e.symm).trans (((data m 0 c).arrAt_emb_eq_flushed 11 disjoint11 (pointOf r) (flush0_11 _) (ix2 (inBlock r) n)).trans ?_)
  rw [flushed11]
  show (left m c (pointOf r).val (pointOf r).isLt).du (ix2 (inBlock r) n) = _
  rw [left_du, inputs_point, rowIn_pointOf]

theorem disjoint12 : ∀ t t' : Fin cfg0.N, (cfg0.win 12).flush t = true → (cfg0.win 12).flush t' = true → t ≠ t' →
    Disjoint ((cfg0.win 12).blk t).view.set ((cfg0.win 12).blk t').view.set := fun t t' h h' hn =>
  absurd (Fin.ext (by have := (flush0_12 t).mp h; have := (flush0_12 t').mp h'; have := lt16 t; have := lt16 t'; omega)) hn

theorem flushed12 (t : Fin cfg0.N) : (data m 0 c).flushed 12 t = (cfg0.win 12).cut (grid0.coords t) (left m c t.val t.isLt).dw := by
  show (cfg0.win 12).cut (grid0.coords t) ((data m 0 c).after 12 t) = _
  rw [out_12]

theorem last12 (t : Fin cfg0.N) (ht : t.val % 16 = 15) (p : Fin 256) (q : Fin 512) :
    ((data m 0 c).arrAt 12 cfg0.N : FVec Ideal S256x512 .f32) (ix2 p q) = (left m c t.val t.isLt).dw (ix2 p q) := by
  have h := (idx_facts t).2.2.2.2.2.2.2.2.2.2.2.2.1
  have e : (win0_12.rect t).emb (ix2 p q) = (ix2 p q : S256x512.Idx) := Reals.emb_eq _ rfl _ _ _ fun a => by
    fin_cases a
    · show win0_12.index t 0 * 256 + p.val = p.val; rw [h.1]; simp
    · show win0_12.index t 1 * 512 + q.val = q.val; rw [h.2]; simp
  refine (congrArg _ e.symm).trans (((data m 0 c).arrAt_emb_eq_flushed 12 disjoint12 t ((flush0_12 _).mpr ht) (ix2 p q)).trans ?_)
  rw [flushed12]
  rfl

theorem disjoint13 : ∀ t t' : Fin cfg0.N, (cfg0.win 13).flush t = true → (cfg0.win 13).flush t' = true → t ≠ t' →
    Disjoint ((cfg0.win 13).blk t).view.set ((cfg0.win 13).blk t').view.set := fun t t' h h' hn =>
  absurd (Fin.ext (by have := (flush0_13 t).mp h; have := (flush0_13 t').mp h'; have := lt16 t; have := lt16 t'; omega)) hn

theorem flushed13 (t : Fin cfg0.N) : (data m 0 c).flushed 13 t = (cfg0.win 13).cut (grid0.coords t) (left m c t.val t.isLt).db := by
  show (cfg0.win 13).cut (grid0.coords t) ((data m 0 c).after 13 t) = _
  rw [out_13]

theorem last13 (t : Fin cfg0.N) (ht : t.val % 16 = 15) (q : Fin 512) :
    ((data m 0 c).arrAt 13 cfg0.N : FVec Ideal S1x512 .f32) (ix2 0 q) = (left m c t.val t.isLt).db (ix2 0 q) := by
  have h := (idx_facts t).2.2.2.2.2.2.2.2.2.2.2.2.2.1
  have e : (win0_13.rect t).emb (ix2 0 q) = (ix2 0 q : S1x512.Idx) := Reals.emb_eq _ rfl _ _ _ fun a => by
    fin_cases a
    · show win0_13.index t 0 * 1 + 0 = 0; rw [h.1]
    · show win0_13.index t 1 * 512 + q.val = q.val; rw [h.2]; simp
  refine (congrArg _ e.symm).trans (((data m 0 c).arrAt_emb_eq_flushed 13 disjoint13 t ((flush0_13 _).mpr ht) (ix2 0 q)).trans ?_)
  rw [flushed13]
  rfl

theorem disjoint14 : ∀ t t' : Fin cfg0.N, (cfg0.win 14).flush t = true → (cfg0.win 14).flush t' = true → t ≠ t' →
    Disjoint ((cfg0.win 14).blk t).view.set ((cfg0.win 14).blk t').view.set := fun t t' h h' hn =>
  absurd (Fin.ext (by have := (flush0_14 t).mp h; have := (flush0_14 t').mp h'; have := lt16 t; have := lt16 t'; omega)) hn

theorem flushed14 (t : Fin cfg0.N) : (data m 0 c).flushed 14 t = (cfg0.win 14).cut (grid0.coords t) (left m c t.val t.isLt).dg := by
  show (cfg0.win 14).cut (grid0.coords t) ((data m 0 c).after 14 t) = _
  rw [out_14]

theorem last14 (t : Fin cfg0.N) (ht : t.val % 16 = 15) (q : Fin 512) :
    ((data m 0 c).arrAt 14 cfg0.N : FVec Ideal S1x512 .f32) (ix2 0 q) = (left m c t.val t.isLt).dg (ix2 0 q) := by
  have h := (idx_facts t).2.2.2.2.2.2.2.2.2.2.2.2.2.2.1
  have e : (win0_14.rect t).emb (ix2 0 q) = (ix2 0 q : S1x512.Idx) := Reals.emb_eq _ rfl _ _ _ fun a => by
    fin_cases a
    · show win0_14.index t 0 * 1 + 0 = 0; rw [h.1]
    · show win0_14.index t 1 * 512 + q.val = q.val; rw [h.2]; simp
  refine (congrArg _ e.symm).trans (((data m 0 c).arrAt_emb_eq_flushed 14 disjoint14 t ((flush0_14 _).mpr ht) (ix2 0 q)).trans ?_)
  rw [flushed14]
  rfl

theorem disjoint15 : ∀ t t' : Fin cfg0.N, (cfg0.win 15).flush t = true → (cfg0.win 15).flush t' = true → t ≠ t' →
    Disjoint ((cfg0.win 15).blk t).view.set ((cfg0.win 15).blk t').view.set := fun t t' h h' hn =>
  absurd (Fin.ext (by have := (flush0_15 t).mp h; have := (flush0_15 t').mp h'; have := lt16 t; have := lt16 t'; omega)) hn

theorem flushed15 (t : Fin cfg0.N) : (data m 0 c).flushed 15 t = (cfg0.win 15).cut (grid0.coords t) (left m c t.val t.isLt).ds := by
  show (cfg0.win 15).cut (grid0.coords t) ((data m 0 c).after 15 t) = _
  rw [out_15]

theorem last15 (t : Fin cfg0.N) (ht : t.val % 16 = 15) (q : Fin 512) :
    ((data m 0 c).arrAt 15 cfg0.N : FVec Ideal S1x512 .f32) (ix2 0 q) = (left m c t.val t.isLt).ds (ix2 0 q) := by
  have h := (idx_facts t).2.2.2.2.2.2.2.2.2.2.2.2.2.2.2
  have e : (win0_15.rect t).emb (ix2 0 q) = (ix2 0 q : S1x512.Idx) := Reals.emb_eq _ rfl _ _ _ fun a => by
    fin_cases a
    · show win0_15.index t 0 * 1 + 0 = 0; rw [h.1]
    · show win0_15.index t 1 * 512 + q.val = q.val; rw [h.2]; simp
  refine (congrArg _ e.symm).trans (((data m 0 c).arrAt_emb_eq_flushed 15 disjoint15 t ((flush0_15 _).mpr ht) (ix2 0 q)).trans ?_)
  rw [flushed15]
  rfl

/-- The gradient of the bias. -/
theorem final13 (q : Fin 512) : ((data m 0 c).arrAt 13 cfg0.N : FVec Ideal S1x512 .f32) (ix2 0 q) = ∑ r, dzAt m c r q := by
  have hN : cfg0.N = 16 := N_0
  obtain ⟨k, hk, h15⟩ : ∃ k, ∃ _ : k < cfg0.N, k = 15 := ⟨15, by omega, rfl⟩
  refine (last13 m c ⟨k, hk⟩ (by show k % 16 = 15; omega) q).trans ((left_db m c q k hk).trans ?_)
  subst h15
  exact all_rows fun r => dzAt m c r q

/-- The gradient of the gain. -/
theorem final14 (q : Fin 512) : ((data m 0 c).arrAt 14 cfg0.N : FVec Ideal S1x512 .f32) (ix2 0 q) = ∑ r, slopeOf m c r q * normOf m c r q := by
  have hN : cfg0.N = 16 := N_0
  obtain ⟨k, hk, h15⟩ : ∃ k, ∃ _ : k < cfg0.N, k = 15 := ⟨15, by omega, rfl⟩
  refine (last14 m c ⟨k, hk⟩ (by show k % 16 = 15; omega) q).trans ((left_dg m c q k hk).trans ?_)
  subst h15
  exact all_rows fun r => slopeOf m c r q * normOf m c r q

/-- The gradient of the shift. -/
theorem final15 (q : Fin 512) : ((data m 0 c).arrAt 15 cfg0.N : FVec Ideal S1x512 .f32) (ix2 0 q) = ∑ r, slopeOf m c r q := by
  have hN : cfg0.N = 16 := N_0
  obtain ⟨k, hk, h15⟩ : ∃ k, ∃ _ : k < cfg0.N, k = 15 := ⟨15, by omega, rfl⟩
  refine (last15 m c ⟨k, hk⟩ (by show k % 16 = 15; omega) q).trans ((left_ds m c q k hk).trans ?_)
  subst h15
  exact all_rows fun r => slopeOf m c r q

/-- Eight partial sums for a tap, added. -/
def eight (A : FVec Ideal S256x512 .f32) (k : Fin 31) (q : Fin 512) : EReal := ∑ j : Fin 8, A (ix2 (⟨8 * k.val + j.val, by omega⟩ : Fin 256) q)

/-- The gradient of the taps, before the lines after the launch. -/
theorem sums12 (k : Fin 31) (q : Fin 512) :
    eight ((data m 0 c).arrAt 12 cfg0.N) k q = ∑ r : Fin 4096, dzAt m c r q * padded (argU m c) (r.val + k.val) q := by
  have hN : cfg0.N = 16 := N_0
  obtain ⟨i, hi, h15⟩ : ∃ i, ∃ _ : i < cfg0.N, i = 15 := ⟨15, by omega, rfl⟩
  have e : eight ((data m 0 c).arrAt 12 cfg0.N) k q = eight (left m c i hi).dw k q :=
    Finset.sum_congr rfl fun j _ => last12 m c ⟨i, hi⟩ (by show i % 16 = 15; omega) _ q
  refine e.trans ((left_dw m c k q i hi).trans ?_)
  subst h15
  refine Eq.trans ?_ (all_rows fun r => dzAt m c r q * padded (argU m c) (r.val + k.val) q)
  refine Finset.sum_congr rfl fun i _ => Finset.sum_congr rfl fun p _ => congrArg (· * _) ?_
  rw [dz, dif_pos (by dsimp only [base]; omega)]

/-- The lines after the launch add the eight partial sums of each tap. -/
def folded (A : FVec Ideal S256x512 .f32) : FVec Ideal S31x512 .f32 :=
  extractStridedSlice S31x512 ![0, 0] (Host.reduceAdd (F := Ideal) (φ := .f32) (shapeCast S32x8x512 A shapeCasts_S256x512_S32x8x512)
    (constant S_ .f32 0x00000000#32) reducesTo_S32x8x512_S32x512_d1 h_S_) slices_S32x512_S31x512_0_0

theorem folded_apply (A : FVec Ideal S256x512 .f32) (k : Fin 31) (q : Fin 512) : folded A (ix2 k q) = eight A k q := by
  unfold folded eight
  pointwise []
  exact Finset.sum_congr rfl fun j _ => congrArg (fun i => A (ix2 i q)) (Fin.ext (by show k.val * 8 + j.val = 8 * k.val + j.val; omega))

theorem tail_eq : Pipeline.afterTail₀ cfgs (data m) 0 (V0 m) [hostOps1] c main_v100 = folded ((data m 0 c).arrAt 12 cfg0.N) := by
  have hw : Pipeline.withArrays spec0 c (V0 m c) (fun w => (data m 0 c).arrAt w cfg0.N) (Proc.devRef .tc main_v97_1) = (data m 0 c).arrAt 12 cfg0.N :=
    (data m 0 c).withArrays_arrAt sharedIn0 (V0 m c) (data_A m c) 12
  unfold Pipeline.afterTail₀ hostOps1
  simp only [List.flatten_cons, List.flatten_nil, List.append_nil, List.cons_append, List.nil_append]
  after_results
  rw [← hw]
  rfl

variable (ρ : Dev nD → PrngReg)

/-- The call leaves its five results and its arguments as they were. -/
theorem leaves : θ_run defs (onTc (τ := τ) (main (F := Ideal))) ⟨m, fun _ => 0, ρ⟩ (fun r => ∀ c : Dev nD,
      r.2.mem ((c.tc : Thread nD τ).loc main_v97_0) = (data m 0 c).arrAt 11 cfg0.N
      ∧ r.2.mem ((c.tc : Thread nD τ).loc main_v100) = folded ((data m 0 c).arrAt 12 cfg0.N)
      ∧ r.2.mem ((c.tc : Thread nD τ).loc main_v97_2) = (data m 0 c).arrAt 13 cfg0.N
      ∧ r.2.mem ((c.tc : Thread nD τ).loc main_v97_3) = (data m 0 c).arrAt 14 cfg0.N
      ∧ r.2.mem ((c.tc : Thread nD τ).loc main_v97_4) = (data m 0 c).arrAt 15 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h.1 c).1 11,
      ((h.1 c).2 main_v100 (Pipeline.mem_restRefs_of main_v100 (by decide) (by decide))).trans (tail_eq m c), (h.1 c).1 13, (h.1 c).1 14, (h.1 c).1 15, h.2 c⟩)
    (θ_run_and (launch_post m ρ) (frame_of m ρ (data m) (data_A m) (launch_post m ρ)))

end Cert.ConvBwd

end
-- ==== Proof.ConvBwdNorm.lean ====
/-
  The gradient of the norm of a head: as the kernel takes it, with means by products with the averaging matrix, and as differentiating the
  reference's lines gives it. On rows of real numbers the two agree.
-/
module

public import proofs.«01_k».proof.Proof.ConvBwdRows

@[expose] public section

noncomputable section

open Idealize.ShloMosaic Idealize.ShloMosaic.TcCoe

namespace Cert.ConvBwd

open Cert.Conv

/-- The constant two, as the reference writes it. -/
abbrev two : EReal := Ideal.ofBits .f32 0x40000000#32

theorem two_eq : two = ((2 : ℝ) : EReal) := by
  simp [two, Ideal.ofBits, Ideal.ieee]
  rw [← EReal.coe_mul]
  norm_num

/-- A row less the means of its heads, the guarded mean of squares of a head, and its inverse root. -/
def dev (z : Row) (q : Fin 512) : EReal := z q - mean z (headOf q)
def var (z : Row) (h : Fin 8) : EReal := mean (fun k => dev z k * dev z k) h + Norm.guard
def inv (z : Row) (h : Fin 8) : EReal := Ideal.rsqrt (var z h)

/-- The gradient behind the activation, and before it. -/
def refSlope (z g b d : Row) (q : Fin 512) : EReal :=
  d q * Gate.refSigma (headNorm z g b q) + headNorm z g b q * d q * (Gate.refSigma (headNorm z g b q) * (1 - Gate.refSigma (headNorm z g b q)))
def refGained (z g b d : Row) (q : Fin 512) : EReal := refSlope z g b d q * g q

/-- What the inverse root of a head passes back, and so the gradient of the row before the norm. -/
def share (z P : Row) (h : Fin 8) : EReal :=
  Ideal.div ((∑ e, dev z (inHead h e) * P (inHead h e)) * (Norm.minusHalf * Ideal.div (inv z h) (var z h))) lanes
def refPulled (z P : Row) (q : Fin 512) : EReal :=
  P q * inv z (headOf q) + share z P (headOf q) * (two * dev z q)
    + Ideal.div ((∑ e, -(P (inHead (headOf q) e) * inv z (headOf q))) + ∑ e, -(share z P (headOf q) * (two * dev z (inHead (headOf q) e)))) lanes

theorem head_in (h : Fin 8) (e : Fin 64) : headOf (inHead h e) = h := Fin.ext (by show (h.val * 64 + e.val) / 64 = h.val; omega)

theorem mean_coe (f : Fin 512 → ℝ) (h : Fin 8) : mean (fun k => ((f k : ℝ) : EReal)) h = (((∑ e, f (inHead h e)) / 64 : ℝ) : EReal) := by
  rw [mean, lanes_eq, Reals.coe_sum, Reals.div_coe_coe _ (by norm_num)]

/-- The statistics of a row of real numbers. -/
theorem stats_real {z : Row} (hz : ∀ k, Reals.IsReal (z k)) : ∃ (E : Fin 512 → ℝ) (v r : Fin 8 → ℝ), (∀ k, dev z k = ((E k : ℝ) : EReal))
    ∧ (∀ h, var z h = ((v h : ℝ) : EReal)) ∧ (∀ h, inv z h = ((r h : ℝ) : EReal)) ∧ (∀ h, v h ≠ 0) ∧ (∀ h, r h * r h * v h = 1)
    ∧ ∀ h, ∑ e, E (inHead h e) = 0 := by
  choose f hf using hz
  obtain rfl : z = fun k => ((f k : ℝ) : EReal) := funext hf
  obtain ⟨ε, hε, hg⟩ := Norm.guard_pos
  let E : Fin 512 → ℝ := fun k => f k - (∑ e, f (inHead (headOf k) e)) / 64
  let v : Fin 8 → ℝ := fun h => (∑ e, E (inHead h e) * E (inHead h e)) / 64 + ε
  have hE : ∀ k, dev (fun k => ((f k : ℝ) : EReal)) k = ((E k : ℝ) : EReal) := fun k => by rw [dev, mean_coe, ← EReal.coe_sub]
  have hv : ∀ h, var (fun k => ((f k : ℝ) : EReal)) h = ((v h : ℝ) : EReal) := fun h => by
    rw [var]
    simp only [hE, ← EReal.coe_mul]
    rw [mean_coe, hg, ← EReal.coe_add]
  have pos : ∀ h, 0 < v h := fun h => by
    have : 0 ≤ ∑ e, E (inHead h e) * E (inHead h e) := Finset.sum_nonneg fun e _ => mul_self_nonneg _
    show 0 < (∑ e, E (inHead h e) * E (inHead h e)) / 64 + ε
    positivity
  refine ⟨E, v, fun h => (Real.sqrt (v h))⁻¹, hE, hv, fun h => by rw [inv, hv, Reals.rsqrt_coe_pos (pos h)], fun h => (pos h).ne', fun h => ?_, fun h => ?_⟩
  · have hs : Real.sqrt (v h) * Real.sqrt (v h) = v h := Real.mul_self_sqrt (pos h).le
    have h0 : Real.sqrt (v h) ≠ 0 := (Real.sqrt_pos.mpr (pos h)).ne'
    rw [← mul_inv, hs, inv_mul_cancel₀ (pos h).ne']
  · show ∑ e, (f (inHead h e) - (∑ e', f (inHead (headOf (inHead h e)) e')) / 64) = 0
    simp only [head_in, Finset.sum_sub_distrib, Finset.sum_const, Finset.card_univ, Fintype.card_fin, nsmul_eq_mul]
    push_cast
    ring

/-- The two gradients over a head, for real numbers. -/
theorem pull_real (E P : Fin 64 → ℝ) {r v : ℝ} (hv : v ≠ 0) (hr : r * r * v = 1) (h0 : ∑ e, E e = 0) (x p : ℝ) :
    r * (p - (∑ e, P e) / 64 - x * r * ((∑ e, P e * (E e * r)) / 64))
      = p * r + (∑ e, E e * P e) * (-1 / 2 * (r / v)) / 64 * (2 * x)
        + ((∑ e, -(P e * r)) + ∑ e, -((∑ e, E e * P e) * (-1 / 2 * (r / v)) / 64 * (2 * E e))) / 64 := by
  have hd : r / v = r * r * r := by rw [div_eq_iff hv]; linear_combination (-r) * hr
  have h1 : ∑ e, -(P e * r) = -((∑ e, P e) * r) := by rw [Finset.sum_neg_distrib, Finset.sum_mul]
  have h2 : ∀ A : ℝ, ∑ e, -(A * (2 * E e)) = 0 := fun A => by
    rw [Finset.sum_neg_distrib, ← Finset.mul_sum, ← Finset.mul_sum, h0, mul_zero, mul_zero, neg_zero]
  have h3 : ∑ e, P e * (E e * r) = (∑ e, E e * P e) * r := by
    rw [Finset.sum_mul]; exact Finset.sum_congr rfl fun e _ => by ring
  rw [h1, h2, h3, hd]
  ring

variable {z g b d : Row} (hz : ∀ k, Reals.IsReal (z k)) (hg : ∀ k, Reals.IsReal (g k)) (hb : ∀ k, Reals.IsReal (b k)) (hd : ∀ k, Reals.IsReal (d k))

include hz in
theorem dev_real (k : Fin 512) : Reals.IsReal (dev z k) := (hz k).sub (mean_real hz _)

include hz in
theorem inv_real (h : Fin 8) : Reals.IsReal (inv z h) := by
  obtain ⟨_, _, r, _, _, hr, _⟩ := stats_real hz
  exact ⟨r h, hr h⟩

include hz in
theorem centred_eq (k : Fin 512) : centred avg z k = dev z k := by rw [centred, meanBy_avg hz, dev]

include hz in
theorem rstd_eq (k : Fin 512) : rstd avg z k = inv z (headOf k) := by
  rw [rstd]
  simp only [centred_eq hz]
  rw [meanBy_avg fun k => (dev_real hz k).mul (dev_real hz k), inv, var]

include hz in
theorem normed_eq (k : Fin 512) : normed avg z k = dev z k * inv z (headOf k) := by rw [normed, centred_eq hz, rstd_eq hz]

include hz in
theorem shaped_eq (k : Fin 512) : shaped avg z g b k = headNorm z g b k := by rw [shaped, normed_eq hz]; rfl

include hz hg hb in
theorem headNorm_isReal (k : Fin 512) : Reals.IsReal (headNorm z g b k) := by
  rw [← shaped_eq hz, shaped, normed_eq hz]
  exact (((dev_real hz k).mul (inv_real hz _)).mul (hg k)).add (hb k)

include hz hg hb hd in
theorem slope_eq (k : Fin 512) : slope avg z g b d k = refSlope z g b d k := by
  rw [slope, refSlope, shaped_eq hz, Gate.sigma_eq]
  obtain ⟨s, hs⟩ := sigma_isReal (headNorm_isReal hz hg hb k)
  obtain ⟨y, hy⟩ := headNorm_isReal hz hg hb k
  obtain ⟨x, hx⟩ := hd k
  rw [hs, hy, hx, ← EReal.coe_one]
  simp only [← EReal.coe_sub, ← EReal.coe_mul, ← EReal.coe_add]
  congr 1
  ring

include hz hg hb hd in
theorem refSlope_isReal (k : Fin 512) : Reals.IsReal (refSlope z g b d k) := by
  obtain ⟨s, hs⟩ := sigma_isReal (headNorm_isReal hz hg hb k)
  rw [refSlope, hs]
  exact ((hd k).mul ⟨s, rfl⟩).add (((headNorm_isReal hz hg hb k).mul (hd k)).mul
    (Reals.IsReal.mul ⟨s, rfl⟩ (Reals.IsReal.sub ⟨1, EReal.coe_one.symm⟩ ⟨s, rfl⟩)))

include hz hg hb hd in
/-- The kernel's gradient of the row before the norm is the reference's. -/
theorem pulled_eq (q : Fin 512) : pulled avg z g b d q = refPulled z (refGained z g b d) q := by
  have hp : ∀ k, Reals.IsReal (refGained z g b d k) := fun k => (refSlope_isReal hz hg hb hd k).mul (hg k)
  have ep : gained avg z g b d = refGained z g b d := funext fun k => by rw [gained, slope_eq hz hg hb hd]; rfl
  rw [pulled, ep]
  generalize refGained z g b d = P at hp
  have hn : ∀ k, Reals.IsReal (normed avg z k) := fun k => by rw [normed_eq hz]; exact (dev_real hz k).mul (inv_real hz _)
  rw [meanBy_avg hp, meanBy_avg fun k => (hp k).mul (hn k), refPulled, share, rstd_eq hz]
  simp only [normed_eq hz]
  obtain ⟨E, v, r, hE, hv, hr, v0, hrv, h0⟩ := stats_real hz
  choose p ep using hp
  obtain rfl : P = fun k => ((p k : ℝ) : EReal) := funext ep
  simp only [hE, hv, hr, ← EReal.coe_mul]
  rw [mean_coe, mean_coe, lanes_eq, two_eq, Norm.minusHalf_eq, Reals.div_coe_coe _ (v0 _)]
  simp only [← EReal.coe_mul, ← EReal.coe_neg, Reals.coe_sum]
  rw [Reals.div_coe_coe _ (by norm_num : (64 : ℝ) ≠ 0)]
  simp only [← EReal.coe_mul, ← EReal.coe_neg, Reals.coe_sum, ← EReal.coe_add, ← EReal.coe_sub]
  rw [Reals.div_coe_coe _ (by norm_num : (64 : ℝ) ≠ 0)]
  simp only [← EReal.coe_add, head_in]
  exact congrArg _ (pull_real (fun e => E (inHead (headOf q) e)) (fun e => p (inHead (headOf q) e)) (v0 _) (hrv _) (h0 _) (E q) (p q))

end Cert.ConvBwd

end
-- ==== Proof.ConvBwdReference.lean ====
/-
  The gradients of the convolution module as the reference computes them, at an index: the gradient behind the activation, that of the norm's row,
  and what the taps carry back to the rows before the convolution.
-/
module

public import proofs.«01_k».proof.Proof.Gen.Reference10Ideal.Run
public import proofs.«01_k».proof.Proof.Gen.Reference10Ideal.Read
public import proofs.«01_k».proof.Proof.ConvBwdNorm
public import Idealize.ShloMosaic.Lib.Pipeline.ValueKit.Tiles
public import Idealize.ShloMosaic.Lib.KernelVsHost

@[expose] public section

noncomputable section

namespace Cert.ConvBwd.Ref

open Idealize.ShloMosaic Idealize.ShloMosaic.TcCoe
open Cert.Reference10Ideal Cert.Reference10Ideal.Gen Cert.Reference10Ideal.Read
open Cert.Conv

variable (u : FVec Ideal S4096x1536 .f32) (w : FVec Ideal S31x512 .f32) (b g sh : FVec Ideal S512 .f32) (dm : FVec Ideal S4096x1024 .f32)

/-- A row of the convolution and of the gradient that comes back to it, and the gradient of the row before the norm. -/
abbrev zRow (r : Fin 4096) : Row := conv u w (fun q => b (ix1 q)) r
abbrev dRow (r : Fin 4096) : Row := fun q => dm (ix2 r ⟨512 + q.val, by omega⟩)
abbrev slopeRow (r : Fin 4096) : Row := refSlope (zRow u w b r) (fun q => g (ix1 q)) (fun q => sh (ix1 q)) (dRow dm r)
abbrev gainedRow (r : Fin 4096) : Row := refGained (zRow u w b r) (fun q => g (ix1 q)) (fun q => sh (ix1 q)) (dRow dm r)
abbrev pulledRow (r : Fin 4096) : Row := refPulled (zRow u w b r) (gainedRow u w b g sh dm r)
/-- The rows of that gradient by their number, with zeros after the last. -/
def pulledBuf : Buf := fun R q => if h : R < 4096 then pulledRow u w b g sh dm ⟨R, h⟩ q else 0

theorem v1 (r : Fin 4096) (q : Fin 512) : val_main_v1 (F := Ideal) u (ix2 r q) = u (ix2 r ⟨512 + q.val, by omega⟩) := by
  unfold val_main_v1 val_main_v0
  pointwise []

theorem v8 (r : Fin 4096) (q : Fin 512) : val_main_v8 (F := Ideal) u (ix2 r q) = Gate.refSigma (u (ix2 r ⟨512 + (512 + q.val), by omega⟩)) := by
  unfold val_main_v8 val_main_v7 val_main_v6 val_main_v5 val_main_v4 val_main_v3 val_main_v2 val_main_v0 val_main_cst val_main_cst_0
  pointwise []
  rfl

theorem v11 (r : Fin 4096) (q : Fin 512) : val_main_v11 (F := Ideal) u (ix2 r q)
    = Gate.refSigma (u (ix2 r ⟨512 + (512 + q.val), by omega⟩)) * (1 - Gate.refSigma (u (ix2 r ⟨512 + (512 + q.val), by omega⟩))) := by
  unfold val_main_v11 val_main_v10 val_main_v9 val_main_cst_1
  pointwise []
  rw [v8]

theorem v12 (r : Fin 4096) (q : Fin 512) : val_main_v12 (F := Ideal) u (ix2 r q) = gated u r q := by
  unfold val_main_v12
  pointwise []
  rw [v1, v8]
  rfl

theorem v14 (i : Fin 4126) (q : Fin 512) : val_main_v14 (F := Ideal) u (ix2 i q) = padded u i.val q := by
  unfold val_main_v14 padded
  split
  · rename_i h
    refine (concatenate_pair_apply_right (t := S4126x512) (s₁ := S30x512) (s₂ := S4096x512) 0 _ _ _ _ rfl rfl (ix2 ⟨i.val - 30, by omega⟩ q)
      (fun c hc => ?_) (by show i.val - 30 + 30 = i.val; omega)).trans (v12 u _ q)
    fin_cases c
    exacts [absurd rfl hc, rfl]
  · rename_i h
    refine (concatenate_pair_apply_left (t := S4126x512) (s₁ := S30x512) (s₂ := S4096x512) 0 _ _ _ _ rfl (ix2 ⟨i.val, by omega⟩ q) (fun c => ?_)).trans ?_
    · fin_cases c <;> rfl
    · unfold val_main_v13 val_main_cst_2
      pointwise []

theorem v14_at (j : S4126x512.Idx) {n : ℕ} {q : Fin 512} (h0 : (j 0).val = n) (h1 : (j 1).val = q.val) : val_main_v14 (F := Ideal) u j = padded u n q := by
  obtain ⟨i, l, rfl⟩ := Norm.place2 j
  obtain rfl : l = q := Fin.ext h1
  subst h0
  exact v14 u i l

/-- The shifted rows, stacked. -/
theorem v80 (k : Fin 31) (r : Fin 4096) (q : Fin 512) : val_main_v80 (F := Ideal) u (ix3 k r q) = padded u (r.val + k.val) q := by
  unfold val_main_v80
  by_cases hk : k.val < 16
  · refine (concatenate_pair_apply_left (t := S31x4096x512) (s₁ := S16x4096x512) (s₂ := S15x4096x512) 0 _ _ _ _ rfl (ix3 ⟨k.val, hk⟩ r q) (fun c => ?_)).trans ?_
    · fin_cases c <;> rfl
    unfold val_main_v78
    concat_tiles i h
    all_goals
      simp only [val_main_v47_apply, val_main_v16_apply, val_main_v48_apply, val_main_v17_apply, val_main_v49_apply, val_main_v18_apply, val_main_v50_apply, val_main_v19_apply, val_main_v51_apply, val_main_v20_apply, val_main_v52_apply, val_main_v21_apply, val_main_v53_apply, val_main_v22_apply, val_main_v54_apply, val_main_v23_apply, val_main_v55_apply, val_main_v24_apply, val_main_v56_apply, val_main_v25_apply, val_main_v57_apply, val_main_v26_apply, val_main_v58_apply, val_main_v27_apply, val_main_v59_apply, val_main_v28_apply, val_main_v60_apply, val_main_v29_apply, val_main_v61_apply, val_main_v30_apply, val_main_v62_apply, val_main_v31_apply]
      refine v14_at u _ ?_ h2
      have e : k.val = _ := h
      have e' : (i 1).val = r.val := h1
      dsimp only
      omega
  · refine (concatenate_pair_apply_right (t := S31x4096x512) (s₁ := S16x4096x512) (s₂ := S15x4096x512) 0 _ _ _ _ rfl rfl (ix3 ⟨k.val - 16, by omega⟩ r q)
      (fun c hc => ?_) (by show k.val - 16 + 16 = k.val; omega)).trans ?_
    · fin_cases c
      exacts [absurd rfl hc, rfl, rfl]
    unfold val_main_v79
    concat_tiles i h
    all_goals
      simp only [val_main_v63_apply, val_main_v32_apply, val_main_v64_apply, val_main_v33_apply, val_main_v65_apply, val_main_v34_apply, val_main_v66_apply, val_main_v35_apply, val_main_v67_apply, val_main_v36_apply, val_main_v68_apply, val_main_v37_apply, val_main_v69_apply, val_main_v38_apply, val_main_v70_apply, val_main_v39_apply, val_main_v71_apply, val_main_v40_apply, val_main_v72_apply, val_main_v41_apply, val_main_v73_apply, val_main_v42_apply, val_main_v74_apply, val_main_v43_apply, val_main_v75_apply, val_main_v44_apply, val_main_v76_apply, val_main_v45_apply, val_main_v77_apply, val_main_v46_apply]
      refine v14_at u _ ?_ h2
      have e : k.val - 16 = _ := h
      have e' : (i 1).val = r.val := h1
      dsimp only
      omega

theorem v87 (r : Fin 4096) (q : Fin 512) : val_main_v87 (F := Ideal) u w b (ix2 r q) = zRow u w b r q := by
  unfold val_main_v87 val_main_v86 val_main_v85 val_main_v84 val_main_v83 val_main_v82 val_main_v81 val_main_cst_4
  pointwise []
  simp only [v80]
  rfl

theorem v88 (r : Fin 4096) (h : Fin 8) (e : Fin 64) : val_main_v88 (F := Ideal) u w b (ix3 r h e) = zRow u w b r (inHead h e) := by
  unfold val_main_v88
  pointwise []
  rw [v87]

theorem v92 (r : Fin 4096) (h : Fin 8) : val_main_v92 (F := Ideal) u w b (ix3 r h 0) = mean (zRow u w b r) h := by
  unfold val_main_v92 val_main_v91 val_main_v90 val_main_v89 val_main_cst_6 val_main_cst_5
  pointwise []
  simp only [v88]
  rfl

/-- The row less the means of its heads, in the two places it is formed. -/
theorem v94 (r : Fin 4096) (h : Fin 8) (e : Fin 64) : val_main_v94 (F := Ideal) u w b (ix3 r h e) = dev (zRow u w b r) (inHead h e) := by
  unfold val_main_v94 val_main_v93
  pointwise []
  rw [v88, v92, dev, head_in]

theorem v103 (r : Fin 4096) (h : Fin 8) (e : Fin 64) : val_main_v103 (F := Ideal) u w b (ix3 r h e) = dev (zRow u w b r) (inHead h e) := by
  unfold val_main_v103 val_main_v102
  pointwise []
  rw [v88, v92, dev, head_in]

theorem v97 (r : Fin 4096) (h : Fin 8) (e : Fin 64) : val_main_v97 (F := Ideal) u w b (ix3 r h e) = two * dev (zRow u w b r) (inHead h e) := by
  unfold val_main_v97 val_main_v96 val_main_cst_7
  pointwise []
  rw [v94]

theorem v105 (r : Fin 4096) (h : Fin 8) : val_main_v105 (F := Ideal) u w b (ix3 r h 0) = var (zRow u w b r) h := by
  unfold val_main_v105 val_main_v104 val_main_v101 val_main_v100 val_main_v99 val_main_v98 val_main_v95 val_main_cst_8 val_main_cst_9 val_main_cst_10
  pointwise []
  simp only [v94]
  rfl

theorem v106 (r : Fin 4096) (h : Fin 8) : val_main_v106 (F := Ideal) u w b (ix3 r h 0) = inv (zRow u w b r) h := by
  unfold val_main_v106
  pointwise []
  rw [v105]
  rfl

theorem v109 (r : Fin 4096) (h : Fin 8) : val_main_v109 (F := Ideal) u w b (ix3 r h 0)
    = Norm.minusHalf * Ideal.div (inv (zRow u w b r) h) (var (zRow u w b r) h) := by
  unfold val_main_v109 val_main_v108 val_main_v107 val_main_cst_11
  pointwise []
  rw [v105, v106]

theorem v112 (r : Fin 4096) (q : Fin 512) : val_main_v112 (F := Ideal) u w b (ix2 r q) = dev (zRow u w b r) q * inv (zRow u w b r) (headOf q) := by
  unfold val_main_v112 val_main_v111 val_main_v110
  pointwise []
  rw [v103, v106]
  exact congrArg₂ (fun (k : Fin 512) h => dev (zRow u w b r) k * inv (zRow u w b r) h) (Fin.ext (by show q.val / 64 * 64 + q.val % 64 = q.val; omega)) rfl

theorem v118 (r : Fin 4096) (q : Fin 512) : val_main_v118 (F := Ideal) u w b g sh (ix2 r q)
    = headNorm (zRow u w b r) (fun q => g (ix1 q)) (fun q => sh (ix1 q)) q := by
  unfold val_main_v118 val_main_v117 val_main_v116 val_main_v115 val_main_v114 val_main_v113
  pointwise []
  rw [v112]
  rfl

theorem v119 (r : Fin 4096) (q : Fin 512) : val_main_v119_2 (F := Ideal) u w b g sh (ix2 r q)
    = Gate.refSigma (headNorm (zRow u w b r) (fun q => g (ix1 q)) (fun q => sh (ix1 q)) q) := by
  unfold val_main_v119_2 val_main_call0_v4 val_main_call0_v3 val_main_call0_v2 val_main_call0_v1 val_main_call0_v0 val_main_call0_cst val_main_call0_cst_0
  pointwise []
  rw [v118]
  rfl

/-- The gradient behind the activation. -/
theorem v121 (r : Fin 4096) (q : Fin 512) : val_main_v121 (F := Ideal) u w b g sh dm (ix2 r q) = slopeRow u w b g sh dm r q := by
  unfold val_main_v121 val_main_call1_v2 val_main_call1_v1 val_main_call1_v0 val_main_v119_1 val_main_call0_v7 val_main_call0_v6 val_main_call0_cst_1 val_main_v120
  pointwise []
  simp only [v118, v119]
  rfl

theorem v131 (r : Fin 4096) (h : Fin 8) (e : Fin 64) : val_main_v131 (F := Ideal) u w b g sh dm (ix3 r h e) = gainedRow u w b g sh dm r (inHead h e) := by
  unfold val_main_v131 val_main_v129 val_main_v128 val_main_v113
  pointwise []
  rw [v121]
  rfl

theorem v136 (r : Fin 4096) (h : Fin 8) (e : Fin 64) : val_main_v136 (F := Ideal) u w b g sh dm (ix3 r h e) = gainedRow u w b g sh dm r (inHead h e) * inv (zRow u w b r) h := by
  unfold val_main_v136 val_main_v135
  pointwise []
  rw [v131, v106]

theorem v142 (r : Fin 4096) (h : Fin 8) : val_main_v142 (F := Ideal) u w b g sh dm (ix3 r h 0) = share (zRow u w b r) (gainedRow u w b g sh dm r) h := by
  unfold val_main_v142 val_main_v141 val_main_v137 val_main_v134 val_main_v133 val_main_v132 val_main_cst_18 val_main_cst_16
  pointwise []
  simp only [v103, v131, v109]
  rfl

theorem v143 (r : Fin 4096) (h : Fin 8) : val_main_v143 (F := Ideal) u w b g sh dm (ix2 r h) = share (zRow u w b r) (gainedRow u w b g sh dm r) h := by
  unfold val_main_v143 val_main_cst_19
  pointwise []
  simp only [Finset.univ_unique, Finset.sum_singleton]
  exact v142 u w b g sh dm r h

theorem v145 (r : Fin 4096) (h : Fin 8) (e : Fin 64) : val_main_v145 (F := Ideal) u w b g sh dm (ix3 r h e)
    = share (zRow u w b r) (gainedRow u w b g sh dm r) h * (two * dev (zRow u w b r) (inHead h e)) := by
  unfold val_main_v145 val_main_v144
  pointwise []
  rw [v143, v97]

theorem v152 (r : Fin 4096) (h : Fin 8) : val_main_v152 (F := Ideal) u w b g sh dm (ix3 r h 0) = Ideal.div ((∑ e, -(gainedRow u w b g sh dm r (inHead h e) * inv (zRow u w b r) h))
    + ∑ e, -(share (zRow u w b r) (gainedRow u w b g sh dm r) h * (two * dev (zRow u w b r) (inHead h e)))) lanes := by
  unfold val_main_v152 val_main_v151 val_main_v150 val_main_v148 val_main_v147 val_main_v146 val_main_v140 val_main_v139 val_main_v138 val_main_cst_17 val_main_cst_20 val_main_cst_21
  pointwise []
  simp only [v136, v145]

theorem v153 (r : Fin 4096) (h : Fin 8) : val_main_v153 (F := Ideal) u w b g sh dm (ix2 r h) = Ideal.div ((∑ e, -(gainedRow u w b g sh dm r (inHead h e) * inv (zRow u w b r) h))
    + ∑ e, -(share (zRow u w b r) (gainedRow u w b g sh dm r) h * (two * dev (zRow u w b r) (inHead h e)))) lanes := by
  unfold val_main_v153 val_main_cst_22
  pointwise []
  simp only [Finset.univ_unique, Finset.sum_singleton]
  exact v152 u w b g sh dm r h

/-- The gradient of the row before the norm. -/
theorem v156 (r : Fin 4096) (q : Fin 512) : val_main_v156 (F := Ideal) u w b g sh dm (ix2 r q) = pulledRow u w b g sh dm r q := by
  unfold val_main_v156 val_main_v155 val_main_v154 val_main_v149
  pointwise []
  rw [v136, v145, v153, pulledRow, refPulled]
  have e : inHead (headOf q) ⟨q.val % 64, by omega⟩ = q := Fin.ext (by show q.val / 64 * 64 + q.val % 64 = q.val; omega)
  have e' : ∀ h, inHead ⟨q.val / 64, h⟩ ⟨q.val % 64, by omega⟩ = q := fun _ => e
  rw [e']

/-- The gradients of the shift, the gain and the bias. -/
theorem v302 (q : Fin 512) : val_main_v302 (F := Ideal) u w b g sh dm (ix2 0 q) = ∑ r, slopeRow u w b g sh dm r q := by
  unfold val_main_v302 val_main_v124 val_main_v123 val_main_v122 val_main_cst_13 val_main_cst_12
  pointwise []
  simp only [Finset.univ_unique, Finset.sum_singleton, v121]

theorem v301 (q : Fin 512) : val_main_v301 (F := Ideal) u w b g sh dm (ix2 0 q) = ∑ r, dev (zRow u w b r) q * inv (zRow u w b r) (headOf q) * slopeRow u w b g sh dm r q := by
  unfold val_main_v301 val_main_v130 val_main_v127 val_main_v126 val_main_v125 val_main_cst_15 val_main_cst_14
  pointwise []
  simp only [Finset.univ_unique, Finset.sum_singleton, v121, v112]

theorem v300 (q : Fin 512) : val_main_v300 (F := Ideal) u w b g sh dm (ix2 0 q) = ∑ r, pulledRow u w b g sh dm r q := by
  unfold val_main_v300 val_main_v159 val_main_v158 val_main_v157 val_main_cst_24 val_main_cst_23
  pointwise []
  simp only [Finset.univ_unique, Finset.sum_singleton, v156]

/-- The gradient of the taps. -/
theorem v166 (k : Fin 31) (q : Fin 512) : val_main_v166 (F := Ideal) u w b g sh dm (ix2 k q) = ∑ r : Fin 4096, padded u (r.val + k.val) q * pulledRow u w b g sh dm r q := by
  unfold val_main_v166 val_main_v163 val_main_v162 val_main_v161 val_main_v160 val_main_cst_26 val_main_cst_25
  pointwise []
  simp only [Finset.univ_unique, Finset.sum_singleton, v80, v156]

/-- A row behind one tap. -/
theorem v165 (k : Fin 31) (r : Fin 4096) (q : Fin 512) : val_main_v165 (F := Ideal) u w b g sh dm (ix3 k r q) = pulledRow u w b g sh dm r q * w (ix2 k q) := by
  unfold val_main_v165 val_main_v164 val_main_v160 val_main_v81
  pointwise []
  rw [v156]

/-- Rows moved down by `lo` and read thirty further. -/
theorem moved (x : FVec Ideal S4096x512 .f32) (z : FVec Ideal S_ .f32) (hz : z = constant S_ .f32 0x00000000#32) (lo hi : ℕ) (k : Fin 31) (hk : lo = k.val)
    (H : S4096x512.Pads ![lo, 0] ![hi, 0] ![0, 0] S4126x512) (hu) (r : Fin 4096) (q : Fin 512)
    (hx : ∀ r, x (ix2 r q) = pulledRow u w b g sh dm r q * w (ix2 k q)) :
    pad S4126x512 ![lo, 0] ![hi, 0] ![0, 0] x z H hu (ix2 ⟨30 + r.val, by omega⟩ q) = pulledBuf u w b g sh dm (r.val + (30 - k.val)) q * w (ix2 k q) := by
  have h31 := k.isLt
  by_cases h : r.val + (30 - k.val) < 4096
  · refine (pad_apply_of_inside _ _ _ _ _ H hu _ (ix2 ⟨r.val + (30 - k.val), h⟩ q) fun a => ?_).trans ?_
    · fin_cases a
      · show 30 + r.val = lo + (r.val + (30 - k.val)) * (0 + 1); omega
      · show q.val = 0 + q.val * (0 + 1); omega
    · rw [hx, pulledBuf, dif_pos h]
  · refine (pad_apply_of_not_inside _ _ _ _ _ H hu _ 0 fun hh => ?_).trans ?_
    · have h3 : (30 + r.val - lo) / (0 + 1) < 4096 := hh.2.2
      simp only [zero_add, Nat.div_one] at h3
      omega
    · rw [hz, pulledBuf, dif_neg h, zero_mul]
      pointwise []

theorem tap0 (r : Fin 4096) (q : Fin 512) : val_main_v288 (F := Ideal) u w b g sh dm (ix2 ⟨30 + r.val, by omega⟩ q) = pulledBuf u w b g sh dm (r.val + 30) q * w (ix2 0 q) := by
  unfold val_main_v288
  refine moved u w b g sh dm _ _ rfl _ _ 0 rfl _ _ r q fun r => ?_
  unfold val_main_v168 val_main_v167
  pointwise []
  exact v165 u w b g sh dm 0 r q

theorem tap1 (r : Fin 4096) (q : Fin 512) : val_main_v286 (F := Ideal) u w b g sh dm (ix2 ⟨30 + r.val, by omega⟩ q) = pulledBuf u w b g sh dm (r.val + 29) q * w (ix2 1 q) := by
  unfold val_main_v286
  refine moved u w b g sh dm _ _ rfl _ _ 1 rfl _ _ r q fun r => ?_
  unfold val_main_v170 val_main_v169
  pointwise []
  exact v165 u w b g sh dm 1 r q

theorem tap2 (r : Fin 4096) (q : Fin 512) : val_main_v284 (F := Ideal) u w b g sh dm (ix2 ⟨30 + r.val, by omega⟩ q) = pulledBuf u w b g sh dm (r.val + 28) q * w (ix2 2 q) := by
  unfold val_main_v284
  refine moved u w b g sh dm _ _ rfl _ _ 2 rfl _ _ r q fun r => ?_
  unfold val_main_v172 val_main_v171
  pointwise []
  exact v165 u w b g sh dm 2 r q

theorem tap3 (r : Fin 4096) (q : Fin 512) : val_main_v282 (F := Ideal) u w b g sh dm (ix2 ⟨30 + r.val, by omega⟩ q) = pulledBuf u w b g sh dm (r.val + 27) q * w (ix2 3 q) := by
  unfold val_main_v282
  refine moved u w b g sh dm _ _ rfl _ _ 3 rfl _ _ r q fun r => ?_
  unfold val_main_v174 val_main_v173
  pointwise []
  exact v165 u w b g sh dm 3 r q

theorem tap4 (r : Fin 4096) (q : Fin 512) : val_main_v280 (F := Ideal) u w b g sh dm (ix2 ⟨30 + r.val, by omega⟩ q) = pulledBuf u w b g sh dm (r.val + 26) q * w (ix2 4 q) := by
  unfold val_main_v280
  refine moved u w b g sh dm _ _ rfl _ _ 4 rfl _ _ r q fun r => ?_
  unfold val_main_v176 val_main_v175
  pointwise []
  exact v165 u w b g sh dm 4 r q

theorem tap5 (r : Fin 4096) (q : Fin 512) : val_main_v278 (F := Ideal) u w b g sh dm (ix2 ⟨30 + r.val, by omega⟩ q) = pulledBuf u w b g sh dm (r.val + 25) q * w (ix2 5 q) := by
  unfold val_main_v278
  refine moved u w b g sh dm _ _ rfl _ _ 5 rfl _ _ r q fun r => ?_
  unfold val_main_v178 val_main_v177
  pointwise []
  exact v165 u w b g sh dm 5 r q

theorem tap6 (r : Fin 4096) (q : Fin 512) : val_main_v276 (F := Ideal) u w b g sh dm (ix2 ⟨30 + r.val, by omega⟩ q) = pulledBuf u w b g sh dm (r.val + 24) q * w (ix2 6 q) := by
  unfold val_main_v276
  refine moved u w b g sh dm _ _ rfl _ _ 6 rfl _ _ r q fun r => ?_
  unfold val_main_v180 val_main_v179
  pointwise []
  exact v165 u w b g sh dm 6 r q

theorem tap7 (r : Fin 4096) (q : Fin 512) : val_main_v274 (F := Ideal) u w b g sh dm (ix2 ⟨30 + r.val, by omega⟩ q) = pulledBuf u w b g sh dm (r.val + 23) q * w (ix2 7 q) := by
  unfold val_main_v274
  refine moved u w b g sh dm _ _ rfl _ _ 7 rfl _ _ r q fun r => ?_
  unfold val_main_v182 val_main_v181
  pointwise []
  exact v165 u w b g sh dm 7 r q

theorem tap8 (r : Fin 4096) (q : Fin 512) : val_main_v272 (F := Ideal) u w b g sh dm (ix2 ⟨30 + r.val, by omega⟩ q) = pulledBuf u w b g sh dm (r.val + 22) q * w (ix2 8 q) := by
  unfold val_main_v272
  refine moved u w b g sh dm _ _ rfl _ _ 8 rfl _ _ r q fun r => ?_
  unfold val_main_v184 val_main_v183
  pointwise []
  exact v165 u w b g sh dm 8 r q

theorem tap9 (r : Fin 4096) (q : Fin 512) : val_main_v270 (F := Ideal) u w b g sh dm (ix2 ⟨30 + r.val, by omega⟩ q) = pulledBuf u w b g sh dm (r.val + 21) q * w (ix2 9 q) := by
  unfold val_main_v270
  refine moved u w b g sh dm _ _ rfl _ _ 9 rfl _ _ r q fun r => ?_
  unfold val_main_v186 val_main_v185
  pointwise []
  exact v165 u w b g sh dm 9 r q

theorem tap10 (r : Fin 4096) (q : Fin 512) : val_main_v268 (F := Ideal) u w b g sh dm (ix2 ⟨30 + r.val, by omega⟩ q) = pulledBuf u w b g sh dm (r.val + 20) q * w (ix2 10 q) := by
  unfold val_main_v268
  refine moved u w b g sh dm _ _ rfl _ _ 10 rfl _ _ r q fun r => ?_
  unfold val_main_v188 val_main_v187
  pointwise []
  exact v165 u w b g sh dm 10 r q

theorem tap11 (r : Fin 4096) (q : Fin 512) : val_main_v266 (F := Ideal) u w b g sh dm (ix2 ⟨30 + r.val, by omega⟩ q) = pulledBuf u w b g sh dm (r.val + 19) q * w (ix2 11 q) := by
  unfold val_main_v266
  refine moved u w b g sh dm _ _ rfl _ _ 11 rfl _ _ r q fun r => ?_
  unfold val_main_v190 val_main_v189
  pointwise []
  exact v165 u w b g sh dm 11 r q

theorem tap12 (r : Fin 4096) (q : Fin 512) : val_main_v264 (F := Ideal) u w b g sh dm (ix2 ⟨30 + r.val, by omega⟩ q) = pulledBuf u w b g sh dm (r.val + 18) q * w (ix2 12 q) := by
  unfold val_main_v264
  refine moved u w b g sh dm _ _ rfl _ _ 12 rfl _ _ r q fun r => ?_
  unfold val_main_v192 val_main_v191
  pointwise []
  exact v165 u w b g sh dm 12 r q

theorem tap13 (r : Fin 4096) (q : Fin 512) : val_main_v262 (F := Ideal) u w b g sh dm (ix2 ⟨30 + r.val, by omega⟩ q) = pulledBuf u w b g sh dm (r.val + 17) q * w (ix2 13 q) := by
  unfold val_main_v262
  refine moved u w b g sh dm _ _ rfl _ _ 13 rfl _ _ r q fun r => ?_
  unfold val_main_v194 val_main_v193
  pointwise []
  exact v165 u w b g sh dm 13 r q

theorem tap14 (r : Fin 4096) (q : Fin 512) : val_main_v260 (F := Ideal) u w b g sh dm (ix2 ⟨30 + r.val, by omega⟩ q) = pulledBuf u w b g sh dm (r.val + 16) q * w (ix2 14 q) := by
  unfold val_main_v260
  refine moved u w b g sh dm _ _ rfl _ _ 14 rfl _ _ r q fun r => ?_
  unfold val_main_v196 val_main_v195
  pointwise []
  exact v165 u w b g sh dm 14 r q

theorem tap15 (r : Fin 4096) (q : Fin 512) : val_main_v258 (F := Ideal) u w b g sh dm (ix2 ⟨30 + r.val, by omega⟩ q) = pulledBuf u w b g sh dm (r.val + 15) q * w (ix2 15 q) := by
  unfold val_main_v258
  refine moved u w b g sh dm _ _ rfl _ _ 15 rfl _ _ r q fun r => ?_
  unfold val_main_v198 val_main_v197
  pointwise []
  exact v165 u w b g sh dm 15 r q

theorem tap16 (r : Fin 4096) (q : Fin 512) : val_main_v256 (F := Ideal) u w b g sh dm (ix2 ⟨30 + r.val, by omega⟩ q) = pulledBuf u w b g sh dm (r.val + 14) q * w (ix2 16 q) := by
  unfold val_main_v256
  refine moved u w b g sh dm _ _ rfl _ _ 16 rfl _ _ r q fun r => ?_
  unfold val_main_v200 val_main_v199
  pointwise []
  exact v165 u w b g sh dm 16 r q

theorem tap17 (r : Fin 4096) (q : Fin 512) : val_main_v254 (F := Ideal) u w b g sh dm (ix2 ⟨30 + r.val, by omega⟩ q) = pulledBuf u w b g sh dm (r.val + 13) q * w (ix2 17 q) := by
  unfold val_main_v254
  refine moved u w b g sh dm _ _ rfl _ _ 17 rfl _ _ r q fun r => ?_
  unfold val_main_v202 val_main_v201
  pointwise []
  exact v165 u w b g sh dm 17 r q

theorem tap18 (r : Fin 4096) (q : Fin 512) : val_main_v252 (F := Ideal) u w b g sh dm (ix2 ⟨30 + r.val, by omega⟩ q) = pulledBuf u w b g sh dm (r.val + 12) q * w (ix2 18 q) := by
  unfold val_main_v252
  refine moved u w b g sh dm _ _ rfl _ _ 18 rfl _ _ r q fun r => ?_
  unfold val_main_v204 val_main_v203
  pointwise []
  exact v165 u w b g sh dm 18 r q

theorem tap19 (r : Fin 4096) (q : Fin 512) : val_main_v250 (F := Ideal) u w b g sh dm (ix2 ⟨30 + r.val, by omega⟩ q) = pulledBuf u w b g sh dm (r.val + 11) q * w (ix2 19 q) := by
  unfold val_main_v250
  refine moved u w b g sh dm _ _ rfl _ _ 19 rfl _ _ r q fun r => ?_
  unfold val_main_v206 val_main_v205
  pointwise []
  exact v165 u w b g sh dm 19 r q

theorem tap20 (r : Fin 4096) (q : Fin 512) : val_main_v248 (F := Ideal) u w b g sh dm (ix2 ⟨30 + r.val, by omega⟩ q) = pulledBuf u w b g sh dm (r.val + 10) q * w (ix2 20 q) := by
  unfold val_main_v248
  refine moved u w b g sh dm _ _ rfl _ _ 20 rfl _ _ r q fun r => ?_
  unfold val_main_v208 val_main_v207
  pointwise []
  exact v165 u w b g sh dm 20 r q

theorem tap21 (r : Fin 4096) (q : Fin 512) : val_main_v246 (F := Ideal) u w b g sh dm (ix2 ⟨30 + r.val, by omega⟩ q) = pulledBuf u w b g sh dm (r.val + 9) q * w (ix2 21 q) := by
  unfold val_main_v246
  refine moved u w b g sh dm _ _ rfl _ _ 21 rfl _ _ r q fun r => ?_
  unfold val_main_v210 val_main_v209
  pointwise []
  exact v165 u w b g sh dm 21 r q

theorem tap22 (r : Fin 4096) (q : Fin 512) : val_main_v244 (F := Ideal) u w b g sh dm (ix2 ⟨30 + r.val, by omega⟩ q) = pulledBuf u w b g sh dm (r.val + 8) q * w (ix2 22 q) := by
  unfold val_main_v244
  refine moved u w b g sh dm _ _ rfl _ _ 22 rfl _ _ r q fun r => ?_
  unfold val_main_v212 val_main_v211
  pointwise []
  exact v165 u w b g sh dm 22 r q

theorem tap23 (r : Fin 4096) (q : Fin 512) : val_main_v242 (F := Ideal) u w b g sh dm (ix2 ⟨30 + r.val, by omega⟩ q) = pulledBuf u w b g sh dm (r.val + 7) q * w (ix2 23 q) := by
  unfold val_main_v242
  refine moved u w b g sh dm _ _ rfl _ _ 23 rfl _ _ r q fun r => ?_
  unfold val_main_v214 val_main_v213
  pointwise []
  exact v165 u w b g sh dm 23 r q

theorem tap24 (r : Fin 4096) (q : Fin 512) : val_main_v240 (F := Ideal) u w b g sh dm (ix2 ⟨30 + r.val, by omega⟩ q) = pulledBuf u w b g sh dm (r.val + 6) q * w (ix2 24 q) := by
  unfold val_main_v240
  refine moved u w b g sh dm _ _ rfl _ _ 24 rfl _ _ r q fun r => ?_
  unfold val_main_v216 val_main_v215
  pointwise []
  exact v165 u w b g sh dm 24 r q

theorem tap25 (r : Fin 4096) (q : Fin 512) : val_main_v238 (F := Ideal) u w b g sh dm (ix2 ⟨30 + r.val, by omega⟩ q) = pulledBuf u w b g sh dm (r.val + 5) q * w (ix2 25 q) := by
  unfold val_main_v238
  refine moved u w b g sh dm _ _ rfl _ _ 25 rfl _ _ r q fun r => ?_
  unfold val_main_v218 val_main_v217
  pointwise []
  exact v165 u w b g sh dm 25 r q

theorem tap26 (r : Fin 4096) (q : Fin 512) : val_main_v236 (F := Ideal) u w b g sh dm (ix2 ⟨30 + r.val, by omega⟩ q) = pulledBuf u w b g sh dm (r.val + 4) q * w (ix2 26 q) := by
  unfold val_main_v236
  refine moved u w b g sh dm _ _ rfl _ _ 26 rfl _ _ r q fun r => ?_
  unfold val_main_v220 val_main_v219
  pointwise []
  exact v165 u w b g sh dm 26 r q

theorem tap27 (r : Fin 4096) (q : Fin 512) : val_main_v234 (F := Ideal) u w b g sh dm (ix2 ⟨30 + r.val, by omega⟩ q) = pulledBuf u w b g sh dm (r.val + 3) q * w (ix2 27 q) := by
  unfold val_main_v234
  refine moved u w b g sh dm _ _ rfl _ _ 27 rfl _ _ r q fun r => ?_
  unfold val_main_v222 val_main_v221
  pointwise []
  exact v165 u w b g sh dm 27 r q

theorem tap28 (r : Fin 4096) (q : Fin 512) : val_main_v232 (F := Ideal) u w b g sh dm (ix2 ⟨30 + r.val, by omega⟩ q) = pulledBuf u w b g sh dm (r.val + 2) q * w (ix2 28 q) := by
  unfold val_main_v232
  refine moved u w b g sh dm _ _ rfl _ _ 28 rfl _ _ r q fun r => ?_
  unfold val_main_v224 val_main_v223
  pointwise []
  exact v165 u w b g sh dm 28 r q

theorem tap29 (r : Fin 4096) (q : Fin 512) : val_main_v230 (F := Ideal) u w b g sh dm (ix2 ⟨30 + r.val, by omega⟩ q) = pulledBuf u w b g sh dm (r.val + 1) q * w (ix2 29 q) := by
  unfold val_main_v230
  refine moved u w b g sh dm _ _ rfl _ _ 29 rfl _ _ r q fun r => ?_
  unfold val_main_v226 val_main_v225
  pointwise []
  exact v165 u w b g sh dm 29 r q

theorem tap30 (r : Fin 4096) (q : Fin 512) : val_main_v229 (F := Ideal) u w b g sh dm (ix2 ⟨30 + r.val, by omega⟩ q) = pulledBuf u w b g sh dm (r.val + 0) q * w (ix2 30 q) := by
  unfold val_main_v229
  refine moved u w b g sh dm _ _ rfl _ _ 30 rfl _ _ r q fun r => ?_
  unfold val_main_v228 val_main_v227
  pointwise []
  exact v165 u w b g sh dm 30 r q

/-- What the taps carry back to a row. -/
def back (r : Fin 4096) (q : Fin 512) : EReal := ∑ k : Fin 31, pulledBuf u w b g sh dm (r.val + k.val) q * w (ix2 (Fin.rev k) q)

theorem v291 (r : Fin 4096) (q : Fin 512) : val_main_v291 (F := Ideal) u w b g sh dm (ix2 r q) = back u w b g sh dm r q := by
  unfold val_main_v291
  refine Eq.trans (b := val_main_v289 (F := Ideal) u w b g sh dm (ix2 ⟨30 + r.val, by omega⟩ q)) (by pointwise []) ?_
  simp only [val_main_v289_apply, val_main_v287_apply, val_main_v285_apply, val_main_v283_apply, val_main_v281_apply, val_main_v279_apply, val_main_v277_apply, val_main_v275_apply, val_main_v273_apply, val_main_v271_apply, val_main_v269_apply, val_main_v267_apply, val_main_v265_apply, val_main_v263_apply, val_main_v261_apply, val_main_v259_apply, val_main_v257_apply, val_main_v255_apply, val_main_v253_apply, val_main_v251_apply, val_main_v249_apply, val_main_v247_apply, val_main_v245_apply, val_main_v243_apply, val_main_v241_apply, val_main_v239_apply, val_main_v237_apply, val_main_v235_apply, val_main_v233_apply, val_main_v231_apply, tap0, tap1, tap2, tap3, tap4, tap5, tap6, tap7, tap8, tap9, tap10, tap11, tap12, tap13, tap14, tap15, tap16, tap17, tap18, tap19, tap20, tap21, tap22, tap23, tap24, tap25, tap26, tap27, tap28, tap29, tap30]
  rw [back]
  let f : ℕ → EReal := fun k => if h : k < 31 then pulledBuf u w b g sh dm (r.val + k) q * w (ix2 (Fin.rev ⟨k, h⟩) q) else 0
  refine Eq.trans (b := ∑ k ∈ Finset.range 31, f k) ?_ ((Finset.sum_range f).trans (Finset.sum_congr rfl fun k _ => dif_pos k.isLt))
  simp only [Finset.sum_range_succ, Finset.sum_range_zero, zero_add]
  rfl

/-- The gradient of the inputs, in its three parts. -/
theorem v297_left (r : Fin 4096) (q : Fin 512) : val_main_v297 (F := Ideal) u w b g sh dm (ix2 r ⟨q.val, by omega⟩)
    = back u w b g sh dm r q * Gate.refSigma (u (ix2 r ⟨512 + (512 + q.val), by omega⟩)) := by
  unfold val_main_v297 val_main_v296 val_main_v295
  refine Eq.trans (b := 0 + val_main_v293 (F := Ideal) u w b g sh dm (ix2 r q)) (congrArg₂ (fun a b : EReal => a + b) ?_ ?_) ?_
  · refine (pad_apply_of_not_inside _ _ _ _ _ _ _ _ 1 fun hh => ?_).trans (by unfold val_main_cst_58; pointwise [])
    have h3 : 512 ≤ q.val := hh.1
    omega
  · refine (pad_apply_of_inside _ _ _ _ _ _ _ _ (ix2 r q) fun a => ?_)
    fin_cases a
    · show r.val = 0 + r.val * (0 + 1); omega
    · show q.val = 0 + q.val * (0 + 1); omega
  · rw [zero_add]
    unfold val_main_v293
    pointwise []
    rw [v291, v8]

theorem v297_right (r : Fin 4096) (q : Fin 512) : val_main_v297 (F := Ideal) u w b g sh dm (ix2 r ⟨512 + q.val, by omega⟩)
    = u (ix2 r ⟨512 + q.val, by omega⟩) * back u w b g sh dm r q * (Gate.refSigma (u (ix2 r ⟨512 + (512 + q.val), by omega⟩)) * (1 - Gate.refSigma (u (ix2 r ⟨512 + (512 + q.val), by omega⟩)))) := by
  unfold val_main_v297 val_main_v296 val_main_v295
  refine Eq.trans (b := val_main_v294 (F := Ideal) u w b g sh dm (ix2 r q) + 0) (congrArg₂ (fun a b : EReal => a + b) ?_ ?_) ?_
  · refine (pad_apply_of_inside _ _ _ _ _ _ _ _ (ix2 r q) fun a => ?_)
    fin_cases a
    · show r.val = 0 + r.val * (0 + 1); omega
    · show 512 + q.val = 512 + q.val * (0 + 1); omega
  · refine (pad_apply_of_not_inside _ _ _ _ _ _ _ _ 1 fun hh => ?_).trans (by unfold val_main_cst_59; pointwise [])
    have h3 : (512 + q.val - 0) / (0 + 1) < 512 := hh.2.2
    simp only [zero_add, Nat.div_one] at h3
    omega
  · rw [add_zero]
    unfold val_main_v294 val_main_v292
    pointwise []
    rw [v291, v1, v11]

variable (s : FVec Ideal S4096x512 .f32)

theorem v299_first (r : Fin 4096) (q : Fin 512) : val_main_v299 (F := Ideal) u w b g sh s dm (ix2 r ⟨q.val, by omega⟩) = s (ix2 r q) := by
  show val_main_v298 (F := Ideal) u w b g sh s dm (ix2 r ⟨q.val, _⟩) = _
  unfold val_main_v298
  refine (concatenate_pair_apply_left (t := S4096x1536) (s₁ := S4096x512) (s₂ := S4096x1024) 1 _ _ _ _ rfl (ix2 r q) (fun c => ?_))
  fin_cases c <;> rfl

theorem v299_rest (r : Fin 4096) (n : Fin 1024) : val_main_v299 (F := Ideal) u w b g sh s dm (ix2 r ⟨512 + n.val, by omega⟩) = val_main_v297 (F := Ideal) u w b g sh dm (ix2 r n) := by
  show val_main_v298 (F := Ideal) u w b g sh s dm (ix2 r ⟨512 + n.val, _⟩) = _
  unfold val_main_v298
  refine (concatenate_pair_apply_right (t := S4096x1536) (s₁ := S4096x512) (s₂ := S4096x1024) 1 _ _ _ _ rfl rfl (ix2 r n)
    (fun c hc => ?_) (by show n.val + 512 = 512 + n.val; omega))
  fin_cases c
  exacts [rfl, absurd rfl hc]

end Cert.ConvBwd.Ref

end
-- ==== Proof.ConvBwdClaims.lean ====
/-
  The claims about the convolution's backward call (`_conv_bwd`): the programs run and leave their arguments as they were, and over the extended reals
  the kernel's five results are the reference's where the rows, the weights and the gradient of the module's output are real numbers.
-/
module

public import proofs.«01_k».proof.Proof.ConvFrameWords
public import proofs.«01_k».proof.Defs
public import proofs.«01_k».proof.Proof.Gen.Pre_conv_finite
public import proofs.«01_k».proof.Proof.ConvBwdFinal
public import proofs.«01_k».proof.Proof.ConvBwdReference

@[expose] public section

noncomputable section

namespace Cert.ConvBwd

open Idealize.ShloMosaic Idealize.ShloMosaic.TcCoe Idealize.SL.Sem
open Cert.Kernel10Ideal Kernel10Ideal.Gen
open Cert.Conv

theorem frame_kernel : quiescent_Kernel10 := fun m ρ _ => Words.quiet m ρ
theorem frame_ideal : quiescent_Kernel10Ideal := fun m ρ _ => quiet m ρ
theorem frame_ideal_pre : quiescent_Kernel10Ideal_pre_conv_finite := fun m ρ _ => quiet m ρ
theorem frame_reference : quiescent_Reference10Ideal := fun m ρ _ =>
  (θ_run Reference10Ideal.defs _ _).mono (fun r h => ⟨fun c => (h c).2.2.2.2.2, sem_eq_zero_of_no_sems (by decide) r.2⟩)
    (Reference10Ideal.Value.run (F := Ideal) m ρ)
theorem frame_reference_pre : quiescent_Reference10Ideal_pre_conv_finite := fun m ρ _ => frame_reference m ρ trivial

variable (m : (ℓ : Loc nD τ sig) → Idealize.ShloMosaic.Buf (Elt Ideal) ℓ)

section Rows

variable (h : Cert.Pre_Kernel10Ideal_conv_finite m) (c : Dev nD)
include h

/-- Under the precondition every row is real. -/
theorem rows_real (r : Fin 4096) : (∀ k, Reals.IsReal (zcRow m c r k)) ∧ (∀ k, Reals.IsReal (gain m c k)) ∧ (∀ k, Reals.IsReal (shift m c k))
    ∧ ∀ k, Reals.IsReal (dmRow m c r k) := by
  obtain ⟨h0, h1, h2, h3, h4, h5⟩ := h c
  exact ⟨fun k => conv_real (Reals.fin_of_abs_lt _ _ h0) (Reals.fin_of_abs_lt _ _ h1) (fun q => (Reals.fin_of_abs_lt _ _ h2).at _) r k,
    fun k => (Reals.fin_of_abs_lt _ _ h3).at _, fun k => (Reals.fin_of_abs_lt _ _ h4).at _, fun k => (Reals.fin_of_abs_lt _ _ h5).at _⟩

theorem dz_row (r : Fin 4096) (q : Fin 512) : dzAt m c r q = Ref.pulledRow (argU m c) (argW m c) (argB m c) (argG m c) (argH m c) (argM m c) r q := by
  obtain ⟨hz, hg, hb, hd⟩ := rows_real m h c r
  exact pulled_eq hz hg hb hd q

theorem slope_row (r : Fin 4096) (q : Fin 512) : slopeOf m c r q = Ref.slopeRow (argU m c) (argW m c) (argB m c) (argG m c) (argH m c) (argM m c) r q := by
  obtain ⟨hz, hg, hb, hd⟩ := rows_real m h c r
  exact slope_eq hz hg hb hd q

theorem norm_row (r : Fin 4096) (q : Fin 512) : normOf m c r q = dev (zcRow m c r) q * inv (zcRow m c r) (headOf q) :=
  normed_eq (rows_real m h c r).1 q

theorem dz_buf (R : ℕ) (q : Fin 512) : dz m c R q = Ref.pulledBuf (argU m c) (argW m c) (argB m c) (argG m c) (argH m c) (argM m c) R q := by
  unfold dz Ref.pulledBuf
  split
  · exact dz_row m h c _ q
  · rfl

theorem back_eq (r : Fin 4096) (q : Fin 512) : Ref.back (argU m c) (argW m c) (argB m c) (argG m c) (argH m c) (argM m c) r q = backAt m c r q := by
  refine Finset.sum_congr rfl fun k _ => ?_
  rw [dz_buf m h c, mul_comm]

theorem du_agree : Reference10Ideal.Read.val_main_v299 (F := Ideal) (argU m c) (argW m c) (argB m c) (argG m c) (argH m c) (argS m c) (argM m c)
    = (data m 0 c).arrAt 11 cfg0.N := by
  funext i
  obtain ⟨r, n, rfl⟩ := Norm.place2 i
  refine Eq.trans ?_ (final11 m c r n).symm
  unfold duAt
  by_cases hn : n.val < 512
  · rw [dif_pos hn]
    exact Ref.v299_first _ _ _ _ _ _ _ r ⟨n.val, hn⟩
  · rw [dif_neg hn]
    have e : n = ⟨512 + (n.val - 512), by omega⟩ := Fin.ext (by show n.val = 512 + (n.val - 512); omega)
    refine (congrArg (fun n => Reference10Ideal.Read.val_main_v299 (F := Ideal) (argU m c) (argW m c) (argB m c) (argG m c) (argH m c) (argS m c) (argM m c) (ix2 r n)) e).trans ?_
    refine (Ref.v299_rest _ _ _ _ _ _ _ r ⟨n.val - 512, by omega⟩).trans ?_
    by_cases hn' : n.val - 512 < 512
    · rw [dif_pos hn', Gate.sigma_eq]
      refine (Ref.v297_left _ _ _ _ _ _ r ⟨n.val - 512, hn'⟩).trans ?_
      rw [back_eq m h c]
    · rw [dif_neg hn', Gate.sigma_eq]
      have e' : (⟨n.val - 512, by omega⟩ : Fin 1024) = ⟨512 + (n.val - 1024), by omega⟩ := Fin.ext (by show n.val - 512 = 512 + (n.val - 1024); omega)
      refine (congrArg (fun n => Reference10Ideal.Read.val_main_v297 (F := Ideal) (argU m c) (argW m c) (argB m c) (argG m c) (argH m c) (argM m c) (ix2 r n)) e').trans ?_
      refine (Ref.v297_right _ _ _ _ _ _ r ⟨n.val - 1024, by omega⟩).trans ?_
      rw [back_eq m h c, mul_comm (argU m c _) (backAt m c r _), mul_assoc (backAt m c r _ * _)]

theorem dw_agree : Reference10Ideal.Read.val_main_v166 (F := Ideal) (argU m c) (argW m c) (argB m c) (argG m c) (argH m c) (argM m c)
    = folded ((data m 0 c).arrAt 12 cfg0.N) := by
  funext i
  obtain ⟨k, q, rfl⟩ := Norm.place2 i
  refine (Ref.v166 _ _ _ _ _ _ k q).trans (Eq.trans ?_ ((folded_apply _ k q).trans (sums12 m c k q)).symm)
  refine Finset.sum_congr rfl fun r _ => ?_
  rw [dz_row m h c, mul_comm]

theorem db_agree : Reference10Ideal.Read.val_main_v300 (F := Ideal) (argU m c) (argW m c) (argB m c) (argG m c) (argH m c) (argM m c)
    = (data m 0 c).arrAt 13 cfg0.N := by
  funext i
  obtain ⟨q, rfl⟩ := Norm.place1 i
  exact (Ref.v300 _ _ _ _ _ _ q).trans (Eq.trans (Finset.sum_congr rfl fun r _ => (dz_row m h c r q).symm) (final13 m c q).symm)

theorem dg_agree : Reference10Ideal.Read.val_main_v301 (F := Ideal) (argU m c) (argW m c) (argB m c) (argG m c) (argH m c) (argM m c)
    = (data m 0 c).arrAt 14 cfg0.N := by
  funext i
  obtain ⟨q, rfl⟩ := Norm.place1 i
  refine (Ref.v301 _ _ _ _ _ _ q).trans (Eq.trans (Finset.sum_congr rfl fun r _ => ?_) (final14 m c q).symm)
  rw [slope_row m h c, norm_row m h c, mul_comm]

theorem ds_agree : Reference10Ideal.Read.val_main_v302 (F := Ideal) (argU m c) (argW m c) (argB m c) (argG m c) (argH m c) (argM m c)
    = (data m 0 c).arrAt 15 cfg0.N := by
  funext i
  obtain ⟨q, rfl⟩ := Norm.place1 i
  exact (Ref.v302 _ _ _ _ _ _ q).trans (Eq.trans (Finset.sum_congr rfl fun r _ => (slope_row m h c r q).symm) (final15 m c q).symm)

end Rows

theorem algebraic : algebraic_Kernel10Ideal_Reference10Ideal_pre_conv_finite := by
  intro m ρ m' ρ' hpre hagree
  refine ⟨fun c => (data m 0 c).arrAt 11 cfg0.N, fun c => folded ((data m 0 c).arrAt 12 cfg0.N), fun c => (data m 0 c).arrAt 13 cfg0.N,
    fun c => (data m 0 c).arrAt 14 cfg0.N, fun c => (data m 0 c).arrAt 15 cfg0.N, leaves m ρ, ?_⟩
  refine (θ_run Reference10Ideal.defs _ _).mono (fun _ h c => ⟨(h c).1.trans ?_, (h c).2.1.trans ?_, (h c).2.2.1.trans ?_, (h c).2.2.2.1.trans ?_,
    (h c).2.2.2.2.1.trans ?_, (h c).2.2.2.2.2⟩) (Reference10Ideal.Value.run (F := Ideal) m' ρ')
  all_goals obtain ⟨a0, a1, a2, a3, a4, a5, a6⟩ := hagree c
  · refine (Reference10Ideal.Read.val_main_v299_eq _).trans (Eq.trans ?_ (du_agree m hpre c))
    exact congr (congr (congr (congr (congr (congr (congrArg (Reference10Ideal.Read.val_main_v299 (F := Ideal)) a0) a1) a2) a3) a4) a5) a6
  · refine (Reference10Ideal.Read.val_main_v166_eq _).trans (Eq.trans ?_ (dw_agree m hpre c))
    exact congr (congr (congr (congr (congr (congrArg (Reference10Ideal.Read.val_main_v166 (F := Ideal)) a0) a1) a2) a3) a4) a6
  · refine (Reference10Ideal.Read.val_main_v300_eq _).trans (Eq.trans ?_ (db_agree m hpre c))
    exact congr (congr (congr (congr (congr (congrArg (Reference10Ideal.Read.val_main_v300 (F := Ideal)) a0) a1) a2) a3) a4) a6
  · refine (Reference10Ideal.Read.val_main_v301_eq _).trans (Eq.trans ?_ (dg_agree m hpre c))
    exact congr (congr (congr (congr (congr (congrArg (Reference10Ideal.Read.val_main_v301 (F := Ideal)) a0) a1) a2) a3) a4) a6
  · refine (Reference10Ideal.Read.val_main_v302_eq _).trans (Eq.trans ?_ (ds_agree m hpre c))
    exact congr (congr (congr (congr (congr (congrArg (Reference10Ideal.Read.val_main_v302 (F := Ideal)) a0) a1) a2) a3) a4) a6

end Cert.ConvBwd

end
-- ==== Proof.S5ParamsScalar.lean ====
/-
  The gradient of the recurrence's discretisation at one state: the forward values from the state's eigenvalue `(x, y)` and step `t`, and the
  gradients of both from the cotangents `a`, `b` of the discretised eigenvalue and `sr`, `si` of the input's factors.
-/
module

public import proofs.«01_k».proof.Proof.Reals

@[expose] public section

noncomputable section

namespace Cert.S5Params

open Idealize.ShloMosaic

/-- What one state's gradients are computed from. -/
structure Lane where
  x : EReal
  y : EReal
  t : EReal
  sr : EReal
  si : EReal
  a : EReal
  b : EReal

namespace Lane

variable (L : Lane)

def mag : EReal := Ideal.exp (L.x * L.t)
def cos : EReal := Ideal.cos (L.y * L.t)
def sin : EReal := Ideal.sin (L.y * L.t)
def den : EReal := L.x * L.x + L.y * L.y
def re : EReal := L.mag * L.cos - 1
def im : EReal := L.mag * L.sin
def numRe : EReal := L.re * L.x + L.im * L.y
def numIm : EReal := L.im * L.x - L.re * L.y
def fRe : EReal := Ideal.div L.numRe L.den
def fIm : EReal := Ideal.div L.numIm L.den
def dNumRe : EReal := Ideal.div L.sr L.den
def dNumIm : EReal := Ideal.div L.si L.den
def dDen : EReal := -(L.si * Ideal.div 1 (L.den * L.den) * L.numIm) + -(L.sr * Ideal.div 1 (L.den * L.den) * L.numRe)
def dRe : EReal := L.a + -L.dNumIm * L.y + L.dNumRe * L.x
def dIm : EReal := L.b + L.dNumIm * L.x + L.dNumRe * L.y
def turnSin : EReal := L.mag * L.dIm * L.cos
def turnCos : EReal := -(L.mag * L.dRe) * L.sin
def grow : EReal := (L.dIm * L.sin + L.dRe * L.cos) * L.mag
/-- The gradient of the real part of the eigenvalue. -/
def gx : EReal := L.im * L.dNumIm + L.re * L.dNumRe + L.x * L.dDen + L.dDen * L.x + L.grow * L.t
/-- The gradient of its imaginary part. -/
def gy : EReal := L.re * -L.dNumIm + L.im * L.dNumRe + L.y * L.dDen + L.dDen * L.y + L.turnSin * L.t + L.turnCos * L.t
/-- The gradient of the step, before the exponential's factor. -/
def gt : EReal := L.y * L.turnSin + L.y * L.turnCos + L.x * L.grow

end Lane

/-- A factor that is the exponential of a real comes out of a sum. -/
theorem sum_mul_exp {ι : Type*} (s : Finset ι) (f : ι → EReal) (v : ℝ) : ∑ i ∈ s, f i * Ideal.exp (v : EReal) = (∑ i ∈ s, f i) * Ideal.exp (v : EReal) := by
  classical
  have h : Ideal.exp (v : EReal) = ((Real.exp v : ℝ) : EReal) := rfl
  rw [h]
  induction s using Finset.induction_on with
  | empty => simp
  | insert a s ha ih =>
    rw [Finset.sum_insert ha, Finset.sum_insert ha, ih,
      EReal.right_distrib_of_nonneg_of_ne_top (EReal.coe_nonneg.mpr (Real.exp_pos v).le) (EReal.coe_ne_top _)]

end Cert.S5Params

end
-- ==== Proof.S5ParamsKernel.lean ====
/-
  What the discretisation's backward kernel leaves at one state, from the blocks it reads.
-/
module

public import proofs.«01_k».proof.Proof.S5ParamsScalar
public import proofs.«01_k».proof.Proof.Gen.Kernel11Ideal.Frame

@[expose] public section

set_option maxRecDepth 16384

noncomputable section

namespace Cert.S5Params

open Idealize.ShloMosaic Idealize.ShloMosaic.TcCoe Idealize.SL.Sem
open Cert.Kernel11Ideal Cert.Kernel11Ideal.Gen

variable (x0 x1 x2 : Vec Ideal S1x2048 .f32) (x3 x4 : Vec Ideal S128x2048 .f32) (x5 x6 : Vec Ideal S1x2048 .f32) (x7 x8 : Vec Ideal S128x2048 .f32)

theorem ld_row (x : Vec Ideal S1x2048 .f32) : View.ld x r0_0 = x := View.ld_unit_zero Reals.zero2 _ x
theorem ld_rows (x : Vec Ideal S128x2048 .f32) : View.ld x r0_1 = x := View.ld_unit_zero Reals.zero2 _ x

/-- A state's lane of the kernel's blocks. -/
def laneIn (n : Fin 2048) : Lane where
  x := x0 (ix2 0 n)
  y := x1 (ix2 0 n)
  t := Ideal.exp (x2 (ix2 0 n))
  sr := ∑ r : Fin 128, x8 (ix2 r n) * x4 (ix2 r n) + ∑ r : Fin 128, x7 (ix2 r n) * x3 (ix2 r n)
  si := ∑ r : Fin 128, x8 (ix2 r n) * x3 (ix2 r n) + ∑ r : Fin 128, -x7 (ix2 r n) * x4 (ix2 r n)
  a := x5 (ix2 0 n)
  b := x6 (ix2 0 n)

theorem out12 (r : Fin 128) (n : Fin 2048) : out0_12 (F := Ideal) x0 x1 x2 x3 x4 x5 x6 x7 x8 (ix2 r n)
    = (laneIn x0 x1 x2 x3 x4 x5 x6 x7 x8 n).fIm * x8 (ix2 r n) + (laneIn x0 x1 x2 x3 x4 x5 x6 x7 x8 n).fRe * x7 (ix2 r n) := by
  unfold_out out0_12
  rw [View.canon_unit_zero Reals.zero2]
  simp only [ld_row, ld_rows]
  pointwise [k0_pay28, k0_pay24, k0_pay23, k0_pay17, k0_pay16, k0_pay14, k0_pay20, k0_pay19, k0_pay15, k0_pay13, k0_pay12, k0_pay11, k0_pay10, k0_pay8, k0_pay7, k0_pay6, k0_pay5, k0_pay2, k0_pay1]
  rfl

theorem out13 (r : Fin 128) (n : Fin 2048) : out0_13 (F := Ideal) x0 x1 x2 x3 x4 x5 x6 x7 x8 (ix2 r n)
    = (laneIn x0 x1 x2 x3 x4 x5 x6 x7 x8 n).fRe * x8 (ix2 r n) + (laneIn x0 x1 x2 x3 x4 x5 x6 x7 x8 n).fIm * -x7 (ix2 r n) := by
  unfold_out out0_13
  rw [View.canon_unit_zero Reals.zero2]
  simp only [ld_row, ld_rows]
  pointwise [k0_pay26, k0_pay25, k0_pay24, k0_pay23, k0_pay17, k0_pay16, k0_pay14, k0_pay20, k0_pay19, k0_pay15, k0_pay13, k0_pay12, k0_pay11, k0_pay10, k0_pay8, k0_pay7, k0_pay6, k0_pay5, k0_pay2, k0_pay1]
  simp only [zero_sub]
  rfl

theorem out9 (n : Fin 2048) : out0_9 (F := Ideal) x0 x1 x2 x3 x4 x5 x6 x7 x8 (ix2 0 n) = (laneIn x0 x1 x2 x3 x4 x5 x6 x7 x8 n).gx := by
  unfold_out out0_9
  rw [View.canon_unit_zero Reals.zero2]
  simp only [ld_row, ld_rows]
  pointwise [k0_pay46, k0_pay45, k0_pay41, k0_pay40, k0_pay39, k0_pay38, k0_pay37, k0_pay36, k0_pay35, k0_pay34, k0_pay32, k0_pay31, k0_pay30, k0_pay29, k0_pay27, k0_pay3, k0_pay4, k0_pay18, k0_pay21, k0_pay22, k0_pay25, k0_pay24, k0_pay23, k0_pay17, k0_pay16, k0_pay14, k0_pay20, k0_pay19, k0_pay15, k0_pay13, k0_pay12, k0_pay11, k0_pay10, k0_pay8, k0_pay7, k0_pay6, k0_pay5, k0_pay2, k0_pay1]
  simp only [zero_sub]
  rfl

theorem out10 (n : Fin 2048) : out0_10 (F := Ideal) x0 x1 x2 x3 x4 x5 x6 x7 x8 (ix2 0 n) = (laneIn x0 x1 x2 x3 x4 x5 x6 x7 x8 n).gy := by
  unfold_out out0_10
  rw [View.canon_unit_zero Reals.zero2]
  simp only [ld_row, ld_rows]
  pointwise [k0_pay44, k0_pay43, k0_pay42, k0_pay33, k0_pay9, k0_pay45, k0_pay41, k0_pay40, k0_pay39, k0_pay38, k0_pay37, k0_pay36, k0_pay35, k0_pay34, k0_pay32, k0_pay31, k0_pay30, k0_pay29, k0_pay27, k0_pay3, k0_pay4, k0_pay18, k0_pay21, k0_pay22, k0_pay25, k0_pay24, k0_pay23, k0_pay17, k0_pay16, k0_pay14, k0_pay20, k0_pay19, k0_pay15, k0_pay13, k0_pay12, k0_pay11, k0_pay10, k0_pay8, k0_pay7, k0_pay6, k0_pay5, k0_pay2, k0_pay1]
  simp only [zero_sub]
  rfl

theorem out11 (n : Fin 2048) : out0_11 (F := Ideal) x0 x1 x2 x3 x4 x5 x6 x7 x8 (ix2 0 n) = (laneIn x0 x1 x2 x3 x4 x5 x6 x7 x8 n).gt * Ideal.exp (x2 (ix2 0 n)) := by
  unfold_out out0_11
  rw [View.canon_unit_zero Reals.zero2]
  simp only [ld_row, ld_rows]
  pointwise [k0_pay47, k0_pay43, k0_pay42, k0_pay9, k0_pay45, k0_pay41, k0_pay40, k0_pay39, k0_pay38, k0_pay37, k0_pay36, k0_pay35, k0_pay34, k0_pay32, k0_pay31, k0_pay30, k0_pay29, k0_pay27, k0_pay3, k0_pay4, k0_pay18, k0_pay21, k0_pay22, k0_pay25, k0_pay24, k0_pay23, k0_pay17, k0_pay16, k0_pay14, k0_pay20, k0_pay19, k0_pay15, k0_pay13, k0_pay12, k0_pay11, k0_pay10, k0_pay8, k0_pay7, k0_pay6, k0_pay5, k0_pay2, k0_pay1]
  simp only [zero_sub]
  rfl

end Cert.S5Params

end
-- ==== Proof.S5ParamsHost.lean ====
/-
  The host's lines around the discretisation's backward kernel: the block-diagonal layout of the inputs' matrices before it, and the blocks taken
  back out of it and the sum over a group's states after it.
-/
module

public import proofs.«01_k».proof.Proof.S5ParamsKernel

@[expose] public section

set_option maxRecDepth 16384

noncomputable section

namespace Cert.S5Params

open Idealize.ShloMosaic Idealize.ShloMosaic.TcCoe Idealize.SL.Sem
open Cert.Kernel11Ideal Cert.Kernel11Ideal.Gen

/-- The group of a state, and its place there. -/
def groupOf (n : Fin 2048) : Fin 32 := ⟨n.val / 64, by omega⟩
def placeOf (n : Fin 2048) : Fin 64 := ⟨n.val % 64, by omega⟩

/-- The state of a group's place, and a row of its block. -/
def stateOf (g : Fin 32) (p : Fin 64) : Fin 2048 := ⟨g.val * 64 + p.val, by omega⟩
def rowOf (g : Fin 32) (h : Fin 16) : Fin 128 := ⟨g.val % 8 * 16 + h.val, by omega⟩

/-- The eight-by-eight identity the host lines hold as a constant. -/
def eye : FVec Ideal S8x8 .f32 := fun i => FloatOps.ofBits .f32 (lit0 (S8x8.rowMajor i))

theorem eye_apply (i j : Fin 8) : eye (ix2 i j) = if i = j then 1 else 0 := by
  have h : ∀ i j : Fin 8, lit0 (S8x8.rowMajor (ix2 i j)) = if i = j then 0x3F800000#32 else 0x00000000#32 := by decide +kernel
  unfold eye
  rw [h]
  split
  · exact Ideal.ofBits_one_f32
  · exact Ideal.ofBits_zero .f32

/-- The blocks laid out, each factor of the eight-by-eight matrix times a group's block. -/
def laid (A : FVec Ideal S8x8 .f32) (b : FVec Ideal S32x64x16 .f32) : FVec Ideal S128x2048 .f32 := shapeCast S128x2048 (mulf
  (broadcastInDim S8x16x4x8x64 ![0, 1, 2, 3, 4] bcast_S1x16x4x8x64_S8x16x4x8x64_0_1_2_3_4 (broadcastInDim S1x16x4x8x64 ![1, 2, 3, 4] bcast_S16x4x8x64_S1x16x4x8x64_1_2_3_4
    (transpose S16x4x8x64 [3, 0, 1, 2] (shapeCast S4x8x64x16 b shapeCasts_S32x64x16_S4x8x64x16) transposes_S4x8x64x16_S16x4x8x64_3_0_1_2)))
  (broadcastInDim S8x16x4x8x64 ![0, 1, 2, 3, 4] bcast_S8x1x1x8x1_S8x16x4x8x64_0_1_2_3_4 (broadcastInDim S8x1x1x8x1 ![0, 3] bcast_S8x8_S8x1x1x8x1_0_3 A)))
  shapeCasts_S8x16x4x8x64_S128x2048

theorem laid_apply (A : FVec Ideal S8x8 .f32) (b : FVec Ideal S32x64x16 .f32) (r : Fin 128) (n : Fin 2048) :
    laid A b (ix2 r n) = b (ix3 (groupOf n) (placeOf n) ⟨r.val % 16, by omega⟩) * A (ix2 ⟨r.val / 16, by omega⟩ ⟨n.val / 64 % 8, by omega⟩) := by
  unfold laid
  pointwise []
  refine congrArg (fun i => b i * _) ?_
  unfold groupOf placeOf
  congr 1
  exact Fin.ext (by dsimp only; omega)

/-- The block-diagonal layout. -/
def compacted (b : FVec Ideal S32x64x16 .f32) : FVec Ideal S128x2048 .f32 := laid eye b

theorem compacted_on (b : FVec Ideal S32x64x16 .f32) (g : Fin 32) (p : Fin 64) (h : Fin 16) : compacted b (ix2 (rowOf g h) (stateOf g p)) = b (ix3 g p h) := by
  refine (laid_apply _ _ _ _).trans ?_
  rw [eye_apply, if_pos (Fin.ext (by dsimp only [rowOf, stateOf]; omega)), mul_one]
  exact congrArg b (congr (congr (congrArg ix3 (Fin.ext (by dsimp only [groupOf, stateOf]; omega))) (Fin.ext (by dsimp only [placeOf, stateOf]; omega)))
    (Fin.ext (by dsimp only [rowOf]; omega)))

theorem compacted_off (b : FVec Ideal S32x64x16 .f32) (g : Fin 32) (p : Fin 64) (r : Fin 128) (hr : r.val / 16 ≠ g.val % 8) :
    compacted b (ix2 r (stateOf g p)) = 0 := by
  refine (laid_apply _ _ _ _).trans ?_
  rw [eye_apply, if_neg (fun e => hr (by have := congrArg Fin.val e; dsimp only [stateOf] at this; omega)), mul_zero]

/-- The blocks taken out again. -/
def taken (X : FVec Ideal S128x2048 .f32) : FVec Ideal S32x64x16 .f32 := shapeCast S32x64x16 (transpose S4x8x64x16 [1, 2, 3, 0]
  (Host.reduceAdd (F := Ideal) (φ := .f32) (select (broadcastInDim S8x16x4x8x64 ![0, 3] bcast_S8x8_S8x16x4x8x64_0_3 (cmpi .eq (iotaInDim S8x8 32 0) (iotaInDim S8x8 32 1)))
    (shapeCast S8x16x4x8x64 X shapeCasts_S128x2048_S8x16x4x8x64) (broadcastInDim S8x16x4x8x64 ![] bcast_S_S8x16x4x8x64 (constant S_ .f32 0x00000000#32)))
    (constant S_ .f32 0x00000000#32) reducesTo_S8x16x4x8x64_S16x4x8x64_d0 h_S_) transposes_S16x4x8x64_S4x8x64x16_1_2_3_0) shapeCasts_S4x8x64x16_S32x64x16

theorem taken_apply (X : FVec Ideal S128x2048 .f32) (g : Fin 32) (p : Fin 64) (h : Fin 16) : taken X (ix3 g p h) = X (ix2 (rowOf g h) (stateOf g p)) := by
  unfold taken
  pointwise []
  have hs : ∀ k : Fin 8, k ≠ ⟨g.val % 8, by omega⟩ → IntOp.cmpi CmpIPredicate.eq (BitVec.ofNat 32 k.val) (BitVec.ofNat 32 (g.val % 8)) = 0#1 := by
    have h : ∀ k j : Fin 8, k ≠ j → IntOp.cmpi CmpIPredicate.eq (BitVec.ofNat 32 k.val) (BitVec.ofNat 32 j.val) = 0#1 := by decide
    exact fun k hk => h k ⟨g.val % 8, by omega⟩ hk
  have he : IntOp.cmpi CmpIPredicate.eq (BitVec.ofNat 32 (g.val % 8)) (BitVec.ofNat 32 (g.val % 8)) = 1#1 := by
    have h : ∀ k : Fin 8, IntOp.cmpi CmpIPredicate.eq (BitVec.ofNat 32 k.val) (BitVec.ofNat 32 k.val) = 1#1 := by decide
    exact h ⟨g.val % 8, by omega⟩
  rw [Finset.sum_eq_single (⟨g.val % 8, by omega⟩ : Fin 8) (fun k _ hk => by rw [hs k hk]; rfl) (fun hk => absurd (Finset.mem_univ _) hk), he]
  refine congrArg X (congr (congrArg ix2 ?_) ?_)
  · rfl
  · exact Fin.ext (by dsimp only [stateOf]; omega)

/-- The sum over a group's states. -/
def summed (X : FVec Ideal S1x2048 .f32) : FVec Ideal S32 .f32 :=
  Host.reduceAdd (F := Ideal) (φ := .f32) (shapeCast S32x64 X shapeCasts_S1x2048_S32x64) (constant S_ .f32 0x00000000#32) reducesTo_S32x64_S32_d1 h_S_

theorem summed_apply (X : FVec Ideal S1x2048 .f32) (g : Fin 32) : summed X (ix1 g) = ∑ p, X (ix2 0 (stateOf g p)) := by
  unfold summed
  pointwise []
  rfl

/-- A sum over the rows whose terms vanish outside a state's block is the sum over the block. -/
theorem sum_block (f : Fin 128 → EReal) (g : Fin 32) (hf : ∀ r : Fin 128, r.val / 16 ≠ g.val % 8 → f r = 0) : ∑ r, f r = ∑ h : Fin 16, f (rowOf g h) := by
  have hi : Function.Injective (rowOf g) := fun a b e => Fin.ext (by have := congrArg Fin.val e; dsimp only [rowOf] at this; omega)
  rw [← Finset.sum_image (s := Finset.univ) (g := rowOf g) (f := f) (fun a _ b _ e => hi e)]
  refine (Finset.sum_subset (Finset.subset_univ _) fun r _ hr => hf r fun e => hr ?_).symm
  exact Finset.mem_image.mpr ⟨⟨r.val % 16, by omega⟩, Finset.mem_univ _, Fin.ext (by dsimp only [rowOf]; omega)⟩

variable (m : (ℓ : Loc nD τ sig) → Idealize.ShloMosaic.Buf (Elt Ideal) ℓ) (c : Dev nD)

abbrev argX : FVec Ideal S32x64 .f32 := m ((c : Thread nD τ).loc main_arg0)
abbrev argY : FVec Ideal S32x64 .f32 := m ((c : Thread nD τ).loc main_arg1)
abbrev argT : FVec Ideal S32 .f32 := m ((c : Thread nD τ).loc main_arg2)
abbrev argBr : FVec Ideal S32x64x16 .f32 := m ((c : Thread nD τ).loc main_arg3)
abbrev argBi : FVec Ideal S32x64x16 .f32 := m ((c : Thread nD τ).loc main_arg4)
abbrev argA : FVec Ideal S32x64 .f32 := m ((c : Thread nD τ).loc main_arg5)
abbrev argB : FVec Ideal S32x64 .f32 := m ((c : Thread nD τ).loc main_arg6)
abbrev argDr : FVec Ideal S32x64x16 .f32 := m ((c : Thread nD τ).loc main_arg7)
abbrev argDi : FVec Ideal S32x64x16 .f32 := m ((c : Thread nD τ).loc main_arg8)

/-- The arrays the call is launched on, from the arguments. -/
theorem launched : (V m c main_v0 : FVec Ideal S1x2048 .f32) = shapeCast S1x2048 (argX m c) shapeCasts_S32x64_S1x2048
    ∧ (V m c main_v1 : FVec Ideal S1x2048 .f32) = shapeCast S1x2048 (argY m c) shapeCasts_S32x64_S1x2048
    ∧ (V m c main_v4 : FVec Ideal S1x2048 .f32) = shapeCast S1x2048 (shapeCast S2048 (broadcastInDim S32x64 ![0] bcast_S32_S32x64_0 (argT m c)) shapeCasts_S32x64_S2048) shapeCasts_S2048_S1x2048
    ∧ (V m c main_v12 : FVec Ideal S128x2048 .f32) = compacted (argBr m c)
    ∧ (V m c main_v20 : FVec Ideal S128x2048 .f32) = compacted (argBi m c)
    ∧ (V m c main_v21 : FVec Ideal S1x2048 .f32) = shapeCast S1x2048 (argA m c) shapeCasts_S32x64_S1x2048
    ∧ (V m c main_v22 : FVec Ideal S1x2048 .f32) = shapeCast S1x2048 (argB m c) shapeCasts_S32x64_S1x2048
    ∧ (V m c main_v30 : FVec Ideal S128x2048 .f32) = compacted (argDr m c)
    ∧ (V m c main_v38 : FVec Ideal S128x2048 .f32) = compacted (argDi m c) := by
  unfold V V0 hostOps0
  simp only [List.flatten_cons, List.flatten_nil, List.append_nil, List.cons_append, List.nil_append]
  refine ⟨?_, ?_, ?_, ?_, ?_, ?_, ?_, ?_, ?_⟩ <;> (after_results; rfl)

/-- The one block of a call without a grid is the whole array. -/
theorem whole_emb {sg : RefSig} {G : Pipeline.Grid} (w : Pipeline.Window sg G) (hk : w.kind = .blocked) (t : Fin G.N) (y : (w.xblock (G.coords t)).Idx)
    (hi : ∀ a, w.index t a = 0) (z : w.shape.Idx) (hz : ∀ a, (y a).val = (z a).val) : (w.rect t).emb y = z :=
  Reals.emb_eq w hk t y z fun a => by rw [hi a, Nat.zero_mul, Nat.zero_add, hz a]

theorem blk0 (t : Fin cfg0.N) : (iblk m c 0 t : Vec Ideal S1x2048 .f32) = V m c main_v0 := funext fun y =>
  congrArg (V m c main_v0 : FVec Ideal S1x2048 .f32) (whole_emb win0_0 rfl t y (fun _ => rfl) y (fun _ => rfl))

theorem blk1 (t : Fin cfg0.N) : (iblk m c 1 t : Vec Ideal S1x2048 .f32) = V m c main_v1 := funext fun y =>
  congrArg (V m c main_v1 : FVec Ideal S1x2048 .f32) (whole_emb win0_1 rfl t y (fun _ => rfl) y (fun _ => rfl))

theorem blk2 (t : Fin cfg0.N) : (iblk m c 2 t : Vec Ideal S1x2048 .f32) = V m c main_v4 := funext fun y =>
  congrArg (V m c main_v4 : FVec Ideal S1x2048 .f32) (whole_emb win0_2 rfl t y (fun _ => rfl) y (fun _ => rfl))

theorem blk3 (t : Fin cfg0.N) : (iblk m c 3 t : Vec Ideal S128x2048 .f32) = V m c main_v12 := funext fun y =>
  congrArg (V m c main_v12 : FVec Ideal S128x2048 .f32) (whole_emb win0_3 rfl t y (fun _ => rfl) y (fun _ => rfl))

theorem blk4 (t : Fin cfg0.N) : (iblk m c 4 t : Vec Ideal S128x2048 .f32) = V m c main_v20 := funext fun y =>
  congrArg (V m c main_v20 : FVec Ideal S128x2048 .f32) (whole_emb win0_4 rfl t y (fun _ => rfl) y (fun _ => rfl))

theorem blk5 (t : Fin cfg0.N) : (iblk m c 5 t : Vec Ideal S1x2048 .f32) = V m c main_v21 := funext fun y =>
  congrArg (V m c main_v21 : FVec Ideal S1x2048 .f32) (whole_emb win0_5 rfl t y (fun _ => rfl) y (fun _ => rfl))

theorem blk6 (t : Fin cfg0.N) : (iblk m c 6 t : Vec Ideal S1x2048 .f32) = V m c main_v22 := funext fun y =>
  congrArg (V m c main_v22 : FVec Ideal S1x2048 .f32) (whole_emb win0_6 rfl t y (fun _ => rfl) y (fun _ => rfl))

theorem blk7 (t : Fin cfg0.N) : (iblk m c 7 t : Vec Ideal S128x2048 .f32) = V m c main_v30 := funext fun y =>
  congrArg (V m c main_v30 : FVec Ideal S128x2048 .f32) (whole_emb win0_7 rfl t y (fun _ => rfl) y (fun _ => rfl))

theorem blk8 (t : Fin cfg0.N) : (iblk m c 8 t : Vec Ideal S128x2048 .f32) = V m c main_v38 := funext fun y =>
  congrArg (V m c main_v38 : FVec Ideal S128x2048 .f32) (whole_emb win0_8 rfl t y (fun _ => rfl) y (fun _ => rfl))

/-- The kernel's lane of a state, from the arrays as launched. -/
abbrev laneV (n : Fin 2048) : Lane := laneIn (V m c main_v0) (V m c main_v1) (V m c main_v4) (V m c main_v12) (V m c main_v20) (V m c main_v21)
  (V m c main_v22) (V m c main_v30) (V m c main_v38) n

theorem row_apply (x : FVec Ideal S32x64 .f32) (g : Fin 32) (p : Fin 64) : shapeCast S1x2048 x shapeCasts_S32x64_S1x2048 (ix2 0 (stateOf g p)) = x (ix2 g p) := by
  pointwise []
  refine congrArg x (congr (congrArg ix2 (Fin.ext ?_)) (Fin.ext ?_)) <;> dsimp only [stateOf] <;> omega

theorem state_of (n : Fin 2048) : n = stateOf (groupOf n) (placeOf n) := Fin.ext (by dsimp only [stateOf, groupOf, placeOf]; omega)

/-- A row vector of states is read off its groups. -/
theorem row_of (X : FVec Ideal S32x64 .f32) (Y : FVec Ideal S1x2048 .f32) (h : ∀ g p, X (ix2 g p) = Y (ix2 0 (stateOf g p))) :
    shapeCast S1x2048 X shapeCasts_S32x64_S1x2048 = Y := by
  funext i
  obtain ⟨z, n, rfl⟩ : ∃ (z : Fin 1) (n : Fin 2048), i = ix2 z n := ⟨i 0, i 1, (ix2_eta i).symm⟩
  rw [Subsingleton.elim z 0, state_of n, row_apply]
  exact h _ _

theorem step_apply (x : FVec Ideal S32 .f32) (g : Fin 32) (p : Fin 64) :
    shapeCast S1x2048 (shapeCast S2048 (broadcastInDim S32x64 ![0] bcast_S32_S32x64_0 x) shapeCasts_S32x64_S2048) shapeCasts_S2048_S1x2048 (ix2 0 (stateOf g p)) = x (ix1 g) := by
  pointwise []
  refine congrArg x (congrArg ix1 (Fin.ext ?_))
  dsimp only [stateOf]
  omega

/-- A sum of products of two block-diagonal arrays down a column. -/
theorem sum_compacted (a b : FVec Ideal S32x64x16 .f32) (g : Fin 32) (p : Fin 64) :
    ∑ r : Fin 128, compacted a (ix2 r (stateOf g p)) * compacted b (ix2 r (stateOf g p)) = ∑ h : Fin 16, a (ix3 g p h) * b (ix3 g p h) := by
  refine (sum_block _ g fun r hr => by rw [compacted_off a g p r hr, zero_mul]).trans (Finset.sum_congr rfl fun h _ => ?_)
  rw [compacted_on, compacted_on]

theorem sum_neg_compacted (a b : FVec Ideal S32x64x16 .f32) (g : Fin 32) (p : Fin 64) :
    ∑ r : Fin 128, -compacted a (ix2 r (stateOf g p)) * compacted b (ix2 r (stateOf g p)) = ∑ h : Fin 16, -a (ix3 g p h) * b (ix3 g p h) := by
  refine (sum_block _ g fun r hr => by rw [compacted_off b g p r hr, mul_zero]).trans (Finset.sum_congr rfl fun h _ => ?_)
  rw [compacted_on, compacted_on]

end Cert.S5Params

end
-- ==== Proof.S5ParamsReference.lean ====
/-
  What the reference's gradient of the discretisation is at one state.
-/
module

public import proofs.«01_k».proof.Proof.S5ParamsScalar
public import proofs.«01_k».proof.Proof.Gen.Reference11Ideal.Read

@[expose] public section

set_option maxRecDepth 16384

noncomputable section

namespace Cert.S5Params

open Idealize.ShloMosaic Idealize.ShloMosaic.TcCoe Idealize.SL.Sem
open Cert.Reference11Ideal Cert.Reference11Ideal.Read

variable (x0 x1 : FVec Ideal S32x64 .f32) (x2 : FVec Ideal S32 .f32) (x3 x4 : FVec Ideal S32x64x16 .f32) (x5 x6 : FVec Ideal S32x64 .f32)
  (x7 x8 : FVec Ideal S32x64x16 .f32)

/-- A state's lane of the arguments: the cotangents of the factors are sums over the state's sixteen inputs. -/
def lane (g : Fin 32) (p : Fin 64) : Lane where
  x := x0 (ix2 g p)
  y := x1 (ix2 g p)
  t := Ideal.exp (x2 (ix1 g))
  sr := ∑ h : Fin 16, x8 (ix3 g p h) * x4 (ix3 g p h) + ∑ h : Fin 16, x7 (ix3 g p h) * x3 (ix3 g p h)
  si := ∑ h : Fin 16, x8 (ix3 g p h) * x3 (ix3 g p h) + ∑ h : Fin 16, -x7 (ix3 g p h) * x4 (ix3 g p h)
  a := x5 (ix2 g p)
  b := x6 (ix2 g p)

variable (g : Fin 32) (p : Fin 64)

theorem r136 : val_main_v136 (F := Ideal) x0 x1 x2 x3 x4 x5 x6 x7 x8 (ix2 g p) = (lane x0 x1 x2 x3 x4 x5 x6 x7 x8 g p).gx := by
  pointwise [val_main_v136, val_main_v135, val_main_v134, val_main_v129, val_main_v119, val_main_v118, val_main_v109, val_main_v107, val_main_v106, val_main_v105, val_main_v104, val_main_v99, val_main_v98, val_main_v97, val_main_v96, val_main_v95, val_main_v94, val_main_v91, val_main_v90, val_main_v89, val_main_v88, val_main_v87, val_main_v86, val_main_v85, val_main_v84, val_main_v83, val_main_v82, val_main_v81, val_main_v79, val_main_v78, val_main_v77, val_main_v76, val_main_v75, val_main_v74, val_main_v73, val_main_v72, val_main_v71, val_main_v70, val_main_v66, val_main_v65, val_main_v64, val_main_v63, val_main_v59, val_main_v58, val_main_v57, val_main_v56, val_main_v55, val_main_v52, val_main_v51, val_main_v50, val_main_v47, val_main_v46, val_main_v34, val_main_v33, val_main_v32, val_main_v30, val_main_v29, val_main_v28, val_main_v26, val_main_v25, val_main_v24, val_main_v22, val_main_v21, val_main_v20, val_main_v19, val_main_v18, val_main_v17, val_main_v16, val_main_v15, val_main_v14, val_main_v12, val_main_v11, val_main_v10, val_main_v9, val_main_v7, val_main_v6, val_main_v5, val_main_v4, val_main_v3, val_main_v2, val_main_v1, val_main_v0, val_main_cst_7, val_main_cst_6, val_main_cst_5, val_main_cst_4, val_main_cst_3, val_main_cst_2, val_main_cst_1, val_main_cst, val_main_cst_0]
  simp only [Finset.univ_unique, Finset.sum_singleton]
  rfl

theorem r128 : val_main_v128 (F := Ideal) x0 x1 x2 x3 x4 x5 x6 x7 x8 (ix2 g p) = (lane x0 x1 x2 x3 x4 x5 x6 x7 x8 g p).gy := by
  pointwise [val_main_v128, val_main_v127, val_main_v126, val_main_v121, val_main_v120, val_main_v117, val_main_v116, val_main_v115, val_main_v114, val_main_v110, val_main_v108, val_main_v103, val_main_v102, val_main_v101, val_main_v100, val_main_v99, val_main_v98, val_main_v95, val_main_v94, val_main_v93, val_main_v92, val_main_v91, val_main_v90, val_main_v89, val_main_v88, val_main_v87, val_main_v86, val_main_v85, val_main_v84, val_main_v82, val_main_v81, val_main_v80, val_main_v79, val_main_v78, val_main_v77, val_main_v76, val_main_v75, val_main_v74, val_main_v73, val_main_v72, val_main_v71, val_main_v70, val_main_v66, val_main_v65, val_main_v64, val_main_v63, val_main_v59, val_main_v58, val_main_v57, val_main_v56, val_main_v55, val_main_v52, val_main_v51, val_main_v50, val_main_v47, val_main_v46, val_main_v34, val_main_v33, val_main_v32, val_main_v30, val_main_v29, val_main_v28, val_main_v26, val_main_v25, val_main_v24, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst_7, val_main_cst_6, val_main_cst_5, val_main_cst_4, val_main_cst_3, val_main_cst_2, val_main_cst_1, val_main_cst, val_main_cst_0]
  simp only [Finset.univ_unique, Finset.sum_singleton]
  rfl

theorem r138 : val_main_v138 (F := Ideal) x0 x1 x2 x3 x4 x5 x6 x7 x8 (ix1 g)
    = (∑ p, (lane x0 x1 x2 x3 x4 x5 x6 x7 x8 g p).gt) * Ideal.exp (x2 (ix1 g)) := by
  pointwise [val_main_v138, val_main_v137, val_main_v133, val_main_v132, val_main_v131, val_main_v130, val_main_v129, val_main_v125, val_main_v124, val_main_v123, val_main_v122, val_main_v121, val_main_v120, val_main_v119, val_main_v118, val_main_v117, val_main_v113, val_main_v112, val_main_v111, val_main_v110, val_main_v109, val_main_v108, val_main_v99, val_main_v98, val_main_v95, val_main_v94, val_main_v91, val_main_v86, val_main_v85, val_main_v84, val_main_v82, val_main_v81, val_main_v79, val_main_v78, val_main_v74, val_main_v73, val_main_v72, val_main_v71, val_main_v70, val_main_v66, val_main_v65, val_main_v64, val_main_v63, val_main_v59, val_main_v58, val_main_v57, val_main_v56, val_main_v55, val_main_v52, val_main_v51, val_main_v50, val_main_v47, val_main_v46, val_main_v17, val_main_v16, val_main_v15, val_main_v13, val_main_v12, val_main_v11, val_main_v10, val_main_v8, val_main_v7, val_main_v6, val_main_v5, val_main_v4, val_main_v3, val_main_v2, val_main_v1, val_main_v0, val_main_cst_11, val_main_cst_10, val_main_cst_9, val_main_cst_8, val_main_cst_7, val_main_cst_6, val_main_cst_5, val_main_cst_4, val_main_cst_3, val_main_cst_2]
  simp only [Finset.univ_unique, Finset.sum_singleton]
  simp only [Lane.gt, Finset.sum_add_distrib]
  rfl

variable (h : Fin 16)

theorem r62 : val_main_v62 (F := Ideal) x0 x1 x2 x7 x8 (ix3 g p h)
    = (lane x0 x1 x2 x3 x4 x5 x6 x7 x8 g p).fRe * x8 (ix3 g p h) + (lane x0 x1 x2 x3 x4 x5 x6 x7 x8 g p).fIm * -x7 (ix3 g p h) := by
  pointwise [val_main_v62, val_main_v61, val_main_v60, val_main_v59, val_main_v54, val_main_v53, val_main_v46, val_main_v35, val_main_v31, val_main_v30, val_main_v29, val_main_v28, val_main_v27, val_main_v23, val_main_v22, val_main_v21, val_main_v20, val_main_v19, val_main_v18, val_main_v17, val_main_v16, val_main_v15, val_main_v14, val_main_v12, val_main_v11, val_main_v10, val_main_v9, val_main_v7, val_main_v6, val_main_v5, val_main_v4, val_main_v3, val_main_v2, val_main_v1, val_main_v0, val_main_cst]
  rfl

theorem r69 : val_main_v69 (F := Ideal) x0 x1 x2 x7 x8 (ix3 g p h)
    = (lane x0 x1 x2 x3 x4 x5 x6 x7 x8 g p).fIm * x8 (ix3 g p h) + (lane x0 x1 x2 x3 x4 x5 x6 x7 x8 g p).fRe * x7 (ix3 g p h) := by
  pointwise [val_main_v69, val_main_v68, val_main_v67, val_main_v58, val_main_v49, val_main_v48, val_main_v47, val_main_v35, val_main_v31, val_main_v30, val_main_v29, val_main_v28, val_main_v27, val_main_v23, val_main_v22, val_main_v21, val_main_v20, val_main_v19, val_main_v18, val_main_v17, val_main_v16, val_main_v15, val_main_v14, val_main_v12, val_main_v11, val_main_v10, val_main_v9, val_main_v7, val_main_v6, val_main_v5, val_main_v4, val_main_v3, val_main_v2, val_main_v1, val_main_v0, val_main_cst]
  rfl

end Cert.S5Params

end
-- ==== Proof.S5ParamsClaims.lean ====
/-
  The claims about the gradient of the recurrence's discretisation (`_s5_params_bwd`): the programs run and leave their arguments as they were, and
  over the extended reals the kernel's five results are the reference's where the step's logarithm is a real number.
-/
module

public import proofs.«01_k».proof.Defs
public import proofs.«01_k».proof.Proof.Gen.Kernel11.Frame
public import proofs.«01_k».proof.Proof.Gen.Pre_params_finite
public import proofs.«01_k».proof.Proof.Gen.Reference11Ideal.Run
public import proofs.«01_k».proof.Proof.S5ParamsHost
public import proofs.«01_k».proof.Proof.S5ParamsReference

@[expose] public section

set_option maxRecDepth 16384

noncomputable section

namespace Cert.S5Params

open Idealize.ShloMosaic Idealize.ShloMosaic.TcCoe Idealize.SL.Sem
open Cert.Kernel11Ideal Kernel11Ideal.Gen

theorem frame_kernel : quiescent_Kernel11 := fun m ρ _ => Kernel11.Gen.frame m ρ
theorem frame_ideal : quiescent_Kernel11Ideal := fun m ρ _ => Kernel11Ideal.Gen.frame m ρ
theorem frame_ideal_pre : quiescent_Kernel11Ideal_pre_params_finite := fun m ρ _ => Kernel11Ideal.Gen.frame m ρ
theorem frame_reference : quiescent_Reference11Ideal := fun m ρ _ =>
  (θ_run Reference11Ideal.defs _ _).mono (fun r h => ⟨fun c => (h c).2.2.2.2.2, sem_eq_zero_of_no_sems (by decide) r.2⟩)
    (Reference11Ideal.Value.run (F := Ideal) m ρ)
theorem frame_reference_pre : quiescent_Reference11Ideal_pre_params_finite := fun m ρ _ => frame_reference m ρ trivial

variable (m : (ℓ : Loc nD τ sig) → Idealize.ShloMosaic.Buf (Elt Ideal) ℓ) (c : Dev nD)

/-- The reference's lane of a state, from the arguments. -/
abbrev laneA (g : Fin 32) (p : Fin 64) : Lane := lane (argX m c) (argY m c) (argT m c) (argBr m c) (argBi m c) (argA m c) (argB m c) (argDr m c) (argDi m c) g p

theorem lane_eq (g : Fin 32) (p : Fin 64) : laneV m c (stateOf g p) = laneA m c g p := by
  obtain ⟨h0, h1, h4, h12, h20, h21, h22, h30, h38⟩ := launched m c
  rw [laneV, h0, h1, h4, h12, h20, h21, h22, h30, h38]
  simp only [laneIn, row_apply, sum_compacted, sum_neg_compacted]
  rw [step_apply (argT m c) g p]
  rfl

abbrev inT : FVec Ideal S1x2048 .f32 := V m c main_v4
abbrev inDr : FVec Ideal S128x2048 .f32 := V m c main_v30
abbrev inDi : FVec Ideal S128x2048 .f32 := V m c main_v38

/-- The call's one point. -/
def point : Fin cfg0.N := ⟨0, lt_of_lt_of_eq Nat.one_pos N_0.symm⟩

theorem apart (w : Fin cfg0.W) : ∀ t t' : Fin cfg0.N, (cfg0.win w).flush t = true → (cfg0.win w).flush t' = true → t ≠ t' →
    Disjoint ((cfg0.win w).blk t).view.set ((cfg0.win w).blk t').view.set := fun t t' _ _ hn =>
  absurd (Fin.ext (by have := t.isLt; have := t'.isLt; have : cfg0.N = 1 := N_0; omega)) hn

theorem final9 (n : Fin 2048) : ((dats m 0 c).arrAt 9 cfg0.N : FVec Ideal S1x2048 .f32) (ix2 0 n) = (laneV m c n).gx := by
  have e : (win0_9.rect point).emb (ix2 0 n) = (ix2 0 n : S1x2048.Idx) := whole_emb win0_9 rfl point (ix2 0 n) (fun _ => rfl) (ix2 0 n) (fun _ => rfl)
  refine (congrArg _ e.symm).trans (((dats m 0 c).arrAt_emb_eq_flushed 9 (apart 9) point (flush0_9 _) (ix2 0 n)).trans ?_)
  show (dats m 0 c).after 9 point (ix2 0 n) = _
  rw [after0_9, blk0, blk1, blk2, blk3, blk4, blk5, blk6, blk7, blk8]
  exact out9 _ _ _ _ _ _ _ _ _ n

theorem final10 (n : Fin 2048) : ((dats m 0 c).arrAt 10 cfg0.N : FVec Ideal S1x2048 .f32) (ix2 0 n) = (laneV m c n).gy := by
  have e : (win0_10.rect point).emb (ix2 0 n) = (ix2 0 n : S1x2048.Idx) := whole_emb win0_10 rfl point (ix2 0 n) (fun _ => rfl) (ix2 0 n) (fun _ => rfl)
  refine (congrArg _ e.symm).trans (((dats m 0 c).arrAt_emb_eq_flushed 10 (apart 10) point (flush0_10 _) (ix2 0 n)).trans ?_)
  show (dats m 0 c).after 10 point (ix2 0 n) = _
  rw [after0_10, blk0, blk1, blk2, blk3, blk4, blk5, blk6, blk7, blk8]
  exact out10 _ _ _ _ _ _ _ _ _ n

theorem final11 (n : Fin 2048) : ((dats m 0 c).arrAt 11 cfg0.N : FVec Ideal S1x2048 .f32) (ix2 0 n) = (laneV m c n).gt * Ideal.exp (inT m c (ix2 0 n)) := by
  have e : (win0_11.rect point).emb (ix2 0 n) = (ix2 0 n : S1x2048.Idx) := whole_emb win0_11 rfl point (ix2 0 n) (fun _ => rfl) (ix2 0 n) (fun _ => rfl)
  refine (congrArg _ e.symm).trans (((dats m 0 c).arrAt_emb_eq_flushed 11 (apart 11) point (flush0_11 _) (ix2 0 n)).trans ?_)
  show (dats m 0 c).after 11 point (ix2 0 n) = _
  rw [after0_11, blk0, blk1, blk2, blk3, blk4, blk5, blk6, blk7, blk8]
  exact out11 _ _ _ _ _ _ _ _ _ n

theorem final12 (r : Fin 128) (n : Fin 2048) : ((dats m 0 c).arrAt 12 cfg0.N : FVec Ideal S128x2048 .f32) (ix2 r n) = (laneV m c n).fIm * inDi m c (ix2 r n) + (laneV m c n).fRe * inDr m c (ix2 r n) := by
  have e : (win0_12.rect point).emb (ix2 r n) = (ix2 r n : S128x2048.Idx) := whole_emb win0_12 rfl point (ix2 r n) (fun _ => rfl) (ix2 r n) (fun _ => rfl)
  refine (congrArg _ e.symm).trans (((dats m 0 c).arrAt_emb_eq_flushed 12 (apart 12) point (flush0_12 _) (ix2 r n)).trans ?_)
  show (dats m 0 c).after 12 point (ix2 r n) = _
  rw [after0_12, blk0, blk1, blk2, blk3, blk4, blk5, blk6, blk7, blk8]
  exact out12 _ _ _ _ _ _ _ _ _ r n

theorem final13 (r : Fin 128) (n : Fin 2048) : ((dats m 0 c).arrAt 13 cfg0.N : FVec Ideal S128x2048 .f32) (ix2 r n) = (laneV m c n).fRe * inDi m c (ix2 r n) + (laneV m c n).fIm * -inDr m c (ix2 r n) := by
  have e : (win0_13.rect point).emb (ix2 r n) = (ix2 r n : S128x2048.Idx) := whole_emb win0_13 rfl point (ix2 r n) (fun _ => rfl) (ix2 r n) (fun _ => rfl)
  refine (congrArg _ e.symm).trans (((dats m 0 c).arrAt_emb_eq_flushed 13 (apart 13) point (flush0_13 _) (ix2 r n)).trans ?_)
  show (dats m 0 c).after 13 point (ix2 r n) = _
  rw [after0_13, blk0, blk1, blk2, blk3, blk4, blk5, blk6, blk7, blk8]
  exact out13 _ _ _ _ _ _ _ _ _ r n

theorem tail41 : Pipeline.afterTail₀ cfgs (dats m) 0 (V0 m) [hostOps1] c main_v41 = summed ((dats m 0 c).arrAt 11 cfg0.N) := by
  have hw : Pipeline.withArrays spec0 c (V0 m c) (fun w => (dats m 0 c).arrAt w cfg0.N) (Proc.devRef .tc main_v39_2) = (dats m 0 c).arrAt 11 cfg0.N :=
    Pipeline.withArrays_arr spec0 launch0.win.arr_inj c _ _ 11
  unfold Pipeline.afterTail₀ hostOps1
  simp only [List.flatten_cons, List.flatten_nil, List.append_nil, List.cons_append, List.nil_append]
  after_results
  rw [← hw]
  rfl

theorem tail51 : Pipeline.afterTail₀ cfgs (dats m) 0 (V0 m) [hostOps1] c main_v51 = taken ((dats m 0 c).arrAt 12 cfg0.N) := by
  have hw : Pipeline.withArrays spec0 c (V0 m c) (fun w => (dats m 0 c).arrAt w cfg0.N) (Proc.devRef .tc main_v39_3) = (dats m 0 c).arrAt 12 cfg0.N :=
    Pipeline.withArrays_arr spec0 launch0.win.arr_inj c _ _ 12
  unfold Pipeline.afterTail₀ hostOps1
  simp only [List.flatten_cons, List.flatten_nil, List.append_nil, List.cons_append, List.nil_append]
  after_results
  rw [← hw]
  rfl

theorem tail61 : Pipeline.afterTail₀ cfgs (dats m) 0 (V0 m) [hostOps1] c main_v61 = taken ((dats m 0 c).arrAt 13 cfg0.N) := by
  have hw : Pipeline.withArrays spec0 c (V0 m c) (fun w => (dats m 0 c).arrAt w cfg0.N) (Proc.devRef .tc main_v39_4) = (dats m 0 c).arrAt 13 cfg0.N :=
    Pipeline.withArrays_arr spec0 launch0.win.arr_inj c _ _ 13
  unfold Pipeline.afterTail₀ hostOps1
  simp only [List.flatten_cons, List.flatten_nil, List.append_nil, List.cons_append, List.nil_append]
  after_results
  rw [← hw]
  rfl

/-- The call leaves its five results and its arguments as they were. -/
theorem leaves (ρ : Dev nD → PrngReg) : θ_run defs (onTc (τ := τ) (main (F := Ideal))) ⟨m, fun _ => 0, ρ⟩ (fun r => ∀ c : Dev nD,
      r.2.mem ((c.tc : Thread nD τ).loc main_v39_0) = (dats m 0 c).arrAt 9 cfg0.N
      ∧ r.2.mem ((c.tc : Thread nD τ).loc main_v39_1) = (dats m 0 c).arrAt 10 cfg0.N
      ∧ r.2.mem ((c.tc : Thread nD τ).loc main_v41) = summed ((dats m 0 c).arrAt 11 cfg0.N)
      ∧ r.2.mem ((c.tc : Thread nD τ).loc main_v51) = taken ((dats m 0 c).arrAt 12 cfg0.N)
      ∧ r.2.mem ((c.tc : Thread nD τ).loc main_v61) = taken ((dats m 0 c).arrAt 13 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h.1 c).1 9, (h.1 c).1 10, ((h.1 c).2 main_v41 (Pipeline.mem_restRefs_of main_v41 (by decide) (by decide))).trans (tail41 m c),
      ((h.1 c).2 main_v51 (Pipeline.mem_restRefs_of main_v51 (by decide) (by decide))).trans (tail51 m c),
      ((h.1 c).2 main_v61 (Pipeline.mem_restRefs_of main_v61 (by decide) (by decide))).trans (tail61 m c), h.2 c⟩)
    (θ_run_and (run_main m ρ) (frame_of m ρ (dats m) (A_eq m) (run_main m ρ)))

theorem x_agree : Reference11Ideal.Read.val_main_v139 (F := Ideal) (argX m c) (argY m c) (argT m c) (argBr m c) (argBi m c) (argA m c) (argB m c) (argDr m c) (argDi m c) = (dats m 0 c).arrAt 9 cfg0.N := by
  refine row_of _ _ fun g p => (r136 _ _ _ _ _ _ _ _ _ g p).trans (Eq.trans ?_ (final9 m c _).symm)
  rw [lane_eq]

theorem y_agree : Reference11Ideal.Read.val_main_v140 (F := Ideal) (argX m c) (argY m c) (argT m c) (argBr m c) (argBi m c) (argA m c) (argB m c) (argDr m c) (argDi m c) = (dats m 0 c).arrAt 10 cfg0.N := by
  refine row_of _ _ fun g p => (r128 _ _ _ _ _ _ _ _ _ g p).trans (Eq.trans ?_ (final10 m c _).symm)
  rw [lane_eq]

theorem t_agree (h : Cert.Pre_Kernel11Ideal_params_finite m) : Reference11Ideal.Read.val_main_v138 (F := Ideal) (argX m c) (argY m c) (argT m c) (argBr m c) (argBi m c) (argA m c) (argB m c) (argDr m c) (argDi m c) = summed ((dats m 0 c).arrAt 11 cfg0.N) := by
  funext i
  obtain ⟨g, rfl⟩ : ∃ g : Fin 32, i = ix1 g := ⟨i 0, (ix1_eta i).symm⟩
  refine (r138 _ _ _ _ _ _ _ _ _ g).trans (Eq.trans ?_ (summed_apply _ g).symm)
  obtain ⟨v, hv⟩ : ∃ v : ℝ, argT m c (ix1 g) = v := (Reals.fin_of_abs_lt _ _ (h c)).at (ix1 g)
  rw [hv, ← sum_mul_exp]
  refine Finset.sum_congr rfl fun p _ => Eq.trans ?_ (final11 m c _).symm
  rw [lane_eq, inT, (launched m c).2.2.1, step_apply, hv]

theorem br_agree : Reference11Ideal.Read.val_main_v69 (F := Ideal) (argX m c) (argY m c) (argT m c) (argDr m c) (argDi m c) = taken ((dats m 0 c).arrAt 12 cfg0.N) := by
  funext i
  obtain ⟨g, p, k, rfl⟩ : ∃ (g : Fin 32) (p : Fin 64) (k : Fin 16), i = ix3 g p k := ⟨i 0, i 1, i 2, (ix3_eta i).symm⟩
  refine (r69 _ _ _ (argBr m c) (argBi m c) (argA m c) (argB m c) _ _ g p k).trans (Eq.trans ?_ ((taken_apply _ g p k).trans (final12 m c _ _)).symm)
  obtain ⟨_, _, _, _, _, _, _, h30, h38⟩ := launched m c
  rw [lane_eq, inDi, inDr, h38, h30, compacted_on, compacted_on]

theorem bi_agree : Reference11Ideal.Read.val_main_v62 (F := Ideal) (argX m c) (argY m c) (argT m c) (argDr m c) (argDi m c) = taken ((dats m 0 c).arrAt 13 cfg0.N) := by
  funext i
  obtain ⟨g, p, k, rfl⟩ : ∃ (g : Fin 32) (p : Fin 64) (k : Fin 16), i = ix3 g p k := ⟨i 0, i 1, i 2, (ix3_eta i).symm⟩
  refine (r62 _ _ _ (argBr m c) (argBi m c) (argA m c) (argB m c) _ _ g p k).trans (Eq.trans ?_ ((taken_apply _ g p k).trans (final13 m c _ _)).symm)
  obtain ⟨_, _, _, _, _, _, _, h30, h38⟩ := launched m c
  rw [lane_eq, inDi, inDr, h38, h30, compacted_on, compacted_on]

theorem algebraic : algebraic_Kernel11Ideal_Reference11Ideal_pre_params_finite := by
  intro m ρ m' ρ' hpre hagree
  refine ⟨fun c => (dats m 0 c).arrAt 9 cfg0.N, fun c => (dats m 0 c).arrAt 10 cfg0.N, fun c => summed ((dats m 0 c).arrAt 11 cfg0.N),
    fun c => taken ((dats m 0 c).arrAt 12 cfg0.N), fun c => taken ((dats m 0 c).arrAt 13 cfg0.N), leaves m ρ, ?_⟩
  refine (θ_run Reference11Ideal.defs _ _).mono (fun _ h c => ⟨(h c).1.trans ?_, (h c).2.1.trans ?_, (h c).2.2.1.trans ?_, (h c).2.2.2.1.trans ?_,
    (h c).2.2.2.2.1.trans ?_, (h c).2.2.2.2.2⟩) (Reference11Ideal.Value.run (F := Ideal) m' ρ')
  all_goals obtain ⟨a0, a1, a2, a3, a4, a5, a6, a7, a8⟩ := hagree c
  · refine (Reference11Ideal.Read.val_main_v139_eq m' c).trans (Eq.trans ?_ (x_agree m c))
    exact congr (congr (congr (congr (congr (congr (congr (congr (congrArg (Reference11Ideal.Read.val_main_v139 (F := Ideal)) a0) a1) a2) a3) a4) a5) a6) a7) a8
  · refine (Reference11Ideal.Read.val_main_v140_eq m' c).trans (Eq.trans ?_ (y_agree m c))
    exact congr (congr (congr (congr (congr (congr (congr (congr (congrArg (Reference11Ideal.Read.val_main_v140 (F := Ideal)) a0) a1) a2) a3) a4) a5) a6) a7) a8
  · refine (Reference11Ideal.Read.val_main_v138_eq m' c).trans (Eq.trans ?_ (t_agree m c hpre))
    exact congr (congr (congr (congr (congr (congr (congr (congr (congrArg (Reference11Ideal.Read.val_main_v138 (F := Ideal)) a0) a1) a2) a3) a4) a5) a6) a7) a8
  · refine (Reference11Ideal.Read.val_main_v69_eq _ _ _ _ _).trans (Eq.trans ?_ (br_agree m c))
    exact congr (congr (congr (congr (congrArg (Reference11Ideal.Read.val_main_v69 (F := Ideal)) a0) a1) a2) a7) a8
  · refine (Reference11Ideal.Read.val_main_v62_eq _ _ _ _ _).trans (Eq.trans ?_ (bi_agree m c))
    exact congr (congr (congr (congr (congrArg (Reference11Ideal.Read.val_main_v62 (F := Ideal)) a0) a1) a2) a7) a8

end Cert.S5Params

end
-- ==== Proof.S5DiscKernel.lean ====
/-
  The discretisation of the recurrence (`_s5_params_fwd`): what the kernel leaves at one state, from the blocks it reads.
-/
module

public import proofs.«01_k».proof.Proof.S5ParamsScalar
public import proofs.«01_k».proof.Proof.Gen.Kernel12Ideal.Frame

@[expose] public section

set_option maxRecDepth 16384

noncomputable section

namespace Cert.S5Disc

open Idealize.ShloMosaic Idealize.ShloMosaic.TcCoe Idealize.SL.Sem
open Cert.S5Params (Lane)

open Cert.Kernel12Ideal Cert.Kernel12Ideal.Gen

variable (x0 x1 x2 : Vec Ideal S1x2048 .f32) (x3 x4 : Vec Ideal S128x2048 .f32) (x5 x6 : Vec Ideal S2048x128 .f32)

theorem ld_row (x : Vec Ideal S1x2048 .f32) : View.ld x r0_0 = x := View.ld_unit_zero Reals.zero2 _ x
theorem ld_rows (x : Vec Ideal S128x2048 .f32) : View.ld x r0_1 = x := View.ld_unit_zero Reals.zero2 _ x
theorem ld_cols (x : Vec Ideal S2048x128 .f32) : View.ld x r0_2 = x := View.ld_unit_zero Reals.zero2 _ x

/-- A state's eigenvalue and step in the kernel's blocks (nothing of a cotangent is used). -/
def laneK (n : Fin 2048) : Lane := ⟨x0 (ix2 0 n), x1 (ix2 0 n), Ideal.exp (x2 (ix2 0 n)), 0, 0, 0, 0⟩

theorem out7 (n : Fin 2048) : out0_7 (F := Ideal) x0 x1 x2 x3 x4 x5 x6 (ix2 0 n) = (laneK x0 x1 x2 n).mag * (laneK x0 x1 x2 n).cos := by
  unfold out0_7
  rw [View.canon_unit_zero Reals.zero2]
  simp only [ld_row, ld_rows]
  pointwise [k0_pay5, k0_pay6, k0_pay7, k0_pay8, k0_pay9, k0_pay10, k0_pay11]
  rfl

theorem out8 (n : Fin 2048) : out0_8 (F := Ideal) x0 x1 x2 x3 x4 x5 x6 (ix2 0 n) = (laneK x0 x1 x2 n).im := by
  unfold out0_8
  rw [View.canon_unit_zero Reals.zero2]
  simp only [ld_row, ld_rows]
  pointwise [k0_pay5, k0_pay6, k0_pay7, k0_pay8, k0_pay9, k0_pay10, k0_pay12]
  rfl

theorem out9 (r : Fin 128) (n : Fin 2048) : out0_9 (F := Ideal) x0 x1 x2 x3 x4 x5 x6 (ix2 r n)
    = (laneK x0 x1 x2 n).fRe * x3 (ix2 r n) - (laneK x0 x1 x2 n).fIm * x4 (ix2 r n) := by
  unfold out0_9
  rw [View.canon_unit_zero Reals.zero2]
  simp only [ld_row, ld_rows]
  pointwise [k0_pay1, k0_pay5, k0_pay6, k0_pay7, k0_pay8, k0_pay9, k0_pay10, k0_pay11, k0_pay12, k0_pay13, k0_pay14, k0_pay15, k0_pay16, k0_pay17]
  rfl

theorem out10 (r : Fin 128) (n : Fin 2048) : out0_10 (F := Ideal) x0 x1 x2 x3 x4 x5 x6 (ix2 r n)
    = (laneK x0 x1 x2 n).fRe * x4 (ix2 r n) + (laneK x0 x1 x2 n).fIm * x3 (ix2 r n) := by
  unfold out0_10
  rw [View.canon_unit_zero Reals.zero2]
  simp only [ld_row, ld_rows]
  pointwise [k0_pay2, k0_pay5, k0_pay6, k0_pay7, k0_pay8, k0_pay9, k0_pay10, k0_pay11, k0_pay12, k0_pay13, k0_pay14, k0_pay15, k0_pay16, k0_pay18]
  rfl

theorem out11 (n : Fin 2048) (r : Fin 128) : out0_11 (F := Ideal) x0 x1 x2 x3 x4 x5 x6 (ix2 n r) = x5 (ix2 n r) := by
  unfold out0_11
  rw [View.canon_unit_zero Reals.zero2]
  simp only [ld_cols]
  pointwise [k0_pay3]

theorem out12 (n : Fin 2048) (r : Fin 128) : out0_12 (F := Ideal) x0 x1 x2 x3 x4 x5 x6 (ix2 n r) = x6 (ix2 n r) := by
  unfold out0_12
  rw [View.canon_unit_zero Reals.zero2]
  simp only [ld_cols]
  pointwise [k0_pay4]

end Cert.S5Disc

end
-- ==== Proof.S5DiscReference.lean ====
/-
  The discretisation's reference at one state, and its block-diagonal layout beside the host lines' product with the eight-by-eight identity.
-/
module

public import proofs.«01_k».proof.Proof.S5ParamsHost
public import proofs.«01_k».proof.Proof.Gen.Reference12Ideal.Read

@[expose] public section

set_option maxRecDepth 16384

noncomputable section

namespace Cert.S5Disc

open Idealize.ShloMosaic Idealize.ShloMosaic.TcCoe Idealize.SL.Sem
open Cert.S5Params (Lane groupOf placeOf stateOf compacted)

/-- The block-diagonal layout at one place: the block's entry on the block, zero off it. -/
theorem compacted_at (b : FVec Ideal Cert.Kernel11Ideal.S32x64x16 .f32) (r : Fin 128) (n : Fin 2048) : compacted b (ix2 r n)
    = if r.val / 16 = n.val / 64 % 8 then b (ix3 (groupOf n) (placeOf n) ⟨r.val % 16, by omega⟩) else 0 := by
  refine (Cert.S5Params.laid_apply _ _ _ _).trans ?_
  rw [Cert.S5Params.eye_apply]
  by_cases e : r.val / 16 = n.val / 64 % 8
  · rw [if_pos (Fin.ext e), if_pos e, mul_one]
  · rw [if_neg (fun h => e (congrArg Fin.val h)), if_neg e, mul_zero]

open Cert.Reference12Ideal Cert.Reference12Ideal.Gen Cert.Reference12Ideal.Read

/-- The reference's layout: a block's entry where the row's group of sixteen is the state's group modulo eight, and zero elsewhere. -/
def placed (y : FVec Ideal S32x64x16 .f32) : FVec Ideal S128x2048 .f32 := shapeCast _ (select (cmpi .eq (iotaInDim S8x16x4x8x64 32 0) (iotaInDim S8x16x4x8x64 32 3))
  (broadcastInDim S8x16x4x8x64 ![0, 1, 2, 3, 4] bcast_S1x16x4x8x64_S8x16x4x8x64_0_1_2_3_4 (broadcastInDim S1x16x4x8x64 ![1, 2, 3, 4] bcast_S16x4x8x64_S1x16x4x8x64_1_2_3_4
    (transpose S16x4x8x64 [3, 0, 1, 2] (shapeCast S4x8x64x16 y shapeCasts_S32x64x16_S4x8x64x16) transposes_S4x8x64x16_S16x4x8x64_3_0_1_2)))
  (broadcastInDim S8x16x4x8x64 ![] bcast_S_S8x16x4x8x64 (id (constant S_ .f32 0x00000000#32)))) shapeCasts_S8x16x4x8x64_S128x2048

theorem placed_eq (y : FVec Ideal S32x64x16 .f32) : placed y = compacted y := by
  funext i
  obtain ⟨r, n, rfl⟩ : ∃ (r : Fin 128) (n : Fin 2048), i = ix2 r n := ⟨i 0, i 1, (ix2_eta i).symm⟩
  rw [compacted_at]
  unfold placed
  pointwise []
  have h : ∀ k j : Fin 8, IntOp.cmpi CmpIPredicate.eq (BitVec.ofNat 32 k.val) (BitVec.ofNat 32 j.val) = if k = j then 1#1 else 0#1 := by decide
  have hb : y (ix3 ⟨n.val / 512 * 8 + n.val / 64 % 8, by omega⟩ ⟨n.val % 64, by omega⟩ ⟨r.val % 16, by omega⟩) = y (ix3 (groupOf n) (placeOf n) ⟨r.val % 16, by omega⟩) :=
    congrArg (fun g => y (ix3 g _ _)) (Fin.ext (by dsimp only [groupOf]; omega))
  have s1 : ∀ a b : EReal, Scalar.select 1#1 a b = a := fun _ _ => rfl
  have s0 : ∀ a b : EReal, Scalar.select 0#1 a b = b := fun _ _ => rfl
  have z : (id (constant S_ .f32 0x00000000#32) : FVec Ideal S_ .f32) ix0 = 0 := Ideal.ofBits_zero .f32
  by_cases e : r.val / 16 = n.val / 64 % 8
  · have hc : IntOp.cmpi CmpIPredicate.eq (BitVec.ofNat 32 (r.val / 16)) (BitVec.ofNat 32 (n.val / 64 % 8)) = 1#1 :=
      (h ⟨r.val / 16, by omega⟩ ⟨n.val / 64 % 8, by omega⟩).trans (if_pos (Fin.ext e))
    exact (congrArg (fun w => Scalar.select w _ _) hc).trans ((s1 _ _).trans (hb.trans (if_pos e).symm))
  · have hc : IntOp.cmpi CmpIPredicate.eq (BitVec.ofNat 32 (r.val / 16)) (BitVec.ofNat 32 (n.val / 64 % 8)) = 0#1 :=
      (h ⟨r.val / 16, by omega⟩ ⟨n.val / 64 % 8, by omega⟩).trans (if_neg fun h => e (congrArg Fin.val h))
    exact (congrArg (fun w => Scalar.select w _ _) hc).trans ((s0 _ _).trans (z.trans (if_neg e).symm))

variable (x0 x1 : FVec Ideal S32x64 .f32) (x2 : FVec Ideal S32 .f32) (x3 x4 : FVec Ideal S32x64x16 .f32) (g : Fin 32) (p : Fin 64) (h : Fin 16)

/-- A state's eigenvalue and step in the arguments. -/
def laneR : Lane := ⟨x0 (ix2 g p), x1 (ix2 g p), Ideal.exp (x2 (ix1 g)), 0, 0, 0, 0⟩

theorem r8 : val_main_v8 (F := Ideal) x0 x1 x2 (ix2 g p) = (laneR x0 x1 x2 g p).mag * (laneR x0 x1 x2 g p).cos := by
  pointwise [val_main_v8, val_main_v7, val_main_v6, val_main_v5, val_main_v4, val_main_v3, val_main_v2, val_main_v1, val_main_v0]
  rfl

theorem r12 : val_main_v12 (F := Ideal) x0 x1 x2 (ix2 g p) = (laneR x0 x1 x2 g p).im := by
  pointwise [val_main_v12, val_main_v11, val_main_v10, val_main_v9, val_main_v4, val_main_v3, val_main_v2, val_main_v1, val_main_v0]
  rfl

theorem r32 : val_main_v32 (F := Ideal) x0 x1 x2 x3 x4 (ix3 g p h) = (laneR x0 x1 x2 g p).fRe * x3 (ix3 g p h) - (laneR x0 x1 x2 g p).fIm * x4 (ix3 g p h) := by
  pointwise [val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst]
  rfl

theorem r37 : val_main_v37 (F := Ideal) x0 x1 x2 x3 x4 (ix3 g p h) = (laneR x0 x1 x2 g p).fRe * x4 (ix3 g p h) + (laneR x0 x1 x2 g p).fIm * x3 (ix3 g p h) := by
  pointwise [val_main_v37, val_main_v36, val_main_v35, val_main_v34, val_main_v33, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst]
  rfl

end Cert.S5Disc

end
-- ==== Proof.S5DiscClaims.lean ====
/-
  The claims about the recurrence's discretisation (`_s5_params_fwd`): the programs run and leave their arguments as they were, and over the extended
  reals the kernel's six results are the reference's.
-/
module

public import proofs.«01_k».proof.Defs
public import proofs.«01_k».proof.Proof.Gen.Kernel12.Frame
public import proofs.«01_k».proof.Proof.Gen.Kernel12Ideal.Value
public import proofs.«01_k».proof.Proof.Gen.Reference12Ideal.Run
public import proofs.«01_k».proof.Proof.S5DiscKernel
public import proofs.«01_k».proof.Proof.S5DiscReference

@[expose] public section

set_option maxRecDepth 16384

noncomputable section

namespace Cert.S5Disc

open Idealize.ShloMosaic Idealize.ShloMosaic.TcCoe Idealize.SL.Sem
open Cert.S5Params (Lane groupOf placeOf stateOf compacted whole_emb state_of row_of)
open Cert.Kernel12Ideal Kernel12Ideal.Gen

theorem frame_kernel : quiescent_Kernel12 := fun m ρ _ => Kernel12.Gen.frame m ρ
theorem frame_ideal : quiescent_Kernel12Ideal := fun m ρ _ => Kernel12Ideal.Gen.frame m ρ
theorem frame_reference : quiescent_Reference12Ideal := fun m ρ _ =>
  (θ_run Reference12Ideal.defs _ _).mono (fun r h => ⟨fun c => (h c).2.2.2.2.2.2, sem_eq_zero_of_no_sems (by decide) r.2⟩)
    (Reference12Ideal.Value.run (F := Ideal) m ρ)

variable (m : (ℓ : Loc nD τ sig) → Idealize.ShloMosaic.Buf (Elt Ideal) ℓ) (c : Dev nD)

abbrev argX : FVec Ideal S32x64 .f32 := m ((c : Thread nD τ).loc main_arg0)
abbrev argY : FVec Ideal S32x64 .f32 := m ((c : Thread nD τ).loc main_arg1)
abbrev argT : FVec Ideal S32 .f32 := m ((c : Thread nD τ).loc main_arg2)
abbrev argBr : FVec Ideal S32x64x16 .f32 := m ((c : Thread nD τ).loc main_arg3)
abbrev argBi : FVec Ideal S32x64x16 .f32 := m ((c : Thread nD τ).loc main_arg4)
abbrev argCr : FVec Ideal S32x16x64 .f32 := m ((c : Thread nD τ).loc main_arg5)
abbrev argCi : FVec Ideal S32x16x64 .f32 := m ((c : Thread nD τ).loc main_arg6)

/-- The output matrices' layout: each group's block turned, laid out, and turned back. -/
def turned (x : FVec Ideal S32x16x64 .f32) : FVec Ideal S2048x128 .f32 :=
  transpose S2048x128 [1, 0] (compacted (transpose S32x64x16 [0, 2, 1] x transposes_S32x16x64_S32x64x16_0_2_1)) transposes_S128x2048_S2048x128_1_0

/-- The arrays the call is launched on, from the arguments. -/
theorem launched : (V m c main_v0 : FVec Ideal S1x2048 .f32) = shapeCast S1x2048 (argX m c) shapeCasts_S32x64_S1x2048
    ∧ (V m c main_v1 : FVec Ideal S1x2048 .f32) = shapeCast S1x2048 (argY m c) shapeCasts_S32x64_S1x2048
    ∧ (V m c main_v4 : FVec Ideal S1x2048 .f32) = shapeCast S1x2048 (shapeCast S2048 (broadcastInDim S32x64 ![0] bcast_S32_S32x64_0 (argT m c)) shapeCasts_S32x64_S2048) shapeCasts_S2048_S1x2048
    ∧ (V m c main_v12 : FVec Ideal S128x2048 .f32) = compacted (argBr m c)
    ∧ (V m c main_v20 : FVec Ideal S128x2048 .f32) = compacted (argBi m c)
    ∧ (V m c main_v30 : FVec Ideal S2048x128 .f32) = turned (argCr m c)
    ∧ (V m c main_v40 : FVec Ideal S2048x128 .f32) = turned (argCi m c) := by
  unfold V hostOps0
  simp only [List.flatten_cons, List.flatten_nil, List.append_nil, List.cons_append, List.nil_append]
  refine ⟨?_, ?_, ?_, ?_, ?_, ?_, ?_⟩ <;> (after_results; rfl)

theorem blk0 (t : Fin cfg0.N) : (iblk m c 0 t : Vec Ideal S1x2048 .f32) = V m c main_v0 := funext fun y =>
  congrArg (V m c main_v0 : FVec Ideal S1x2048 .f32) (whole_emb win0_0 rfl t y (fun _ => rfl) y (fun _ => rfl))

theorem blk1 (t : Fin cfg0.N) : (iblk m c 1 t : Vec Ideal S1x2048 .f32) = V m c main_v1 := funext fun y =>
  congrArg (V m c main_v1 : FVec Ideal S1x2048 .f32) (whole_emb win0_1 rfl t y (fun _ => rfl) y (fun _ => rfl))

theorem blk2 (t : Fin cfg0.N) : (iblk m c 2 t : Vec Ideal S1x2048 .f32) = V m c main_v4 := funext fun y =>
  congrArg (V m c main_v4 : FVec Ideal S1x2048 .f32) (whole_emb win0_2 rfl t y (fun _ => rfl) y (fun _ => rfl))

theorem blk3 (t : Fin cfg0.N) : (iblk m c 3 t : Vec Ideal S128x2048 .f32) = V m c main_v12 := funext fun y =>
  congrArg (V m c main_v12 : FVec Ideal S128x2048 .f32) (whole_emb win0_3 rfl t y (fun _ => rfl) y (fun _ => rfl))

theorem blk4 (t : Fin cfg0.N) : (iblk m c 4 t : Vec Ideal S128x2048 .f32) = V m c main_v20 := funext fun y =>
  congrArg (V m c main_v20 : FVec Ideal S128x2048 .f32) (whole_emb win0_4 rfl t y (fun _ => rfl) y (fun _ => rfl))

theorem blk5 (t : Fin cfg0.N) : (iblk m c 5 t : Vec Ideal S2048x128 .f32) = V m c main_v30 := funext fun y =>
  congrArg (V m c main_v30 : FVec Ideal S2048x128 .f32) (whole_emb win0_5 rfl t y (fun _ => rfl) y (fun _ => rfl))

theorem blk6 (t : Fin cfg0.N) : (iblk m c 6 t : Vec Ideal S2048x128 .f32) = V m c main_v40 := funext fun y =>
  congrArg (V m c main_v40 : FVec Ideal S2048x128 .f32) (whole_emb win0_6 rfl t y (fun _ => rfl) y (fun _ => rfl))

/-- The kernel's lane of a state, from the arrays as launched. -/
abbrev laneAt (n : Fin 2048) := laneK (V m c main_v0) (V m c main_v1) (V m c main_v4) n

/-- The kernel's lane of a state, from the arrays as launched, is the reference's. -/
theorem lane_eq (g : Fin 32) (p : Fin 64) : laneAt m c (stateOf g p) = laneR (argX m c) (argY m c) (argT m c) g p := by
  obtain ⟨h0, h1, h4, _⟩ := launched m c
  rw [laneAt, laneK, h0, h1, h4, S5Params.row_apply (argX m c) g p, S5Params.row_apply (argY m c) g p, S5Params.step_apply (argT m c) g p]
  rfl

/-- The call's one point. -/
def point : Fin cfg0.N := ⟨0, lt_of_lt_of_eq Nat.one_pos N_0.symm⟩

theorem apart (w : Fin cfg0.W) : ∀ t t' : Fin cfg0.N, (cfg0.win w).flush t = true → (cfg0.win w).flush t' = true → t ≠ t' →
    Disjoint ((cfg0.win w).blk t).view.set ((cfg0.win w).blk t').view.set := fun t t' _ _ hn =>
  absurd (Fin.ext (by have := t.isLt; have := t'.isLt; have : cfg0.N = 1 := N_0; omega)) hn

theorem final7 (n : Fin 2048) : ((dats m 0 c).arrAt 7 cfg0.N : FVec Ideal S1x2048 .f32) (ix2 0 n)
    = (laneAt m c n).mag * (laneAt m c n).cos := by
  have e : (win0_7.rect point).emb (ix2 0 n) = (ix2 0 n : S1x2048.Idx) := whole_emb win0_7 rfl point (ix2 0 n) (fun _ => rfl) (ix2 0 n) (fun _ => rfl)
  refine (congrArg _ e.symm).trans (((dats m 0 c).arrAt_emb_eq_flushed 7 (apart 7) point (flush0_7 _) (ix2 0 n)).trans ?_)
  show (dats m 0 c).after 7 point (ix2 0 n) = _
  rw [after0_7, blk0, blk1, blk2, blk3, blk4, blk5, blk6]
  exact out7 _ _ _ _ _ _ _ n

theorem final8 (n : Fin 2048) : ((dats m 0 c).arrAt 8 cfg0.N : FVec Ideal S1x2048 .f32) (ix2 0 n)
    = (laneAt m c n).im := by
  have e : (win0_8.rect point).emb (ix2 0 n) = (ix2 0 n : S1x2048.Idx) := whole_emb win0_8 rfl point (ix2 0 n) (fun _ => rfl) (ix2 0 n) (fun _ => rfl)
  refine (congrArg _ e.symm).trans (((dats m 0 c).arrAt_emb_eq_flushed 8 (apart 8) point (flush0_8 _) (ix2 0 n)).trans ?_)
  show (dats m 0 c).after 8 point (ix2 0 n) = _
  rw [after0_8, blk0, blk1, blk2, blk3, blk4, blk5, blk6]
  exact out8 _ _ _ _ _ _ _ n

theorem final9 (r : Fin 128) (n : Fin 2048) : ((dats m 0 c).arrAt 9 cfg0.N : FVec Ideal S128x2048 .bf16) (ix2 r n)
    = (laneAt m c n).fRe * compacted (argBr m c) (ix2 r n)
      - (laneAt m c n).fIm * compacted (argBi m c) (ix2 r n) := by
  have e : (win0_9.rect point).emb (ix2 r n) = (ix2 r n : S128x2048.Idx) := whole_emb win0_9 rfl point (ix2 r n) (fun _ => rfl) (ix2 r n) (fun _ => rfl)
  refine (congrArg _ e.symm).trans (((dats m 0 c).arrAt_emb_eq_flushed 9 (apart 9) point (flush0_9 _) (ix2 r n)).trans ?_)
  show (dats m 0 c).after 9 point (ix2 r n) = _
  rw [after0_9, blk0, blk1, blk2, blk3, blk4, blk5, blk6, (launched m c).2.2.2.1, (launched m c).2.2.2.2.1]
  exact out9 _ _ _ _ _ _ _ r n

theorem final10 (r : Fin 128) (n : Fin 2048) : ((dats m 0 c).arrAt 10 cfg0.N : FVec Ideal S128x2048 .bf16) (ix2 r n)
    = (laneAt m c n).fRe * compacted (argBi m c) (ix2 r n)
      + (laneAt m c n).fIm * compacted (argBr m c) (ix2 r n) := by
  have e : (win0_10.rect point).emb (ix2 r n) = (ix2 r n : S128x2048.Idx) := whole_emb win0_10 rfl point (ix2 r n) (fun _ => rfl) (ix2 r n) (fun _ => rfl)
  refine (congrArg _ e.symm).trans (((dats m 0 c).arrAt_emb_eq_flushed 10 (apart 10) point (flush0_10 _) (ix2 r n)).trans ?_)
  show (dats m 0 c).after 10 point (ix2 r n) = _
  rw [after0_10, blk0, blk1, blk2, blk3, blk4, blk5, blk6, (launched m c).2.2.2.1, (launched m c).2.2.2.2.1]
  exact out10 _ _ _ _ _ _ _ r n

theorem final11 (n : Fin 2048) (r : Fin 128) : ((dats m 0 c).arrAt 11 cfg0.N : FVec Ideal S2048x128 .bf16) (ix2 n r)
    = turned (argCr m c) (ix2 n r) := by
  have e : (win0_11.rect point).emb (ix2 n r) = (ix2 n r : S2048x128.Idx) := whole_emb win0_11 rfl point (ix2 n r) (fun _ => rfl) (ix2 n r) (fun _ => rfl)
  refine (congrArg _ e.symm).trans (((dats m 0 c).arrAt_emb_eq_flushed 11 (apart 11) point (flush0_11 _) (ix2 n r)).trans ?_)
  show (dats m 0 c).after 11 point (ix2 n r) = _
  rw [after0_11, blk0, blk1, blk2, blk3, blk4, blk5, blk6, (launched m c).2.2.2.2.2.1]
  exact out11 _ _ _ _ _ _ _ n r

theorem final12 (n : Fin 2048) (r : Fin 128) : ((dats m 0 c).arrAt 12 cfg0.N : FVec Ideal S2048x128 .bf16) (ix2 n r)
    = turned (argCi m c) (ix2 n r) := by
  have e : (win0_12.rect point).emb (ix2 n r) = (ix2 n r : S2048x128.Idx) := whole_emb win0_12 rfl point (ix2 n r) (fun _ => rfl) (ix2 n r) (fun _ => rfl)
  refine (congrArg _ e.symm).trans (((dats m 0 c).arrAt_emb_eq_flushed 12 (apart 12) point (flush0_12 _) (ix2 n r)).trans ?_)
  show (dats m 0 c).after 12 point (ix2 n r) = _
  rw [after0_12, blk0, blk1, blk2, blk3, blk4, blk5, blk6, (launched m c).2.2.2.2.2.2]
  exact out12 _ _ _ _ _ _ _ n r

/-- The layout of a combination of two arrays with one pair of factors to a state is that combination of their layouts. -/
theorem compacted_of (X a b : FVec Ideal S32x64x16 .f32) (f : Fin 2048 → EReal → EReal → EReal) (f0 : ∀ n, f n 0 0 = 0) (r : Fin 128) (n : Fin 2048)
    (h : ∀ h, X (ix3 (groupOf n) (placeOf n) h) = f n (a (ix3 (groupOf n) (placeOf n) h)) (b (ix3 (groupOf n) (placeOf n) h))) :
    compacted X (ix2 r n) = f n (compacted a (ix2 r n)) (compacted b (ix2 r n)) := by
  rw [compacted_at, compacted_at, compacted_at]
  by_cases e : r.val / 16 = n.val / 64 % 8
  · rw [if_pos e, if_pos e, if_pos e]; exact h _
  · rw [if_neg e, if_neg e, if_neg e, f0]

open Reference12Ideal.Read in
theorem are_agree : val_main_v38 (F := Ideal) (argX m c) (argY m c) (argT m c) = (dats m 0 c).arrAt 7 cfg0.N := by
  refine row_of _ _ fun g p => (r8 _ _ _ g p).trans (Eq.trans ?_ (final7 m c _).symm)
  rw [lane_eq]

open Reference12Ideal.Read in
theorem aim_agree : val_main_v39 (F := Ideal) (argX m c) (argY m c) (argT m c) = (dats m 0 c).arrAt 8 cfg0.N := by
  refine row_of _ _ fun g p => (r12 _ _ _ g p).trans (Eq.trans ?_ (final8 m c _).symm)
  rw [lane_eq]

open Reference12Ideal.Read in
theorem bre_agree : val_main_v49 (F := Ideal) (argX m c) (argY m c) (argT m c) (argBr m c) (argBi m c) = (dats m 0 c).arrAt 9 cfg0.N := by
  funext i
  obtain ⟨r, n, rfl⟩ : ∃ (r : Fin 128) (n : Fin 2048), i = ix2 r n := ⟨i 0, i 1, (ix2_eta i).symm⟩
  refine Eq.trans ?_ (final9 m c r n).symm
  show placed (val_main_v32 (F := Ideal) (argX m c) (argY m c) (argT m c) (argBr m c) (argBi m c)) (ix2 r n) = _
  rw [placed_eq]
  exact compacted_of _ (argBr m c) (argBi m c) (fun n a b => (laneAt m c n).fRe * a
    - (laneAt m c n).fIm * b) (fun n => by simp only [mul_zero, sub_zero]) r n fun h => by
      rw [r32, ← lane_eq, ← state_of]

open Reference12Ideal.Read in
theorem bim_agree : val_main_v59 (F := Ideal) (argX m c) (argY m c) (argT m c) (argBr m c) (argBi m c) = (dats m 0 c).arrAt 10 cfg0.N := by
  funext i
  obtain ⟨r, n, rfl⟩ : ∃ (r : Fin 128) (n : Fin 2048), i = ix2 r n := ⟨i 0, i 1, (ix2_eta i).symm⟩
  refine Eq.trans ?_ (final10 m c r n).symm
  show placed (val_main_v37 (F := Ideal) (argX m c) (argY m c) (argT m c) (argBr m c) (argBi m c)) (ix2 r n) = _
  rw [placed_eq]
  exact compacted_of _ (argBr m c) (argBi m c) (fun n a b => (laneAt m c n).fRe * b
    + (laneAt m c n).fIm * a) (fun n => by simp only [mul_zero, add_zero]) r n fun h => by
      rw [r37, ← lane_eq, ← state_of]

/-- The reference's turned layout is the host lines'. -/
theorem turned_eq (x : FVec Ideal S32x16x64 .f32) : Reference12Ideal.Read.val_main_v71 (F := Ideal) x = turned x := by
  show transpose S2048x128 [1, 0] (placed (transpose S32x64x16 [0, 2, 1] x transposes_S32x16x64_S32x64x16_0_2_1)) transposes_S128x2048_S2048x128_1_0 = _
  rw [placed_eq]; rfl

theorem cre_agree : Reference12Ideal.Read.val_main_v71 (F := Ideal) (argCr m c) = (dats m 0 c).arrAt 11 cfg0.N := by
  funext i
  obtain ⟨n, r, rfl⟩ : ∃ (n : Fin 2048) (r : Fin 128), i = ix2 n r := ⟨i 0, i 1, (ix2_eta i).symm⟩
  exact (congrFun (turned_eq _) _).trans (final11 m c n r).symm

theorem cim_agree : Reference12Ideal.Read.val_main_v83 (F := Ideal) (argCi m c) = (dats m 0 c).arrAt 12 cfg0.N := by
  funext i
  obtain ⟨n, r, rfl⟩ : ∃ (n : Fin 2048) (r : Fin 128), i = ix2 n r := ⟨i 0, i 1, (ix2_eta i).symm⟩
  exact (congrFun (turned_eq _) _).trans (final12 m c n r).symm

open Reference12Ideal.Read in
theorem algebraic : algebraic_Kernel12Ideal_Reference12Ideal := by
  intro m ρ m' ρ' hpre hagree
  refine ⟨fun c => (dats m 0 c).arrAt 7 cfg0.N, fun c => (dats m 0 c).arrAt 8 cfg0.N, fun c => (dats m 0 c).arrAt 9 cfg0.N,
    fun c => (dats m 0 c).arrAt 10 cfg0.N, fun c => (dats m 0 c).arrAt 11 cfg0.N, fun c => (dats m 0 c).arrAt 12 cfg0.N, Kernel12Ideal.Value.run_blocks m ρ, ?_⟩
  refine (θ_run Reference12Ideal.defs _ _).mono (fun _ h c => ⟨(h c).1.trans ?_, (h c).2.1.trans ?_, (h c).2.2.1.trans ?_, (h c).2.2.2.1.trans ?_,
    (h c).2.2.2.2.1.trans ?_, (h c).2.2.2.2.2.1.trans ?_, (h c).2.2.2.2.2.2⟩) (Reference12Ideal.Value.run (F := Ideal) m' ρ')
  all_goals obtain ⟨a0, a1, a2, a3, a4, a5, a6⟩ := hagree c
  · refine (val_main_v38_eq _ _ _).trans (Eq.trans ?_ (are_agree m c))
    exact congr (congr (congrArg (val_main_v38 (F := Ideal)) a0) a1) a2
  · refine (val_main_v39_eq _ _ _).trans (Eq.trans ?_ (aim_agree m c))
    exact congr (congr (congrArg (val_main_v39 (F := Ideal)) a0) a1) a2
  · refine (val_main_v49_eq _ _ _ _ _).trans (Eq.trans ?_ (bre_agree m c))
    exact congr (congr (congr (congr (congrArg (val_main_v49 (F := Ideal)) a0) a1) a2) a3) a4
  · refine (val_main_v59_eq _ _ _ _ _).trans (Eq.trans ?_ (bim_agree m c))
    exact congr (congr (congr (congr (congrArg (val_main_v59 (F := Ideal)) a0) a1) a2) a3) a4
  · refine (val_main_v71_eq _).trans (Eq.trans ?_ (cre_agree m c))
    exact congrArg (val_main_v71 (F := Ideal)) a5
  · refine (val_main_v83_eq _).trans (Eq.trans ?_ (cim_agree m c))
    exact congrArg (val_main_v83 (F := Ideal)) a6

end Cert.S5Disc

end
-- ==== Proof.OutBackClaims.lean ====
/-
  The claims about the product that carries the gradient back through the mixers' output weight (`_mm_nt`): over the
  extended reals the kernel's result is the product with the transposed weight, whatever the arguments are.
-/
module

public import proofs.«01_k».proof.Defs
public import proofs.«01_k».proof.Proof.Gen.Kernel13.Frame
public import proofs.«01_k».proof.Proof.Gen.Kernel13Ideal.Value
public import proofs.«01_k».proof.Proof.Gen.Reference13Ideal.Read
public import proofs.«01_k».proof.Proof.NormScalar

@[expose] public section

noncomputable section

open Idealize.ShloMosaic Idealize.ShloMosaic.TcCoe Idealize.SL.Sem

namespace Cert.OutBack

open Cert.Kernel13Ideal Kernel13Ideal.Gen
open Cert.Norm (rowIn4 blockOf4 inBlock4)

/-- The product of a row of the gradient with a row of the weight. -/
def prod (dx : FVec Ideal S4096x1024 .f32) (w : FVec Ideal S1024x1024 .f32) (r : Fin 4096) (n : Fin 1024) : EReal :=
  ∑ k : Fin 1024, dx (ix2 r k) * w (ix2 n k)

theorem reference_apply (dx : FVec Ideal S4096x1024 .f32) (w : FVec Ideal S1024x1024 .f32) (r : Fin 4096) (n : Fin 1024) :
    Reference13Ideal.Read.val_main_v2 (F := Ideal) dx w (ix2 r n) = prod dx w r n := by
  unfold Reference13Ideal.Read.val_main_v2 Reference13Ideal.Read.val_main_v1 Reference13Ideal.Read.val_main_v0
  pointwise []
  rfl

theorem pay1_apply (a w : Vec Ideal S1024x1024 .bf16) (p q : Fin 1024) : k0_pay1 a w (ix2 p q) = ∑ k : Fin 1024, a (ix2 p k) * w (ix2 q k) := by
  pointwise [k0_pay1]

variable (m : (ℓ : Loc nD τ sig) → Buf (Elt Ideal) ℓ) (ρ : Dev nD → PrngReg)

/-- The arguments: the gradient after the product, and the weight. -/
abbrev argX (c : Dev nD) : FVec Ideal S4096x1024 .f32 := m ((c : Thread nD τ).loc main_arg0)
abbrev argW (c : Dev nD) : FVec Ideal S1024x1024 .f32 := m ((c : Thread nD τ).loc main_arg1)

theorem V0 (c : Dev nD) : (V m c main_v0 : FVec Ideal S4096x1024 .bf16) = truncf .bf16 (argX m c) bitsLt_bf16_f32 := by
  unfold V hostOps0; after_results

theorem V1 (c : Dev nD) : (V m c main_v1 : FVec Ideal S1024x1024 .bf16) = truncf .bf16 (argW m c) bitsLt_bf16_f32 := by
  unfold V hostOps0; after_results

/-- Where each window's block sits at each point. -/
theorem idx_facts : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) :=
  (by decide +kernel : ∀ t : Fin grid0.N, _)

theorem lt4 (t : Fin cfg0.N) : t.val < 4 := lt_of_lt_of_eq t.isLt N_0

theorem blk0 (c : Dev nD) (t : Fin cfg0.N) (p q : Fin 1024) :
    (iblk m c 0 t : Vec Ideal S1024x1024 .bf16) (ix2 p q) = argX m c (ix2 (rowIn4 t.val (lt4 t) p) q) := by
  have h := (idx_facts t).1
  have e : (win0_0.rect t).emb (ix2 p q) = (ix2 (rowIn4 t.val (lt4 t) p) q : S4096x1024.Idx) := Reals.emb_eq _ rfl t _ _ fun a => by
    fin_cases a
    · show win0_0.index t 0 * 1024 + p.val = t.val * 1024 + p.val; rw [h.1]
    · show win0_0.index t 1 * 1024 + q.val = q.val; rw [h.2]; simp
  show (V m c main_v0 : FVec Ideal S4096x1024 .bf16) ((win0_0.rect t).emb (ix2 p q)) = _
  rw [e, V0]; rfl

theorem blk1 (c : Dev nD) (t : Fin cfg0.N) (k q : Fin 1024) : (iblk m c 1 t : Vec Ideal S1024x1024 .bf16) (ix2 k q) = argW m c (ix2 k q) := by
  have h := (idx_facts t).2.1
  have e : (win0_1.rect t).emb (ix2 k q) = (ix2 k q : S1024x1024.Idx) := Reals.emb_eq _ rfl t _ _ fun a => by
    fin_cases a
    · show win0_1.index t 0 * 1024 + k.val = k.val; rw [h.1]; simp
    · show win0_1.index t 1 * 1024 + q.val = q.val; rw [h.2]; simp
  show (V m c main_v1 : FVec Ideal S1024x1024 .bf16) ((win0_1.rect t).emb (ix2 k q)) = _
  rw [e, V1]; rfl

abbrev pointOf (r : Fin 4096) : Fin cfg0.N := ⟨blockOf4 r, by rw [show cfg0.N = 4 from N_0]; exact Norm.blockOf4_lt r⟩

theorem out2 (a w : Vec Ideal S1024x1024 .bf16) : out0_2 a w = k0_pay1 a w := by
  unfold out0_2
  rw [View.canon_unit_zero Reals.zero2, View.ld_unit_zero Reals.zero2, View.ld_unit_zero Reals.zero2]

/-- What a point writes back. -/
theorem flushed2 (c : Dev nD) (t : Fin cfg0.N) (y : S1024x1024.Idx) :
    (dats m 0 c).flushed 2 t y = k0_pay1 (iblk m c 0 t) (iblk m c 1 t) y := by
  rw [Value.flushed2, out2]
  rfl

/-- The result after the run, element by element. -/
theorem final2 (c : Dev nD) (r : Fin 4096) (n : Fin 1024) :
    ((dats m 0 c).arrAt 2 cfg0.N : FVec Ideal S4096x1024 .bf16) (ix2 r n) = prod (argX m c) (argW m c) r n := by
  have h := (idx_facts (pointOf r)).2.2
  have e : (win0_2.rect (pointOf r)).emb (ix2 (inBlock4 r) n) = (ix2 r n : S4096x1024.Idx) := Reals.emb_eq _ rfl _ _ _ fun a => by
    fin_cases a
    · show win0_2.index (pointOf r) 0 * 1024 + r.val % 1024 = r.val; rw [h.1]; dsimp only [blockOf4]; omega
    · show win0_2.index (pointOf r) 1 * 1024 + n.val = n.val; rw [h.2]; simp
  refine (congrArg _ e.symm).trans (((dats m 0 c).arrAt_emb_eq_flushed 2 (Value.disjoint2) (pointOf r) (flush0_2 _) (ix2 (inBlock4 r) n)).trans ?_)
  refine (flushed2 m c (pointOf r) _).trans ?_
  rw [pay1_apply]
  simp only [blk0, blk1, Norm.rowIn4_blockOf4]
  rfl

theorem frame_kernel : quiescent_Kernel13 := fun m ρ _ => Kernel13.Gen.frame m ρ
theorem frame_ideal : quiescent_Kernel13Ideal := fun m ρ _ => Kernel13Ideal.Gen.frame m ρ
theorem frame_reference : quiescent_Reference13Ideal := fun m ρ _ =>
  (θ_run Reference13Ideal.defs _ _).mono (fun r h => ⟨fun c => (h c).2, sem_eq_zero_of_no_sems (by decide) r.2⟩)
    (Reference13Ideal.Value.run (F := Ideal) m ρ)

theorem algebraic : algebraic_Kernel13Ideal_Reference13Ideal := by
  intro m ρ m' ρ' _ hagree
  refine ⟨fun c => (dats m 0 c).arrAt 2 cfg0.N, Value.run_blocks m ρ, ?_⟩
  refine (θ_run Reference13Ideal.defs _ _).mono (fun _ h c => ⟨(h c).1.trans ?_, (h c).2⟩)
    (Reference13Ideal.Value.run (F := Ideal) m' ρ')
  obtain ⟨a0, a1⟩ := hagree c
  rw [Reference13Ideal.Read.val_main_v2_eq, a0, a1]
  funext i
  obtain ⟨r, n, rfl⟩ := Norm.place2 i
  exact (reference_apply _ _ r n).trans (final2 m c r n).symm

end Cert.OutBack

end
-- ==== Proof.InProjClaims.lean ====
/-
  The claims about the mixers' product in (`_mm_grouped`): over the extended reals the kernel's result, computed one slab of
  the weight's columns at a time, is the product with the whole weight, whatever the arguments are.
-/
module

public import proofs.«01_k».proof.Defs
public import proofs.«01_k».proof.Proof.Gen.Kernel14.Frame
public import proofs.«01_k».proof.Proof.Gen.Kernel14Ideal.Value
public import proofs.«01_k».proof.Proof.Gen.Reference14Ideal.Read
public import proofs.«01_k».proof.Proof.NormScalar

@[expose] public section

noncomputable section

open Idealize.ShloMosaic Idealize.ShloMosaic.TcCoe Idealize.ShloMosaic.Tactic Idealize.SL.Sem

namespace Cert.InProj

open Cert.Kernel14Ideal Kernel14Ideal.Gen
open Cert.Norm (inBlock4)

/-- The product of a row with a column of the weight. -/
def prod (h : FVec Ideal S4096x1024 .f32) (w : FVec Ideal S1024x1536 .f32) (r : Fin 4096) (n : Fin 1536) : EReal :=
  ∑ k : Fin 1024, h (ix2 r k) * w (ix2 k n)

theorem reference_apply (h : FVec Ideal S4096x1024 .f32) (w : FVec Ideal S1024x1536 .f32) (r : Fin 4096) (n : Fin 1536) :
    Reference14Ideal.Read.val_main_v0 (F := Ideal) h w (ix2 r n) = prod h w r n := by
  unfold Reference14Ideal.Read.val_main_v0
  pointwise []
  rfl

theorem pay1_apply (x : Vec Ideal S1024x1024 .bf16) (w : Vec Ideal S1x1024x384 .bf16) (p : Fin 1024) (q : Fin 384) :
    k0_pay1 x w (ix2 p q) = ∑ k : Fin 1024, x (ix2 p k) * w (ix3 0 k q) := by
  pointwise [k0_pay1]

variable (m : (ℓ : Loc nD τ sig) → Buf (Elt Ideal) ℓ) (ρ : Dev nD → PrngReg)

/-- The arguments: the normed rows and the weight. -/
abbrev argH (c : Dev nD) : FVec Ideal S4096x1024 .f32 := m ((c : Thread nD τ).loc main_arg0)
abbrev argW (c : Dev nD) : FVec Ideal S1024x1536 .f32 := m ((c : Thread nD τ).loc main_arg1)

/-- The column of the whole width that column `q` of slab `j` is. -/
abbrev col (j : Fin 4) (q : Fin 384) : Fin 1536 := ⟨j.val * 384 + q.val, by omega⟩

/-- The weight cut in one slab of columns per chip. -/
abbrev cut (w : FVec Ideal S1024x1536 .f32) : FVec Ideal S4x1024x384 .bf16 := truncf .bf16 (transpose S4x1024x384 [1, 0, 2]
  (shapeCast S1024x4x384 w shapeCasts_S1024x1536_S1024x4x384) transposes_S1024x4x384_S4x1024x384_1_0_2) bitsLt_bf16_f32

theorem cut_apply (w : FVec Ideal S1024x1536 .f32) (j : Fin 4) (k : Fin 1024) (q : Fin 384) : cut w (ix3 j k q) = w (ix2 k (col j q)) := by
  pointwise [cut]

theorem V0 (c : Dev nD) : (V m c main_v0 : FVec Ideal S4096x1024 .bf16) = truncf .bf16 (argH m c) bitsLt_bf16_f32 := by
  unfold V hostOps0; after_results

theorem V3 (c : Dev nD) : (V m c main_v3 : FVec Ideal S4x1024x384 .bf16) = cut (argW m c) := by
  unfold V hostOps0; after_results; rfl

/-- Where each window's block sits at each point: the row block is the point's first coordinate, the slab its second. -/
theorem idx_facts : ∀ t : Fin cfg0.N, (win0_0.index t 0 = t.val / 4 ∧ win0_0.index t 1 = 0)
    ∧ (win0_1.index t 0 = 0 ∧ win0_1.index t 1 = 0 ∧ win0_1.index t 2 = 0)
    ∧ (win0_2.index t 0 = t.val / 4 ∧ win0_2.index t 1 = t.val % 4)
    ∧ k0_off1 (grid0.coords t) 0 = t.val % 4 ∧ k0_off1 (grid0.coords t) 1 = 0 ∧ k0_off1 (grid0.coords t) 2 = 0 :=
  (by decide +kernel : ∀ t : Fin grid0.N, _)

/-- The row of the whole array that row `p` of point `t`'s block is, and the slab. -/
abbrev rowOf (t : Fin cfg0.N) (p : Fin 1024) : Fin 4096 :=
  ⟨t.val / 4 * 1024 + p.val, by have : t.val < 16 := lt_of_lt_of_eq t.isLt N_0; omega⟩
abbrev slabAt (t : Fin cfg0.N) : Fin 4 := ⟨t.val % 4, by omega⟩

theorem blk0 (c : Dev nD) (t : Fin cfg0.N) (p k : Fin 1024) :
    (iblk m c 0 t : Vec Ideal S1024x1024 .bf16) (ix2 p k) = argH m c (ix2 (rowOf t p) k) := by
  have h := (idx_facts t).1
  have e : (win0_0.rect t).emb (ix2 p k) = (ix2 (rowOf t p) k : S4096x1024.Idx) := Reals.emb_eq _ rfl t _ _ fun a => by
    fin_cases a
    · show win0_0.index t 0 * 1024 + p.val = t.val / 4 * 1024 + p.val; rw [h.1]
    · show win0_0.index t 1 * 1024 + k.val = k.val; rw [h.2]; simp
  show (V m c main_v0 : FVec Ideal S4096x1024 .bf16) ((win0_0.rect t).emb (ix2 p k)) = _
  rw [e, V0]; rfl

theorem blk1 (c : Dev nD) (t : Fin cfg0.N) (j : Fin 4) (k : Fin 1024) (q : Fin 384) :
    (iblk m c 1 t : Vec Ideal S4x1024x384 .bf16) (ix3 j k q) = argW m c (ix2 k (col j q)) := by
  have h := (idx_facts t).2.1
  have e : (win0_1.rect t).emb (ix3 j k q) = (ix3 j k q : S4x1024x384.Idx) := Reals.emb_eq _ rfl t _ _ fun a => by
    fin_cases a
    · show win0_1.index t 0 * 4 + j.val = j.val; rw [h.1]; simp
    · show win0_1.index t 1 * 1024 + k.val = k.val; rw [h.2.1]; simp
    · show win0_1.index t 2 * 384 + q.val = q.val; rw [h.2.2]; simp
  show (V m c main_v3 : FVec Ideal S4x1024x384 .bf16) ((win0_1.rect t).emb (ix3 j k q)) = _
  rw [e, V3, cut_apply]

/-- The slab of the weight that point `t` loads. -/
abbrev slab (w : Vec Ideal S4x1024x384 .bf16) (t : Fin cfg0.N) : Vec Ideal S1x1024x384 .bf16 :=
  View.ld w (Rect.unit (s := S4x1024x384) (k0_off1 (grid0.coords t)) S1x1024x384.size (k0_off1_inb (grid0.coords t)))

theorem slab_apply (w : Vec Ideal S4x1024x384 .bf16) (t : Fin cfg0.N) (k : Fin 1024) (q : Fin 384) :
    slab w t (ix3 0 k q) = w (ix3 (slabAt t) k q) := by
  have h := (idx_facts t).2.2.2
  show w _ = _
  refine congrArg _ (funext fun a => Fin.ext ?_)
  have h' : ∀ a : Fin 3, ((Rect.unit (s := S4x1024x384) (k0_off1 (grid0.coords t)) S1x1024x384.size (k0_off1_inb (grid0.coords t))).idx (ix3 0 k q) a : Nat) = k0_off1 (grid0.coords t) a + 1 * (ix3 (0 : Fin 1) k q a : Nat) := fun a => rfl
  refine (h' a).trans ?_
  fin_cases a
  · show k0_off1 (grid0.coords t) 0 + 1 * 0 = t.val % 4; rw [h.1]; simp
  · show k0_off1 (grid0.coords t) 1 + 1 * k.val = k.val; rw [h.2.1]; simp
  · show k0_off1 (grid0.coords t) 2 + 1 * q.val = q.val; rw [h.2.2]; simp

/-- The rows of point `t`. -/
abbrev rowsAt (c : Dev nD) (t : Fin cfg0.N) : Vec Ideal S1024x1024 .bf16 := iblk m c 0 t

/-- The product at point `t`. -/
theorem dotW (c : Dev nD) (t : Fin cfg0.N) (p : Fin 1024) (q : Fin 384) :
    ∑ k, rowsAt m c t (ix2 p k) * slab (iblk m c 1 t) t (ix3 0 k q) = prod (argH m c) (argW m c) (rowOf t p) (col (slabAt t) q) :=
  Finset.sum_congr rfl fun k _ => congrArg₂ (· * ·) (blk0 m c t p k) ((slab_apply _ t k q).trans (blk1 m c t _ k q))

/-- What the body leaves in the output's block is its payload of the input blocks. -/
theorem out2 (c : Dev nD) (t : Fin cfg0.N) : outsAt0 m c t = k0_pay1 (iblk m c 0 t) (slab (iblk m c 1 t) t) := by
  unfold outsAt0 out0_A_2
  rw [View.read_writes_eq_canon _ _ _ (cover0_A_2 c _ _ _ _ _ _ _ _ _)]
  unfold kernelRun0_A
  dsimp only
  sl_unfold_words
  simp only [View.readAt_eq_ld, (hs0_0 t).read_unread, (hs0_1 t).read_unread]
  rw [View.canon_unit_zero Reals.zero2, View.ld_unit_zero Reals.zero2]
  rfl

/-- What a point writes back. -/
theorem flushed2 (c : Dev nD) (t : Fin cfg0.N) (y : S1024x384.Idx) :
    (dats m 0 c).flushed 2 t y = k0_pay1 (iblk m c 0 t) (slab (iblk m c 1 t) t) y := by
  rw [Value.flushed2, out2]
  rfl

/-- The point whose block holds row `r` and column `n`. -/
abbrev pointOf (r : Fin 4096) (n : Fin 1536) : Fin cfg0.N := ⟨r.val / 1024 * 4 + n.val / 384, by rw [show cfg0.N = 16 from N_0]; omega⟩
abbrev inSlab (n : Fin 1536) : Fin 384 := ⟨n.val % 384, by omega⟩

theorem rowOf_pointOf (r : Fin 4096) (n : Fin 1536) : rowOf (pointOf r n) (inBlock4 r) = r := Fin.ext (by dsimp only; omega)
theorem col_pointOf (r : Fin 4096) (n : Fin 1536) : col (slabAt (pointOf r n)) (inSlab n) = n := Fin.ext (by dsimp only; omega)

/-- The result after the run, element by element. -/
theorem final2 (c : Dev nD) (r : Fin 4096) (n : Fin 1536) :
    ((dats m 0 c).arrAt 2 cfg0.N : FVec Ideal S4096x1536 .f32) (ix2 r n) = prod (argH m c) (argW m c) r n := by
  have h := (idx_facts (pointOf r n)).2.2.1
  have e : (win0_2.rect (pointOf r n)).emb (ix2 (inBlock4 r) (inSlab n)) = (ix2 r n : S4096x1536.Idx) := Reals.emb_eq _ rfl _ _ _ fun a => by
    fin_cases a
    · show win0_2.index (pointOf r n) 0 * 1024 + r.val % 1024 = r.val; rw [h.1]; dsimp only; omega
    · show win0_2.index (pointOf r n) 1 * 384 + n.val % 384 = n.val; rw [h.2]; dsimp only; omega
  refine (congrArg _ e.symm).trans (((dats m 0 c).arrAt_emb_eq_flushed 2 (Value.disjoint2) (pointOf r n) (flush0_2 _) (ix2 (inBlock4 r) (inSlab n))).trans ?_)
  refine (flushed2 m c (pointOf r n) _).trans ?_
  rw [pay1_apply, dotW, rowOf_pointOf, col_pointOf]

theorem frame_kernel : quiescent_Kernel14 := fun m ρ _ => Kernel14.Gen.frame m ρ
theorem frame_ideal : quiescent_Kernel14Ideal := fun m ρ _ => Kernel14Ideal.Gen.frame m ρ
theorem frame_reference : quiescent_Reference14Ideal := fun m ρ _ =>
  (θ_run Reference14Ideal.defs _ _).mono (fun r h => ⟨fun c => (h c).2, sem_eq_zero_of_no_sems (by decide) r.2⟩)
    (Reference14Ideal.Value.run (F := Ideal) m ρ)

theorem algebraic : algebraic_Kernel14Ideal_Reference14Ideal := by
  intro m ρ m' ρ' _ hagree
  refine ⟨fun c => (dats m 0 c).arrAt 2 cfg0.N, Value.run_blocks m ρ, ?_⟩
  refine (θ_run Reference14Ideal.defs _ _).mono (fun _ h c => ⟨(h c).1.trans ?_, (h c).2⟩)
    (Reference14Ideal.Value.run (F := Ideal) m' ρ')
  obtain ⟨a0, a1⟩ := hagree c
  rw [Reference14Ideal.Read.val_main_v0_eq, a0, a1]
  funext i
  obtain ⟨r, n, rfl⟩ := Norm.place2 i
  exact (reference_apply _ _ r n).trans (final2 m c r n).symm

end Cert.InProj

end
-- ==== Proof.AdamWClaims.lean ====
/-
  The claims about the optimiser's step on one weight's shard (`_adamw_sharded`): over the extended reals the kernel's four
  results are the gradient, the weight's change and the two new moments, element by element, whatever the arguments are.
-/
module

public import proofs.«01_k».proof.Defs
public import proofs.«01_k».proof.Proof.Gen.Kernel15.Frame
public import proofs.«01_k».proof.Proof.Gen.Kernel15Ideal.Value
public import proofs.«01_k».proof.Proof.Gen.Reference15Ideal.Read
public import proofs.«01_k».proof.Proof.NormScalar

@[expose] public section

noncomputable section

open Idealize.ShloMosaic Idealize.ShloMosaic.TcCoe Idealize.SL.Sem

namespace Cert.AdamW

/-- A number of the programs' texts. -/
abbrev lit (b : BitVec 32) : EReal := Scalar.ofBits (F := Ideal) .f32 b

/-- The new first moment, from the gradient and the moment. -/
def first (g m : EReal) : EReal := lit 0x3F666666#32 * m + lit 0x3DCCCCCD#32 * g

/-- The new second moment. -/
def second (g v : EReal) : EReal := lit 0x3F7FBE77#32 * v + lit 0x3A83126F#32 * (g * g)

/-- The weight's change: the corrected first moment over the root of the corrected second, and the decay. -/
def change (w g m v : EReal) : EReal := lit 0xBA83126F#32 *
  (Scalar.divf (F := Ideal) (φ := .f32)
    (Scalar.divf (F := Ideal) (φ := .f32) (first g m) (lit 0x3F26BD02#32))
    (Scalar.sqrt (F := Ideal) (φ := .f32) (Scalar.divf (F := Ideal) (φ := .f32) (second g v) (lit 0x3C231ACC#32)) + lit 0x322BCC77#32)
    + lit 0x3C23D70A#32 * w)

namespace Ref

open Cert.Reference15Ideal Reference15Ideal.Read

variable (w g m v : FVec Ideal S704x1024 .f32) (i : S704x1024.Idx)

theorem first_apply : val_main_v4 (F := Ideal) g m i = first (g i) (m i) := by
  unfold val_main_v4 val_main_v3 val_main_v2 val_main_v1 val_main_v0 val_main_cst_0 val_main_cst
  rfl

theorem second_apply : val_main_v10 (F := Ideal) g v i = second (g i) (v i) := by
  unfold val_main_v10 val_main_v9 val_main_v8 val_main_v7 val_main_v6 val_main_v5 val_main_cst_2 val_main_cst_1
  rfl

theorem change_apply : val_main_v23 (F := Ideal) w g m v i = change (w i) (g i) (m i) (v i) := by
  unfold change
  rw [← first_apply, ← second_apply]
  unfold val_main_v23 val_main_v22 val_main_v21 val_main_v20 val_main_v19 val_main_v18 val_main_v17 val_main_v16 val_main_v15 val_main_v14 val_main_v13 val_main_v12 val_main_v11
    val_main_cst_7 val_main_cst_6 val_main_cst_5 val_main_cst_4 val_main_cst_3
  rfl

end Ref

open Cert.Kernel15Ideal Kernel15Ideal.Gen

section Block

variable (w g m v : Vec Ideal S176x1024 .f32) (y : S176x1024.Idx)

theorem out4 : out0_4 w g m v y = g y := by
  unfold out0_4
  rw [View.canon_unit_zero Reals.zero2, View.ld_unit_zero Reals.zero2]

theorem out5 : out0_5 w g m v y = change (w y) (g y) (m y) (v y) := by
  unfold out0_5
  rw [View.canon_unit_zero Reals.zero2]
  rw [View.ld_unit_zero Reals.zero2, View.ld_unit_zero Reals.zero2, View.ld_unit_zero Reals.zero2, View.ld_unit_zero Reals.zero2]
  rfl

theorem out6 : out0_6 w g m v y = first (g y) (m y) := by
  unfold out0_6
  rw [View.canon_unit_zero Reals.zero2]
  rw [View.ld_unit_zero Reals.zero2, View.ld_unit_zero Reals.zero2]
  rfl

theorem out7 : out0_7 w g m v y = second (g y) (v y) := by
  unfold out0_7
  rw [View.canon_unit_zero Reals.zero2]
  rw [View.ld_unit_zero Reals.zero2, View.ld_unit_zero Reals.zero2]
  rfl

end Block

variable (m : (ℓ : Loc nD τ sig) → Buf (Elt Ideal) ℓ) (ρ : Dev nD → PrngReg)

/-- The arguments: the shard of the weight, its gradient and its two moments. -/
abbrev argW (c : Dev nD) : FVec Ideal S704x1024 .f32 := m ((c : Thread nD τ).loc main_arg0)
abbrev argG (c : Dev nD) : FVec Ideal S704x1024 .f32 := m ((c : Thread nD τ).loc main_arg1)
abbrev argM (c : Dev nD) : FVec Ideal S704x1024 .f32 := m ((c : Thread nD τ).loc main_arg2)
abbrev argV (c : Dev nD) : FVec Ideal S704x1024 .f32 := m ((c : Thread nD τ).loc main_arg3)

/-- Where the results' blocks sit: 176 rows at each point. -/
theorem idx_facts : ∀ t : Fin cfg0.N, win0_4.index t 0 = t.val ∧ win0_4.index t 1 = 0 := (by decide +kernel : ∀ t : Fin grid0.N, _)

/-- The place of an element in the block of the point that writes it; every window's block sits there. -/
abbrev place (t : Fin cfg0.N) (y : S176x1024.Idx) : S704x1024.Idx := (win0_4.rect t).emb y

theorem blk0 (c : Dev nD) (t : Fin cfg0.N) (y : S176x1024.Idx) : (iblk m c 0 t : Vec Ideal S176x1024 .f32) y = argW m c (place t y) := by
  show (V m c main_arg0 : FVec Ideal S704x1024 .f32) ((win0_0.rect t).emb y) = _
  rw [V_main_arg0]; rfl

theorem blk1 (c : Dev nD) (t : Fin cfg0.N) (y : S176x1024.Idx) : (iblk m c 1 t : Vec Ideal S176x1024 .f32) y = argG m c (place t y) := by
  show (V m c main_arg1 : FVec Ideal S704x1024 .f32) ((win0_1.rect t).emb y) = _
  rw [V_main_arg1]; rfl

theorem blk2 (c : Dev nD) (t : Fin cfg0.N) (y : S176x1024.Idx) : (iblk m c 2 t : Vec Ideal S176x1024 .f32) y = argM m c (place t y) := by
  show (V m c main_arg2 : FVec Ideal S704x1024 .f32) ((win0_2.rect t).emb y) = _
  rw [V_main_arg2]; rfl

theorem blk3 (c : Dev nD) (t : Fin cfg0.N) (y : S176x1024.Idx) : (iblk m c 3 t : Vec Ideal S176x1024 .f32) y = argV m c (place t y) := by
  show (V m c main_arg3 : FVec Ideal S704x1024 .f32) ((win0_3.rect t).emb y) = _
  rw [V_main_arg3]; rfl

/-- Every element is in some point's block. -/
theorem placed (i : S704x1024.Idx) : ∃ t y, place t y = i := by
  obtain ⟨r, n, rfl⟩ := Norm.place2 i
  have lt : r.val / 176 < cfg0.N := by rw [show cfg0.N = 4 from N_0]; omega
  refine ⟨⟨r.val / 176, lt⟩, ix2 ⟨r.val % 176, Nat.mod_lt _ (by decide)⟩ n, Reals.emb_eq _ rfl _ _ _ fun a => ?_⟩
  have h := idx_facts ⟨r.val / 176, lt⟩
  fin_cases a
  · show win0_4.index ⟨r.val / 176, lt⟩ 0 * 176 + r.val % 176 = r.val; rw [h.1]; dsimp only; omega
  · show win0_4.index ⟨r.val / 176, lt⟩ 1 * 1024 + n.val = n.val; rw [h.2]; simp

/-- What a point writes back. -/
theorem flushed4 (c : Dev nD) (t : Fin cfg0.N) (y : S176x1024.Idx) :
    (dats m 0 c).flushed 4 t y = argG m c (place t y) := by
  rw [Value.flushed4]
  show out0_4 (iblk m c 0 t) (iblk m c 1 t) (iblk m c 2 t) (iblk m c 3 t) y = _
  rw [out4, blk1]

theorem flushed5 (c : Dev nD) (t : Fin cfg0.N) (y : S176x1024.Idx) :
    (dats m 0 c).flushed 5 t y = change (argW m c (place t y)) (argG m c (place t y)) (argM m c (place t y)) (argV m c (place t y)) := by
  rw [Value.flushed5]
  show out0_5 (iblk m c 0 t) (iblk m c 1 t) (iblk m c 2 t) (iblk m c 3 t) y = _
  rw [out5, blk0, blk1, blk2, blk3]

theorem flushed6 (c : Dev nD) (t : Fin cfg0.N) (y : S176x1024.Idx) :
    (dats m 0 c).flushed 6 t y = first (argG m c (place t y)) (argM m c (place t y)) := by
  rw [Value.flushed6]
  show out0_6 (iblk m c 0 t) (iblk m c 1 t) (iblk m c 2 t) (iblk m c 3 t) y = _
  rw [out6, blk1, blk2]

theorem flushed7 (c : Dev nD) (t : Fin cfg0.N) (y : S176x1024.Idx) :
    (dats m 0 c).flushed 7 t y = second (argG m c (place t y)) (argV m c (place t y)) := by
  rw [Value.flushed7]
  show out0_7 (iblk m c 0 t) (iblk m c 1 t) (iblk m c 2 t) (iblk m c 3 t) y = _
  rw [out7, blk1, blk3]

/-- The four results after the run, element by element. -/
theorem final4 (c : Dev nD) (i : S704x1024.Idx) :
    ((dats m 0 c).arrAt 4 cfg0.N : FVec Ideal S704x1024 .f32) i = argG m c i := by
  obtain ⟨t, y, rfl⟩ := placed i
  exact ((dats m 0 c).arrAt_emb_eq_flushed 4 Value.disjoint4 t (flush0_4 _) y).trans (flushed4 m c t y)

theorem final5 (c : Dev nD) (i : S704x1024.Idx) :
    ((dats m 0 c).arrAt 5 cfg0.N : FVec Ideal S704x1024 .f32) i = change (argW m c i) (argG m c i) (argM m c i) (argV m c i) := by
  obtain ⟨t, y, rfl⟩ := placed i
  exact ((dats m 0 c).arrAt_emb_eq_flushed 5 Value.disjoint5 t (flush0_5 _) y).trans (flushed5 m c t y)

theorem final6 (c : Dev nD) (i : S704x1024.Idx) :
    ((dats m 0 c).arrAt 6 cfg0.N : FVec Ideal S704x1024 .f32) i = first (argG m c i) (argM m c i) := by
  obtain ⟨t, y, rfl⟩ := placed i
  exact ((dats m 0 c).arrAt_emb_eq_flushed 6 Value.disjoint6 t (flush0_6 _) y).trans (flushed6 m c t y)

theorem final7 (c : Dev nD) (i : S704x1024.Idx) :
    ((dats m 0 c).arrAt 7 cfg0.N : FVec Ideal S704x1024 .f32) i = second (argG m c i) (argV m c i) := by
  obtain ⟨t, y, rfl⟩ := placed i
  exact ((dats m 0 c).arrAt_emb_eq_flushed 7 Value.disjoint7 t (flush0_7 _) y).trans (flushed7 m c t y)

theorem frame_kernel : quiescent_Kernel15 := fun m ρ _ => Kernel15.Gen.frame m ρ
theorem frame_ideal : quiescent_Kernel15Ideal := fun m ρ _ => Kernel15Ideal.Gen.frame m ρ
theorem frame_reference : quiescent_Reference15Ideal := fun m ρ _ =>
  (θ_run Reference15Ideal.defs _ _).mono (fun r h => ⟨fun c => (h c).2.2.2.2, sem_eq_zero_of_no_sems (by decide) r.2⟩)
    (Reference15Ideal.Value.run (F := Ideal) m ρ)

theorem algebraic : algebraic_Kernel15Ideal_Reference15Ideal := by
  intro m ρ m' ρ' _ hagree
  refine ⟨fun c => (dats m 0 c).arrAt 4 cfg0.N, fun c => (dats m 0 c).arrAt 5 cfg0.N, fun c => (dats m 0 c).arrAt 6 cfg0.N,
    fun c => (dats m 0 c).arrAt 7 cfg0.N, Value.run_blocks m ρ, ?_⟩
  refine (θ_run Reference15Ideal.defs _ _).mono
    (fun _ h c => ⟨(h c).1.trans ?_, (h c).2.1.trans ?_, (h c).2.2.1.trans ?_, (h c).2.2.2.1.trans ?_, (h c).2.2.2.2⟩)
    (Reference15Ideal.Value.run (F := Ideal) m' ρ')
  all_goals obtain ⟨a0, a1, a2, a3⟩ := hagree c
  · rw [a1]
    exact (funext fun i => final4 m c i).symm
  · rw [Reference15Ideal.Read.val_main_v23_eq, a0, a1, a2, a3]
    exact funext fun i => (Ref.change_apply _ _ _ _ i).trans (final5 m c i).symm
  · rw [Reference15Ideal.Read.val_main_v4_eq, a1, a2]
    exact funext fun i => (Ref.first_apply _ _ i).trans (final6 m c i).symm
  · rw [Reference15Ideal.Read.val_main_v10_eq, a1, a3]
    exact funext fun i => (Ref.second_apply _ _ i).trans (final7 m c i).symm

end Cert.AdamW

end
-- ==== Proof.lean ====
module

public import proofs.«01_k».proof.Defs
public import proofs.«01_k».proof.Proof.Gen.Pre_gate_finite
public import proofs.«01_k».proof.Proof.Gen.Pre_ffn_norm_finite
public import proofs.«01_k».proof.Proof.Gen.Pre_mix_norm_finite
public import proofs.«01_k».proof.Proof.Gen.Pre_loss_finite
public import proofs.«01_k».proof.Proof.Gen.Pre_module_finite
public import proofs.«01_k».proof.Proof.Gen.Pre_conv_finite
public import proofs.«01_k».proof.Proof.Gen.Pre_params_finite
public import proofs.«01_k».proof.Proof.GateClaims
public import proofs.«01_k».proof.Proof.FfnNormClaims
public import proofs.«01_k».proof.Proof.MixNormClaims
public import proofs.«01_k».proof.Proof.LossClaims
public import proofs.«01_k».proof.Proof.RmsFwdClaims
public import proofs.«01_k».proof.Proof.GateFwdClaims
public import proofs.«01_k».proof.Proof.DownFwdClaims
public import proofs.«01_k».proof.Proof.OutFwdClaims
public import proofs.«01_k».proof.Proof.ConvFwdClaims
public import proofs.«01_k».proof.Proof.ConvBwdClaims
public import proofs.«01_k».proof.Proof.S5ParamsClaims
public import proofs.«01_k».proof.Proof.S5DiscClaims
public import proofs.«01_k».proof.Proof.OutBackClaims
public import proofs.«01_k».proof.Proof.InProjClaims
public import proofs.«01_k».proof.Proof.AdamWClaims

@[expose] public section

noncomputable section

namespace Cert.Proof

theorem claim : Cert.Claim := ⟨
  Kernel.Gen.facts, KernelIdeal.Gen.facts, ReferenceIdeal.Gen.facts, Kernel2.Gen.facts, Kernel2Ideal.Gen.facts, Reference2Ideal.Gen.facts,
  Kernel3.Gen.facts, Kernel3Ideal.Gen.facts, Reference3Ideal.Gen.facts, Kernel4.Gen.facts, Kernel4Ideal.Gen.facts, Reference4Ideal.Gen.facts,
  Kernel5.Gen.facts, Kernel5Ideal.Gen.facts, Reference5Ideal.Gen.facts, Kernel6.Gen.facts, Kernel6Ideal.Gen.facts, Reference6Ideal.Gen.facts,
  Kernel7.Gen.facts, Kernel7Ideal.Gen.facts, Reference7Ideal.Gen.facts, Kernel8.Gen.facts, Kernel8Ideal.Gen.facts, Reference8Ideal.Gen.facts,
  Kernel9.Gen.facts, Kernel9Ideal.Gen.facts, Reference9Ideal.Gen.facts, Kernel10.Gen.facts, Kernel10Ideal.Gen.facts, Reference10Ideal.Gen.facts,
  Kernel11.Gen.facts, Kernel11Ideal.Gen.facts, Reference11Ideal.Gen.facts, Kernel12.Gen.facts, Kernel12Ideal.Gen.facts, Reference12Ideal.Gen.facts,
  Kernel13.Gen.facts, Kernel13Ideal.Gen.facts, Reference13Ideal.Gen.facts, Kernel14.Gen.facts, Kernel14Ideal.Gen.facts, Reference14Ideal.Gen.facts,
  Kernel15.Gen.facts, Kernel15Ideal.Gen.facts, Reference15Ideal.Gen.facts, Pre_gate_finite.Gen.facts, Pre_ffn_norm_finite.Gen.facts,
  Pre_mix_norm_finite.Gen.facts, Pre_loss_finite.Gen.facts, Pre_module_finite.Gen.facts, Pre_conv_finite.Gen.facts, Pre_params_finite.Gen.facts,
  Gate.frame_kernel, Gate.frame_ideal, Gate.frame_ideal_pre, Gate.frame_reference, Gate.frame_reference_pre, FfnNorm.frame_kernel, FfnNorm.frame_ideal,
  FfnNorm.frame_ideal_pre, FfnNorm.frame_reference, FfnNorm.frame_reference_pre, MixNorm.frame_kernel, MixNorm.frame_ideal, MixNorm.frame_ideal_pre,
  MixNorm.frame_reference, MixNorm.frame_reference_pre, Loss.frame_kernel, Loss.frame_ideal, Loss.frame_ideal_pre, Loss.frame_reference,
  Loss.frame_reference_pre, RmsFwd.frame_kernel, RmsFwd.frame_ideal, RmsFwd.frame_reference, GateFwd.frame_kernel, GateFwd.frame_ideal,
  GateFwd.frame_reference, DownFwd.frame_kernel, DownFwd.frame_ideal, DownFwd.frame_reference, OutFwd.frame_kernel, OutFwd.frame_ideal,
  OutFwd.frame_reference, ConvFwd.frame_kernel, ConvFwd.frame_ideal, ConvFwd.frame_ideal_pre, ConvFwd.frame_reference, ConvFwd.frame_reference_pre,
  ConvBwd.frame_kernel, ConvBwd.frame_ideal, ConvBwd.frame_ideal_pre, ConvBwd.frame_reference, ConvBwd.frame_reference_pre, S5Params.frame_kernel,
  S5Params.frame_ideal, S5Params.frame_ideal_pre, S5Params.frame_reference, S5Params.frame_reference_pre, S5Disc.frame_kernel, S5Disc.frame_ideal,
  S5Disc.frame_reference, OutBack.frame_kernel, OutBack.frame_ideal, OutBack.frame_reference, InProj.frame_kernel, InProj.frame_ideal,
  InProj.frame_reference, AdamW.frame_kernel, AdamW.frame_ideal, AdamW.frame_reference, trivial, Gate.algebraic, trivial, FfnNorm.algebraic, trivial,
  MixNorm.algebraic, trivial, Loss.algebraic, trivial, RmsFwd.algebraic, trivial, GateFwd.algebraic, trivial, DownFwd.algebraic, trivial,
  OutFwd.algebraic, trivial, ConvFwd.algebraic, trivial, ConvBwd.algebraic, trivial, S5Params.algebraic, trivial, S5Disc.algebraic, trivial,
  OutBack.algebraic, trivial, InProj.algebraic, trivial, AdamW.algebraic⟩

end Cert.Proof

end
